-- ==== Defs.lean ====
def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesIdeal_gates_finite [hPre_gates_finite : Cert.Pre_gates_finite.Facts] (m : (ℓ : Loc Cert.GatesIdeal.nD Cert.GatesIdeal.τ Cert.GatesIdeal.sig) → Buf (Elt Ideal) ℓ) : Prop :=
  ∀ c : Dev Cert.GatesIdeal.nD,
    (Cert.Pre_gates_finite.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3)) (m ((c.tc : Thread Cert.GatesIdeal.nD Cert.GatesIdeal.τ).loc Cert.GatesIdeal.main_arg4)) (m ((c.tc : Thread Cert.GatesIdeal.nD Cert.GatesIdeal.τ).loc Cert.GatesIdeal.main_arg5))).1 = (fun _ => 1#1)
    ∧ (Cert.Pre_gates_finite.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3)) (m ((c.tc : Thread Cert.GatesIdeal.nD Cert.GatesIdeal.τ).loc Cert.GatesIdeal.main_arg4)) (m ((c.tc : Thread Cert.GatesIdeal.nD Cert.GatesIdeal.τ).loc Cert.GatesIdeal.main_arg5))).2.1 = (fun _ => 1#1)
    ∧ (Cert.Pre_gates_finite.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3)) (m ((c.tc : Thread Cert.GatesIdeal.nD Cert.GatesIdeal.τ).loc Cert.GatesIdeal.main_arg4)) (m ((c.tc : Thread Cert.GatesIdeal.nD Cert.GatesIdeal.τ).loc Cert.GatesIdeal.main_arg5))).2.2.1 = (fun _ => 1#1)
    ∧ (Cert.Pre_gates_finite.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3)) (m ((c.tc : Thread Cert.GatesIdeal.nD Cert.GatesIdeal.τ).loc Cert.GatesIdeal.main_arg4)) (m ((c.tc : Thread Cert.GatesIdeal.nD Cert.GatesIdeal.τ).loc Cert.GatesIdeal.main_arg5))).2.2.2.1 = (fun _ => 1#1)
    ∧ (Cert.Pre_gates_finite.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3)) (m ((c.tc : Thread Cert.GatesIdeal.nD Cert.GatesIdeal.τ).loc Cert.GatesIdeal.main_arg4)) (m ((c.tc : Thread Cert.GatesIdeal.nD Cert.GatesIdeal.τ).loc Cert.GatesIdeal.main_arg5))).2.2.2.2.1 = (fun _ => 1#1)
    ∧ (Cert.Pre_gates_finite.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3)) (m ((c.tc : Thread Cert.GatesIdeal.nD Cert.GatesIdeal.τ).loc Cert.GatesIdeal.main_arg4)) (m ((c.tc : Thread Cert.GatesIdeal.nD Cert.GatesIdeal.τ).loc Cert.GatesIdeal.main_arg5))).2.2.2.2.2 = (fun _ => 1#1)

def Pre_GatesRIdeal (m : (ℓ : Loc Cert.GatesRIdeal.nD Cert.GatesRIdeal.τ Cert.GatesRIdeal.sig) → Buf (Elt Ideal) ℓ) : Prop :=
  True

def Pre_GatesRIdeal_gates_finite [hPre_gates_finite : Cert.Pre_gates_finite.Facts] (m : (ℓ : Loc Cert.GatesRIdeal.nD Cert.GatesRIdeal.τ Cert.GatesRIdeal.sig) → Buf (Elt Ideal) ℓ) : Prop :=
  ∀ c : Dev Cert.GatesRIdeal.nD,
    (Cert.Pre_gates_finite.fn (F := Ideal) (m ((c.tc : Thread Cert.GatesRIdeal.nD Cert.GatesRIdeal.τ).loc Cert.GatesRIdeal.main_arg0)) (m ((c.tc : Thread Cert.GatesRIdeal.nD Cert.GatesRIdeal.τ).loc Cert.GatesRIdeal.main_arg1)) (m ((c.tc : Thread Cert.GatesRIdeal.nD Cert.GatesRIdeal.τ).loc Cert.GatesRIdeal.main_arg2)) (m ((c.tc : Thread Cert.GatesRIdeal.nD Cert.GatesRIdeal.τ).loc Cert.GatesRIdeal.main_arg3)) (m ((c.tc : Thread Cert.GatesRIdeal.nD Cert.GatesRIdeal.τ).loc Cert.GatesRIdeal.main_arg4)) (m ((c.tc : Thread Cert.GatesRIdeal.nD Cert.GatesRIdeal.τ).loc Cert.GatesRIdeal.main_arg5))).1 = (fun _ => 1#1)
    ∧ (Cert.Pre_gates_finite.fn (F := Ideal) (m ((c.tc : Thread Cert.GatesRIdeal.nD Cert.GatesRIdeal.τ).loc Cert.GatesRIdeal.main_arg0)) (m ((c.tc : Thread Cert.GatesRIdeal.nD Cert.GatesRIdeal.τ).loc Cert.GatesRIdeal.main_arg1)) (m ((c.tc : Thread Cert.GatesRIdeal.nD Cert.GatesRIdeal.τ).loc Cert.GatesRIdeal.main_arg2)) (m ((c.tc : Thread Cert.GatesRIdeal.nD Cert.GatesRIdeal.τ).loc Cert.GatesRIdeal.main_arg3)) (m ((c.tc : Thread Cert.GatesRIdeal.nD Cert.GatesRIdeal.τ).loc Cert.GatesRIdeal.main_arg4)) (m ((c.tc : Thread Cert.GatesRIdeal.nD Cert.GatesRIdeal.τ).loc Cert.GatesRIdeal.main_arg5))).2.1 = (fun _ => 1#1)
    ∧ (Cert.Pre_gates_finite.fn (F := Ideal) (m ((c.tc : Thread Cert.GatesRIdeal.nD Cert.GatesRIdeal.τ).loc Cert.GatesRIdeal.main_arg0)) (m ((c.tc : Thread Cert.GatesRIdeal.nD Cert.GatesRIdeal.τ).loc Cert.GatesRIdeal.main_arg1)) (m ((c.tc : Thread Cert.GatesRIdeal.nD Cert.GatesRIdeal.τ).loc Cert.GatesRIdeal.main_arg2)) (m ((c.tc : Thread Cert.GatesRIdeal.nD Cert.GatesRIdeal.τ).loc Cert.GatesRIdeal.main_arg3)) (m ((c.tc : Thread Cert.GatesRIdeal.nD Cert.GatesRIdeal.τ).loc Cert.GatesRIdeal.main_arg4)) (m ((c.tc : Thread Cert.GatesRIdeal.nD Cert.GatesRIdeal.τ).loc Cert.GatesRIdeal.main_arg5))).2.2.1 = (fun _ => 1#1)
    ∧ (Cert.Pre_gates_finite.fn (F := Ideal) (m ((c.tc : Thread Cert.GatesRIdeal.nD Cert.GatesRIdeal.τ).loc Cert.GatesRIdeal.main_arg0)) (m ((c.tc : Thread Cert.GatesRIdeal.nD Cert.GatesRIdeal.τ).loc Cert.GatesRIdeal.main_arg1)) (m ((c.tc : Thread Cert.GatesRIdeal.nD Cert.GatesRIdeal.τ).loc Cert.GatesRIdeal.main_arg2)) (m ((c.tc : Thread Cert.GatesRIdeal.nD Cert.GatesRIdeal.τ).loc Cert.GatesRIdeal.main_arg3)) (m ((c.tc : Thread Cert.GatesRIdeal.nD Cert.GatesRIdeal.τ).loc Cert.GatesRIdeal.main_arg4)) (m ((c.tc : Thread Cert.GatesRIdeal.nD Cert.GatesRIdeal.τ).loc Cert.GatesRIdeal.main_arg5))).2.2.2.1 = (fun _ => 1#1)
    ∧ (Cert.Pre_gates_finite.fn (F := Ideal) (m ((c.tc : Thread Cert.GatesRIdeal.nD Cert.GatesRIdeal.τ).loc Cert.GatesRIdeal.main_arg0)) (m ((c.tc : Thread Cert.GatesRIdeal.nD Cert.GatesRIdeal.τ).loc Cert.GatesRIdeal.main_arg1)) (m ((c.tc : Thread Cert.GatesRIdeal.nD Cert.GatesRIdeal.τ).loc Cert.GatesRIdeal.main_arg2)) (m ((c.tc : Thread Cert.GatesRIdeal.nD Cert.GatesRIdeal.τ).loc Cert.GatesRIdeal.main_arg3)) (m ((c.tc : Thread Cert.GatesRIdeal.nD Cert.GatesRIdeal.τ).loc Cert.GatesRIdeal.main_arg4)) (m ((c.tc : Thread Cert.GatesRIdeal.nD Cert.GatesRIdeal.τ).loc Cert.GatesRIdeal.main_arg5))).2.2.2.2.1 = (fun _ => 1#1)
    ∧ (Cert.Pre_gates_finite.fn (F := Ideal) (m ((c.tc : Thread Cert.GatesRIdeal.nD Cert.GatesRIdeal.τ).loc Cert.GatesRIdeal.main_arg0)) (m ((c.tc : Thread Cert.GatesRIdeal.nD Cert.GatesRIdeal.τ).loc Cert.GatesRIdeal.main_arg1)) (m ((c.tc : Thread Cert.GatesRIdeal.nD Cert.GatesRIdeal.τ).loc Cert.GatesRIdeal.main_arg2)) (m ((c.tc : Thread Cert.GatesRIdeal.nD Cert.GatesRIdeal.τ).loc Cert.GatesRIdeal.main_arg3)) (m ((c.tc : Thread Cert.GatesRIdeal.nD Cert.GatesRIdeal.τ).loc Cert.GatesRIdeal.main_arg4)) (m ((c.tc : Thread Cert.GatesRIdeal.nD Cert.GatesRIdeal.τ).loc Cert.GatesRIdeal.main_arg5))).2.2.2.2.2 = (fun _ => 1#1)

def Pre_FfnB (m : (ℓ : Loc Cert.FfnB.nD Cert.FfnB.τ Cert.FfnB.sig) → Buf (Elt Bits) ℓ) : Prop :=
  True

def Pre_FfnBIdeal (m : (ℓ : Loc Cert.FfnBIdeal.nD Cert.FfnBIdeal.τ Cert.FfnBIdeal.sig) → Buf (Elt Ideal) ℓ) : Prop :=
  True

def Pre_FfnBIdeal_ffnb_finite [hPre_ffnb_finite : Cert.Pre_ffnb_finite.Facts] (m : (ℓ : Loc Cert.FfnBIdeal.nD Cert.FfnBIdeal.τ Cert.FfnBIdeal.sig) → Buf (Elt Ideal) ℓ) : Prop :=
  ∀ c : Dev Cert.FfnBIdeal.nD,
    (Cert.Pre_ffnb_finite.fn (F := Ideal) (m ((c.tc : Thread Cert.FfnBIdeal.nD Cert.FfnBIdeal.τ).loc Cert.FfnBIdeal.main_arg0)) (m ((c.tc : Thread Cert.FfnBIdeal.nD Cert.FfnBIdeal.τ).loc Cert.FfnBIdeal.main_arg1)) (m ((c.tc : Thread Cert.FfnBIdeal.nD Cert.FfnBIdeal.τ).loc Cert.FfnBIdeal.main_arg2)) (m ((c.tc : Thread Cert.FfnBIdeal.nD Cert.FfnBIdeal.τ).loc Cert.FfnBIdeal.main_arg3)) (m ((c.tc : Thread Cert.FfnBIdeal.nD Cert.FfnBIdeal.τ).loc Cert.FfnBIdeal.main_arg4)) (m ((c.tc : Thread Cert.FfnBIdeal.nD Cert.FfnBIdeal.τ).loc Cert.FfnBIdeal.main_arg5)) (m ((c.tc : Thread Cert.FfnBIdeal.nD Cert.FfnBIdeal.τ).loc Cert.FfnBIdeal.main_arg6))).1 = (fun _ => 1#1)
    ∧ (Cert.Pre_ffnb_finite.fn (F := Ideal) (m ((c.tc : Thread Cert.FfnBIdeal.nD Cert.FfnBIdeal.τ).loc Cert.FfnBIdeal.main_arg0)) (m ((c.tc : Thread Cert.FfnBIdeal.nD Cert.FfnBIdeal.τ).loc Cert.FfnBIdeal.main_arg1)) (m ((c.tc : Thread Cert.FfnBIdeal.nD Cert.FfnBIdeal.τ).loc Cert.FfnBIdeal.main_arg2)) (m ((c.tc : Thread Cert.FfnBIdeal.nD Cert.FfnBIdeal.τ).loc Cert.FfnBIdeal.main_arg3)) (m ((c.tc : Thread Cert.FfnBIdeal.nD Cert.FfnBIdeal.τ).loc Cert.FfnBIdeal.main_arg4)) (m ((c.tc : Thread Cert.FfnBIdeal.nD Cert.FfnBIdeal.τ).loc Cert.FfnBIdeal.main_arg5)) (m ((c.tc : Thread Cert.FfnBIdeal.nD Cert.FfnBIdeal.τ).loc Cert.FfnBIdeal.main_arg6))).2.1 = (fun _ => 1#1)
    ∧ (Cert.Pre_ffnb_finite.fn (F := Ideal) (m ((c.tc : Thread Cert.FfnBIdeal.nD Cert.FfnBIdeal.τ).loc Cert.FfnBIdeal.main_arg0)) (m ((c.tc : Thread Cert.FfnBIdeal.nD Cert.FfnBIdeal.τ).loc Cert.FfnBIdeal.main_arg1)) (m ((c.tc : Thread Cert.FfnBIdeal.nD Cert.FfnBIdeal.τ).loc Cert.FfnBIdeal.main_arg2)) (m ((c.tc : Thread Cert.FfnBIdeal.nD Cert.FfnBIdeal.τ).loc Cert.FfnBIdeal.main_arg3)) (m ((c.tc : Thread Cert.FfnBIdeal.nD Cert.FfnBIdeal.τ).loc Cert.FfnBIdeal.main_arg4)) (m ((c.tc : Thread Cert.FfnBIdeal.nD Cert.FfnBIdeal.τ).loc Cert.FfnBIdeal.main_arg5)) (m ((c.tc : Thread Cert.FfnBIdeal.nD Cert.FfnBIdeal.τ).loc Cert.FfnBIdeal.main_arg6))).2.2.1 = (fun _ => 1#1)
    ∧ (Cert.Pre_ffnb_finite.fn (F := Ideal) (m ((c.tc : Thread Cert.FfnBIdeal.nD Cert.FfnBIdeal.τ).loc Cert.FfnBIdeal.main_arg0)) (m ((c.tc : Thread Cert.FfnBIdeal.nD Cert.FfnBIdeal.τ).loc Cert.FfnBIdeal.main_arg1)) (m ((c.tc : Thread Cert.FfnBIdeal.nD Cert.FfnBIdeal.τ).loc Cert.FfnBIdeal.main_arg2)) (m ((c.tc : Thread Cert.FfnBIdeal.nD Cert.FfnBIdeal.τ).loc Cert.FfnBIdeal.main_arg3)) (m ((c.tc : Thread Cert.FfnBIdeal.nD Cert.FfnBIdeal.τ).loc Cert.FfnBIdeal.main_arg4)) (m ((c.tc : Thread Cert.FfnBIdeal.nD Cert.FfnBIdeal.τ).loc Cert.FfnBIdeal.main_arg5)) (m ((c.tc : Thread Cert.FfnBIdeal.nD Cert.FfnBIdeal.τ).loc Cert.FfnBIdeal.main_arg6))).2.2.2.1 = (fun _ => 1#1)
    ∧ (Cert.Pre_ffnb_finite.fn (F := Ideal) (m ((c.tc : Thread Cert.FfnBIdeal.nD Cert.FfnBIdeal.τ).loc Cert.FfnBIdeal.main_arg0)) (m ((c.tc : Thread Cert.FfnBIdeal.nD Cert.FfnBIdeal.τ).loc Cert.FfnBIdeal.main_arg1)) (m ((c.tc : Thread Cert.FfnBIdeal.nD Cert.FfnBIdeal.τ).loc Cert.FfnBIdeal.main_arg2)) (m ((c.tc : Thread Cert.FfnBIdeal.nD Cert.FfnBIdeal.τ).loc Cert.FfnBIdeal.main_arg3)) (m ((c.tc : Thread Cert.FfnBIdeal.nD Cert.FfnBIdeal.τ).loc Cert.FfnBIdeal.main_arg4)) (m ((c.tc : Thread Cert.FfnBIdeal.nD Cert.FfnBIdeal.τ).loc Cert.FfnBIdeal.main_arg5)) (m ((c.tc : Thread Cert.FfnBIdeal.nD Cert.FfnBIdeal.τ).loc Cert.FfnBIdeal.main_arg6))).2.2.2.2.1 = (fun _ => 1#1)
    ∧ (Cert.Pre_ffnb_finite.fn (F := Ideal) (m ((c.tc : Thread Cert.FfnBIdeal.nD Cert.FfnBIdeal.τ).loc Cert.FfnBIdeal.main_arg0)) (m ((c.tc : Thread Cert.FfnBIdeal.nD Cert.FfnBIdeal.τ).loc Cert.FfnBIdeal.main_arg1)) (m ((c.tc : Thread Cert.FfnBIdeal.nD Cert.FfnBIdeal.τ).loc Cert.FfnBIdeal.main_arg2)) (m ((c.tc : Thread Cert.FfnBIdeal.nD Cert.FfnBIdeal.τ).loc Cert.FfnBIdeal.main_arg3)) (m ((c.tc : Thread Cert.FfnBIdeal.nD Cert.FfnBIdeal.τ).loc Cert.FfnBIdeal.main_arg4)) (m ((c.tc : Thread Cert.FfnBIdeal.nD Cert.FfnBIdeal.τ).loc Cert.FfnBIdeal.main_arg5)) (m ((c.tc : Thread Cert.FfnBIdeal.nD Cert.FfnBIdeal.τ).loc Cert.FfnBIdeal.main_arg6))).2.2.2.2.2.1 = (fun _ => 1#1)
    ∧ (Cert.Pre_ffnb_finite.fn (F := Ideal) (m ((c.tc : Thread Cert.FfnBIdeal.nD Cert.FfnBIdeal.τ).loc Cert.FfnBIdeal.main_arg0)) (m ((c.tc : Thread Cert.FfnBIdeal.nD Cert.FfnBIdeal.τ).loc Cert.FfnBIdeal.main_arg1)) (m ((c.tc : Thread Cert.FfnBIdeal.nD Cert.FfnBIdeal.τ).loc Cert.FfnBIdeal.main_arg2)) (m ((c.tc : Thread Cert.FfnBIdeal.nD Cert.FfnBIdeal.τ).loc Cert.FfnBIdeal.main_arg3)) (m ((c.tc : Thread Cert.FfnBIdeal.nD Cert.FfnBIdeal.τ).loc Cert.FfnBIdeal.main_arg4)) (m ((c.tc : Thread Cert.FfnBIdeal.nD Cert.FfnBIdeal.τ).loc Cert.FfnBIdeal.main_arg5)) (m ((c.tc : Thread Cert.FfnBIdeal.nD Cert.FfnBIdeal.τ).loc Cert.FfnBIdeal.main_arg6))).2.2.2.2.2.2 = (fun _ => 1#1)

def Pre_FfnBRIdeal (m : (ℓ : Loc Cert.FfnBRIdeal.nD Cert.FfnBRIdeal.τ Cert.FfnBRIdeal.sig) → Buf (Elt Ideal) ℓ) : Prop :=
  True

def Pre_FfnBRIdeal_ffnb_finite [hPre_ffnb_finite : Cert.Pre_ffnb_finite.Facts] (m : (ℓ : Loc Cert.FfnBRIdeal.nD Cert.FfnBRIdeal.τ Cert.FfnBRIdeal.sig) → Buf (Elt Ideal) ℓ) : Prop :=
  ∀ c : Dev Cert.FfnBRIdeal.nD,
    (Cert.Pre_ffnb_finite.fn (F := Ideal) (m ((c.tc : Thread Cert.FfnBRIdeal.nD Cert.FfnBRIdeal.τ).loc Cert.FfnBRIdeal.main_arg0)) (m ((c.tc : Thread Cert.FfnBRIdeal.nD Cert.FfnBRIdeal.τ).loc Cert.FfnBRIdeal.main_arg1)) (m ((c.tc : Thread Cert.FfnBRIdeal.nD Cert.FfnBRIdeal.τ).loc Cert.FfnBRIdeal.main_arg2)) (m ((c.tc : Thread Cert.FfnBRIdeal.nD Cert.FfnBRIdeal.τ).loc Cert.FfnBRIdeal.main_arg3)) (m ((c.tc : Thread Cert.FfnBRIdeal.nD Cert.FfnBRIdeal.τ).loc Cert.FfnBRIdeal.main_arg4)) (m ((c.tc : Thread Cert.FfnBRIdeal.nD Cert.FfnBRIdeal.τ).loc Cert.FfnBRIdeal.main_arg5)) (m ((c.tc : Thread Cert.FfnBRIdeal.nD Cert.FfnBRIdeal.τ).loc Cert.FfnBRIdeal.main_arg6))).1 = (fun _ => 1#1)
    ∧ (Cert.Pre_ffnb_finite.fn (F := Ideal) (m ((c.tc : Thread Cert.FfnBRIdeal.nD Cert.FfnBRIdeal.τ).loc Cert.FfnBRIdeal.main_arg0)) (m ((c.tc : Thread Cert.FfnBRIdeal.nD Cert.FfnBRIdeal.τ).loc Cert.FfnBRIdeal.main_arg1)) (m ((c.tc : Thread Cert.FfnBRIdeal.nD Cert.FfnBRIdeal.τ).loc Cert.FfnBRIdeal.main_arg2)) (m ((c.tc : Thread Cert.FfnBRIdeal.nD Cert.FfnBRIdeal.τ).loc Cert.FfnBRIdeal.main_arg3)) (m ((c.tc : Thread Cert.FfnBRIdeal.nD Cert.FfnBRIdeal.τ).loc Cert.FfnBRIdeal.main_arg4)) (m ((c.tc : Thread Cert.FfnBRIdeal.nD Cert.FfnBRIdeal.τ).loc Cert.FfnBRIdeal.main_arg5)) (m ((c.tc : Thread Cert.FfnBRIdeal.nD Cert.FfnBRIdeal.τ).loc Cert.FfnBRIdeal.main_arg6))).2.1 = (fun _ => 1#1)
    ∧ (Cert.Pre_ffnb_finite.fn (F := Ideal) (m ((c.tc : Thread Cert.FfnBRIdeal.nD Cert.FfnBRIdeal.τ).loc Cert.FfnBRIdeal.main_arg0)) (m ((c.tc : Thread Cert.FfnBRIdeal.nD Cert.FfnBRIdeal.τ).loc Cert.FfnBRIdeal.main_arg1)) (m ((c.tc : Thread Cert.FfnBRIdeal.nD Cert.FfnBRIdeal.τ).loc Cert.FfnBRIdeal.main_arg2)) (m ((c.tc : Thread Cert.FfnBRIdeal.nD Cert.FfnBRIdeal.τ).loc Cert.FfnBRIdeal.main_arg3)) (m ((c.tc : Thread Cert.FfnBRIdeal.nD Cert.FfnBRIdeal.τ).loc Cert.FfnBRIdeal.main_arg4)) (m ((c.tc : Thread Cert.FfnBRIdeal.nD Cert.FfnBRIdeal.τ).loc Cert.FfnBRIdeal.main_arg5)) (m ((c.tc : Thread Cert.FfnBRIdeal.nD Cert.FfnBRIdeal.τ).loc Cert.FfnBRIdeal.main_arg6))).2.2.1 = (fun _ => 1#1)
    ∧ (Cert.Pre_ffnb_finite.fn (F := Ideal) (m ((c.tc : Thread Cert.FfnBRIdeal.nD Cert.FfnBRIdeal.τ).loc Cert.FfnBRIdeal.main_arg0)) (m ((c.tc : Thread Cert.FfnBRIdeal.nD Cert.FfnBRIdeal.τ).loc Cert.FfnBRIdeal.main_arg1)) (m ((c.tc : Thread Cert.FfnBRIdeal.nD Cert.FfnBRIdeal.τ).loc Cert.FfnBRIdeal.main_arg2)) (m ((c.tc : Thread Cert.FfnBRIdeal.nD Cert.FfnBRIdeal.τ).loc Cert.FfnBRIdeal.main_arg3)) (m ((c.tc : Thread Cert.FfnBRIdeal.nD Cert.FfnBRIdeal.τ).loc Cert.FfnBRIdeal.main_arg4)) (m ((c.tc : Thread Cert.FfnBRIdeal.nD Cert.FfnBRIdeal.τ).loc Cert.FfnBRIdeal.main_arg5)) (m ((c.tc : Thread Cert.FfnBRIdeal.nD Cert.FfnBRIdeal.τ).loc Cert.FfnBRIdeal.main_arg6))).2.2.2.1 = (fun _ => 1#1)
    ∧ (Cert.Pre_ffnb_finite.fn (F := Ideal) (m ((c.tc : Thread Cert.FfnBRIdeal.nD Cert.FfnBRIdeal.τ).loc Cert.FfnBRIdeal.main_arg0)) (m ((c.tc : Thread Cert.FfnBRIdeal.nD Cert.FfnBRIdeal.τ).loc Cert.FfnBRIdeal.main_arg1)) (m ((c.tc : Thread Cert.FfnBRIdeal.nD Cert.FfnBRIdeal.τ).loc Cert.FfnBRIdeal.main_arg2)) (m ((c.tc : Thread Cert.FfnBRIdeal.nD Cert.FfnBRIdeal.τ).loc Cert.FfnBRIdeal.main_arg3)) (m ((c.tc : Thread Cert.FfnBRIdeal.nD Cert.FfnBRIdeal.τ).loc Cert.FfnBRIdeal.main_arg4)) (m ((c.tc : Thread Cert.FfnBRIdeal.nD Cert.FfnBRIdeal.τ).loc Cert.FfnBRIdeal.main_arg5)) (m ((c.tc : Thread Cert.FfnBRIdeal.nD Cert.FfnBRIdeal.τ).loc Cert.FfnBRIdeal.main_arg6))).2.2.2.2.1 = (fun _ => 1#1)
    ∧ (Cert.Pre_ffnb_finite.fn (F := Ideal) (m ((c.tc : Thread Cert.FfnBRIdeal.nD Cert.FfnBRIdeal.τ).loc Cert.FfnBRIdeal.main_arg0)) (m ((c.tc : Thread Cert.FfnBRIdeal.nD Cert.FfnBRIdeal.τ).loc Cert.FfnBRIdeal.main_arg1)) (m ((c.tc : Thread Cert.FfnBRIdeal.nD Cert.FfnBRIdeal.τ).loc Cert.FfnBRIdeal.main_arg2)) (m ((c.tc : Thread Cert.FfnBRIdeal.nD Cert.FfnBRIdeal.τ).loc Cert.FfnBRIdeal.main_arg3)) (m ((c.tc : Thread Cert.FfnBRIdeal.nD Cert.FfnBRIdeal.τ).loc Cert.FfnBRIdeal.main_arg4)) (m ((c.tc : Thread Cert.FfnBRIdeal.nD Cert.FfnBRIdeal.τ).loc Cert.FfnBRIdeal.main_arg5)) (m ((c.tc : Thread Cert.FfnBRIdeal.nD Cert.FfnBRIdeal.τ).loc Cert.FfnBRIdeal.main_arg6))).2.2.2.2.2.1 = (fun _ => 1#1)
    ∧ (Cert.Pre_ffnb_finite.fn (F := Ideal) (m ((c.tc : Thread Cert.FfnBRIdeal.nD Cert.FfnBRIdeal.τ).loc Cert.FfnBRIdeal.main_arg0)) (m ((c.tc : Thread Cert.FfnBRIdeal.nD Cert.FfnBRIdeal.τ).loc Cert.FfnBRIdeal.main_arg1)) (m ((c.tc : Thread Cert.FfnBRIdeal.nD Cert.FfnBRIdeal.τ).loc Cert.FfnBRIdeal.main_arg2)) (m ((c.tc : Thread Cert.FfnBRIdeal.nD Cert.FfnBRIdeal.τ).loc Cert.FfnBRIdeal.main_arg3)) (m ((c.tc : Thread Cert.FfnBRIdeal.nD Cert.FfnBRIdeal.τ).loc Cert.FfnBRIdeal.main_arg4)) (m ((c.tc : Thread Cert.FfnBRIdeal.nD Cert.FfnBRIdeal.τ).loc Cert.FfnBRIdeal.main_arg5)) (m ((c.tc : Thread Cert.FfnBRIdeal.nD Cert.FfnBRIdeal.τ).loc Cert.FfnBRIdeal.main_arg6))).2.2.2.2.2.2 = (fun _ => 1#1)

def Pre_InB (m : (ℓ : Loc Cert.InB.nD Cert.InB.τ Cert.InB.sig) → Buf (Elt Bits) ℓ) : Prop :=
  True

def Pre_InBIdeal (m : (ℓ : Loc Cert.InBIdeal.nD Cert.InBIdeal.τ Cert.InBIdeal.sig) → Buf (Elt Ideal) ℓ) : Prop :=
  True

def Pre_InBIdeal_inb_finite [hPre_inb_finite : Cert.Pre_inb_finite.Facts] (m : (ℓ : Loc Cert.InBIdeal.nD Cert.InBIdeal.τ Cert.InBIdeal.sig) → Buf (Elt Ideal) ℓ) : Prop :=
  ∀ c : Dev Cert.InBIdeal.nD,
    (Cert.Pre_inb_finite.fn (F := Ideal) (m ((c.tc : Thread Cert.InBIdeal.nD Cert.InBIdeal.τ).loc Cert.InBIdeal.main_arg0)) (m ((c.tc : Thread Cert.InBIdeal.nD Cert.InBIdeal.τ).loc Cert.InBIdeal.main_arg1)) (m ((c.tc : Thread Cert.InBIdeal.nD Cert.InBIdeal.τ).loc Cert.InBIdeal.main_arg2)) (m ((c.tc : Thread Cert.InBIdeal.nD Cert.InBIdeal.τ).loc Cert.InBIdeal.main_arg3)) (m ((c.tc : Thread Cert.InBIdeal.nD Cert.InBIdeal.τ).loc Cert.InBIdeal.main_arg4))).1 = (fun _ => 1#1)
    ∧ (Cert.Pre_inb_finite.fn (F := Ideal) (m ((c.tc : Thread Cert.InBIdeal.nD Cert.InBIdeal.τ).loc Cert.InBIdeal.main_arg0)) (m ((c.tc : Thread Cert.InBIdeal.nD Cert.InBIdeal.τ).loc Cert.InBIdeal.main_arg1)) (m ((c.tc : Thread Cert.InBIdeal.nD Cert.InBIdeal.τ).loc Cert.InBIdeal.main_arg2)) (m ((c.tc : Thread Cert.InBIdeal.nD Cert.InBIdeal.τ).loc Cert.InBIdeal.main_arg3)) (m ((c.tc : Thread Cert.InBIdeal.nD Cert.InBIdeal.τ).loc Cert.InBIdeal.main_arg4))).2.1 = (fun _ => 1#1)
    ∧ (Cert.Pre_inb_finite.fn (F := Ideal) (m ((c.tc : Thread Cert.InBIdeal.nD Cert.InBIdeal.τ).loc Cert.InBIdeal.main_arg0)) (m ((c.tc : Thread Cert.InBIdeal.nD Cert.InBIdeal.τ).loc Cert.InBIdeal.main_arg1)) (m ((c.tc : Thread Cert.InBIdeal.nD Cert.InBIdeal.τ).loc Cert.InBIdeal.main_arg2)) (m ((c.tc : Thread Cert.InBIdeal.nD Cert.InBIdeal.τ).loc Cert.InBIdeal.main_arg3)) (m ((c.tc : Thread Cert.InBIdeal.nD Cert.InBIdeal.τ).loc Cert.InBIdeal.main_arg4))).2.2.1 = (fun _ => 1#1)
    ∧ (Cert.Pre_inb_finite.fn (F := Ideal) (m ((c.tc : Thread Cert.InBIdeal.nD Cert.InBIdeal.τ).loc Cert.InBIdeal.main_arg0)) (m ((c.tc : Thread Cert.InBIdeal.nD Cert.InBIdeal.τ).loc Cert.InBIdeal.main_arg1)) (m ((c.tc : Thread Cert.InBIdeal.nD Cert.InBIdeal.τ).loc Cert.InBIdeal.main_arg2)) (m ((c.tc : Thread Cert.InBIdeal.nD Cert.InBIdeal.τ).loc Cert.InBIdeal.main_arg3)) (m ((c.tc : Thread Cert.InBIdeal.nD Cert.InBIdeal.τ).loc Cert.InBIdeal.main_arg4))).2.2.2.1 = (fun _ => 1#1)
    ∧ (Cert.Pre_inb_finite.fn (F := Ideal) (m ((c.tc : Thread Cert.InBIdeal.nD Cert.InBIdeal.τ).loc Cert.InBIdeal.main_arg0)) (m ((c.tc : Thread Cert.InBIdeal.nD Cert.InBIdeal.τ).loc Cert.InBIdeal.main_arg1)) (m ((c.tc : Thread Cert.InBIdeal.nD Cert.InBIdeal.τ).loc Cert.InBIdeal.main_arg2)) (m ((c.tc : Thread Cert.InBIdeal.nD Cert.InBIdeal.τ).loc Cert.InBIdeal.main_arg3)) (m ((c.tc : Thread Cert.InBIdeal.nD Cert.InBIdeal.τ).loc Cert.InBIdeal.main_arg4))).2.2.2.2 = (fun _ => 1#1)

def Pre_InBRIdeal (m : (ℓ : Loc Cert.InBRIdeal.nD Cert.InBRIdeal.τ Cert.InBRIdeal.sig) → Buf (Elt Ideal) ℓ) : Prop :=
  True

def Pre_InBRIdeal_inb_finite [hPre_inb_finite : Cert.Pre_inb_finite.Facts] (m : (ℓ : Loc Cert.InBRIdeal.nD Cert.InBRIdeal.τ Cert.InBRIdeal.sig) → Buf (Elt Ideal) ℓ) : Prop :=
  ∀ c : Dev Cert.InBRIdeal.nD,
    (Cert.Pre_inb_finite.fn (F := Ideal) (m ((c.tc : Thread Cert.InBRIdeal.nD Cert.InBRIdeal.τ).loc Cert.InBRIdeal.main_arg0)) (m ((c.tc : Thread Cert.InBRIdeal.nD Cert.InBRIdeal.τ).loc Cert.InBRIdeal.main_arg1)) (m ((c.tc : Thread Cert.InBRIdeal.nD Cert.InBRIdeal.τ).loc Cert.InBRIdeal.main_arg2)) (m ((c.tc : Thread Cert.InBRIdeal.nD Cert.InBRIdeal.τ).loc Cert.InBRIdeal.main_arg3)) (m ((c.tc : Thread Cert.InBRIdeal.nD Cert.InBRIdeal.τ).loc Cert.InBRIdeal.main_arg4))).1 = (fun _ => 1#1)
    ∧ (Cert.Pre_inb_finite.fn (F := Ideal) (m ((c.tc : Thread Cert.InBRIdeal.nD Cert.InBRIdeal.τ).loc Cert.InBRIdeal.main_arg0)) (m ((c.tc : Thread Cert.InBRIdeal.nD Cert.InBRIdeal.τ).loc Cert.InBRIdeal.main_arg1)) (m ((c.tc : Thread Cert.InBRIdeal.nD Cert.InBRIdeal.τ).loc Cert.InBRIdeal.main_arg2)) (m ((c.tc : Thread Cert.InBRIdeal.nD Cert.InBRIdeal.τ).loc Cert.InBRIdeal.main_arg3)) (m ((c.tc : Thread Cert.InBRIdeal.nD Cert.InBRIdeal.τ).loc Cert.InBRIdeal.main_arg4))).2.1 = (fun _ => 1#1)
    ∧ (Cert.Pre_inb_finite.fn (F := Ideal) (m ((c.tc : Thread Cert.InBRIdeal.nD Cert.InBRIdeal.τ).loc Cert.InBRIdeal.main_arg0)) (m ((c.tc : Thread Cert.InBRIdeal.nD Cert.InBRIdeal.τ).loc Cert.InBRIdeal.main_arg1)) (m ((c.tc : Thread Cert.InBRIdeal.nD Cert.InBRIdeal.τ).loc Cert.InBRIdeal.main_arg2)) (m ((c.tc : Thread Cert.InBRIdeal.nD Cert.InBRIdeal.τ).loc Cert.InBRIdeal.main_arg3)) (m ((c.tc : Thread Cert.InBRIdeal.nD Cert.InBRIdeal.τ).loc Cert.InBRIdeal.main_arg4))).2.2.1 = (fun _ => 1#1)
    ∧ (Cert.Pre_inb_finite.fn (F := Ideal) (m ((c.tc : Thread Cert.InBRIdeal.nD Cert.InBRIdeal.τ).loc Cert.InBRIdeal.main_arg0)) (m ((c.tc : Thread Cert.InBRIdeal.nD Cert.InBRIdeal.τ).loc Cert.InBRIdeal.main_arg1)) (m ((c.tc : Thread Cert.InBRIdeal.nD Cert.InBRIdeal.τ).loc Cert.InBRIdeal.main_arg2)) (m ((c.tc : Thread Cert.InBRIdeal.nD Cert.InBRIdeal.τ).loc Cert.InBRIdeal.main_arg3)) (m ((c.tc : Thread Cert.InBRIdeal.nD Cert.InBRIdeal.τ).loc Cert.InBRIdeal.main_arg4))).2.2.2.1 = (fun _ => 1#1)
    ∧ (Cert.Pre_inb_finite.fn (F := Ideal) (m ((c.tc : Thread Cert.InBRIdeal.nD Cert.InBRIdeal.τ).loc Cert.InBRIdeal.main_arg0)) (m ((c.tc : Thread Cert.InBRIdeal.nD Cert.InBRIdeal.τ).loc Cert.InBRIdeal.main_arg1)) (m ((c.tc : Thread Cert.InBRIdeal.nD Cert.InBRIdeal.τ).loc Cert.InBRIdeal.main_arg2)) (m ((c.tc : Thread Cert.InBRIdeal.nD Cert.InBRIdeal.τ).loc Cert.InBRIdeal.main_arg3)) (m ((c.tc : Thread Cert.InBRIdeal.nD Cert.InBRIdeal.τ).loc Cert.InBRIdeal.main_arg4))).2.2.2.2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).2.2 = (fun _ => 1#1)

def Pre_LossRIdeal (m : (ℓ : Loc Cert.LossRIdeal.nD Cert.LossRIdeal.τ Cert.LossRIdeal.sig) → Buf (Elt Ideal) ℓ) : Prop :=
  True

def Pre_LossRIdeal_loss_finite [hPre_loss_finite : Cert.Pre_loss_finite.Facts] (m : (ℓ : Loc Cert.LossRIdeal.nD Cert.LossRIdeal.τ Cert.LossRIdeal.sig) → Buf (Elt Ideal) ℓ) : Prop :=
  ∀ c : Dev Cert.LossRIdeal.nD,
    (Cert.Pre_loss_finite.fn (F := Ideal) (m ((c.tc : Thread Cert.LossRIdeal.nD Cert.LossRIdeal.τ).loc Cert.LossRIdeal.main_arg0)) (m ((c.tc : Thread Cert.LossRIdeal.nD Cert.LossRIdeal.τ).loc Cert.LossRIdeal.main_arg1)) (m ((c.tc : Thread Cert.LossRIdeal.nD Cert.LossRIdeal.τ).loc Cert.LossRIdeal.main_arg2))).1 = (fun _ => 1#1)
    ∧ (Cert.Pre_loss_finite.fn (F := Ideal) (m ((c.tc : Thread Cert.LossRIdeal.nD Cert.LossRIdeal.τ).loc Cert.LossRIdeal.main_arg0)) (m ((c.tc : Thread Cert.LossRIdeal.nD Cert.LossRIdeal.τ).loc Cert.LossRIdeal.main_arg1)) (m ((c.tc : Thread Cert.LossRIdeal.nD Cert.LossRIdeal.τ).loc Cert.LossRIdeal.main_arg2))).2.1 = (fun _ => 1#1)
    ∧ (Cert.Pre_loss_finite.fn (F := Ideal) (m ((c.tc : Thread Cert.LossRIdeal.nD Cert.LossRIdeal.τ).loc Cert.LossRIdeal.main_arg0)) (m ((c.tc : Thread Cert.LossRIdeal.nD Cert.LossRIdeal.τ).loc Cert.LossRIdeal.main_arg1)) (m ((c.tc : Thread Cert.LossRIdeal.nD Cert.LossRIdeal.τ).loc Cert.LossRIdeal.main_arg2))).2.2 = (fun _ => 1#1)

def Pre_MergeF (m : (ℓ : Loc Cert.MergeF.nD Cert.MergeF.τ Cert.MergeF.sig) → Buf (Elt Bits) ℓ) : Prop :=
  True

def Pre_MergeFIdeal (m : (ℓ : Loc Cert.MergeFIdeal.nD Cert.MergeFIdeal.τ Cert.MergeFIdeal.sig) → Buf (Elt Ideal) ℓ) : Prop :=
  True

def Pre_MergeFRIdeal (m : (ℓ : Loc Cert.MergeFRIdeal.nD Cert.MergeFRIdeal.τ Cert.MergeFRIdeal.sig) → Buf (Elt Ideal) ℓ) : Prop :=
  True

def Pre_MergeB (m : (ℓ : Loc Cert.MergeB.nD Cert.MergeB.τ Cert.MergeB.sig) → Buf (Elt Bits) ℓ) : Prop :=
  True

def Pre_MergeBIdeal (m : (ℓ : Loc Cert.MergeBIdeal.nD Cert.MergeBIdeal.τ Cert.MergeBIdeal.sig) → Buf (Elt Ideal) ℓ) : Prop :=
  True

def Pre_MergeBRIdeal (m : (ℓ : Loc Cert.MergeBRIdeal.nD Cert.MergeBRIdeal.τ Cert.MergeBRIdeal.sig) → Buf (Elt Ideal) ℓ) : Prop :=
  True

def Pre_FfnF (m : (ℓ : Loc Cert.FfnF.nD Cert.FfnF.τ Cert.FfnF.sig) → Buf (Elt Bits) ℓ) : Prop :=
  True

def Pre_FfnFIdeal (m : (ℓ : Loc Cert.FfnFIdeal.nD Cert.FfnFIdeal.τ Cert.FfnFIdeal.sig) → Buf (Elt Ideal) ℓ) : Prop :=
  True

def Pre_FfnFRIdeal (m : (ℓ : Loc Cert.FfnFRIdeal.nD Cert.FfnFRIdeal.τ Cert.FfnFRIdeal.sig) → Buf (Elt Ideal) ℓ) : Prop :=
  True

def Pre_MixF (m : (ℓ : Loc Cert.MixF.nD Cert.MixF.τ Cert.MixF.sig) → Buf (Elt Bits) ℓ) : Prop :=
  True

def Pre_MixFIdeal (m : (ℓ : Loc Cert.MixFIdeal.nD Cert.MixFIdeal.τ Cert.MixFIdeal.sig) → Buf (Elt Ideal) ℓ) : Prop :=
  True

def Pre_MixFRIdeal (m : (ℓ : Loc Cert.MixFRIdeal.nD Cert.MixFRIdeal.τ Cert.MixFRIdeal.sig) → Buf (Elt Ideal) ℓ) : Prop :=
  True

def Pre_InF (m : (ℓ : Loc Cert.InF.nD Cert.InF.τ Cert.InF.sig) → Buf (Elt Bits) ℓ) : Prop :=
  True

def Pre_InFIdeal (m : (ℓ : Loc Cert.InFIdeal.nD Cert.InFIdeal.τ Cert.InFIdeal.sig) → Buf (Elt Ideal) ℓ) : Prop :=
  True

def Pre_InFRIdeal (m : (ℓ : Loc Cert.InFRIdeal.nD Cert.InFRIdeal.τ Cert.InFRIdeal.sig) → Buf (Elt Ideal) ℓ) : Prop :=
  True

def Pre_WIn (m : (ℓ : Loc Cert.WIn.nD Cert.WIn.τ Cert.WIn.sig) → Buf (Elt Bits) ℓ) : Prop :=
  True

def Pre_WInIdeal (m : (ℓ : Loc Cert.WInIdeal.nD Cert.WInIdeal.τ Cert.WInIdeal.sig) → Buf (Elt Ideal) ℓ) : Prop :=
  True

def Pre_WInRIdeal (m : (ℓ : Loc Cert.WInRIdeal.nD Cert.WInRIdeal.τ Cert.WInRIdeal.sig) → Buf (Elt Ideal) ℓ) : Prop :=
  True

def Pre_WGU (m : (ℓ : Loc Cert.WGU.nD Cert.WGU.τ Cert.WGU.sig) → Buf (Elt Bits) ℓ) : Prop :=
  True

def Pre_WGUIdeal (m : (ℓ : Loc Cert.WGUIdeal.nD Cert.WGUIdeal.τ Cert.WGUIdeal.sig) → Buf (Elt Ideal) ℓ) : Prop :=
  True

def Pre_WGURIdeal (m : (ℓ : Loc Cert.WGURIdeal.nD Cert.WGURIdeal.τ Cert.WGURIdeal.sig) → Buf (Elt Ideal) ℓ) : Prop :=
  True

def Pre_Opt (m : (ℓ : Loc Cert.Opt.nD Cert.Opt.τ Cert.Opt.sig) → Buf (Elt Bits) ℓ) : Prop :=
  True

def Pre_OptIdeal (m : (ℓ : Loc Cert.OptIdeal.nD Cert.OptIdeal.τ Cert.OptIdeal.sig) → Buf (Elt Ideal) ℓ) : Prop :=
  True

def Pre_OptRIdeal (m : (ℓ : Loc Cert.OptRIdeal.nD Cert.OptRIdeal.τ Cert.OptRIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3)
      ∧ r.2.mem ((c.tc : Thread Cert.Gates.nD Cert.Gates.τ).loc Cert.Gates.main_arg4) = m ((c.tc : Thread Cert.Gates.nD Cert.Gates.τ).loc Cert.Gates.main_arg4)
      ∧ r.2.mem ((c.tc : Thread Cert.Gates.nD Cert.Gates.τ).loc Cert.Gates.main_arg5) = m ((c.tc : Thread Cert.Gates.nD Cert.Gates.τ).loc Cert.Gates.main_arg5))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
      ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4)
      ∧ r.2.mem ((c.tc : Thread Cert.GatesIdeal.nD Cert.GatesIdeal.τ).loc Cert.GatesIdeal.main_arg5) = m ((c.tc : Thread Cert.GatesIdeal.nD Cert.GatesIdeal.τ).loc Cert.GatesIdeal.main_arg5))
      ∧ r.2.sem = fun _ => 0)

def quiescent_GatesIdeal_pre_gates_finite [hGatesIdeal : Cert.GatesIdeal.Facts] [hPre_gates_finite : Cert.Pre_gates_finite.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal_gates_finite m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
      ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4)
      ∧ r.2.mem ((c.tc : Thread Cert.GatesIdeal.nD Cert.GatesIdeal.τ).loc Cert.GatesIdeal.main_arg5) = m ((c.tc : Thread Cert.GatesIdeal.nD Cert.GatesIdeal.τ).loc Cert.GatesIdeal.main_arg5))
      ∧ r.2.sem = fun _ => 0)

def quiescent_GatesRIdeal [hGatesRIdeal : Cert.GatesRIdeal.Facts] : Prop :=
  ∀ (m : (ℓ : Loc Cert.GatesRIdeal.nD Cert.GatesRIdeal.τ Cert.GatesRIdeal.sig) → Buf (Elt Ideal) ℓ) (g : Dev Cert.GatesRIdeal.nD → PrngReg), Pre_GatesRIdeal m →
    θ_run (Cert.GatesRIdeal.defs (F := Ideal)) (onTc (τ := Cert.GatesRIdeal.τ) (Cert.GatesRIdeal.main (F := Ideal))) ⟨m, fun _ => 0, g⟩ (fun r => (∀ c : Dev Cert.GatesRIdeal.nD,
      r.2.mem ((c.tc : Thread Cert.GatesRIdeal.nD Cert.GatesRIdeal.τ).loc Cert.GatesRIdeal.main_arg0) = m ((c.tc : Thread Cert.GatesRIdeal.nD Cert.GatesRIdeal.τ).loc Cert.GatesRIdeal.main_arg0)
      ∧ r.2.mem ((c.tc : Thread Cert.GatesRIdeal.nD Cert.GatesRIdeal.τ).loc Cert.GatesRIdeal.main_arg1) = m ((c.tc : Thread Cert.GatesRIdeal.nD Cert.GatesRIdeal.τ).loc Cert.GatesRIdeal.main_arg1)
      ∧ r.2.mem ((c.tc : Thread Cert.GatesRIdeal.nD Cert.GatesRIdeal.τ).loc Cert.GatesRIdeal.main_arg2) = m ((c.tc : Thread Cert.GatesRIdeal.nD Cert.GatesRIdeal.τ).loc Cert.GatesRIdeal.main_arg2)
      ∧ r.2.mem ((c.tc : Thread Cert.GatesRIdeal.nD Cert.GatesRIdeal.τ).loc Cert.GatesRIdeal.main_arg3) = m ((c.tc : Thread Cert.GatesRIdeal.nD Cert.GatesRIdeal.τ).loc Cert.GatesRIdeal.main_arg3)
      ∧ r.2.mem ((c.tc : Thread Cert.GatesRIdeal.nD Cert.GatesRIdeal.τ).loc Cert.GatesRIdeal.main_arg4) = m ((c.tc : Thread Cert.GatesRIdeal.nD Cert.GatesRIdeal.τ).loc Cert.GatesRIdeal.main_arg4)
      ∧ r.2.mem ((c.tc : Thread Cert.GatesRIdeal.nD Cert.GatesRIdeal.τ).loc Cert.GatesRIdeal.main_arg5) = m ((c.tc : Thread Cert.GatesRIdeal.nD Cert.GatesRIdeal.τ).loc Cert.GatesRIdeal.main_arg5))
      ∧ r.2.sem = fun _ => 0)

def quiescent_GatesRIdeal_pre_gates_finite [hGatesRIdeal : Cert.GatesRIdeal.Facts] [hPre_gates_finite : Cert.Pre_gates_finite.Facts] : Prop :=
  ∀ (m : (ℓ : Loc Cert.GatesRIdeal.nD Cert.GatesRIdeal.τ Cert.GatesRIdeal.sig) → Buf (Elt Ideal) ℓ) (g : Dev Cert.GatesRIdeal.nD → PrngReg), Pre_GatesRIdeal_gates_finite m →
    θ_run (Cert.GatesRIdeal.defs (F := Ideal)) (onTc (τ := Cert.GatesRIdeal.τ) (Cert.GatesRIdeal.main (F := Ideal))) ⟨m, fun _ => 0, g⟩ (fun r => (∀ c : Dev Cert.GatesRIdeal.nD,
      r.2.mem ((c.tc : Thread Cert.GatesRIdeal.nD Cert.GatesRIdeal.τ).loc Cert.GatesRIdeal.main_arg0) = m ((c.tc : Thread Cert.GatesRIdeal.nD Cert.GatesRIdeal.τ).loc Cert.GatesRIdeal.main_arg0)
      ∧ r.2.mem ((c.tc : Thread Cert.GatesRIdeal.nD Cert.GatesRIdeal.τ).loc Cert.GatesRIdeal.main_arg1) = m ((c.tc : Thread Cert.GatesRIdeal.nD Cert.GatesRIdeal.τ).loc Cert.GatesRIdeal.main_arg1)
      ∧ r.2.mem ((c.tc : Thread Cert.GatesRIdeal.nD Cert.GatesRIdeal.τ).loc Cert.GatesRIdeal.main_arg2) = m ((c.tc : Thread Cert.GatesRIdeal.nD Cert.GatesRIdeal.τ).loc Cert.GatesRIdeal.main_arg2)
      ∧ r.2.mem ((c.tc : Thread Cert.GatesRIdeal.nD Cert.GatesRIdeal.τ).loc Cert.GatesRIdeal.main_arg3) = m ((c.tc : Thread Cert.GatesRIdeal.nD Cert.GatesRIdeal.τ).loc Cert.GatesRIdeal.main_arg3)
      ∧ r.2.mem ((c.tc : Thread Cert.GatesRIdeal.nD Cert.GatesRIdeal.τ).loc Cert.GatesRIdeal.main_arg4) = m ((c.tc : Thread Cert.GatesRIdeal.nD Cert.GatesRIdeal.τ).loc Cert.GatesRIdeal.main_arg4)
      ∧ r.2.mem ((c.tc : Thread Cert.GatesRIdeal.nD Cert.GatesRIdeal.τ).loc Cert.GatesRIdeal.main_arg5) = m ((c.tc : Thread Cert.GatesRIdeal.nD Cert.GatesRIdeal.τ).loc Cert.GatesRIdeal.main_arg5))
      ∧ r.2.sem = fun _ => 0)

def quiescent_FfnB [hFfnB : Cert.FfnB.Facts] : Prop :=
  ∀ (m : (ℓ : Loc Cert.FfnB.nD Cert.FfnB.τ Cert.FfnB.sig) → Buf (Elt Bits) ℓ) (g : Dev Cert.FfnB.nD → PrngReg), Pre_FfnB m →
    θ_run (Cert.FfnB.defs (F := Bits)) (onTc (τ := Cert.FfnB.τ) (Cert.FfnB.main (F := Bits))) ⟨m, fun _ => 0, g⟩ (fun r => (∀ c : Dev Cert.FfnB.nD,
      r.2.mem ((c.tc : Thread Cert.FfnB.nD Cert.FfnB.τ).loc Cert.FfnB.main_arg0) = m ((c.tc : Thread Cert.FfnB.nD Cert.FfnB.τ).loc Cert.FfnB.main_arg0)
      ∧ r.2.mem ((c.tc : Thread Cert.FfnB.nD Cert.FfnB.τ).loc Cert.FfnB.main_arg1) = m ((c.tc : Thread Cert.FfnB.nD Cert.FfnB.τ).loc Cert.FfnB.main_arg1)
      ∧ r.2.mem ((c.tc : Thread Cert.FfnB.nD Cert.FfnB.τ).loc Cert.FfnB.main_arg2) = m ((c.tc : Thread Cert.FfnB.nD Cert.FfnB.τ).loc Cert.FfnB.main_arg2)
      ∧ r.2.mem ((c.tc : Thread Cert.FfnB.nD Cert.FfnB.τ).loc Cert.FfnB.main_arg3) = m ((c.tc : Thread Cert.FfnB.nD Cert.FfnB.τ).loc Cert.FfnB.main_arg3)
      ∧ r.2.mem ((c.tc : Thread Cert.FfnB.nD Cert.FfnB.τ).loc Cert.FfnB.main_arg4) = m ((c.tc : Thread Cert.FfnB.nD Cert.FfnB.τ).loc Cert.FfnB.main_arg4)
      ∧ r.2.mem ((c.tc : Thread Cert.FfnB.nD Cert.FfnB.τ).loc Cert.FfnB.main_arg5) = m ((c.tc : Thread Cert.FfnB.nD Cert.FfnB.τ).loc Cert.FfnB.main_arg5)
      ∧ r.2.mem ((c.tc : Thread Cert.FfnB.nD Cert.FfnB.τ).loc Cert.FfnB.main_arg6) = m ((c.tc : Thread Cert.FfnB.nD Cert.FfnB.τ).loc Cert.FfnB.main_arg6))
      ∧ r.2.sem = fun _ => 0)

def quiescent_FfnBIdeal [hFfnBIdeal : Cert.FfnBIdeal.Facts] : Prop :=
  ∀ (m : (ℓ : Loc Cert.FfnBIdeal.nD Cert.FfnBIdeal.τ Cert.FfnBIdeal.sig) → Buf (Elt Ideal) ℓ) (g : Dev Cert.FfnBIdeal.nD → PrngReg), Pre_FfnBIdeal m →
    θ_run (Cert.FfnBIdeal.defs (F := Ideal)) (onTc (τ := Cert.FfnBIdeal.τ) (Cert.FfnBIdeal.main (F := Ideal))) ⟨m, fun _ => 0, g⟩ (fun r => (∀ c : Dev Cert.FfnBIdeal.nD,
      r.2.mem ((c.tc : Thread Cert.FfnBIdeal.nD Cert.FfnBIdeal.τ).loc Cert.FfnBIdeal.main_arg0) = m ((c.tc : Thread Cert.FfnBIdeal.nD Cert.FfnBIdeal.τ).loc Cert.FfnBIdeal.main_arg0)
      ∧ r.2.mem ((c.tc : Thread Cert.FfnBIdeal.nD Cert.FfnBIdeal.τ).loc Cert.FfnBIdeal.main_arg1) = m ((c.tc : Thread Cert.FfnBIdeal.nD Cert.FfnBIdeal.τ).loc Cert.FfnBIdeal.main_arg1)
      ∧ r.2.mem ((c.tc : Thread Cert.FfnBIdeal.nD Cert.FfnBIdeal.τ).loc Cert.FfnBIdeal.main_arg2) = m ((c.tc : Thread Cert.FfnBIdeal.nD Cert.FfnBIdeal.τ).loc Cert.FfnBIdeal.main_arg2)
      ∧ r.2.mem ((c.tc : Thread Cert.FfnBIdeal.nD Cert.FfnBIdeal.τ).loc Cert.FfnBIdeal.main_arg3) = m ((c.tc : Thread Cert.FfnBIdeal.nD Cert.FfnBIdeal.τ).loc Cert.FfnBIdeal.main_arg3)
      ∧ r.2.mem ((c.tc : Thread Cert.FfnBIdeal.nD Cert.FfnBIdeal.τ).loc Cert.FfnBIdeal.main_arg4) = m ((c.tc : Thread Cert.FfnBIdeal.nD Cert.FfnBIdeal.τ).loc Cert.FfnBIdeal.main_arg4)
      ∧ r.2.mem ((c.tc : Thread Cert.FfnBIdeal.nD Cert.FfnBIdeal.τ).loc Cert.FfnBIdeal.main_arg5) = m ((c.tc : Thread Cert.FfnBIdeal.nD Cert.FfnBIdeal.τ).loc Cert.FfnBIdeal.main_arg5)
      ∧ r.2.mem ((c.tc : Thread Cert.FfnBIdeal.nD Cert.FfnBIdeal.τ).loc Cert.FfnBIdeal.main_arg6) = m ((c.tc : Thread Cert.FfnBIdeal.nD Cert.FfnBIdeal.τ).loc Cert.FfnBIdeal.main_arg6))
      ∧ r.2.sem = fun _ => 0)

def quiescent_FfnBIdeal_pre_ffnb_finite [hFfnBIdeal : Cert.FfnBIdeal.Facts] [hPre_ffnb_finite : Cert.Pre_ffnb_finite.Facts] : Prop :=
  ∀ (m : (ℓ : Loc Cert.FfnBIdeal.nD Cert.FfnBIdeal.τ Cert.FfnBIdeal.sig) → Buf (Elt Ideal) ℓ) (g : Dev Cert.FfnBIdeal.nD → PrngReg), Pre_FfnBIdeal_ffnb_finite m →
    θ_run (Cert.FfnBIdeal.defs (F := Ideal)) (onTc (τ := Cert.FfnBIdeal.τ) (Cert.FfnBIdeal.main (F := Ideal))) ⟨m, fun _ => 0, g⟩ (fun r => (∀ c : Dev Cert.FfnBIdeal.nD,
      r.2.mem ((c.tc : Thread Cert.FfnBIdeal.nD Cert.FfnBIdeal.τ).loc Cert.FfnBIdeal.main_arg0) = m ((c.tc : Thread Cert.FfnBIdeal.nD Cert.FfnBIdeal.τ).loc Cert.FfnBIdeal.main_arg0)
      ∧ r.2.mem ((c.tc : Thread Cert.FfnBIdeal.nD Cert.FfnBIdeal.τ).loc Cert.FfnBIdeal.main_arg1) = m ((c.tc : Thread Cert.FfnBIdeal.nD Cert.FfnBIdeal.τ).loc Cert.FfnBIdeal.main_arg1)
      ∧ r.2.mem ((c.tc : Thread Cert.FfnBIdeal.nD Cert.FfnBIdeal.τ).loc Cert.FfnBIdeal.main_arg2) = m ((c.tc : Thread Cert.FfnBIdeal.nD Cert.FfnBIdeal.τ).loc Cert.FfnBIdeal.main_arg2)
      ∧ r.2.mem ((c.tc : Thread Cert.FfnBIdeal.nD Cert.FfnBIdeal.τ).loc Cert.FfnBIdeal.main_arg3) = m ((c.tc : Thread Cert.FfnBIdeal.nD Cert.FfnBIdeal.τ).loc Cert.FfnBIdeal.main_arg3)
      ∧ r.2.mem ((c.tc : Thread Cert.FfnBIdeal.nD Cert.FfnBIdeal.τ).loc Cert.FfnBIdeal.main_arg4) = m ((c.tc : Thread Cert.FfnBIdeal.nD Cert.FfnBIdeal.τ).loc Cert.FfnBIdeal.main_arg4)
      ∧ r.2.mem ((c.tc : Thread Cert.FfnBIdeal.nD Cert.FfnBIdeal.τ).loc Cert.FfnBIdeal.main_arg5) = m ((c.tc : Thread Cert.FfnBIdeal.nD Cert.FfnBIdeal.τ).loc Cert.FfnBIdeal.main_arg5)
      ∧ r.2.mem ((c.tc : Thread Cert.FfnBIdeal.nD Cert.FfnBIdeal.τ).loc Cert.FfnBIdeal.main_arg6) = m ((c.tc : Thread Cert.FfnBIdeal.nD Cert.FfnBIdeal.τ).loc Cert.FfnBIdeal.main_arg6))
      ∧ r.2.sem = fun _ => 0)

def quiescent_FfnBRIdeal [hFfnBRIdeal : Cert.FfnBRIdeal.Facts] : Prop :=
  ∀ (m : (ℓ : Loc Cert.FfnBRIdeal.nD Cert.FfnBRIdeal.τ Cert.FfnBRIdeal.sig) → Buf (Elt Ideal) ℓ) (g : Dev Cert.FfnBRIdeal.nD → PrngReg), Pre_FfnBRIdeal m →
    θ_run (Cert.FfnBRIdeal.defs (F := Ideal)) (onTc (τ := Cert.FfnBRIdeal.τ) (Cert.FfnBRIdeal.main (F := Ideal))) ⟨m, fun _ => 0, g⟩ (fun r => (∀ c : Dev Cert.FfnBRIdeal.nD,
      r.2.mem ((c.tc : Thread Cert.FfnBRIdeal.nD Cert.FfnBRIdeal.τ).loc Cert.FfnBRIdeal.main_arg0) = m ((c.tc : Thread Cert.FfnBRIdeal.nD Cert.FfnBRIdeal.τ).loc Cert.FfnBRIdeal.main_arg0)
      ∧ r.2.mem ((c.tc : Thread Cert.FfnBRIdeal.nD Cert.FfnBRIdeal.τ).loc Cert.FfnBRIdeal.main_arg1) = m ((c.tc : Thread Cert.FfnBRIdeal.nD Cert.FfnBRIdeal.τ).loc Cert.FfnBRIdeal.main_arg1)
      ∧ r.2.mem ((c.tc : Thread Cert.FfnBRIdeal.nD Cert.FfnBRIdeal.τ).loc Cert.FfnBRIdeal.main_arg2) = m ((c.tc : Thread Cert.FfnBRIdeal.nD Cert.FfnBRIdeal.τ).loc Cert.FfnBRIdeal.main_arg2)
      ∧ r.2.mem ((c.tc : Thread Cert.FfnBRIdeal.nD Cert.FfnBRIdeal.τ).loc Cert.FfnBRIdeal.main_arg3) = m ((c.tc : Thread Cert.FfnBRIdeal.nD Cert.FfnBRIdeal.τ).loc Cert.FfnBRIdeal.main_arg3)
      ∧ r.2.mem ((c.tc : Thread Cert.FfnBRIdeal.nD Cert.FfnBRIdeal.τ).loc Cert.FfnBRIdeal.main_arg4) = m ((c.tc : Thread Cert.FfnBRIdeal.nD Cert.FfnBRIdeal.τ).loc Cert.FfnBRIdeal.main_arg4)
      ∧ r.2.mem ((c.tc : Thread Cert.FfnBRIdeal.nD Cert.FfnBRIdeal.τ).loc Cert.FfnBRIdeal.main_arg5) = m ((c.tc : Thread Cert.FfnBRIdeal.nD Cert.FfnBRIdeal.τ).loc Cert.FfnBRIdeal.main_arg5)
      ∧ r.2.mem ((c.tc : Thread Cert.FfnBRIdeal.nD Cert.FfnBRIdeal.τ).loc Cert.FfnBRIdeal.main_arg6) = m ((c.tc : Thread Cert.FfnBRIdeal.nD Cert.FfnBRIdeal.τ).loc Cert.FfnBRIdeal.main_arg6))
      ∧ r.2.sem = fun _ => 0)

def quiescent_FfnBRIdeal_pre_ffnb_finite [hFfnBRIdeal : Cert.FfnBRIdeal.Facts] [hPre_ffnb_finite : Cert.Pre_ffnb_finite.Facts] : Prop :=
  ∀ (m : (ℓ : Loc Cert.FfnBRIdeal.nD Cert.FfnBRIdeal.τ Cert.FfnBRIdeal.sig) → Buf (Elt Ideal) ℓ) (g : Dev Cert.FfnBRIdeal.nD → PrngReg), Pre_FfnBRIdeal_ffnb_finite m →
    θ_run (Cert.FfnBRIdeal.defs (F := Ideal)) (onTc (τ := Cert.FfnBRIdeal.τ) (Cert.FfnBRIdeal.main (F := Ideal))) ⟨m, fun _ => 0, g⟩ (fun r => (∀ c : Dev Cert.FfnBRIdeal.nD,
      r.2.mem ((c.tc : Thread Cert.FfnBRIdeal.nD Cert.FfnBRIdeal.τ).loc Cert.FfnBRIdeal.main_arg0) = m ((c.tc : Thread Cert.FfnBRIdeal.nD Cert.FfnBRIdeal.τ).loc Cert.FfnBRIdeal.main_arg0)
      ∧ r.2.mem ((c.tc : Thread Cert.FfnBRIdeal.nD Cert.FfnBRIdeal.τ).loc Cert.FfnBRIdeal.main_arg1) = m ((c.tc : Thread Cert.FfnBRIdeal.nD Cert.FfnBRIdeal.τ).loc Cert.FfnBRIdeal.main_arg1)
      ∧ r.2.mem ((c.tc : Thread Cert.FfnBRIdeal.nD Cert.FfnBRIdeal.τ).loc Cert.FfnBRIdeal.main_arg2) = m ((c.tc : Thread Cert.FfnBRIdeal.nD Cert.FfnBRIdeal.τ).loc Cert.FfnBRIdeal.main_arg2)
      ∧ r.2.mem ((c.tc : Thread Cert.FfnBRIdeal.nD Cert.FfnBRIdeal.τ).loc Cert.FfnBRIdeal.main_arg3) = m ((c.tc : Thread Cert.FfnBRIdeal.nD Cert.FfnBRIdeal.τ).loc Cert.FfnBRIdeal.main_arg3)
      ∧ r.2.mem ((c.tc : Thread Cert.FfnBRIdeal.nD Cert.FfnBRIdeal.τ).loc Cert.FfnBRIdeal.main_arg4) = m ((c.tc : Thread Cert.FfnBRIdeal.nD Cert.FfnBRIdeal.τ).loc Cert.FfnBRIdeal.main_arg4)
      ∧ r.2.mem ((c.tc : Thread Cert.FfnBRIdeal.nD Cert.FfnBRIdeal.τ).loc Cert.FfnBRIdeal.main_arg5) = m ((c.tc : Thread Cert.FfnBRIdeal.nD Cert.FfnBRIdeal.τ).loc Cert.FfnBRIdeal.main_arg5)
      ∧ r.2.mem ((c.tc : Thread Cert.FfnBRIdeal.nD Cert.FfnBRIdeal.τ).loc Cert.FfnBRIdeal.main_arg6) = m ((c.tc : Thread Cert.FfnBRIdeal.nD Cert.FfnBRIdeal.τ).loc Cert.FfnBRIdeal.main_arg6))
      ∧ r.2.sem = fun _ => 0)

def quiescent_InB [hInB : Cert.InB.Facts] : Prop :=
  ∀ (m : (ℓ : Loc Cert.InB.nD Cert.InB.τ Cert.InB.sig) → Buf (Elt Bits) ℓ) (g : Dev Cert.InB.nD → PrngReg), Pre_InB m →
    θ_run (Cert.InB.defs (F := Bits)) (onTc (τ := Cert.InB.τ) (Cert.InB.main (F := Bits))) ⟨m, fun _ => 0, g⟩ (fun r => (∀ c : Dev Cert.InB.nD,
      r.2.mem ((c.tc : Thread Cert.InB.nD Cert.InB.τ).loc Cert.InB.main_arg0) = m ((c.tc : Thread Cert.InB.nD Cert.InB.τ).loc Cert.InB.main_arg0)
      ∧ r.2.mem ((c.tc : Thread Cert.InB.nD Cert.InB.τ).loc Cert.InB.main_arg1) = m ((c.tc : Thread Cert.InB.nD Cert.InB.τ).loc Cert.InB.main_arg1)
      ∧ r.2.mem ((c.tc : Thread Cert.InB.nD Cert.InB.τ).loc Cert.InB.main_arg2) = m ((c.tc : Thread Cert.InB.nD Cert.InB.τ).loc Cert.InB.main_arg2)
      ∧ r.2.mem ((c.tc : Thread Cert.InB.nD Cert.InB.τ).loc Cert.InB.main_arg3) = m ((c.tc : Thread Cert.InB.nD Cert.InB.τ).loc Cert.InB.main_arg3)
      ∧ r.2.mem ((c.tc : Thread Cert.InB.nD Cert.InB.τ).loc Cert.InB.main_arg4) = m ((c.tc : Thread Cert.InB.nD Cert.InB.τ).loc Cert.InB.main_arg4))
      ∧ r.2.sem = fun _ => 0)

def quiescent_InBIdeal [hInBIdeal : Cert.InBIdeal.Facts] : Prop :=
  ∀ (m : (ℓ : Loc Cert.InBIdeal.nD Cert.InBIdeal.τ Cert.InBIdeal.sig) → Buf (Elt Ideal) ℓ) (g : Dev Cert.InBIdeal.nD → PrngReg), Pre_InBIdeal m →
    θ_run (Cert.InBIdeal.defs (F := Ideal)) (onTc (τ := Cert.InBIdeal.τ) (Cert.InBIdeal.main (F := Ideal))) ⟨m, fun _ => 0, g⟩ (fun r => (∀ c : Dev Cert.InBIdeal.nD,
      r.2.mem ((c.tc : Thread Cert.InBIdeal.nD Cert.InBIdeal.τ).loc Cert.InBIdeal.main_arg0) = m ((c.tc : Thread Cert.InBIdeal.nD Cert.InBIdeal.τ).loc Cert.InBIdeal.main_arg0)
      ∧ r.2.mem ((c.tc : Thread Cert.InBIdeal.nD Cert.InBIdeal.τ).loc Cert.InBIdeal.main_arg1) = m ((c.tc : Thread Cert.InBIdeal.nD Cert.InBIdeal.τ).loc Cert.InBIdeal.main_arg1)
      ∧ r.2.mem ((c.tc : Thread Cert.InBIdeal.nD Cert.InBIdeal.τ).loc Cert.InBIdeal.main_arg2) = m ((c.tc : Thread Cert.InBIdeal.nD Cert.InBIdeal.τ).loc Cert.InBIdeal.main_arg2)
      ∧ r.2.mem ((c.tc : Thread Cert.InBIdeal.nD Cert.InBIdeal.τ).loc Cert.InBIdeal.main_arg3) = m ((c.tc : Thread Cert.InBIdeal.nD Cert.InBIdeal.τ).loc Cert.InBIdeal.main_arg3)
      ∧ r.2.mem ((c.tc : Thread Cert.InBIdeal.nD Cert.InBIdeal.τ).loc Cert.InBIdeal.main_arg4) = m ((c.tc : Thread Cert.InBIdeal.nD Cert.InBIdeal.τ).loc Cert.InBIdeal.main_arg4))
      ∧ r.2.sem = fun _ => 0)

def quiescent_InBIdeal_pre_inb_finite [hInBIdeal : Cert.InBIdeal.Facts] [hPre_inb_finite : Cert.Pre_inb_finite.Facts] : Prop :=
  ∀ (m : (ℓ : Loc Cert.InBIdeal.nD Cert.InBIdeal.τ Cert.InBIdeal.sig) → Buf (Elt Ideal) ℓ) (g : Dev Cert.InBIdeal.nD → PrngReg), Pre_InBIdeal_inb_finite m →
    θ_run (Cert.InBIdeal.defs (F := Ideal)) (onTc (τ := Cert.InBIdeal.τ) (Cert.InBIdeal.main (F := Ideal))) ⟨m, fun _ => 0, g⟩ (fun r => (∀ c : Dev Cert.InBIdeal.nD,
      r.2.mem ((c.tc : Thread Cert.InBIdeal.nD Cert.InBIdeal.τ).loc Cert.InBIdeal.main_arg0) = m ((c.tc : Thread Cert.InBIdeal.nD Cert.InBIdeal.τ).loc Cert.InBIdeal.main_arg0)
      ∧ r.2.mem ((c.tc : Thread Cert.InBIdeal.nD Cert.InBIdeal.τ).loc Cert.InBIdeal.main_arg1) = m ((c.tc : Thread Cert.InBIdeal.nD Cert.InBIdeal.τ).loc Cert.InBIdeal.main_arg1)
      ∧ r.2.mem ((c.tc : Thread Cert.InBIdeal.nD Cert.InBIdeal.τ).loc Cert.InBIdeal.main_arg2) = m ((c.tc : Thread Cert.InBIdeal.nD Cert.InBIdeal.τ).loc Cert.InBIdeal.main_arg2)
      ∧ r.2.mem ((c.tc : Thread Cert.InBIdeal.nD Cert.InBIdeal.τ).loc Cert.InBIdeal.main_arg3) = m ((c.tc : Thread Cert.InBIdeal.nD Cert.InBIdeal.τ).loc Cert.InBIdeal.main_arg3)
      ∧ r.2.mem ((c.tc : Thread Cert.InBIdeal.nD Cert.InBIdeal.τ).loc Cert.InBIdeal.main_arg4) = m ((c.tc : Thread Cert.InBIdeal.nD Cert.InBIdeal.τ).loc Cert.InBIdeal.main_arg4))
      ∧ r.2.sem = fun _ => 0)

def quiescent_InBRIdeal [hInBRIdeal : Cert.InBRIdeal.Facts] : Prop :=
  ∀ (m : (ℓ : Loc Cert.InBRIdeal.nD Cert.InBRIdeal.τ Cert.InBRIdeal.sig) → Buf (Elt Ideal) ℓ) (g : Dev Cert.InBRIdeal.nD → PrngReg), Pre_InBRIdeal m →
    θ_run (Cert.InBRIdeal.defs (F := Ideal)) (onTc (τ := Cert.InBRIdeal.τ) (Cert.InBRIdeal.main (F := Ideal))) ⟨m, fun _ => 0, g⟩ (fun r => (∀ c : Dev Cert.InBRIdeal.nD,
      r.2.mem ((c.tc : Thread Cert.InBRIdeal.nD Cert.InBRIdeal.τ).loc Cert.InBRIdeal.main_arg0) = m ((c.tc : Thread Cert.InBRIdeal.nD Cert.InBRIdeal.τ).loc Cert.InBRIdeal.main_arg0)
      ∧ r.2.mem ((c.tc : Thread Cert.InBRIdeal.nD Cert.InBRIdeal.τ).loc Cert.InBRIdeal.main_arg1) = m ((c.tc : Thread Cert.InBRIdeal.nD Cert.InBRIdeal.τ).loc Cert.InBRIdeal.main_arg1)
      ∧ r.2.mem ((c.tc : Thread Cert.InBRIdeal.nD Cert.InBRIdeal.τ).loc Cert.InBRIdeal.main_arg2) = m ((c.tc : Thread Cert.InBRIdeal.nD Cert.InBRIdeal.τ).loc Cert.InBRIdeal.main_arg2)
      ∧ r.2.mem ((c.tc : Thread Cert.InBRIdeal.nD Cert.InBRIdeal.τ).loc Cert.InBRIdeal.main_arg3) = m ((c.tc : Thread Cert.InBRIdeal.nD Cert.InBRIdeal.τ).loc Cert.InBRIdeal.main_arg3)
      ∧ r.2.mem ((c.tc : Thread Cert.InBRIdeal.nD Cert.InBRIdeal.τ).loc Cert.InBRIdeal.main_arg4) = m ((c.tc : Thread Cert.InBRIdeal.nD Cert.InBRIdeal.τ).loc Cert.InBRIdeal.main_arg4))
      ∧ r.2.sem = fun _ => 0)

def quiescent_InBRIdeal_pre_inb_finite [hInBRIdeal : Cert.InBRIdeal.Facts] [hPre_inb_finite : Cert.Pre_inb_finite.Facts] : Prop :=
  ∀ (m : (ℓ : Loc Cert.InBRIdeal.nD Cert.InBRIdeal.τ Cert.InBRIdeal.sig) → Buf (Elt Ideal) ℓ) (g : Dev Cert.InBRIdeal.nD → PrngReg), Pre_InBRIdeal_inb_finite m →
    θ_run (Cert.InBRIdeal.defs (F := Ideal)) (onTc (τ := Cert.InBRIdeal.τ) (Cert.InBRIdeal.main (F := Ideal))) ⟨m, fun _ => 0, g⟩ (fun r => (∀ c : Dev Cert.InBRIdeal.nD,
      r.2.mem ((c.tc : Thread Cert.InBRIdeal.nD Cert.InBRIdeal.τ).loc Cert.InBRIdeal.main_arg0) = m ((c.tc : Thread Cert.InBRIdeal.nD Cert.InBRIdeal.τ).loc Cert.InBRIdeal.main_arg0)
      ∧ r.2.mem ((c.tc : Thread Cert.InBRIdeal.nD Cert.InBRIdeal.τ).loc Cert.InBRIdeal.main_arg1) = m ((c.tc : Thread Cert.InBRIdeal.nD Cert.InBRIdeal.τ).loc Cert.InBRIdeal.main_arg1)
      ∧ r.2.mem ((c.tc : Thread Cert.InBRIdeal.nD Cert.InBRIdeal.τ).loc Cert.InBRIdeal.main_arg2) = m ((c.tc : Thread Cert.InBRIdeal.nD Cert.InBRIdeal.τ).loc Cert.InBRIdeal.main_arg2)
      ∧ r.2.mem ((c.tc : Thread Cert.InBRIdeal.nD Cert.InBRIdeal.τ).loc Cert.InBRIdeal.main_arg3) = m ((c.tc : Thread Cert.InBRIdeal.nD Cert.InBRIdeal.τ).loc Cert.InBRIdeal.main_arg3)
      ∧ r.2.mem ((c.tc : Thread Cert.InBRIdeal.nD Cert.InBRIdeal.τ).loc Cert.InBRIdeal.main_arg4) = m ((c.tc : Thread Cert.InBRIdeal.nD Cert.InBRIdeal.τ).loc Cert.InBRIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRIdeal [hLossRIdeal : Cert.LossRIdeal.Facts] : Prop :=
  ∀ (m : (ℓ : Loc Cert.LossRIdeal.nD Cert.LossRIdeal.τ Cert.LossRIdeal.sig) → Buf (Elt Ideal) ℓ) (g : Dev Cert.LossRIdeal.nD → PrngReg), Pre_LossRIdeal m →
    θ_run (Cert.LossRIdeal.defs (F := Ideal)) (onTc (τ := Cert.LossRIdeal.τ) (Cert.LossRIdeal.main (F := Ideal))) ⟨m, fun _ => 0, g⟩ (fun r => (∀ c : Dev Cert.LossRIdeal.nD,
      r.2.mem ((c.tc : Thread Cert.LossRIdeal.nD Cert.LossRIdeal.τ).loc Cert.LossRIdeal.main_arg0) = m ((c.tc : Thread Cert.LossRIdeal.nD Cert.LossRIdeal.τ).loc Cert.LossRIdeal.main_arg0)
      ∧ r.2.mem ((c.tc : Thread Cert.LossRIdeal.nD Cert.LossRIdeal.τ).loc Cert.LossRIdeal.main_arg1) = m ((c.tc : Thread Cert.LossRIdeal.nD Cert.LossRIdeal.τ).loc Cert.LossRIdeal.main_arg1)
      ∧ r.2.mem ((c.tc : Thread Cert.LossRIdeal.nD Cert.LossRIdeal.τ).loc Cert.LossRIdeal.main_arg2) = m ((c.tc : Thread Cert.LossRIdeal.nD Cert.LossRIdeal.τ).loc Cert.LossRIdeal.main_arg2))
      ∧ r.2.sem = fun _ => 0)

def quiescent_LossRIdeal_pre_loss_finite [hLossRIdeal : Cert.LossRIdeal.Facts] [hPre_loss_finite : Cert.Pre_loss_finite.Facts] : Prop :=
  ∀ (m : (ℓ : Loc Cert.LossRIdeal.nD Cert.LossRIdeal.τ Cert.LossRIdeal.sig) → Buf (Elt Ideal) ℓ) (g : Dev Cert.LossRIdeal.nD → PrngReg), Pre_LossRIdeal_loss_finite m →
    θ_run (Cert.LossRIdeal.defs (F := Ideal)) (onTc (τ := Cert.LossRIdeal.τ) (Cert.LossRIdeal.main (F := Ideal))) ⟨m, fun _ => 0, g⟩ (fun r => (∀ c : Dev Cert.LossRIdeal.nD,
      r.2.mem ((c.tc : Thread Cert.LossRIdeal.nD Cert.LossRIdeal.τ).loc Cert.LossRIdeal.main_arg0) = m ((c.tc : Thread Cert.LossRIdeal.nD Cert.LossRIdeal.τ).loc Cert.LossRIdeal.main_arg0)
      ∧ r.2.mem ((c.tc : Thread Cert.LossRIdeal.nD Cert.LossRIdeal.τ).loc Cert.LossRIdeal.main_arg1) = m ((c.tc : Thread Cert.LossRIdeal.nD Cert.LossRIdeal.τ).loc Cert.LossRIdeal.main_arg1)
      ∧ r.2.mem ((c.tc : Thread Cert.LossRIdeal.nD Cert.LossRIdeal.τ).loc Cert.LossRIdeal.main_arg2) = m ((c.tc : Thread Cert.LossRIdeal.nD Cert.LossRIdeal.τ).loc Cert.LossRIdeal.main_arg2))
      ∧ r.2.sem = fun _ => 0)

def quiescent_MergeF [hMergeF : Cert.MergeF.Facts] : Prop :=
  ∀ (m : (ℓ : Loc Cert.MergeF.nD Cert.MergeF.τ Cert.MergeF.sig) → Buf (Elt Bits) ℓ) (g : Dev Cert.MergeF.nD → PrngReg), Pre_MergeF m →
    θ_run (Cert.MergeF.defs (F := Bits)) (onTc (τ := Cert.MergeF.τ) (Cert.MergeF.main (F := Bits))) ⟨m, fun _ => 0, g⟩ (fun r => (∀ c : Dev Cert.MergeF.nD,
      r.2.mem ((c.tc : Thread Cert.MergeF.nD Cert.MergeF.τ).loc Cert.MergeF.main_arg0) = m ((c.tc : Thread Cert.MergeF.nD Cert.MergeF.τ).loc Cert.MergeF.main_arg0)
      ∧ r.2.mem ((c.tc : Thread Cert.MergeF.nD Cert.MergeF.τ).loc Cert.MergeF.main_arg1) = m ((c.tc : Thread Cert.MergeF.nD Cert.MergeF.τ).loc Cert.MergeF.main_arg1)
      ∧ r.2.mem ((c.tc : Thread Cert.MergeF.nD Cert.MergeF.τ).loc Cert.MergeF.main_arg2) = m ((c.tc : Thread Cert.MergeF.nD Cert.MergeF.τ).loc Cert.MergeF.main_arg2)
      ∧ r.2.mem ((c.tc : Thread Cert.MergeF.nD Cert.MergeF.τ).loc Cert.MergeF.main_arg3) = m ((c.tc : Thread Cert.MergeF.nD Cert.MergeF.τ).loc Cert.MergeF.main_arg3)
      ∧ r.2.mem ((c.tc : Thread Cert.MergeF.nD Cert.MergeF.τ).loc Cert.MergeF.main_arg4) = m ((c.tc : Thread Cert.MergeF.nD Cert.MergeF.τ).loc Cert.MergeF.main_arg4)
      ∧ r.2.mem ((c.tc : Thread Cert.MergeF.nD Cert.MergeF.τ).loc Cert.MergeF.main_arg5) = m ((c.tc : Thread Cert.MergeF.nD Cert.MergeF.τ).loc Cert.MergeF.main_arg5)
      ∧ r.2.mem ((c.tc : Thread Cert.MergeF.nD Cert.MergeF.τ).loc Cert.MergeF.main_arg6) = m ((c.tc : Thread Cert.MergeF.nD Cert.MergeF.τ).loc Cert.MergeF.main_arg6)
      ∧ r.2.mem ((c.tc : Thread Cert.MergeF.nD Cert.MergeF.τ).loc Cert.MergeF.main_arg7) = m ((c.tc : Thread Cert.MergeF.nD Cert.MergeF.τ).loc Cert.MergeF.main_arg7))
      ∧ r.2.sem = fun _ => 0)

def quiescent_MergeFIdeal [hMergeFIdeal : Cert.MergeFIdeal.Facts] : Prop :=
  ∀ (m : (ℓ : Loc Cert.MergeFIdeal.nD Cert.MergeFIdeal.τ Cert.MergeFIdeal.sig) → Buf (Elt Ideal) ℓ) (g : Dev Cert.MergeFIdeal.nD → PrngReg), Pre_MergeFIdeal m →
    θ_run (Cert.MergeFIdeal.defs (F := Ideal)) (onTc (τ := Cert.MergeFIdeal.τ) (Cert.MergeFIdeal.main (F := Ideal))) ⟨m, fun _ => 0, g⟩ (fun r => (∀ c : Dev Cert.MergeFIdeal.nD,
      r.2.mem ((c.tc : Thread Cert.MergeFIdeal.nD Cert.MergeFIdeal.τ).loc Cert.MergeFIdeal.main_arg0) = m ((c.tc : Thread Cert.MergeFIdeal.nD Cert.MergeFIdeal.τ).loc Cert.MergeFIdeal.main_arg0)
      ∧ r.2.mem ((c.tc : Thread Cert.MergeFIdeal.nD Cert.MergeFIdeal.τ).loc Cert.MergeFIdeal.main_arg1) = m ((c.tc : Thread Cert.MergeFIdeal.nD Cert.MergeFIdeal.τ).loc Cert.MergeFIdeal.main_arg1)
      ∧ r.2.mem ((c.tc : Thread Cert.MergeFIdeal.nD Cert.MergeFIdeal.τ).loc Cert.MergeFIdeal.main_arg2) = m ((c.tc : Thread Cert.MergeFIdeal.nD Cert.MergeFIdeal.τ).loc Cert.MergeFIdeal.main_arg2)
      ∧ r.2.mem ((c.tc : Thread Cert.MergeFIdeal.nD Cert.MergeFIdeal.τ).loc Cert.MergeFIdeal.main_arg3) = m ((c.tc : Thread Cert.MergeFIdeal.nD Cert.MergeFIdeal.τ).loc Cert.MergeFIdeal.main_arg3)
      ∧ r.2.mem ((c.tc : Thread Cert.MergeFIdeal.nD Cert.MergeFIdeal.τ).loc Cert.MergeFIdeal.main_arg4) = m ((c.tc : Thread Cert.MergeFIdeal.nD Cert.MergeFIdeal.τ).loc Cert.MergeFIdeal.main_arg4)
      ∧ r.2.mem ((c.tc : Thread Cert.MergeFIdeal.nD Cert.MergeFIdeal.τ).loc Cert.MergeFIdeal.main_arg5) = m ((c.tc : Thread Cert.MergeFIdeal.nD Cert.MergeFIdeal.τ).loc Cert.MergeFIdeal.main_arg5)
      ∧ r.2.mem ((c.tc : Thread Cert.MergeFIdeal.nD Cert.MergeFIdeal.τ).loc Cert.MergeFIdeal.main_arg6) = m ((c.tc : Thread Cert.MergeFIdeal.nD Cert.MergeFIdeal.τ).loc Cert.MergeFIdeal.main_arg6)
      ∧ r.2.mem ((c.tc : Thread Cert.MergeFIdeal.nD Cert.MergeFIdeal.τ).loc Cert.MergeFIdeal.main_arg7) = m ((c.tc : Thread Cert.MergeFIdeal.nD Cert.MergeFIdeal.τ).loc Cert.MergeFIdeal.main_arg7))
      ∧ r.2.sem = fun _ => 0)

def quiescent_MergeFRIdeal [hMergeFRIdeal : Cert.MergeFRIdeal.Facts] : Prop :=
  ∀ (m : (ℓ : Loc Cert.MergeFRIdeal.nD Cert.MergeFRIdeal.τ Cert.MergeFRIdeal.sig) → Buf (Elt Ideal) ℓ) (g : Dev Cert.MergeFRIdeal.nD → PrngReg), Pre_MergeFRIdeal m →
    θ_run (Cert.MergeFRIdeal.defs (F := Ideal)) (onTc (τ := Cert.MergeFRIdeal.τ) (Cert.MergeFRIdeal.main (F := Ideal))) ⟨m, fun _ => 0, g⟩ (fun r => (∀ c : Dev Cert.MergeFRIdeal.nD,
      r.2.mem ((c.tc : Thread Cert.MergeFRIdeal.nD Cert.MergeFRIdeal.τ).loc Cert.MergeFRIdeal.main_arg0) = m ((c.tc : Thread Cert.MergeFRIdeal.nD Cert.MergeFRIdeal.τ).loc Cert.MergeFRIdeal.main_arg0)
      ∧ r.2.mem ((c.tc : Thread Cert.MergeFRIdeal.nD Cert.MergeFRIdeal.τ).loc Cert.MergeFRIdeal.main_arg1) = m ((c.tc : Thread Cert.MergeFRIdeal.nD Cert.MergeFRIdeal.τ).loc Cert.MergeFRIdeal.main_arg1)
      ∧ r.2.mem ((c.tc : Thread Cert.MergeFRIdeal.nD Cert.MergeFRIdeal.τ).loc Cert.MergeFRIdeal.main_arg2) = m ((c.tc : Thread Cert.MergeFRIdeal.nD Cert.MergeFRIdeal.τ).loc Cert.MergeFRIdeal.main_arg2)
      ∧ r.2.mem ((c.tc : Thread Cert.MergeFRIdeal.nD Cert.MergeFRIdeal.τ).loc Cert.MergeFRIdeal.main_arg3) = m ((c.tc : Thread Cert.MergeFRIdeal.nD Cert.MergeFRIdeal.τ).loc Cert.MergeFRIdeal.main_arg3)
      ∧ r.2.mem ((c.tc : Thread Cert.MergeFRIdeal.nD Cert.MergeFRIdeal.τ).loc Cert.MergeFRIdeal.main_arg4) = m ((c.tc : Thread Cert.MergeFRIdeal.nD Cert.MergeFRIdeal.τ).loc Cert.MergeFRIdeal.main_arg4)
      ∧ r.2.mem ((c.tc : Thread Cert.MergeFRIdeal.nD Cert.MergeFRIdeal.τ).loc Cert.MergeFRIdeal.main_arg5) = m ((c.tc : Thread Cert.MergeFRIdeal.nD Cert.MergeFRIdeal.τ).loc Cert.MergeFRIdeal.main_arg5)
      ∧ r.2.mem ((c.tc : Thread Cert.MergeFRIdeal.nD Cert.MergeFRIdeal.τ).loc Cert.MergeFRIdeal.main_arg6) = m ((c.tc : Thread Cert.MergeFRIdeal.nD Cert.MergeFRIdeal.τ).loc Cert.MergeFRIdeal.main_arg6)
      ∧ r.2.mem ((c.tc : Thread Cert.MergeFRIdeal.nD Cert.MergeFRIdeal.τ).loc Cert.MergeFRIdeal.main_arg7) = m ((c.tc : Thread Cert.MergeFRIdeal.nD Cert.MergeFRIdeal.τ).loc Cert.MergeFRIdeal.main_arg7))
      ∧ r.2.sem = fun _ => 0)

def quiescent_MergeB [hMergeB : Cert.MergeB.Facts] : Prop :=
  ∀ (m : (ℓ : Loc Cert.MergeB.nD Cert.MergeB.τ Cert.MergeB.sig) → Buf (Elt Bits) ℓ) (g : Dev Cert.MergeB.nD → PrngReg), Pre_MergeB m →
    θ_run (Cert.MergeB.defs (F := Bits)) (onTc (τ := Cert.MergeB.τ) (Cert.MergeB.main (F := Bits))) ⟨m, fun _ => 0, g⟩ (fun r => (∀ c : Dev Cert.MergeB.nD,
      r.2.mem ((c.tc : Thread Cert.MergeB.nD Cert.MergeB.τ).loc Cert.MergeB.main_arg0) = m ((c.tc : Thread Cert.MergeB.nD Cert.MergeB.τ).loc Cert.MergeB.main_arg0)
      ∧ r.2.mem ((c.tc : Thread Cert.MergeB.nD Cert.MergeB.τ).loc Cert.MergeB.main_arg1) = m ((c.tc : Thread Cert.MergeB.nD Cert.MergeB.τ).loc Cert.MergeB.main_arg1)
      ∧ r.2.mem ((c.tc : Thread Cert.MergeB.nD Cert.MergeB.τ).loc Cert.MergeB.main_arg2) = m ((c.tc : Thread Cert.MergeB.nD Cert.MergeB.τ).loc Cert.MergeB.main_arg2)
      ∧ r.2.mem ((c.tc : Thread Cert.MergeB.nD Cert.MergeB.τ).loc Cert.MergeB.main_arg3) = m ((c.tc : Thread Cert.MergeB.nD Cert.MergeB.τ).loc Cert.MergeB.main_arg3)
      ∧ r.2.mem ((c.tc : Thread Cert.MergeB.nD Cert.MergeB.τ).loc Cert.MergeB.main_arg4) = m ((c.tc : Thread Cert.MergeB.nD Cert.MergeB.τ).loc Cert.MergeB.main_arg4)
      ∧ r.2.mem ((c.tc : Thread Cert.MergeB.nD Cert.MergeB.τ).loc Cert.MergeB.main_arg5) = m ((c.tc : Thread Cert.MergeB.nD Cert.MergeB.τ).loc Cert.MergeB.main_arg5)
      ∧ r.2.mem ((c.tc : Thread Cert.MergeB.nD Cert.MergeB.τ).loc Cert.MergeB.main_arg6) = m ((c.tc : Thread Cert.MergeB.nD Cert.MergeB.τ).loc Cert.MergeB.main_arg6)
      ∧ r.2.mem ((c.tc : Thread Cert.MergeB.nD Cert.MergeB.τ).loc Cert.MergeB.main_arg7) = m ((c.tc : Thread Cert.MergeB.nD Cert.MergeB.τ).loc Cert.MergeB.main_arg7))
      ∧ r.2.sem = fun _ => 0)

def quiescent_MergeBIdeal [hMergeBIdeal : Cert.MergeBIdeal.Facts] : Prop :=
  ∀ (m : (ℓ : Loc Cert.MergeBIdeal.nD Cert.MergeBIdeal.τ Cert.MergeBIdeal.sig) → Buf (Elt Ideal) ℓ) (g : Dev Cert.MergeBIdeal.nD → PrngReg), Pre_MergeBIdeal m →
    θ_run (Cert.MergeBIdeal.defs (F := Ideal)) (onTc (τ := Cert.MergeBIdeal.τ) (Cert.MergeBIdeal.main (F := Ideal))) ⟨m, fun _ => 0, g⟩ (fun r => (∀ c : Dev Cert.MergeBIdeal.nD,
      r.2.mem ((c.tc : Thread Cert.MergeBIdeal.nD Cert.MergeBIdeal.τ).loc Cert.MergeBIdeal.main_arg0) = m ((c.tc : Thread Cert.MergeBIdeal.nD Cert.MergeBIdeal.τ).loc Cert.MergeBIdeal.main_arg0)
      ∧ r.2.mem ((c.tc : Thread Cert.MergeBIdeal.nD Cert.MergeBIdeal.τ).loc Cert.MergeBIdeal.main_arg1) = m ((c.tc : Thread Cert.MergeBIdeal.nD Cert.MergeBIdeal.τ).loc Cert.MergeBIdeal.main_arg1)
      ∧ r.2.mem ((c.tc : Thread Cert.MergeBIdeal.nD Cert.MergeBIdeal.τ).loc Cert.MergeBIdeal.main_arg2) = m ((c.tc : Thread Cert.MergeBIdeal.nD Cert.MergeBIdeal.τ).loc Cert.MergeBIdeal.main_arg2)
      ∧ r.2.mem ((c.tc : Thread Cert.MergeBIdeal.nD Cert.MergeBIdeal.τ).loc Cert.MergeBIdeal.main_arg3) = m ((c.tc : Thread Cert.MergeBIdeal.nD Cert.MergeBIdeal.τ).loc Cert.MergeBIdeal.main_arg3)
      ∧ r.2.mem ((c.tc : Thread Cert.MergeBIdeal.nD Cert.MergeBIdeal.τ).loc Cert.MergeBIdeal.main_arg4) = m ((c.tc : Thread Cert.MergeBIdeal.nD Cert.MergeBIdeal.τ).loc Cert.MergeBIdeal.main_arg4)
      ∧ r.2.mem ((c.tc : Thread Cert.MergeBIdeal.nD Cert.MergeBIdeal.τ).loc Cert.MergeBIdeal.main_arg5) = m ((c.tc : Thread Cert.MergeBIdeal.nD Cert.MergeBIdeal.τ).loc Cert.MergeBIdeal.main_arg5)
      ∧ r.2.mem ((c.tc : Thread Cert.MergeBIdeal.nD Cert.MergeBIdeal.τ).loc Cert.MergeBIdeal.main_arg6) = m ((c.tc : Thread Cert.MergeBIdeal.nD Cert.MergeBIdeal.τ).loc Cert.MergeBIdeal.main_arg6)
      ∧ r.2.mem ((c.tc : Thread Cert.MergeBIdeal.nD Cert.MergeBIdeal.τ).loc Cert.MergeBIdeal.main_arg7) = m ((c.tc : Thread Cert.MergeBIdeal.nD Cert.MergeBIdeal.τ).loc Cert.MergeBIdeal.main_arg7))
      ∧ r.2.sem = fun _ => 0)

def quiescent_MergeBRIdeal [hMergeBRIdeal : Cert.MergeBRIdeal.Facts] : Prop :=
  ∀ (m : (ℓ : Loc Cert.MergeBRIdeal.nD Cert.MergeBRIdeal.τ Cert.MergeBRIdeal.sig) → Buf (Elt Ideal) ℓ) (g : Dev Cert.MergeBRIdeal.nD → PrngReg), Pre_MergeBRIdeal m →
    θ_run (Cert.MergeBRIdeal.defs (F := Ideal)) (onTc (τ := Cert.MergeBRIdeal.τ) (Cert.MergeBRIdeal.main (F := Ideal))) ⟨m, fun _ => 0, g⟩ (fun r => (∀ c : Dev Cert.MergeBRIdeal.nD,
      r.2.mem ((c.tc : Thread Cert.MergeBRIdeal.nD Cert.MergeBRIdeal.τ).loc Cert.MergeBRIdeal.main_arg0) = m ((c.tc : Thread Cert.MergeBRIdeal.nD Cert.MergeBRIdeal.τ).loc Cert.MergeBRIdeal.main_arg0)
      ∧ r.2.mem ((c.tc : Thread Cert.MergeBRIdeal.nD Cert.MergeBRIdeal.τ).loc Cert.MergeBRIdeal.main_arg1) = m ((c.tc : Thread Cert.MergeBRIdeal.nD Cert.MergeBRIdeal.τ).loc Cert.MergeBRIdeal.main_arg1)
      ∧ r.2.mem ((c.tc : Thread Cert.MergeBRIdeal.nD Cert.MergeBRIdeal.τ).loc Cert.MergeBRIdeal.main_arg2) = m ((c.tc : Thread Cert.MergeBRIdeal.nD Cert.MergeBRIdeal.τ).loc Cert.MergeBRIdeal.main_arg2)
      ∧ r.2.mem ((c.tc : Thread Cert.MergeBRIdeal.nD Cert.MergeBRIdeal.τ).loc Cert.MergeBRIdeal.main_arg3) = m ((c.tc : Thread Cert.MergeBRIdeal.nD Cert.MergeBRIdeal.τ).loc Cert.MergeBRIdeal.main_arg3)
      ∧ r.2.mem ((c.tc : Thread Cert.MergeBRIdeal.nD Cert.MergeBRIdeal.τ).loc Cert.MergeBRIdeal.main_arg4) = m ((c.tc : Thread Cert.MergeBRIdeal.nD Cert.MergeBRIdeal.τ).loc Cert.MergeBRIdeal.main_arg4)
      ∧ r.2.mem ((c.tc : Thread Cert.MergeBRIdeal.nD Cert.MergeBRIdeal.τ).loc Cert.MergeBRIdeal.main_arg5) = m ((c.tc : Thread Cert.MergeBRIdeal.nD Cert.MergeBRIdeal.τ).loc Cert.MergeBRIdeal.main_arg5)
      ∧ r.2.mem ((c.tc : Thread Cert.MergeBRIdeal.nD Cert.MergeBRIdeal.τ).loc Cert.MergeBRIdeal.main_arg6) = m ((c.tc : Thread Cert.MergeBRIdeal.nD Cert.MergeBRIdeal.τ).loc Cert.MergeBRIdeal.main_arg6)
      ∧ r.2.mem ((c.tc : Thread Cert.MergeBRIdeal.nD Cert.MergeBRIdeal.τ).loc Cert.MergeBRIdeal.main_arg7) = m ((c.tc : Thread Cert.MergeBRIdeal.nD Cert.MergeBRIdeal.τ).loc Cert.MergeBRIdeal.main_arg7))
      ∧ r.2.sem = fun _ => 0)

def quiescent_FfnF [hFfnF : Cert.FfnF.Facts] : Prop :=
  ∀ (m : (ℓ : Loc Cert.FfnF.nD Cert.FfnF.τ Cert.FfnF.sig) → Buf (Elt Bits) ℓ) (g : Dev Cert.FfnF.nD → PrngReg), Pre_FfnF m →
    θ_run (Cert.FfnF.defs (F := Bits)) (onTc (τ := Cert.FfnF.τ) (Cert.FfnF.main (F := Bits))) ⟨m, fun _ => 0, g⟩ (fun r => (∀ c : Dev Cert.FfnF.nD,
      r.2.mem ((c.tc : Thread Cert.FfnF.nD Cert.FfnF.τ).loc Cert.FfnF.main_arg0) = m ((c.tc : Thread Cert.FfnF.nD Cert.FfnF.τ).loc Cert.FfnF.main_arg0)
      ∧ r.2.mem ((c.tc : Thread Cert.FfnF.nD Cert.FfnF.τ).loc Cert.FfnF.main_arg1) = m ((c.tc : Thread Cert.FfnF.nD Cert.FfnF.τ).loc Cert.FfnF.main_arg1)
      ∧ r.2.mem ((c.tc : Thread Cert.FfnF.nD Cert.FfnF.τ).loc Cert.FfnF.main_arg2) = m ((c.tc : Thread Cert.FfnF.nD Cert.FfnF.τ).loc Cert.FfnF.main_arg2)
      ∧ r.2.mem ((c.tc : Thread Cert.FfnF.nD Cert.FfnF.τ).loc Cert.FfnF.main_arg3) = m ((c.tc : Thread Cert.FfnF.nD Cert.FfnF.τ).loc Cert.FfnF.main_arg3)
      ∧ r.2.mem ((c.tc : Thread Cert.FfnF.nD Cert.FfnF.τ).loc Cert.FfnF.main_arg4) = m ((c.tc : Thread Cert.FfnF.nD Cert.FfnF.τ).loc Cert.FfnF.main_arg4))
      ∧ r.2.sem = fun _ => 0)

def quiescent_FfnFIdeal [hFfnFIdeal : Cert.FfnFIdeal.Facts] : Prop :=
  ∀ (m : (ℓ : Loc Cert.FfnFIdeal.nD Cert.FfnFIdeal.τ Cert.FfnFIdeal.sig) → Buf (Elt Ideal) ℓ) (g : Dev Cert.FfnFIdeal.nD → PrngReg), Pre_FfnFIdeal m →
    θ_run (Cert.FfnFIdeal.defs (F := Ideal)) (onTc (τ := Cert.FfnFIdeal.τ) (Cert.FfnFIdeal.main (F := Ideal))) ⟨m, fun _ => 0, g⟩ (fun r => (∀ c : Dev Cert.FfnFIdeal.nD,
      r.2.mem ((c.tc : Thread Cert.FfnFIdeal.nD Cert.FfnFIdeal.τ).loc Cert.FfnFIdeal.main_arg0) = m ((c.tc : Thread Cert.FfnFIdeal.nD Cert.FfnFIdeal.τ).loc Cert.FfnFIdeal.main_arg0)
      ∧ r.2.mem ((c.tc : Thread Cert.FfnFIdeal.nD Cert.FfnFIdeal.τ).loc Cert.FfnFIdeal.main_arg1) = m ((c.tc : Thread Cert.FfnFIdeal.nD Cert.FfnFIdeal.τ).loc Cert.FfnFIdeal.main_arg1)
      ∧ r.2.mem ((c.tc : Thread Cert.FfnFIdeal.nD Cert.FfnFIdeal.τ).loc Cert.FfnFIdeal.main_arg2) = m ((c.tc : Thread Cert.FfnFIdeal.nD Cert.FfnFIdeal.τ).loc Cert.FfnFIdeal.main_arg2)
      ∧ r.2.mem ((c.tc : Thread Cert.FfnFIdeal.nD Cert.FfnFIdeal.τ).loc Cert.FfnFIdeal.main_arg3) = m ((c.tc : Thread Cert.FfnFIdeal.nD Cert.FfnFIdeal.τ).loc Cert.FfnFIdeal.main_arg3)
      ∧ r.2.mem ((c.tc : Thread Cert.FfnFIdeal.nD Cert.FfnFIdeal.τ).loc Cert.FfnFIdeal.main_arg4) = m ((c.tc : Thread Cert.FfnFIdeal.nD Cert.FfnFIdeal.τ).loc Cert.FfnFIdeal.main_arg4))
      ∧ r.2.sem = fun _ => 0)

def quiescent_FfnFRIdeal [hFfnFRIdeal : Cert.FfnFRIdeal.Facts] : Prop :=
  ∀ (m : (ℓ : Loc Cert.FfnFRIdeal.nD Cert.FfnFRIdeal.τ Cert.FfnFRIdeal.sig) → Buf (Elt Ideal) ℓ) (g : Dev Cert.FfnFRIdeal.nD → PrngReg), Pre_FfnFRIdeal m →
    θ_run (Cert.FfnFRIdeal.defs (F := Ideal)) (onTc (τ := Cert.FfnFRIdeal.τ) (Cert.FfnFRIdeal.main (F := Ideal))) ⟨m, fun _ => 0, g⟩ (fun r => (∀ c : Dev Cert.FfnFRIdeal.nD,
      r.2.mem ((c.tc : Thread Cert.FfnFRIdeal.nD Cert.FfnFRIdeal.τ).loc Cert.FfnFRIdeal.main_arg0) = m ((c.tc : Thread Cert.FfnFRIdeal.nD Cert.FfnFRIdeal.τ).loc Cert.FfnFRIdeal.main_arg0)
      ∧ r.2.mem ((c.tc : Thread Cert.FfnFRIdeal.nD Cert.FfnFRIdeal.τ).loc Cert.FfnFRIdeal.main_arg1) = m ((c.tc : Thread Cert.FfnFRIdeal.nD Cert.FfnFRIdeal.τ).loc Cert.FfnFRIdeal.main_arg1)
      ∧ r.2.mem ((c.tc : Thread Cert.FfnFRIdeal.nD Cert.FfnFRIdeal.τ).loc Cert.FfnFRIdeal.main_arg2) = m ((c.tc : Thread Cert.FfnFRIdeal.nD Cert.FfnFRIdeal.τ).loc Cert.FfnFRIdeal.main_arg2)
      ∧ r.2.mem ((c.tc : Thread Cert.FfnFRIdeal.nD Cert.FfnFRIdeal.τ).loc Cert.FfnFRIdeal.main_arg3) = m ((c.tc : Thread Cert.FfnFRIdeal.nD Cert.FfnFRIdeal.τ).loc Cert.FfnFRIdeal.main_arg3)
      ∧ r.2.mem ((c.tc : Thread Cert.FfnFRIdeal.nD Cert.FfnFRIdeal.τ).loc Cert.FfnFRIdeal.main_arg4) = m ((c.tc : Thread Cert.FfnFRIdeal.nD Cert.FfnFRIdeal.τ).loc Cert.FfnFRIdeal.main_arg4))
      ∧ r.2.sem = fun _ => 0)

def quiescent_MixF [hMixF : Cert.MixF.Facts] : Prop :=
  ∀ (m : (ℓ : Loc Cert.MixF.nD Cert.MixF.τ Cert.MixF.sig) → Buf (Elt Bits) ℓ) (g : Dev Cert.MixF.nD → PrngReg), Pre_MixF m →
    θ_run (Cert.MixF.defs (F := Bits)) (onTc (τ := Cert.MixF.τ) (Cert.MixF.main (F := Bits))) ⟨m, fun _ => 0, g⟩ (fun r => (∀ c : Dev Cert.MixF.nD,
      r.2.mem ((c.tc : Thread Cert.MixF.nD Cert.MixF.τ).loc Cert.MixF.main_arg0) = m ((c.tc : Thread Cert.MixF.nD Cert.MixF.τ).loc Cert.MixF.main_arg0)
      ∧ r.2.mem ((c.tc : Thread Cert.MixF.nD Cert.MixF.τ).loc Cert.MixF.main_arg1) = m ((c.tc : Thread Cert.MixF.nD Cert.MixF.τ).loc Cert.MixF.main_arg1)
      ∧ r.2.mem ((c.tc : Thread Cert.MixF.nD Cert.MixF.τ).loc Cert.MixF.main_arg2) = m ((c.tc : Thread Cert.MixF.nD Cert.MixF.τ).loc Cert.MixF.main_arg2)
      ∧ r.2.mem ((c.tc : Thread Cert.MixF.nD Cert.MixF.τ).loc Cert.MixF.main_arg3) = m ((c.tc : Thread Cert.MixF.nD Cert.MixF.τ).loc Cert.MixF.main_arg3)
      ∧ r.2.mem ((c.tc : Thread Cert.MixF.nD Cert.MixF.τ).loc Cert.MixF.main_arg4) = m ((c.tc : Thread Cert.MixF.nD Cert.MixF.τ).loc Cert.MixF.main_arg4)
      ∧ r.2.mem ((c.tc : Thread Cert.MixF.nD Cert.MixF.τ).loc Cert.MixF.main_arg5) = m ((c.tc : Thread Cert.MixF.nD Cert.MixF.τ).loc Cert.MixF.main_arg5)
      ∧ r.2.mem ((c.tc : Thread Cert.MixF.nD Cert.MixF.τ).loc Cert.MixF.main_arg6) = m ((c.tc : Thread Cert.MixF.nD Cert.MixF.τ).loc Cert.MixF.main_arg6)
      ∧ r.2.mem ((c.tc : Thread Cert.MixF.nD Cert.MixF.τ).loc Cert.MixF.main_arg7) = m ((c.tc : Thread Cert.MixF.nD Cert.MixF.τ).loc Cert.MixF.main_arg7)
      ∧ r.2.mem ((c.tc : Thread Cert.MixF.nD Cert.MixF.τ).loc Cert.MixF.main_arg8) = m ((c.tc : Thread Cert.MixF.nD Cert.MixF.τ).loc Cert.MixF.main_arg8))
      ∧ r.2.sem = fun _ => 0)

def quiescent_MixFIdeal [hMixFIdeal : Cert.MixFIdeal.Facts] : Prop :=
  ∀ (m : (ℓ : Loc Cert.MixFIdeal.nD Cert.MixFIdeal.τ Cert.MixFIdeal.sig) → Buf (Elt Ideal) ℓ) (g : Dev Cert.MixFIdeal.nD → PrngReg), Pre_MixFIdeal m →
    θ_run (Cert.MixFIdeal.defs (F := Ideal)) (onTc (τ := Cert.MixFIdeal.τ) (Cert.MixFIdeal.main (F := Ideal))) ⟨m, fun _ => 0, g⟩ (fun r => (∀ c : Dev Cert.MixFIdeal.nD,
      r.2.mem ((c.tc : Thread Cert.MixFIdeal.nD Cert.MixFIdeal.τ).loc Cert.MixFIdeal.main_arg0) = m ((c.tc : Thread Cert.MixFIdeal.nD Cert.MixFIdeal.τ).loc Cert.MixFIdeal.main_arg0)
      ∧ r.2.mem ((c.tc : Thread Cert.MixFIdeal.nD Cert.MixFIdeal.τ).loc Cert.MixFIdeal.main_arg1) = m ((c.tc : Thread Cert.MixFIdeal.nD Cert.MixFIdeal.τ).loc Cert.MixFIdeal.main_arg1)
      ∧ r.2.mem ((c.tc : Thread Cert.MixFIdeal.nD Cert.MixFIdeal.τ).loc Cert.MixFIdeal.main_arg2) = m ((c.tc : Thread Cert.MixFIdeal.nD Cert.MixFIdeal.τ).loc Cert.MixFIdeal.main_arg2)
      ∧ r.2.mem ((c.tc : Thread Cert.MixFIdeal.nD Cert.MixFIdeal.τ).loc Cert.MixFIdeal.main_arg3) = m ((c.tc : Thread Cert.MixFIdeal.nD Cert.MixFIdeal.τ).loc Cert.MixFIdeal.main_arg3)
      ∧ r.2.mem ((c.tc : Thread Cert.MixFIdeal.nD Cert.MixFIdeal.τ).loc Cert.MixFIdeal.main_arg4) = m ((c.tc : Thread Cert.MixFIdeal.nD Cert.MixFIdeal.τ).loc Cert.MixFIdeal.main_arg4)
      ∧ r.2.mem ((c.tc : Thread Cert.MixFIdeal.nD Cert.MixFIdeal.τ).loc Cert.MixFIdeal.main_arg5) = m ((c.tc : Thread Cert.MixFIdeal.nD Cert.MixFIdeal.τ).loc Cert.MixFIdeal.main_arg5)
      ∧ r.2.mem ((c.tc : Thread Cert.MixFIdeal.nD Cert.MixFIdeal.τ).loc Cert.MixFIdeal.main_arg6) = m ((c.tc : Thread Cert.MixFIdeal.nD Cert.MixFIdeal.τ).loc Cert.MixFIdeal.main_arg6)
      ∧ r.2.mem ((c.tc : Thread Cert.MixFIdeal.nD Cert.MixFIdeal.τ).loc Cert.MixFIdeal.main_arg7) = m ((c.tc : Thread Cert.MixFIdeal.nD Cert.MixFIdeal.τ).loc Cert.MixFIdeal.main_arg7)
      ∧ r.2.mem ((c.tc : Thread Cert.MixFIdeal.nD Cert.MixFIdeal.τ).loc Cert.MixFIdeal.main_arg8) = m ((c.tc : Thread Cert.MixFIdeal.nD Cert.MixFIdeal.τ).loc Cert.MixFIdeal.main_arg8))
      ∧ r.2.sem = fun _ => 0)

def quiescent_MixFRIdeal [hMixFRIdeal : Cert.MixFRIdeal.Facts] : Prop :=
  ∀ (m : (ℓ : Loc Cert.MixFRIdeal.nD Cert.MixFRIdeal.τ Cert.MixFRIdeal.sig) → Buf (Elt Ideal) ℓ) (g : Dev Cert.MixFRIdeal.nD → PrngReg), Pre_MixFRIdeal m →
    θ_run (Cert.MixFRIdeal.defs (F := Ideal)) (onTc (τ := Cert.MixFRIdeal.τ) (Cert.MixFRIdeal.main (F := Ideal))) ⟨m, fun _ => 0, g⟩ (fun r => (∀ c : Dev Cert.MixFRIdeal.nD,
      r.2.mem ((c.tc : Thread Cert.MixFRIdeal.nD Cert.MixFRIdeal.τ).loc Cert.MixFRIdeal.main_arg0) = m ((c.tc : Thread Cert.MixFRIdeal.nD Cert.MixFRIdeal.τ).loc Cert.MixFRIdeal.main_arg0)
      ∧ r.2.mem ((c.tc : Thread Cert.MixFRIdeal.nD Cert.MixFRIdeal.τ).loc Cert.MixFRIdeal.main_arg1) = m ((c.tc : Thread Cert.MixFRIdeal.nD Cert.MixFRIdeal.τ).loc Cert.MixFRIdeal.main_arg1)
      ∧ r.2.mem ((c.tc : Thread Cert.MixFRIdeal.nD Cert.MixFRIdeal.τ).loc Cert.MixFRIdeal.main_arg2) = m ((c.tc : Thread Cert.MixFRIdeal.nD Cert.MixFRIdeal.τ).loc Cert.MixFRIdeal.main_arg2)
      ∧ r.2.mem ((c.tc : Thread Cert.MixFRIdeal.nD Cert.MixFRIdeal.τ).loc Cert.MixFRIdeal.main_arg3) = m ((c.tc : Thread Cert.MixFRIdeal.nD Cert.MixFRIdeal.τ).loc Cert.MixFRIdeal.main_arg3)
      ∧ r.2.mem ((c.tc : Thread Cert.MixFRIdeal.nD Cert.MixFRIdeal.τ).loc Cert.MixFRIdeal.main_arg4) = m ((c.tc : Thread Cert.MixFRIdeal.nD Cert.MixFRIdeal.τ).loc Cert.MixFRIdeal.main_arg4)
      ∧ r.2.mem ((c.tc : Thread Cert.MixFRIdeal.nD Cert.MixFRIdeal.τ).loc Cert.MixFRIdeal.main_arg5) = m ((c.tc : Thread Cert.MixFRIdeal.nD Cert.MixFRIdeal.τ).loc Cert.MixFRIdeal.main_arg5)
      ∧ r.2.mem ((c.tc : Thread Cert.MixFRIdeal.nD Cert.MixFRIdeal.τ).loc Cert.MixFRIdeal.main_arg6) = m ((c.tc : Thread Cert.MixFRIdeal.nD Cert.MixFRIdeal.τ).loc Cert.MixFRIdeal.main_arg6)
      ∧ r.2.mem ((c.tc : Thread Cert.MixFRIdeal.nD Cert.MixFRIdeal.τ).loc Cert.MixFRIdeal.main_arg7) = m ((c.tc : Thread Cert.MixFRIdeal.nD Cert.MixFRIdeal.τ).loc Cert.MixFRIdeal.main_arg7)
      ∧ r.2.mem ((c.tc : Thread Cert.MixFRIdeal.nD Cert.MixFRIdeal.τ).loc Cert.MixFRIdeal.main_arg8) = m ((c.tc : Thread Cert.MixFRIdeal.nD Cert.MixFRIdeal.τ).loc Cert.MixFRIdeal.main_arg8))
      ∧ r.2.sem = fun _ => 0)

def quiescent_InF [hInF : Cert.InF.Facts] : Prop :=
  ∀ (m : (ℓ : Loc Cert.InF.nD Cert.InF.τ Cert.InF.sig) → Buf (Elt Bits) ℓ) (g : Dev Cert.InF.nD → PrngReg), Pre_InF m →
    θ_run (Cert.InF.defs (F := Bits)) (onTc (τ := Cert.InF.τ) (Cert.InF.main (F := Bits))) ⟨m, fun _ => 0, g⟩ (fun r => (∀ c : Dev Cert.InF.nD,
      r.2.mem ((c.tc : Thread Cert.InF.nD Cert.InF.τ).loc Cert.InF.main_arg0) = m ((c.tc : Thread Cert.InF.nD Cert.InF.τ).loc Cert.InF.main_arg0)
      ∧ r.2.mem ((c.tc : Thread Cert.InF.nD Cert.InF.τ).loc Cert.InF.main_arg1) = m ((c.tc : Thread Cert.InF.nD Cert.InF.τ).loc Cert.InF.main_arg1)
      ∧ r.2.mem ((c.tc : Thread Cert.InF.nD Cert.InF.τ).loc Cert.InF.main_arg2) = m ((c.tc : Thread Cert.InF.nD Cert.InF.τ).loc Cert.InF.main_arg2))
      ∧ r.2.sem = fun _ => 0)

def quiescent_InFIdeal [hInFIdeal : Cert.InFIdeal.Facts] : Prop :=
  ∀ (m : (ℓ : Loc Cert.InFIdeal.nD Cert.InFIdeal.τ Cert.InFIdeal.sig) → Buf (Elt Ideal) ℓ) (g : Dev Cert.InFIdeal.nD → PrngReg), Pre_InFIdeal m →
    θ_run (Cert.InFIdeal.defs (F := Ideal)) (onTc (τ := Cert.InFIdeal.τ) (Cert.InFIdeal.main (F := Ideal))) ⟨m, fun _ => 0, g⟩ (fun r => (∀ c : Dev Cert.InFIdeal.nD,
      r.2.mem ((c.tc : Thread Cert.InFIdeal.nD Cert.InFIdeal.τ).loc Cert.InFIdeal.main_arg0) = m ((c.tc : Thread Cert.InFIdeal.nD Cert.InFIdeal.τ).loc Cert.InFIdeal.main_arg0)
      ∧ r.2.mem ((c.tc : Thread Cert.InFIdeal.nD Cert.InFIdeal.τ).loc Cert.InFIdeal.main_arg1) = m ((c.tc : Thread Cert.InFIdeal.nD Cert.InFIdeal.τ).loc Cert.InFIdeal.main_arg1)
      ∧ r.2.mem ((c.tc : Thread Cert.InFIdeal.nD Cert.InFIdeal.τ).loc Cert.InFIdeal.main_arg2) = m ((c.tc : Thread Cert.InFIdeal.nD Cert.InFIdeal.τ).loc Cert.InFIdeal.main_arg2))
      ∧ r.2.sem = fun _ => 0)

def quiescent_InFRIdeal [hInFRIdeal : Cert.InFRIdeal.Facts] : Prop :=
  ∀ (m : (ℓ : Loc Cert.InFRIdeal.nD Cert.InFRIdeal.τ Cert.InFRIdeal.sig) → Buf (Elt Ideal) ℓ) (g : Dev Cert.InFRIdeal.nD → PrngReg), Pre_InFRIdeal m →
    θ_run (Cert.InFRIdeal.defs (F := Ideal)) (onTc (τ := Cert.InFRIdeal.τ) (Cert.InFRIdeal.main (F := Ideal))) ⟨m, fun _ => 0, g⟩ (fun r => (∀ c : Dev Cert.InFRIdeal.nD,
      r.2.mem ((c.tc : Thread Cert.InFRIdeal.nD Cert.InFRIdeal.τ).loc Cert.InFRIdeal.main_arg0) = m ((c.tc : Thread Cert.InFRIdeal.nD Cert.InFRIdeal.τ).loc Cert.InFRIdeal.main_arg0)
      ∧ r.2.mem ((c.tc : Thread Cert.InFRIdeal.nD Cert.InFRIdeal.τ).loc Cert.InFRIdeal.main_arg1) = m ((c.tc : Thread Cert.InFRIdeal.nD Cert.InFRIdeal.τ).loc Cert.InFRIdeal.main_arg1)
      ∧ r.2.mem ((c.tc : Thread Cert.InFRIdeal.nD Cert.InFRIdeal.τ).loc Cert.InFRIdeal.main_arg2) = m ((c.tc : Thread Cert.InFRIdeal.nD Cert.InFRIdeal.τ).loc Cert.InFRIdeal.main_arg2))
      ∧ r.2.sem = fun _ => 0)

def quiescent_WIn [hWIn : Cert.WIn.Facts] : Prop :=
  ∀ (m : (ℓ : Loc Cert.WIn.nD Cert.WIn.τ Cert.WIn.sig) → Buf (Elt Bits) ℓ) (g : Dev Cert.WIn.nD → PrngReg), Pre_WIn m →
    θ_run (Cert.WIn.defs (F := Bits)) (onTc (τ := Cert.WIn.τ) (Cert.WIn.main (F := Bits))) ⟨m, fun _ => 0, g⟩ (fun r => (∀ c : Dev Cert.WIn.nD,
      r.2.mem ((c.tc : Thread Cert.WIn.nD Cert.WIn.τ).loc Cert.WIn.main_arg0) = m ((c.tc : Thread Cert.WIn.nD Cert.WIn.τ).loc Cert.WIn.main_arg0)
      ∧ r.2.mem ((c.tc : Thread Cert.WIn.nD Cert.WIn.τ).loc Cert.WIn.main_arg1) = m ((c.tc : Thread Cert.WIn.nD Cert.WIn.τ).loc Cert.WIn.main_arg1))
      ∧ r.2.sem = fun _ => 0)

def quiescent_WInIdeal [hWInIdeal : Cert.WInIdeal.Facts] : Prop :=
  ∀ (m : (ℓ : Loc Cert.WInIdeal.nD Cert.WInIdeal.τ Cert.WInIdeal.sig) → Buf (Elt Ideal) ℓ) (g : Dev Cert.WInIdeal.nD → PrngReg), Pre_WInIdeal m →
    θ_run (Cert.WInIdeal.defs (F := Ideal)) (onTc (τ := Cert.WInIdeal.τ) (Cert.WInIdeal.main (F := Ideal))) ⟨m, fun _ => 0, g⟩ (fun r => (∀ c : Dev Cert.WInIdeal.nD,
      r.2.mem ((c.tc : Thread Cert.WInIdeal.nD Cert.WInIdeal.τ).loc Cert.WInIdeal.main_arg0) = m ((c.tc : Thread Cert.WInIdeal.nD Cert.WInIdeal.τ).loc Cert.WInIdeal.main_arg0)
      ∧ r.2.mem ((c.tc : Thread Cert.WInIdeal.nD Cert.WInIdeal.τ).loc Cert.WInIdeal.main_arg1) = m ((c.tc : Thread Cert.WInIdeal.nD Cert.WInIdeal.τ).loc Cert.WInIdeal.main_arg1))
      ∧ r.2.sem = fun _ => 0)

def quiescent_WInRIdeal [hWInRIdeal : Cert.WInRIdeal.Facts] : Prop :=
  ∀ (m : (ℓ : Loc Cert.WInRIdeal.nD Cert.WInRIdeal.τ Cert.WInRIdeal.sig) → Buf (Elt Ideal) ℓ) (g : Dev Cert.WInRIdeal.nD → PrngReg), Pre_WInRIdeal m →
    θ_run (Cert.WInRIdeal.defs (F := Ideal)) (onTc (τ := Cert.WInRIdeal.τ) (Cert.WInRIdeal.main (F := Ideal))) ⟨m, fun _ => 0, g⟩ (fun r => (∀ c : Dev Cert.WInRIdeal.nD,
      r.2.mem ((c.tc : Thread Cert.WInRIdeal.nD Cert.WInRIdeal.τ).loc Cert.WInRIdeal.main_arg0) = m ((c.tc : Thread Cert.WInRIdeal.nD Cert.WInRIdeal.τ).loc Cert.WInRIdeal.main_arg0)
      ∧ r.2.mem ((c.tc : Thread Cert.WInRIdeal.nD Cert.WInRIdeal.τ).loc Cert.WInRIdeal.main_arg1) = m ((c.tc : Thread Cert.WInRIdeal.nD Cert.WInRIdeal.τ).loc Cert.WInRIdeal.main_arg1))
      ∧ r.2.sem = fun _ => 0)

def quiescent_WGU [hWGU : Cert.WGU.Facts] : Prop :=
  ∀ (m : (ℓ : Loc Cert.WGU.nD Cert.WGU.τ Cert.WGU.sig) → Buf (Elt Bits) ℓ) (g : Dev Cert.WGU.nD → PrngReg), Pre_WGU m →
    θ_run (Cert.WGU.defs (F := Bits)) (onTc (τ := Cert.WGU.τ) (Cert.WGU.main (F := Bits))) ⟨m, fun _ => 0, g⟩ (fun r => (∀ c : Dev Cert.WGU.nD,
      r.2.mem ((c.tc : Thread Cert.WGU.nD Cert.WGU.τ).loc Cert.WGU.main_arg0) = m ((c.tc : Thread Cert.WGU.nD Cert.WGU.τ).loc Cert.WGU.main_arg0)
      ∧ r.2.mem ((c.tc : Thread Cert.WGU.nD Cert.WGU.τ).loc Cert.WGU.main_arg1) = m ((c.tc : Thread Cert.WGU.nD Cert.WGU.τ).loc Cert.WGU.main_arg1)
      ∧ r.2.mem ((c.tc : Thread Cert.WGU.nD Cert.WGU.τ).loc Cert.WGU.main_arg2) = m ((c.tc : Thread Cert.WGU.nD Cert.WGU.τ).loc Cert.WGU.main_arg2))
      ∧ r.2.sem = fun _ => 0)

def quiescent_WGUIdeal [hWGUIdeal : Cert.WGUIdeal.Facts] : Prop :=
  ∀ (m : (ℓ : Loc Cert.WGUIdeal.nD Cert.WGUIdeal.τ Cert.WGUIdeal.sig) → Buf (Elt Ideal) ℓ) (g : Dev Cert.WGUIdeal.nD → PrngReg), Pre_WGUIdeal m →
    θ_run (Cert.WGUIdeal.defs (F := Ideal)) (onTc (τ := Cert.WGUIdeal.τ) (Cert.WGUIdeal.main (F := Ideal))) ⟨m, fun _ => 0, g⟩ (fun r => (∀ c : Dev Cert.WGUIdeal.nD,
      r.2.mem ((c.tc : Thread Cert.WGUIdeal.nD Cert.WGUIdeal.τ).loc Cert.WGUIdeal.main_arg0) = m ((c.tc : Thread Cert.WGUIdeal.nD Cert.WGUIdeal.τ).loc Cert.WGUIdeal.main_arg0)
      ∧ r.2.mem ((c.tc : Thread Cert.WGUIdeal.nD Cert.WGUIdeal.τ).loc Cert.WGUIdeal.main_arg1) = m ((c.tc : Thread Cert.WGUIdeal.nD Cert.WGUIdeal.τ).loc Cert.WGUIdeal.main_arg1)
      ∧ r.2.mem ((c.tc : Thread Cert.WGUIdeal.nD Cert.WGUIdeal.τ).loc Cert.WGUIdeal.main_arg2) = m ((c.tc : Thread Cert.WGUIdeal.nD Cert.WGUIdeal.τ).loc Cert.WGUIdeal.main_arg2))
      ∧ r.2.sem = fun _ => 0)

def quiescent_WGURIdeal [hWGURIdeal : Cert.WGURIdeal.Facts] : Prop :=
  ∀ (m : (ℓ : Loc Cert.WGURIdeal.nD Cert.WGURIdeal.τ Cert.WGURIdeal.sig) → Buf (Elt Ideal) ℓ) (g : Dev Cert.WGURIdeal.nD → PrngReg), Pre_WGURIdeal m →
    θ_run (Cert.WGURIdeal.defs (F := Ideal)) (onTc (τ := Cert.WGURIdeal.τ) (Cert.WGURIdeal.main (F := Ideal))) ⟨m, fun _ => 0, g⟩ (fun r => (∀ c : Dev Cert.WGURIdeal.nD,
      r.2.mem ((c.tc : Thread Cert.WGURIdeal.nD Cert.WGURIdeal.τ).loc Cert.WGURIdeal.main_arg0) = m ((c.tc : Thread Cert.WGURIdeal.nD Cert.WGURIdeal.τ).loc Cert.WGURIdeal.main_arg0)
      ∧ r.2.mem ((c.tc : Thread Cert.WGURIdeal.nD Cert.WGURIdeal.τ).loc Cert.WGURIdeal.main_arg1) = m ((c.tc : Thread Cert.WGURIdeal.nD Cert.WGURIdeal.τ).loc Cert.WGURIdeal.main_arg1)
      ∧ r.2.mem ((c.tc : Thread Cert.WGURIdeal.nD Cert.WGURIdeal.τ).loc Cert.WGURIdeal.main_arg2) = m ((c.tc : Thread Cert.WGURIdeal.nD Cert.WGURIdeal.τ).loc Cert.WGURIdeal.main_arg2))
      ∧ r.2.sem = fun _ => 0)

def quiescent_Opt [hOpt : Cert.Opt.Facts] : Prop :=
  ∀ (m : (ℓ : Loc Cert.Opt.nD Cert.Opt.τ Cert.Opt.sig) → Buf (Elt Bits) ℓ) (g : Dev Cert.Opt.nD → PrngReg), Pre_Opt m →
    θ_run (Cert.Opt.defs (F := Bits)) (onTc (τ := Cert.Opt.τ) (Cert.Opt.main (F := Bits))) ⟨m, fun _ => 0, g⟩ (fun r => (∀ c : Dev Cert.Opt.nD,
      r.2.mem ((c.tc : Thread Cert.Opt.nD Cert.Opt.τ).loc Cert.Opt.main_arg0) = m ((c.tc : Thread Cert.Opt.nD Cert.Opt.τ).loc Cert.Opt.main_arg0)
      ∧ r.2.mem ((c.tc : Thread Cert.Opt.nD Cert.Opt.τ).loc Cert.Opt.main_arg1) = m ((c.tc : Thread Cert.Opt.nD Cert.Opt.τ).loc Cert.Opt.main_arg1)
      ∧ r.2.mem ((c.tc : Thread Cert.Opt.nD Cert.Opt.τ).loc Cert.Opt.main_arg2) = m ((c.tc : Thread Cert.Opt.nD Cert.Opt.τ).loc Cert.Opt.main_arg2)
      ∧ r.2.mem ((c.tc : Thread Cert.Opt.nD Cert.Opt.τ).loc Cert.Opt.main_arg3) = m ((c.tc : Thread Cert.Opt.nD Cert.Opt.τ).loc Cert.Opt.main_arg3))
      ∧ r.2.sem = fun _ => 0)

def quiescent_OptIdeal [hOptIdeal : Cert.OptIdeal.Facts] : Prop :=
  ∀ (m : (ℓ : Loc Cert.OptIdeal.nD Cert.OptIdeal.τ Cert.OptIdeal.sig) → Buf (Elt Ideal) ℓ) (g : Dev Cert.OptIdeal.nD → PrngReg), Pre_OptIdeal m →
    θ_run (Cert.OptIdeal.defs (F := Ideal)) (onTc (τ := Cert.OptIdeal.τ) (Cert.OptIdeal.main (F := Ideal))) ⟨m, fun _ => 0, g⟩ (fun r => (∀ c : Dev Cert.OptIdeal.nD,
      r.2.mem ((c.tc : Thread Cert.OptIdeal.nD Cert.OptIdeal.τ).loc Cert.OptIdeal.main_arg0) = m ((c.tc : Thread Cert.OptIdeal.nD Cert.OptIdeal.τ).loc Cert.OptIdeal.main_arg0)
      ∧ r.2.mem ((c.tc : Thread Cert.OptIdeal.nD Cert.OptIdeal.τ).loc Cert.OptIdeal.main_arg1) = m ((c.tc : Thread Cert.OptIdeal.nD Cert.OptIdeal.τ).loc Cert.OptIdeal.main_arg1)
      ∧ r.2.mem ((c.tc : Thread Cert.OptIdeal.nD Cert.OptIdeal.τ).loc Cert.OptIdeal.main_arg2) = m ((c.tc : Thread Cert.OptIdeal.nD Cert.OptIdeal.τ).loc Cert.OptIdeal.main_arg2)
      ∧ r.2.mem ((c.tc : Thread Cert.OptIdeal.nD Cert.OptIdeal.τ).loc Cert.OptIdeal.main_arg3) = m ((c.tc : Thread Cert.OptIdeal.nD Cert.OptIdeal.τ).loc Cert.OptIdeal.main_arg3))
      ∧ r.2.sem = fun _ => 0)

def quiescent_OptRIdeal [hOptRIdeal : Cert.OptRIdeal.Facts] : Prop :=
  ∀ (m : (ℓ : Loc Cert.OptRIdeal.nD Cert.OptRIdeal.τ Cert.OptRIdeal.sig) → Buf (Elt Ideal) ℓ) (g : Dev Cert.OptRIdeal.nD → PrngReg), Pre_OptRIdeal m →
    θ_run (Cert.OptRIdeal.defs (F := Ideal)) (onTc (τ := Cert.OptRIdeal.τ) (Cert.OptRIdeal.main (F := Ideal))) ⟨m, fun _ => 0, g⟩ (fun r => (∀ c : Dev Cert.OptRIdeal.nD,
      r.2.mem ((c.tc : Thread Cert.OptRIdeal.nD Cert.OptRIdeal.τ).loc Cert.OptRIdeal.main_arg0) = m ((c.tc : Thread Cert.OptRIdeal.nD Cert.OptRIdeal.τ).loc Cert.OptRIdeal.main_arg0)
      ∧ r.2.mem ((c.tc : Thread Cert.OptRIdeal.nD Cert.OptRIdeal.τ).loc Cert.OptRIdeal.main_arg1) = m ((c.tc : Thread Cert.OptRIdeal.nD Cert.OptRIdeal.τ).loc Cert.OptRIdeal.main_arg1)
      ∧ r.2.mem ((c.tc : Thread Cert.OptRIdeal.nD Cert.OptRIdeal.τ).loc Cert.OptRIdeal.main_arg2) = m ((c.tc : Thread Cert.OptRIdeal.nD Cert.OptRIdeal.τ).loc Cert.OptRIdeal.main_arg2)
      ∧ r.2.mem ((c.tc : Thread Cert.OptRIdeal.nD Cert.OptRIdeal.τ).loc Cert.OptRIdeal.main_arg3) = m ((c.tc : Thread Cert.OptRIdeal.nD Cert.OptRIdeal.τ).loc Cert.OptRIdeal.main_arg3))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9)
      ∧ r.2.mem ((c.tc : Thread Cert.Mixer.nD Cert.Mixer.τ).loc Cert.Mixer.main_arg10) = m ((c.tc : Thread Cert.Mixer.nD Cert.Mixer.τ).loc Cert.Mixer.main_arg10)
      ∧ r.2.mem ((c.tc : Thread Cert.Mixer.nD Cert.Mixer.τ).loc Cert.Mixer.main_arg11) = m ((c.tc : Thread Cert.Mixer.nD Cert.Mixer.τ).loc Cert.Mixer.main_arg11))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11))
      ∧ r.2.sem = fun _ => 0)

def preserves_Gates_GatesIdeal : Prop :=
  True

def algebraic_GatesIdeal_GatesRIdeal_pre_gates_finite [hGatesIdeal : Cert.GatesIdeal.Facts] [hGatesRIdeal : Cert.GatesRIdeal.Facts] [hPre_gates_finite : Cert.Pre_gates_finite.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRIdeal.nD Cert.GatesRIdeal.τ Cert.GatesRIdeal.sig) → Buf (Elt Ideal) ℓ) (g' : Dev Cert.GatesRIdeal.nD → PrngReg), Pre_GatesIdeal_gates_finite m →
    (∀ c : Dev Cert.GatesIdeal.nD,
      m' ((c.tc : Thread Cert.GatesRIdeal.nD Cert.GatesRIdeal.τ).loc Cert.GatesRIdeal.main_arg0) = m ((c.tc : Thread Cert.GatesIdeal.nD Cert.GatesIdeal.τ).loc Cert.GatesIdeal.main_arg0)
      ∧ m' ((c.tc : Thread Cert.GatesRIdeal.nD Cert.GatesRIdeal.τ).loc Cert.GatesRIdeal.main_arg1) = m ((c.tc : Thread Cert.GatesIdeal.nD Cert.GatesIdeal.τ).loc Cert.GatesIdeal.main_arg1)
      ∧ m' ((c.tc : Thread Cert.GatesRIdeal.nD Cert.GatesRIdeal.τ).loc Cert.GatesRIdeal.main_arg2) = m ((c.tc : Thread Cert.GatesIdeal.nD Cert.GatesIdeal.τ).loc Cert.GatesIdeal.main_arg2)
      ∧ m' ((c.tc : Thread Cert.GatesRIdeal.nD Cert.GatesRIdeal.τ).loc Cert.GatesRIdeal.main_arg3) = m ((c.tc : Thread Cert.GatesIdeal.nD Cert.GatesIdeal.τ).loc Cert.GatesIdeal.main_arg3)
      ∧ m' ((c.tc : Thread Cert.GatesRIdeal.nD Cert.GatesRIdeal.τ).loc Cert.GatesRIdeal.main_arg4) = m ((c.tc : Thread Cert.GatesIdeal.nD Cert.GatesIdeal.τ).loc Cert.GatesIdeal.main_arg4)
      ∧ m' ((c.tc : Thread Cert.GatesRIdeal.nD Cert.GatesRIdeal.τ).loc Cert.GatesRIdeal.main_arg5) = m ((c.tc : Thread Cert.GatesIdeal.nD Cert.GatesIdeal.τ).loc Cert.GatesIdeal.main_arg5)) →
    ∃ (v0 : (c : Dev Cert.GatesIdeal.nD) → Buf (Elt Ideal) ((c.tc : Thread Cert.GatesIdeal.nD Cert.GatesIdeal.τ).loc Cert.GatesIdeal.main_v26_0)) (v1 : (c : Dev Cert.GatesIdeal.nD) → Buf (Elt Ideal) ((c.tc : Thread Cert.GatesIdeal.nD Cert.GatesIdeal.τ).loc Cert.GatesIdeal.main_v26_1)) (v2 : (c : Dev Cert.GatesIdeal.nD) → Buf (Elt Ideal) ((c.tc : Thread Cert.GatesIdeal.nD Cert.GatesIdeal.τ).loc Cert.GatesIdeal.main_v26_2)) (v3 : (c : Dev Cert.GatesIdeal.nD) → Buf (Elt Ideal) ((c.tc : Thread Cert.GatesIdeal.nD Cert.GatesIdeal.τ).loc Cert.GatesIdeal.main_v26_3)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v26_0) = v0 c
          ∧ r.2.mem ((c.tc : Thread Cert.GatesIdeal.nD Cert.GatesIdeal.τ).loc Cert.GatesIdeal.main_v26_1) = v1 c
          ∧ r.2.mem ((c.tc : Thread Cert.GatesIdeal.nD Cert.GatesIdeal.τ).loc Cert.GatesIdeal.main_v26_2) = v2 c
          ∧ r.2.mem ((c.tc : Thread Cert.GatesIdeal.nD Cert.GatesIdeal.τ).loc Cert.GatesIdeal.main_v26_3) = v3 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
          ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4)
          ∧ r.2.mem ((c.tc : Thread Cert.GatesIdeal.nD Cert.GatesIdeal.τ).loc Cert.GatesIdeal.main_arg5) = m ((c.tc : Thread Cert.GatesIdeal.nD Cert.GatesIdeal.τ).loc Cert.GatesIdeal.main_arg5))
      ∧ θ_run (Cert.GatesRIdeal.defs (F := Ideal)) (onTc (τ := Cert.GatesRIdeal.τ) (Cert.GatesRIdeal.main (F := Ideal))) ⟨m', fun _ => 0, g'⟩ (fun r => ∀ c : Dev Cert.GatesRIdeal.nD,
          r.2.mem ((c.tc : Thread Cert.GatesRIdeal.nD Cert.GatesRIdeal.τ).loc Cert.GatesRIdeal.main_v26) = v0 c
          ∧ r.2.mem ((c.tc : Thread Cert.GatesRIdeal.nD Cert.GatesRIdeal.τ).loc Cert.GatesRIdeal.main_v29) = v1 c
          ∧ r.2.mem ((c.tc : Thread Cert.GatesRIdeal.nD Cert.GatesRIdeal.τ).loc Cert.GatesRIdeal.main_v32) = v2 c
          ∧ r.2.mem ((c.tc : Thread Cert.GatesRIdeal.nD Cert.GatesRIdeal.τ).loc Cert.GatesRIdeal.main_v33) = v3 c
          ∧ r.2.mem ((c.tc : Thread Cert.GatesRIdeal.nD Cert.GatesRIdeal.τ).loc Cert.GatesRIdeal.main_arg0) = m' ((c.tc : Thread Cert.GatesRIdeal.nD Cert.GatesRIdeal.τ).loc Cert.GatesRIdeal.main_arg0)
          ∧ r.2.mem ((c.tc : Thread Cert.GatesRIdeal.nD Cert.GatesRIdeal.τ).loc Cert.GatesRIdeal.main_arg1) = m' ((c.tc : Thread Cert.GatesRIdeal.nD Cert.GatesRIdeal.τ).loc Cert.GatesRIdeal.main_arg1)
          ∧ r.2.mem ((c.tc : Thread Cert.GatesRIdeal.nD Cert.GatesRIdeal.τ).loc Cert.GatesRIdeal.main_arg2) = m' ((c.tc : Thread Cert.GatesRIdeal.nD Cert.GatesRIdeal.τ).loc Cert.GatesRIdeal.main_arg2)
          ∧ r.2.mem ((c.tc : Thread Cert.GatesRIdeal.nD Cert.GatesRIdeal.τ).loc Cert.GatesRIdeal.main_arg3) = m' ((c.tc : Thread Cert.GatesRIdeal.nD Cert.GatesRIdeal.τ).loc Cert.GatesRIdeal.main_arg3)
          ∧ r.2.mem ((c.tc : Thread Cert.GatesRIdeal.nD Cert.GatesRIdeal.τ).loc Cert.GatesRIdeal.main_arg4) = m' ((c.tc : Thread Cert.GatesRIdeal.nD Cert.GatesRIdeal.τ).loc Cert.GatesRIdeal.main_arg4)
          ∧ r.2.mem ((c.tc : Thread Cert.GatesRIdeal.nD Cert.GatesRIdeal.τ).loc Cert.GatesRIdeal.main_arg5) = m' ((c.tc : Thread Cert.GatesRIdeal.nD Cert.GatesRIdeal.τ).loc Cert.GatesRIdeal.main_arg5))

def preserves_FfnB_FfnBIdeal : Prop :=
  True

def algebraic_FfnBIdeal_FfnBRIdeal_pre_ffnb_finite [hFfnBIdeal : Cert.FfnBIdeal.Facts] [hFfnBRIdeal : Cert.FfnBRIdeal.Facts] [hPre_ffnb_finite : Cert.Pre_ffnb_finite.Facts] : Prop :=
  ∀ (m : (ℓ : Loc Cert.FfnBIdeal.nD Cert.FfnBIdeal.τ Cert.FfnBIdeal.sig) → Buf (Elt Ideal) ℓ) (g : Dev Cert.FfnBIdeal.nD → PrngReg)
    (m' : (ℓ : Loc Cert.FfnBRIdeal.nD Cert.FfnBRIdeal.τ Cert.FfnBRIdeal.sig) → Buf (Elt Ideal) ℓ) (g' : Dev Cert.FfnBRIdeal.nD → PrngReg), Pre_FfnBIdeal_ffnb_finite m →
    (∀ c : Dev Cert.FfnBIdeal.nD,
      m' ((c.tc : Thread Cert.FfnBRIdeal.nD Cert.FfnBRIdeal.τ).loc Cert.FfnBRIdeal.main_arg0) = m ((c.tc : Thread Cert.FfnBIdeal.nD Cert.FfnBIdeal.τ).loc Cert.FfnBIdeal.main_arg0)
      ∧ m' ((c.tc : Thread Cert.FfnBRIdeal.nD Cert.FfnBRIdeal.τ).loc Cert.FfnBRIdeal.main_arg1) = m ((c.tc : Thread Cert.FfnBIdeal.nD Cert.FfnBIdeal.τ).loc Cert.FfnBIdeal.main_arg1)
      ∧ m' ((c.tc : Thread Cert.FfnBRIdeal.nD Cert.FfnBRIdeal.τ).loc Cert.FfnBRIdeal.main_arg2) = m ((c.tc : Thread Cert.FfnBIdeal.nD Cert.FfnBIdeal.τ).loc Cert.FfnBIdeal.main_arg2)
      ∧ m' ((c.tc : Thread Cert.FfnBRIdeal.nD Cert.FfnBRIdeal.τ).loc Cert.FfnBRIdeal.main_arg3) = m ((c.tc : Thread Cert.FfnBIdeal.nD Cert.FfnBIdeal.τ).loc Cert.FfnBIdeal.main_arg3)
      ∧ m' ((c.tc : Thread Cert.FfnBRIdeal.nD Cert.FfnBRIdeal.τ).loc Cert.FfnBRIdeal.main_arg4) = m ((c.tc : Thread Cert.FfnBIdeal.nD Cert.FfnBIdeal.τ).loc Cert.FfnBIdeal.main_arg4)
      ∧ m' ((c.tc : Thread Cert.FfnBRIdeal.nD Cert.FfnBRIdeal.τ).loc Cert.FfnBRIdeal.main_arg5) = m ((c.tc : Thread Cert.FfnBIdeal.nD Cert.FfnBIdeal.τ).loc Cert.FfnBIdeal.main_arg5)
      ∧ m' ((c.tc : Thread Cert.FfnBRIdeal.nD Cert.FfnBRIdeal.τ).loc Cert.FfnBRIdeal.main_arg6) = m ((c.tc : Thread Cert.FfnBIdeal.nD Cert.FfnBIdeal.τ).loc Cert.FfnBIdeal.main_arg6)) →
    ∃ (v0 : (c : Dev Cert.FfnBIdeal.nD) → Buf (Elt Ideal) ((c.tc : Thread Cert.FfnBIdeal.nD Cert.FfnBIdeal.τ).loc Cert.FfnBIdeal.main_v13_0)) (v1 : (c : Dev Cert.FfnBIdeal.nD) → Buf (Elt Ideal) ((c.tc : Thread Cert.FfnBIdeal.nD Cert.FfnBIdeal.τ).loc Cert.FfnBIdeal.main_v13_1)),
      θ_run (Cert.FfnBIdeal.defs (F := Ideal)) (onTc (τ := Cert.FfnBIdeal.τ) (Cert.FfnBIdeal.main (F := Ideal))) ⟨m, fun _ => 0, g⟩ (fun r => ∀ c : Dev Cert.FfnBIdeal.nD,
          r.2.mem ((c.tc : Thread Cert.FfnBIdeal.nD Cert.FfnBIdeal.τ).loc Cert.FfnBIdeal.main_v13_0) = v0 c
          ∧ r.2.mem ((c.tc : Thread Cert.FfnBIdeal.nD Cert.FfnBIdeal.τ).loc Cert.FfnBIdeal.main_v13_1) = v1 c
          ∧ r.2.mem ((c.tc : Thread Cert.FfnBIdeal.nD Cert.FfnBIdeal.τ).loc Cert.FfnBIdeal.main_arg0) = m ((c.tc : Thread Cert.FfnBIdeal.nD Cert.FfnBIdeal.τ).loc Cert.FfnBIdeal.main_arg0)
          ∧ r.2.mem ((c.tc : Thread Cert.FfnBIdeal.nD Cert.FfnBIdeal.τ).loc Cert.FfnBIdeal.main_arg1) = m ((c.tc : Thread Cert.FfnBIdeal.nD Cert.FfnBIdeal.τ).loc Cert.FfnBIdeal.main_arg1)
          ∧ r.2.mem ((c.tc : Thread Cert.FfnBIdeal.nD Cert.FfnBIdeal.τ).loc Cert.FfnBIdeal.main_arg2) = m ((c.tc : Thread Cert.FfnBIdeal.nD Cert.FfnBIdeal.τ).loc Cert.FfnBIdeal.main_arg2)
          ∧ r.2.mem ((c.tc : Thread Cert.FfnBIdeal.nD Cert.FfnBIdeal.τ).loc Cert.FfnBIdeal.main_arg3) = m ((c.tc : Thread Cert.FfnBIdeal.nD Cert.FfnBIdeal.τ).loc Cert.FfnBIdeal.main_arg3)
          ∧ r.2.mem ((c.tc : Thread Cert.FfnBIdeal.nD Cert.FfnBIdeal.τ).loc Cert.FfnBIdeal.main_arg4) = m ((c.tc : Thread Cert.FfnBIdeal.nD Cert.FfnBIdeal.τ).loc Cert.FfnBIdeal.main_arg4)
          ∧ r.2.mem ((c.tc : Thread Cert.FfnBIdeal.nD Cert.FfnBIdeal.τ).loc Cert.FfnBIdeal.main_arg5) = m ((c.tc : Thread Cert.FfnBIdeal.nD Cert.FfnBIdeal.τ).loc Cert.FfnBIdeal.main_arg5)
          ∧ r.2.mem ((c.tc : Thread Cert.FfnBIdeal.nD Cert.FfnBIdeal.τ).loc Cert.FfnBIdeal.main_arg6) = m ((c.tc : Thread Cert.FfnBIdeal.nD Cert.FfnBIdeal.τ).loc Cert.FfnBIdeal.main_arg6))
      ∧ θ_run (Cert.FfnBRIdeal.defs (F := Ideal)) (onTc (τ := Cert.FfnBRIdeal.τ) (Cert.FfnBRIdeal.main (F := Ideal))) ⟨m', fun _ => 0, g'⟩ (fun r => ∀ c : Dev Cert.FfnBRIdeal.nD,
          r.2.mem ((c.tc : Thread Cert.FfnBRIdeal.nD Cert.FfnBRIdeal.τ).loc Cert.FfnBRIdeal.main_v41) = v0 c
          ∧ r.2.mem ((c.tc : Thread Cert.FfnBRIdeal.nD Cert.FfnBRIdeal.τ).loc Cert.FfnBRIdeal.main_v42) = v1 c
          ∧ r.2.mem ((c.tc : Thread Cert.FfnBRIdeal.nD Cert.FfnBRIdeal.τ).loc Cert.FfnBRIdeal.main_arg0) = m' ((c.tc : Thread Cert.FfnBRIdeal.nD Cert.FfnBRIdeal.τ).loc Cert.FfnBRIdeal.main_arg0)
          ∧ r.2.mem ((c.tc : Thread Cert.FfnBRIdeal.nD Cert.FfnBRIdeal.τ).loc Cert.FfnBRIdeal.main_arg1) = m' ((c.tc : Thread Cert.FfnBRIdeal.nD Cert.FfnBRIdeal.τ).loc Cert.FfnBRIdeal.main_arg1)
          ∧ r.2.mem ((c.tc : Thread Cert.FfnBRIdeal.nD Cert.FfnBRIdeal.τ).loc Cert.FfnBRIdeal.main_arg2) = m' ((c.tc : Thread Cert.FfnBRIdeal.nD Cert.FfnBRIdeal.τ).loc Cert.FfnBRIdeal.main_arg2)
          ∧ r.2.mem ((c.tc : Thread Cert.FfnBRIdeal.nD Cert.FfnBRIdeal.τ).loc Cert.FfnBRIdeal.main_arg3) = m' ((c.tc : Thread Cert.FfnBRIdeal.nD Cert.FfnBRIdeal.τ).loc Cert.FfnBRIdeal.main_arg3)
          ∧ r.2.mem ((c.tc : Thread Cert.FfnBRIdeal.nD Cert.FfnBRIdeal.τ).loc Cert.FfnBRIdeal.main_arg4) = m' ((c.tc : Thread Cert.FfnBRIdeal.nD Cert.FfnBRIdeal.τ).loc Cert.FfnBRIdeal.main_arg4)
          ∧ r.2.mem ((c.tc : Thread Cert.FfnBRIdeal.nD Cert.FfnBRIdeal.τ).loc Cert.FfnBRIdeal.main_arg5) = m' ((c.tc : Thread Cert.FfnBRIdeal.nD Cert.FfnBRIdeal.τ).loc Cert.FfnBRIdeal.main_arg5)
          ∧ r.2.mem ((c.tc : Thread Cert.FfnBRIdeal.nD Cert.FfnBRIdeal.τ).loc Cert.FfnBRIdeal.main_arg6) = m' ((c.tc : Thread Cert.FfnBRIdeal.nD Cert.FfnBRIdeal.τ).loc Cert.FfnBRIdeal.main_arg6))

def preserves_InB_InBIdeal : Prop :=
  True

def algebraic_InBIdeal_InBRIdeal_pre_inb_finite [hInBIdeal : Cert.InBIdeal.Facts] [hInBRIdeal : Cert.InBRIdeal.Facts] [hPre_inb_finite : Cert.Pre_inb_finite.Facts] : Prop :=
  ∀ (m : (ℓ : Loc Cert.InBIdeal.nD Cert.InBIdeal.τ Cert.InBIdeal.sig) → Buf (Elt Ideal) ℓ) (g : Dev Cert.InBIdeal.nD → PrngReg)
    (m' : (ℓ : Loc Cert.InBRIdeal.nD Cert.InBRIdeal.τ Cert.InBRIdeal.sig) → Buf (Elt Ideal) ℓ) (g' : Dev Cert.InBRIdeal.nD → PrngReg), Pre_InBIdeal_inb_finite m →
    (∀ c : Dev Cert.InBIdeal.nD,
      m' ((c.tc : Thread Cert.InBRIdeal.nD Cert.InBRIdeal.τ).loc Cert.InBRIdeal.main_arg0) = m ((c.tc : Thread Cert.InBIdeal.nD Cert.InBIdeal.τ).loc Cert.InBIdeal.main_arg0)
      ∧ m' ((c.tc : Thread Cert.InBRIdeal.nD Cert.InBRIdeal.τ).loc Cert.InBRIdeal.main_arg1) = m ((c.tc : Thread Cert.InBIdeal.nD Cert.InBIdeal.τ).loc Cert.InBIdeal.main_arg1)
      ∧ m' ((c.tc : Thread Cert.InBRIdeal.nD Cert.InBRIdeal.τ).loc Cert.InBRIdeal.main_arg2) = m ((c.tc : Thread Cert.InBIdeal.nD Cert.InBIdeal.τ).loc Cert.InBIdeal.main_arg2)
      ∧ m' ((c.tc : Thread Cert.InBRIdeal.nD Cert.InBRIdeal.τ).loc Cert.InBRIdeal.main_arg3) = m ((c.tc : Thread Cert.InBIdeal.nD Cert.InBIdeal.τ).loc Cert.InBIdeal.main_arg3)
      ∧ m' ((c.tc : Thread Cert.InBRIdeal.nD Cert.InBRIdeal.τ).loc Cert.InBRIdeal.main_arg4) = m ((c.tc : Thread Cert.InBIdeal.nD Cert.InBIdeal.τ).loc Cert.InBIdeal.main_arg4)) →
    ∃ (v0 : (c : Dev Cert.InBIdeal.nD) → Buf (Elt Ideal) ((c.tc : Thread Cert.InBIdeal.nD Cert.InBIdeal.τ).loc Cert.InBIdeal.main_v5_0)) (v1 : (c : Dev Cert.InBIdeal.nD) → Buf (Elt Ideal) ((c.tc : Thread Cert.InBIdeal.nD Cert.InBIdeal.τ).loc Cert.InBIdeal.main_v5_1)),
      θ_run (Cert.InBIdeal.defs (F := Ideal)) (onTc (τ := Cert.InBIdeal.τ) (Cert.InBIdeal.main (F := Ideal))) ⟨m, fun _ => 0, g⟩ (fun r => ∀ c : Dev Cert.InBIdeal.nD,
          r.2.mem ((c.tc : Thread Cert.InBIdeal.nD Cert.InBIdeal.τ).loc Cert.InBIdeal.main_v5_0) = v0 c
          ∧ r.2.mem ((c.tc : Thread Cert.InBIdeal.nD Cert.InBIdeal.τ).loc Cert.InBIdeal.main_v5_1) = v1 c
          ∧ r.2.mem ((c.tc : Thread Cert.InBIdeal.nD Cert.InBIdeal.τ).loc Cert.InBIdeal.main_arg0) = m ((c.tc : Thread Cert.InBIdeal.nD Cert.InBIdeal.τ).loc Cert.InBIdeal.main_arg0)
          ∧ r.2.mem ((c.tc : Thread Cert.InBIdeal.nD Cert.InBIdeal.τ).loc Cert.InBIdeal.main_arg1) = m ((c.tc : Thread Cert.InBIdeal.nD Cert.InBIdeal.τ).loc Cert.InBIdeal.main_arg1)
          ∧ r.2.mem ((c.tc : Thread Cert.InBIdeal.nD Cert.InBIdeal.τ).loc Cert.InBIdeal.main_arg2) = m ((c.tc : Thread Cert.InBIdeal.nD Cert.InBIdeal.τ).loc Cert.InBIdeal.main_arg2)
          ∧ r.2.mem ((c.tc : Thread Cert.InBIdeal.nD Cert.InBIdeal.τ).loc Cert.InBIdeal.main_arg3) = m ((c.tc : Thread Cert.InBIdeal.nD Cert.InBIdeal.τ).loc Cert.InBIdeal.main_arg3)
          ∧ r.2.mem ((c.tc : Thread Cert.InBIdeal.nD Cert.InBIdeal.τ).loc Cert.InBIdeal.main_arg4) = m ((c.tc : Thread Cert.InBIdeal.nD Cert.InBIdeal.τ).loc Cert.InBIdeal.main_arg4))
      ∧ θ_run (Cert.InBRIdeal.defs (F := Ideal)) (onTc (τ := Cert.InBRIdeal.τ) (Cert.InBRIdeal.main (F := Ideal))) ⟨m', fun _ => 0, g'⟩ (fun r => ∀ c : Dev Cert.InBRIdeal.nD,
          r.2.mem ((c.tc : Thread Cert.InBRIdeal.nD Cert.InBRIdeal.τ).loc Cert.InBRIdeal.main_v38) = v0 c
          ∧ r.2.mem ((c.tc : Thread Cert.InBRIdeal.nD Cert.InBRIdeal.τ).loc Cert.InBRIdeal.main_v39) = v1 c
          ∧ r.2.mem ((c.tc : Thread Cert.InBRIdeal.nD Cert.InBRIdeal.τ).loc Cert.InBRIdeal.main_arg0) = m' ((c.tc : Thread Cert.InBRIdeal.nD Cert.InBRIdeal.τ).loc Cert.InBRIdeal.main_arg0)
          ∧ r.2.mem ((c.tc : Thread Cert.InBRIdeal.nD Cert.InBRIdeal.τ).loc Cert.InBRIdeal.main_arg1) = m' ((c.tc : Thread Cert.InBRIdeal.nD Cert.InBRIdeal.τ).loc Cert.InBRIdeal.main_arg1)
          ∧ r.2.mem ((c.tc : Thread Cert.InBRIdeal.nD Cert.InBRIdeal.τ).loc Cert.InBRIdeal.main_arg2) = m' ((c.tc : Thread Cert.InBRIdeal.nD Cert.InBRIdeal.τ).loc Cert.InBRIdeal.main_arg2)
          ∧ r.2.mem ((c.tc : Thread Cert.InBRIdeal.nD Cert.InBRIdeal.τ).loc Cert.InBRIdeal.main_arg3) = m' ((c.tc : Thread Cert.InBRIdeal.nD Cert.InBRIdeal.τ).loc Cert.InBRIdeal.main_arg3)
          ∧ r.2.mem ((c.tc : Thread Cert.InBRIdeal.nD Cert.InBRIdeal.τ).loc Cert.InBRIdeal.main_arg4) = m' ((c.tc : Thread Cert.InBRIdeal.nD Cert.InBRIdeal.τ).loc Cert.InBRIdeal.main_arg4))

def preserves_Loss_LossIdeal : Prop :=
  True

def algebraic_LossIdeal_LossRIdeal_pre_loss_finite [hLossIdeal : Cert.LossIdeal.Facts] [hLossRIdeal : Cert.LossRIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRIdeal.nD Cert.LossRIdeal.τ Cert.LossRIdeal.sig) → Buf (Elt Ideal) ℓ) (g' : Dev Cert.LossRIdeal.nD → PrngReg), Pre_LossIdeal_loss_finite m →
    (∀ c : Dev Cert.LossIdeal.nD,
      m' ((c.tc : Thread Cert.LossRIdeal.nD Cert.LossRIdeal.τ).loc Cert.LossRIdeal.main_arg0) = m ((c.tc : Thread Cert.LossIdeal.nD Cert.LossIdeal.τ).loc Cert.LossIdeal.main_arg0)
      ∧ m' ((c.tc : Thread Cert.LossRIdeal.nD Cert.LossRIdeal.τ).loc Cert.LossRIdeal.main_arg1) = m ((c.tc : Thread Cert.LossIdeal.nD Cert.LossIdeal.τ).loc Cert.LossIdeal.main_arg1)
      ∧ m' ((c.tc : Thread Cert.LossRIdeal.nD Cert.LossRIdeal.τ).loc Cert.LossRIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRIdeal.defs (F := Ideal)) (onTc (τ := Cert.LossRIdeal.τ) (Cert.LossRIdeal.main (F := Ideal))) ⟨m', fun _ => 0, g'⟩ (fun r => ∀ c : Dev Cert.LossRIdeal.nD,
          r.2.mem ((c.tc : Thread Cert.LossRIdeal.nD Cert.LossRIdeal.τ).loc Cert.LossRIdeal.main_v50) = v0 c
          ∧ r.2.mem ((c.tc : Thread Cert.LossRIdeal.nD Cert.LossRIdeal.τ).loc Cert.LossRIdeal.main_v73) = v1 c
          ∧ r.2.mem ((c.tc : Thread Cert.LossRIdeal.nD Cert.LossRIdeal.τ).loc Cert.LossRIdeal.main_arg0) = m' ((c.tc : Thread Cert.LossRIdeal.nD Cert.LossRIdeal.τ).loc Cert.LossRIdeal.main_arg0)
          ∧ r.2.mem ((c.tc : Thread Cert.LossRIdeal.nD Cert.LossRIdeal.τ).loc Cert.LossRIdeal.main_arg1) = m' ((c.tc : Thread Cert.LossRIdeal.nD Cert.LossRIdeal.τ).loc Cert.LossRIdeal.main_arg1)
          ∧ r.2.mem ((c.tc : Thread Cert.LossRIdeal.nD Cert.LossRIdeal.τ).loc Cert.LossRIdeal.main_arg2) = m' ((c.tc : Thread Cert.LossRIdeal.nD Cert.LossRIdeal.τ).loc Cert.LossRIdeal.main_arg2))

def preserves_MergeF_MergeFIdeal : Prop :=
  True

def algebraic_MergeFIdeal_MergeFRIdeal [hMergeFIdeal : Cert.MergeFIdeal.Facts] [hMergeFRIdeal : Cert.MergeFRIdeal.Facts] : Prop :=
  ∀ (m : (ℓ : Loc Cert.MergeFIdeal.nD Cert.MergeFIdeal.τ Cert.MergeFIdeal.sig) → Buf (Elt Ideal) ℓ) (g : Dev Cert.MergeFIdeal.nD → PrngReg)
    (m' : (ℓ : Loc Cert.MergeFRIdeal.nD Cert.MergeFRIdeal.τ Cert.MergeFRIdeal.sig) → Buf (Elt Ideal) ℓ) (g' : Dev Cert.MergeFRIdeal.nD → PrngReg), Pre_MergeFIdeal m →
    (∀ c : Dev Cert.MergeFIdeal.nD,
      m' ((c.tc : Thread Cert.MergeFRIdeal.nD Cert.MergeFRIdeal.τ).loc Cert.MergeFRIdeal.main_arg0) = m ((c.tc : Thread Cert.MergeFIdeal.nD Cert.MergeFIdeal.τ).loc Cert.MergeFIdeal.main_arg0)
      ∧ m' ((c.tc : Thread Cert.MergeFRIdeal.nD Cert.MergeFRIdeal.τ).loc Cert.MergeFRIdeal.main_arg1) = m ((c.tc : Thread Cert.MergeFIdeal.nD Cert.MergeFIdeal.τ).loc Cert.MergeFIdeal.main_arg1)
      ∧ m' ((c.tc : Thread Cert.MergeFRIdeal.nD Cert.MergeFRIdeal.τ).loc Cert.MergeFRIdeal.main_arg2) = m ((c.tc : Thread Cert.MergeFIdeal.nD Cert.MergeFIdeal.τ).loc Cert.MergeFIdeal.main_arg2)
      ∧ m' ((c.tc : Thread Cert.MergeFRIdeal.nD Cert.MergeFRIdeal.τ).loc Cert.MergeFRIdeal.main_arg3) = m ((c.tc : Thread Cert.MergeFIdeal.nD Cert.MergeFIdeal.τ).loc Cert.MergeFIdeal.main_arg3)
      ∧ m' ((c.tc : Thread Cert.MergeFRIdeal.nD Cert.MergeFRIdeal.τ).loc Cert.MergeFRIdeal.main_arg4) = m ((c.tc : Thread Cert.MergeFIdeal.nD Cert.MergeFIdeal.τ).loc Cert.MergeFIdeal.main_arg4)
      ∧ m' ((c.tc : Thread Cert.MergeFRIdeal.nD Cert.MergeFRIdeal.τ).loc Cert.MergeFRIdeal.main_arg5) = m ((c.tc : Thread Cert.MergeFIdeal.nD Cert.MergeFIdeal.τ).loc Cert.MergeFIdeal.main_arg5)
      ∧ m' ((c.tc : Thread Cert.MergeFRIdeal.nD Cert.MergeFRIdeal.τ).loc Cert.MergeFRIdeal.main_arg6) = m ((c.tc : Thread Cert.MergeFIdeal.nD Cert.MergeFIdeal.τ).loc Cert.MergeFIdeal.main_arg6)
      ∧ m' ((c.tc : Thread Cert.MergeFRIdeal.nD Cert.MergeFRIdeal.τ).loc Cert.MergeFRIdeal.main_arg7) = m ((c.tc : Thread Cert.MergeFIdeal.nD Cert.MergeFIdeal.τ).loc Cert.MergeFIdeal.main_arg7)) →
    ∃ (v0 : (c : Dev Cert.MergeFIdeal.nD) → Buf (Elt Ideal) ((c.tc : Thread Cert.MergeFIdeal.nD Cert.MergeFIdeal.τ).loc Cert.MergeFIdeal.main_v6_0)) (v1 : (c : Dev Cert.MergeFIdeal.nD) → Buf (Elt Ideal) ((c.tc : Thread Cert.MergeFIdeal.nD Cert.MergeFIdeal.τ).loc Cert.MergeFIdeal.main_v6_1)) (v2 : (c : Dev Cert.MergeFIdeal.nD) → Buf (Elt Ideal) ((c.tc : Thread Cert.MergeFIdeal.nD Cert.MergeFIdeal.τ).loc Cert.MergeFIdeal.main_v6_2)) (v3 : (c : Dev Cert.MergeFIdeal.nD) → Buf (Elt Ideal) ((c.tc : Thread Cert.MergeFIdeal.nD Cert.MergeFIdeal.τ).loc Cert.MergeFIdeal.main_v6_3)),
      θ_run (Cert.MergeFIdeal.defs (F := Ideal)) (onTc (τ := Cert.MergeFIdeal.τ) (Cert.MergeFIdeal.main (F := Ideal))) ⟨m, fun _ => 0, g⟩ (fun r => ∀ c : Dev Cert.MergeFIdeal.nD,
          r.2.mem ((c.tc : Thread Cert.MergeFIdeal.nD Cert.MergeFIdeal.τ).loc Cert.MergeFIdeal.main_v6_0) = v0 c
          ∧ r.2.mem ((c.tc : Thread Cert.MergeFIdeal.nD Cert.MergeFIdeal.τ).loc Cert.MergeFIdeal.main_v6_1) = v1 c
          ∧ r.2.mem ((c.tc : Thread Cert.MergeFIdeal.nD Cert.MergeFIdeal.τ).loc Cert.MergeFIdeal.main_v6_2) = v2 c
          ∧ r.2.mem ((c.tc : Thread Cert.MergeFIdeal.nD Cert.MergeFIdeal.τ).loc Cert.MergeFIdeal.main_v6_3) = v3 c
          ∧ r.2.mem ((c.tc : Thread Cert.MergeFIdeal.nD Cert.MergeFIdeal.τ).loc Cert.MergeFIdeal.main_arg0) = m ((c.tc : Thread Cert.MergeFIdeal.nD Cert.MergeFIdeal.τ).loc Cert.MergeFIdeal.main_arg0)
          ∧ r.2.mem ((c.tc : Thread Cert.MergeFIdeal.nD Cert.MergeFIdeal.τ).loc Cert.MergeFIdeal.main_arg1) = m ((c.tc : Thread Cert.MergeFIdeal.nD Cert.MergeFIdeal.τ).loc Cert.MergeFIdeal.main_arg1)
          ∧ r.2.mem ((c.tc : Thread Cert.MergeFIdeal.nD Cert.MergeFIdeal.τ).loc Cert.MergeFIdeal.main_arg2) = m ((c.tc : Thread Cert.MergeFIdeal.nD Cert.MergeFIdeal.τ).loc Cert.MergeFIdeal.main_arg2)
          ∧ r.2.mem ((c.tc : Thread Cert.MergeFIdeal.nD Cert.MergeFIdeal.τ).loc Cert.MergeFIdeal.main_arg3) = m ((c.tc : Thread Cert.MergeFIdeal.nD Cert.MergeFIdeal.τ).loc Cert.MergeFIdeal.main_arg3)
          ∧ r.2.mem ((c.tc : Thread Cert.MergeFIdeal.nD Cert.MergeFIdeal.τ).loc Cert.MergeFIdeal.main_arg4) = m ((c.tc : Thread Cert.MergeFIdeal.nD Cert.MergeFIdeal.τ).loc Cert.MergeFIdeal.main_arg4)
          ∧ r.2.mem ((c.tc : Thread Cert.MergeFIdeal.nD Cert.MergeFIdeal.τ).loc Cert.MergeFIdeal.main_arg5) = m ((c.tc : Thread Cert.MergeFIdeal.nD Cert.MergeFIdeal.τ).loc Cert.MergeFIdeal.main_arg5)
          ∧ r.2.mem ((c.tc : Thread Cert.MergeFIdeal.nD Cert.MergeFIdeal.τ).loc Cert.MergeFIdeal.main_arg6) = m ((c.tc : Thread Cert.MergeFIdeal.nD Cert.MergeFIdeal.τ).loc Cert.MergeFIdeal.main_arg6)
          ∧ r.2.mem ((c.tc : Thread Cert.MergeFIdeal.nD Cert.MergeFIdeal.τ).loc Cert.MergeFIdeal.main_arg7) = m ((c.tc : Thread Cert.MergeFIdeal.nD Cert.MergeFIdeal.τ).loc Cert.MergeFIdeal.main_arg7))
      ∧ θ_run (Cert.MergeFRIdeal.defs (F := Ideal)) (onTc (τ := Cert.MergeFRIdeal.τ) (Cert.MergeFRIdeal.main (F := Ideal))) ⟨m', fun _ => 0, g'⟩ (fun r => ∀ c : Dev Cert.MergeFRIdeal.nD,
          r.2.mem ((c.tc : Thread Cert.MergeFRIdeal.nD Cert.MergeFRIdeal.τ).loc Cert.MergeFRIdeal.main_v29) = v0 c
          ∧ r.2.mem ((c.tc : Thread Cert.MergeFRIdeal.nD Cert.MergeFRIdeal.τ).loc Cert.MergeFRIdeal.main_v30) = v1 c
          ∧ r.2.mem ((c.tc : Thread Cert.MergeFRIdeal.nD Cert.MergeFRIdeal.τ).loc Cert.MergeFRIdeal.main_v31) = v2 c
          ∧ r.2.mem ((c.tc : Thread Cert.MergeFRIdeal.nD Cert.MergeFRIdeal.τ).loc Cert.MergeFRIdeal.main_v33) = v3 c
          ∧ r.2.mem ((c.tc : Thread Cert.MergeFRIdeal.nD Cert.MergeFRIdeal.τ).loc Cert.MergeFRIdeal.main_arg0) = m' ((c.tc : Thread Cert.MergeFRIdeal.nD Cert.MergeFRIdeal.τ).loc Cert.MergeFRIdeal.main_arg0)
          ∧ r.2.mem ((c.tc : Thread Cert.MergeFRIdeal.nD Cert.MergeFRIdeal.τ).loc Cert.MergeFRIdeal.main_arg1) = m' ((c.tc : Thread Cert.MergeFRIdeal.nD Cert.MergeFRIdeal.τ).loc Cert.MergeFRIdeal.main_arg1)
          ∧ r.2.mem ((c.tc : Thread Cert.MergeFRIdeal.nD Cert.MergeFRIdeal.τ).loc Cert.MergeFRIdeal.main_arg2) = m' ((c.tc : Thread Cert.MergeFRIdeal.nD Cert.MergeFRIdeal.τ).loc Cert.MergeFRIdeal.main_arg2)
          ∧ r.2.mem ((c.tc : Thread Cert.MergeFRIdeal.nD Cert.MergeFRIdeal.τ).loc Cert.MergeFRIdeal.main_arg3) = m' ((c.tc : Thread Cert.MergeFRIdeal.nD Cert.MergeFRIdeal.τ).loc Cert.MergeFRIdeal.main_arg3)
          ∧ r.2.mem ((c.tc : Thread Cert.MergeFRIdeal.nD Cert.MergeFRIdeal.τ).loc Cert.MergeFRIdeal.main_arg4) = m' ((c.tc : Thread Cert.MergeFRIdeal.nD Cert.MergeFRIdeal.τ).loc Cert.MergeFRIdeal.main_arg4)
          ∧ r.2.mem ((c.tc : Thread Cert.MergeFRIdeal.nD Cert.MergeFRIdeal.τ).loc Cert.MergeFRIdeal.main_arg5) = m' ((c.tc : Thread Cert.MergeFRIdeal.nD Cert.MergeFRIdeal.τ).loc Cert.MergeFRIdeal.main_arg5)
          ∧ r.2.mem ((c.tc : Thread Cert.MergeFRIdeal.nD Cert.MergeFRIdeal.τ).loc Cert.MergeFRIdeal.main_arg6) = m' ((c.tc : Thread Cert.MergeFRIdeal.nD Cert.MergeFRIdeal.τ).loc Cert.MergeFRIdeal.main_arg6)
          ∧ r.2.mem ((c.tc : Thread Cert.MergeFRIdeal.nD Cert.MergeFRIdeal.τ).loc Cert.MergeFRIdeal.main_arg7) = m' ((c.tc : Thread Cert.MergeFRIdeal.nD Cert.MergeFRIdeal.τ).loc Cert.MergeFRIdeal.main_arg7))

def preserves_MergeB_MergeBIdeal : Prop :=
  True

def algebraic_MergeBIdeal_MergeBRIdeal [hMergeBIdeal : Cert.MergeBIdeal.Facts] [hMergeBRIdeal : Cert.MergeBRIdeal.Facts] : Prop :=
  ∀ (m : (ℓ : Loc Cert.MergeBIdeal.nD Cert.MergeBIdeal.τ Cert.MergeBIdeal.sig) → Buf (Elt Ideal) ℓ) (g : Dev Cert.MergeBIdeal.nD → PrngReg)
    (m' : (ℓ : Loc Cert.MergeBRIdeal.nD Cert.MergeBRIdeal.τ Cert.MergeBRIdeal.sig) → Buf (Elt Ideal) ℓ) (g' : Dev Cert.MergeBRIdeal.nD → PrngReg), Pre_MergeBIdeal m →
    (∀ c : Dev Cert.MergeBIdeal.nD,
      m' ((c.tc : Thread Cert.MergeBRIdeal.nD Cert.MergeBRIdeal.τ).loc Cert.MergeBRIdeal.main_arg0) = m ((c.tc : Thread Cert.MergeBIdeal.nD Cert.MergeBIdeal.τ).loc Cert.MergeBIdeal.main_arg0)
      ∧ m' ((c.tc : Thread Cert.MergeBRIdeal.nD Cert.MergeBRIdeal.τ).loc Cert.MergeBRIdeal.main_arg1) = m ((c.tc : Thread Cert.MergeBIdeal.nD Cert.MergeBIdeal.τ).loc Cert.MergeBIdeal.main_arg1)
      ∧ m' ((c.tc : Thread Cert.MergeBRIdeal.nD Cert.MergeBRIdeal.τ).loc Cert.MergeBRIdeal.main_arg2) = m ((c.tc : Thread Cert.MergeBIdeal.nD Cert.MergeBIdeal.τ).loc Cert.MergeBIdeal.main_arg2)
      ∧ m' ((c.tc : Thread Cert.MergeBRIdeal.nD Cert.MergeBRIdeal.τ).loc Cert.MergeBRIdeal.main_arg3) = m ((c.tc : Thread Cert.MergeBIdeal.nD Cert.MergeBIdeal.τ).loc Cert.MergeBIdeal.main_arg3)
      ∧ m' ((c.tc : Thread Cert.MergeBRIdeal.nD Cert.MergeBRIdeal.τ).loc Cert.MergeBRIdeal.main_arg4) = m ((c.tc : Thread Cert.MergeBIdeal.nD Cert.MergeBIdeal.τ).loc Cert.MergeBIdeal.main_arg4)
      ∧ m' ((c.tc : Thread Cert.MergeBRIdeal.nD Cert.MergeBRIdeal.τ).loc Cert.MergeBRIdeal.main_arg5) = m ((c.tc : Thread Cert.MergeBIdeal.nD Cert.MergeBIdeal.τ).loc Cert.MergeBIdeal.main_arg5)
      ∧ m' ((c.tc : Thread Cert.MergeBRIdeal.nD Cert.MergeBRIdeal.τ).loc Cert.MergeBRIdeal.main_arg6) = m ((c.tc : Thread Cert.MergeBIdeal.nD Cert.MergeBIdeal.τ).loc Cert.MergeBIdeal.main_arg6)
      ∧ m' ((c.tc : Thread Cert.MergeBRIdeal.nD Cert.MergeBRIdeal.τ).loc Cert.MergeBRIdeal.main_arg7) = m ((c.tc : Thread Cert.MergeBIdeal.nD Cert.MergeBIdeal.τ).loc Cert.MergeBIdeal.main_arg7)) →
    ∃ (v0 : (c : Dev Cert.MergeBIdeal.nD) → Buf (Elt Ideal) ((c.tc : Thread Cert.MergeBIdeal.nD Cert.MergeBIdeal.τ).loc Cert.MergeBIdeal.main_v10_0)) (v1 : (c : Dev Cert.MergeBIdeal.nD) → Buf (Elt Ideal) ((c.tc : Thread Cert.MergeBIdeal.nD Cert.MergeBIdeal.τ).loc Cert.MergeBIdeal.main_v10_1)) (v2 : (c : Dev Cert.MergeBIdeal.nD) → Buf (Elt Ideal) ((c.tc : Thread Cert.MergeBIdeal.nD Cert.MergeBIdeal.τ).loc Cert.MergeBIdeal.main_v10_2)) (v3 : (c : Dev Cert.MergeBIdeal.nD) → Buf (Elt Ideal) ((c.tc : Thread Cert.MergeBIdeal.nD Cert.MergeBIdeal.τ).loc Cert.MergeBIdeal.main_v10_3)) (v4 : (c : Dev Cert.MergeBIdeal.nD) → Buf (Elt Ideal) ((c.tc : Thread Cert.MergeBIdeal.nD Cert.MergeBIdeal.τ).loc Cert.MergeBIdeal.main_v10_4)) (v5 : (c : Dev Cert.MergeBIdeal.nD) → Buf (Elt Ideal) ((c.tc : Thread Cert.MergeBIdeal.nD Cert.MergeBIdeal.τ).loc Cert.MergeBIdeal.main_v10_5)) (v6 : (c : Dev Cert.MergeBIdeal.nD) → Buf (Elt Ideal) ((c.tc : Thread Cert.MergeBIdeal.nD Cert.MergeBIdeal.τ).loc Cert.MergeBIdeal.main_v10_6)),
      θ_run (Cert.MergeBIdeal.defs (F := Ideal)) (onTc (τ := Cert.MergeBIdeal.τ) (Cert.MergeBIdeal.main (F := Ideal))) ⟨m, fun _ => 0, g⟩ (fun r => ∀ c : Dev Cert.MergeBIdeal.nD,
          r.2.mem ((c.tc : Thread Cert.MergeBIdeal.nD Cert.MergeBIdeal.τ).loc Cert.MergeBIdeal.main_v10_0) = v0 c
          ∧ r.2.mem ((c.tc : Thread Cert.MergeBIdeal.nD Cert.MergeBIdeal.τ).loc Cert.MergeBIdeal.main_v10_1) = v1 c
          ∧ r.2.mem ((c.tc : Thread Cert.MergeBIdeal.nD Cert.MergeBIdeal.τ).loc Cert.MergeBIdeal.main_v10_2) = v2 c
          ∧ r.2.mem ((c.tc : Thread Cert.MergeBIdeal.nD Cert.MergeBIdeal.τ).loc Cert.MergeBIdeal.main_v10_3) = v3 c
          ∧ r.2.mem ((c.tc : Thread Cert.MergeBIdeal.nD Cert.MergeBIdeal.τ).loc Cert.MergeBIdeal.main_v10_4) = v4 c
          ∧ r.2.mem ((c.tc : Thread Cert.MergeBIdeal.nD Cert.MergeBIdeal.τ).loc Cert.MergeBIdeal.main_v10_5) = v5 c
          ∧ r.2.mem ((c.tc : Thread Cert.MergeBIdeal.nD Cert.MergeBIdeal.τ).loc Cert.MergeBIdeal.main_v10_6) = v6 c
          ∧ r.2.mem ((c.tc : Thread Cert.MergeBIdeal.nD Cert.MergeBIdeal.τ).loc Cert.MergeBIdeal.main_arg0) = m ((c.tc : Thread Cert.MergeBIdeal.nD Cert.MergeBIdeal.τ).loc Cert.MergeBIdeal.main_arg0)
          ∧ r.2.mem ((c.tc : Thread Cert.MergeBIdeal.nD Cert.MergeBIdeal.τ).loc Cert.MergeBIdeal.main_arg1) = m ((c.tc : Thread Cert.MergeBIdeal.nD Cert.MergeBIdeal.τ).loc Cert.MergeBIdeal.main_arg1)
          ∧ r.2.mem ((c.tc : Thread Cert.MergeBIdeal.nD Cert.MergeBIdeal.τ).loc Cert.MergeBIdeal.main_arg2) = m ((c.tc : Thread Cert.MergeBIdeal.nD Cert.MergeBIdeal.τ).loc Cert.MergeBIdeal.main_arg2)
          ∧ r.2.mem ((c.tc : Thread Cert.MergeBIdeal.nD Cert.MergeBIdeal.τ).loc Cert.MergeBIdeal.main_arg3) = m ((c.tc : Thread Cert.MergeBIdeal.nD Cert.MergeBIdeal.τ).loc Cert.MergeBIdeal.main_arg3)
          ∧ r.2.mem ((c.tc : Thread Cert.MergeBIdeal.nD Cert.MergeBIdeal.τ).loc Cert.MergeBIdeal.main_arg4) = m ((c.tc : Thread Cert.MergeBIdeal.nD Cert.MergeBIdeal.τ).loc Cert.MergeBIdeal.main_arg4)
          ∧ r.2.mem ((c.tc : Thread Cert.MergeBIdeal.nD Cert.MergeBIdeal.τ).loc Cert.MergeBIdeal.main_arg5) = m ((c.tc : Thread Cert.MergeBIdeal.nD Cert.MergeBIdeal.τ).loc Cert.MergeBIdeal.main_arg5)
          ∧ r.2.mem ((c.tc : Thread Cert.MergeBIdeal.nD Cert.MergeBIdeal.τ).loc Cert.MergeBIdeal.main_arg6) = m ((c.tc : Thread Cert.MergeBIdeal.nD Cert.MergeBIdeal.τ).loc Cert.MergeBIdeal.main_arg6)
          ∧ r.2.mem ((c.tc : Thread Cert.MergeBIdeal.nD Cert.MergeBIdeal.τ).loc Cert.MergeBIdeal.main_arg7) = m ((c.tc : Thread Cert.MergeBIdeal.nD Cert.MergeBIdeal.τ).loc Cert.MergeBIdeal.main_arg7))
      ∧ θ_run (Cert.MergeBRIdeal.defs (F := Ideal)) (onTc (τ := Cert.MergeBRIdeal.τ) (Cert.MergeBRIdeal.main (F := Ideal))) ⟨m', fun _ => 0, g'⟩ (fun r => ∀ c : Dev Cert.MergeBRIdeal.nD,
          r.2.mem ((c.tc : Thread Cert.MergeBRIdeal.nD Cert.MergeBRIdeal.τ).loc Cert.MergeBRIdeal.main_v88) = v0 c
          ∧ r.2.mem ((c.tc : Thread Cert.MergeBRIdeal.nD Cert.MergeBRIdeal.τ).loc Cert.MergeBRIdeal.main_v89) = v1 c
          ∧ r.2.mem ((c.tc : Thread Cert.MergeBRIdeal.nD Cert.MergeBRIdeal.τ).loc Cert.MergeBRIdeal.main_v90) = v2 c
          ∧ r.2.mem ((c.tc : Thread Cert.MergeBRIdeal.nD Cert.MergeBRIdeal.τ).loc Cert.MergeBRIdeal.main_v91) = v3 c
          ∧ r.2.mem ((c.tc : Thread Cert.MergeBRIdeal.nD Cert.MergeBRIdeal.τ).loc Cert.MergeBRIdeal.main_v92) = v4 c
          ∧ r.2.mem ((c.tc : Thread Cert.MergeBRIdeal.nD Cert.MergeBRIdeal.τ).loc Cert.MergeBRIdeal.main_v93) = v5 c
          ∧ r.2.mem ((c.tc : Thread Cert.MergeBRIdeal.nD Cert.MergeBRIdeal.τ).loc Cert.MergeBRIdeal.main_v86) = v6 c
          ∧ r.2.mem ((c.tc : Thread Cert.MergeBRIdeal.nD Cert.MergeBRIdeal.τ).loc Cert.MergeBRIdeal.main_arg0) = m' ((c.tc : Thread Cert.MergeBRIdeal.nD Cert.MergeBRIdeal.τ).loc Cert.MergeBRIdeal.main_arg0)
          ∧ r.2.mem ((c.tc : Thread Cert.MergeBRIdeal.nD Cert.MergeBRIdeal.τ).loc Cert.MergeBRIdeal.main_arg1) = m' ((c.tc : Thread Cert.MergeBRIdeal.nD Cert.MergeBRIdeal.τ).loc Cert.MergeBRIdeal.main_arg1)
          ∧ r.2.mem ((c.tc : Thread Cert.MergeBRIdeal.nD Cert.MergeBRIdeal.τ).loc Cert.MergeBRIdeal.main_arg2) = m' ((c.tc : Thread Cert.MergeBRIdeal.nD Cert.MergeBRIdeal.τ).loc Cert.MergeBRIdeal.main_arg2)
          ∧ r.2.mem ((c.tc : Thread Cert.MergeBRIdeal.nD Cert.MergeBRIdeal.τ).loc Cert.MergeBRIdeal.main_arg3) = m' ((c.tc : Thread Cert.MergeBRIdeal.nD Cert.MergeBRIdeal.τ).loc Cert.MergeBRIdeal.main_arg3)
          ∧ r.2.mem ((c.tc : Thread Cert.MergeBRIdeal.nD Cert.MergeBRIdeal.τ).loc Cert.MergeBRIdeal.main_arg4) = m' ((c.tc : Thread Cert.MergeBRIdeal.nD Cert.MergeBRIdeal.τ).loc Cert.MergeBRIdeal.main_arg4)
          ∧ r.2.mem ((c.tc : Thread Cert.MergeBRIdeal.nD Cert.MergeBRIdeal.τ).loc Cert.MergeBRIdeal.main_arg5) = m' ((c.tc : Thread Cert.MergeBRIdeal.nD Cert.MergeBRIdeal.τ).loc Cert.MergeBRIdeal.main_arg5)
          ∧ r.2.mem ((c.tc : Thread Cert.MergeBRIdeal.nD Cert.MergeBRIdeal.τ).loc Cert.MergeBRIdeal.main_arg6) = m' ((c.tc : Thread Cert.MergeBRIdeal.nD Cert.MergeBRIdeal.τ).loc Cert.MergeBRIdeal.main_arg6)
          ∧ r.2.mem ((c.tc : Thread Cert.MergeBRIdeal.nD Cert.MergeBRIdeal.τ).loc Cert.MergeBRIdeal.main_arg7) = m' ((c.tc : Thread Cert.MergeBRIdeal.nD Cert.MergeBRIdeal.τ).loc Cert.MergeBRIdeal.main_arg7))

def preserves_FfnF_FfnFIdeal : Prop :=
  True

def algebraic_FfnFIdeal_FfnFRIdeal [hFfnFIdeal : Cert.FfnFIdeal.Facts] [hFfnFRIdeal : Cert.FfnFRIdeal.Facts] : Prop :=
  ∀ (m : (ℓ : Loc Cert.FfnFIdeal.nD Cert.FfnFIdeal.τ Cert.FfnFIdeal.sig) → Buf (Elt Ideal) ℓ) (g : Dev Cert.FfnFIdeal.nD → PrngReg)
    (m' : (ℓ : Loc Cert.FfnFRIdeal.nD Cert.FfnFRIdeal.τ Cert.FfnFRIdeal.sig) → Buf (Elt Ideal) ℓ) (g' : Dev Cert.FfnFRIdeal.nD → PrngReg), Pre_FfnFIdeal m →
    (∀ c : Dev Cert.FfnFIdeal.nD,
      m' ((c.tc : Thread Cert.FfnFRIdeal.nD Cert.FfnFRIdeal.τ).loc Cert.FfnFRIdeal.main_arg0) = m ((c.tc : Thread Cert.FfnFIdeal.nD Cert.FfnFIdeal.τ).loc Cert.FfnFIdeal.main_arg0)
      ∧ m' ((c.tc : Thread Cert.FfnFRIdeal.nD Cert.FfnFRIdeal.τ).loc Cert.FfnFRIdeal.main_arg1) = m ((c.tc : Thread Cert.FfnFIdeal.nD Cert.FfnFIdeal.τ).loc Cert.FfnFIdeal.main_arg1)
      ∧ m' ((c.tc : Thread Cert.FfnFRIdeal.nD Cert.FfnFRIdeal.τ).loc Cert.FfnFRIdeal.main_arg2) = m ((c.tc : Thread Cert.FfnFIdeal.nD Cert.FfnFIdeal.τ).loc Cert.FfnFIdeal.main_arg2)
      ∧ m' ((c.tc : Thread Cert.FfnFRIdeal.nD Cert.FfnFRIdeal.τ).loc Cert.FfnFRIdeal.main_arg3) = m ((c.tc : Thread Cert.FfnFIdeal.nD Cert.FfnFIdeal.τ).loc Cert.FfnFIdeal.main_arg3)
      ∧ m' ((c.tc : Thread Cert.FfnFRIdeal.nD Cert.FfnFRIdeal.τ).loc Cert.FfnFRIdeal.main_arg4) = m ((c.tc : Thread Cert.FfnFIdeal.nD Cert.FfnFIdeal.τ).loc Cert.FfnFIdeal.main_arg4)) →
    ∃ (v0 : (c : Dev Cert.FfnFIdeal.nD) → Buf (Elt Ideal) ((c.tc : Thread Cert.FfnFIdeal.nD Cert.FfnFIdeal.τ).loc Cert.FfnFIdeal.main_v9_0)) (v1 : (c : Dev Cert.FfnFIdeal.nD) → Buf (Elt Ideal) ((c.tc : Thread Cert.FfnFIdeal.nD Cert.FfnFIdeal.τ).loc Cert.FfnFIdeal.main_v9_1)) (v2 : (c : Dev Cert.FfnFIdeal.nD) → Buf (Elt Ideal) ((c.tc : Thread Cert.FfnFIdeal.nD Cert.FfnFIdeal.τ).loc Cert.FfnFIdeal.main_v9_2)) (v3 : (c : Dev Cert.FfnFIdeal.nD) → Buf (Elt Ideal) ((c.tc : Thread Cert.FfnFIdeal.nD Cert.FfnFIdeal.τ).loc Cert.FfnFIdeal.main_v9_3)),
      θ_run (Cert.FfnFIdeal.defs (F := Ideal)) (onTc (τ := Cert.FfnFIdeal.τ) (Cert.FfnFIdeal.main (F := Ideal))) ⟨m, fun _ => 0, g⟩ (fun r => ∀ c : Dev Cert.FfnFIdeal.nD,
          r.2.mem ((c.tc : Thread Cert.FfnFIdeal.nD Cert.FfnFIdeal.τ).loc Cert.FfnFIdeal.main_v9_0) = v0 c
          ∧ r.2.mem ((c.tc : Thread Cert.FfnFIdeal.nD Cert.FfnFIdeal.τ).loc Cert.FfnFIdeal.main_v9_1) = v1 c
          ∧ r.2.mem ((c.tc : Thread Cert.FfnFIdeal.nD Cert.FfnFIdeal.τ).loc Cert.FfnFIdeal.main_v9_2) = v2 c
          ∧ r.2.mem ((c.tc : Thread Cert.FfnFIdeal.nD Cert.FfnFIdeal.τ).loc Cert.FfnFIdeal.main_v9_3) = v3 c
          ∧ r.2.mem ((c.tc : Thread Cert.FfnFIdeal.nD Cert.FfnFIdeal.τ).loc Cert.FfnFIdeal.main_arg0) = m ((c.tc : Thread Cert.FfnFIdeal.nD Cert.FfnFIdeal.τ).loc Cert.FfnFIdeal.main_arg0)
          ∧ r.2.mem ((c.tc : Thread Cert.FfnFIdeal.nD Cert.FfnFIdeal.τ).loc Cert.FfnFIdeal.main_arg1) = m ((c.tc : Thread Cert.FfnFIdeal.nD Cert.FfnFIdeal.τ).loc Cert.FfnFIdeal.main_arg1)
          ∧ r.2.mem ((c.tc : Thread Cert.FfnFIdeal.nD Cert.FfnFIdeal.τ).loc Cert.FfnFIdeal.main_arg2) = m ((c.tc : Thread Cert.FfnFIdeal.nD Cert.FfnFIdeal.τ).loc Cert.FfnFIdeal.main_arg2)
          ∧ r.2.mem ((c.tc : Thread Cert.FfnFIdeal.nD Cert.FfnFIdeal.τ).loc Cert.FfnFIdeal.main_arg3) = m ((c.tc : Thread Cert.FfnFIdeal.nD Cert.FfnFIdeal.τ).loc Cert.FfnFIdeal.main_arg3)
          ∧ r.2.mem ((c.tc : Thread Cert.FfnFIdeal.nD Cert.FfnFIdeal.τ).loc Cert.FfnFIdeal.main_arg4) = m ((c.tc : Thread Cert.FfnFIdeal.nD Cert.FfnFIdeal.τ).loc Cert.FfnFIdeal.main_arg4))
      ∧ θ_run (Cert.FfnFRIdeal.defs (F := Ideal)) (onTc (τ := Cert.FfnFRIdeal.τ) (Cert.FfnFRIdeal.main (F := Ideal))) ⟨m', fun _ => 0, g'⟩ (fun r => ∀ c : Dev Cert.FfnFRIdeal.nD,
          r.2.mem ((c.tc : Thread Cert.FfnFRIdeal.nD Cert.FfnFRIdeal.τ).loc Cert.FfnFRIdeal.main_v15) = v0 c
          ∧ r.2.mem ((c.tc : Thread Cert.FfnFRIdeal.nD Cert.FfnFRIdeal.τ).loc Cert.FfnFRIdeal.main_v18) = v1 c
          ∧ r.2.mem ((c.tc : Thread Cert.FfnFRIdeal.nD Cert.FfnFRIdeal.τ).loc Cert.FfnFRIdeal.main_v21) = v2 c
          ∧ r.2.mem ((c.tc : Thread Cert.FfnFRIdeal.nD Cert.FfnFRIdeal.τ).loc Cert.FfnFRIdeal.main_v25) = v3 c
          ∧ r.2.mem ((c.tc : Thread Cert.FfnFRIdeal.nD Cert.FfnFRIdeal.τ).loc Cert.FfnFRIdeal.main_arg0) = m' ((c.tc : Thread Cert.FfnFRIdeal.nD Cert.FfnFRIdeal.τ).loc Cert.FfnFRIdeal.main_arg0)
          ∧ r.2.mem ((c.tc : Thread Cert.FfnFRIdeal.nD Cert.FfnFRIdeal.τ).loc Cert.FfnFRIdeal.main_arg1) = m' ((c.tc : Thread Cert.FfnFRIdeal.nD Cert.FfnFRIdeal.τ).loc Cert.FfnFRIdeal.main_arg1)
          ∧ r.2.mem ((c.tc : Thread Cert.FfnFRIdeal.nD Cert.FfnFRIdeal.τ).loc Cert.FfnFRIdeal.main_arg2) = m' ((c.tc : Thread Cert.FfnFRIdeal.nD Cert.FfnFRIdeal.τ).loc Cert.FfnFRIdeal.main_arg2)
          ∧ r.2.mem ((c.tc : Thread Cert.FfnFRIdeal.nD Cert.FfnFRIdeal.τ).loc Cert.FfnFRIdeal.main_arg3) = m' ((c.tc : Thread Cert.FfnFRIdeal.nD Cert.FfnFRIdeal.τ).loc Cert.FfnFRIdeal.main_arg3)
          ∧ r.2.mem ((c.tc : Thread Cert.FfnFRIdeal.nD Cert.FfnFRIdeal.τ).loc Cert.FfnFRIdeal.main_arg4) = m' ((c.tc : Thread Cert.FfnFRIdeal.nD Cert.FfnFRIdeal.τ).loc Cert.FfnFRIdeal.main_arg4))

def preserves_MixF_MixFIdeal : Prop :=
  True

def algebraic_MixFIdeal_MixFRIdeal [hMixFIdeal : Cert.MixFIdeal.Facts] [hMixFRIdeal : Cert.MixFRIdeal.Facts] : Prop :=
  ∀ (m : (ℓ : Loc Cert.MixFIdeal.nD Cert.MixFIdeal.τ Cert.MixFIdeal.sig) → Buf (Elt Ideal) ℓ) (g : Dev Cert.MixFIdeal.nD → PrngReg)
    (m' : (ℓ : Loc Cert.MixFRIdeal.nD Cert.MixFRIdeal.τ Cert.MixFRIdeal.sig) → Buf (Elt Ideal) ℓ) (g' : Dev Cert.MixFRIdeal.nD → PrngReg), Pre_MixFIdeal m →
    (∀ c : Dev Cert.MixFIdeal.nD,
      m' ((c.tc : Thread Cert.MixFRIdeal.nD Cert.MixFRIdeal.τ).loc Cert.MixFRIdeal.main_arg0) = m ((c.tc : Thread Cert.MixFIdeal.nD Cert.MixFIdeal.τ).loc Cert.MixFIdeal.main_arg0)
      ∧ m' ((c.tc : Thread Cert.MixFRIdeal.nD Cert.MixFRIdeal.τ).loc Cert.MixFRIdeal.main_arg1) = m ((c.tc : Thread Cert.MixFIdeal.nD Cert.MixFIdeal.τ).loc Cert.MixFIdeal.main_arg1)
      ∧ m' ((c.tc : Thread Cert.MixFRIdeal.nD Cert.MixFRIdeal.τ).loc Cert.MixFRIdeal.main_arg2) = m ((c.tc : Thread Cert.MixFIdeal.nD Cert.MixFIdeal.τ).loc Cert.MixFIdeal.main_arg2)
      ∧ m' ((c.tc : Thread Cert.MixFRIdeal.nD Cert.MixFRIdeal.τ).loc Cert.MixFRIdeal.main_arg3) = m ((c.tc : Thread Cert.MixFIdeal.nD Cert.MixFIdeal.τ).loc Cert.MixFIdeal.main_arg3)
      ∧ m' ((c.tc : Thread Cert.MixFRIdeal.nD Cert.MixFRIdeal.τ).loc Cert.MixFRIdeal.main_arg4) = m ((c.tc : Thread Cert.MixFIdeal.nD Cert.MixFIdeal.τ).loc Cert.MixFIdeal.main_arg4)
      ∧ m' ((c.tc : Thread Cert.MixFRIdeal.nD Cert.MixFRIdeal.τ).loc Cert.MixFRIdeal.main_arg5) = m ((c.tc : Thread Cert.MixFIdeal.nD Cert.MixFIdeal.τ).loc Cert.MixFIdeal.main_arg5)
      ∧ m' ((c.tc : Thread Cert.MixFRIdeal.nD Cert.MixFRIdeal.τ).loc Cert.MixFRIdeal.main_arg6) = m ((c.tc : Thread Cert.MixFIdeal.nD Cert.MixFIdeal.τ).loc Cert.MixFIdeal.main_arg6)
      ∧ m' ((c.tc : Thread Cert.MixFRIdeal.nD Cert.MixFRIdeal.τ).loc Cert.MixFRIdeal.main_arg7) = m ((c.tc : Thread Cert.MixFIdeal.nD Cert.MixFIdeal.τ).loc Cert.MixFIdeal.main_arg7)
      ∧ m' ((c.tc : Thread Cert.MixFRIdeal.nD Cert.MixFRIdeal.τ).loc Cert.MixFRIdeal.main_arg8) = m ((c.tc : Thread Cert.MixFIdeal.nD Cert.MixFIdeal.τ).loc Cert.MixFIdeal.main_arg8)) →
    ∃ (v0 : (c : Dev Cert.MixFIdeal.nD) → Buf (Elt Ideal) ((c.tc : Thread Cert.MixFIdeal.nD Cert.MixFIdeal.τ).loc Cert.MixFIdeal.main_v34_0)) (v1 : (c : Dev Cert.MixFIdeal.nD) → Buf (Elt Ideal) ((c.tc : Thread Cert.MixFIdeal.nD Cert.MixFIdeal.τ).loc Cert.MixFIdeal.main_v34_1)) (v2 : (c : Dev Cert.MixFIdeal.nD) → Buf (Elt Ideal) ((c.tc : Thread Cert.MixFIdeal.nD Cert.MixFIdeal.τ).loc Cert.MixFIdeal.main_v34_2)),
      θ_run (Cert.MixFIdeal.defs (F := Ideal)) (onTc (τ := Cert.MixFIdeal.τ) (Cert.MixFIdeal.main (F := Ideal))) ⟨m, fun _ => 0, g⟩ (fun r => ∀ c : Dev Cert.MixFIdeal.nD,
          r.2.mem ((c.tc : Thread Cert.MixFIdeal.nD Cert.MixFIdeal.τ).loc Cert.MixFIdeal.main_v34_0) = v0 c
          ∧ r.2.mem ((c.tc : Thread Cert.MixFIdeal.nD Cert.MixFIdeal.τ).loc Cert.MixFIdeal.main_v34_1) = v1 c
          ∧ r.2.mem ((c.tc : Thread Cert.MixFIdeal.nD Cert.MixFIdeal.τ).loc Cert.MixFIdeal.main_v34_2) = v2 c
          ∧ r.2.mem ((c.tc : Thread Cert.MixFIdeal.nD Cert.MixFIdeal.τ).loc Cert.MixFIdeal.main_arg0) = m ((c.tc : Thread Cert.MixFIdeal.nD Cert.MixFIdeal.τ).loc Cert.MixFIdeal.main_arg0)
          ∧ r.2.mem ((c.tc : Thread Cert.MixFIdeal.nD Cert.MixFIdeal.τ).loc Cert.MixFIdeal.main_arg1) = m ((c.tc : Thread Cert.MixFIdeal.nD Cert.MixFIdeal.τ).loc Cert.MixFIdeal.main_arg1)
          ∧ r.2.mem ((c.tc : Thread Cert.MixFIdeal.nD Cert.MixFIdeal.τ).loc Cert.MixFIdeal.main_arg2) = m ((c.tc : Thread Cert.MixFIdeal.nD Cert.MixFIdeal.τ).loc Cert.MixFIdeal.main_arg2)
          ∧ r.2.mem ((c.tc : Thread Cert.MixFIdeal.nD Cert.MixFIdeal.τ).loc Cert.MixFIdeal.main_arg3) = m ((c.tc : Thread Cert.MixFIdeal.nD Cert.MixFIdeal.τ).loc Cert.MixFIdeal.main_arg3)
          ∧ r.2.mem ((c.tc : Thread Cert.MixFIdeal.nD Cert.MixFIdeal.τ).loc Cert.MixFIdeal.main_arg4) = m ((c.tc : Thread Cert.MixFIdeal.nD Cert.MixFIdeal.τ).loc Cert.MixFIdeal.main_arg4)
          ∧ r.2.mem ((c.tc : Thread Cert.MixFIdeal.nD Cert.MixFIdeal.τ).loc Cert.MixFIdeal.main_arg5) = m ((c.tc : Thread Cert.MixFIdeal.nD Cert.MixFIdeal.τ).loc Cert.MixFIdeal.main_arg5)
          ∧ r.2.mem ((c.tc : Thread Cert.MixFIdeal.nD Cert.MixFIdeal.τ).loc Cert.MixFIdeal.main_arg6) = m ((c.tc : Thread Cert.MixFIdeal.nD Cert.MixFIdeal.τ).loc Cert.MixFIdeal.main_arg6)
          ∧ r.2.mem ((c.tc : Thread Cert.MixFIdeal.nD Cert.MixFIdeal.τ).loc Cert.MixFIdeal.main_arg7) = m ((c.tc : Thread Cert.MixFIdeal.nD Cert.MixFIdeal.τ).loc Cert.MixFIdeal.main_arg7)
          ∧ r.2.mem ((c.tc : Thread Cert.MixFIdeal.nD Cert.MixFIdeal.τ).loc Cert.MixFIdeal.main_arg8) = m ((c.tc : Thread Cert.MixFIdeal.nD Cert.MixFIdeal.τ).loc Cert.MixFIdeal.main_arg8))
      ∧ θ_run (Cert.MixFRIdeal.defs (F := Ideal)) (onTc (τ := Cert.MixFRIdeal.τ) (Cert.MixFRIdeal.main (F := Ideal))) ⟨m', fun _ => 0, g'⟩ (fun r => ∀ c : Dev Cert.MixFRIdeal.nD,
          r.2.mem ((c.tc : Thread Cert.MixFRIdeal.nD Cert.MixFRIdeal.τ).loc Cert.MixFRIdeal.main_v103) = v0 c
          ∧ r.2.mem ((c.tc : Thread Cert.MixFRIdeal.nD Cert.MixFRIdeal.τ).loc Cert.MixFRIdeal.main_v119) = v1 c
          ∧ r.2.mem ((c.tc : Thread Cert.MixFRIdeal.nD Cert.MixFRIdeal.τ).loc Cert.MixFRIdeal.main_v75_4) = v2 c
          ∧ r.2.mem ((c.tc : Thread Cert.MixFRIdeal.nD Cert.MixFRIdeal.τ).loc Cert.MixFRIdeal.main_arg0) = m' ((c.tc : Thread Cert.MixFRIdeal.nD Cert.MixFRIdeal.τ).loc Cert.MixFRIdeal.main_arg0)
          ∧ r.2.mem ((c.tc : Thread Cert.MixFRIdeal.nD Cert.MixFRIdeal.τ).loc Cert.MixFRIdeal.main_arg1) = m' ((c.tc : Thread Cert.MixFRIdeal.nD Cert.MixFRIdeal.τ).loc Cert.MixFRIdeal.main_arg1)
          ∧ r.2.mem ((c.tc : Thread Cert.MixFRIdeal.nD Cert.MixFRIdeal.τ).loc Cert.MixFRIdeal.main_arg2) = m' ((c.tc : Thread Cert.MixFRIdeal.nD Cert.MixFRIdeal.τ).loc Cert.MixFRIdeal.main_arg2)
          ∧ r.2.mem ((c.tc : Thread Cert.MixFRIdeal.nD Cert.MixFRIdeal.τ).loc Cert.MixFRIdeal.main_arg3) = m' ((c.tc : Thread Cert.MixFRIdeal.nD Cert.MixFRIdeal.τ).loc Cert.MixFRIdeal.main_arg3)
          ∧ r.2.mem ((c.tc : Thread Cert.MixFRIdeal.nD Cert.MixFRIdeal.τ).loc Cert.MixFRIdeal.main_arg4) = m' ((c.tc : Thread Cert.MixFRIdeal.nD Cert.MixFRIdeal.τ).loc Cert.MixFRIdeal.main_arg4)
          ∧ r.2.mem ((c.tc : Thread Cert.MixFRIdeal.nD Cert.MixFRIdeal.τ).loc Cert.MixFRIdeal.main_arg5) = m' ((c.tc : Thread Cert.MixFRIdeal.nD Cert.MixFRIdeal.τ).loc Cert.MixFRIdeal.main_arg5)
          ∧ r.2.mem ((c.tc : Thread Cert.MixFRIdeal.nD Cert.MixFRIdeal.τ).loc Cert.MixFRIdeal.main_arg6) = m' ((c.tc : Thread Cert.MixFRIdeal.nD Cert.MixFRIdeal.τ).loc Cert.MixFRIdeal.main_arg6)
          ∧ r.2.mem ((c.tc : Thread Cert.MixFRIdeal.nD Cert.MixFRIdeal.τ).loc Cert.MixFRIdeal.main_arg7) = m' ((c.tc : Thread Cert.MixFRIdeal.nD Cert.MixFRIdeal.τ).loc Cert.MixFRIdeal.main_arg7)
          ∧ r.2.mem ((c.tc : Thread Cert.MixFRIdeal.nD Cert.MixFRIdeal.τ).loc Cert.MixFRIdeal.main_arg8) = m' ((c.tc : Thread Cert.MixFRIdeal.nD Cert.MixFRIdeal.τ).loc Cert.MixFRIdeal.main_arg8))

def preserves_InF_InFIdeal : Prop :=
  True

def algebraic_InFIdeal_InFRIdeal [hInFIdeal : Cert.InFIdeal.Facts] [hInFRIdeal : Cert.InFRIdeal.Facts] : Prop :=
  ∀ (m : (ℓ : Loc Cert.InFIdeal.nD Cert.InFIdeal.τ Cert.InFIdeal.sig) → Buf (Elt Ideal) ℓ) (g : Dev Cert.InFIdeal.nD → PrngReg)
    (m' : (ℓ : Loc Cert.InFRIdeal.nD Cert.InFRIdeal.τ Cert.InFRIdeal.sig) → Buf (Elt Ideal) ℓ) (g' : Dev Cert.InFRIdeal.nD → PrngReg), Pre_InFIdeal m →
    (∀ c : Dev Cert.InFIdeal.nD,
      m' ((c.tc : Thread Cert.InFRIdeal.nD Cert.InFRIdeal.τ).loc Cert.InFRIdeal.main_arg0) = m ((c.tc : Thread Cert.InFIdeal.nD Cert.InFIdeal.τ).loc Cert.InFIdeal.main_arg0)
      ∧ m' ((c.tc : Thread Cert.InFRIdeal.nD Cert.InFRIdeal.τ).loc Cert.InFRIdeal.main_arg1) = m ((c.tc : Thread Cert.InFIdeal.nD Cert.InFIdeal.τ).loc Cert.InFIdeal.main_arg1)
      ∧ m' ((c.tc : Thread Cert.InFRIdeal.nD Cert.InFRIdeal.τ).loc Cert.InFRIdeal.main_arg2) = m ((c.tc : Thread Cert.InFIdeal.nD Cert.InFIdeal.τ).loc Cert.InFIdeal.main_arg2)) →
    ∃ (v0 : (c : Dev Cert.InFIdeal.nD) → Buf (Elt Ideal) ((c.tc : Thread Cert.InFIdeal.nD Cert.InFIdeal.τ).loc Cert.InFIdeal.main_v5)) (v1 : (c : Dev Cert.InFIdeal.nD) → Buf (Elt Ideal) ((c.tc : Thread Cert.InFIdeal.nD Cert.InFIdeal.τ).loc Cert.InFIdeal.main_v4_1)),
      θ_run (Cert.InFIdeal.defs (F := Ideal)) (onTc (τ := Cert.InFIdeal.τ) (Cert.InFIdeal.main (F := Ideal))) ⟨m, fun _ => 0, g⟩ (fun r => ∀ c : Dev Cert.InFIdeal.nD,
          r.2.mem ((c.tc : Thread Cert.InFIdeal.nD Cert.InFIdeal.τ).loc Cert.InFIdeal.main_v5) = v0 c
          ∧ r.2.mem ((c.tc : Thread Cert.InFIdeal.nD Cert.InFIdeal.τ).loc Cert.InFIdeal.main_v4_1) = v1 c
          ∧ r.2.mem ((c.tc : Thread Cert.InFIdeal.nD Cert.InFIdeal.τ).loc Cert.InFIdeal.main_arg0) = m ((c.tc : Thread Cert.InFIdeal.nD Cert.InFIdeal.τ).loc Cert.InFIdeal.main_arg0)
          ∧ r.2.mem ((c.tc : Thread Cert.InFIdeal.nD Cert.InFIdeal.τ).loc Cert.InFIdeal.main_arg1) = m ((c.tc : Thread Cert.InFIdeal.nD Cert.InFIdeal.τ).loc Cert.InFIdeal.main_arg1)
          ∧ r.2.mem ((c.tc : Thread Cert.InFIdeal.nD Cert.InFIdeal.τ).loc Cert.InFIdeal.main_arg2) = m ((c.tc : Thread Cert.InFIdeal.nD Cert.InFIdeal.τ).loc Cert.InFIdeal.main_arg2))
      ∧ θ_run (Cert.InFRIdeal.defs (F := Ideal)) (onTc (τ := Cert.InFRIdeal.τ) (Cert.InFRIdeal.main (F := Ideal))) ⟨m', fun _ => 0, g'⟩ (fun r => ∀ c : Dev Cert.InFRIdeal.nD,
          r.2.mem ((c.tc : Thread Cert.InFRIdeal.nD Cert.InFRIdeal.τ).loc Cert.InFRIdeal.main_v14) = v0 c
          ∧ r.2.mem ((c.tc : Thread Cert.InFRIdeal.nD Cert.InFRIdeal.τ).loc Cert.InFRIdeal.main_v15) = v1 c
          ∧ r.2.mem ((c.tc : Thread Cert.InFRIdeal.nD Cert.InFRIdeal.τ).loc Cert.InFRIdeal.main_arg0) = m' ((c.tc : Thread Cert.InFRIdeal.nD Cert.InFRIdeal.τ).loc Cert.InFRIdeal.main_arg0)
          ∧ r.2.mem ((c.tc : Thread Cert.InFRIdeal.nD Cert.InFRIdeal.τ).loc Cert.InFRIdeal.main_arg1) = m' ((c.tc : Thread Cert.InFRIdeal.nD Cert.InFRIdeal.τ).loc Cert.InFRIdeal.main_arg1)
          ∧ r.2.mem ((c.tc : Thread Cert.InFRIdeal.nD Cert.InFRIdeal.τ).loc Cert.InFRIdeal.main_arg2) = m' ((c.tc : Thread Cert.InFRIdeal.nD Cert.InFRIdeal.τ).loc Cert.InFRIdeal.main_arg2))

def preserves_WIn_WInIdeal : Prop :=
  True

def algebraic_WInIdeal_WInRIdeal [hWInIdeal : Cert.WInIdeal.Facts] [hWInRIdeal : Cert.WInRIdeal.Facts] : Prop :=
  ∀ (m : (ℓ : Loc Cert.WInIdeal.nD Cert.WInIdeal.τ Cert.WInIdeal.sig) → Buf (Elt Ideal) ℓ) (g : Dev Cert.WInIdeal.nD → PrngReg)
    (m' : (ℓ : Loc Cert.WInRIdeal.nD Cert.WInRIdeal.τ Cert.WInRIdeal.sig) → Buf (Elt Ideal) ℓ) (g' : Dev Cert.WInRIdeal.nD → PrngReg), Pre_WInIdeal m →
    (∀ c : Dev Cert.WInIdeal.nD,
      m' ((c.tc : Thread Cert.WInRIdeal.nD Cert.WInRIdeal.τ).loc Cert.WInRIdeal.main_arg0) = m ((c.tc : Thread Cert.WInIdeal.nD Cert.WInIdeal.τ).loc Cert.WInIdeal.main_arg0)
      ∧ m' ((c.tc : Thread Cert.WInRIdeal.nD Cert.WInRIdeal.τ).loc Cert.WInRIdeal.main_arg1) = m ((c.tc : Thread Cert.WInIdeal.nD Cert.WInIdeal.τ).loc Cert.WInIdeal.main_arg1)) →
    ∃ (v0 : (c : Dev Cert.WInIdeal.nD) → Buf (Elt Ideal) ((c.tc : Thread Cert.WInIdeal.nD Cert.WInIdeal.τ).loc Cert.WInIdeal.main_v2_0)) (v1 : (c : Dev Cert.WInIdeal.nD) → Buf (Elt Ideal) ((c.tc : Thread Cert.WInIdeal.nD Cert.WInIdeal.τ).loc Cert.WInIdeal.main_v2_1)),
      θ_run (Cert.WInIdeal.defs (F := Ideal)) (onTc (τ := Cert.WInIdeal.τ) (Cert.WInIdeal.main (F := Ideal))) ⟨m, fun _ => 0, g⟩ (fun r => ∀ c : Dev Cert.WInIdeal.nD,
          r.2.mem ((c.tc : Thread Cert.WInIdeal.nD Cert.WInIdeal.τ).loc Cert.WInIdeal.main_v2_0) = v0 c
          ∧ r.2.mem ((c.tc : Thread Cert.WInIdeal.nD Cert.WInIdeal.τ).loc Cert.WInIdeal.main_v2_1) = v1 c
          ∧ r.2.mem ((c.tc : Thread Cert.WInIdeal.nD Cert.WInIdeal.τ).loc Cert.WInIdeal.main_arg0) = m ((c.tc : Thread Cert.WInIdeal.nD Cert.WInIdeal.τ).loc Cert.WInIdeal.main_arg0)
          ∧ r.2.mem ((c.tc : Thread Cert.WInIdeal.nD Cert.WInIdeal.τ).loc Cert.WInIdeal.main_arg1) = m ((c.tc : Thread Cert.WInIdeal.nD Cert.WInIdeal.τ).loc Cert.WInIdeal.main_arg1))
      ∧ θ_run (Cert.WInRIdeal.defs (F := Ideal)) (onTc (τ := Cert.WInRIdeal.τ) (Cert.WInRIdeal.main (F := Ideal))) ⟨m', fun _ => 0, g'⟩ (fun r => ∀ c : Dev Cert.WInRIdeal.nD,
          r.2.mem ((c.tc : Thread Cert.WInRIdeal.nD Cert.WInRIdeal.τ).loc Cert.WInRIdeal.main_v5) = v0 c
          ∧ r.2.mem ((c.tc : Thread Cert.WInRIdeal.nD Cert.WInRIdeal.τ).loc Cert.WInRIdeal.main_v6) = v1 c
          ∧ r.2.mem ((c.tc : Thread Cert.WInRIdeal.nD Cert.WInRIdeal.τ).loc Cert.WInRIdeal.main_arg0) = m' ((c.tc : Thread Cert.WInRIdeal.nD Cert.WInRIdeal.τ).loc Cert.WInRIdeal.main_arg0)
          ∧ r.2.mem ((c.tc : Thread Cert.WInRIdeal.nD Cert.WInRIdeal.τ).loc Cert.WInRIdeal.main_arg1) = m' ((c.tc : Thread Cert.WInRIdeal.nD Cert.WInRIdeal.τ).loc Cert.WInRIdeal.main_arg1))

def preserves_WGU_WGUIdeal : Prop :=
  True

def algebraic_WGUIdeal_WGURIdeal [hWGUIdeal : Cert.WGUIdeal.Facts] [hWGURIdeal : Cert.WGURIdeal.Facts] : Prop :=
  ∀ (m : (ℓ : Loc Cert.WGUIdeal.nD Cert.WGUIdeal.τ Cert.WGUIdeal.sig) → Buf (Elt Ideal) ℓ) (g : Dev Cert.WGUIdeal.nD → PrngReg)
    (m' : (ℓ : Loc Cert.WGURIdeal.nD Cert.WGURIdeal.τ Cert.WGURIdeal.sig) → Buf (Elt Ideal) ℓ) (g' : Dev Cert.WGURIdeal.nD → PrngReg), Pre_WGUIdeal m →
    (∀ c : Dev Cert.WGUIdeal.nD,
      m' ((c.tc : Thread Cert.WGURIdeal.nD Cert.WGURIdeal.τ).loc Cert.WGURIdeal.main_arg0) = m ((c.tc : Thread Cert.WGUIdeal.nD Cert.WGUIdeal.τ).loc Cert.WGUIdeal.main_arg0)
      ∧ m' ((c.tc : Thread Cert.WGURIdeal.nD Cert.WGURIdeal.τ).loc Cert.WGURIdeal.main_arg1) = m ((c.tc : Thread Cert.WGUIdeal.nD Cert.WGUIdeal.τ).loc Cert.WGUIdeal.main_arg1)
      ∧ m' ((c.tc : Thread Cert.WGURIdeal.nD Cert.WGURIdeal.τ).loc Cert.WGURIdeal.main_arg2) = m ((c.tc : Thread Cert.WGUIdeal.nD Cert.WGUIdeal.τ).loc Cert.WGUIdeal.main_arg2)) →
    ∃ (v0 : (c : Dev Cert.WGUIdeal.nD) → Buf (Elt Ideal) ((c.tc : Thread Cert.WGUIdeal.nD Cert.WGUIdeal.τ).loc Cert.WGUIdeal.main_v7_0)) (v1 : (c : Dev Cert.WGUIdeal.nD) → Buf (Elt Ideal) ((c.tc : Thread Cert.WGUIdeal.nD Cert.WGUIdeal.τ).loc Cert.WGUIdeal.main_v7_1)) (v2 : (c : Dev Cert.WGUIdeal.nD) → Buf (Elt Ideal) ((c.tc : Thread Cert.WGUIdeal.nD Cert.WGUIdeal.τ).loc Cert.WGUIdeal.main_v7_2)) (v3 : (c : Dev Cert.WGUIdeal.nD) → Buf (Elt Ideal) ((c.tc : Thread Cert.WGUIdeal.nD Cert.WGUIdeal.τ).loc Cert.WGUIdeal.main_v7_3)),
      θ_run (Cert.WGUIdeal.defs (F := Ideal)) (onTc (τ := Cert.WGUIdeal.τ) (Cert.WGUIdeal.main (F := Ideal))) ⟨m, fun _ => 0, g⟩ (fun r => ∀ c : Dev Cert.WGUIdeal.nD,
          r.2.mem ((c.tc : Thread Cert.WGUIdeal.nD Cert.WGUIdeal.τ).loc Cert.WGUIdeal.main_v7_0) = v0 c
          ∧ r.2.mem ((c.tc : Thread Cert.WGUIdeal.nD Cert.WGUIdeal.τ).loc Cert.WGUIdeal.main_v7_1) = v1 c
          ∧ r.2.mem ((c.tc : Thread Cert.WGUIdeal.nD Cert.WGUIdeal.τ).loc Cert.WGUIdeal.main_v7_2) = v2 c
          ∧ r.2.mem ((c.tc : Thread Cert.WGUIdeal.nD Cert.WGUIdeal.τ).loc Cert.WGUIdeal.main_v7_3) = v3 c
          ∧ r.2.mem ((c.tc : Thread Cert.WGUIdeal.nD Cert.WGUIdeal.τ).loc Cert.WGUIdeal.main_arg0) = m ((c.tc : Thread Cert.WGUIdeal.nD Cert.WGUIdeal.τ).loc Cert.WGUIdeal.main_arg0)
          ∧ r.2.mem ((c.tc : Thread Cert.WGUIdeal.nD Cert.WGUIdeal.τ).loc Cert.WGUIdeal.main_arg1) = m ((c.tc : Thread Cert.WGUIdeal.nD Cert.WGUIdeal.τ).loc Cert.WGUIdeal.main_arg1)
          ∧ r.2.mem ((c.tc : Thread Cert.WGUIdeal.nD Cert.WGUIdeal.τ).loc Cert.WGUIdeal.main_arg2) = m ((c.tc : Thread Cert.WGUIdeal.nD Cert.WGUIdeal.τ).loc Cert.WGUIdeal.main_arg2))
      ∧ θ_run (Cert.WGURIdeal.defs (F := Ideal)) (onTc (τ := Cert.WGURIdeal.τ) (Cert.WGURIdeal.main (F := Ideal))) ⟨m', fun _ => 0, g'⟩ (fun r => ∀ c : Dev Cert.WGURIdeal.nD,
          r.2.mem ((c.tc : Thread Cert.WGURIdeal.nD Cert.WGURIdeal.τ).loc Cert.WGURIdeal.main_v8) = v0 c
          ∧ r.2.mem ((c.tc : Thread Cert.WGURIdeal.nD Cert.WGURIdeal.τ).loc Cert.WGURIdeal.main_v11) = v1 c
          ∧ r.2.mem ((c.tc : Thread Cert.WGURIdeal.nD Cert.WGURIdeal.τ).loc Cert.WGURIdeal.main_v10) = v2 c
          ∧ r.2.mem ((c.tc : Thread Cert.WGURIdeal.nD Cert.WGURIdeal.τ).loc Cert.WGURIdeal.main_v12) = v3 c
          ∧ r.2.mem ((c.tc : Thread Cert.WGURIdeal.nD Cert.WGURIdeal.τ).loc Cert.WGURIdeal.main_arg0) = m' ((c.tc : Thread Cert.WGURIdeal.nD Cert.WGURIdeal.τ).loc Cert.WGURIdeal.main_arg0)
          ∧ r.2.mem ((c.tc : Thread Cert.WGURIdeal.nD Cert.WGURIdeal.τ).loc Cert.WGURIdeal.main_arg1) = m' ((c.tc : Thread Cert.WGURIdeal.nD Cert.WGURIdeal.τ).loc Cert.WGURIdeal.main_arg1)
          ∧ r.2.mem ((c.tc : Thread Cert.WGURIdeal.nD Cert.WGURIdeal.τ).loc Cert.WGURIdeal.main_arg2) = m' ((c.tc : Thread Cert.WGURIdeal.nD Cert.WGURIdeal.τ).loc Cert.WGURIdeal.main_arg2))

def preserves_Opt_OptIdeal : Prop :=
  True

def algebraic_OptIdeal_OptRIdeal [hOptIdeal : Cert.OptIdeal.Facts] [hOptRIdeal : Cert.OptRIdeal.Facts] : Prop :=
  ∀ (m : (ℓ : Loc Cert.OptIdeal.nD Cert.OptIdeal.τ Cert.OptIdeal.sig) → Buf (Elt Ideal) ℓ) (g : Dev Cert.OptIdeal.nD → PrngReg)
    (m' : (ℓ : Loc Cert.OptRIdeal.nD Cert.OptRIdeal.τ Cert.OptRIdeal.sig) → Buf (Elt Ideal) ℓ) (g' : Dev Cert.OptRIdeal.nD → PrngReg), Pre_OptIdeal m →
    (∀ c : Dev Cert.OptIdeal.nD,
      m' ((c.tc : Thread Cert.OptRIdeal.nD Cert.OptRIdeal.τ).loc Cert.OptRIdeal.main_arg0) = m ((c.tc : Thread Cert.OptIdeal.nD Cert.OptIdeal.τ).loc Cert.OptIdeal.main_arg0)
      ∧ m' ((c.tc : Thread Cert.OptRIdeal.nD Cert.OptRIdeal.τ).loc Cert.OptRIdeal.main_arg1) = m ((c.tc : Thread Cert.OptIdeal.nD Cert.OptIdeal.τ).loc Cert.OptIdeal.main_arg1)
      ∧ m' ((c.tc : Thread Cert.OptRIdeal.nD Cert.OptRIdeal.τ).loc Cert.OptRIdeal.main_arg2) = m ((c.tc : Thread Cert.OptIdeal.nD Cert.OptIdeal.τ).loc Cert.OptIdeal.main_arg2)
      ∧ m' ((c.tc : Thread Cert.OptRIdeal.nD Cert.OptRIdeal.τ).loc Cert.OptRIdeal.main_arg3) = m ((c.tc : Thread Cert.OptIdeal.nD Cert.OptIdeal.τ).loc Cert.OptIdeal.main_arg3)) →
    ∃ (v0 : (c : Dev Cert.OptIdeal.nD) → Buf (Elt Ideal) ((c.tc : Thread Cert.OptIdeal.nD Cert.OptIdeal.τ).loc Cert.OptIdeal.main_v0_0)) (v1 : (c : Dev Cert.OptIdeal.nD) → Buf (Elt Ideal) ((c.tc : Thread Cert.OptIdeal.nD Cert.OptIdeal.τ).loc Cert.OptIdeal.main_v0_1)) (v2 : (c : Dev Cert.OptIdeal.nD) → Buf (Elt Ideal) ((c.tc : Thread Cert.OptIdeal.nD Cert.OptIdeal.τ).loc Cert.OptIdeal.main_v0_2)) (v3 : (c : Dev Cert.OptIdeal.nD) → Buf (Elt Ideal) ((c.tc : Thread Cert.OptIdeal.nD Cert.OptIdeal.τ).loc Cert.OptIdeal.main_v0_3)),
      θ_run (Cert.OptIdeal.defs (F := Ideal)) (onTc (τ := Cert.OptIdeal.τ) (Cert.OptIdeal.main (F := Ideal))) ⟨m, fun _ => 0, g⟩ (fun r => ∀ c : Dev Cert.OptIdeal.nD,
          r.2.mem ((c.tc : Thread Cert.OptIdeal.nD Cert.OptIdeal.τ).loc Cert.OptIdeal.main_v0_0) = v0 c
          ∧ r.2.mem ((c.tc : Thread Cert.OptIdeal.nD Cert.OptIdeal.τ).loc Cert.OptIdeal.main_v0_1) = v1 c
          ∧ r.2.mem ((c.tc : Thread Cert.OptIdeal.nD Cert.OptIdeal.τ).loc Cert.OptIdeal.main_v0_2) = v2 c
          ∧ r.2.mem ((c.tc : Thread Cert.OptIdeal.nD Cert.OptIdeal.τ).loc Cert.OptIdeal.main_v0_3) = v3 c
          ∧ r.2.mem ((c.tc : Thread Cert.OptIdeal.nD Cert.OptIdeal.τ).loc Cert.OptIdeal.main_arg0) = m ((c.tc : Thread Cert.OptIdeal.nD Cert.OptIdeal.τ).loc Cert.OptIdeal.main_arg0)
          ∧ r.2.mem ((c.tc : Thread Cert.OptIdeal.nD Cert.OptIdeal.τ).loc Cert.OptIdeal.main_arg1) = m ((c.tc : Thread Cert.OptIdeal.nD Cert.OptIdeal.τ).loc Cert.OptIdeal.main_arg1)
          ∧ r.2.mem ((c.tc : Thread Cert.OptIdeal.nD Cert.OptIdeal.τ).loc Cert.OptIdeal.main_arg2) = m ((c.tc : Thread Cert.OptIdeal.nD Cert.OptIdeal.τ).loc Cert.OptIdeal.main_arg2)
          ∧ r.2.mem ((c.tc : Thread Cert.OptIdeal.nD Cert.OptIdeal.τ).loc Cert.OptIdeal.main_arg3) = m ((c.tc : Thread Cert.OptIdeal.nD Cert.OptIdeal.τ).loc Cert.OptIdeal.main_arg3))
      ∧ θ_run (Cert.OptRIdeal.defs (F := Ideal)) (onTc (τ := Cert.OptRIdeal.τ) (Cert.OptRIdeal.main (F := Ideal))) ⟨m', fun _ => 0, g'⟩ (fun r => ∀ c : Dev Cert.OptRIdeal.nD,
          r.2.mem ((c.tc : Thread Cert.OptRIdeal.nD Cert.OptRIdeal.τ).loc Cert.OptRIdeal.main_v23) = v0 c
          ∧ r.2.mem ((c.tc : Thread Cert.OptRIdeal.nD Cert.OptRIdeal.τ).loc Cert.OptRIdeal.main_v4) = v1 c
          ∧ r.2.mem ((c.tc : Thread Cert.OptRIdeal.nD Cert.OptRIdeal.τ).loc Cert.OptRIdeal.main_v10) = v2 c
          ∧ r.2.mem ((c.tc : Thread Cert.OptRIdeal.nD Cert.OptRIdeal.τ).loc Cert.OptRIdeal.main_arg1) = v3 c
          ∧ r.2.mem ((c.tc : Thread Cert.OptRIdeal.nD Cert.OptRIdeal.τ).loc Cert.OptRIdeal.main_arg0) = m' ((c.tc : Thread Cert.OptRIdeal.nD Cert.OptRIdeal.τ).loc Cert.OptRIdeal.main_arg0)
          ∧ r.2.mem ((c.tc : Thread Cert.OptRIdeal.nD Cert.OptRIdeal.τ).loc Cert.OptRIdeal.main_arg1) = m' ((c.tc : Thread Cert.OptRIdeal.nD Cert.OptRIdeal.τ).loc Cert.OptRIdeal.main_arg1)
          ∧ r.2.mem ((c.tc : Thread Cert.OptRIdeal.nD Cert.OptRIdeal.τ).loc Cert.OptRIdeal.main_arg2) = m' ((c.tc : Thread Cert.OptRIdeal.nD Cert.OptRIdeal.τ).loc Cert.OptRIdeal.main_arg2)
          ∧ r.2.mem ((c.tc : Thread Cert.OptRIdeal.nD Cert.OptRIdeal.τ).loc Cert.OptRIdeal.main_arg3) = m' ((c.tc : Thread Cert.OptRIdeal.nD Cert.OptRIdeal.τ).loc Cert.OptRIdeal.main_arg3))

def preserves_Mixer_MixerIdeal : Prop :=
  True

def Claim : Prop :=
  ∃ (hGates : Cert.Gates.Facts) (hGatesIdeal : Cert.GatesIdeal.Facts) (hGatesRIdeal : Cert.GatesRIdeal.Facts) (hFfnB : Cert.FfnB.Facts) (hFfnBIdeal : Cert.FfnBIdeal.Facts) (hFfnBRIdeal : Cert.FfnBRIdeal.Facts) (hInB : Cert.InB.Facts) (hInBIdeal : Cert.InBIdeal.Facts) (hInBRIdeal : Cert.InBRIdeal.Facts) (hLoss : Cert.Loss.Facts) (hLossIdeal : Cert.LossIdeal.Facts) (hLossRIdeal : Cert.LossRIdeal.Facts) (hMergeF : Cert.MergeF.Facts) (hMergeFIdeal : Cert.MergeFIdeal.Facts) (hMergeFRIdeal : Cert.MergeFRIdeal.Facts) (hMergeB : Cert.MergeB.Facts) (hMergeBIdeal : Cert.MergeBIdeal.Facts) (hMergeBRIdeal : Cert.MergeBRIdeal.Facts) (hFfnF : Cert.FfnF.Facts) (hFfnFIdeal : Cert.FfnFIdeal.Facts) (hFfnFRIdeal : Cert.FfnFRIdeal.Facts) (hMixF : Cert.MixF.Facts) (hMixFIdeal : Cert.MixFIdeal.Facts) (hMixFRIdeal : Cert.MixFRIdeal.Facts) (hInF : Cert.InF.Facts) (hInFIdeal : Cert.InFIdeal.Facts) (hInFRIdeal : Cert.InFRIdeal.Facts) (hWIn : Cert.WIn.Facts) (hWInIdeal : Cert.WInIdeal.Facts) (hWInRIdeal : Cert.WInRIdeal.Facts) (hWGU : Cert.WGU.Facts) (hWGUIdeal : Cert.WGUIdeal.Facts) (hWGURIdeal : Cert.WGURIdeal.Facts) (hOpt : Cert.Opt.Facts) (hOptIdeal : Cert.OptIdeal.Facts) (hOptRIdeal : Cert.OptRIdeal.Facts) (hMixer : Cert.Mixer.Facts) (hMixerIdeal : Cert.MixerIdeal.Facts) (hPre_gates_finite : Cert.Pre_gates_finite.Facts) (hPre_ffnb_finite : Cert.Pre_ffnb_finite.Facts) (hPre_inb_finite : Cert.Pre_inb_finite.Facts) (hPre_loss_finite : Cert.Pre_loss_finite.Facts),
    quiescent_Gates (hGates := hGates)
    ∧ quiescent_GatesIdeal (hGatesIdeal := hGatesIdeal)
    ∧ quiescent_GatesIdeal_pre_gates_finite (hGatesIdeal := hGatesIdeal) (hPre_gates_finite := hPre_gates_finite)
    ∧ quiescent_GatesRIdeal (hGatesRIdeal := hGatesRIdeal)
    ∧ quiescent_GatesRIdeal_pre_gates_finite (hGatesRIdeal := hGatesRIdeal) (hPre_gates_finite := hPre_gates_finite)
    ∧ quiescent_FfnB (hFfnB := hFfnB)
    ∧ quiescent_FfnBIdeal (hFfnBIdeal := hFfnBIdeal)
    ∧ quiescent_FfnBIdeal_pre_ffnb_finite (hFfnBIdeal := hFfnBIdeal) (hPre_ffnb_finite := hPre_ffnb_finite)
    ∧ quiescent_FfnBRIdeal (hFfnBRIdeal := hFfnBRIdeal)
    ∧ quiescent_FfnBRIdeal_pre_ffnb_finite (hFfnBRIdeal := hFfnBRIdeal) (hPre_ffnb_finite := hPre_ffnb_finite)
    ∧ quiescent_InB (hInB := hInB)
    ∧ quiescent_InBIdeal (hInBIdeal := hInBIdeal)
    ∧ quiescent_InBIdeal_pre_inb_finite (hInBIdeal := hInBIdeal) (hPre_inb_finite := hPre_inb_finite)
    ∧ quiescent_InBRIdeal (hInBRIdeal := hInBRIdeal)
    ∧ quiescent_InBRIdeal_pre_inb_finite (hInBRIdeal := hInBRIdeal) (hPre_inb_finite := hPre_inb_finite)
    ∧ quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRIdeal (hLossRIdeal := hLossRIdeal)
    ∧ quiescent_LossRIdeal_pre_loss_finite (hLossRIdeal := hLossRIdeal) (hPre_loss_finite := hPre_loss_finite)
    ∧ quiescent_MergeF (hMergeF := hMergeF)
    ∧ quiescent_MergeFIdeal (hMergeFIdeal := hMergeFIdeal)
    ∧ quiescent_MergeFRIdeal (hMergeFRIdeal := hMergeFRIdeal)
    ∧ quiescent_MergeB (hMergeB := hMergeB)
    ∧ quiescent_MergeBIdeal (hMergeBIdeal := hMergeBIdeal)
    ∧ quiescent_MergeBRIdeal (hMergeBRIdeal := hMergeBRIdeal)
    ∧ quiescent_FfnF (hFfnF := hFfnF)
    ∧ quiescent_FfnFIdeal (hFfnFIdeal := hFfnFIdeal)
    ∧ quiescent_FfnFRIdeal (hFfnFRIdeal := hFfnFRIdeal)
    ∧ quiescent_MixF (hMixF := hMixF)
    ∧ quiescent_MixFIdeal (hMixFIdeal := hMixFIdeal)
    ∧ quiescent_MixFRIdeal (hMixFRIdeal := hMixFRIdeal)
    ∧ quiescent_InF (hInF := hInF)
    ∧ quiescent_InFIdeal (hInFIdeal := hInFIdeal)
    ∧ quiescent_InFRIdeal (hInFRIdeal := hInFRIdeal)
    ∧ quiescent_WIn (hWIn := hWIn)
    ∧ quiescent_WInIdeal (hWInIdeal := hWInIdeal)
    ∧ quiescent_WInRIdeal (hWInRIdeal := hWInRIdeal)
    ∧ quiescent_WGU (hWGU := hWGU)
    ∧ quiescent_WGUIdeal (hWGUIdeal := hWGUIdeal)
    ∧ quiescent_WGURIdeal (hWGURIdeal := hWGURIdeal)
    ∧ quiescent_Opt (hOpt := hOpt)
    ∧ quiescent_OptIdeal (hOptIdeal := hOptIdeal)
    ∧ quiescent_OptRIdeal (hOptRIdeal := hOptRIdeal)
    ∧ quiescent_Mixer (hMixer := hMixer)
    ∧ quiescent_MixerIdeal (hMixerIdeal := hMixerIdeal)
    ∧ preserves_Gates_GatesIdeal
    ∧ algebraic_GatesIdeal_GatesRIdeal_pre_gates_finite (hGatesIdeal := hGatesIdeal) (hGatesRIdeal := hGatesRIdeal) (hPre_gates_finite := hPre_gates_finite)
    ∧ preserves_FfnB_FfnBIdeal
    ∧ algebraic_FfnBIdeal_FfnBRIdeal_pre_ffnb_finite (hFfnBIdeal := hFfnBIdeal) (hFfnBRIdeal := hFfnBRIdeal) (hPre_ffnb_finite := hPre_ffnb_finite)
    ∧ preserves_InB_InBIdeal
    ∧ algebraic_InBIdeal_InBRIdeal_pre_inb_finite (hInBIdeal := hInBIdeal) (hInBRIdeal := hInBRIdeal) (hPre_inb_finite := hPre_inb_finite)
    ∧ preserves_Loss_LossIdeal
    ∧ algebraic_LossIdeal_LossRIdeal_pre_loss_finite (hLossIdeal := hLossIdeal) (hLossRIdeal := hLossRIdeal) (hPre_loss_finite := hPre_loss_finite)
    ∧ preserves_MergeF_MergeFIdeal
    ∧ algebraic_MergeFIdeal_MergeFRIdeal (hMergeFIdeal := hMergeFIdeal) (hMergeFRIdeal := hMergeFRIdeal)
    ∧ preserves_MergeB_MergeBIdeal
    ∧ algebraic_MergeBIdeal_MergeBRIdeal (hMergeBIdeal := hMergeBIdeal) (hMergeBRIdeal := hMergeBRIdeal)
    ∧ preserves_FfnF_FfnFIdeal
    ∧ algebraic_FfnFIdeal_FfnFRIdeal (hFfnFIdeal := hFfnFIdeal) (hFfnFRIdeal := hFfnFRIdeal)
    ∧ preserves_MixF_MixFIdeal
    ∧ algebraic_MixFIdeal_MixFRIdeal (hMixFIdeal := hMixFIdeal) (hMixFRIdeal := hMixFRIdeal)
    ∧ preserves_InF_InFIdeal
    ∧ algebraic_InFIdeal_InFRIdeal (hInFIdeal := hInFIdeal) (hInFRIdeal := hInFRIdeal)
    ∧ preserves_WIn_WInIdeal
    ∧ algebraic_WInIdeal_WInRIdeal (hWInIdeal := hWInIdeal) (hWInRIdeal := hWInRIdeal)
    ∧ preserves_WGU_WGUIdeal
    ∧ algebraic_WGUIdeal_WGURIdeal (hWGUIdeal := hWGUIdeal) (hWGURIdeal := hWGURIdeal)
    ∧ preserves_Opt_OptIdeal
    ∧ algebraic_OptIdeal_OptRIdeal (hOptIdeal := hOptIdeal) (hOptRIdeal := hOptRIdeal)
    ∧ preserves_Mixer_MixerIdeal
-- ==== Pre_ffnb_finite.lean ====
abbrev S8192x1024 : Shape := ⟨2, ![8192, 1024]⟩
abbrev S1024 : Shape := ⟨1, ![1024]⟩
abbrev S1024x2816 : Shape := ⟨2, ![1024, 2816]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x2816 : S_.BroadcastsInDim S1024x2816 (![] : Fin 0 → Fin S1024x2816.rank)
  bcast_S_S8192x2816 : S_.BroadcastsInDim S8192x2816 (![] : Fin 0 → Fin S8192x2816.rank)

variable [Facts]

def fn_part1 {F : FTy → Type} [FloatOps F] (main_arg6 : FVec F S8192x2816 .f32) (main_v2 : IVec S8192x1024 1) (main_v5 : IVec S1024 1) (main_v8 : IVec S1024x2816 1) (main_v11 : IVec S1024x2816 1) (main_v14 : IVec S8192x1024 1) (main_v17 : IVec S8192x2816 1) : IVec S8192x1024 1 × IVec S1024 1 × IVec S1024x2816 1 × IVec S1024x2816 1 × IVec S8192x1024 1 × IVec S8192x2816 1 × IVec S8192x2816 1 :=
  let main_v18 : FVec F S8192x2816 .f32 := Host.absf main_arg6
  let main_cst_5 : FVec F S_ .f32 := constant S_ .f32 0x7F800000#32
  let main_v19 : FVec F S8192x2816 .f32 := broadcastInDim S8192x2816 ![] bcast_S_S8192x2816 main_cst_5
  let main_v20 : IVec S8192x2816 1 := cmpf .olt main_v18 main_v19
  (main_v2, main_v5, main_v8, main_v11, main_v14, main_v17, main_v20)

def fn {F : FTy → Type} [FloatOps F] (main_arg0 : FVec F S8192x1024 .f32) (main_arg1 : FVec F S1024 .f32) (main_arg2 : FVec F S1024x2816 .f32) (main_arg3 : FVec F S1024x2816 .f32) (main_arg4 : FVec F S8192x1024 .f32) (main_arg5 : FVec F S8192x2816 .f32) (main_arg6 : FVec F S8192x2816 .f32) : IVec S8192x1024 1 × IVec S1024 1 × IVec S1024x2816 1 × IVec S1024x2816 1 × IVec S8192x1024 1 × IVec S8192x2816 1 × IVec S8192x2816 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  let main_v15 : FVec F S8192x2816 .f32 := Host.absf main_arg5
  let main_cst_4 : FVec F S_ .f32 := constant S_ .f32 0x7F800000#32
  let main_v16 : FVec F S8192x2816 .f32 := broadcastInDim S8192x2816 ![] bcast_S_S8192x2816 main_cst_4
  let main_v17 : IVec S8192x2816 1 := cmpf .olt main_v15 main_v16
  fn_part1 (F := F) main_arg6 main_v2 main_v5 main_v8 main_v11 main_v14 main_v17
-- ==== Pre_gates_finite.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S1024 .f32) (main_arg2 : FVec F S1024x2816 .f32) (main_arg3 : FVec F S1024x2816 .f32) (main_arg4 : FVec F S2816x1024 .f32) (main_arg5 : FVec F S8192x1024 .f32) : IVec S8192x1024 1 × IVec S1024 1 × IVec S1024x2816 1 × IVec S1024x2816 1 × IVec S2816x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S8192x1024 .f32 := Host.absf main_arg5
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  (main_v2, main_v5, main_v8, main_v11, main_v14, main_v17)
-- ==== Pre_inb_finite.lean ====
abbrev S8192x1024 : Shape := ⟨2, ![8192, 1024]⟩
abbrev S1024 : Shape := ⟨1, ![1024]⟩
abbrev S1024x7168 : Shape := ⟨2, ![1024, 7168]⟩
abbrev S8192x7168 : Shape := ⟨2, ![8192, 7168]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x7168 : S_.BroadcastsInDim S1024x7168 (![] : Fin 0 → Fin S1024x7168.rank)
  bcast_S_S8192x7168 : S_.BroadcastsInDim S8192x7168 (![] : Fin 0 → Fin S8192x7168.rank)

variable [Facts]

def fn {F : FTy → Type} [FloatOps F] (main_arg0 : FVec F S8192x1024 .f32) (main_arg1 : FVec F S1024 .f32) (main_arg2 : FVec F S1024x7168 .f32) (main_arg3 : FVec F S8192x1024 .f32) (main_arg4 : FVec F S8192x7168 .f32) : IVec S8192x1024 1 × IVec S1024 1 × IVec S1024x7168 1 × IVec S8192x1024 1 × IVec S8192x7168 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x7168 .f32 := Host.absf main_arg2
  let main_cst_1 : FVec F S_ .f32 := constant S_ .f32 0x7F800000#32
  let main_v7 : FVec F S1024x7168 .f32 := broadcastInDim S1024x7168 ![] bcast_S_S1024x7168 main_cst_1
  let main_v8 : IVec S1024x7168 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_v12 : FVec F S8192x7168 .f32 := Host.absf main_arg4
  let main_cst_3 : FVec F S_ .f32 := constant S_ .f32 0x7F800000#32
  let main_v13 : FVec F S8192x7168 .f32 := broadcastInDim S8192x7168 ![] bcast_S_S8192x7168 main_cst_3
  let main_v14 : IVec S8192x7168 1 := cmpf .olt main_v12 main_v13
  (main_v2, main_v5, main_v8, main_v11, main_v14)
-- ==== Pre_loss_finite.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x1024 .f32) (main_arg1 : FVec F S1024 .f32) (main_arg2 : FVec F S8192x1024 .f32) : IVec S8192x1024 1 × IVec S1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  (main_v2, main_v5, main_v8)
-- ==== Gates.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8192x4x704 : Shape := ⟨3, ![8192, 4, 704]⟩
abbrev S4x8192x704 : Shape := ⟨3, ![4, 8192, 704]⟩
abbrev S4x704x1024 : Shape := ⟨3, ![4, 704, 1024]⟩
abbrev S1024x1024 : Shape := ⟨2, ![1024, 1024]⟩
abbrev S1x1024x704 : Shape := ⟨3, ![1, 1024, 704]⟩
abbrev S1x704x1024 : Shape := ⟨3, ![1, 704, 1024]⟩
abbrev S704x1024 : Shape := ⟨2, ![704, 1024]⟩
abbrev S1024x704 : Shape := ⟨2, ![1024, 704]⟩

abbrev nBuf : Space → Nat
  | .hbm => 39
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | .hbm, ⟨23, _⟩ => ⟨S1024x2816, .bf16⟩
  | .hbm, ⟨24, _⟩ => ⟨S8192x2816, .f32⟩
  | .hbm, ⟨25, _⟩ => ⟨S1024x2816, .bf16⟩
  | .hbm, ⟨26, _⟩ => ⟨S8192x2816, .f32⟩
  | .hbm, ⟨27, _⟩ => ⟨S8192x4x704, .f32⟩
  | .hbm, ⟨28, _⟩ => ⟨S4x8192x704, .f32⟩
  | .hbm, ⟨29, _⟩ => ⟨S4x8192x704, .bf16⟩
  | .hbm, ⟨30, _⟩ => ⟨S8192x4x704, .f32⟩
  | .hbm, ⟨31, _⟩ => ⟨S4x8192x704, .f32⟩
  | .hbm, ⟨32, _⟩ => ⟨S4x8192x704, .bf16⟩
  | .hbm, ⟨33, _⟩ => ⟨S4x704x1024, .f32⟩
  | .hbm, ⟨34, _⟩ => ⟨S4x704x1024, .bf16⟩
  | .hbm, ⟨35, _⟩ => ⟨S4x8192x704, .bf16⟩
  | .hbm, ⟨36, _⟩ => ⟨S4x8192x704, .bf16⟩
  | .hbm, ⟨37, _⟩ => ⟨S4x8192x704, .bf16⟩
  | .hbm, ⟨38, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | .local _ .vmem, ⟨12, _⟩ => ⟨S1x1024x704, .bf16⟩
  | .local _ .vmem, ⟨13, _⟩ => ⟨S1x1024x704, .bf16⟩
  | .local _ .vmem, ⟨14, _⟩ => ⟨S1024x1024, .bf16⟩
  | .local _ .vmem, ⟨15, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26_0 : Ref sig .tc := ⟨.hbm, 35, rfl⟩
abbrev main_v26_1 : Ref sig .tc := ⟨.hbm, 36, rfl⟩
abbrev main_v26_2 : Ref sig .tc := ⟨.hbm, 37, rfl⟩
abbrev main_v26_3 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== GatesRIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8192x4x704 : Shape := ⟨3, ![8192, 4, 704]⟩
abbrev S4x8192x704 : Shape := ⟨3, ![4, 8192, 704]⟩

abbrev nBuf : Space → Nat
  | .hbm => 66
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S_, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x1024, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S_, .f32⟩
  | .hbm, ⟨49, _⟩ => ⟨S8192x2816, .f32⟩
  | .hbm, ⟨50, _⟩ => ⟨S8192x2816, .f32⟩
  | .hbm, ⟨51, _⟩ => ⟨S_, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S8192x4x704, .f32⟩
  | .hbm, ⟨57, _⟩ => ⟨S4x8192x704, .f32⟩
  | .hbm, ⟨58, _⟩ => ⟨S4x8192x704, .bf16⟩
  | .hbm, ⟨59, _⟩ => ⟨S8192x4x704, .f32⟩
  | .hbm, ⟨60, _⟩ => ⟨S4x8192x704, .f32⟩
  | .hbm, ⟨61, _⟩ => ⟨S4x8192x704, .bf16⟩
  | .hbm, ⟨62, _⟩ => ⟨S8192x4x704, .f32⟩
  | .hbm, ⟨63, _⟩ => ⟨S4x8192x704, .f32⟩
  | .hbm, ⟨64, _⟩ => ⟨S4x8192x704, .bf16⟩
  | .hbm, ⟨65, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v15_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v15_1 : Ref sig .tc := ⟨.hbm, 35, rfl⟩
abbrev main_v15_0 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v21 : Ref sig .tc := ⟨.hbm, 45, rfl⟩
abbrev main_call2_v0 : Ref sig .tc := ⟨.hbm, 46, rfl⟩
abbrev main_call2_v1 : Ref sig .tc := ⟨.hbm, 47, rfl⟩
abbrev main_call2_cst : Ref sig .tc := ⟨.hbm, 48, rfl⟩
abbrev main_call2_v2 : Ref sig .tc := ⟨.hbm, 49, rfl⟩
abbrev main_call2_v3 : Ref sig .tc := ⟨.hbm, 50, rfl⟩
abbrev main_call2_cst_0 : Ref sig .tc := ⟨.hbm, 51, rfl⟩
abbrev main_call2_v4 : Ref sig .tc := ⟨.hbm, 52, rfl⟩
abbrev main_call2_v5 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩

abbrev nD : Nat := 1
abbrev τ : Topo := Topo.v7x

variable {F : FTy → Type} [FloatOps F]
-- ==== FfnB.lean ====
abbrev S8192x1024 : Shape := ⟨2, ![8192, 1024]⟩
abbrev S1024 : Shape := ⟨1, ![1024]⟩
abbrev S1024x2816 : Shape := ⟨2, ![1024, 2816]⟩
abbrev S8192x2816 : Shape := ⟨2, ![8192, 2816]⟩
abbrev S8192x4x704 : Shape := ⟨3, ![8192, 4, 704]⟩
abbrev S4x8192x704 : Shape := ⟨3, ![4, 8192, 704]⟩
abbrev S2816x1024 : Shape := ⟨2, ![2816, 1024]⟩
abbrev S4x704x1024 : Shape := ⟨3, ![4, 704, 1024]⟩
abbrev S1x1024 : Shape := ⟨2, ![1, 1024]⟩
abbrev S1x1024x704 : Shape := ⟨3, ![1, 1024, 704]⟩
abbrev S1x704x1024 : Shape := ⟨3, ![1, 704, 1024]⟩
abbrev S1024x1024 : Shape := ⟨2, ![1024, 1024]⟩
abbrev S8x1024 : Shape := ⟨2, ![8, 1024]⟩
abbrev S1024x704 : Shape := ⟨2, ![1024, 704]⟩
abbrev S704x1024 : Shape := ⟨2, ![704, 1024]⟩
abbrev S1024x1 : Shape := ⟨2, ![1024, 1]⟩
abbrev S128x8x1024 : Shape := ⟨3, ![128, 8, 1024]⟩

abbrev nBuf : Space → Nat
  | .hbm => 22
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S8192x4x704, .f32⟩
  | .hbm, ⟨8, _⟩ => ⟨S4x8192x704, .f32⟩
  | .hbm, ⟨9, _⟩ => ⟨S4x8192x704, .bf16⟩
  | .hbm, ⟨10, _⟩ => ⟨S8192x4x704, .f32⟩
  | .hbm, ⟨11, _⟩ => ⟨S4x8192x704, .f32⟩
  | .hbm, ⟨12, _⟩ => ⟨S4x8192x704, .bf16⟩
  | .hbm, ⟨13, _⟩ => ⟨S2816x1024, .f32⟩
  | .hbm, ⟨14, _⟩ => ⟨S4x704x1024, .f32⟩
  | .hbm, ⟨15, _⟩ => ⟨S4x704x1024, .bf16⟩
  | .hbm, ⟨16, _⟩ => ⟨S2816x1024, .f32⟩
  | .hbm, ⟨17, _⟩ => ⟨S4x704x1024, .f32⟩
  | .hbm, ⟨18, _⟩ => ⟨S4x704x1024, .bf16⟩
  | .hbm, ⟨19, _⟩ => ⟨S1x1024, .f32⟩
  | .hbm, ⟨20, _⟩ => ⟨S8192x1024, .f32⟩
  | .hbm, ⟨21, _⟩ => ⟨S1x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x704x1024, .bf16⟩
  | .local _ .vmem, ⟨7, _⟩ => ⟨S1x704x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | .local _ .vmem, ⟨15, _⟩ => ⟨S1x1024, .f32⟩
  | .local _ .vmem, ⟨16, _⟩ => ⟨S1024x1024, .f32⟩
  | .local _ .vmem, ⟨17, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v24 : BitVec 1 := Scalar.cmpi .eq arg1 c3_i32
  let v25 : BitVec 32 := Scalar.extui v24
  let c0_i32_20 : BitVec 32 := 0#32
  let v26 : BitVec 1 := Scalar.cmpi .ne v25 c0_i32_20
  v26

def k0_cond4 (i : grid0.Coords) : BitVec 1 :=
  let arg0 : BitVec 32 := BitVec.ofNat 32 (i 0).val
  let c7_i32 : BitVec 32 := 7#32
  let v27 : BitVec 1 := Scalar.cmpi .eq arg0 c7_i32
  let arg1 : BitVec 32 := BitVec.ofNat 32 (i 1).val
  let c3_i32_21 : BitVec 32 := 3#32
  let v28 : BitVec 1 := Scalar.cmpi .eq arg1 c3_i32_21
  let v29 : BitVec 1 := Scalar.andi v27 v28
  let v30 : BitVec 32 := Scalar.extui v29
  let c0_i32_22 : BitVec 32 := 0#32
  let v31 : BitVec 1 := Scalar.cmpi .ne v30 c0_i32_22
  v31

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== FfnBRIdeal.lean ====
abbrev S8192x1024 : Shape := ⟨2, ![8192, 1024]⟩
abbrev S1024 : Shape := ⟨1, ![1024]⟩
abbrev S1024x2816 : Shape := ⟨2, ![1024, 2816]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x2816, .f32⟩
  | .hbm, ⟨28, _⟩ => ⟨S8192x2816, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== InB.lean ====
abbrev S8192x1024 : Shape := ⟨2, ![8192, 1024]⟩
abbrev S1024 : Shape := ⟨1, ![1024]⟩
abbrev S1024x7168 : Shape := ⟨2, ![1024, 7168]⟩
abbrev S8192x7168 : Shape := ⟨2, ![8192, 7168]⟩
abbrev S1024x4x1792 : Shape := ⟨3, ![1024, 4, 1792]⟩
abbrev S4x1024x1792 : Shape := ⟨3, ![4, 1024, 1792]⟩
abbrev S1x1024 : Shape := ⟨2, ![1, 1024]⟩
abbrev S1024x1792 : Shape := ⟨2, ![1024, 1792]⟩
abbrev S1024x1024 : Shape := ⟨2, ![1024, 1024]⟩
abbrev S1x1024x1792 : Shape := ⟨3, ![1, 1024, 1792]⟩
abbrev S8x1024 : Shape := ⟨2, ![8, 1024]⟩
abbrev S1024x1 : Shape := ⟨2, ![1024, 1]⟩
abbrev S128x8x1024 : Shape := ⟨3, ![128, 8, 1024]⟩

abbrev nBuf : Space → Nat
  | .hbm => 12
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x7168, .f32⟩
  | .hbm, ⟨3, _⟩ => ⟨S8192x1024, .f32⟩
  | .hbm, ⟨4, _⟩ => ⟨S8192x7168, .f32⟩
  | .hbm, ⟨5, _⟩ => ⟨S1024x4x1792, .f32⟩
  | .hbm, ⟨6, _⟩ => ⟨S4x1024x1792, .f32⟩
  | .hbm, ⟨7, _⟩ => ⟨S4x1024x1792, .bf16⟩
  | .hbm, ⟨8, _⟩ => ⟨S8192x7168, .bf16⟩
  | .hbm, ⟨9, _⟩ => ⟨S1x1024, .f32⟩
  | .hbm, ⟨10, _⟩ => ⟨S8192x1024, .f32⟩
  | .hbm, ⟨11, _⟩ => ⟨S1x1024, .f32⟩
  | .local _ .vmem, ⟨0, _⟩ => ⟨S1024x1792, .bf16⟩
  | .local _ .vmem, ⟨1, _⟩ => ⟨S1024x1792, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024x1792, .bf16⟩
  | .local _ .vmem, ⟨8, _⟩ => ⟨S1x1024x1792, .bf16⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | .local _ .vmem, ⟨13, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_12 : BitVec 32 := 0#32
  let v20 : BitVec 1 := Scalar.cmpi .ne v19 c0_i32_12
  v20

def k0_cond4 (i : grid0.Coords) : BitVec 1 :=
  let arg0 : BitVec 32 := BitVec.ofNat 32 (i 0).val
  let c7_i32 : BitVec 32 := 7#32
  let v21 : BitVec 1 := Scalar.cmpi .eq arg0 c7_i32
  let arg1 : BitVec 32 := BitVec.ofNat 32 (i 1).val
  let c3_i32_13 : BitVec 32 := 3#32
  let v22 : BitVec 1 := Scalar.cmpi .eq arg1 c3_i32_13
  let v23 : BitVec 1 := Scalar.andi v21 v22
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1792 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== InBRIdeal.lean ====
abbrev S8192x1024 : Shape := ⟨2, ![8192, 1024]⟩
abbrev S1024 : Shape := ⟨1, ![1024]⟩
abbrev S1024x7168 : Shape := ⟨2, ![1024, 7168]⟩
abbrev S8192x7168 : Shape := ⟨2, ![8192, 7168]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x7168, .f32⟩
  | .hbm, ⟨3, _⟩ => ⟨S8192x1024, .f32⟩
  | .hbm, ⟨4, _⟩ => ⟨S8192x7168, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x7168, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Loss.lean ====
abbrev S8192x1024 : Shape := ⟨2, ![8192, 1024]⟩
abbrev S1024 : Shape := ⟨1, ![1024]⟩
abbrev S1x1024 : Shape := ⟨2, ![1, 1024]⟩
abbrev S2x1024 : Shape := ⟨2, ![2, 1024]⟩
abbrev S512x1024 : Shape := ⟨2, ![512, 1024]⟩
abbrev S2x8x1024 : Shape := ⟨3, ![2, 8, 1024]⟩
abbrev S512 : Shape := ⟨1, ![512]⟩
abbrev S512x1 : Shape := ⟨2, ![512, 1]⟩
abbrev S64x8x1024 : Shape := ⟨3, ![64, 8, 1024]⟩
abbrev S8x1024 : Shape := ⟨2, ![8, 1024]⟩
abbrev S1x8x1024 : Shape := ⟨3, ![1, 8, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S2x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S2x1024, .f32⟩
  | .local _ .vmem, ⟨8, _⟩ => ⟨S2x8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v53 : BitVec 1 := Scalar.cmpi .eq arg0 c15_i32
  let v54 : BitVec 32 := Scalar.extui v53
  let c0_i32_26 : BitVec 32 := 0#32
  let v55 : BitVec 1 := Scalar.cmpi .ne v54 c0_i32_26
  v55

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== LossRIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S2x1024 : Shape := ⟨2, ![2, 1024]⟩

abbrev nBuf : Space → Nat
  | .hbm => 100
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S_, .f32⟩
  | .hbm, ⟨73, _⟩ => ⟨S8192, .f32⟩
  | .hbm, ⟨74, _⟩ => ⟨S8192x1, .f32⟩
  | .hbm, ⟨75, _⟩ => ⟨S_, .f32⟩
  | .hbm, ⟨76, _⟩ => ⟨S8192x1, .f32⟩
  | .hbm, ⟨77, _⟩ => ⟨S8192x1, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S8192x1, .f32⟩
  | .hbm, ⟨82, _⟩ => ⟨S8192x1024, .f32⟩
  | .hbm, ⟨83, _⟩ => ⟨S8192x1024, .f32⟩
  | .hbm, ⟨84, _⟩ => ⟨S1x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S_, .f32⟩
  | .hbm, ⟨90, _⟩ => ⟨S1024, .f32⟩
  | .hbm, ⟨91, _⟩ => ⟨S_, .f32⟩
  | .hbm, ⟨92, _⟩ => ⟨S1024, .f32⟩
  | .hbm, ⟨93, _⟩ => ⟨S1024, .f32⟩
  | .hbm, ⟨94, _⟩ => ⟨S_, .f32⟩
  | .hbm, ⟨95, _⟩ => ⟨S1024, .f32⟩
  | .hbm, ⟨96, _⟩ => ⟨S1024, .f32⟩
  | .hbm, ⟨97, _⟩ => ⟨S1x1024, .f32⟩
  | .hbm, ⟨98, _⟩ => ⟨S1x1024, .f32⟩
  | .hbm, ⟨99, _⟩ => ⟨S2x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_16 : Ref sig .tc := ⟨.hbm, 72, rfl⟩
abbrev main_v52 : Ref sig .tc := ⟨.hbm, 73, rfl⟩
abbrev main_v53 : Ref sig .tc := ⟨.hbm, 74, rfl⟩
abbrev main_cst_17 : Ref sig .tc := ⟨.hbm, 75, rfl⟩
abbrev main_v54 : Ref sig .tc := ⟨.hbm, 76, rfl⟩
abbrev main_v55 : Ref sig .tc := ⟨.hbm, 77, rfl⟩
abbrev main_cst_18 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_19 : Ref sig .tc := ⟨.hbm, 89, rfl⟩
abbrev main_v66 : Ref sig .tc := ⟨.hbm, 90, rfl⟩
abbrev main_cst_20 : Ref sig .tc := ⟨.hbm, 91, rfl⟩
abbrev main_v67 : Ref sig .tc := ⟨.hbm, 92, rfl⟩
abbrev main_v68 : Ref sig .tc := ⟨.hbm, 93, rfl⟩
abbrev main_cst_21 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩

abbrev nD : Nat := 1
abbrev τ : Topo := Topo.v7x

variable {F : FTy → Type} [FloatOps F]
-- ==== MergeF.lean ====
abbrev S8192x1024 : Shape := ⟨2, ![8192, 1024]⟩
abbrev S8192x7168 : Shape := ⟨2, ![8192, 7168]⟩
abbrev S1024x1024 : Shape := ⟨2, ![1024, 1024]⟩
abbrev S2x1024 : Shape := ⟨2, ![2, 1024]⟩
abbrev S512x1024 : Shape := ⟨2, ![512, 1024]⟩
abbrev S1x1024 : Shape := ⟨2, ![1, 1024]⟩

abbrev nBuf : Space → Nat
  | .hbm => 18
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x7168, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S2x1024, .f32⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S8192x7168, .bf16⟩
  | .hbm, ⟨12, _⟩ => ⟨S8192x1024, .bf16⟩
  | .hbm, ⟨13, _⟩ => ⟨S8192x1024, .bf16⟩
  | .hbm, ⟨14, _⟩ => ⟨S8192x1024, .bf16⟩
  | .hbm, ⟨15, _⟩ => ⟨S8192x1024, .bf16⟩
  | .hbm, ⟨16, _⟩ => ⟨S8192x1024, .bf16⟩
  | .hbm, ⟨17, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S2x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | .local _ .vmem, ⟨21, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeFRIdeal.lean ====
abbrev S8192x1024 : Shape := ⟨2, ![8192, 1024]⟩
abbrev S8192x7168 : Shape := ⟨2, ![8192, 7168]⟩
abbrev S1024x1024 : Shape := ⟨2, ![1024, 1024]⟩
abbrev S2x1024 : Shape := ⟨2, ![2, 1024]⟩
abbrev S1x1024 : Shape := ⟨2, ![1, 1024]⟩
abbrev S1024 : Shape := ⟨1, ![1024]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x7168, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S2x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .bf16⟩
  | .hbm, ⟨42, _⟩ => ⟨S8192x1024, .bf16⟩
  | .hbm, ⟨43, _⟩ => ⟨S8192x1024, .bf16⟩
  | .hbm, ⟨44, _⟩ => ⟨S8192x1024, .f32⟩
  | .hbm, ⟨45, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== MergeB.lean ====
abbrev S8192x7168 : Shape := ⟨2, ![8192, 7168]⟩
abbrev S8192x1024 : Shape := ⟨2, ![8192, 1024]⟩
abbrev S1024x1024 : Shape := ⟨2, ![1024, 1024]⟩
abbrev S2x1024 : Shape := ⟨2, ![2, 1024]⟩
abbrev S8192x2048 : Shape := ⟨2, ![8192, 2048]⟩
abbrev S512x1024 : Shape := ⟨2, ![512, 1024]⟩
abbrev S512x2048 : Shape := ⟨2, ![512, 2048]⟩
abbrev S2x8x1024 : Shape := ⟨3, ![2, 8, 1024]⟩
abbrev S1x1024 : Shape := ⟨2, ![1, 1024]⟩
abbrev S1x8x1024 : Shape := ⟨3, ![1, 8, 1024]⟩
abbrev S8x1024 : Shape := ⟨2, ![8, 1024]⟩
abbrev S64x8x1024 : Shape := ⟨3, ![64, 8, 1024]⟩
abbrev S1024 : Shape := ⟨1, ![1024]⟩

abbrev nBuf : Space → Nat
  | .hbm => 25
  | .vmem => 28
  | .smem => 0
  | _ => 0

abbrev bufTy : (tb : Table) → Fin (tcTables nBuf tb) → BufTy
  | .hbm, ⟨0, _⟩ => ⟨S8192x7168, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S2x1024, .f32⟩
  | .hbm, ⟨7, _⟩ => ⟨S8192x1024, .f32⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S8192x1024, .bf16⟩
  | .hbm, ⟨12, _⟩ => ⟨S8192x1024, .f32⟩
  | .hbm, ⟨13, _⟩ => ⟨S8192x1024, .bf16⟩
  | .hbm, ⟨14, _⟩ => ⟨S8192x1024, .bf16⟩
  | .hbm, ⟨15, _⟩ => ⟨S8192x1024, .f32⟩
  | .hbm, ⟨16, _⟩ => ⟨S8192x1024, .bf16⟩
  | .hbm, ⟨17, _⟩ => ⟨S8192x7168, .bf16⟩
  | .hbm, ⟨18, _⟩ => ⟨S8192x1024, .bf16⟩
  | .hbm, ⟨19, _⟩ => ⟨S8192x1024, .bf16⟩
  | .hbm, ⟨20, _⟩ => ⟨S8192x1024, .bf16⟩
  | .hbm, ⟨21, _⟩ => ⟨S8192x1024, .bf16⟩
  | .hbm, ⟨22, _⟩ => ⟨S8192x2048, .bf16⟩
  | .hbm, ⟨23, _⟩ => ⟨S8192x1024, .bf16⟩
  | .hbm, ⟨24, _⟩ => ⟨S2x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S2x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x2048, .bf16⟩
  | .local _ .vmem, ⟨23, _⟩ => ⟨S512x2048, .bf16⟩
  | .local _ .vmem, ⟨24, _⟩ => ⟨S512x1024, .bf16⟩
  | .local _ .vmem, ⟨25, _⟩ => ⟨S512x1024, .bf16⟩
  | .local _ .vmem, ⟨26, _⟩ => ⟨S2x1024, .f32⟩
  | .local _ .vmem, ⟨27, _⟩ => ⟨S2x8x1024, .f32⟩
  | _, _ => ⟨S8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev main_v10_4 : Ref sig .tc := ⟨.hbm, 22, rfl⟩
abbrev main_v10_5 : Ref sig .tc := ⟨.hbm, 23, rfl⟩
abbrev main_v10_6 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v87 : BitVec 1 := Scalar.cmpi .eq arg0 c15_i32
  let v88 : BitVec 32 := Scalar.extui v87
  let c0_i32_56 : BitVec 32 := 0#32
  let v89 : BitVec 1 := Scalar.cmpi .ne v88 c0_i32_56
  v89

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S2x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== MergeBRIdeal.lean ====
abbrev S8192x7168 : Shape := ⟨2, ![8192, 7168]⟩
abbrev S8192x1024 : Shape := ⟨2, ![8192, 1024]⟩
abbrev S1024x1024 : Shape := ⟨2, ![1024, 1024]⟩
abbrev S2x1024 : Shape := ⟨2, ![2, 1024]⟩
abbrev S1x1024 : Shape := ⟨2, ![1, 1024]⟩
abbrev S1024 : Shape := ⟨1, ![1024]⟩
abbrev S_ : Shape := ⟨0, ![]⟩
abbrev S8192x2048 : Shape := ⟨2, ![8192, 2048]⟩

abbrev nBuf : Space → Nat
  | .hbm => 118
  | .vmem => 0
  | .smem => 0
  | _ => 0

abbrev bufTy : (tb : Table) → Fin (tcTables nBuf tb) → BufTy
  | .hbm, ⟨0, _⟩ => ⟨S8192x7168, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S2x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S1x1024, .f32⟩
  | .hbm, ⟨50, _⟩ => ⟨S1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S1x1024, .f32⟩
  | .hbm, ⟨68, _⟩ => ⟨S1024, .f32⟩
  | .hbm, ⟨69, _⟩ => ⟨S1x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S_, .f32⟩
  | .hbm, ⟨92, _⟩ => ⟨S1024, .f32⟩
  | .hbm, ⟨93, _⟩ => ⟨S1x1024, .f32⟩
  | .hbm, ⟨94, _⟩ => ⟨S_, .f32⟩
  | .hbm, ⟨95, _⟩ => ⟨S1024, .f32⟩
  | .hbm, ⟨96, _⟩ => ⟨S1x1024, .f32⟩
  | .hbm, ⟨97, _⟩ => ⟨S_, .f32⟩
  | .hbm, ⟨98, _⟩ => ⟨S2x1024, .f32⟩
  | .hbm, ⟨99, _⟩ => ⟨S8192x1024, .f32⟩
  | .hbm, ⟨100, _⟩ => ⟨S8192x1024, .f32⟩
  | .hbm, ⟨101, _⟩ => ⟨S8192x1024, .f32⟩
  | .hbm, ⟨102, _⟩ => ⟨S_, .f32⟩
  | .hbm, ⟨103, _⟩ => ⟨S1024, .f32⟩
  | .hbm, ⟨104, _⟩ => ⟨S1x1024, .f32⟩
  | .hbm, ⟨105, _⟩ => ⟨S_, .f32⟩
  | .hbm, ⟨106, _⟩ => ⟨S1024, .f32⟩
  | .hbm, ⟨107, _⟩ => ⟨S1x1024, .f32⟩
  | .hbm, ⟨108, _⟩ => ⟨S_, .f32⟩
  | .hbm, ⟨109, _⟩ => ⟨S2x1024, .f32⟩
  | .hbm, ⟨110, _⟩ => ⟨S2x1024, .f32⟩
  | .hbm, ⟨111, _⟩ => ⟨S8192x2048, .f32⟩
  | .hbm, ⟨112, _⟩ => ⟨S8192x1024, .bf16⟩
  | .hbm, ⟨113, _⟩ => ⟨S8192x1024, .bf16⟩
  | .hbm, ⟨114, _⟩ => ⟨S8192x1024, .bf16⟩
  | .hbm, ⟨115, _⟩ => ⟨S8192x1024, .bf16⟩
  | .hbm, ⟨116, _⟩ => ⟨S8192x2048, .bf16⟩
  | .hbm, ⟨117, _⟩ => ⟨S8192x1024, .bf16⟩
  | _, _ => ⟨S8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_3 : Ref sig .tc := ⟨.hbm, 56, rfl⟩
abbrev main_v44 : Ref sig .tc := ⟨.hbm, 57, rfl⟩
abbrev main_v45 : Ref sig .tc := ⟨.hbm, 58, rfl⟩
abbrev main_cst_4 : Ref sig .tc := ⟨.hbm, 59, rfl⟩
abbrev main_v46 : Ref sig .tc := ⟨.hbm, 60, rfl⟩
abbrev main_v47 : Ref sig .tc := ⟨.hbm, 61, rfl⟩
abbrev main_cst_5 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_6 : Ref sig .tc := ⟨.hbm, 74, rfl⟩
abbrev main_v59 : Ref sig .tc := ⟨.hbm, 75, rfl⟩
abbrev main_v60 : Ref sig .tc := ⟨.hbm, 76, rfl⟩
abbrev main_cst_7 : Ref sig .tc := ⟨.hbm, 77, rfl⟩
abbrev main_v61 : Ref sig .tc := ⟨.hbm, 78, rfl⟩
abbrev main_v62 : Ref sig .tc := ⟨.hbm, 79, rfl⟩
abbrev main_cst_8 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_9 : Ref sig .tc := ⟨.hbm, 91, rfl⟩
abbrev main_v73 : Ref sig .tc := ⟨.hbm, 92, rfl⟩
abbrev main_v74 : Ref sig .tc := ⟨.hbm, 93, rfl⟩
abbrev main_cst_10 : Ref sig .tc := ⟨.hbm, 94, rfl⟩
abbrev main_v75 : Ref sig .tc := ⟨.hbm, 95, rfl⟩
abbrev main_v76 : Ref sig .tc := ⟨.hbm, 96, rfl⟩
abbrev main_cst_11 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_12 : Ref sig .tc := ⟨.hbm, 102, rfl⟩
abbrev main_v81 : Ref sig .tc := ⟨.hbm, 103, rfl⟩
abbrev main_v82 : Ref sig .tc := ⟨.hbm, 104, rfl⟩
abbrev main_cst_13 : Ref sig .tc := ⟨.hbm, 105, rfl⟩
abbrev main_v83 : Ref sig .tc := ⟨.hbm, 106, rfl⟩
abbrev main_v84 : Ref sig .tc := ⟨.hbm, 107, rfl⟩
abbrev main_cst_14 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩

abbrev nD : Nat := 1
abbrev τ : Topo := Topo.v7x

variable {F : FTy → Type} [FloatOps F]
-- ==== FfnF.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S4x704x1024 : Shape := ⟨3, ![4, 704, 1024]⟩
abbrev S4x8192x704 : Shape := ⟨3, ![4, 8192, 704]⟩
abbrev S1024x1024 : Shape := ⟨2, ![1024, 1024]⟩
abbrev S1x704x1024 : Shape := ⟨3, ![1, 704, 1024]⟩
abbrev S1x1024x704 : Shape := ⟨3, ![1, 1024, 704]⟩
abbrev S1024x1 : Shape := ⟨2, ![1024, 1]⟩
abbrev S704x1024 : Shape := ⟨2, ![704, 1024]⟩
abbrev S1024x704 : Shape := ⟨2, ![1024, 704]⟩

abbrev nBuf : Space → Nat
  | .hbm => 18
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S2816x1024, .f32⟩
  | .hbm, ⟨7, _⟩ => ⟨S4x704x1024, .f32⟩
  | .hbm, ⟨8, _⟩ => ⟨S4x704x1024, .bf16⟩
  | .hbm, ⟨9, _⟩ => ⟨S2816x1024, .f32⟩
  | .hbm, ⟨10, _⟩ => ⟨S4x704x1024, .f32⟩
  | .hbm, ⟨11, _⟩ => ⟨S4x704x1024, .bf16⟩
  | .hbm, ⟨12, _⟩ => ⟨S4x704x1024, .f32⟩
  | .hbm, ⟨13, _⟩ => ⟨S4x704x1024, .bf16⟩
  | .hbm, ⟨14, _⟩ => ⟨S8192x1024, .bf16⟩
  | .hbm, ⟨15, _⟩ => ⟨S4x8192x704, .bf16⟩
  | .hbm, ⟨16, _⟩ => ⟨S4x8192x704, .bf16⟩
  | .hbm, ⟨17, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x1024x704, .bf16⟩
  | .local _ .vmem, ⟨12, _⟩ => ⟨S1x1024x704, .bf16⟩
  | .local _ .vmem, ⟨13, _⟩ => ⟨S1x1024x704, .bf16⟩
  | .local _ .vmem, ⟨14, _⟩ => ⟨S1x1024x704, .bf16⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c3_i32 : BitVec 32 := 3#32
  let v37 : BitVec 1 := Scalar.cmpi .eq arg1 c3_i32
  let v38 : BitVec 32 := Scalar.extui v37
  let c0_i32_26 : BitVec 32 := 0#32
  let v39 : BitVec 1 := Scalar.cmpi .ne v38 c0_i32_26
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnFRIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8192x4x704 : Shape := ⟨3, ![8192, 4, 704]⟩
abbrev S4x8192x704 : Shape := ⟨3, ![4, 8192, 704]⟩

abbrev nBuf : Space → Nat
  | .hbm => 42
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x2816, .f32⟩
  | .hbm, ⟨22, _⟩ => ⟨S8192x2816, .f32⟩
  | .hbm, ⟨23, _⟩ => ⟨S8192x1024, .bf16⟩
  | .hbm, ⟨24, _⟩ => ⟨S8192x4x704, .f32⟩
  | .hbm, ⟨25, _⟩ => ⟨S4x8192x704, .f32⟩
  | .hbm, ⟨26, _⟩ => ⟨S4x8192x704, .bf16⟩
  | .hbm, ⟨27, _⟩ => ⟨S8192x4x704, .f32⟩
  | .hbm, ⟨28, _⟩ => ⟨S4x8192x704, .f32⟩
  | .hbm, ⟨29, _⟩ => ⟨S4x8192x704, .bf16⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x1024, .f32⟩
  | .hbm, ⟨41, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== MixF.lean ====
abbrev S8192x7168 : Shape := ⟨2, ![8192, 7168]⟩
abbrev S3x1024 : Shape := ⟨2, ![3, 1024]⟩
abbrev S4x1024 : Shape := ⟨2, ![4, 1024]⟩
abbrev S1024 : Shape := ⟨1, ![1024]⟩
abbrev S16x64x64 : Shape := ⟨3, ![16, 64, 64]⟩
abbrev S1x1024 : Shape := ⟨2, ![1, 1024]⟩
abbrev S10x1024 : Shape := ⟨2, ![10, 1024]⟩
abbrev S4x4x64x64 : Shape := ⟨4, ![4, 4, 64, 64]⟩
abbrev S4x4 : Shape := ⟨2, ![4, 4]⟩
abbrev S_ : Shape := ⟨0, ![]⟩
abbrev S4x4x64x1x64 : Shape := ⟨5, ![4, 4, 64, 1, 64]⟩
abbrev S1x4x1x4x1 : Shape := ⟨5, ![1, 4, 1, 4, 1]⟩
abbrev S4x4x64x4x64 : Shape := ⟨5, ![4, 4, 64, 4, 64]⟩
abbrev S4x256x256 : Shape := ⟨3, ![4, 256, 256]⟩
abbrev S4x256x512 : Shape := ⟨3, ![4, 256, 512]⟩
abbrev S8192x1024 : Shape := ⟨2, ![8192, 1024]⟩
abbrev S256x1024 : Shape := ⟨2, ![256, 1024]⟩
abbrev S8x1024 : Shape := ⟨2, ![8, 1024]⟩
abbrev S256x512 : Shape := ⟨2, ![256, 512]⟩
abbrev S1x512 : Shape := ⟨2, ![1, 512]⟩
abbrev S8x512 : Shape := ⟨2, ![8, 512]⟩
abbrev S248x512 : Shape := ⟨2, ![248, 512]⟩
abbrev S256x256 : Shape := ⟨2, ![256, 256]⟩
abbrev S1x256x512 : Shape := ⟨3, ![1, 256, 512]⟩
abbrev S32x8x512 : Shape := ⟨3, ![32, 8, 512]⟩

abbrev nBuf : Space → Nat
  | .hbm => 48
  | .vmem => 24
  | .smem => 0
  | _ => 0

abbrev bufTy : (tb : Table) → Fin (tcTables nBuf tb) → BufTy
  | .hbm, ⟨0, _⟩ => ⟨S8192x7168, .f32⟩
  | .hbm, ⟨1, _⟩ => ⟨S3x1024, .f32⟩
  | .hbm, ⟨2, _⟩ => ⟨S4x1024, .f32⟩
  | .hbm, ⟨3, _⟩ => ⟨S1024, .f32⟩
  | .hbm, ⟨4, _⟩ => ⟨S16x64x64, .f32⟩
  | .hbm, ⟨5, _⟩ => ⟨S1024, .f32⟩
  | .hbm, ⟨6, _⟩ => ⟨S16x64x64, .f32⟩
  | .hbm, ⟨7, _⟩ => ⟨S1024, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S10x1024, .f32⟩
  | .hbm, ⟨13, _⟩ => ⟨S4x4x64x64, .f32⟩
  | .hbm, ⟨14, _⟩ => ⟨S4x4, .i32⟩
  | .hbm, ⟨15, _⟩ => ⟨S4x4, .i32⟩
  | .hbm, ⟨16, _⟩ => ⟨S_, .i32⟩
  | .hbm, ⟨17, _⟩ => ⟨S4x4, .i32⟩
  | .hbm, ⟨18, _⟩ => ⟨S4x4, .i32⟩
  | .hbm, ⟨19, _⟩ => ⟨S4x4, .i1⟩
  | .hbm, ⟨20, _⟩ => ⟨S4x4, .f32⟩
  | .hbm, ⟨21, _⟩ => ⟨S4x4x64x1x64, .f32⟩
  | .hbm, ⟨22, _⟩ => ⟨S1x4x1x4x1, .f32⟩
  | .hbm, ⟨23, _⟩ => ⟨S4x4x64x4x64, .f32⟩
  | .hbm, ⟨24, _⟩ => ⟨S4x4x64x4x64, .f32⟩
  | .hbm, ⟨25, _⟩ => ⟨S4x4x64x4x64, .f32⟩
  | .hbm, ⟨26, _⟩ => ⟨S4x256x256, .f32⟩
  | .hbm, ⟨27, _⟩ => ⟨S4x4x64x64, .f32⟩
  | .hbm, ⟨28, _⟩ => ⟨S4x4, .i32⟩
  | .hbm, ⟨29, _⟩ => ⟨S4x4, .i32⟩
  | .hbm, ⟨30, _⟩ => ⟨S_, .i32⟩
  | .hbm, ⟨31, _⟩ => ⟨S4x4, .i32⟩
  | .hbm, ⟨32, _⟩ => ⟨S4x4, .i32⟩
  | .hbm, ⟨33, _⟩ => ⟨S4x4, .i1⟩
  | .hbm, ⟨34, _⟩ => ⟨S4x4, .f32⟩
  | .hbm, ⟨35, _⟩ => ⟨S4x4x64x1x64, .f32⟩
  | .hbm, ⟨36, _⟩ => ⟨S1x4x1x4x1, .f32⟩
  | .hbm, ⟨37, _⟩ => ⟨S4x4x64x4x64, .f32⟩
  | .hbm, ⟨38, _⟩ => ⟨S4x4x64x4x64, .f32⟩
  | .hbm, ⟨39, _⟩ => ⟨S4x4x64x4x64, .f32⟩
  | .hbm, ⟨40, _⟩ => ⟨S4x256x256, .f32⟩
  | .hbm, ⟨41, _⟩ => ⟨S4x256x512, .f32⟩
  | .hbm, ⟨42, _⟩ => ⟨S4x256x512, .bf16⟩
  | .hbm, ⟨43, _⟩ => ⟨S8192x7168, .bf16⟩
  | .hbm, ⟨44, _⟩ => ⟨S1x1024, .f32⟩
  | .hbm, ⟨45, _⟩ => ⟨S8192x1024, .bf16⟩
  | .hbm, ⟨46, _⟩ => ⟨S8192x1024, .bf16⟩
  | .hbm, ⟨47, _⟩ => ⟨S8192x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S10x1024, .f32⟩
  | .local _ .vmem, ⟨11, _⟩ => ⟨S4x256x512, .bf16⟩
  | .local _ .vmem, ⟨12, _⟩ => ⟨S1x1024, .f32⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .f32⟩
  | .local _ .vmem, ⟨18, _⟩ => ⟨S256x1024, .f32⟩
  | .local _ .vmem, ⟨19, _⟩ => ⟨S8x1024, .f32⟩
  | .local _ .vmem, ⟨20, _⟩ => ⟨S8x1024, .f32⟩
  | .local _ .vmem, ⟨21, _⟩ => ⟨S8x1024, .f32⟩
  | .local _ .vmem, ⟨22, _⟩ => ⟨S256x1024, .f32⟩
  | .local _ .vmem, ⟨23, _⟩ => ⟨S256x1024, .f32⟩
  | _, _ => ⟨S8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34_0 : Ref sig .tc := ⟨.hbm, 45, rfl⟩
abbrev main_v34_1 : Ref sig .tc := ⟨.hbm, 46, rfl⟩
abbrev main_v34_2 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_163 : BitVec 32 := 0#32
  let c32_i32 : BitVec 32 := 32#32
  let v424 : BitVec 32 := Scalar.addi c0_i32_163 c32_i32
  let c1_i32_164 : BitVec 32 := 1#32
  ⟨c0_i32_163, v424, c1_i32_164⟩
def k0_mult1 (k0_t1 : Fin k0_t1_loop.trips) : BitVec 32 :=
  let c0_i32_163 : BitVec 32 := 0#32
  let c1_i32_164 : BitVec 32 := 1#32
  let arg17 : BitVec 32 := Scf.iv c0_i32_163 c1_i32_164 k0_t1
  let c8_i32 : BitVec 32 := 8#32
  let v471 : BitVec 32 := Scalar.muli arg17 c8_i32
  v471
def k0_off1 (k0_t1 : Fin k0_t1_loop.trips) : Fin 2 → Nat :=
  let c0_i32_163 : BitVec 32 := 0#32
  let c1_i32_164 : BitVec 32 := 1#32
  let arg17 : BitVec 32 := Scf.iv c0_i32_163 c1_i32_164 k0_t1
  let c8_i32 : BitVec 32 := 8#32
  let v471 : BitVec 32 := Scalar.muli arg17 c8_i32
  let v472 : BitVec 32 := v471
  let v473 : Index := Scalar.indexCast v472
  let c0_192 : Index := 0#32
  ![v473.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S10x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MixFRIdeal.lean ====
abbrev S8192x7168 : Shape := ⟨2, ![8192, 7168]⟩
abbrev S3x1024 : Shape := ⟨2, ![3, 1024]⟩
abbrev S4x1024 : Shape := ⟨2, ![4, 1024]⟩
abbrev S1024 : Shape := ⟨1, ![1024]⟩
abbrev S16x64x64 : Shape := ⟨3, ![16, 64, 64]⟩
abbrev S8192x1024 : Shape := ⟨2, ![8192, 1024]⟩
abbrev S_ : Shape := ⟨0, ![]⟩
abbrev S8195x1024 : Shape := ⟨2, ![8195, 1024]⟩
abbrev S1x1024 : Shape := ⟨2, ![1, 1024]⟩
abbrev S8192x16x64 : Shape := ⟨3, ![8192, 16, 64]⟩
abbrev S16x64x8192 : Shape := ⟨3, ![16, 64, 8192]⟩
abbrev S2x1024 : Shape := ⟨2, ![2, 1024]⟩
abbrev S8194x1024 : Shape := ⟨2, ![8194, 1024]⟩

abbrev nBuf : Space → Nat
  | .hbm => 176
  | .vmem => 0
  | .smem => 0
  | _ => 0

abbrev hbmTy0_0 (i : Nat) : BufTy := match i % 128 with
  | 0 => ⟨S8192x7168, .f32⟩
  | 1 => ⟨S3x1024, .f32⟩
  | 2 => ⟨S4x1024, .f32⟩
  | 3 => ⟨S1024, .f32⟩
  | 4 => ⟨S16x64x64, .f32⟩
  | 5 => ⟨S1024, .f32⟩
  | 6 => ⟨S16x64x64, .f32⟩
  | 7 => ⟨S1024, .f32⟩
  | 8 => ⟨S1024, .f32⟩
  | 9 => ⟨S8192x1024, .f32⟩
  | 10 => ⟨S_, .f32⟩
  | 11 => ⟨S3x1024, .f32⟩
  | 12 => ⟨S8195x1024, .f32⟩
  | 13 => ⟨S8192x1024, .f32⟩
  | 14 => ⟨S1x1024, .f32⟩
  | 15 => ⟨S1024, .f32⟩
  | 16 => ⟨S1x1024, .f32⟩
  | 17 => ⟨S8192x1024, .f32⟩
  | 18 => ⟨S8192x1024, .f32⟩
  | 19 => ⟨S8192x1024, .f32⟩
  | 20 => ⟨S1x1024, .f32⟩
  | 21 => ⟨S1024, .f32⟩
  | 22 => ⟨S1x1024, .f32⟩
  | 23 => ⟨S8192x1024, .f32⟩
  | 24 => ⟨S8192x1024, .f32⟩
  | 25 => ⟨S8192x1024, .f32⟩
  | 26 => ⟨S8192x1024, .f32⟩
  | 27 => ⟨S1x1024, .f32⟩
  | 28 => ⟨S1024, .f32⟩
  | 29 => ⟨S1x1024, .f32⟩
  | 30 => ⟨S8192x1024, .f32⟩
  | 31 => ⟨S8192x1024, .f32⟩
  | 32 => ⟨S8192x1024, .f32⟩
  | 33 => ⟨S8192x1024, .f32⟩
  | 34 => ⟨S1x1024, .f32⟩
  | 35 => ⟨S1024, .f32⟩
  | 36 => ⟨S1x1024, .f32⟩
  | 37 => ⟨S8192x1024, .f32⟩
  | 38 => ⟨S8192x1024, .f32⟩
  | 39 => ⟨S8192x1024, .f32⟩
  | 40 => ⟨S1x1024, .f32⟩
  | 41 => ⟨S8192x1024, .f32⟩
  | 42 => ⟨S8192x1024, .f32⟩
  | 43 => ⟨S8192x16x64, .f32⟩
  | 44 => ⟨S16x64x8192, .f32⟩
  | 45 => ⟨S8192x16x64, .f32⟩
  | 46 => ⟨S8192x1024, .f32⟩
  | 47 => ⟨S1x1024, .f32⟩
  | 48 => ⟨S8192x1024, .f32⟩
  | 49 => ⟨S8192x1024, .f32⟩
  | 50 => ⟨S8192x1024, .f32⟩
  | 51 => ⟨S8192x1024, .f32⟩
  | 52 => ⟨S_, .f32⟩
  | 53 => ⟨S8192x1024, .f32⟩
  | 54 => ⟨S8192x1024, .f32⟩
  | 55 => ⟨S_, .f32⟩
  | 56 => ⟨S8192x1024, .f32⟩
  | 57 => ⟨S8192x1024, .f32⟩
  | 58 => ⟨S16x64x8192, .f32⟩
  | 59 => ⟨S8192x16x64, .f32⟩
  | 60 => ⟨S8192x1024, .f32⟩
  | 61 => ⟨S1x1024, .f32⟩
  | 62 => ⟨S8192x1024, .f32⟩
  | 63 => ⟨S8192x1024, .f32⟩
  | 64 => ⟨S8192x1024, .f32⟩
  | 65 => ⟨S8192x1024, .f32⟩
  | 66 => ⟨S_, .f32⟩
  | 67 => ⟨S8192x1024, .f32⟩
  | 68 => ⟨S8192x1024, .f32⟩
  | 69 => ⟨S_, .f32⟩
  | 70 => ⟨S8192x1024, .f32⟩
  | 71 => ⟨S8192x1024, .f32⟩
  | 72 => ⟨S_, .f32⟩
  | 73 => ⟨S8192x1024, .f32⟩
  | 74 => ⟨S8192x1024, .f32⟩
  | 75 => ⟨S1024, .f32⟩
  | 76 => ⟨S_, .f32⟩
  | 77 => ⟨S1024, .f32⟩
  | 78 => ⟨S1024, .f32⟩
  | 79 => ⟨S1024, .f32⟩
  | 80 => ⟨S1024, .f32⟩
  | 81 => ⟨S1024, .i1⟩
  | 82 => ⟨S1024, .f32⟩
  | 83 => ⟨S1024, .f32⟩
  | 84 => ⟨S1024, .f32⟩
  | 85 => ⟨S1024, .f32⟩
  | 86 => ⟨S1024, .f32⟩
  | 87 => ⟨S1024, .f32⟩
  | 88 => ⟨S1024, .f32⟩
  | 89 => ⟨S1024, .f32⟩
  | 90 => ⟨S1x1024, .f32⟩
  | 91 => ⟨S8192x1024, .f32⟩
  | 92 => ⟨S8192x1024, .f32⟩
  | 93 => ⟨S8192x1024, .f32⟩
  | 94 => ⟨S_, .f32⟩
  | 95 => ⟨S8192x1024, .f32⟩
  | 96 => ⟨S8192x1024, .f32⟩
  | 97 => ⟨S8192x1024, .f32⟩
  | 98 => ⟨S8192x1024, .f32⟩
  | 99 => ⟨S8192x1024, .f32⟩
  | 100 => ⟨S8192x1024, .f32⟩
  | 101 => ⟨S8192x1024, .f32⟩
  | 102 => ⟨S_, .f32⟩
  | 103 => ⟨S1024, .f32⟩
  | 104 => ⟨S_, .f32⟩
  | 105 => ⟨S8192x1024, .f32⟩
  | 106 => ⟨S_, .i32⟩
  | 107 => ⟨S8192x1024, .f32⟩
  | 108 => ⟨S8192x1024, .f32⟩
  | 109 => ⟨S_, .i32⟩
  | 110 => ⟨S1024, .f32⟩
  | 111 => ⟨S8192x1024, .f32⟩
  | 112 => ⟨S_, .i32⟩
  | 113 => ⟨S_, .i1⟩
  | 114 => ⟨S_, .i32⟩
  | 115 => ⟨S1x1024, .f32⟩
  | 116 => ⟨S1024, .f32⟩
  | 117 => ⟨S_, .i32⟩
  | 118 => ⟨S1x1024, .f32⟩
  | 119 => ⟨S1024, .f32⟩
  | 120 => ⟨S1024, .f32⟩
  | 121 => ⟨S1024, .f32⟩
  | 122 => ⟨S1x1024, .f32⟩
  | 123 => ⟨S_, .i32⟩
  | 124 => ⟨S8192x1024, .f32⟩
  | 125 => ⟨S_, .i32⟩
  | 126 => ⟨S_, .i32⟩
  | 127 => ⟨S8192x1024, .f32⟩
  | _ => ⟨S8192x7168, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S_, .f32⟩
  | 4 => ⟨S2x1024, .f32⟩
  | 5 => ⟨S8194x1024, .f32⟩
  | 6 => ⟨S8192x1024, .f32⟩
  | 7 => ⟨S1x1024, .f32⟩
  | 8 => ⟨S1024, .f32⟩
  | 9 => ⟨S1x1024, .f32⟩
  | 10 => ⟨S8192x1024, .f32⟩
  | 11 => ⟨S8192x1024, .f32⟩
  | 12 => ⟨S8192x1024, .f32⟩
  | 13 => ⟨S1x1024, .f32⟩
  | 14 => ⟨S1024, .f32⟩
  | 15 => ⟨S1x1024, .f32⟩
  | 16 => ⟨S8192x1024, .f32⟩
  | 17 => ⟨S8192x1024, .f32⟩
  | 18 => ⟨S8192x1024, .f32⟩
  | 19 => ⟨S8192x1024, .f32⟩
  | 20 => ⟨S1x1024, .f32⟩
  | 21 => ⟨S1024, .f32⟩
  | 22 => ⟨S1x1024, .f32⟩
  | 23 => ⟨S8192x1024, .f32⟩
  | 24 => ⟨S8192x1024, .f32⟩
  | 25 => ⟨S8192x1024, .f32⟩
  | 26 => ⟨S8192x1024, .f32⟩
  | 27 => ⟨S8192x1024, .bf16⟩
  | 28 => ⟨S8192x1024, .f32⟩
  | 29 => ⟨S8192x1024, .f32⟩
  | 30 => ⟨S8192x1024, .f32⟩
  | 31 => ⟨S_, .f32⟩
  | 32 => ⟨S8192x1024, .f32⟩
  | 33 => ⟨S8192x1024, .f32⟩
  | 34 => ⟨S8192x1024, .f32⟩
  | 35 => ⟨S_, .f32⟩
  | 36 => ⟨S8192x1024, .f32⟩
  | 37 => ⟨S8192x1024, .f32⟩
  | 38 => ⟨S8192x1024, .f32⟩
  | 39 => ⟨S_, .f32⟩
  | 40 => ⟨S8192x1024, .f32⟩
  | 41 => ⟨S8192x1024, .f32⟩
  | 42 => ⟨S_, .f32⟩
  | 43 => ⟨S8192x1024, .f32⟩
  | 44 => ⟨S8192x1024, .f32⟩
  | 45 => ⟨S8192x1024, .f32⟩
  | 46 => ⟨S8192x1024, .f32⟩
  | 47 => ⟨S8192x1024, .bf16⟩
  | _ => ⟨S8192x7168, .f32⟩

abbrev hbmTy (i : Nat) : BufTy := match i / 128 with
  | 0 => hbmTy0_0 i
  | 1 => hbmTy0_1 i
  | _ => ⟨S8192x7168, .f32⟩

abbrev bufTy : (tb : Table) → Fin (tcTables nBuf tb) → BufTy
  | .hbm, ⟨i, _⟩ => hbmTy i
  | _, _ => ⟨S8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_0 : Ref sig .tc := ⟨.hbm, 52, rfl⟩
abbrev main_v42 : Ref sig .tc := ⟨.hbm, 53, rfl⟩
abbrev main_v43 : Ref sig .tc := ⟨.hbm, 54, rfl⟩
abbrev main_cst_1 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_2 : Ref sig .tc := ⟨.hbm, 66, rfl⟩
abbrev main_v54 : Ref sig .tc := ⟨.hbm, 67, rfl⟩
abbrev main_v55 : Ref sig .tc := ⟨.hbm, 68, rfl⟩
abbrev main_cst_3 : Ref sig .tc := ⟨.hbm, 69, rfl⟩
abbrev main_v56 : Ref sig .tc := ⟨.hbm, 70, rfl⟩
abbrev main_v57 : Ref sig .tc := ⟨.hbm, 71, rfl⟩
abbrev main_cst_4 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_call0_cst : Ref sig .tc := ⟨.hbm, 76, rfl⟩
abbrev main_call0_v0 : Ref sig .tc := ⟨.hbm, 77, rfl⟩
abbrev main_call0_v1 : Ref sig .tc := ⟨.hbm, 78, rfl⟩
abbrev main_call0_v2 : Ref sig .tc := ⟨.hbm, 79, rfl⟩
abbrev main_call0_v3 : Ref sig .tc := ⟨.hbm, 80, rfl⟩
abbrev main_call0_v4 : Ref sig .tc := ⟨.hbm, 81, rfl⟩
abbrev main_call0_v5 : Ref sig .tc := ⟨.hbm, 82, rfl⟩
abbrev main_call0_v6 : Ref sig .tc := ⟨.hbm, 83, rfl⟩
abbrev main_call0_v7 : Ref sig .tc := ⟨.hbm, 84, rfl⟩
abbrev main_call0_v8 : Ref sig .tc := ⟨.hbm, 85, rfl⟩
abbrev main_call0_v9 : Ref sig .tc := ⟨.hbm, 86, rfl⟩
abbrev main_call0_v10 : Ref sig .tc := ⟨.hbm, 87, rfl⟩
abbrev main_call0_v11 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_5 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_6 : Ref sig .tc := ⟨.hbm, 102, rfl⟩
abbrev main_v73 : Ref sig .tc := ⟨.hbm, 103, rfl⟩
abbrev main_cst_7 : Ref sig .tc := ⟨.hbm, 104, rfl⟩
abbrev main_v74 : Ref sig .tc := ⟨.hbm, 105, rfl⟩
abbrev main_c : Ref sig .tc := ⟨.hbm, 106, rfl⟩
abbrev main_v75_0 : Ref sig .tc := ⟨.hbm, 107, rfl⟩
abbrev main_v75_1 : Ref sig .tc := ⟨.hbm, 108, rfl⟩
abbrev main_v75_2 : Ref sig .tc := ⟨.hbm, 109, rfl⟩
abbrev main_v75_3 : Ref sig .tc := ⟨.hbm, 110, rfl⟩
abbrev main_v75_4 : Ref sig .tc := ⟨.hbm, 111, rfl⟩
abbrev main_while0c_c_17 : Ref sig .tc := ⟨.hbm, 112, rfl⟩
abbrev main_while0c_v120 : Ref sig .tc := ⟨.hbm, 113, rfl⟩
abbrev main_while0b_call1_c : Ref sig .tc := ⟨.hbm, 114, rfl⟩
abbrev main_while0b_call1_v0 : Ref sig .tc := ⟨.hbm, 115, rfl⟩
abbrev main_while0b_v120 : Ref sig .tc := ⟨.hbm, 116, rfl⟩
abbrev main_while0b_call2_c : Ref sig .tc := ⟨.hbm, 117, rfl⟩
abbrev main_while0b_call2_v0 : Ref sig .tc := ⟨.hbm, 118, rfl⟩
abbrev main_while0b_v121 : Ref sig .tc := ⟨.hbm, 119, rfl⟩
abbrev main_while0b_v122 : Ref sig .tc := ⟨.hbm, 120, rfl⟩
abbrev main_while0b_v123 : Ref sig .tc := ⟨.hbm, 121, rfl⟩
abbrev main_while0b_call3_v0 : Ref sig .tc := ⟨.hbm, 122, rfl⟩
abbrev main_while0b_call3_c : Ref sig .tc := ⟨.hbm, 123, rfl⟩
abbrev main_while0b_v124 : Ref sig .tc := ⟨.hbm, 124, rfl⟩
abbrev main_while0b_c_17 : Ref sig .tc := ⟨.hbm, 125, rfl⟩
abbrev main_while0b_v125 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_cst_8 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_cst_9 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_cst_10 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_cst_11 : Ref sig .tc := ⟨.hbm, 167, rfl⟩
abbrev main_v113 : Ref sig .tc := ⟨.hbm, 168, rfl⟩
abbrev main_v114 : Ref sig .tc := ⟨.hbm, 169, rfl⟩
abbrev main_cst_12 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩

abbrev nD : Nat := 1
abbrev τ : Topo := Topo.v7x

variable {F : FTy → Type} [FloatOps F]

abbrev main_while0_count : Scf.Loop 32 := ⟨0#32, 8192#32, 1#32⟩
-- ==== InF.lean ====
abbrev S8192x1024 : Shape := ⟨2, ![8192, 1024]⟩
abbrev S1024 : Shape := ⟨1, ![1024]⟩
abbrev S1024x7168 : Shape := ⟨2, ![1024, 7168]⟩
abbrev S1024x4x1792 : Shape := ⟨3, ![1024, 4, 1792]⟩
abbrev S4x1024x1792 : Shape := ⟨3, ![4, 1024, 1792]⟩
abbrev S1x1024 : Shape := ⟨2, ![1, 1024]⟩
abbrev S8192x7168 : Shape := ⟨2, ![8192, 7168]⟩
abbrev S1024x1024 : Shape := ⟨2, ![1024, 1024]⟩
abbrev S1x1024x1792 : Shape := ⟨3, ![1, 1024, 1792]⟩
abbrev S1024x1792 : Shape := ⟨2, ![1024, 1792]⟩
abbrev S1024x1 : Shape := ⟨2, ![1024, 1]⟩

abbrev nBuf : Space → Nat
  | .hbm => 10
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x7168, .f32⟩
  | .hbm, ⟨3, _⟩ => ⟨S1024x4x1792, .f32⟩
  | .hbm, ⟨4, _⟩ => ⟨S4x1024x1792, .f32⟩
  | .hbm, ⟨5, _⟩ => ⟨S4x1024x1792, .bf16⟩
  | .hbm, ⟨6, _⟩ => ⟨S1x1024, .f32⟩
  | .hbm, ⟨7, _⟩ => ⟨S8192x7168, .bf16⟩
  | .hbm, ⟨8, _⟩ => ⟨S8192x1024, .bf16⟩
  | .hbm, ⟨9, _⟩ => ⟨S8192x7168, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x1792, .bf16⟩
  | .local _ .vmem, ⟨4, _⟩ => ⟨S1024x1792, .bf16⟩
  | .local _ .vmem, ⟨5, _⟩ => ⟨S1024x1792, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024x1792, .bf16⟩
  | .local _ .vmem, ⟨11, _⟩ => ⟨S1x1024x1792, .bf16⟩
  | .local _ .vmem, ⟨12, _⟩ => ⟨S1024x1792, .bf16⟩
  | .local _ .vmem, ⟨13, _⟩ => ⟨S1024x1792, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 3], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg1 c1_i32
  let c0_i32 : BitVec 32 := 0#32
  let c1_i32_0 : BitVec 32 := 1#32
  let v1 : BitVec 32 := Scalar.select v0 c0_i32 c1_i32_0
  let c0_i32_1 : BitVec 32 := 0#32
  let v2 : BitVec 1 := Scalar.cmpi .eq arg1 c0_i32_1
  let c0_i32_2 : BitVec 32 := 0#32
  let c1_i32_3 : BitVec 32 := 1#32
  let v3 : BitVec 32 := Scalar.select v2 c0_i32_2 c1_i32_3
  let c2_i32 : BitVec 32 := 2#32
  let v4 : BitVec 32 := Scalar.muli c2_i32 v1
  let v5 : BitVec 32 := Scalar.addi v4 v3
  let c0_i32_4 : BitVec 32 := 0#32
  let c0_i32_5 : BitVec 32 := 0#32
  let c0_i32_6 : BitVec 32 := 0#32
  ![v5.toNat, c0_i32_4.toNat, c0_i32_5.toNat]

def cc1_transform_3 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg1 c1_i32
  let c0_i32 : BitVec 32 := 0#32
  let c1_i32_0 : BitVec 32 := 1#32
  let v1 : BitVec 32 := Scalar.select v0 c0_i32 c1_i32_0
  let c0_i32_1 : BitVec 32 := 0#32
  let v2 : BitVec 1 := Scalar.cmpi .eq arg1 c0_i32_1
  let c0_i32_2 : BitVec 32 := 0#32
  let c1_i32_3 : BitVec 32 := 1#32
  let v3 : BitVec 32 := Scalar.select v2 c0_i32_2 c1_i32_3
  let c2_i32 : BitVec 32 := 2#32
  let v4 : BitVec 32 := Scalar.muli c2_i32 v1
  let v5 : BitVec 32 := Scalar.addi v4 v3
  let c0_i32_4 : BitVec 32 := 0#32
  ![arg0.toNat, v5.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1024x1792 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1792 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== InFRIdeal.lean ====
abbrev S8192x1024 : Shape := ⟨2, ![8192, 1024]⟩
abbrev S1024 : Shape := ⟨1, ![1024]⟩
abbrev S1024x7168 : Shape := ⟨2, ![1024, 7168]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x7168 : Shape := ⟨2, ![8192, 7168]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x7168, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x7168, .f32⟩
  | .hbm, ⟨20, _⟩ => ⟨S8192x7168, .bf16⟩
  | .hbm, ⟨21, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== WIn.lean ====
abbrev S8192x1024 : Shape := ⟨2, ![8192, 1024]⟩
abbrev S8192x7168 : Shape := ⟨2, ![8192, 7168]⟩
abbrev S4x1024x1792 : Shape := ⟨3, ![4, 1024, 1792]⟩
abbrev S2048x1024 : Shape := ⟨2, ![2048, 1024]⟩
abbrev S2048x1792 : Shape := ⟨2, ![2048, 1792]⟩
abbrev S1x1024x1792 : Shape := ⟨3, ![1, 1024, 1792]⟩
abbrev S1024x1792 : Shape := ⟨2, ![1024, 1792]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x7168, .f32⟩
  | .hbm, ⟨2, _⟩ => ⟨S8192x1024, .bf16⟩
  | .hbm, ⟨3, _⟩ => ⟨S8192x7168, .bf16⟩
  | .hbm, ⟨4, _⟩ => ⟨S4x1024x1792, .f32⟩
  | .hbm, ⟨5, _⟩ => ⟨S4x1024x1792, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1792, .bf16⟩
  | .local _ .vmem, ⟨3, _⟩ => ⟨S2048x1792, .bf16⟩
  | .local _ .vmem, ⟨4, _⟩ => ⟨S1x1024x1792, .f32⟩
  | .local _ .vmem, ⟨5, _⟩ => ⟨S1x1024x1792, .f32⟩
  | .local _ .vmem, ⟨6, _⟩ => ⟨S1x1024x1792, .bf16⟩
  | .local _ .vmem, ⟨7, _⟩ => ⟨S1x1024x1792, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_10 : BitVec 32 := 0#32
  let v16 : BitVec 1 := Scalar.cmpi .ne v15 c0_i32_10
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== WInRIdeal.lean ====
abbrev S8192x1024 : Shape := ⟨2, ![8192, 1024]⟩
abbrev S8192x7168 : Shape := ⟨2, ![8192, 7168]⟩
abbrev S_ : Shape := ⟨0, ![]⟩
abbrev S1024x7168 : Shape := ⟨2, ![1024, 7168]⟩
abbrev S7168x1024 : Shape := ⟨2, ![7168, 1024]⟩
abbrev S1024x4x1792 : Shape := ⟨3, ![1024, 4, 1792]⟩
abbrev S4x1024x1792 : Shape := ⟨3, ![4, 1024, 1792]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x7168, .f32⟩
  | .hbm, ⟨2, _⟩ => ⟨S_, .f32⟩
  | .hbm, ⟨3, _⟩ => ⟨S1024x7168, .f32⟩
  | .hbm, ⟨4, _⟩ => ⟨S8192x7168, .f32⟩
  | .hbm, ⟨5, _⟩ => ⟨S7168x1024, .f32⟩
  | .hbm, ⟨6, _⟩ => ⟨S1024x7168, .f32⟩
  | .hbm, ⟨7, _⟩ => ⟨S1024x4x1792, .f32⟩
  | .hbm, ⟨8, _⟩ => ⟨S4x1024x1792, .f32⟩
  | .hbm, ⟨9, _⟩ => ⟨S4x1024x1792, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WGU.lean ====
abbrev S8192x1024 : Shape := ⟨2, ![8192, 1024]⟩
abbrev S8192x2816 : Shape := ⟨2, ![8192, 2816]⟩
abbrev S8192x4x704 : Shape := ⟨3, ![8192, 4, 704]⟩
abbrev S4x8192x704 : Shape := ⟨3, ![4, 8192, 704]⟩
abbrev S4x704x1024 : Shape := ⟨3, ![4, 704, 1024]⟩
abbrev S2048x1024 : Shape := ⟨2, ![2048, 1024]⟩
abbrev S1x2048x704 : Shape := ⟨3, ![1, 2048, 704]⟩
abbrev S1x704x1024 : Shape := ⟨3, ![1, 704, 1024]⟩
abbrev S704x1024 : Shape := ⟨2, ![704, 1024]⟩
abbrev S2048x704 : Shape := ⟨2, ![2048, 704]⟩

abbrev nBuf : Space → Nat
  | .hbm => 14
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x2816, .f32⟩
  | .hbm, ⟨3, _⟩ => ⟨S8192x1024, .bf16⟩
  | .hbm, ⟨4, _⟩ => ⟨S8192x4x704, .f32⟩
  | .hbm, ⟨5, _⟩ => ⟨S4x8192x704, .f32⟩
  | .hbm, ⟨6, _⟩ => ⟨S4x8192x704, .bf16⟩
  | .hbm, ⟨7, _⟩ => ⟨S8192x4x704, .f32⟩
  | .hbm, ⟨8, _⟩ => ⟨S4x8192x704, .f32⟩
  | .hbm, ⟨9, _⟩ => ⟨S4x8192x704, .bf16⟩
  | .hbm, ⟨10, _⟩ => ⟨S4x704x1024, .f32⟩
  | .hbm, ⟨11, _⟩ => ⟨S4x704x1024, .bf16⟩
  | .hbm, ⟨12, _⟩ => ⟨S4x704x1024, .f32⟩
  | .hbm, ⟨13, _⟩ => ⟨S4x704x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x704x1024, .f32⟩
  | .local _ .vmem, ⟨7, _⟩ => ⟨S1x704x1024, .f32⟩
  | .local _ .vmem, ⟨8, _⟩ => ⟨S1x704x1024, .bf16⟩
  | .local _ .vmem, ⟨9, _⟩ => ⟨S1x704x1024, .bf16⟩
  | .local _ .vmem, ⟨10, _⟩ => ⟨S1x704x1024, .f32⟩
  | .local _ .vmem, ⟨11, _⟩ => ⟨S1x704x1024, .f32⟩
  | .local _ .vmem, ⟨12, _⟩ => ⟨S1x704x1024, .bf16⟩
  | .local _ .vmem, ⟨13, _⟩ => ⟨S1x704x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v7_2 : Ref sig .tc := ⟨.hbm, 12, rfl⟩
abbrev main_v7_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v23 : BitVec 1 := Scalar.cmpi .eq arg1 c3_i32
  let v24 : BitVec 32 := Scalar.extui v23
  let c0_i32_21 : BitVec 32 := 0#32
  let v25 : BitVec 1 := Scalar.cmpi .ne v24 c0_i32_21
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x704x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x704x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== WGURIdeal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩
abbrev S4x704x1024 : Shape := ⟨3, ![4, 704, 1024]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x2816, .f32⟩
  | .hbm, ⟨3, _⟩ => ⟨S_, .f32⟩
  | .hbm, ⟨4, _⟩ => ⟨S1024x2816, .f32⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S1024x2816, .f32⟩
  | .hbm, ⟨11, _⟩ => ⟨S2816x1024, .f32⟩
  | .hbm, ⟨12, _⟩ => ⟨S4x704x1024, .f32⟩
  | .hbm, ⟨13, _⟩ => ⟨S2816x1024, .f32⟩
  | .hbm, ⟨14, _⟩ => ⟨S4x704x1024, .f32⟩
  | .hbm, ⟨15, _⟩ => ⟨S4x704x1024, .bf16⟩
  | .hbm, ⟨16, _⟩ => ⟨S4x704x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Opt.lean ====
abbrev S2x1024x1792 : Shape := ⟨3, ![2, 1024, 1792]⟩
abbrev S1x256x1792 : Shape := ⟨3, ![1, 256, 1792]⟩
abbrev S256x1792 : Shape := ⟨2, ![256, 1792]⟩

abbrev nBuf : Space → Nat
  | .hbm => 8
  | .vmem => 16
  | .smem => 0
  | _ => 0

abbrev bufTy : (tb : Table) → Fin (tcTables nBuf tb) → BufTy
  | .hbm, ⟨0, _⟩ => ⟨S2x1024x1792, .f32⟩
  | .hbm, ⟨1, _⟩ => ⟨S2x1024x1792, .f32⟩
  | .hbm, ⟨2, _⟩ => ⟨S2x1024x1792, .f32⟩
  | .hbm, ⟨3, _⟩ => ⟨S2x1024x1792, .f32⟩
  | .hbm, ⟨4, _⟩ => ⟨S2x1024x1792, .f32⟩
  | .hbm, ⟨5, _⟩ => ⟨S2x1024x1792, .f32⟩
  | .hbm, ⟨6, _⟩ => ⟨S2x1024x1792, .f32⟩
  | .hbm, ⟨7, _⟩ => ⟨S2x1024x1792, .f32⟩
  | .local _ .vmem, ⟨0, _⟩ => ⟨S1x256x1792, .f32⟩
  | .local _ .vmem, ⟨1, _⟩ => ⟨S1x256x1792, .f32⟩
  | .local _ .vmem, ⟨2, _⟩ => ⟨S1x256x1792, .f32⟩
  | .local _ .vmem, ⟨3, _⟩ => ⟨S1x256x1792, .f32⟩
  | .local _ .vmem, ⟨4, _⟩ => ⟨S1x256x1792, .f32⟩
  | .local _ .vmem, ⟨5, _⟩ => ⟨S1x256x1792, .f32⟩
  | .local _ .vmem, ⟨6, _⟩ => ⟨S1x256x1792, .f32⟩
  | .local _ .vmem, ⟨7, _⟩ => ⟨S1x256x1792, .f32⟩
  | .local _ .vmem, ⟨8, _⟩ => ⟨S1x256x1792, .f32⟩
  | .local _ .vmem, ⟨9, _⟩ => ⟨S1x256x1792, .f32⟩
  | .local _ .vmem, ⟨10, _⟩ => ⟨S1x256x1792, .f32⟩
  | .local _ .vmem, ⟨11, _⟩ => ⟨S1x256x1792, .f32⟩
  | .local _ .vmem, ⟨12, _⟩ => ⟨S1x256x1792, .f32⟩
  | .local _ .vmem, ⟨13, _⟩ => ⟨S1x256x1792, .f32⟩
  | .local _ .vmem, ⟨14, _⟩ => ⟨S1x256x1792, .f32⟩
  | .local _ .vmem, ⟨15, _⟩ => ⟨S1x256x1792, .f32⟩
  | _, _ => ⟨S2x1024x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1792 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OptRIdeal.lean ====
abbrev S2x1024x1792 : Shape := ⟨3, ![2, 1024, 1792]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x1792, .f32⟩
  | .hbm, ⟨1, _⟩ => ⟨S2x1024x1792, .f32⟩
  | .hbm, ⟨2, _⟩ => ⟨S2x1024x1792, .f32⟩
  | .hbm, ⟨3, _⟩ => ⟨S2x1024x1792, .f32⟩
  | .hbm, ⟨4, _⟩ => ⟨S_, .f32⟩
  | .hbm, ⟨5, _⟩ => ⟨S2x1024x1792, .f32⟩
  | .hbm, ⟨6, _⟩ => ⟨S2x1024x1792, .f32⟩
  | .hbm, ⟨7, _⟩ => ⟨S_, .f32⟩
  | .hbm, ⟨8, _⟩ => ⟨S2x1024x1792, .f32⟩
  | .hbm, ⟨9, _⟩ => ⟨S2x1024x1792, .f32⟩
  | .hbm, ⟨10, _⟩ => ⟨S2x1024x1792, .f32⟩
  | .hbm, ⟨11, _⟩ => ⟨S_, .f32⟩
  | .hbm, ⟨12, _⟩ => ⟨S2x1024x1792, .f32⟩
  | .hbm, ⟨13, _⟩ => ⟨S2x1024x1792, .f32⟩
  | .hbm, ⟨14, _⟩ => ⟨S2x1024x1792, .f32⟩
  | .hbm, ⟨15, _⟩ => ⟨S_, .f32⟩
  | .hbm, ⟨16, _⟩ => ⟨S2x1024x1792, .f32⟩
  | .hbm, ⟨17, _⟩ => ⟨S2x1024x1792, .f32⟩
  | .hbm, ⟨18, _⟩ => ⟨S2x1024x1792, .f32⟩
  | .hbm, ⟨19, _⟩ => ⟨S_, .f32⟩
  | .hbm, ⟨20, _⟩ => ⟨S2x1024x1792, .f32⟩
  | .hbm, ⟨21, _⟩ => ⟨S2x1024x1792, .f32⟩
  | .hbm, ⟨22, _⟩ => ⟨S_, .f32⟩
  | .hbm, ⟨23, _⟩ => ⟨S2x1024x1792, .f32⟩
  | .hbm, ⟨24, _⟩ => ⟨S2x1024x1792, .f32⟩
  | .hbm, ⟨25, _⟩ => ⟨S2x1024x1792, .f32⟩
  | .hbm, ⟨26, _⟩ => ⟨S_, .f32⟩
  | .hbm, ⟨27, _⟩ => ⟨S2x1024x1792, .f32⟩
  | .hbm, ⟨28, _⟩ => ⟨S2x1024x1792, .f32⟩
  | .hbm, ⟨29, _⟩ => ⟨S2x1024x1792, .f32⟩
  | .hbm, ⟨30, _⟩ => ⟨S_, .f32⟩
  | .hbm, ⟨31, _⟩ => ⟨S2x1024x1792, .f32⟩
  | .hbm, ⟨32, _⟩ => ⟨S2x1024x1792, .f32⟩
  | .hbm, ⟨33, _⟩ => ⟨S2x1024x1792, .f32⟩
  | .hbm, ⟨34, _⟩ => ⟨S_, .f32⟩
  | .hbm, ⟨35, _⟩ => ⟨S2x1024x1792, .f32⟩
  | .hbm, ⟨36, _⟩ => ⟨S2x1024x1792, .f32⟩
  | _, _ => ⟨S2x1024x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Mixer.lean ====
abbrev S8192x7168 : Shape := ⟨2, ![8192, 7168]⟩
abbrev S3x1024 : Shape := ⟨2, ![3, 1024]⟩
abbrev S4x1024 : Shape := ⟨2, ![4, 1024]⟩
abbrev S1024 : Shape := ⟨1, ![1024]⟩
abbrev S16x64x64 : Shape := ⟨3, ![16, 64, 64]⟩
abbrev S8192x1024 : Shape := ⟨2, ![8192, 1024]⟩
abbrev S8192x2048 : Shape := ⟨2, ![8192, 2048]⟩
abbrev S1x1024 : Shape := ⟨2, ![1, 1024]⟩
abbrev S10x1024 : Shape := ⟨2, ![10, 1024]⟩
abbrev S4x4x64x64 : Shape := ⟨4, ![4, 4, 64, 64]⟩
abbrev S4x4 : Shape := ⟨2, ![4, 4]⟩
abbrev S_ : Shape := ⟨0, ![]⟩
abbrev S4x4x64x1x64 : Shape := ⟨5, ![4, 4, 64, 1, 64]⟩
abbrev S1x4x1x4x1 : Shape := ⟨5, ![1, 4, 1, 4, 1]⟩
abbrev S4x4x64x4x64 : Shape := ⟨5, ![4, 4, 64, 4, 64]⟩
abbrev S4x256x256 : Shape := ⟨3, ![4, 256, 256]⟩
abbrev S4x256x512 : Shape := ⟨3, ![4, 256, 512]⟩
abbrev S4x512x256 : Shape := ⟨3, ![4, 512, 256]⟩
abbrev S8195x1024 : Shape := ⟨2, ![8195, 1024]⟩
abbrev S8192x16x64 : Shape := ⟨3, ![8192, 16, 64]⟩
abbrev S16x64x8192 : Shape := ⟨3, ![16, 64, 8192]⟩
abbrev S8191x1024 : Shape := ⟨2, ![8191, 1024]⟩
abbrev S2x1024 : Shape := ⟨2, ![2, 1024]⟩
abbrev S8190x1024 : Shape := ⟨2, ![8190, 1024]⟩
abbrev S8188x1024 : Shape := ⟨2, ![8188, 1024]⟩
abbrev S8x1024 : Shape := ⟨2, ![8, 1024]⟩
abbrev S8184x1024 : Shape := ⟨2, ![8184, 1024]⟩
abbrev S16x1024 : Shape := ⟨2, ![16, 1024]⟩
abbrev S8176x1024 : Shape := ⟨2, ![8176, 1024]⟩
abbrev S32x1024 : Shape := ⟨2, ![32, 1024]⟩
abbrev S8160x1024 : Shape := ⟨2, ![8160, 1024]⟩
abbrev S64x1024 : Shape := ⟨2, ![64, 1024]⟩
abbrev S8128x1024 : Shape := ⟨2, ![8128, 1024]⟩
abbrev S128x1024 : Shape := ⟨2, ![128, 1024]⟩
abbrev S8064x1024 : Shape := ⟨2, ![8064, 1024]⟩
abbrev S256x1024 : Shape := ⟨2, ![256, 1024]⟩
abbrev S7936x1024 : Shape := ⟨2, ![7936, 1024]⟩
abbrev S512x1024 : Shape := ⟨2, ![512, 1024]⟩
abbrev S7680x1024 : Shape := ⟨2, ![7680, 1024]⟩
abbrev S1024x1024 : Shape := ⟨2, ![1024, 1024]⟩
abbrev S7168x1024 : Shape := ⟨2, ![7168, 1024]⟩
abbrev S2048x1024 : Shape := ⟨2, ![2048, 1024]⟩
abbrev S6144x1024 : Shape := ⟨2, ![6144, 1024]⟩
abbrev S4096x1024 : Shape := ⟨2, ![4096, 1024]⟩
abbrev S256x2048 : Shape := ⟨2, ![256, 2048]⟩
abbrev S256x7168 : Shape := ⟨2, ![256, 7168]⟩
abbrev S16x8x1024 : Shape := ⟨3, ![16, 8, 1024]⟩
abbrev S248x1024 : Shape := ⟨2, ![248, 1024]⟩
abbrev S256x256 : Shape := ⟨2, ![256, 256]⟩
abbrev S1x256x512 : Shape := ⟨3, ![1, 256, 512]⟩
abbrev S256x512 : Shape := ⟨2, ![256, 512]⟩
abbrev S32x8x1024 : Shape := ⟨3, ![32, 8, 1024]⟩
abbrev S1x8x1024 : Shape := ⟨3, ![1, 8, 1024]⟩
abbrev S1x512x256 : Shape := ⟨3, ![1, 512, 256]⟩
abbrev S512x256 : Shape := ⟨2, ![512, 256]⟩
abbrev S4x1x64x1x64 : Shape := ⟨5, ![4, 1, 64, 1, 64]⟩
abbrev S4x64x64 : Shape := ⟨3, ![4, 64, 64]⟩
abbrev S4x1x64x64 : Shape := ⟨4, ![4, 1, 64, 64]⟩

abbrev nBuf : Space → Nat
  | .hbm => 323
  | .vmem => 45
  | .smem => 0
  | _ => 0

abbrev hbmTy0_0 (i : Nat) : BufTy := match i % 128 with
  | 0 => ⟨S8192x7168, .f32⟩
  | 1 => ⟨S3x1024, .f32⟩
  | 2 => ⟨S4x1024, .f32⟩
  | 3 => ⟨S1024, .f32⟩
  | 4 => ⟨S16x64x64, .f32⟩
  | 5 => ⟨S1024, .f32⟩
  | 6 => ⟨S16x64x64, .f32⟩
  | 7 => ⟨S1024, .f32⟩
  | 8 => ⟨S1024, .f32⟩
  | 9 => ⟨S8192x1024, .f32⟩
  | 10 => ⟨S8192x1024, .f32⟩
  | 11 => ⟨S8192x2048, .f32⟩
  | 12 => ⟨S1x1024, .f32⟩
  | 13 => ⟨S1x1024, .f32⟩
  | 14 => ⟨S1x1024, .f32⟩
  | 15 => ⟨S10x1024, .f32⟩
  | 16 => ⟨S4x4x64x64, .f32⟩
  | 17 => ⟨S4x4, .i32⟩
  | 18 => ⟨S4x4, .i32⟩
  | 19 => ⟨S_, .i32⟩
  | 20 => ⟨S4x4, .i32⟩
  | 21 => ⟨S4x4, .i32⟩
  | 22 => ⟨S4x4, .i1⟩
  | 23 => ⟨S4x4, .f32⟩
  | 24 => ⟨S4x4x64x1x64, .f32⟩
  | 25 => ⟨S1x4x1x4x1, .f32⟩
  | 26 => ⟨S4x4x64x4x64, .f32⟩
  | 27 => ⟨S4x4x64x4x64, .f32⟩
  | 28 => ⟨S4x4x64x4x64, .f32⟩
  | 29 => ⟨S4x256x256, .f32⟩
  | 30 => ⟨S4x4x64x64, .f32⟩
  | 31 => ⟨S4x4, .i32⟩
  | 32 => ⟨S4x4, .i32⟩
  | 33 => ⟨S_, .i32⟩
  | 34 => ⟨S4x4, .i32⟩
  | 35 => ⟨S4x4, .i32⟩
  | 36 => ⟨S4x4, .i1⟩
  | 37 => ⟨S4x4, .f32⟩
  | 38 => ⟨S4x4x64x1x64, .f32⟩
  | 39 => ⟨S1x4x1x4x1, .f32⟩
  | 40 => ⟨S4x4x64x4x64, .f32⟩
  | 41 => ⟨S4x4x64x4x64, .f32⟩
  | 42 => ⟨S4x4x64x4x64, .f32⟩
  | 43 => ⟨S4x256x256, .f32⟩
  | 44 => ⟨S4x256x512, .f32⟩
  | 45 => ⟨S4x256x512, .bf16⟩
  | 46 => ⟨S4x512x256, .bf16⟩
  | 47 => ⟨S8192x1024, .f32⟩
  | 48 => ⟨S_, .f32⟩
  | 49 => ⟨S3x1024, .f32⟩
  | 50 => ⟨S8195x1024, .f32⟩
  | 51 => ⟨S8192x1024, .f32⟩
  | 52 => ⟨S1x1024, .f32⟩
  | 53 => ⟨S1024, .f32⟩
  | 54 => ⟨S1x1024, .f32⟩
  | 55 => ⟨S8192x1024, .f32⟩
  | 56 => ⟨S8192x1024, .f32⟩
  | 57 => ⟨S8192x1024, .f32⟩
  | 58 => ⟨S1x1024, .f32⟩
  | 59 => ⟨S1024, .f32⟩
  | 60 => ⟨S1x1024, .f32⟩
  | 61 => ⟨S8192x1024, .f32⟩
  | 62 => ⟨S8192x1024, .f32⟩
  | 63 => ⟨S8192x1024, .f32⟩
  | 64 => ⟨S8192x1024, .f32⟩
  | 65 => ⟨S1x1024, .f32⟩
  | 66 => ⟨S1024, .f32⟩
  | 67 => ⟨S1x1024, .f32⟩
  | 68 => ⟨S8192x1024, .f32⟩
  | 69 => ⟨S8192x1024, .f32⟩
  | 70 => ⟨S8192x1024, .f32⟩
  | 71 => ⟨S8192x1024, .f32⟩
  | 72 => ⟨S1x1024, .f32⟩
  | 73 => ⟨S1024, .f32⟩
  | 74 => ⟨S1x1024, .f32⟩
  | 75 => ⟨S8192x1024, .f32⟩
  | 76 => ⟨S8192x1024, .f32⟩
  | 77 => ⟨S8192x1024, .f32⟩
  | 78 => ⟨S1x1024, .f32⟩
  | 79 => ⟨S8192x1024, .f32⟩
  | 80 => ⟨S8192x1024, .f32⟩
  | 81 => ⟨S8192x16x64, .f32⟩
  | 82 => ⟨S16x64x8192, .f32⟩
  | 83 => ⟨S8192x16x64, .f32⟩
  | 84 => ⟨S8192x1024, .f32⟩
  | 85 => ⟨S1x1024, .f32⟩
  | 86 => ⟨S8192x1024, .f32⟩
  | 87 => ⟨S8192x1024, .f32⟩
  | 88 => ⟨S8192x1024, .f32⟩
  | 89 => ⟨S8192x1024, .f32⟩
  | 90 => ⟨S_, .f32⟩
  | 91 => ⟨S8192x1024, .f32⟩
  | 92 => ⟨S8192x1024, .f32⟩
  | 93 => ⟨S_, .f32⟩
  | 94 => ⟨S8192x1024, .f32⟩
  | 95 => ⟨S8192x1024, .f32⟩
  | 96 => ⟨S16x64x8192, .f32⟩
  | 97 => ⟨S8192x16x64, .f32⟩
  | 98 => ⟨S8192x1024, .f32⟩
  | 99 => ⟨S1x1024, .f32⟩
  | 100 => ⟨S8192x1024, .f32⟩
  | 101 => ⟨S8192x1024, .f32⟩
  | 102 => ⟨S8192x1024, .f32⟩
  | 103 => ⟨S8192x1024, .f32⟩
  | 104 => ⟨S_, .f32⟩
  | 105 => ⟨S8192x1024, .f32⟩
  | 106 => ⟨S8192x1024, .f32⟩
  | 107 => ⟨S_, .f32⟩
  | 108 => ⟨S8192x1024, .f32⟩
  | 109 => ⟨S8192x1024, .f32⟩
  | 110 => ⟨S_, .f32⟩
  | 111 => ⟨S8192x1024, .f32⟩
  | 112 => ⟨S8192x1024, .f32⟩
  | 113 => ⟨S1024, .f32⟩
  | 114 => ⟨S_, .f32⟩
  | 115 => ⟨S1024, .f32⟩
  | 116 => ⟨S1024, .f32⟩
  | 117 => ⟨S1024, .f32⟩
  | 118 => ⟨S1024, .f32⟩
  | 119 => ⟨S1024, .i1⟩
  | 120 => ⟨S1024, .f32⟩
  | 121 => ⟨S1024, .f32⟩
  | 122 => ⟨S1024, .f32⟩
  | 123 => ⟨S1024, .f32⟩
  | 124 => ⟨S1024, .f32⟩
  | 125 => ⟨S1024, .f32⟩
  | 126 => ⟨S1024, .f32⟩
  | 127 => ⟨S1024, .f32⟩
  | _ => ⟨S8192x7168, .f32⟩

abbrev hbmTy0_1 (i : Nat) : BufTy := match i % 128 with
  | 0 => ⟨S1x1024, .f32⟩
  | 1 => ⟨S8192x1024, .f32⟩
  | 2 => ⟨S8192x1024, .f32⟩
  | 3 => ⟨S8192x1024, .f32⟩
  | 4 => ⟨S_, .f32⟩
  | 5 => ⟨S8192x1024, .f32⟩
  | 6 => ⟨S8192x1024, .f32⟩
  | 7 => ⟨S8192x1024, .f32⟩
  | 8 => ⟨S8192x1024, .f32⟩
  | 9 => ⟨S8192x1024, .f32⟩
  | 10 => ⟨S8192x1024, .f32⟩
  | 11 => ⟨S8192x1024, .f32⟩
  | 12 => ⟨S_, .f32⟩
  | 13 => ⟨S1x1024, .f32⟩
  | 14 => ⟨S8191x1024, .f32⟩
  | 15 => ⟨S8192x1024, .f32⟩
  | 16 => ⟨S8192x1024, .f32⟩
  | 17 => ⟨S8192x1024, .f32⟩
  | 18 => ⟨S_, .f32⟩
  | 19 => ⟨S1x1024, .f32⟩
  | 20 => ⟨S8191x1024, .f32⟩
  | 21 => ⟨S8192x1024, .f32⟩
  | 22 => ⟨S8192x1024, .f32⟩
  | 23 => ⟨S_, .f32⟩
  | 24 => ⟨S2x1024, .f32⟩
  | 25 => ⟨S8190x1024, .f32⟩
  | 26 => ⟨S8192x1024, .f32⟩
  | 27 => ⟨S8192x1024, .f32⟩
  | 28 => ⟨S8192x1024, .f32⟩
  | 29 => ⟨S_, .f32⟩
  | 30 => ⟨S2x1024, .f32⟩
  | 31 => ⟨S8190x1024, .f32⟩
  | 32 => ⟨S8192x1024, .f32⟩
  | 33 => ⟨S8192x1024, .f32⟩
  | 34 => ⟨S_, .f32⟩
  | 35 => ⟨S4x1024, .f32⟩
  | 36 => ⟨S8188x1024, .f32⟩
  | 37 => ⟨S8192x1024, .f32⟩
  | 38 => ⟨S8192x1024, .f32⟩
  | 39 => ⟨S8192x1024, .f32⟩
  | 40 => ⟨S_, .f32⟩
  | 41 => ⟨S4x1024, .f32⟩
  | 42 => ⟨S8188x1024, .f32⟩
  | 43 => ⟨S8192x1024, .f32⟩
  | 44 => ⟨S8192x1024, .f32⟩
  | 45 => ⟨S_, .f32⟩
  | 46 => ⟨S8x1024, .f32⟩
  | 47 => ⟨S8184x1024, .f32⟩
  | 48 => ⟨S8192x1024, .f32⟩
  | 49 => ⟨S8192x1024, .f32⟩
  | 50 => ⟨S8192x1024, .f32⟩
  | 51 => ⟨S_, .f32⟩
  | 52 => ⟨S8x1024, .f32⟩
  | 53 => ⟨S8184x1024, .f32⟩
  | 54 => ⟨S8192x1024, .f32⟩
  | 55 => ⟨S8192x1024, .f32⟩
  | 56 => ⟨S_, .f32⟩
  | 57 => ⟨S16x1024, .f32⟩
  | 58 => ⟨S8176x1024, .f32⟩
  | 59 => ⟨S8192x1024, .f32⟩
  | 60 => ⟨S8192x1024, .f32⟩
  | 61 => ⟨S8192x1024, .f32⟩
  | 62 => ⟨S_, .f32⟩
  | 63 => ⟨S16x1024, .f32⟩
  | 64 => ⟨S8176x1024, .f32⟩
  | 65 => ⟨S8192x1024, .f32⟩
  | 66 => ⟨S8192x1024, .f32⟩
  | 67 => ⟨S_, .f32⟩
  | 68 => ⟨S32x1024, .f32⟩
  | 69 => ⟨S8160x1024, .f32⟩
  | 70 => ⟨S8192x1024, .f32⟩
  | 71 => ⟨S8192x1024, .f32⟩
  | 72 => ⟨S8192x1024, .f32⟩
  | 73 => ⟨S_, .f32⟩
  | 74 => ⟨S32x1024, .f32⟩
  | 75 => ⟨S8160x1024, .f32⟩
  | 76 => ⟨S8192x1024, .f32⟩
  | 77 => ⟨S8192x1024, .f32⟩
  | 78 => ⟨S_, .f32⟩
  | 79 => ⟨S64x1024, .f32⟩
  | 80 => ⟨S8128x1024, .f32⟩
  | 81 => ⟨S8192x1024, .f32⟩
  | 82 => ⟨S8192x1024, .f32⟩
  | 83 => ⟨S8192x1024, .f32⟩
  | 84 => ⟨S_, .f32⟩
  | 85 => ⟨S64x1024, .f32⟩
  | 86 => ⟨S8128x1024, .f32⟩
  | 87 => ⟨S8192x1024, .f32⟩
  | 88 => ⟨S8192x1024, .f32⟩
  | 89 => ⟨S_, .f32⟩
  | 90 => ⟨S128x1024, .f32⟩
  | 91 => ⟨S8064x1024, .f32⟩
  | 92 => ⟨S8192x1024, .f32⟩
  | 93 => ⟨S8192x1024, .f32⟩
  | 94 => ⟨S8192x1024, .f32⟩
  | 95 => ⟨S_, .f32⟩
  | 96 => ⟨S128x1024, .f32⟩
  | 97 => ⟨S8064x1024, .f32⟩
  | 98 => ⟨S8192x1024, .f32⟩
  | 99 => ⟨S8192x1024, .f32⟩
  | 100 => ⟨S_, .f32⟩
  | 101 => ⟨S256x1024, .f32⟩
  | 102 => ⟨S7936x1024, .f32⟩
  | 103 => ⟨S8192x1024, .f32⟩
  | 104 => ⟨S8192x1024, .f32⟩
  | 105 => ⟨S8192x1024, .f32⟩
  | 106 => ⟨S_, .f32⟩
  | 107 => ⟨S256x1024, .f32⟩
  | 108 => ⟨S7936x1024, .f32⟩
  | 109 => ⟨S8192x1024, .f32⟩
  | 110 => ⟨S8192x1024, .f32⟩
  | 111 => ⟨S_, .f32⟩
  | 112 => ⟨S512x1024, .f32⟩
  | 113 => ⟨S7680x1024, .f32⟩
  | 114 => ⟨S8192x1024, .f32⟩
  | 115 => ⟨S8192x1024, .f32⟩
  | 116 => ⟨S8192x1024, .f32⟩
  | 117 => ⟨S_, .f32⟩
  | 118 => ⟨S512x1024, .f32⟩
  | 119 => ⟨S7680x1024, .f32⟩
  | 120 => ⟨S8192x1024, .f32⟩
  | 121 => ⟨S8192x1024, .f32⟩
  | 122 => ⟨S_, .f32⟩
  | 123 => ⟨S1024x1024, .f32⟩
  | 124 => ⟨S7168x1024, .f32⟩
  | 125 => ⟨S8192x1024, .f32⟩
  | 126 => ⟨S8192x1024, .f32⟩
  | 127 => ⟨S8192x1024, .f32⟩
  | _ => ⟨S8192x7168, .f32⟩

abbrev hbmTy0_2 (i : Nat) : BufTy := match i % 128 with
  | 0 => ⟨S_, .f32⟩
  | 1 => ⟨S1024x1024, .f32⟩
  | 2 => ⟨S7168x1024, .f32⟩
  | 3 => ⟨S8192x1024, .f32⟩
  | 4 => ⟨S8192x1024, .f32⟩
  | 5 => ⟨S_, .f32⟩
  | 6 => ⟨S2048x1024, .f32⟩
  | 7 => ⟨S6144x1024, .f32⟩
  | 8 => ⟨S8192x1024, .f32⟩
  | 9 => ⟨S8192x1024, .f32⟩
  | 10 => ⟨S8192x1024, .f32⟩
  | 11 => ⟨S_, .f32⟩
  | 12 => ⟨S2048x1024, .f32⟩
  | 13 => ⟨S6144x1024, .f32⟩
  | 14 => ⟨S8192x1024, .f32⟩
  | 15 => ⟨S8192x1024, .f32⟩
  | 16 => ⟨S_, .f32⟩
  | 17 => ⟨S4096x1024, .f32⟩
  | 18 => ⟨S4096x1024, .f32⟩
  | 19 => ⟨S8192x1024, .f32⟩
  | 20 => ⟨S8192x1024, .f32⟩
  | 21 => ⟨S8192x1024, .f32⟩
  | 22 => ⟨S_, .f32⟩
  | 23 => ⟨S4096x1024, .f32⟩
  | 24 => ⟨S4096x1024, .f32⟩
  | 25 => ⟨S8192x1024, .f32⟩
  | 26 => ⟨S8192x1024, .f32⟩
  | 27 => ⟨S8192x7168, .bf16⟩
  | 28 => ⟨S8192x1024, .bf16⟩
  | 29 => ⟨S8192x1024, .bf16⟩
  | 30 => ⟨S8192x2048, .bf16⟩
  | 31 => ⟨S1x1024, .f32⟩
  | 32 => ⟨S8192x7168, .bf16⟩
  | 33 => ⟨S16x1024, .f32⟩
  | 34 => ⟨S4x256x512, .f32⟩
  | 35 => ⟨S4x256x256, .f32⟩
  | 36 => ⟨S4x4x64x4x64, .f32⟩
  | 37 => ⟨S4x1x64x1x64, .f32⟩
  | 38 => ⟨S4x64x64, .f32⟩
  | 39 => ⟨S4x1x64x1x64, .f32⟩
  | 40 => ⟨S4x64x64, .f32⟩
  | 41 => ⟨S4x1x64x1x64, .f32⟩
  | 42 => ⟨S4x64x64, .f32⟩
  | 43 => ⟨S4x1x64x1x64, .f32⟩
  | 44 => ⟨S4x64x64, .f32⟩
  | 45 => ⟨S4x1x64x64, .f32⟩
  | 46 => ⟨S4x1x64x64, .f32⟩
  | 47 => ⟨S4x1x64x64, .f32⟩
  | 48 => ⟨S4x1x64x64, .f32⟩
  | 49 => ⟨S4x4x64x64, .f32⟩
  | 50 => ⟨S16x64x64, .f32⟩
  | 51 => ⟨S4x256x256, .f32⟩
  | 52 => ⟨S4x4x64x4x64, .f32⟩
  | 53 => ⟨S4x1x64x1x64, .f32⟩
  | 54 => ⟨S4x64x64, .f32⟩
  | 55 => ⟨S4x1x64x1x64, .f32⟩
  | 56 => ⟨S4x64x64, .f32⟩
  | 57 => ⟨S4x1x64x1x64, .f32⟩
  | 58 => ⟨S4x64x64, .f32⟩
  | 59 => ⟨S4x1x64x1x64, .f32⟩
  | 60 => ⟨S4x64x64, .f32⟩
  | 61 => ⟨S4x1x64x64, .f32⟩
  | 62 => ⟨S4x1x64x64, .f32⟩
  | 63 => ⟨S4x1x64x64, .f32⟩
  | 64 => ⟨S4x1x64x64, .f32⟩
  | 65 => ⟨S4x4x64x64, .f32⟩
  | 66 => ⟨S16x64x64, .f32⟩
  | _ => ⟨S8192x7168, .f32⟩

abbrev hbmTy (i : Nat) : BufTy := match i / 128 with
  | 0 => hbmTy0_0 i
  | 1 => hbmTy0_1 i
  | 2 => hbmTy0_2 i
  | _ => ⟨S8192x7168, .f32⟩

abbrev bufTy : (tb : Table) → Fin (tcTables nBuf tb) → BufTy
  | .hbm, ⟨i, _⟩ => hbmTy i
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x2048, .bf16⟩
  | .local _ .vmem, ⟨17, _⟩ => ⟨S256x2048, .bf16⟩
  | .local _ .vmem, ⟨18, _⟩ => ⟨S16x1024, .bf16⟩
  | .local _ .vmem, ⟨19, _⟩ => ⟨S16x1024, .bf16⟩
  | .local _ .vmem, ⟨20, _⟩ => ⟨S16x1024, .bf16⟩
  | .local _ .vmem, ⟨21, _⟩ => ⟨S16x1024, .bf16⟩
  | .local _ .vmem, ⟨22, _⟩ => ⟨S16x1024, .bf16⟩
  | .local _ .vmem, ⟨23, _⟩ => ⟨S16x1024, .bf16⟩
  | .local _ .vmem, ⟨24, _⟩ => ⟨S8x1024, .f32⟩
  | .local _ .vmem, ⟨25, _⟩ => ⟨S8x1024, .f32⟩
  | .local _ .vmem, ⟨26, _⟩ => ⟨S16x1024, .bf16⟩
  | .local _ .vmem, ⟨27, _⟩ => ⟨S16x1024, .bf16⟩
  | .local _ .vmem, ⟨28, _⟩ => ⟨S16x1024, .bf16⟩
  | .local _ .vmem, ⟨29, _⟩ => ⟨S16x1024, .bf16⟩
  | .local _ .vmem, ⟨30, _⟩ => ⟨S10x1024, .f32⟩
  | .local _ .vmem, ⟨31, _⟩ => ⟨S4x256x512, .bf16⟩
  | .local _ .vmem, ⟨32, _⟩ => ⟨S4x512x256, .bf16⟩
  | .local _ .vmem, ⟨33, _⟩ => ⟨S1x1024, .f32⟩
  | .local _ .vmem, ⟨34, _⟩ => ⟨S256x7168, .bf16⟩
  | .local _ .vmem, ⟨35, _⟩ => ⟨S256x7168, .bf16⟩
  | .local _ .vmem, ⟨36, _⟩ => ⟨S16x1024, .f32⟩
  | .local _ .vmem, ⟨37, _⟩ => ⟨S4x256x512, .f32⟩
  | .local _ .vmem, ⟨38, _⟩ => ⟨S16x8x1024, .f32⟩
  | .local _ .vmem, ⟨39, _⟩ => ⟨S4x256x512, .f32⟩
  | .local _ .vmem, ⟨40, _⟩ => ⟨S8x1024, .f32⟩
  | .local _ .vmem, ⟨41, _⟩ => ⟨S8x1024, .f32⟩
  | .local _ .vmem, ⟨42, _⟩ => ⟨S8x1024, .f32⟩
  | .local _ .vmem, ⟨43, _⟩ => ⟨S256x1024, .f32⟩
  | .local _ .vmem, ⟨44, _⟩ => ⟨S256x1024, .f32⟩
  | _, _ => ⟨S8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_cst_1 : Ref sig .tc := ⟨.hbm, 90, rfl⟩
abbrev main_v75 : Ref sig .tc := ⟨.hbm, 91, rfl⟩
abbrev main_v76 : Ref sig .tc := ⟨.hbm, 92, rfl⟩
abbrev main_cst_2 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_cst_3 : Ref sig .tc := ⟨.hbm, 104, rfl⟩
abbrev main_v87 : Ref sig .tc := ⟨.hbm, 105, rfl⟩
abbrev main_v88 : Ref sig .tc := ⟨.hbm, 106, rfl⟩
abbrev main_cst_4 : Ref sig .tc := ⟨.hbm, 107, rfl⟩
abbrev main_v89 : Ref sig .tc := ⟨.hbm, 108, rfl⟩
abbrev main_v90 : Ref sig .tc := ⟨.hbm, 109, rfl⟩
abbrev main_cst_5 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_call0_cst : Ref sig .tc := ⟨.hbm, 114, rfl⟩
abbrev main_call0_v0 : Ref sig .tc := ⟨.hbm, 115, rfl⟩
abbrev main_call0_v1 : Ref sig .tc := ⟨.hbm, 116, rfl⟩
abbrev main_call0_v2 : Ref sig .tc := ⟨.hbm, 117, rfl⟩
abbrev main_call0_v3 : Ref sig .tc := ⟨.hbm, 118, rfl⟩
abbrev main_call0_v4 : Ref sig .tc := ⟨.hbm, 119, rfl⟩
abbrev main_call0_v5 : Ref sig .tc := ⟨.hbm, 120, rfl⟩
abbrev main_call0_v6 : Ref sig .tc := ⟨.hbm, 121, rfl⟩
abbrev main_call0_v7 : Ref sig .tc := ⟨.hbm, 122, rfl⟩
abbrev main_call0_v8 : Ref sig .tc := ⟨.hbm, 123, rfl⟩
abbrev main_call0_v9 : Ref sig .tc := ⟨.hbm, 124, rfl⟩
abbrev main_call0_v10 : Ref sig .tc := ⟨.hbm, 125, rfl⟩
abbrev main_call0_v11 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_cst_6 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_cst_7 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_cst_8 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_cst_9 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_cst_10 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_cst_11 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_cst_12 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_cst_13 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_cst_14 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_cst_15 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_cst_16 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_cst_17 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_cst_18 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_cst_19 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_cst_20 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_cst_21 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_cst_22 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_cst_23 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_cst_24 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_cst_25 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_cst_26 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_cst_27 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_cst_28 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_v204 : Ref sig .tc := ⟨.hbm, 260, rfl⟩
abbrev main_cst_29 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_cst_30 : Ref sig .tc := ⟨.hbm, 267, rfl⟩
abbrev main_v210 : Ref sig .tc := ⟨.hbm, 268, rfl⟩
abbrev main_v211 : Ref sig .tc := ⟨.hbm, 269, rfl⟩
abbrev main_v212 : Ref sig .tc := ⟨.hbm, 270, rfl⟩
abbrev main_v213 : Ref sig .tc := ⟨.hbm, 271, rfl⟩
abbrev main_cst_31 : Ref sig .tc := ⟨.hbm, 272, rfl⟩
abbrev main_v214 : Ref sig .tc := ⟨.hbm, 273, rfl⟩
abbrev main_v215 : Ref sig .tc := ⟨.hbm, 274, rfl⟩
abbrev main_v216 : Ref sig .tc := ⟨.hbm, 275, rfl⟩
abbrev main_v217 : Ref sig .tc := ⟨.hbm, 276, rfl⟩
abbrev main_v218 : Ref sig .tc := ⟨.hbm, 277, rfl⟩
abbrev main_cst_32 : Ref sig .tc := ⟨.hbm, 278, rfl⟩
abbrev main_v219 : Ref sig .tc := ⟨.hbm, 279, rfl⟩
abbrev main_v220 : Ref sig .tc := ⟨.hbm, 280, rfl⟩
abbrev main_v221 : Ref sig .tc := ⟨.hbm, 281, rfl⟩
abbrev main_v222 : Ref sig .tc := ⟨.hbm, 282, rfl⟩
abbrev main_v223 : Ref sig .tc := ⟨.hbm, 283, rfl⟩
abbrev main_v224 : Ref sig .tc := ⟨.hbm, 284, rfl⟩
abbrev main_v225 : Ref sig .tc := ⟨.hbm, 285, rfl⟩
abbrev main_v226 : Ref sig .tc := ⟨.hbm, 286, rfl⟩
abbrev main_v227 : Ref sig .tc := ⟨.hbm, 287, rfl⟩
abbrev main_v228_0 : Ref sig .tc := ⟨.hbm, 288, rfl⟩
abbrev main_v228_1 : Ref sig .tc := ⟨.hbm, 289, rfl⟩
abbrev main_v228_2 : Ref sig .tc := ⟨.hbm, 290, rfl⟩
abbrev main_v229 : Ref sig .tc := ⟨.hbm, 291, rfl⟩
abbrev main_v230 : Ref sig .tc := ⟨.hbm, 292, rfl⟩
abbrev main_v231 : Ref sig .tc := ⟨.hbm, 293, rfl⟩
abbrev main_v232 : Ref sig .tc := ⟨.hbm, 294, rfl⟩
abbrev main_v233 : Ref sig .tc := ⟨.hbm, 295, rfl⟩
abbrev main_v234 : Ref sig .tc := ⟨.hbm, 296, rfl⟩
abbrev main_v235 : Ref sig .tc := ⟨.hbm, 297, rfl⟩
abbrev main_v236 : Ref sig .tc := ⟨.hbm, 298, rfl⟩
abbrev main_v237 : Ref sig .tc := ⟨.hbm, 299, rfl⟩
abbrev main_v238 : Ref sig .tc := ⟨.hbm, 300, rfl⟩
abbrev main_v239 : Ref sig .tc := ⟨.hbm, 301, rfl⟩
abbrev main_v240 : Ref sig .tc := ⟨.hbm, 302, rfl⟩
abbrev main_v241 : Ref sig .tc := ⟨.hbm, 303, rfl⟩
abbrev main_v242 : Ref sig .tc := ⟨.hbm, 304, rfl⟩
abbrev main_v243 : Ref sig .tc := ⟨.hbm, 305, rfl⟩
abbrev main_v244 : Ref sig .tc := ⟨.hbm, 306, rfl⟩
abbrev main_v245 : Ref sig .tc := ⟨.hbm, 307, rfl⟩
abbrev main_v246 : Ref sig .tc := ⟨.hbm, 308, rfl⟩
abbrev main_v247 : Ref sig .tc := ⟨.hbm, 309, rfl⟩
abbrev main_v248 : Ref sig .tc := ⟨.hbm, 310, rfl⟩
abbrev main_v249 : Ref sig .tc := ⟨.hbm, 311, rfl⟩
abbrev main_v250 : Ref sig .tc := ⟨.hbm, 312, rfl⟩
abbrev main_v251 : Ref sig .tc := ⟨.hbm, 313, rfl⟩
abbrev main_v252 : Ref sig .tc := ⟨.hbm, 314, rfl⟩
abbrev main_v253 : Ref sig .tc := ⟨.hbm, 315, rfl⟩
abbrev main_v254 : Ref sig .tc := ⟨.hbm, 316, rfl⟩
abbrev main_v255 : Ref sig .tc := ⟨.hbm, 317, rfl⟩
abbrev main_v256 : Ref sig .tc := ⟨.hbm, 318, rfl⟩
abbrev main_v257 : Ref sig .tc := ⟨.hbm, 319, rfl⟩
abbrev main_v258 : Ref sig .tc := ⟨.hbm, 320, rfl⟩
abbrev main_v259 : Ref sig .tc := ⟨.hbm, 321, rfl⟩
abbrev main_v260 : Ref sig .tc := ⟨.hbm, 322, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg16_0 : Ref sig .tc := ⟨.vmem, 31, rfl⟩
abbrev cc0_stg17_0 : Ref sig .tc := ⟨.vmem, 32, rfl⟩
abbrev cc0_stg18_0 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg21_0 : Ref sig .tc := ⟨.vmem, 37, rfl⟩
abbrev cc0_scratch0 : Ref sig .tc := ⟨.vmem, 38, rfl⟩
abbrev cc0_scratch1 : Ref sig .tc := ⟨.vmem, 39, rfl⟩
abbrev cc0_scratch2 : Ref sig .tc := ⟨.vmem, 40, rfl⟩
abbrev cc0_scratch3 : Ref sig .tc := ⟨.vmem, 41, rfl⟩
abbrev cc0_scratch4 : Ref sig .tc := ⟨.vmem, 42, rfl⟩
abbrev cc0_scratch5 : Ref sig .tc := ⟨.vmem, 43, rfl⟩
abbrev cc0_scratch6 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem16_0 : DmaSem sig := 31
abbrev cc0_sem17_0 : DmaSem sig := 32
abbrev cc0_sem18_0 : DmaSem sig := 33
abbrev cc0_sem19_0 : DmaSem sig := 34
abbrev cc0_sem19_1 : DmaSem sig := 35
abbrev cc0_sem20_0 : DmaSem sig := 36
abbrev cc0_sem21_0 : DmaSem sig := 37

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_112 : BitVec 32 := 0#32
  let c32_i32 : BitVec 32 := 32#32
  let v300 : BitVec 32 := Scalar.addi c0_i32_112 c32_i32
  let c1_i32_113 : BitVec 32 := 1#32
  ⟨c0_i32_112, v300, c1_i32_113⟩
def k0_mult1 (k0_t1 : Fin k0_t1_loop.trips) : BitVec 32 :=
  let c31_i32_288 : BitVec 32 := 31#32
  let c0_i32_112 : BitVec 32 := 0#32
  let c1_i32_113 : BitVec 32 := 1#32
  let arg30 : BitVec 32 := Scf.iv c0_i32_112 c1_i32_113 k0_t1
  let v600 : BitVec 32 := Scalar.subi c31_i32_288 arg30
  let c8_i32 : BitVec 32 := 8#32
  let v601 : BitVec 32 := Scalar.muli v600 c8_i32
  v601
def k0_off1 (k0_t1 : Fin k0_t1_loop.trips) : Fin 2 → Nat :=
  let c31_i32_288 : BitVec 32 := 31#32
  let c0_i32_112 : BitVec 32 := 0#32
  let c1_i32_113 : BitVec 32 := 1#32
  let arg30 : BitVec 32 := Scf.iv c0_i32_112 c1_i32_113 k0_t1
  let v600 : BitVec 32 := Scalar.subi c31_i32_288 arg30
  let c8_i32 : BitVec 32 := 8#32
  let v601 : BitVec 32 := Scalar.muli v600 c8_i32
  let v602 : BitVec 32 := v601
  let v603 : Index := Scalar.indexCast v602
  let c0_289 : Index := 0#32
  ![v603.toNat, 0]
def k0_cond2 (i : grid0.Coords) : BitVec 1 :=
  let arg0 : BitVec 32 := BitVec.ofNat 32 (i 0).val
  let c31_i32_286 : BitVec 32 := 31#32
  let v597 : BitVec 1 := Scalar.cmpi .eq arg0 c31_i32_286
  let v598 : BitVec 32 := Scalar.extui v597
  let c0_i32_287 : BitVec 32 := 0#32
  let v599 : BitVec 1 := Scalar.cmpi .ne v598 c0_i32_287
  v599

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c3_i32 : BitVec 32 := 3#32
  let c0_i32 : BitVec 32 := 0#32
  ![v0.toNat, c3_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c4_i32 : BitVec 32 := 4#32
  let c0_i32 : BitVec 32 := 0#32
  ![v0.toNat, c4_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c1_i32_0 : BitVec 32 := 1#32
  let c0_i32_1 : BitVec 32 := 0#32
  ![v3.toNat, c1_i32_0.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c2_i32 : BitVec 32 := 2#32
  let c0_i32_0 : BitVec 32 := 0#32
  ![v3.toNat, c2_i32.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c3_i32 : BitVec 32 := 3#32
  let c0_i32_0 : BitVec 32 := 0#32
  ![v3.toNat, c3_i32.toNat]

def cc0_transform_12 (i : grid0.Coords) : Fin 2 → Nat :=
  let arg0 : BitVec 32 := BitVec.ofNat 32 (i 0).val
  let c31_i32 : BitVec 32 := 31#32
  let v0 : BitVec 32 := Scalar.subi c31_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_13 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let v1 : BitVec 32 := Scalar.addi v0 c1_i32
  let c16_i32 : BitVec 32 := 16#32
  let v2 : BitVec 32 := Scalar.muli v1 c16_i32
  let c511_i32 : BitVec 32 := 511#32
  let v3 : BitVec 32 := Scalar.minsi v2 c511_i32
  let c0_i32 : BitVec 32 := 0#32
  let c0_i32_0 : BitVec 32 := 0#32
  ![v3.toNat, c0_i32.toNat]

def cc0_transform_14 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let v1 : BitVec 32 := Scalar.addi v0 c1_i32
  let c16_i32 : BitVec 32 := 16#32
  let v2 : BitVec 32 := Scalar.muli v1 c16_i32
  let c511_i32 : BitVec 32 := 511#32
  let v3 : BitVec 32 := Scalar.minsi v2 c511_i32
  let c0_i32 : BitVec 32 := 0#32
  let c0_i32_0 : BitVec 32 := 0#32
  ![v3.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S10x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4x256x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x512x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S256x7168 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S16x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S4x256x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== Proof.GatesP.Run.lean ====
/- The idealized `_ffn_bwd_gates` run point by point: what each of its four result windows holds after the body, and the
   run of the whole launch from it. Window 7 (the cast cotangent) is stored only at a row block's first column block; its
   contents are carried through the other three, where the body reads them back. -/
module

public import proofs.«01_k».proof.Proof.Gen.GatesIdeal.Frame
public import proofs.«01_k».proof.Proof.Gen.GatesIdeal.Skeleton
public import Idealize.ShloMosaic.Lib.VecWindow
public import Idealize.ShloMosaic.Lib.Claim
public import Idealize.ShloMosaic.Lib.WordCmp
public import Idealize.ShloMosaic.Lib.Pipeline.TableIdle

@[expose] public section

set_option maxRecDepth 16384

noncomputable section

namespace Cert.GatesIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GatesIdeal.Gen

/-! Short names for the bounds used below. -/
abbrev m0 := inb_S1x1024x704_S1x1024x704_0_0_0

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body leaves of a point's blocks, from the cast cotangent's block: the gate's gradient, -/
abbrev out4 (xb : Vec F S1024x1024 .bf16) (x1 x2 : Vec F S1x1024x704 .bf16) (x3 : Vec F S1x704x1024 .bf16) : Vec F S1x1024x704 .bf16 :=
  k0_pay9 xb x3 x1 x2
/-- the up product's gradient, -/
abbrev out5 (xb : Vec F S1024x1024 .bf16) (x1 : Vec F S1x1024x704 .bf16) (x3 : Vec F S1x704x1024 .bf16) : Vec F S1x1024x704 .bf16 :=
  k0_pay1 (k0_pay4 xb x3) (k0_pay8 x1)
/-- and the forward value. -/
abbrev out6 (x1 x2 : Vec F S1x1024x704 .bf16) : Vec F S1x1024x704 .bf16 :=
  k0_pay2 (k0_pay6 x2) (k0_pay8 x1)

/-- A load of a whole matrix buffer reads its contents. -/
theorem load2 {s : Shape} {e : EltTy} {κ : Kind} {r : Space} (v : Memref sig κ r s e) (hv : v.IsWhole) (x : Vec F s e) {off : Fin s.rank → ℕ} (inb : ∀ a, off a + s.size a ≤ s.size a) :
    v.view.readAt (Elt F) (Rect.unit off s.size inb).toLoadRect (hv.unread x) = x :=
  (View.readAt_full _ _ _).trans (hv.read_unread _)

set_option maxHeartbeats 1000000 in
/-- The body where the column block is a row block's first: it casts the cotangent's block, then computes. -/
theorem run_first (c : Dev nD) (i : grid0.Coords) (v2 : Memref sig .tc .vmem S1024x1024 .f32) (w2 : v2.IsWhole) (v3 : Memref sig .tc .vmem S1x1024x704 .bf16) (w3 : v3.IsWhole) (v4 : Memref sig .tc .vmem S1x1024x704 .bf16) (w4 : v4.IsWhole) (v5 : Memref sig .tc .vmem S1x704x1024 .bf16) (w5 : v5.IsWhole) (v6 : Memref sig .tc .vmem S1x1024x704 .bf16) (w6 : v6.IsWhole) (v7 : Memref sig .tc .vmem S1x1024x704 .bf16) (w7 : v7.IsWhole) (v8 : Memref sig .tc .vmem S1x1024x704 .bf16) (w8 : v8.IsWhole) (v9 : Memref sig .tc .vmem S1024x1024 .bf16) (w9 : v9.IsWhole)
    (hc0 : k0_cond1 i = 1#1)
    (x0 : Vec F S1024x1024 .f32) (x1 x2 : Vec F S1x1024x704 .bf16) (x3 : Vec F S1x704x1024 .bf16) (E : Set ℕ) (K : PUnit → sProp 𝕄) :
    iprop(owns c.tc v2 fullShare x0 ∗ owns c.tc v3 fullShare x1 ∗ owns c.tc v4 fullShare x2 ∗ owns c.tc v5 fullShare x3 ∗ (∃ d, owns c.tc v6 fullShare d) ∗ (∃ d, owns c.tc v7 fullShare d) ∗ (∃ d, owns c.tc v8 fullShare d) ∗ (∃ d, owns c.tc v9 fullShare d)
        ∗ (iprop(owns c.tc v2 fullShare x0 ∗ owns c.tc v3 fullShare x1 ∗ owns c.tc v4 fullShare x2 ∗ owns c.tc v5 fullShare x3
            ∗ owns c.tc v6 fullShare (out4 (k0_pay3 x0) x1 x2 x3) ∗ owns c.tc v7 fullShare (out5 (k0_pay3 x0) x1 x3) ∗ owns c.tc v8 fullShare (out6 x1 x2) ∗ owns c.tc v9 fullShare (k0_pay3 x0)) -∗ K ⟨⟩))
      ⊢ wp frame (wpE (defs₀ (F := F)) Variants.none c none) E (cc0_ffn_bwd_gates_0 i v2 w2 v3 w3 v4 w4 v5 w5 v6 w6 v7 w7 v8 w8 v9 w9) K := by
  simp only [cc0_ffn_bwd_gates_0_eq_skeleton]; unfold cc0_ffn_bwd_gates_0_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  obtain rfl := w2.eq_unread hf0; obtain rfl := w3.eq_unread hf1; obtain rfl := w4.eq_unread hf2; obtain rfl := w5.eq_unread hf3
  sl_exec (disch := first | sl_exact hc0)
  sl_step
  iapply Hk
  isplitl [H0]
  · iexists _; isplitr; · ipureintro; exact w2.read_unread _
    iexact H0
  isplitl [H1]
  · iexists _; isplitr; · ipureintro; exact w3.read_unread _
    iexact H1
  isplitl [H2]
  · iexists _; isplitr; · ipureintro; exact w4.read_unread _
    iexact H2
  isplitl [H3]
  · iexists _; isplitr; · ipureintro; exact w5.read_unread _
    iexact H3
  isplitl [H4]
  · iexists _; isplitr; swap; · iexact H4
    ipureintro; refine (View.read_writes_full _ _ _ _ _).trans ?_; sl_unfold_words
    exact congr (congr (congr (congrArg k0_pay9 ((View.readCov_full _ _ _ _ _).trans (congrArg k0_pay3 (load2 v2 w2 x0 inb_S1024x1024_S1024x1024_0_0)))) (load2 v5 w5 x3 inb_S1x704x1024_S1x704x1024_0_0_0)) (load2 v3 w3 x1 m0)) (load2 v4 w4 x2 m0)
  isplitl [H5]
  · iexists _; isplitr; swap; · iexact H5
    ipureintro; refine (View.read_writes_full _ _ _ _ _).trans ?_; sl_unfold_words
    exact congr (congrArg k0_pay1 (congr (congrArg k0_pay4 ((View.readCov_full _ _ _ _ _).trans (congrArg k0_pay3 (load2 v2 w2 x0 inb_S1024x1024_S1024x1024_0_0)))) (load2 v5 w5 x3 inb_S1x704x1024_S1x704x1024_0_0_0))) (congrArg k0_pay8 (load2 v3 w3 x1 m0))
  isplitl [H6]
  · iexists _; isplitr; swap; · iexact H6
    ipureintro; refine (View.read_writes_full _ _ _ _ _).trans ?_; sl_unfold_words
    exact congr (congrArg k0_pay2 (congrArg k0_pay6 (load2 v4 w4 x2 m0))) (congrArg k0_pay8 (load2 v3 w3 x1 m0))
  iexists _; isplitr; swap; · iexact H7
  ipureintro; refine (View.read_writes_full _ _ _ _ _).trans ?_; sl_unfold_words
  exact congrArg k0_pay3 (load2 v2 w2 x0 inb_S1024x1024_S1024x1024_0_0)

set_option maxHeartbeats 1000000 in
/-- The body elsewhere: it reads the cast cotangent's block back. -/
theorem run_rest (c : Dev nD) (i : grid0.Coords) (v2 : Memref sig .tc .vmem S1024x1024 .f32) (w2 : v2.IsWhole) (v3 : Memref sig .tc .vmem S1x1024x704 .bf16) (w3 : v3.IsWhole) (v4 : Memref sig .tc .vmem S1x1024x704 .bf16) (w4 : v4.IsWhole) (v5 : Memref sig .tc .vmem S1x704x1024 .bf16) (w5 : v5.IsWhole) (v6 : Memref sig .tc .vmem S1x1024x704 .bf16) (w6 : v6.IsWhole) (v7 : Memref sig .tc .vmem S1x1024x704 .bf16) (w7 : v7.IsWhole) (v8 : Memref sig .tc .vmem S1x1024x704 .bf16) (w8 : v8.IsWhole) (v9 : Memref sig .tc .vmem S1024x1024 .bf16) (w9 : v9.IsWhole)
    (hc0 : ¬ k0_cond1 i = 1#1)
    (x0 : Vec F S1024x1024 .f32) (x1 x2 : Vec F S1x1024x704 .bf16) (x3 : Vec F S1x704x1024 .bf16) (xb : Vec F S1024x1024 .bf16) (E : Set ℕ) (K : PUnit → sProp 𝕄) :
    iprop(owns c.tc v2 fullShare x0 ∗ owns c.tc v3 fullShare x1 ∗ owns c.tc v4 fullShare x2 ∗ owns c.tc v5 fullShare x3 ∗ (∃ d, owns c.tc v6 fullShare d) ∗ (∃ d, owns c.tc v7 fullShare d) ∗ (∃ d, owns c.tc v8 fullShare d) ∗ owns c.tc v9 fullShare xb
        ∗ (iprop(owns c.tc v2 fullShare x0 ∗ owns c.tc v3 fullShare x1 ∗ owns c.tc v4 fullShare x2 ∗ owns c.tc v5 fullShare x3
            ∗ owns c.tc v6 fullShare (out4 xb x1 x2 x3) ∗ owns c.tc v7 fullShare (out5 xb x1 x3) ∗ owns c.tc v8 fullShare (out6 x1 x2) ∗ owns c.tc v9 fullShare xb) -∗ K ⟨⟩))
      ⊢ wp frame (wpE (defs₀ (F := F)) Variants.none c none) E (cc0_ffn_bwd_gates_0 i v2 w2 v3 w3 v4 w4 v5 w5 v6 w6 v7 w7 v8 w8 v9 w9) K := by
  simp only [cc0_ffn_bwd_gates_0_eq_skeleton]; unfold cc0_ffn_bwd_gates_0_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, Hk⟩
  obtain rfl := w2.eq_unread hf0; obtain rfl := w3.eq_unread hf1; obtain rfl := w4.eq_unread hf2; obtain rfl := w5.eq_unread hf3; obtain rfl := w9.eq_unread hf7
  sl_exec (disch := first | sl_exact hc0)
  sl_step
  iapply Hk
  isplitl [H0]
  · iexists _; isplitr; · ipureintro; exact w2.read_unread _
    iexact H0
  isplitl [H1]
  · iexists _; isplitr; · ipureintro; exact w3.read_unread _
    iexact H1
  isplitl [H2]
  · iexists _; isplitr; · ipureintro; exact w4.read_unread _
    iexact H2
  isplitl [H3]
  · iexists _; isplitr; · ipureintro; exact w5.read_unread _
    iexact H3
  isplitl [H4]
  · iexists _; isplitr; swap; · iexact H4
    ipureintro; refine (View.read_writes_full _ _ _ _ _).trans ?_; sl_unfold_words
    exact congr (congr (congr (congrArg k0_pay9 (load2 v9 w9 xb inb_S1024x1024_S1024x1024_0_0)) (load2 v5 w5 x3 inb_S1x704x1024_S1x704x1024_0_0_0)) (load2 v3 w3 x1 m0)) (load2 v4 w4 x2 m0)
  isplitl [H5]
  · iexists _; isplitr; swap; · iexact H5
    ipureintro; refine (View.read_writes_full _ _ _ _ _).trans ?_; sl_unfold_words
    exact congr (congrArg k0_pay1 (congr (congrArg k0_pay4 (load2 v9 w9 xb inb_S1024x1024_S1024x1024_0_0)) (load2 v5 w5 x3 inb_S1x704x1024_S1x704x1024_0_0_0))) (congrArg k0_pay8 (load2 v3 w3 x1 m0))
  isplitl [H6]
  · iexists _; isplitr; swap; · iexact H6
    ipureintro; refine (View.read_writes_full _ _ _ _ _).trans ?_; sl_unfold_words
    exact congr (congrArg k0_pay2 (congrArg k0_pay6 (load2 v4 w4 x2 m0))) (congrArg k0_pay8 (load2 v3 w3 x1 m0))
  iexists _; isplitr; · ipureintro; exact w9.read_unread _
  iexact H7

/-! ## Which case a point is in -/

/-- The cotangent's block is cast at the points that are multiples of 4. -/
theorem hcond : ∀ t : Fin cfg0.N, k0_cond1 (grid0.coords t) = 1#1 ↔ t.val % 4 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [k0_cond1, e0, e1]
    word_cmp
   : ∀ t : Fin grid0.N, k0_cond1 (grid0.coords t) = 1#1 ↔ t.val % 4 = 0)

/-- The first point of a point's row block. -/
def first (t : Fin cfg0.N) : Fin cfg0.N := ⟨t.val / 4 * 4, lt_of_le_of_lt (Nat.div_mul_le_self _ _) t.isLt⟩

theorem first_of {t : Fin cfg0.N} (h : t.val % 4 = 0) : first t = t := Fin.ext (by show t.val / 4 * 4 = t.val; omega)

/-- The cast block of the cotangent a point computes from. -/
def xb (c : Dev nD) (t : Fin cfg0.N) : Vec F S1024x1024 .bf16 := k0_pay3 (iblk m c 0 (first t))

/-- The proof data: each window's contents after a point's body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (xb m c t) (iblk m c 1 t) (iblk m c 2 t) (iblk m c 3 t)
    | ⟨5, _⟩ => out5 (xb m c t) (iblk m c 1 t) (iblk m c 3 t)
    | ⟨6, _⟩ => out6 (iblk m c 1 t) (iblk m c 2 t)
    | ⟨7, _⟩ => xb m c t
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = out4 (xb m c t) (iblk m c 1 t) (iblk m c 2 t) (iblk m c 3 t) := by dsimp only [dats]
theorem after_5 (c : Dev nD) (t : Fin cfg0.N) : (dats m 0 c).after 5 t = out5 (xb m c t) (iblk m c 1 t) (iblk m c 3 t) := by dsimp only [dats]
theorem after_6 (c : Dev nD) (t : Fin cfg0.N) : (dats m 0 c).after 6 t = out6 (iblk m c 1 t) (iblk m c 2 t) := by dsimp only [dats]
theorem after_7 (c : Dev nD) (t : Fin cfg0.N) : (dats m 0 c).after 7 t = xb m c t := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d

/-- Between a row block's points window 7 is not written back. -/
theorem fresh_7 : ∀ t : Fin cfg0.N, t.val % 4 ≠ 0 → cfg0.fresh 7 t.val = false := by
  decide +kernel

/-- So away from a row block's first point window 7's buffer holds the cast block. -/
theorem before_7 (c : Dev nD) (t : Fin cfg0.N) (h : t.val % 4 ≠ 0) (d) : (dats m 0 c).before 7 t d = xb m c t := by
  have key : ∀ s : Fin cfg0.N, s.val % 4 ≠ 0 → xb m c s = xb m c ⟨s.val - 1, by omega⟩ := fun s hs => by
    unfold xb; congr 2; exact Fin.ext (by show s.val / 4 * 4 = (s.val - 1) / 4 * 4; omega)
  rw [(dats m 0 c).before_out_traj 7 rfl (fun _ _ => rfl) (fun s hs0 hidle _ => by
      rw [after_7, after_7]
      refine key s fun h4 => ?_
      have : cfg0.idle 7 (cfg0.grid.coords s) = !(k0_cond1 (grid0.coords s) == 1#1) := rfl
      rw [this, (hcond s).mpr h4] at hidle
      exact absurd hidle (by decide)) t.val t rfl d, fresh_7 t h, after_7]
  exact (key t h).symm

/-! ## The body at a point -/

/-- What the library hands the body at point `t`, -/
def bodyPre (c : Dev nD) (t : Fin cfg0.N) : sProp 𝕄 :=
  iprop((dats m 0 c).Φ t.castSucc ∗ (dats m 0 c).owesAt () t.castSucc
    ∗ (∃ d, owns c.tc (st0_0 t) fullShare ((dats m 0 c).before 0 t d))
    ∗ (∃ d, owns c.tc (st0_1 t) fullShare ((dats m 0 c).before 1 t d))
    ∗ (∃ d, owns c.tc (st0_2 t) fullShare ((dats m 0 c).before 2 t d))
    ∗ (∃ d, owns c.tc (st0_3 t) fullShare ((dats m 0 c).before 3 t d))
    ∗ (∃ d, owns c.tc (st0_4 t) fullShare ((dats m 0 c).before 4 t d))
    ∗ (∃ d, owns c.tc (st0_5 t) fullShare ((dats m 0 c).before 5 t d))
    ∗ (∃ d, owns c.tc (st0_6 t) fullShare ((dats m 0 c).before 6 t d))
    ∗ (∃ d, owns c.tc (st0_7 t) fullShare ((dats m 0 c).before 7 t d)))

/-- and what it takes back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl]
  rw [show (dats m 0 c).leavesExact 0 t = owns c.tc (st0_0 t) fullShare ((dats m 0 c).after 0 t) from by
    unfold Dat.leavesExact; rw [show cfg0.idle 0 (cfg0.grid.coords t) = false from rfl], after_0]
  rw [show (dats m 0 c).leavesExact 1 t = owns c.tc (st0_1 t) fullShare ((dats m 0 c).after 1 t) from by
    unfold Dat.leavesExact; rw [show cfg0.idle 1 (cfg0.grid.coords t) = false from rfl], after_1]
  rw [show (dats m 0 c).leavesExact 2 t = owns c.tc (st0_2 t) fullShare ((dats m 0 c).after 2 t) from by
    unfold Dat.leavesExact; rw [show cfg0.idle 2 (cfg0.grid.coords t) = false from rfl], after_2]
  rw [show (dats m 0 c).leavesExact 3 t = owns c.tc (st0_3 t) fullShare ((dats m 0 c).after 3 t) from by
    unfold Dat.leavesExact; rw [show cfg0.idle 3 (cfg0.grid.coords t) = false from rfl], after_3]
  rw [show (dats m 0 c).leavesExact 4 t = owns c.tc (st0_4 t) fullShare ((dats m 0 c).after 4 t) from by
    unfold Dat.leavesExact; rw [show cfg0.idle 4 (cfg0.grid.coords t) = false from rfl], after_4]
  rw [show (dats m 0 c).leavesExact 5 t = owns c.tc (st0_5 t) fullShare ((dats m 0 c).after 5 t) from by
    unfold Dat.leavesExact; rw [show cfg0.idle 5 (cfg0.grid.coords t) = false from rfl], after_5]
  rw [show (dats m 0 c).leavesExact 6 t = owns c.tc (st0_6 t) fullShare ((dats m 0 c).after 6 t) from by
    unfold Dat.leavesExact; rw [show cfg0.idle 6 (cfg0.grid.coords t) = false from rfl], after_6]
  have hidle : cfg0.idle 7 (cfg0.grid.coords t) = !(k0_cond1 (grid0.coords t) == 1#1) := rfl
  by_cases h0 : t.val % 4 = 0
  · have hx : xb m c t = k0_pay3 (iblk m c 0 t) := by unfold xb; rw [first_of h0]
    rw [show (dats m 0 c).leavesExact 7 t = owns c.tc (st0_7 t) fullShare ((dats m 0 c).after 7 t) from by
      unfold Dat.leavesExact; rw [hidle, (hcond t).mpr h0]; rfl, after_7, hx]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_first c (grid0.coords t) _ _ _ _ _ _ _ _ _ _ _ _ _ _ _ _ ((hcond t).mpr h0) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · simp only [before_7 m c t h0]
    have hpost : owns c.tc (st0_7 t) fullShare (xb m c t) ⊢ (dats m 0 c).leavesExact 7 t := by
      have hc : (k0_cond1 (grid0.coords t) == 1#1) = false := beq_eq_false_iff_ne.mpr fun h => h0 ((hcond t).mp h)
      unfold Dat.leavesExact; rw [hidle, hc]
      cases hfl : (cfg0.win 7).flush t
      · simp only [Bool.not_false, before_7 m c t h0]
        iintro H; iexists (xb m c t); iexact H
      · simp only [Bool.not_false, after_7]
        exact .rfl
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_rest c (grid0.coords t) _ _ _ _ _ _ _ _ _ _ _ _ _ _ _ _ (fun h => h0 ((hcond t).mp h)) (iblk m c 0 t) (iblk m c 1 t) (iblk m c 2 t) (iblk m c 3 t) (xb m c t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iapply hpost; iexact H7

theorem defs₀_row (t : Fin cfg0.N) : defs₀ (F := F) .tc cfg0.body (cfg0.bodyArgs t (cfg0.slots t)) = bodyAt0 t := by
  unfold defs₀; rw [Defs.onTc_tc]

theorem body_obligation (c : Dev nD) : Pipeline.BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every execution ends with the launch's arrays as the proof data has them and every semaphore counter at zero. -/
theorem run_main_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.GatesIdeal.Own
-- ==== Proof.Real.lean ====
/- Extended reals that are real: what the claims' finiteness conditions say, and the operations on real values. -/
module

public import Idealize.ShloMosaic.Lib.Pointwise
public import Idealize.ShloMosaic.Lib.IdealHost
public import Idealize.ShloMosaic.PureOps.Ideal

@[expose] public section

noncomputable section

namespace Cert.Own

open Idealize.ShloMosaic

/-- The word the conditions compare with is infinity. -/
theorem word_inf : Ideal.ofBits .f32 0x7F800000#32 = ⊤ := by
  simp [Ideal.ofBits, Ideal.ieee]

/-- An extended real of finite magnitude is real. -/
theorem real_of_abs_lt (x : EReal) (h : FloatOps.cmpf (F := Ideal) (φ := .f32) .olt (FloatOps.absf (F := Ideal) (φ := .f32) x) ⊤ = 1#1) : ∃ r : ℝ, x = (r : EReal) := by
  induction x with
  | bot => exfalso; revert h; simp [Ideal.cmpf_def, Ideal.absf_def, Ideal.cmp]
  | top => exfalso; revert h; simp [Ideal.cmpf_def, Ideal.absf_def, Ideal.cmp]
  | coe r => exact ⟨r, rfl⟩

/-- The finiteness condition of one argument: every element is real. -/
theorem real_of_finite {s : Shape} (x y : FVec Ideal s .f32) (h : cmpf .olt (Host.absf x) y = fun _ => 1#1)
    (hy : ∀ i, y i = Ideal.ofBits .f32 0x7F800000#32) : ∃ r : s.Idx → ℝ, ∀ i, x i = ((r i : ℝ) : EReal) :=
  Classical.skolem.mp fun i => real_of_abs_lt (x i) (by
    have e : y i = ⊤ := (hy i).trans word_inf
    rw [← e]; exact congrFun h i)

theorem sum_coe {ι : Type} [Fintype ι] (f : ι → ℝ) : (∑ k, ((f k : ℝ) : EReal)) = ((∑ k, f k : ℝ) : EReal) := by
  classical
  induction (Finset.univ : Finset ι) using Finset.induction_on with
  | empty => simp
  | insert a s ha ih => rw [Finset.sum_insert ha, Finset.sum_insert ha, ih, EReal.coe_add]

theorem div_real (x y : ℝ) (h : y ≠ 0) : Ideal.div (x : EReal) (y : EReal) = ((x / y : ℝ) : EReal) := by
  rw [Ideal.div_coe h, ← EReal.coe_mul, mul_one_div]

/-- The logistic function of a real. -/
def sg (x : ℝ) : ℝ := 1 / (1 + Real.exp (-x))

theorem sg_real (x : ℝ) : Ideal.div 1 (1 + Ideal.exp (-(x : EReal))) = ((sg x : ℝ) : EReal) := by
  rw [← EReal.coe_neg, Ideal.exp_coe, ← EReal.coe_one, ← EReal.coe_add, div_real _ _ (by positivity)]; rfl

end Cert.Own
-- ==== Proof.Norm.lean ====
/- The scale of the norm: a row's reciprocal root mean square, over the reals. -/
module

public import proofs.«01_k».proof.Proof.Real

@[expose] public section

noncomputable section

namespace Cert.Own

open Idealize.ShloMosaic

/-- The mean square of a row and the small constant, as the programs write it. -/
def vs (x : Fin 1024 → EReal) : EReal := Ideal.div (∑ d, x d * x d) (Ideal.ofBits .f32 1149239296#32) + Ideal.ofBits .f32 897988541#32
/-- Its reciprocal root: the row's scale. -/
def rs (x : Fin 1024 → EReal) : EReal := Ideal.rsqrt (vs x)

theorem word_1024 : Ideal.ofBits .f32 1149239296#32 = ((1024 : ℝ) : EReal) := by
  simp [Ideal.ofBits, Ideal.ieee, -EReal.coe_mul]; norm_num

theorem word_neg_half : Ideal.ofBits .f32 3204448256#32 = ((-(1 / 2) : ℝ) : EReal) := by
  simp [Ideal.ofBits, Ideal.ieee, -EReal.coe_mul]; norm_num

theorem word_small : ∃ e : ℝ, Ideal.ofBits .f32 897988541#32 = ((e : ℝ) : EReal) ∧ 0 < e := by
  refine ⟨_, by simp only [Ideal.ofBits, Ideal.ieee]; simp [-EReal.coe_mul]; rfl, by norm_num⟩

/-- Of a real row both are real, and the scale's square is the mean's reciprocal. -/
theorem rs_real (x : Fin 1024 → ℝ) : ∃ r v : ℝ, Ideal.rsqrt ((v : ℝ) : EReal) = ((r : ℝ) : EReal) ∧ vs (fun d => ((x d : ℝ) : EReal)) = ((v : ℝ) : EReal) ∧ v ≠ 0 ∧ r * r = 1 / v := by
  obtain ⟨e, he, hp⟩ := word_small
  have hs : 0 ≤ ∑ d, x d * x d := Finset.sum_nonneg fun d _ => mul_self_nonneg _
  have hv : 0 < (∑ d, x d * x d) / 1024 + e := by positivity
  have ev : vs (fun d => ((x d : ℝ) : EReal)) = (((∑ d, x d * x d) / 1024 + e : ℝ) : EReal) := by
    unfold vs
    simp only [← EReal.coe_mul]
    rw [sum_coe, word_1024, he, div_real _ _ (by norm_num), ← EReal.coe_add]
  refine ⟨_, _, by rw [Ideal.rsqrt_coe, if_neg hv.not_gt, if_neg hv.ne'], ev, hv.ne', ?_⟩
  rw [← mul_inv, Real.mul_self_sqrt hv.le, one_div]

/-- The norm's gradient: the derivative's two terms through the mean are the one correction. -/
theorem back_real (r v S S' x a a' : ℝ) (h : r * r = 1 / v) (ha : a = a') (hS : S' = r * S) :
    a * r + x * (S * (-(1 / 2) * (r / v)) / 1024) + S * (-(1 / 2) * (r / v)) / 1024 * x = r * (a' - x * r * (S' / 1024)) := by
  have e : r / v = r * (r * r) := by rw [h]; ring
  rw [e, hS, ← ha]; ring

/-- The row a kernel adds for the norm's gradient, from the row, the gain and the cotangent of the normalised row, -/
def backrow (x g dh : Fin 1024 → EReal) (d : Fin 1024) : EReal :=
  rs x * (dh d * g d - x d * rs x * Ideal.div (∑ d, dh d * g d * (x d * rs x)) (Ideal.ofBits .f32 1149239296#32))
/-- and a token's share of the gain's gradient. -/
def gainrow (x dh : Fin 1024 → EReal) (d : Fin 1024) : EReal := dh d * (x d * rs x)

/-- A sum that a sweep of runs of four points starts anew at each run's first point: after a point it is the sum over the run so far. -/
theorem run_sum {N : ℕ} (A f : (n : ℕ) → n < N → EReal) (h0 : ∀ n h, n % 4 = 0 → A n h = 0 + f n h)
    (h1 : ∀ n h, n % 4 ≠ 0 → A n h = A (n - 1) (by omega) + f n h) (n : ℕ) (h : n < N) (h3 : n % 4 = 3) :
    A n h = ((f (n - 3) (by omega) + f (n - 2) (by omega)) + f (n - 1) (by omega)) + f n h := by
  rw [h1 n h (by omega), h1 (n - 1) (by omega) (by omega), h1 (n - 1 - 1) (by omega) (by omega), h0 (n - 1 - 1 - 1) (by omega) (by omega), zero_add]
  rfl

/-- A sum that grows at the last point of each run of four: after a point it is the sum over the runs completed. -/
theorem sweep_sum {N : ℕ} (R : (n : ℕ) → n < N → EReal) (S : ℕ → EReal) (h0 : ∀ h, R 0 h = 0) (h1 : ∀ n h, n ≠ 0 → n % 4 ≠ 3 → R n h = R (n - 1) (by omega))
    (h2 : ∀ n h, n % 4 = 3 → R n h = R (n - 1) (by omega) + S (n / 4)) : ∀ n h, R n h = ∑ k ∈ Finset.range ((n + 1) / 4), S k := by
  intro n
  induction n with
  | zero => intro h; rw [h0]; simp
  | succ n ih =>
    intro h
    by_cases h3 : (n + 1) % 4 = 3
    · rw [h2 _ h h3, show (n + 1 + 1) / 4 = (n + 1) / 4 + 1 by omega, Finset.sum_range_succ, ← ih (by omega)]
      rfl
    · rw [h1 _ h (by omega) h3, show (n + 1 + 1) / 4 = (n + 1) / 4 by omega, ← ih (by omega)]
      rfl

end Cert.Own
-- ==== Proof.GatesP.Value.lean ====
/- What the gated layer's backward call computes over the reals, and that the derivative of the reference's lines is the
   same. -/
module

public import proofs.«01_k».proof.Proof.GatesP.Run
public import proofs.«01_k».proof.Proof.Gen.GatesRIdeal.Run
public import Idealize.ShloMosaic.Lib.Pointwise
public import Idealize.ShloMosaic.Lib.Pipeline.Value
public import proofs.«01_k».proof.Defs
public import proofs.«01_k».proof.Proof.Gen.Pre_gates_finite
public import proofs.«01_k».proof.Proof.Real
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.GatesIdeal.Own

open Cert.GatesIdeal Cert.GatesIdeal.Gen

variable (m : (ℓ : Loc nD τ sig) → Buf (Elt Ideal) ℓ) (ρ : Dev nD → PrngReg)

/-! ## The blocks the launch reads, by index of the arguments -/

/-- The arguments on a core: the layer's input, the norm's gain, the gate's, the up and the down projection, and the cotangent. -/
abbrev x1 (c : Dev nD) : FVec Ideal S8192x1024 .f32 := m ((c : Thread nD τ).loc main_arg0)
abbrev ln (c : Dev nD) : FVec Ideal S1024 .f32 := m ((c : Thread nD τ).loc main_arg1)
abbrev wg (c : Dev nD) : FVec Ideal S1024x2816 .f32 := m ((c : Thread nD τ).loc main_arg2)
abbrev wu (c : Dev nD) : FVec Ideal S1024x2816 .f32 := m ((c : Thread nD τ).loc main_arg3)
abbrev a3 (c : Dev nD) : FVec Ideal S2816x1024 .f32 := m ((c : Thread nD τ).loc main_arg4)
abbrev a0 (c : Dev nD) : FVec Ideal S8192x1024 .f32 := m ((c : Thread nD τ).loc main_arg5)

/-- What the forward saved: the normalised rows times a matrix. -/
def proj (x : FVec Ideal S8192x1024 .f32) (g : FVec Ideal S1024 .f32) (w : FVec Ideal S1024x2816 .f32) : FVec Ideal S8192x2816 .f32 := fun i =>
  ∑ k : Fin 1024, x (ix2 (i 0) k) * Cert.Own.rs (fun d => x (ix2 (i 0) d)) * g (ix1 k) * w (ix2 k (i 1))
/-- The gate and the up projection. -/
abbrev a1 (c : Dev nD) : FVec Ideal S8192x2816 .f32 := proj (x1 m c) (ln m c) (wg m c)
abbrev a2 (c : Dev nD) : FVec Ideal S8192x2816 .f32 := proj (x1 m c) (ln m c) (wu m c)

/-- The host's lines ahead of the call, -/
def lines (x : FVec Ideal S8192x1024 .f32) (g : FVec Ideal S1024 .f32) (w : FVec Ideal S1024x2816 .f32) : FVec Ideal S8192x2816 .f32 :=
  Host.dotGeneral (F := Ideal) dot_S8192x1024_S1024x2816_S8192x2816_1_0_0_1_n_n none (truncf .bf16 (mulf (F := Ideal) (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g))) bitsLt_bf16_f32) (truncf .bf16 w bitsLt_bf16_f32)
/-- and the reference's. -/
theorem lines_eq (x : FVec Ideal S8192x1024 .f32) (g : FVec Ideal S1024 .f32) (w : FVec Ideal S1024x2816 .f32) : lines x g w = proj x g w := by
  funext i; rw [eq_ix2 i]
  generalize i 0 = p, i 1 = q
  change Fin 8192 at p
  change Fin 2816 at q
  unfold lines proj Cert.Own.rs Cert.Own.vs
  pointwise
theorem proj_ref (x : FVec Ideal S8192x1024 .f32) (g : FVec Ideal S1024 .f32) (w : FVec Ideal S1024x2816 .f32) :
    Host.dotGeneral (F := Ideal) Cert.GatesRIdeal.dot_S8192x1024_S1024x2816_S8192x2816_1_0_0_1_n_n none (mulf (F := Ideal) (mulf x (broadcastInDim Cert.GatesRIdeal.S8192x1024 ![0, 1] Cert.GatesRIdeal.Gen.bcast_S8192x1_S8192x1024_0_1 (Host.rsqrt (addf (Host.divf (broadcastInDim Cert.GatesRIdeal.S8192x1 ![0] Cert.GatesRIdeal.Gen.bcast_S8192_S8192x1_0 (Host.reduceAdd (mulf x x) (constant Cert.GatesRIdeal.S_ .f32 0x00000000#32) Cert.GatesRIdeal.Gen.reducesTo_S8192x1024_S8192_d1 Cert.GatesRIdeal.Gen.h_S_)) (broadcastInDim Cert.GatesRIdeal.S8192x1 ![] Cert.GatesRIdeal.Gen.bcast_S_S8192x1 (constant Cert.GatesRIdeal.S_ .f32 0x44800000#32))) (broadcastInDim Cert.GatesRIdeal.S8192x1 ![] Cert.GatesRIdeal.Gen.bcast_S_S8192x1 (constant Cert.GatesRIdeal.S_ .f32 0x358637BD#32)))))) (broadcastInDim Cert.GatesRIdeal.S8192x1024 ![0, 1] Cert.GatesRIdeal.Gen.bcast_S1x1024_S8192x1024_0_1 (broadcastInDim Cert.GatesRIdeal.S1x1024 ![1] Cert.GatesRIdeal.Gen.bcast_S1024_S1x1024_1 g))) w = proj x g w := by
  funext i; rw [eq_ix2 i]
  generalize i 0 = p, i 1 = q
  change Fin 8192 at p
  change Fin 2816 at q
  unfold proj Cert.Own.rs Cert.Own.vs
  pointwise

/-- A point's row `p` among all rows, -/
abbrev row (t : Fin cfg0.N) (p : Fin 1024) : Fin 8192 := ⟨t.val / 4 * 1024 + p.val, by have := t.isLt; have : cfg0.N = 32 := N_0; omega⟩
/-- and its column `q` among all columns. -/
abbrev col (t : Fin cfg0.N) (q : Fin 704) : Fin 2816 := ⟨t.val % 4 * 704 + q.val, by omega⟩

theorem V_20 (c : Dev nD) : V m c main_v20 = (truncf .bf16 (transpose S4x8192x704 [1, 0, 2] (shapeCast S8192x4x704 (lines (x1 m c) (ln m c) (wg m c)) shapeCasts_S8192x2816_S8192x4x704) transposes_S8192x4x704_S4x8192x704_1_0_2) bitsLt_bf16_f32 : FVec Ideal S4x8192x704 .bf16) := by
  unfold V hostOps0; after_results_simp <;> rfl
theorem V_23 (c : Dev nD) : V m c main_v23 = (truncf .bf16 (transpose S4x8192x704 [1, 0, 2] (shapeCast S8192x4x704 (lines (x1 m c) (ln m c) (wu m c)) shapeCasts_S8192x2816_S8192x4x704) transposes_S8192x4x704_S4x8192x704_1_0_2) bitsLt_bf16_f32 : FVec Ideal S4x8192x704 .bf16) := by
  unfold V hostOps0; after_results_simp <;> rfl
theorem V_25 (c : Dev nD) : V m c main_v25 = (truncf .bf16 (shapeCast S4x704x1024 (a3 m c) shapeCasts_S2816x1024_S4x704x1024) bitsLt_bf16_f32 : FVec Ideal S4x704x1024 .bf16) := by
  unfold V hostOps0; after_results_simp <;> rfl

/-- The kernel's slabs hold the columns of one chip each. -/
theorem slab (x : FVec Ideal S8192x2816 .f32) (j : Fin 4) (r : Fin 8192) (q : Fin 704) :
    (truncf .bf16 (transpose S4x8192x704 [1, 0, 2] (shapeCast S8192x4x704 x shapeCasts_S8192x2816_S8192x4x704) transposes_S8192x4x704_S4x8192x704_1_0_2) bitsLt_bf16_f32 : FVec Ideal S4x8192x704 .bf16) (ix3 j r q)
      = x (ix2 r ⟨j.val * 704 + q.val, by omega⟩) := by
  pointwise

theorem idx_facts : ∀ t : Fin cfg0.N, (win0_0.index t 0 = t.val / 4 ∧ win0_0.index t 1 = 0)
    ∧ (win0_1.index t 0 = t.val % 4 ∧ win0_1.index t 1 = t.val / 4 ∧ win0_1.index t 2 = 0)
    ∧ (win0_2.index t 0 = t.val % 4 ∧ win0_2.index t 1 = t.val / 4 ∧ win0_2.index t 2 = 0)
    ∧ (win0_3.index t 0 = t.val % 4 ∧ win0_3.index t 1 = 0 ∧ win0_3.index t 2 = 0)
    ∧ (win0_4.index t 0 = t.val % 4 ∧ win0_4.index t 1 = t.val / 4 ∧ win0_4.index t 2 = 0)
    ∧ (win0_7.index t 0 = t.val / 4 ∧ win0_7.index t 1 = 0) :=
  (by decide +kernel : ∀ t : Fin grid0.N, _)

theorem blk_0 (c : Dev nD) (t : Fin cfg0.N) (p : Fin 1024) (k : Fin 1024) :
    (iblk m c 0 t : S1024x1024.Idx → EReal) (ix2 p k) = a0 m c (ix2 (row t p) k) := by
  obtain ⟨⟨h0, h1⟩, -⟩ := idx_facts t
  show a0 m c ((win0_0.rect t).emb (ix2 p k)) = _
  congr 1; funext a; apply Fin.ext
  match a with
  | ⟨0, _⟩ => show win0_0.index t 0 * 1024 + 1 * p.val = _; rw [h0]; simp
  | ⟨1, _⟩ => show win0_0.index t 1 * 1024 + 1 * k.val = _; rw [h1]; simp

theorem blk_1 (c : Dev nD) (t : Fin cfg0.N) (p : Fin 1024) (q : Fin 704) :
    (iblk m c 1 t : S1x1024x704.Idx → EReal) (ix3 0 p q) = a1 m c (ix2 (row t p) (col t q)) := by
  obtain ⟨-, ⟨h0, h1, h2⟩, -⟩ := idx_facts t
  show (V m c main_v20 : FVec Ideal S4x8192x704 .bf16) ((win0_1.rect t).emb (ix3 0 p q)) = _
  rw [V_20, lines_eq, ← slab (a1 m c) ⟨t.val % 4, by omega⟩ (row t p) q]
  congr 1; funext a; apply Fin.ext
  match a with
  | ⟨0, _⟩ => show win0_1.index t 0 * 1 + 1 * 0 = _; rw [h0]; simp
  | ⟨1, _⟩ => show win0_1.index t 1 * 1024 + 1 * p.val = _; rw [h1]; simp
  | ⟨2, _⟩ => show win0_1.index t 2 * 704 + 1 * q.val = _; rw [h2]; simp

theorem blk_2 (c : Dev nD) (t : Fin cfg0.N) (p : Fin 1024) (q : Fin 704) :
    (iblk m c 2 t : S1x1024x704.Idx → EReal) (ix3 0 p q) = a2 m c (ix2 (row t p) (col t q)) := by
  obtain ⟨-, -, ⟨h0, h1, h2⟩, -⟩ := idx_facts t
  show (V m c main_v23 : FVec Ideal S4x8192x704 .bf16) ((win0_2.rect t).emb (ix3 0 p q)) = _
  rw [V_23, lines_eq, ← slab (a2 m c) ⟨t.val % 4, by omega⟩ (row t p) q]
  congr 1; funext a; apply Fin.ext
  match a with
  | ⟨0, _⟩ => show win0_2.index t 0 * 1 + 1 * 0 = _; rw [h0]; simp
  | ⟨1, _⟩ => show win0_2.index t 1 * 1024 + 1 * p.val = _; rw [h1]; simp
  | ⟨2, _⟩ => show win0_2.index t 2 * 704 + 1 * q.val = _; rw [h2]; simp

theorem blk_3 (c : Dev nD) (t : Fin cfg0.N) (q : Fin 704) (k : Fin 1024) :
    (iblk m c 3 t : S1x704x1024.Idx → EReal) (ix3 0 q k) = a3 m c (ix2 (col t q) k) := by
  obtain ⟨-, -, -, ⟨h0, h1, h2⟩, -⟩ := idx_facts t
  have e : (truncf .bf16 (shapeCast S4x704x1024 (a3 m c) shapeCasts_S2816x1024_S4x704x1024) bitsLt_bf16_f32 : FVec Ideal S4x704x1024 .bf16) (ix3 ⟨t.val % 4, by omega⟩ q k) = a3 m c (ix2 (col t q) k) := by
    pointwise
  show (V m c main_v25 : FVec Ideal S4x704x1024 .bf16) ((win0_3.rect t).emb (ix3 0 q k)) = _
  rw [V_25, ← e]
  congr 1; funext a; apply Fin.ext
  match a with
  | ⟨0, _⟩ => show win0_3.index t 0 * 1 + 1 * 0 = _; rw [h0]; simp
  | ⟨1, _⟩ => show win0_3.index t 1 * 704 + 1 * q.val = _; rw [h1]; simp
  | ⟨2, _⟩ => show win0_3.index t 2 * 1024 + 1 * k.val = _; rw [h2]; simp

/-- The cast block a point computes from is its rows of the cotangent. -/
theorem xb_apply (c : Dev nD) (t : Fin cfg0.N) (p : Fin 1024) (k : Fin 1024) :
    (xb m c t : S1024x1024.Idx → EReal) (ix2 p k) = a0 m c (ix2 (row t p) k) := by
  have e : (xb m c t : S1024x1024.Idx → EReal) (ix2 p k) = (iblk m c 0 (first t) : S1024x1024.Idx → EReal) (ix2 p k) := rfl
  rw [e, blk_0]
  congr 2; apply Fin.ext
  show t.val / 4 * 4 / 4 * 1024 + p.val = t.val / 4 * 1024 + p.val
  rw [Nat.mul_div_cancel _ (by decide : 0 < 4)]

/-! ## What the results hold -/

/-- The cotangent of the gated value, `dx2 · w_ffn_downᵀ`, -/
def dact (c : Dev nD) (r : Fin 8192) (n : Fin 2816) : EReal := ∑ k : Fin 1024, a0 m c (ix2 r k) * a3 m c (ix2 n k)
/-- the logistic function of the gate, -/
def sgm (c : Dev nD) (r : Fin 8192) (n : Fin 2816) : EReal := Ideal.div 1 (1 + Ideal.exp (-a1 m c (ix2 r n)))
/-- the columns' numbering. -/
abbrev cl (j : Fin 4) (q : Fin 704) : Fin 2816 := ⟨j.val * 704 + q.val, by omega⟩

/-- The four results, as the kernel computes them. -/
def g4 (c : Dev nD) : FVec Ideal S4x8192x704 .bf16 := fun i =>
  dact m c (i 1) (cl (i 0) (i 2)) * a2 m c (ix2 (i 1) (cl (i 0) (i 2)))
    * (sgm m c (i 1) (cl (i 0) (i 2)) * (1 + a1 m c (ix2 (i 1) (cl (i 0) (i 2))) * (1 - sgm m c (i 1) (cl (i 0) (i 2)))))
def g5 (c : Dev nD) : FVec Ideal S4x8192x704 .bf16 := fun i =>
  dact m c (i 1) (cl (i 0) (i 2)) * (a1 m c (ix2 (i 1) (cl (i 0) (i 2))) * sgm m c (i 1) (cl (i 0) (i 2)))
def g6 (c : Dev nD) : FVec Ideal S4x8192x704 .bf16 := fun i =>
  a1 m c (ix2 (i 1) (cl (i 0) (i 2))) * sgm m c (i 1) (cl (i 0) (i 2)) * a2 m c (ix2 (i 1) (cl (i 0) (i 2)))
def g7 (c : Dev nD) : FVec Ideal S8192x1024 .bf16 := fun i => a0 m c i

/-- The place of a block's element in the slabs. -/
theorem emb_4 (t : Fin cfg0.N) (p : Fin 1024) (q : Fin 704) : (win0_4.rect t).emb (ix3 0 p q) = (ix3 (⟨t.val % 4, by omega⟩ : Fin 4) (row t p) q : S4x8192x704.Idx) := by
  obtain ⟨-, -, -, -, ⟨h0, h1, h2⟩, -⟩ := idx_facts t
  funext a; apply Fin.ext
  match a with
  | ⟨0, _⟩ => show win0_4.index t 0 * 1 + 1 * 0 = _; rw [h0]; simp
  | ⟨1, _⟩ => show win0_4.index t 1 * 1024 + 1 * p.val = _; rw [h1]; simp
  | ⟨2, _⟩ => show win0_4.index t 2 * 704 + 1 * q.val = _; rw [h2]; simp

theorem emb_7 (t : Fin cfg0.N) (p k : Fin 1024) : (win0_7.rect t).emb (ix2 p k) = (ix2 (row t p) k : S8192x1024.Idx) := by
  obtain ⟨-, -, -, -, -, h0, h1⟩ := idx_facts t
  funext a; apply Fin.ext
  match a with
  | ⟨0, _⟩ => show win0_7.index t 0 * 1024 + 1 * p.val = _; rw [h0]; simp
  | ⟨1, _⟩ => show win0_7.index t 1 * 1024 + 1 * k.val = _; rw [h1]; simp

theorem out4_apply (xb : FVec Ideal S1024x1024 .bf16) (x1 x2 : FVec Ideal S1x1024x704 .bf16) (x3 : FVec Ideal S1x704x1024 .bf16) (p : Fin 1024) (q : Fin 704) :
    out4 (F := Ideal) xb x1 x2 x3 (ix3 0 p q) = ((∑ k : Fin 1024, xb (ix2 p k) * x3 (ix3 0 q k)) * x2 (ix3 0 p q)
      * (Ideal.div 1 (1 + Ideal.exp (-x1 (ix3 0 p q))) * (1 + x1 (ix3 0 p q) * (1 - Ideal.div 1 (1 + Ideal.exp (-x1 (ix3 0 p q)))))) : EReal) := by
  unfold out4 k0_pay9
  pointwise [k0_pay4, k0_pay5, k0_pay6, k0_pay7]
  simp only [zero_sub]
theorem out5_apply (xb : FVec Ideal S1024x1024 .bf16) (x1 : FVec Ideal S1x1024x704 .bf16) (x3 : FVec Ideal S1x704x1024 .bf16) (p : Fin 1024) (q : Fin 704) :
    out5 (F := Ideal) xb x1 x3 (ix3 0 p q) = ((∑ k : Fin 1024, xb (ix2 p k) * x3 (ix3 0 q k)) * (x1 (ix3 0 p q) * Ideal.div 1 (1 + Ideal.exp (-x1 (ix3 0 p q)))) : EReal) := by
  unfold out5 k0_pay1 k0_pay4 k0_pay8
  pointwise [k0_pay5, k0_pay7]
  simp only [zero_sub]
theorem out6_apply (x1 x2 : FVec Ideal S1x1024x704 .bf16) (p : Fin 1024) (q : Fin 704) :
    out6 (F := Ideal) x1 x2 (ix3 0 p q) = (x1 (ix3 0 p q) * Ideal.div 1 (1 + Ideal.exp (-x1 (ix3 0 p q))) * x2 (ix3 0 p q) : EReal) := by
  unfold out6 k0_pay2 k0_pay6 k0_pay8
  pointwise [k0_pay5, k0_pay7]
  simp only [zero_sub]

/-! ## The arrays after the run -/

theorem flushed_4 (c : Dev nD) (t : Fin cfg0.N) : (dats m 0 c).flushed 4 t = (win0_4.blk t).view.read (Elt Ideal) (g4 m c) := by
  show (cfg0.win 4).cut (grid0.coords t) ((dats m 0 c).after 4 t) = _
  rw [after_4]
  funext i
  show (out4 (F := Ideal) (xb m c t) (iblk m c 1 t) (iblk m c 2 t) (iblk m c 3 t) : S1x1024x704.Idx → EReal) i = g4 m c ((win0_4.rect t).emb i)
  obtain ⟨p, q, rfl⟩ : ∃ (p : Fin 1024) (q : Fin 704), i = (ix3 0 p q : S1x1024x704.Idx) := ⟨i 1, i 2, by
    rw [eq_ix3 i]; congr 1; exact Subsingleton.elim (α := Fin 1) _ _⟩
  rw [show (win0_4.rect t).emb (ix3 0 p q) = _ from emb_4 t p q, out4_apply]
  simp only [xb_apply, blk_1, blk_2, blk_3]
  rfl

theorem flushed_5 (c : Dev nD) (t : Fin cfg0.N) : (dats m 0 c).flushed 5 t = (win0_5.blk t).view.read (Elt Ideal) (g5 m c) := by
  show (cfg0.win 5).cut (grid0.coords t) ((dats m 0 c).after 5 t) = _
  rw [after_5]
  funext i
  show (out5 (F := Ideal) (xb m c t) (iblk m c 1 t) (iblk m c 3 t) : S1x1024x704.Idx → EReal) i = g5 m c ((win0_5.rect t).emb i)
  obtain ⟨p, q, rfl⟩ : ∃ (p : Fin 1024) (q : Fin 704), i = (ix3 0 p q : S1x1024x704.Idx) := ⟨i 1, i 2, by
    rw [eq_ix3 i]; congr 1; exact Subsingleton.elim (α := Fin 1) _ _⟩
  rw [show (win0_5.rect t).emb (ix3 0 p q) = _ from emb_4 t p q, out5_apply]
  simp only [xb_apply, blk_1, blk_2, blk_3]
  rfl

theorem flushed_6 (c : Dev nD) (t : Fin cfg0.N) : (dats m 0 c).flushed 6 t = (win0_6.blk t).view.read (Elt Ideal) (g6 m c) := by
  show (cfg0.win 6).cut (grid0.coords t) ((dats m 0 c).after 6 t) = _
  rw [after_6]
  funext i
  show (out6 (F := Ideal) (iblk m c 1 t) (iblk m c 2 t) : S1x1024x704.Idx → EReal) i = g6 m c ((win0_6.rect t).emb i)
  obtain ⟨p, q, rfl⟩ : ∃ (p : Fin 1024) (q : Fin 704), i = (ix3 0 p q : S1x1024x704.Idx) := ⟨i 1, i 2, by
    rw [eq_ix3 i]; congr 1; exact Subsingleton.elim (α := Fin 1) _ _⟩
  rw [show (win0_6.rect t).emb (ix3 0 p q) = _ from emb_4 t p q, out6_apply]
  simp only [xb_apply, blk_1, blk_2, blk_3]
  rfl

theorem flushed_7 (c : Dev nD) (t : Fin cfg0.N) : (dats m 0 c).flushed 7 t = (win0_7.blk t).view.read (Elt Ideal) (g7 m c) := by
  show (cfg0.win 7).cut (grid0.coords t) ((dats m 0 c).after 7 t) = _
  rw [after_7]
  funext i
  show (xb m c t : S1024x1024.Idx → EReal) i = g7 m c ((win0_7.rect t).emb i)
  obtain ⟨p, k, rfl⟩ : ∃ (p k : Fin 1024), i = (ix2 p k : S1024x1024.Idx) := ⟨i 0, i 1, eq_ix2 i⟩
  rw [show (win0_7.rect t).emb (ix2 p k) = _ from emb_7 t p k, xb_apply]; rfl

/-- Every index of the slabs is in the block of one point. -/
theorem cover_4 (i : S4x8192x704.Idx) : ∃ t : Fin cfg0.N, i ∈ ((win0_4.rect t)).set := by
  have h0 : (i 0).val < 4 := (i 0).isLt
  have h1 : (i 1).val < 8192 := (i 1).isLt
  have hN : cfg0.N = 32 := N_0
  let t : Fin cfg0.N := ⟨(i 1).val / 1024 * 4 + (i 0).val, by omega⟩
  have e : i = (win0_4.rect t).emb (ix3 0 ⟨(i 1).val % 1024, by omega⟩ (i 2)) := by
    refine Eq.trans ?_ (emb_4 t ⟨(i 1).val % 1024, by omega⟩ (i 2)).symm; funext a; apply Fin.ext
    match a with
    | ⟨0, _⟩ => show (i 0).val = ((i 1).val / 1024 * 4 + (i 0).val) % 4; omega
    | ⟨1, _⟩ => show (i 1).val = ((i 1).val / 1024 * 4 + (i 0).val) / 4 * 1024 + (i 1).val % 1024; omega
    | ⟨2, _⟩ => rfl
  exact ⟨t, e ▸ (win0_4.rect t).idx_mem _⟩

theorem cover_7 (i : S8192x1024.Idx) : ∃ t : Fin cfg0.N, (cfg0.win 7).flush t = true ∧ i ∈ ((win0_7.rect t)).set := by
  have h0 : (i 0).val < 8192 := (i 0).isLt
  have hN : cfg0.N = 32 := N_0
  let t : Fin cfg0.N := ⟨(i 0).val / 1024 * 4 + 3, by omega⟩
  have e : i = (win0_7.rect t).emb (ix2 ⟨(i 0).val % 1024, by omega⟩ (i 1)) := by
    refine Eq.trans ?_ (emb_7 t ⟨(i 0).val % 1024, by omega⟩ (i 1)).symm; funext a; apply Fin.ext
    match a with
    | ⟨0, _⟩ => show (i 0).val = ((i 0).val / 1024 * 4 + 3) / 4 * 1024 + (i 0).val % 1024; omega
    | ⟨1, _⟩ => rfl
  exact ⟨t, (flush0_7 t).mpr (by show ((i 0).val / 1024 * 4 + 3) % 4 = 3; omega), e ▸ (win0_7.rect t).idx_mem _⟩

theorem final_4 (c : Dev nD) : (dats m 0 c).arrAt 4 cfg0.N = g4 m c :=
  (dats m 0 c).arrAt_eq_of_cover 4 (g4 m c) (fun t _ => flushed_4 m c t) fun i => (cover_4 i).imp fun t h => ⟨flush0_4 t, by
    show i ∈ ((View.whole main_v26_0).slice (win0_4.rect t)).set; rw [View.set_slice_whole]; exact h⟩
theorem final_5 (c : Dev nD) : (dats m 0 c).arrAt 5 cfg0.N = g5 m c :=
  (dats m 0 c).arrAt_eq_of_cover 5 (g5 m c) (fun t _ => flushed_5 m c t) fun i => (cover_4 i).imp fun t h => ⟨flush0_5 t, by
    show i ∈ ((View.whole main_v26_1).slice (win0_5.rect t)).set; rw [View.set_slice_whole]; exact h⟩
theorem final_6 (c : Dev nD) : (dats m 0 c).arrAt 6 cfg0.N = g6 m c :=
  (dats m 0 c).arrAt_eq_of_cover 6 (g6 m c) (fun t _ => flushed_6 m c t) fun i => (cover_4 i).imp fun t h => ⟨flush0_6 t, by
    show i ∈ ((View.whole main_v26_2).slice (win0_6.rect t)).set; rw [View.set_slice_whole]; exact h⟩
theorem final_7 (c : Dev nD) : (dats m 0 c).arrAt 7 cfg0.N = g7 m c :=
  (dats m 0 c).arrAt_eq_of_cover 7 (g7 m c) (fun t _ => flushed_7 m c t) fun i => (cover_7 i).imp fun t h => ⟨h.1, by
    show i ∈ ((View.whole main_v26_3).slice (win0_7.rect t)).set; rw [View.set_slice_whole]; exact h.2⟩

end Cert.GatesIdeal.Own

namespace Cert.Proof

open Cert.GatesIdeal.Own Cert.Own

/-- Over the reals the gate's gradient is the chain rule's: the kernel and the derivative of `silu` differ by the
    distributive law alone. -/
theorem gate_grad (a g : ℝ) (s : EReal) (hs : ∃ r : ℝ, s = (r : EReal)) :
    (a : EReal) * s + (g : EReal) * (a : EReal) * (s * (1 - s)) = (a : EReal) * (s * (1 + (g : EReal) * (1 - s))) := by
  obtain ⟨r, rfl⟩ := hs
  norm_cast; ring

/-- Of finite arguments the saved products are real. -/
theorem proj_real (x : FVec Ideal Cert.GatesIdeal.S8192x1024 .f32) (g : FVec Ideal Cert.GatesIdeal.S1024 .f32) (w : FVec Ideal Cert.GatesIdeal.S1024x2816 .f32) (x' : Cert.GatesIdeal.S8192x1024.Idx → ℝ) (g' : Cert.GatesIdeal.S1024.Idx → ℝ) (w' : Cert.GatesIdeal.S1024x2816.Idx → ℝ)
    (hx : ∀ i, x i = ((x' i : ℝ) : EReal)) (hg : ∀ i, g i = ((g' i : ℝ) : EReal)) (hw : ∀ i, w i = ((w' i : ℝ) : EReal)) : ∃ y : Cert.GatesIdeal.S8192x2816.Idx → ℝ, ∀ i, proj x g w i = ((y i : ℝ) : EReal) := by
  have h (i : Cert.GatesIdeal.S8192x2816.Idx) : ∃ y : ℝ, proj x g w i = (y : EReal) := by
    obtain ⟨r, v, hr, hv, -, -⟩ := rs_real fun d => x' (ix2 (i 0) d)
    refine ⟨∑ k : Fin 1024, x' (ix2 (i 0) k) * r * g' (ix1 k) * w' (ix2 k (i 1)), ?_⟩
    have e : rs (fun d => x (ix2 (i 0) d)) = ((r : ℝ) : EReal) := by
      rw [← hr, ← hv, rs, show (fun d => x (ix2 (i 0) d)) = fun d => ((x' (ix2 (i 0) d) : ℝ) : EReal) from funext fun d => hx _]
    unfold proj
    rw [e, ← sum_coe]
    exact Finset.sum_congr rfl fun k _ => by rw [hx, hg, hw]; simp only [EReal.coe_mul]
  exact ⟨fun i => (h i).choose, fun i => (h i).choose_spec⟩

instance : Cert.Pre_gates_finite.Facts := Cert.Pre_gates_finite.Gen.facts

theorem algebraic_gates : Cert.algebraic_GatesIdeal_GatesRIdeal_pre_gates_finite (hGatesIdeal := Cert.GatesIdeal.Gen.facts) (hGatesRIdeal := Cert.GatesRIdeal.Gen.facts) (hPre_gates_finite := Cert.Pre_gates_finite.Gen.facts) := by
  intro m g m' g' hpre hag
  refine ⟨g4 m, g5 m, g6 m, g7 m, ?_, ?_⟩
  · refine (θ_run Cert.GatesIdeal.defs _ _).mono (fun r h c => ?_) (θ_run_and (run_main m g) (frame m g))
    exact ⟨((h.1 c).1 4).trans (final_4 m c), ((h.1 c).1 5).trans (final_5 m c), ((h.1 c).1 6).trans (final_6 m c), ((h.1 c).1 7).trans (final_7 m c), h.2.1 c⟩
  · refine (θ_run Cert.GatesRIdeal.defs _ _).mono (fun r h c => ?_) (Cert.GatesRIdeal.Value.run (F := Ideal) m' g')
    obtain ⟨e0, e1, e2, e3, e4, e5⟩ := hag c
    obtain ⟨h0, h1, h2, h3, h4, h5⟩ := hpre c
    obtain ⟨y0, hy0⟩ := real_of_finite (x1 m c) _ h0 fun _ => rfl
    obtain ⟨y1, hy1⟩ := real_of_finite (ln m c) _ h1 fun _ => rfl
    obtain ⟨y2, hy2⟩ := real_of_finite (wg m c) _ h2 fun _ => rfl
    obtain ⟨y3, hy3⟩ := real_of_finite (wu m c) _ h3 fun _ => rfl
    obtain ⟨x3, hx3⟩ := real_of_finite (a3 m c) _ h4 fun _ => rfl
    obtain ⟨x0, hx0⟩ := real_of_finite (a0 m c) _ h5 fun _ => rfl
    obtain ⟨x1', hx1⟩ : ∃ y : Cert.GatesIdeal.S8192x2816.Idx → ℝ, ∀ i, a1 m c i = ((y i : ℝ) : EReal) := proj_real (x1 m c) (ln m c) (wg m c) y0 y1 y2 hy0 hy1 hy2
    obtain ⟨x2', hx2⟩ : ∃ y : Cert.GatesIdeal.S8192x2816.Idx → ℝ, ∀ i, a2 m c i = ((y i : ℝ) : EReal) := proj_real (x1 m c) (ln m c) (wu m c) y0 y1 y3 hy0 hy1 hy3
    have hd : ∀ r n, ∃ y : ℝ, dact m c r n = (y : EReal) := fun r n => ⟨∑ k : Fin 1024, x0 (ix2 r k) * x3 (ix2 n k), by
      rw [← sum_coe]; exact Finset.sum_congr rfl fun k _ => by rw [hx0, hx3, EReal.coe_mul]⟩
    obtain ⟨f0, f1, f2, f3, f4⟩ := h c
    refine ⟨f0.trans ?_, f1.trans ?_, f2.trans ?_, f3.trans ?_, f4⟩
    all_goals clear f0 f1 f2 f3 f4 h h0 h1 h2 h3 h4 h5 hag hpre
    · unfold Cert.GatesRIdeal.Value.res_main_v26
      rw [e0, e1, e2, e3, e4, e5]
      simp only [proj_ref]
      funext i; rw [eq_ix3 i]
      generalize i 0 = j, i 1 = r, i 2 = n
      change Fin 4 at j
      change Fin 8192 at r
      change Fin 704 at n
      pointwise
      obtain ⟨y, hy⟩ := hd r (cl j n)
      have key := gate_grad (y * x2' (ix2 r (cl j n))) (x1' (ix2 r (cl j n))) (sgm m c r (cl j n))
        ⟨_, by unfold sgm; rw [hx1]; exact sg_real _⟩
      rw [EReal.coe_mul, ← hy, ← hx1, ← hx2] at key
      exact key
    · rw [e0, e1, e2, e4, e5]
      simp only [proj_ref]
      funext i; rw [eq_ix3 i]
      generalize i 0 = j, i 1 = r, i 2 = n
      change Fin 4 at j
      change Fin 8192 at r
      change Fin 704 at n
      pointwise
      exact mul_comm _ _
    · rw [e0, e1, e2, e3]
      simp only [proj_ref]
      funext i; rw [eq_ix3 i]
      generalize i 0 = j, i 1 = r, i 2 = n
      change Fin 4 at j
      change Fin 8192 at r
      change Fin 704 at n
      pointwise
      rfl
    · rw [e5]; rfl

end Cert.Proof
-- ==== Proof.Sums.lean ====
/- Sums over tokens, and slabs of a rank-3 buffer: what the calls that add up a gradient over their row blocks share. -/
module

public import Idealize.ShloMosaic.Lib.VecWindow
public import Idealize.ShloMosaic.Lib.Pointwise
public import Mathlib.Algebra.BigOperators.Fin

@[expose] public section

noncomputable section

open Idealize.ShloMosaic

namespace Cert.Own

/-- A sum over `n` runs of `G` consecutive indices. -/
theorem sum_runs {M : Type} [AddCommMonoid M] (f : ℕ → M) (G n : ℕ) :
    ∑ k ∈ Finset.range n, ∑ g : Fin G, f (k * G + g.val) = ∑ j ∈ Finset.range (n * G), f j := by
  induction n with
  | zero => simp
  | succ n ih =>
    rw [Finset.sum_range_succ, ih, Nat.succ_mul, Finset.sum_range_add, Finset.sum_range (fun x => f (n * G + x))]

/-- Eight partial sums, one per place in a group of eight, of the tokens of `n` tiles of `G` groups: together the sum over all tokens. -/
theorem sum_tiles {M : Type} [AddCommMonoid M] (f : ℕ → M) (G n : ℕ) :
    ∑ q : Fin 8, ∑ k ∈ Finset.range n, ∑ g : Fin G, f (k * (G * 8) + (g.val * 8 + q.val)) = ∑ j ∈ Finset.range (n * G * 8), f j := by
  rw [← sum_runs f 8 (n * G), ← sum_runs (fun j => ∑ q : Fin 8, f (j * 8 + q.val)) G n, Finset.sum_comm]
  refine Finset.sum_congr rfl fun k _ => ?_
  rw [Finset.sum_comm]
  refine Finset.sum_congr rfl fun g _ => Finset.sum_congr rfl fun q _ => ?_
  congr 1; ring

/-- The token of a number. -/
abbrev tok (n : ℕ) : Fin 8192 := ⟨n % 8192, Nat.mod_lt _ (by decide)⟩

theorem sum_tok {M : Type} [AddCommMonoid M] (f : Fin 8192 → M) : ∑ j ∈ Finset.range 8192, f (tok j) = ∑ t, f t := by
  rw [Finset.sum_range]
  exact Finset.sum_congr rfl fun t _ => congrArg f (Fin.ext (Nat.mod_eq_of_lt t.isLt))

/-- Four column blocks are all columns. -/
theorem four (G : Fin 2816 → EReal) : ∑ k ∈ Finset.range 4, ∑ f : Fin 704, G ⟨k % 4 * 704 + f.val, by omega⟩ = ∑ n, G n := by
  have e := sum_runs (fun j => G ⟨j % 2816, Nat.mod_lt _ (by decide)⟩) 704 4
  rw [Finset.sum_range (n := 4 * 704)] at e
  refine ((Finset.sum_congr rfl fun k hk => Finset.sum_congr rfl fun f _ => congrArg G (Fin.ext ?_)).trans e).trans (Finset.sum_congr rfl fun n _ => congrArg G (Fin.ext (Nat.mod_eq_of_lt n.isLt)))
  have := Finset.mem_range.mp hk
  show k % 4 * 704 + f.val = (k * 704 + f.val) % 2816
  omega

section Slabs

variable {α : Type} {n a b : ℕ}

/-- The slab at `k` of a buffer, by index. -/
theorem window_slab (x : (⟨3, ![n, a, b]⟩ : Shape).Idx → α) (k : ℕ) (hk : k < n) (inb) (p : Fin a) (q : Fin b) :
    VecWindow.window (s := ⟨3, ![n, a, b]⟩) x ![k, 0, 0] ![1, a, b] inb (ix3 (n0 := 1) 0 p q) = x (ix3 ⟨k, hk⟩ p q) := by
  unfold VecWindow.window
  congr 1; funext i; apply Fin.ext
  match i with
  | ⟨0, _⟩ => show k + 1 * 0 = k; omega
  | ⟨1, _⟩ => show 0 + 1 * p.val = p.val; omega
  | ⟨2, _⟩ => show 0 + 1 * q.val = q.val; omega

/-- A slab put is read back, -/
theorem put_slab (x : (⟨3, ![n, a, b]⟩ : Shape).Idx → α) (k : ℕ) (hk : k < n) (w : (⟨3, ![1, a, b]⟩ : Shape).Idx → α) (p : Fin a) (q : Fin b) :
    VecWindow.put (s := ⟨3, ![n, a, b]⟩) x ![k, 0, 0] ![1, a, b] w (ix3 ⟨k, hk⟩ p q) = w (ix3 0 p q) := by
  have h : ∀ i : Fin 3, (![k, 0, 0] : Fin 3 → ℕ) i ≤ ((ix3 (⟨k, hk⟩ : Fin n) p q : (⟨3, ![n, a, b]⟩ : Shape).Idx) i).val
      ∧ ((ix3 (⟨k, hk⟩ : Fin n) p q : (⟨3, ![n, a, b]⟩ : Shape).Idx) i).val < (![k, 0, 0] : Fin 3 → ℕ) i + (![1, a, b] : Fin 3 → ℕ) i := fun i => by
    match i with
    | ⟨0, _⟩ => show k ≤ k ∧ k < k + 1; omega
    | ⟨1, _⟩ => show 0 ≤ p.val ∧ p.val < 0 + a; omega
    | ⟨2, _⟩ => show 0 ≤ q.val ∧ q.val < 0 + b; omega
  unfold VecWindow.put
  refine (dif_pos h).trans (congrArg w (funext fun i => Fin.ext ?_))
  match i with
  | ⟨0, _⟩ => show k - k = 0; omega
  | ⟨1, _⟩ => show p.val - 0 = p.val; omega
  | ⟨2, _⟩ => show q.val - 0 = q.val; omega

/-- and the other slabs are as they were. -/
theorem put_slab_ne (x : (⟨3, ![n, a, b]⟩ : Shape).Idx → α) (k j : ℕ) (hj : j < n) (h : j ≠ k) (w : (⟨3, ![1, a, b]⟩ : Shape).Idx → α) (p : Fin a) (q : Fin b) :
    VecWindow.put (s := ⟨3, ![n, a, b]⟩) x ![k, 0, 0] ![1, a, b] w (ix3 ⟨j, hj⟩ p q) = x (ix3 ⟨j, hj⟩ p q) := by
  unfold VecWindow.put
  refine dif_neg fun hall => ?_
  have h0 := hall (0 : Fin 3)
  have : k ≤ j ∧ j < k + 1 := h0
  omega

end Slabs

section Rows

variable {α : Type} {n b : ℕ}

/-- A row put is read back, -/
theorem put_row (x : (⟨2, ![n, b]⟩ : Shape).Idx → α) (k : ℕ) (hk : k < n) (w : (⟨2, ![1, b]⟩ : Shape).Idx → α) (q : Fin b) :
    VecWindow.put (s := ⟨2, ![n, b]⟩) x ![k, 0] ![1, b] w (ix2 ⟨k, hk⟩ q) = w (ix2 0 q) := by
  have h : ∀ i : Fin 2, (![k, 0] : Fin 2 → ℕ) i ≤ ((ix2 (⟨k, hk⟩ : Fin n) q : (⟨2, ![n, b]⟩ : Shape).Idx) i).val
      ∧ ((ix2 (⟨k, hk⟩ : Fin n) q : (⟨2, ![n, b]⟩ : Shape).Idx) i).val < (![k, 0] : Fin 2 → ℕ) i + (![1, b] : Fin 2 → ℕ) i := fun i => by
    match i with
    | ⟨0, _⟩ => show k ≤ k ∧ k < k + 1; omega
    | ⟨1, _⟩ => show 0 ≤ q.val ∧ q.val < 0 + b; omega
  unfold VecWindow.put
  refine (dif_pos h).trans (congrArg w (funext fun i => Fin.ext ?_))
  match i with
  | ⟨0, _⟩ => show k - k = 0; omega
  | ⟨1, _⟩ => show q.val - 0 = q.val; omega

/-- and the other rows are as they were. -/
theorem put_row_ne (x : (⟨2, ![n, b]⟩ : Shape).Idx → α) (k j : ℕ) (hj : j < n) (h : j ≠ k) (w : (⟨2, ![1, b]⟩ : Shape).Idx → α) (q : Fin b) :
    VecWindow.put (s := ⟨2, ![n, b]⟩) x ![k, 0] ![1, b] w (ix2 ⟨j, hj⟩ q) = x (ix2 ⟨j, hj⟩ q) := by
  unfold VecWindow.put
  refine dif_neg fun hall => ?_
  have h0 := hall (0 : Fin 2)
  have : k ≤ j ∧ j < k + 1 := h0
  omega

end Rows

end Cert.Own
-- ==== Proof.Load.lean ====
/- Loads of whole buffers. -/
module

public import Idealize.ShloMosaic.Lib.Pointwise
public import Idealize.ShloMosaic.Lib.VecWindow
public import Idealize.ShloMosaic.Lib.Quiescent

@[expose] public section

namespace Cert.Own

open Idealize.ShloMosaic Idealize.SL.Sem

variable {sig : RefSig}

/-- A load of a whole buffer reads its contents. -/
theorem load {F : FTy → Type} [FloatOps F] {s : Shape} {e : EltTy} {κ : Kind} {r : Space} (v : Memref sig κ r s e) (hv : v.IsWhole) (x : Vec F s e) {off : Fin s.rank → ℕ} (inb : ∀ a, off a + s.size a ≤ s.size a) :
    v.view.readAt (Elt F) (Rect.unit off s.size inb).toLoadRect (hv.unread x) = x :=
  (View.readAt_full _ _ _).trans (hv.read_unread _)

end Cert.Own
-- ==== Proof.FfnBP.Value.lean ====
module

public import proofs.«01_k».proof.Proof.Gen.FfnBIdeal.Value
public import proofs.«01_k».proof.Proof.Gen.FfnBRIdeal.Run
public import proofs.«01_k».proof.Proof.Gen.FfnB.Frame
public import proofs.«01_k».proof.Proof.Gen.Pre_ffnb_finite
public import Idealize.ShloMosaic.Lib.Pointwise
public import Idealize.ShloMosaic.Lib.VecWindow
public import proofs.«01_k».proof.Defs
public import proofs.«01_k».proof.Proof.Real
public import proofs.«01_k».proof.Proof.Sums
public import proofs.«01_k».proof.Proof.Norm
public import proofs.«01_k».proof.Proof.Load

@[expose] public section

set_option maxRecDepth 16384

noncomputable section

open Idealize.ShloMosaic Idealize.ShloMosaic.TcCoe Idealize.SL.Sem Idealize.ShloMosaic.Tactic
open Idealize.ShloMosaic.Pipeline (Dat)

namespace Cert.FfnBIdeal.Own

open Cert.FfnBIdeal Cert.FfnBIdeal.Gen Cert.Own

/-! Short names for the bounds used below. -/
abbrev m0 := inb_S1024x1024_S1024x1024_0_0
abbrev m1 := inb_S8x1024_S8x1024_0_0
abbrev m2 := inb_S1x1024x704_S1x1024x704_0_0_0
abbrev m3 := inb_S1x704x1024_S1x704x1024_0_0_0
abbrev m4 := inb_S1x1024_S1x1024_0_0

section Cases

variable {F : FTy → Type} [FloatOps F] (i : grid0.Coords) (c : Dev nD) (v2 : Memref sig .tc .vmem S1x1024x704 .bf16) (w2 : v2.IsWhole) (v3 : Memref sig .tc .vmem S1x1024x704 .bf16) (w3 : v3.IsWhole) (v4 : Memref sig .tc .vmem S1x704x1024 .bf16) (w4 : v4.IsWhole) (v5 : Memref sig .tc .vmem S1x704x1024 .bf16) (w5 : v5.IsWhole) (v6 : Memref sig .tc .vmem S1024x1024 .f32) (w6 : v6.IsWhole) (v7 : Memref sig .tc .vmem S1024x1024 .f32) (w7 : v7.IsWhole) (v8 : Memref sig .tc .vmem S1x1024 .f32) (w8 : v8.IsWhole) (v9 : Memref sig .tc .vmem S1024x1024 .f32) (w9 : v9.IsWhole) (v10 : Memref sig .tc .vmem S1x1024 .f32) (w10 : v10.IsWhole) (v11 : Memref sig .tc .vmem S1024x1024 .f32) (w11 : v11.IsWhole) (v12 : Memref sig .tc .vmem S8x1024 .f32) (w12 : v12.IsWhole)
  (x0 : Vec F S1x1024x704 .bf16) (x1 : Vec F S1x1024x704 .bf16) (x2 : Vec F S1x704x1024 .bf16) (x3 : Vec F S1x704x1024 .bf16) (x4 : Vec F S1024x1024 .f32) (x5 : Vec F S1024x1024 .f32) (x6 : Vec F S1x1024 .f32) (xs0 : Vec F S1024x1024 .f32) (xs1 : Vec F S8x1024 .f32)

/-- The token tile's sum after a column block's products are added, -/
abbrev addp (s : Vec F S1024x1024 .f32) (x0 : Vec F S1x1024x704 .bf16) (x1 : Vec F S1x1024x704 .bf16) (x2 : Vec F S1x704x1024 .bf16) (x3 : Vec F S1x704x1024 .bf16) : Vec F S1024x1024 .f32 := k0_pay4 s x0 x2 x1 x3

theorem acc_A (hc0) (hc1) (hc2) (hc3) : sout0_A_0 c i v2 w2 v3 w3 v4 w4 v5 w5 v6 w6 v7 w7 v8 w8 v9 w9 v10 w10 v11 w11 v12 w12 hc0 hc1 hc2 hc3 x0 x1 x2 x3 x4 x5 x6 = addp k0_pay3 x0 x1 x2 x3 := by
  unfold sout0_A_0
  refine (View.read_writes_full _ _ _ _ _).trans ?_; sl_unfold_words
  simp only [View.readCov_full v11.view m0 m0, View.readCov_full v12.view m1 m1, load v2 w2 x0 m2, load v3 w3 x1 m2, load v4 w4 x2 m3, load v5 w5 x3 m3, load v6 w6 x4 m0, load v7 w7 x5 m0, load v8 w8 x6 m4]

theorem acc_B (hc0) (hc1) (hc2) (hc3) : sout0_B_0 c i v2 w2 v3 w3 v4 w4 v5 w5 v6 w6 v7 w7 v8 w8 v9 w9 v10 w10 v11 w11 v12 w12 hc0 hc1 hc2 hc3 x0 x1 x2 x3 x4 x5 x6 xs0 xs1 = addp xs0 x0 x1 x2 x3 := by
  unfold sout0_B_0
  refine (View.read_writes_full _ _ _ _ _).trans ?_; sl_unfold_words
  simp only [View.readCov_full v11.view m0 m0, View.readCov_full v12.view m1 m1, load v2 w2 x0 m2, load v3 w3 x1 m2, load v4 w4 x2 m3, load v5 w5 x3 m3, load v6 w6 x4 m0, load v7 w7 x5 m0, load v8 w8 x6 m4, load v11 w11 xs0 m0, load v12 w12 xs1 m1]

theorem acc_C (hc0) (hc1) (hc2) (hc3) : sout0_C_0 c i v2 w2 v3 w3 v4 w4 v5 w5 v6 w6 v7 w7 v8 w8 v9 w9 v10 w10 v11 w11 v12 w12 hc0 hc1 hc2 hc3 x0 x1 x2 x3 x4 x5 x6 xs0 xs1 = addp xs0 x0 x1 x2 x3 := by
  unfold sout0_C_0
  refine (View.read_writes_full _ _ _ _ _).trans ?_; sl_unfold_words
  simp only [View.readCov_full v11.view m0 m0, View.readCov_full v12.view m1 m1, load v2 w2 x0 m2, load v3 w3 x1 m2, load v4 w4 x2 m3, load v5 w5 x3 m3, load v6 w6 x4 m0, load v7 w7 x5 m0, load v8 w8 x6 m4, load v11 w11 xs0 m0, load v12 w12 xs1 m1]

theorem acc_D (hc0) (hc1) (hc2) (hc3) : sout0_D_0 c i v2 w2 v3 w3 v4 w4 v5 w5 v6 w6 v7 w7 v8 w8 v9 w9 v10 w10 v11 w11 v12 w12 hc0 hc1 hc2 hc3 x0 x1 x2 x3 x4 x5 x6 xs1 = addp k0_pay3 x0 x1 x2 x3 := by
  unfold sout0_D_0
  refine (View.read_writes_full _ _ _ _ _).trans ?_; sl_unfold_words
  simp only [View.readCov_full v11.view m0 m0, View.readCov_full v12.view m1 m1, load v2 w2 x0 m2, load v3 w3 x1 m2, load v4 w4 x2 m3, load v5 w5 x3 m3, load v6 w6 x4 m0, load v7 w7 x5 m0, load v8 w8 x6 m4, load v12 w12 xs1 m1]

theorem acc_E (hc0) (hc1) (hc2) (hc3) : sout0_E_0 c i v2 w2 v3 w3 v4 w4 v5 w5 v6 w6 v7 w7 v8 w8 v9 w9 v10 w10 v11 w11 v12 w12 hc0 hc1 hc2 hc3 x0 x1 x2 x3 x4 x5 x6 xs0 xs1 = addp xs0 x0 x1 x2 x3 := by
  unfold sout0_E_0
  refine (View.read_writes_full _ _ _ _ _).trans ?_; sl_unfold_words
  simp only [View.readCov_full v11.view m0 m0, View.readCov_full v12.view m1 m1, load v2 w2 x0 m2, load v3 w3 x1 m2, load v4 w4 x2 m3, load v5 w5 x3 m3, load v6 w6 x4 m0, load v7 w7 x5 m0, load v8 w8 x6 m4, load v11 w11 xs0 m0, load v12 w12 xs1 m1]

theorem racc_A (hc0) (hc1) (hc2) (hc3) : sout0_A_1 c i v2 w2 v3 w3 v4 w4 v5 w5 v6 w6 v7 w7 v8 w8 v9 w9 v10 w10 v11 w11 v12 w12 hc0 hc1 hc2 hc3 x0 x1 x2 x3 x4 x5 x6 = k0_pay2 := by
  unfold sout0_A_1
  refine (View.read_writes_full _ _ _ _ _).trans ?_; sl_unfold_words
  simp only [View.readCov_full v11.view m0 m0, View.readCov_full v12.view m1 m1, load v2 w2 x0 m2, load v3 w3 x1 m2, load v4 w4 x2 m3, load v5 w5 x3 m3, load v6 w6 x4 m0, load v7 w7 x5 m0, load v8 w8 x6 m4]

theorem racc_C (hc0) (hc1) (hc2) (hc3) : sout0_C_1 c i v2 w2 v3 w3 v4 w4 v5 w5 v6 w6 v7 w7 v8 w8 v9 w9 v10 w10 v11 w11 v12 w12 hc0 hc1 hc2 hc3 x0 x1 x2 x3 x4 x5 x6 xs0 xs1 = k0_pay8 (addp xs0 x0 x1 x2 x3) x5 xs1 := by
  unfold sout0_C_1
  refine (View.read_writes_full _ _ _ _ _).trans ?_; sl_unfold_words
  simp only [View.readCov_full v11.view m0 m0, View.readCov_full v12.view m1 m1, load v2 w2 x0 m2, load v3 w3 x1 m2, load v4 w4 x2 m3, load v5 w5 x3 m3, load v6 w6 x4 m0, load v7 w7 x5 m0, load v8 w8 x6 m4, load v11 w11 xs0 m0, load v12 w12 xs1 m1]

theorem dx_C (hc0) (hc1) (hc2) (hc3) : out0_C_7 c i v2 w2 v3 w3 v4 w4 v5 w5 v6 w6 v7 w7 v8 w8 v9 w9 v10 w10 v11 w11 v12 w12 hc0 hc1 hc2 hc3 x0 x1 x2 x3 x4 x5 x6 xs0 xs1 = k0_pay7 (addp xs0 x0 x1 x2 x3) x5 x6 x4 := by
  unfold out0_C_7
  refine (View.read_writes_full _ _ _ _ _).trans ?_; sl_unfold_words
  simp only [View.readCov_full v11.view m0 m0, View.readCov_full v12.view m1 m1, load v2 w2 x0 m2, load v3 w3 x1 m2, load v4 w4 x2 m3, load v5 w5 x3 m3, load v6 w6 x4 m0, load v7 w7 x5 m0, load v8 w8 x6 m4, load v11 w11 xs0 m0, load v12 w12 xs1 m1]

theorem racc_E (hc0) (hc1) (hc2) (hc3) : sout0_E_1 c i v2 w2 v3 w3 v4 w4 v5 w5 v6 w6 v7 w7 v8 w8 v9 w9 v10 w10 v11 w11 v12 w12 hc0 hc1 hc2 hc3 x0 x1 x2 x3 x4 x5 x6 xs0 xs1 = k0_pay8 (addp xs0 x0 x1 x2 x3) x5 xs1 := by
  unfold sout0_E_1
  refine (View.read_writes_full _ _ _ _ _).trans ?_; sl_unfold_words
  simp only [View.readCov_full v11.view m0 m0, View.readCov_full v12.view m1 m1, load v2 w2 x0 m2, load v3 w3 x1 m2, load v4 w4 x2 m3, load v5 w5 x3 m3, load v6 w6 x4 m0, load v7 w7 x5 m0, load v8 w8 x6 m4, load v11 w11 xs0 m0, load v12 w12 xs1 m1]

theorem dx_E (hc0) (hc1) (hc2) (hc3) : out0_E_7 c i v2 w2 v3 w3 v4 w4 v5 w5 v6 w6 v7 w7 v8 w8 v9 w9 v10 w10 v11 w11 v12 w12 hc0 hc1 hc2 hc3 x0 x1 x2 x3 x4 x5 x6 xs0 xs1 = k0_pay7 (addp xs0 x0 x1 x2 x3) x5 x6 x4 := by
  unfold out0_E_7
  refine (View.read_writes_full _ _ _ _ _).trans ?_; sl_unfold_words
  simp only [View.readCov_full v11.view m0 m0, View.readCov_full v12.view m1 m1, load v2 w2 x0 m2, load v3 w3 x1 m2, load v4 w4 x2 m3, load v5 w5 x3 m3, load v6 w6 x4 m0, load v7 w7 x5 m0, load v8 w8 x6 m4, load v11 w11 xs0 m0, load v12 w12 xs1 m1]

theorem red_E (hc0) (hc1) (hc2) (hc3) : out0_E_8 c i v2 w2 v3 w3 v4 w4 v5 w5 v6 w6 v7 w7 v8 w8 v9 w9 v10 w10 v11 w11 v12 w12 hc0 hc1 hc2 hc3 x0 x1 x2 x3 x4 x5 x6 xs0 xs1 = k0_pay1 (k0_pay8 (addp xs0 x0 x1 x2 x3) x5 xs1) := by
  unfold out0_E_8
  refine (View.read_writes_full _ _ _ _ _).trans ?_; sl_unfold_words
  simp only [View.readCov_full v11.view m0 m0, View.readCov_full v12.view m1 m1, load v2 w2 x0 m2, load v3 w3 x1 m2, load v4 w4 x2 m3, load v5 w5 x3 m3, load v6 w6 x4 m0, load v7 w7 x5 m0, load v8 w8 x6 m4, load v11 w11 xs0 m0, load v12 w12 xs1 m1]

theorem racc_B (hc0) (hc1) (hc2) (hc3) : sout0_B_1 c i v2 w2 v3 w3 v4 w4 v5 w5 v6 w6 v7 w7 v8 w8 v9 w9 v10 w10 v11 w11 v12 w12 hc0 hc1 hc2 hc3 x0 x1 x2 x3 x4 x5 x6 xs0 xs1 = xs1 := rfl

theorem racc_D (hc0) (hc1) (hc2) (hc3) : sout0_D_1 c i v2 w2 v3 w3 v4 w4 v5 w5 v6 w6 v7 w7 v8 w8 v9 w9 v10 w10 v11 w11 v12 w12 hc0 hc1 hc2 hc3 x0 x1 x2 x3 x4 x5 x6 xs1 = xs1 := rfl

end Cases

/-! ## The blocks the launch reads, and what a point computes, by index of the arguments -/

variable (m : (ℓ : Loc nD τ sig) → Buf (Elt Ideal) ℓ) (ρ : Dev nD → PrngReg)

/-- The arguments on a core: the residual stream, the gain, the two matrices, and the cotangents of the stream, of the gate and of the other factor. -/
abbrev a0 (c : Dev nD) : FVec Ideal S8192x1024 .f32 := m ((c : Thread nD τ).loc main_arg0)
abbrev a1 (c : Dev nD) : FVec Ideal S1024 .f32 := m ((c : Thread nD τ).loc main_arg1)
abbrev a2 (c : Dev nD) : FVec Ideal S1024x2816 .f32 := m ((c : Thread nD τ).loc main_arg2)
abbrev a3 (c : Dev nD) : FVec Ideal S1024x2816 .f32 := m ((c : Thread nD τ).loc main_arg3)
abbrev a4 (c : Dev nD) : FVec Ideal S8192x1024 .f32 := m ((c : Thread nD τ).loc main_arg4)
abbrev a5 (c : Dev nD) : FVec Ideal S8192x2816 .f32 := m ((c : Thread nD τ).loc main_arg5)
abbrev a6 (c : Dev nD) : FVec Ideal S8192x2816 .f32 := m ((c : Thread nD τ).loc main_arg6)

/-- A point's row `p` among all rows, -/
abbrev row (t : Fin cfg0.N) (p : Fin 1024) : Fin 8192 := tok (t.val / 4 * (128 * 8) + p.val)
/-- and its column `q` among all columns. -/
abbrev col (t : Fin cfg0.N) (q : Fin 704) : Fin 2816 := ⟨t.val % 4 * 704 + q.val, by omega⟩

theorem V_2 (c : Dev nD) : V m c main_v2 = (truncf .bf16 (transpose S4x8192x704 [1, 0, 2] (shapeCast S8192x4x704 (a5 m c) shapeCasts_S8192x2816_S8192x4x704) transposes_S8192x4x704_S4x8192x704_1_0_2) bitsLt_bf16_f32 : FVec Ideal S4x8192x704 .bf16) := by
  unfold V hostOps0; after_results_simp <;> rfl
theorem V_5 (c : Dev nD) : V m c main_v5 = (truncf .bf16 (transpose S4x8192x704 [1, 0, 2] (shapeCast S8192x4x704 (a6 m c) shapeCasts_S8192x2816_S8192x4x704) transposes_S8192x4x704_S4x8192x704_1_0_2) bitsLt_bf16_f32 : FVec Ideal S4x8192x704 .bf16) := by
  unfold V hostOps0; after_results_simp <;> rfl
theorem V_8 (c : Dev nD) : V m c main_v8 = (truncf .bf16 (shapeCast S4x704x1024 (transpose S2816x1024 [1, 0] (a2 m c) transposes_S1024x2816_S2816x1024_1_0) shapeCasts_S2816x1024_S4x704x1024) bitsLt_bf16_f32 : FVec Ideal S4x704x1024 .bf16) := by
  unfold V hostOps0; after_results_simp <;> rfl
theorem V_11 (c : Dev nD) : V m c main_v11 = (truncf .bf16 (shapeCast S4x704x1024 (transpose S2816x1024 [1, 0] (a3 m c) transposes_S1024x2816_S2816x1024_1_0) shapeCasts_S2816x1024_S4x704x1024) bitsLt_bf16_f32 : FVec Ideal S4x704x1024 .bf16) := by
  unfold V hostOps0; after_results_simp <;> rfl
theorem V_12 (c : Dev nD) : V m c main_v12 = broadcastInDim S1x1024 ![1] bcast_S1024_S1x1024_1 (a1 m c) := by
  unfold V hostOps0; after_results_simp <;> rfl

/-- The kernel's slabs hold one chip's columns each, -/
theorem slab (x : FVec Ideal S8192x2816 .f32) (j : Fin 4) (r : Fin 8192) (q : Fin 704) :
    (truncf .bf16 (transpose S4x8192x704 [1, 0, 2] (shapeCast S8192x4x704 x shapeCasts_S8192x2816_S8192x4x704) transposes_S8192x4x704_S4x8192x704_1_0_2) bitsLt_bf16_f32 : FVec Ideal S4x8192x704 .bf16) (ix3 j r q)
      = x (ix2 r ⟨j.val * 704 + q.val, by omega⟩) := by
  pointwise
/-- the matrices' as well. -/
theorem wslab (x : FVec Ideal S1024x2816 .f32) (j : Fin 4) (q : Fin 704) (d : Fin 1024) :
    (truncf .bf16 (shapeCast S4x704x1024 (transpose S2816x1024 [1, 0] x transposes_S1024x2816_S2816x1024_1_0) shapeCasts_S2816x1024_S4x704x1024) bitsLt_bf16_f32 : FVec Ideal S4x704x1024 .bf16) (ix3 j q d)
      = x (ix2 d ⟨j.val * 704 + q.val, by omega⟩) := by
  pointwise

theorem idx_facts : ∀ t : Fin cfg0.N, (win0_0.index t 0 = t.val % 4 ∧ win0_0.index t 1 = t.val / 4 ∧ win0_0.index t 2 = 0)
    ∧ (win0_1.index t 0 = t.val % 4 ∧ win0_1.index t 1 = t.val / 4 ∧ win0_1.index t 2 = 0)
    ∧ (win0_2.index t 0 = t.val % 4 ∧ win0_2.index t 1 = 0 ∧ win0_2.index t 2 = 0)
    ∧ (win0_3.index t 0 = t.val % 4 ∧ win0_3.index t 1 = 0 ∧ win0_3.index t 2 = 0)
    ∧ (win0_4.index t 0 = t.val / 4 ∧ win0_4.index t 1 = 0)
    ∧ (win0_5.index t 0 = t.val / 4 ∧ win0_5.index t 1 = 0)
    ∧ (win0_6.index t 0 = 0 ∧ win0_6.index t 1 = 0) :=
  (by decide +kernel : ∀ t : Fin grid0.N, _)

theorem lt32 (t : Fin cfg0.N) : t.val < 32 := Nat.lt_of_lt_of_eq t.isLt N_0

theorem blk_0 (c : Dev nD) (t : Fin cfg0.N) (p : Fin 1024) (q : Fin 704) :
    (iblk m c 0 t : S1x1024x704.Idx → EReal) (ix3 0 p q) = a5 m c (ix2 (row t p) (col t q)) := by
  obtain ⟨⟨h0, h1, h2⟩, -⟩ := idx_facts t
  have ht := lt32 t
  show (V m c main_v2 : FVec Ideal S4x8192x704 .bf16) ((win0_0.rect t).emb (ix3 0 p q)) = _
  rw [V_2, ← slab (a5 m c) ⟨t.val % 4, by omega⟩ (row t p) q]
  congr 1; funext a; apply Fin.ext
  match a with
  | ⟨0, _⟩ => show win0_0.index t 0 * 1 + 1 * 0 = _; rw [h0]; simp
  | ⟨1, _⟩ => show win0_0.index t 1 * 1024 + 1 * p.val = (t.val / 4 * (128 * 8) + p.val) % 8192; rw [h1]; omega
  | ⟨2, _⟩ => show win0_0.index t 2 * 704 + 1 * q.val = _; rw [h2]; simp

theorem blk_1 (c : Dev nD) (t : Fin cfg0.N) (p : Fin 1024) (q : Fin 704) :
    (iblk m c 1 t : S1x1024x704.Idx → EReal) (ix3 0 p q) = a6 m c (ix2 (row t p) (col t q)) := by
  obtain ⟨-, ⟨h0, h1, h2⟩, -⟩ := idx_facts t
  have ht := lt32 t
  show (V m c main_v5 : FVec Ideal S4x8192x704 .bf16) ((win0_1.rect t).emb (ix3 0 p q)) = _
  rw [V_5, ← slab (a6 m c) ⟨t.val % 4, by omega⟩ (row t p) q]
  congr 1; funext a; apply Fin.ext
  match a with
  | ⟨0, _⟩ => show win0_1.index t 0 * 1 + 1 * 0 = _; rw [h0]; simp
  | ⟨1, _⟩ => show win0_1.index t 1 * 1024 + 1 * p.val = (t.val / 4 * (128 * 8) + p.val) % 8192; rw [h1]; omega
  | ⟨2, _⟩ => show win0_1.index t 2 * 704 + 1 * q.val = _; rw [h2]; simp

theorem blk_2 (c : Dev nD) (t : Fin cfg0.N) (q : Fin 704) (k : Fin 1024) :
    (iblk m c 2 t : S1x704x1024.Idx → EReal) (ix3 0 q k) = a2 m c (ix2 k (col t q)) := by
  obtain ⟨-, -, ⟨h0, h1, h2⟩, -⟩ := idx_facts t
  show (V m c main_v8 : FVec Ideal S4x704x1024 .bf16) ((win0_2.rect t).emb (ix3 0 q k)) = _
  rw [V_8, ← wslab (a2 m c) ⟨t.val % 4, by omega⟩ q k]
  congr 1; funext a; apply Fin.ext
  match a with
  | ⟨0, _⟩ => show win0_2.index t 0 * 1 + 1 * 0 = _; rw [h0]; simp
  | ⟨1, _⟩ => show win0_2.index t 1 * 704 + 1 * q.val = _; rw [h1]; simp
  | ⟨2, _⟩ => show win0_2.index t 2 * 1024 + 1 * k.val = _; rw [h2]; simp

theorem blk_3 (c : Dev nD) (t : Fin cfg0.N) (q : Fin 704) (k : Fin 1024) :
    (iblk m c 3 t : S1x704x1024.Idx → EReal) (ix3 0 q k) = a3 m c (ix2 k (col t q)) := by
  obtain ⟨-, -, -, ⟨h0, h1, h2⟩, -⟩ := idx_facts t
  show (V m c main_v11 : FVec Ideal S4x704x1024 .bf16) ((win0_3.rect t).emb (ix3 0 q k)) = _
  rw [V_11, ← wslab (a3 m c) ⟨t.val % 4, by omega⟩ q k]
  congr 1; funext a; apply Fin.ext
  match a with
  | ⟨0, _⟩ => show win0_3.index t 0 * 1 + 1 * 0 = _; rw [h0]; simp
  | ⟨1, _⟩ => show win0_3.index t 1 * 704 + 1 * q.val = _; rw [h1]; simp
  | ⟨2, _⟩ => show win0_3.index t 2 * 1024 + 1 * k.val = _; rw [h2]; simp

theorem blk_4 (c : Dev nD) (t : Fin cfg0.N) (p : Fin 1024) (q : Fin 1024) : (iblk m c 4 t : S1024x1024.Idx → EReal) (ix2 p q) = a4 m c (ix2 (row t p) q) := by
  obtain ⟨-, -, -, -, ⟨h0, h1⟩, -⟩ := idx_facts t
  have ht := lt32 t
  show (V m c main_arg4) ((win0_4.rect t).emb (ix2 p q)) = _
  rw [V_main_arg4]
  congr 1; funext a; apply Fin.ext
  match a with
  | ⟨0, _⟩ => show win0_4.index t 0 * 1024 + 1 * p.val = (t.val / 4 * (128 * 8) + p.val) % 8192; rw [h0]; omega
  | ⟨1, _⟩ => show win0_4.index t 1 * 1024 + 1 * q.val = q.val; rw [h1]; omega

theorem blk_5 (c : Dev nD) (t : Fin cfg0.N) (p : Fin 1024) (q : Fin 1024) : (iblk m c 5 t : S1024x1024.Idx → EReal) (ix2 p q) = a0 m c (ix2 (row t p) q) := by
  obtain ⟨-, -, -, -, -, ⟨h0, h1⟩, -⟩ := idx_facts t
  have ht := lt32 t
  show (V m c main_arg0) ((win0_5.rect t).emb (ix2 p q)) = _
  rw [V_main_arg0]
  congr 1; funext a; apply Fin.ext
  match a with
  | ⟨0, _⟩ => show win0_5.index t 0 * 1024 + 1 * p.val = (t.val / 4 * (128 * 8) + p.val) % 8192; rw [h0]; omega
  | ⟨1, _⟩ => show win0_5.index t 1 * 1024 + 1 * q.val = q.val; rw [h1]; omega

theorem blk_6 (c : Dev nD) (t : Fin cfg0.N) (q : Fin 1024) : (iblk m c 6 t : S1x1024.Idx → EReal) (ix2 0 q) = a1 m c (ix1 q) := by
  obtain ⟨-, -, -, -, -, -, h0, h1⟩ := idx_facts t
  show (V m c main_v12) ((win0_6.rect t).emb (ix2 0 q)) = _
  rw [V_12, show (win0_6.rect t).emb (ix2 0 q) = ix2 0 q from ?_]
  · pointwise
  funext a; apply Fin.ext
  match a with
  | ⟨0, _⟩ => show win0_6.index t 0 * 1 + 1 * 0 = 0; rw [h0]
  | ⟨1, _⟩ => show win0_6.index t 1 * 1024 + 1 * q.val = q.val; rw [h1]; omega

/-- What a point adds to its rows' sums. -/
def part (c : Dev nD) (t : Fin cfg0.N) (p q : Fin 1024) : EReal :=
  (∑ f, a5 m c (ix2 (row t p) (col t f)) * a2 m c (ix2 q (col t f))) + ∑ f, a6 m c (ix2 (row t p) (col t f)) * a3 m c (ix2 q (col t f))

theorem addp_at (c : Dev nD) (t : Fin cfg0.N) (s : FVec Ideal S1024x1024 .f32) (p q : Fin 1024) :
    addp (F := Ideal) s (iblk m c 0 t) (iblk m c 1 t) (iblk m c 2 t) (iblk m c 3 t) (ix2 p q) = s (ix2 p q) + part m c t p q := by
  unfold addp part
  pointwise [k0_pay4]
  simp only [blk_0, blk_1, blk_2, blk_3]

/-! ## The arrays after the run -/

section After

variable (c : Dev nD) (t : Fin cfg0.N)

/-- A point's sum, given what the buffer held, -/
abbrev addpt (s : FVec Ideal S1024x1024 .f32) : FVec Ideal S1024x1024 .f32 := addp (F := Ideal) s (iblk m c 0 t) (iblk m c 1 t) (iblk m c 2 t) (iblk m c 3 t)
theorem lt_pred : t.val - 1 < cfg0.N := Nat.lt_of_le_of_lt (Nat.sub_le _ _) t.isLt
/-- the buffers after a point. -/
abbrev accAfter (n : ℕ) (h : n < cfg0.N) : FVec Ideal S1024x1024 .f32 := (outsAt0 (F := Ideal) m c n h).2.2.1
abbrev raccAfter (n : ℕ) (h : n < cfg0.N) : FVec Ideal S8x1024 .f32 := (outsAt0 (F := Ideal) m c n h).2.2.2

theorem acc_first (h1 : t.val % 4 = 0) : (outsAt0 (F := Ideal) m c t.val t.isLt).2.2.1 = addpt m c t (k0_pay3 (F := Ideal)) := by
  by_cases h0 : t.val % 32 = 0
  · rw [outsAt0_A m c t h0 h1 (by omega) (by omega)]; dsimp only; exact acc_A ..
  · rw [outsAt0_D m c t h0 h1 (by omega) (by omega)]; dsimp only; exact acc_D ..

theorem acc_next (h1 : ¬ t.val % 4 = 0) : (outsAt0 (F := Ideal) m c t.val t.isLt).2.2.1 = addpt m c t (outsAt0 (F := Ideal) m c (t.val - 1) (lt_pred t)).2.2.1 := by
  by_cases h2 : t.val % 4 = 3
  · by_cases h3 : t.val % 32 = 31
    · rw [outsAt0_E m c t (by omega) h1 h2 h3]; dsimp only; exact acc_E ..
    · rw [outsAt0_C m c t (by omega) h1 h2 h3]; dsimp only; exact acc_C ..
  · rw [outsAt0_B m c t (by omega) h1 h2 (by omega)]; dsimp only; exact acc_B ..

theorem racc_first (h0 : t.val % 32 = 0) : (outsAt0 (F := Ideal) m c t.val t.isLt).2.2.2 = k0_pay2 (F := Ideal) := by
  rw [outsAt0_A m c t h0 (by omega) (by omega) (by omega)]; dsimp only; exact racc_A ..

theorem racc_keep (h0 : ¬ t.val % 32 = 0) (h2 : ¬ t.val % 4 = 3) : (outsAt0 (F := Ideal) m c t.val t.isLt).2.2.2 = (outsAt0 (F := Ideal) m c (t.val - 1) (lt_pred t)).2.2.2 := by
  by_cases h1 : t.val % 4 = 0
  · rw [outsAt0_D m c t h0 h1 h2 (by omega)]; dsimp only; exact racc_D ..
  · rw [outsAt0_B m c t h0 h1 h2 (by omega)]; dsimp only; exact racc_B ..

theorem racc_step (h2 : t.val % 4 = 3) : (outsAt0 (F := Ideal) m c t.val t.isLt).2.2.2
    = k0_pay8 (F := Ideal) (addpt m c t (outsAt0 (F := Ideal) m c (t.val - 1) (lt_pred t)).2.2.1) (iblk m c 5 t) (outsAt0 (F := Ideal) m c (t.val - 1) (lt_pred t)).2.2.2 := by
  by_cases h3 : t.val % 32 = 31
  · rw [outsAt0_E m c t (by omega) (by omega) h2 h3]; dsimp only; exact racc_E ..
  · rw [outsAt0_C m c t (by omega) (by omega) h2 h3]; dsimp only; exact racc_C ..

theorem dx_last (h2 : t.val % 4 = 3) : (outsAt0 (F := Ideal) m c t.val t.isLt).1
    = k0_pay7 (F := Ideal) (addpt m c t (outsAt0 (F := Ideal) m c (t.val - 1) (lt_pred t)).2.2.1) (iblk m c 5 t) (iblk m c 6 t) (iblk m c 4 t) := by
  by_cases h3 : t.val % 32 = 31
  · rw [outsAt0_E m c t (by omega) (by omega) h2 h3]; dsimp only; exact dx_E ..
  · rw [outsAt0_C m c t (by omega) (by omega) h2 h3]; dsimp only; exact dx_C ..

theorem red_last (h3 : t.val % 32 = 31) : (outsAt0 (F := Ideal) m c t.val t.isLt).2.1 = k0_pay1 (F := Ideal) (outsAt0 (F := Ideal) m c t.val t.isLt).2.2.2 := by
  rw [racc_step m c t (by omega), outsAt0_E m c t (by omega) (by omega) (by omega) h3]; dsimp only; exact red_E ..

end After

/-- The cotangent of the normalised row. -/
def dh (c : Dev nD) (r : Fin 8192) (q : Fin 1024) : EReal := (∑ n, a5 m c (ix2 r n) * a2 m c (ix2 q n)) + ∑ n, a6 m c (ix2 r n) * a3 m c (ix2 q n)

/-- A row's column blocks, taken at a token tile's four points, are the whole row. -/
theorem four_points (G : Fin 8192 → Fin 2816 → EReal) (p : Fin 1024) (t : Fin cfg0.N) (h3 : t.val % 4 = 3) (t3 t2 t1 : Fin cfg0.N) (h_3 : t3.val = t.val - 3) (h_2 : t2.val = t.val - 2) (h_1 : t1.val = t.val - 1) :
    (((∑ f, G (row t3 p) (col t3 f)) + ∑ f, G (row t2 p) (col t2 f)) + ∑ f, G (row t1 p) (col t1 f)) + ∑ f, G (row t p) (col t f) = ∑ n, G (row t p) n := by
  rw [← four, Finset.sum_range_succ, Finset.sum_range_succ, Finset.sum_range_succ, Finset.sum_range_one]
  have r (u : Fin cfg0.N) (k : ℕ) (hk : k ≤ 3) (h : u.val = t.val - k) (f : Fin 704) : G (row u p) (col u f) = G (row t p) ⟨(3 - k) % 4 * 704 + f.val, by omega⟩ := by
    refine congr (congrArg G (Fin.ext ?_)) (Fin.ext ?_)
    · show (u.val / 4 * (128 * 8) + p.val) % 8192 = (t.val / 4 * (128 * 8) + p.val) % 8192
      rw [show u.val / 4 = t.val / 4 by omega]
    · show u.val % 4 * 704 + f.val = (3 - k) % 4 * 704 + f.val
      rw [show u.val % 4 = (3 - k) % 4 by omega]
  rw [Finset.sum_congr rfl fun f _ => r t3 3 (by decide) h_3 f, Finset.sum_congr rfl fun f _ => r t2 2 (by decide) h_2 f, Finset.sum_congr rfl fun f _ => r t1 1 (by decide) h_1 f, Finset.sum_congr rfl fun f _ => r t 0 (by decide) (by omega) f]

theorem eight (a b c d a' b' c' d' : EReal) : (((a + a') + (b + b')) + (c + c')) + (d + d') = (((a + b) + c) + d) + (((a' + b') + c') + d') := by
  rw [add_add_add_comm a, add_add_add_comm (a + b), add_add_add_comm (a + b + c)]

theorem acc_parts (c : Dev nD) (p q : Fin 1024) (n : ℕ) (h : n < cfg0.N) (h3 : n % 4 = 3) : accAfter m c n h (ix2 p q)
    = ((part m c ⟨n - 3, by omega⟩ p q + part m c ⟨n - 2, by omega⟩ p q) + part m c ⟨n - 1, by omega⟩ p q) + part m c ⟨n, h⟩ p q :=
  run_sum (N := cfg0.N) (fun n h => accAfter m c n h (ix2 p q)) (fun n h => part m c ⟨n, h⟩ p q)
    (fun n h h0 => by
      refine (congrFun (acc_first m c ⟨n, h⟩ h0) _).trans ((addp_at ..).trans (congrArg (· + part m c ⟨n, h⟩ p q) ?_))
      pointwise [k0_pay3])
    (fun n h h0 => (congrFun (acc_next m c ⟨n, h⟩ h0) _).trans (addp_at ..)) n h h3

/-- After a token tile's last point the buffer holds its cotangents. -/
theorem acc_eq (c : Dev nD) (p q : Fin 1024) (t : Fin cfg0.N) (h3 : t.val % 4 = 3) : (outsAt0 (F := Ideal) m c t.val t.isLt).2.2.1 (ix2 p q) = dh m c (row t p) q := by
  refine (acc_parts m c p q t.val t.isLt h3).trans ?_
  unfold dh
  rw [← four_points (fun r n => a5 m c (ix2 r n) * a2 m c (ix2 q n)) p t h3 ⟨t.val - 3, by omega⟩ ⟨t.val - 2, by omega⟩ ⟨t.val - 1, by omega⟩ rfl rfl rfl,
    ← four_points (fun r n => a6 m c (ix2 r n) * a3 m c (ix2 q n)) p t h3 ⟨t.val - 3, by omega⟩ ⟨t.val - 2, by omega⟩ ⟨t.val - 1, by omega⟩ rfl rfl rfl]
  exact eight ..

theorem dx_at (c : Dev nD) (t : Fin cfg0.N) (h3 : t.val % 4 = 3) (p q : Fin 1024) : (outsAt0 (F := Ideal) m c t.val t.isLt).1 (ix2 p q)
    = a4 m c (ix2 (row t p) q) + backrow (fun d => a0 m c (ix2 (row t p) d)) (fun d => a1 m c (ix1 d)) (dh m c (row t p)) q := by
  have e (q : Fin 1024) := acc_eq m c p q t h3
  rw [dx_last m c t h3, ← acc_next m c t (by omega)]
  generalize (outsAt0 (F := Ideal) m c t.val t.isLt).2.2.1 = s at e ⊢
  unfold backrow rs vs
  pointwise [k0_pay7, k0_pay6, k0_pay5]
  simp only [blk_4, blk_5, blk_6, e]

theorem step_at (c : Dev nD) (t : Fin cfg0.N) (h3 : t.val % 4 = 3) (p : Fin 8) (q : Fin 1024) : (outsAt0 (F := Ideal) m c t.val t.isLt).2.2.2 (ix2 p q)
    = (outsAt0 (F := Ideal) m c (t.val - 1) (lt_pred t)).2.2.2 (ix2 p q) + ∑ g : Fin 128, (fun n => gainrow (fun d => a0 m c (ix2 (tok n) d)) (dh m c (tok n)) q) (t.val / 4 * (128 * 8) + (g.val * 8 + p.val)) := by
  have e (p : Fin 1024) (q : Fin 1024) := acc_eq m c p q t h3
  rw [racc_step m c t h3, ← acc_next m c t (by omega)]
  generalize (outsAt0 (F := Ideal) m c t.val t.isLt).2.2.1 = s at e ⊢
  unfold gainrow rs vs
  pointwise [k0_pay8, k0_pay6, k0_pay5]
  simp only [blk_5, e]

/-- The gain's gradient is its sum over the tokens, -/
theorem racc_eq (c : Dev nD) (p : Fin 8) (q : Fin 1024) (n : ℕ) (h : n < cfg0.N) : raccAfter m c n h (ix2 p q)
    = ∑ k ∈ Finset.range ((n + 1) / 4), ∑ g : Fin 128, (fun n => gainrow (fun d => a0 m c (ix2 (tok n) d)) (dh m c (tok n)) q) (k * (128 * 8) + (g.val * 8 + p.val)) :=
  sweep_sum (N := cfg0.N) (fun n h => raccAfter m c n h (ix2 p q)) (fun k => ∑ g : Fin 128, (fun n => gainrow (fun d => a0 m c (ix2 (tok n) d)) (dh m c (tok n)) q) (k * (128 * 8) + (g.val * 8 + p.val)))
    (fun h => by
      refine (congrFun (racc_first m c ⟨0, h⟩ rfl) _).trans ?_
      pointwise [k0_pay2])
    (fun n h h0 h3 => congrFun (racc_keep m c ⟨n, h⟩ (by have hn : n < 32 := lt32 ⟨n, h⟩; show ¬ n % 32 = 0; omega) h3) _)
    (fun n h h3 => step_at m c ⟨n, h⟩ h3 p q) n h

theorem red_at (c : Dev nD) (q : Fin 1024) (t : Fin cfg0.N) (h : t.val + 1 = 32) :
    (outsAt0 (F := Ideal) m c t.val t.isLt).2.1 (ix2 0 q) = ∑ r, gainrow (fun d => a0 m c (ix2 r d)) (dh m c r) q := by
  rw [red_last m c t (by omega)]
  have a (p : Fin 8) : (outsAt0 (F := Ideal) m c t.val t.isLt).2.2.2 (ix2 p q) = _ := racc_eq m c p q t.val t.isLt
  rw [h] at a
  generalize (outsAt0 (F := Ideal) m c t.val t.isLt).2.2.2 = s at a ⊢
  pointwise [k0_pay1]
  rw [← sum_tok, ← sum_tiles (fun n => gainrow (fun d => a0 m c (ix2 (tok n) d)) (dh m c (tok n)) q) 128 8]
  exact Finset.sum_congr rfl fun p _ => a p

theorem red_eq (c : Dev nD) (q : Fin 1024) : Value.G8 (F := Ideal) m c (ix2 0 q) = ∑ r, gainrow (fun d => a0 m c (ix2 r d)) (dh m c r) q := by
  have hn : 31 < cfg0.N := lt_of_lt_of_eq (by decide) N_0.symm
  rw [Value.G8_last m c, ← Value.outsAt0_sweep m c 31 hn]
  exact red_at m c q ⟨31, hn⟩ (by show 31 + 1 = 32; rfl)

/-- and the residual stream's the cotangent with the norm's row added. -/
theorem dx_eq (c : Dev nD) (r : Fin 8192) (d : Fin 1024) : Value.G7 (F := Ideal) m c (ix2 r d)
    = a4 m c (ix2 r d) + backrow (fun d => a0 m c (ix2 r d)) (fun d => a1 m c (ix1 d)) (dh m c r) d := by
  have hr := r.isLt
  have hd := d.isLt
  have hp : Value.pt7Of (ix2 r d) = r.val / 1024 * 4 + 3 := by show 4 * (1 * (r.val / 1024 - 0) + 1 * (d.val / 1024 - 0)) + 3 = _; omega
  have hn : Value.pt7Of (ix2 r d) < cfg0.N := by rw [hp]; exact lt_of_lt_of_eq (by omega : r.val / 1024 * 4 + 3 < 32) N_0.symm
  have hrow : row ⟨Value.pt7Of (ix2 r d), hn⟩ (⟨r.val % 1024, by omega⟩ : Fin 1024) = r := Fin.ext (by
    show (Value.pt7Of (ix2 r d) / 4 * (128 * 8) + r.val % 1024) % 8192 = r.val
    rw [hp]; omega)
  unfold Value.G7
  rw [dif_pos hn, ← Value.outsAt0_sweep (F := Ideal) m c _ hn]
  refine (congrArg _ (show Value.loc7Of (ix2 r d) = ix2 (⟨r.val % 1024, by omega⟩ : Fin 1024) d from funext fun a => ?_)).trans ((dx_at m c ⟨_, hn⟩ (by show Value.pt7Of (ix2 r d) % 4 = 3; rw [hp]; omega) _ _).trans ?_)
  · apply Fin.ext
    match a with
    | ⟨0, _⟩ => rfl
    | ⟨1, _⟩ => exact Nat.mod_eq_of_lt hd
  · rw [hrow]

instance : Cert.FfnBIdeal.Facts := Cert.FfnBIdeal.Gen.facts
instance : Cert.FfnBRIdeal.Facts := Cert.FfnBRIdeal.Gen.facts
instance : Cert.Pre_ffnb_finite.Facts := Cert.Pre_ffnb_finite.Gen.facts

theorem algebraic_ffnb : Cert.algebraic_FfnBIdeal_FfnBRIdeal_pre_ffnb_finite (hFfnBIdeal := Cert.FfnBIdeal.Gen.facts) (hFfnBRIdeal := Cert.FfnBRIdeal.Gen.facts) (hPre_ffnb_finite := Cert.Pre_ffnb_finite.Gen.facts) := by
  intro m g m' g' hpre hag
  refine ⟨Value.G7 m, Value.G8 m, ?_, ?_⟩
  · refine (θ_run Cert.FfnBIdeal.defs _ _).mono (fun r h c => ?_) (Value.run (F := Ideal) m g)
    exact h c
  · refine (θ_run Cert.FfnBRIdeal.defs _ _).mono (fun r h c => ?_) (Cert.FfnBRIdeal.Value.run (F := Ideal) m' g')
    obtain ⟨e0, e1, e2, e3, e4, e5, e6⟩ := hag c
    obtain ⟨h0, h1, h2, h3, h4, h5, h6⟩ := hpre c
    obtain ⟨x0, hx0⟩ := real_of_finite (a0 m c) _ h0 fun _ => rfl
    obtain ⟨x1, hx1⟩ := real_of_finite (a1 m c) _ h1 fun _ => rfl
    obtain ⟨x2, hx2⟩ := real_of_finite (a2 m c) _ h2 fun _ => rfl
    obtain ⟨x3, hx3⟩ := real_of_finite (a3 m c) _ h3 fun _ => rfl
    obtain ⟨x4, hx4⟩ := real_of_finite (a4 m c) _ h4 fun _ => rfl
    obtain ⟨x5, hx5⟩ := real_of_finite (a5 m c) _ h5 fun _ => rfl
    obtain ⟨x6, hx6⟩ := real_of_finite (a6 m c) _ h6 fun _ => rfl
    refine ⟨(h c).1.trans ?_, (h c).2.1.trans ?_, (h c).2.2⟩
    · unfold Cert.FfnBRIdeal.Value.res_main_v41
      rw [e0, e1, e2, e3, e4, e5, e6]
      funext i; rw [eq_ix2 i]
      generalize i 0 = p, i 1 = q
      change Fin 8192 at p
      change Fin 1024 at q
      rw [dx_eq]
      obtain ⟨r, v, hr, hv, hv0, hrr⟩ := rs_real fun d => x0 (ix2 p d)
      have hd (q : Fin 1024) : ∃ y : ℝ, dh m c p q = (y : EReal) := ⟨(∑ n, x5 (ix2 p n) * x2 (ix2 q n)) + ∑ n, x6 (ix2 p n) * x3 (ix2 q n), by
        unfold dh
        simp only [hx2, hx3, hx5, hx6, ← EReal.coe_mul, sum_coe, ← EReal.coe_add]⟩
      choose y hy using hd
      have hz (q : Fin 1024) := (add_comm _ _).trans (hy q)
      pointwise
      unfold backrow rs
      unfold vs at hv ⊢
      simp only [hx0, hx1, hx4, hy, hz] at hv ⊢
      simp only [hv, hr]
      simp only [word_1024, word_neg_half, div_real _ _ hv0, div_real _ _ (by norm_num : (1024 : ℝ) ≠ 0), ← EReal.coe_mul, ← EReal.coe_sub, ← EReal.coe_add, sum_coe, Finset.univ_unique, Finset.sum_singleton]
      have h := back_real r v (∑ k, x0 (ix2 p k) * (y k * x1 (ix1 k))) (∑ k, y k * x1 (ix1 k) * (x0 (ix2 p k) * r))
        (x0 (ix2 p q)) (y q * x1 (ix1 q)) _ hrr rfl (by
          rw [Finset.mul_sum]
          exact Finset.sum_congr rfl fun k _ => by ring)
      rw [← h]
      exact congrArg _ (by ring)
    · rw [e0, e2, e3, e5, e6]
      funext i; rw [eq_ix2 i]
      generalize i 0 = p, i 1 = q
      change Fin 1 at p
      change Fin 1024 at q
      rw [show p = 0 from Subsingleton.elim _ _, red_eq]
      pointwise
      rw [Finset.univ_unique, Finset.sum_singleton]
      refine Finset.sum_congr rfl fun t _ => ?_
      unfold gainrow dh rs vs
      rw [mul_comm, add_comm (∑ n, a5 m c (ix2 t n) * a2 m c (ix2 q n))]

end Cert.FfnBIdeal.Own
-- ==== Proof.InBP.Value.lean ====
module

public import proofs.«01_k».proof.Proof.Gen.InBIdeal.Value
public import proofs.«01_k».proof.Proof.Gen.InBRIdeal.Run
public import proofs.«01_k».proof.Proof.Gen.InB.Frame
public import proofs.«01_k».proof.Proof.Gen.Pre_inb_finite
public import Idealize.ShloMosaic.Lib.Pointwise
public import Idealize.ShloMosaic.Lib.VecWindow
public import proofs.«01_k».proof.Defs
public import proofs.«01_k».proof.Proof.Real
public import proofs.«01_k».proof.Proof.Sums
public import proofs.«01_k».proof.Proof.Norm
public import proofs.«01_k».proof.Proof.Load

@[expose] public section

set_option maxRecDepth 16384

noncomputable section

open Idealize.ShloMosaic Idealize.ShloMosaic.TcCoe Idealize.SL.Sem Idealize.ShloMosaic.Tactic
open Idealize.ShloMosaic.Pipeline (Dat)

namespace Cert.InBIdeal.Own

open Cert.InBIdeal Cert.InBIdeal.Gen Cert.Own

/-! Short names for the bounds used below. -/
abbrev m0 := inb_S1024x1024_S1024x1024_0_0
abbrev m1 := inb_S8x1024_S8x1024_0_0
abbrev m2 := inb_S1024x1792_S1024x1792_0_0
abbrev m3 := inb_S1x1024_S1x1024_0_0
abbrev m4 := inb_S1x1024x1792_S1x1024x1792_0_0_0

section Cases

variable {F : FTy → Type} [FloatOps F] (i : grid0.Coords) (c : Dev nD) (v2 : Memref sig .tc .vmem S1024x1792 .bf16) (w2 : v2.IsWhole) (v3 : Memref sig .tc .vmem S1024x1024 .f32) (w3 : v3.IsWhole) (v4 : Memref sig .tc .vmem S1024x1024 .f32) (w4 : v4.IsWhole) (v5 : Memref sig .tc .vmem S1x1024 .f32) (w5 : v5.IsWhole) (v6 : Memref sig .tc .vmem S1x1024x1792 .bf16) (w6 : v6.IsWhole) (v7 : Memref sig .tc .vmem S1024x1024 .f32) (w7 : v7.IsWhole) (v8 : Memref sig .tc .vmem S1x1024 .f32) (w8 : v8.IsWhole) (v9 : Memref sig .tc .vmem S1024x1024 .f32) (w9 : v9.IsWhole) (v10 : Memref sig .tc .vmem S8x1024 .f32) (w10 : v10.IsWhole)
  (x0 : Vec F S1024x1792 .bf16) (x1 : Vec F S1024x1024 .f32) (x2 : Vec F S1024x1024 .f32) (x3 : Vec F S1x1024 .f32) (x4 : Vec F S1x1024x1792 .bf16) (xs0 : Vec F S1024x1024 .f32) (xs1 : Vec F S8x1024 .f32)

/-- The token tile's sum after a column block's product is added, -/
abbrev addp (s : Vec F S1024x1024 .f32) (x0 : Vec F S1024x1792 .bf16) (x4 : Vec F S1x1024x1792 .bf16) : Vec F S1024x1024 .f32 := k0_pay3 s x0 x4

theorem acc_A (hc0) (hc1) (hc2) (hc3) : sout0_A_0 c i v2 w2 v3 w3 v4 w4 v5 w5 v6 w6 v7 w7 v8 w8 v9 w9 v10 w10 hc0 hc1 hc2 hc3 x0 x1 x2 x3 x4 = addp k0_pay2 x0 x4 := by
  unfold sout0_A_0
  refine (View.read_writes_full _ _ _ _ _).trans ?_; sl_unfold_words
  simp only [View.readCov_full v9.view m0 m0, View.readCov_full v10.view m1 m1, load v2 w2 x0 m2, load v3 w3 x1 m0, load v4 w4 x2 m0, load v5 w5 x3 m3, load v6 w6 x4 m4]

theorem acc_B (hc0) (hc1) (hc2) (hc3) : sout0_B_0 c i v2 w2 v3 w3 v4 w4 v5 w5 v6 w6 v7 w7 v8 w8 v9 w9 v10 w10 hc0 hc1 hc2 hc3 x0 x1 x2 x3 x4 xs0 xs1 = addp xs0 x0 x4 := by
  unfold sout0_B_0
  refine (View.read_writes_full _ _ _ _ _).trans ?_; sl_unfold_words
  simp only [View.readCov_full v9.view m0 m0, View.readCov_full v10.view m1 m1, load v2 w2 x0 m2, load v3 w3 x1 m0, load v4 w4 x2 m0, load v5 w5 x3 m3, load v6 w6 x4 m4, load v9 w9 xs0 m0, load v10 w10 xs1 m1]

theorem acc_C (hc0) (hc1) (hc2) (hc3) : sout0_C_0 c i v2 w2 v3 w3 v4 w4 v5 w5 v6 w6 v7 w7 v8 w8 v9 w9 v10 w10 hc0 hc1 hc2 hc3 x0 x1 x2 x3 x4 xs0 xs1 = addp xs0 x0 x4 := by
  unfold sout0_C_0
  refine (View.read_writes_full _ _ _ _ _).trans ?_; sl_unfold_words
  simp only [View.readCov_full v9.view m0 m0, View.readCov_full v10.view m1 m1, load v2 w2 x0 m2, load v3 w3 x1 m0, load v4 w4 x2 m0, load v5 w5 x3 m3, load v6 w6 x4 m4, load v9 w9 xs0 m0, load v10 w10 xs1 m1]

theorem acc_D (hc0) (hc1) (hc2) (hc3) : sout0_D_0 c i v2 w2 v3 w3 v4 w4 v5 w5 v6 w6 v7 w7 v8 w8 v9 w9 v10 w10 hc0 hc1 hc2 hc3 x0 x1 x2 x3 x4 xs1 = addp k0_pay2 x0 x4 := by
  unfold sout0_D_0
  refine (View.read_writes_full _ _ _ _ _).trans ?_; sl_unfold_words
  simp only [View.readCov_full v9.view m0 m0, View.readCov_full v10.view m1 m1, load v2 w2 x0 m2, load v3 w3 x1 m0, load v4 w4 x2 m0, load v5 w5 x3 m3, load v6 w6 x4 m4, load v10 w10 xs1 m1]

theorem acc_E (hc0) (hc1) (hc2) (hc3) : sout0_E_0 c i v2 w2 v3 w3 v4 w4 v5 w5 v6 w6 v7 w7 v8 w8 v9 w9 v10 w10 hc0 hc1 hc2 hc3 x0 x1 x2 x3 x4 xs0 xs1 = addp xs0 x0 x4 := by
  unfold sout0_E_0
  refine (View.read_writes_full _ _ _ _ _).trans ?_; sl_unfold_words
  simp only [View.readCov_full v9.view m0 m0, View.readCov_full v10.view m1 m1, load v2 w2 x0 m2, load v3 w3 x1 m0, load v4 w4 x2 m0, load v5 w5 x3 m3, load v6 w6 x4 m4, load v9 w9 xs0 m0, load v10 w10 xs1 m1]

theorem racc_A (hc0) (hc1) (hc2) (hc3) : sout0_A_1 c i v2 w2 v3 w3 v4 w4 v5 w5 v6 w6 v7 w7 v8 w8 v9 w9 v10 w10 hc0 hc1 hc2 hc3 x0 x1 x2 x3 x4 = k0_pay1 := by
  unfold sout0_A_1
  refine (View.read_writes_full _ _ _ _ _).trans ?_; sl_unfold_words
  simp only [View.readCov_full v9.view m0 m0, View.readCov_full v10.view m1 m1, load v2 w2 x0 m2, load v3 w3 x1 m0, load v4 w4 x2 m0, load v5 w5 x3 m3, load v6 w6 x4 m4]

theorem racc_C (hc0) (hc1) (hc2) (hc3) : sout0_C_1 c i v2 w2 v3 w3 v4 w4 v5 w5 v6 w6 v7 w7 v8 w8 v9 w9 v10 w10 hc0 hc1 hc2 hc3 x0 x1 x2 x3 x4 xs0 xs1 = k0_pay7 (addp xs0 x0 x4) x2 xs1 := by
  unfold sout0_C_1
  refine (View.read_writes_full _ _ _ _ _).trans ?_; sl_unfold_words
  simp only [View.readCov_full v9.view m0 m0, View.readCov_full v10.view m1 m1, load v2 w2 x0 m2, load v3 w3 x1 m0, load v4 w4 x2 m0, load v5 w5 x3 m3, load v6 w6 x4 m4, load v9 w9 xs0 m0, load v10 w10 xs1 m1]

theorem dx_C (hc0) (hc1) (hc2) (hc3) : out0_C_5 c i v2 w2 v3 w3 v4 w4 v5 w5 v6 w6 v7 w7 v8 w8 v9 w9 v10 w10 hc0 hc1 hc2 hc3 x0 x1 x2 x3 x4 xs0 xs1 = k0_pay6 (addp xs0 x0 x4) x2 x3 x1 := by
  unfold out0_C_5
  refine (View.read_writes_full _ _ _ _ _).trans ?_; sl_unfold_words
  simp only [View.readCov_full v9.view m0 m0, View.readCov_full v10.view m1 m1, load v2 w2 x0 m2, load v3 w3 x1 m0, load v4 w4 x2 m0, load v5 w5 x3 m3, load v6 w6 x4 m4, load v9 w9 xs0 m0, load v10 w10 xs1 m1]

theorem racc_E (hc0) (hc1) (hc2) (hc3) : sout0_E_1 c i v2 w2 v3 w3 v4 w4 v5 w5 v6 w6 v7 w7 v8 w8 v9 w9 v10 w10 hc0 hc1 hc2 hc3 x0 x1 x2 x3 x4 xs0 xs1 = k0_pay7 (addp xs0 x0 x4) x2 xs1 := by
  unfold sout0_E_1
  refine (View.read_writes_full _ _ _ _ _).trans ?_; sl_unfold_words
  simp only [View.readCov_full v9.view m0 m0, View.readCov_full v10.view m1 m1, load v2 w2 x0 m2, load v3 w3 x1 m0, load v4 w4 x2 m0, load v5 w5 x3 m3, load v6 w6 x4 m4, load v9 w9 xs0 m0, load v10 w10 xs1 m1]

theorem dx_E (hc0) (hc1) (hc2) (hc3) : out0_E_5 c i v2 w2 v3 w3 v4 w4 v5 w5 v6 w6 v7 w7 v8 w8 v9 w9 v10 w10 hc0 hc1 hc2 hc3 x0 x1 x2 x3 x4 xs0 xs1 = k0_pay6 (addp xs0 x0 x4) x2 x3 x1 := by
  unfold out0_E_5
  refine (View.read_writes_full _ _ _ _ _).trans ?_; sl_unfold_words
  simp only [View.readCov_full v9.view m0 m0, View.readCov_full v10.view m1 m1, load v2 w2 x0 m2, load v3 w3 x1 m0, load v4 w4 x2 m0, load v5 w5 x3 m3, load v6 w6 x4 m4, load v9 w9 xs0 m0, load v10 w10 xs1 m1]

theorem red_E (hc0) (hc1) (hc2) (hc3) : out0_E_6 c i v2 w2 v3 w3 v4 w4 v5 w5 v6 w6 v7 w7 v8 w8 v9 w9 v10 w10 hc0 hc1 hc2 hc3 x0 x1 x2 x3 x4 xs0 xs1 = k0_pay8 (k0_pay7 (addp xs0 x0 x4) x2 xs1) := by
  unfold out0_E_6
  refine (View.read_writes_full _ _ _ _ _).trans ?_; sl_unfold_words
  simp only [View.readCov_full v9.view m0 m0, View.readCov_full v10.view m1 m1, load v2 w2 x0 m2, load v3 w3 x1 m0, load v4 w4 x2 m0, load v5 w5 x3 m3, load v6 w6 x4 m4, load v9 w9 xs0 m0, load v10 w10 xs1 m1]

theorem racc_B (hc0) (hc1) (hc2) (hc3) : sout0_B_1 c i v2 w2 v3 w3 v4 w4 v5 w5 v6 w6 v7 w7 v8 w8 v9 w9 v10 w10 hc0 hc1 hc2 hc3 x0 x1 x2 x3 x4 xs0 xs1 = xs1 := rfl

theorem racc_D (hc0) (hc1) (hc2) (hc3) : sout0_D_1 c i v2 w2 v3 w3 v4 w4 v5 w5 v6 w6 v7 w7 v8 w8 v9 w9 v10 w10 hc0 hc1 hc2 hc3 x0 x1 x2 x3 x4 xs1 = xs1 := rfl

end Cases

/-! ## The blocks the launch reads, and what a point computes, by index of the arguments -/

variable (m : (ℓ : Loc nD τ sig) → Buf (Elt Ideal) ℓ) (ρ : Dev nD → PrngReg)

/-- The arguments on a core: the stream, the gain, the matrix, and the cotangents of the stream and of the product. -/
abbrev a0 (c : Dev nD) : FVec Ideal S8192x1024 .f32 := m ((c : Thread nD τ).loc main_arg0)
abbrev a1 (c : Dev nD) : FVec Ideal S1024 .f32 := m ((c : Thread nD τ).loc main_arg1)
abbrev a2 (c : Dev nD) : FVec Ideal S1024x7168 .f32 := m ((c : Thread nD τ).loc main_arg2)
abbrev a3 (c : Dev nD) : FVec Ideal S8192x1024 .f32 := m ((c : Thread nD τ).loc main_arg3)
abbrev a4 (c : Dev nD) : FVec Ideal S8192x7168 .f32 := m ((c : Thread nD τ).loc main_arg4)

/-- A point's row `p` among all rows, -/
abbrev row (t : Fin cfg0.N) (p : Fin 1024) : Fin 8192 := tok (t.val / 4 * (128 * 8) + p.val)
/-- and its column `q` among all columns. -/
abbrev col (t : Fin cfg0.N) (q : Fin 1792) : Fin 7168 := ⟨t.val % 4 * 1792 + q.val, by omega⟩

theorem V_2 (c : Dev nD) : V m c main_v2 = (truncf .bf16 (transpose S4x1024x1792 [1, 0, 2] (shapeCast S1024x4x1792 (a2 m c) shapeCasts_S1024x7168_S1024x4x1792) transposes_S1024x4x1792_S4x1024x1792_1_0_2) bitsLt_bf16_f32 : FVec Ideal S4x1024x1792 .bf16) := by
  unfold V hostOps0; after_results_simp <;> rfl
theorem V_3 (c : Dev nD) : V m c main_v3 = (truncf .bf16 (a4 m c) bitsLt_bf16_f32 : FVec Ideal S8192x7168 .bf16) := by
  unfold V hostOps0; after_results_simp <;> rfl
theorem V_4 (c : Dev nD) : V m c main_v4 = broadcastInDim S1x1024 ![1] bcast_S1024_S1x1024_1 (a1 m c) := by
  unfold V hostOps0; after_results_simp <;> rfl

/-- The kernel's slabs of the matrix hold one chip's columns each. -/
theorem wslab (x : FVec Ideal S1024x7168 .f32) (j : Fin 4) (d : Fin 1024) (q : Fin 1792) :
    (truncf .bf16 (transpose S4x1024x1792 [1, 0, 2] (shapeCast S1024x4x1792 x shapeCasts_S1024x7168_S1024x4x1792) transposes_S1024x4x1792_S4x1024x1792_1_0_2) bitsLt_bf16_f32 : FVec Ideal S4x1024x1792 .bf16) (ix3 j d q)
      = x (ix2 d ⟨j.val * 1792 + q.val, by omega⟩) := by
  pointwise

theorem idx_facts : ∀ t : Fin cfg0.N, (win0_0.index t 0 = t.val / 4 ∧ win0_0.index t 1 = t.val % 4)
    ∧ (win0_1.index t 0 = t.val / 4 ∧ win0_1.index t 1 = 0)
    ∧ (win0_2.index t 0 = t.val / 4 ∧ win0_2.index t 1 = 0)
    ∧ (win0_3.index t 0 = 0 ∧ win0_3.index t 1 = 0)
    ∧ (win0_4.index t 0 = t.val % 4 ∧ win0_4.index t 1 = 0 ∧ win0_4.index t 2 = 0) :=
  (by decide +kernel : ∀ t : Fin grid0.N, _)

theorem lt32 (t : Fin cfg0.N) : t.val < 32 := Nat.lt_of_lt_of_eq t.isLt N_0

theorem blk_0 (c : Dev nD) (t : Fin cfg0.N) (p : Fin 1024) (q : Fin 1792) :
    (iblk m c 0 t : S1024x1792.Idx → EReal) (ix2 p q) = a4 m c (ix2 (row t p) (col t q)) := by
  obtain ⟨⟨h0, h1⟩, -⟩ := idx_facts t
  have ht := lt32 t
  show (V m c main_v3 : FVec Ideal S8192x7168 .bf16) ((win0_0.rect t).emb (ix2 p q)) = _
  rw [V_3]
  refine congrArg (a4 m c) (funext fun a => Fin.ext ?_)
  match a with
  | ⟨0, _⟩ => show win0_0.index t 0 * 1024 + 1 * p.val = (t.val / 4 * (128 * 8) + p.val) % 8192; rw [h0]; omega
  | ⟨1, _⟩ => show win0_0.index t 1 * 1792 + 1 * q.val = _; rw [h1]; simp

theorem blk_1 (c : Dev nD) (t : Fin cfg0.N) (p : Fin 1024) (q : Fin 1024) : (iblk m c 1 t : S1024x1024.Idx → EReal) (ix2 p q) = a3 m c (ix2 (row t p) q) := by
  obtain ⟨-, ⟨h0, h1⟩, -⟩ := idx_facts t
  have ht := lt32 t
  show (V m c main_arg3) ((win0_1.rect t).emb (ix2 p q)) = _
  rw [V_main_arg3]
  congr 1; funext a; apply Fin.ext
  match a with
  | ⟨0, _⟩ => show win0_1.index t 0 * 1024 + 1 * p.val = (t.val / 4 * (128 * 8) + p.val) % 8192; rw [h0]; omega
  | ⟨1, _⟩ => show win0_1.index t 1 * 1024 + 1 * q.val = q.val; rw [h1]; omega

theorem blk_2 (c : Dev nD) (t : Fin cfg0.N) (p : Fin 1024) (q : Fin 1024) : (iblk m c 2 t : S1024x1024.Idx → EReal) (ix2 p q) = a0 m c (ix2 (row t p) q) := by
  obtain ⟨-, -, ⟨h0, h1⟩, -⟩ := idx_facts t
  have ht := lt32 t
  show (V m c main_arg0) ((win0_2.rect t).emb (ix2 p q)) = _
  rw [V_main_arg0]
  congr 1; funext a; apply Fin.ext
  match a with
  | ⟨0, _⟩ => show win0_2.index t 0 * 1024 + 1 * p.val = (t.val / 4 * (128 * 8) + p.val) % 8192; rw [h0]; omega
  | ⟨1, _⟩ => show win0_2.index t 1 * 1024 + 1 * q.val = q.val; rw [h1]; omega

theorem blk_3 (c : Dev nD) (t : Fin cfg0.N) (q : Fin 1024) : (iblk m c 3 t : S1x1024.Idx → EReal) (ix2 0 q) = a1 m c (ix1 q) := by
  obtain ⟨-, -, -, ⟨h0, h1⟩, -⟩ := idx_facts t
  show (V m c main_v4) ((win0_3.rect t).emb (ix2 0 q)) = _
  rw [V_4, show (win0_3.rect t).emb (ix2 0 q) = ix2 0 q from ?_]
  · pointwise
  funext a; apply Fin.ext
  match a with
  | ⟨0, _⟩ => show win0_3.index t 0 * 1 + 1 * 0 = 0; rw [h0]
  | ⟨1, _⟩ => show win0_3.index t 1 * 1024 + 1 * q.val = q.val; rw [h1]; omega

theorem blk_4 (c : Dev nD) (t : Fin cfg0.N) (k : Fin 1024) (q : Fin 1792) :
    (iblk m c 4 t : S1x1024x1792.Idx → EReal) (ix3 0 k q) = a2 m c (ix2 k (col t q)) := by
  obtain ⟨-, -, -, -, ⟨h0, h1, h2⟩⟩ := idx_facts t
  show (V m c main_v2 : FVec Ideal S4x1024x1792 .bf16) ((win0_4.rect t).emb (ix3 0 k q)) = _
  rw [V_2, ← wslab (a2 m c) ⟨t.val % 4, by omega⟩ k q]
  congr 1; funext a; apply Fin.ext
  match a with
  | ⟨0, _⟩ => show win0_4.index t 0 * 1 + 1 * 0 = _; rw [h0]; simp
  | ⟨1, _⟩ => show win0_4.index t 1 * 1024 + 1 * k.val = _; rw [h1]; simp
  | ⟨2, _⟩ => show win0_4.index t 2 * 1792 + 1 * q.val = _; rw [h2]; simp

/-- What a point adds to its rows' sums. -/
def part (c : Dev nD) (t : Fin cfg0.N) (p q : Fin 1024) : EReal := ∑ f, a4 m c (ix2 (row t p) (col t f)) * a2 m c (ix2 q (col t f))

theorem addp_at (c : Dev nD) (t : Fin cfg0.N) (s : FVec Ideal S1024x1024 .f32) (p q : Fin 1024) :
    addp (F := Ideal) s (iblk m c 0 t) (iblk m c 4 t) (ix2 p q) = s (ix2 p q) + part m c t p q := by
  unfold addp part
  pointwise [k0_pay3]
  simp only [blk_0, blk_4]

/-! ## The arrays after the run -/

section After

variable (c : Dev nD) (t : Fin cfg0.N)

/-- A point's sum, given what the buffer held, -/
abbrev addpt (s : FVec Ideal S1024x1024 .f32) : FVec Ideal S1024x1024 .f32 := addp (F := Ideal) s (iblk m c 0 t) (iblk m c 4 t)
theorem lt_pred : t.val - 1 < cfg0.N := Nat.lt_of_le_of_lt (Nat.sub_le _ _) t.isLt
/-- the buffers after a point. -/
abbrev accAfter (n : ℕ) (h : n < cfg0.N) : FVec Ideal S1024x1024 .f32 := (outsAt0 (F := Ideal) m c n h).2.2.1
abbrev raccAfter (n : ℕ) (h : n < cfg0.N) : FVec Ideal S8x1024 .f32 := (outsAt0 (F := Ideal) m c n h).2.2.2

theorem acc_first (h1 : t.val % 4 = 0) : (outsAt0 (F := Ideal) m c t.val t.isLt).2.2.1 = addpt m c t (k0_pay2 (F := Ideal)) := by
  by_cases h0 : t.val % 32 = 0
  · rw [outsAt0_A m c t h0 h1 (by omega) (by omega)]; dsimp only; exact acc_A ..
  · rw [outsAt0_D m c t h0 h1 (by omega) (by omega)]; dsimp only; exact acc_D ..

theorem acc_next (h1 : ¬ t.val % 4 = 0) : (outsAt0 (F := Ideal) m c t.val t.isLt).2.2.1 = addpt m c t (outsAt0 (F := Ideal) m c (t.val - 1) (lt_pred t)).2.2.1 := by
  by_cases h2 : t.val % 4 = 3
  · by_cases h3 : t.val % 32 = 31
    · rw [outsAt0_E m c t (by omega) h1 h2 h3]; dsimp only; exact acc_E ..
    · rw [outsAt0_C m c t (by omega) h1 h2 h3]; dsimp only; exact acc_C ..
  · rw [outsAt0_B m c t (by omega) h1 h2 (by omega)]; dsimp only; exact acc_B ..

theorem racc_first (h0 : t.val % 32 = 0) : (outsAt0 (F := Ideal) m c t.val t.isLt).2.2.2 = k0_pay1 (F := Ideal) := by
  rw [outsAt0_A m c t h0 (by omega) (by omega) (by omega)]; dsimp only; exact racc_A ..

theorem racc_keep (h0 : ¬ t.val % 32 = 0) (h2 : ¬ t.val % 4 = 3) : (outsAt0 (F := Ideal) m c t.val t.isLt).2.2.2 = (outsAt0 (F := Ideal) m c (t.val - 1) (lt_pred t)).2.2.2 := by
  by_cases h1 : t.val % 4 = 0
  · rw [outsAt0_D m c t h0 h1 h2 (by omega)]; dsimp only; exact racc_D ..
  · rw [outsAt0_B m c t h0 h1 h2 (by omega)]; dsimp only; exact racc_B ..

theorem racc_step (h2 : t.val % 4 = 3) : (outsAt0 (F := Ideal) m c t.val t.isLt).2.2.2
    = k0_pay7 (F := Ideal) (addpt m c t (outsAt0 (F := Ideal) m c (t.val - 1) (lt_pred t)).2.2.1) (iblk m c 2 t) (outsAt0 (F := Ideal) m c (t.val - 1) (lt_pred t)).2.2.2 := by
  by_cases h3 : t.val % 32 = 31
  · rw [outsAt0_E m c t (by omega) (by omega) h2 h3]; dsimp only; exact racc_E ..
  · rw [outsAt0_C m c t (by omega) (by omega) h2 h3]; dsimp only; exact racc_C ..

theorem dx_last (h2 : t.val % 4 = 3) : (outsAt0 (F := Ideal) m c t.val t.isLt).1
    = k0_pay6 (F := Ideal) (addpt m c t (outsAt0 (F := Ideal) m c (t.val - 1) (lt_pred t)).2.2.1) (iblk m c 2 t) (iblk m c 3 t) (iblk m c 1 t) := by
  by_cases h3 : t.val % 32 = 31
  · rw [outsAt0_E m c t (by omega) (by omega) h2 h3]; dsimp only; exact dx_E ..
  · rw [outsAt0_C m c t (by omega) (by omega) h2 h3]; dsimp only; exact dx_C ..

theorem red_last (h3 : t.val % 32 = 31) : (outsAt0 (F := Ideal) m c t.val t.isLt).2.1 = k0_pay8 (F := Ideal) (outsAt0 (F := Ideal) m c t.val t.isLt).2.2.2 := by
  rw [racc_step m c t (by omega), outsAt0_E m c t (by omega) (by omega) (by omega) h3]; dsimp only; exact red_E ..

end After

/-- The cotangent of the normalised row. -/
def dh (c : Dev nD) (r : Fin 8192) (q : Fin 1024) : EReal := ∑ n, a4 m c (ix2 r n) * a2 m c (ix2 q n)

/-- Four column blocks are all columns. -/
theorem four (G : Fin 7168 → EReal) : ∑ k ∈ Finset.range 4, ∑ f : Fin 1792, G ⟨k % 4 * 1792 + f.val, by omega⟩ = ∑ n, G n := by
  have e := sum_runs (fun j => G ⟨j % 7168, Nat.mod_lt _ (by decide)⟩) 1792 4
  rw [Finset.sum_range (n := 4 * 1792)] at e
  refine ((Finset.sum_congr rfl fun k hk => Finset.sum_congr rfl fun f _ => congrArg G (Fin.ext ?_)).trans e).trans (Finset.sum_congr rfl fun n _ => congrArg G (Fin.ext (Nat.mod_eq_of_lt n.isLt)))
  have := Finset.mem_range.mp hk
  show k % 4 * 1792 + f.val = (k * 1792 + f.val) % 7168
  omega

/-- A row's column blocks, taken at a token tile's four points, are the whole row. -/
theorem four_points (G : Fin 8192 → Fin 7168 → EReal) (p : Fin 1024) (t : Fin cfg0.N) (h3 : t.val % 4 = 3) (t3 t2 t1 : Fin cfg0.N) (h_3 : t3.val = t.val - 3) (h_2 : t2.val = t.val - 2) (h_1 : t1.val = t.val - 1) :
    (((∑ f, G (row t3 p) (col t3 f)) + ∑ f, G (row t2 p) (col t2 f)) + ∑ f, G (row t1 p) (col t1 f)) + ∑ f, G (row t p) (col t f) = ∑ n, G (row t p) n := by
  rw [← four, Finset.sum_range_succ, Finset.sum_range_succ, Finset.sum_range_succ, Finset.sum_range_one]
  have r (u : Fin cfg0.N) (k : ℕ) (hk : k ≤ 3) (h : u.val = t.val - k) (f : Fin 1792) : G (row u p) (col u f) = G (row t p) ⟨(3 - k) % 4 * 1792 + f.val, by omega⟩ := by
    refine congr (congrArg G (Fin.ext ?_)) (Fin.ext ?_)
    · show (u.val / 4 * (128 * 8) + p.val) % 8192 = (t.val / 4 * (128 * 8) + p.val) % 8192
      rw [show u.val / 4 = t.val / 4 by omega]
    · show u.val % 4 * 1792 + f.val = (3 - k) % 4 * 1792 + f.val
      rw [show u.val % 4 = (3 - k) % 4 by omega]
  rw [Finset.sum_congr rfl fun f _ => r t3 3 (by decide) h_3 f, Finset.sum_congr rfl fun f _ => r t2 2 (by decide) h_2 f, Finset.sum_congr rfl fun f _ => r t1 1 (by decide) h_1 f, Finset.sum_congr rfl fun f _ => r t 0 (by decide) (by omega) f]

theorem acc_parts (c : Dev nD) (p q : Fin 1024) (n : ℕ) (h : n < cfg0.N) (h3 : n % 4 = 3) : accAfter m c n h (ix2 p q)
    = ((part m c ⟨n - 3, by omega⟩ p q + part m c ⟨n - 2, by omega⟩ p q) + part m c ⟨n - 1, by omega⟩ p q) + part m c ⟨n, h⟩ p q :=
  run_sum (N := cfg0.N) (fun n h => accAfter m c n h (ix2 p q)) (fun n h => part m c ⟨n, h⟩ p q)
    (fun n h h0 => by
      refine (congrFun (acc_first m c ⟨n, h⟩ h0) _).trans ((addp_at ..).trans (congrArg (· + part m c ⟨n, h⟩ p q) ?_))
      pointwise [k0_pay2])
    (fun n h h0 => (congrFun (acc_next m c ⟨n, h⟩ h0) _).trans (addp_at ..)) n h h3

/-- After a token tile's last point the buffer holds its cotangents. -/
theorem acc_eq (c : Dev nD) (p q : Fin 1024) (t : Fin cfg0.N) (h3 : t.val % 4 = 3) : (outsAt0 (F := Ideal) m c t.val t.isLt).2.2.1 (ix2 p q) = dh m c (row t p) q := by
  refine (acc_parts m c p q t.val t.isLt h3).trans ?_
  exact four_points (fun r n => a4 m c (ix2 r n) * a2 m c (ix2 q n)) p t h3 ⟨t.val - 3, by omega⟩ ⟨t.val - 2, by omega⟩ ⟨t.val - 1, by omega⟩ rfl rfl rfl

theorem dx_at (c : Dev nD) (t : Fin cfg0.N) (h3 : t.val % 4 = 3) (p q : Fin 1024) : (outsAt0 (F := Ideal) m c t.val t.isLt).1 (ix2 p q)
    = a3 m c (ix2 (row t p) q) + backrow (fun d => a0 m c (ix2 (row t p) d)) (fun d => a1 m c (ix1 d)) (dh m c (row t p)) q := by
  have e (q : Fin 1024) := acc_eq m c p q t h3
  rw [dx_last m c t h3, ← acc_next m c t (by omega)]
  generalize (outsAt0 (F := Ideal) m c t.val t.isLt).2.2.1 = s at e ⊢
  unfold backrow rs vs
  pointwise [k0_pay6, k0_pay5, k0_pay4]
  simp only [blk_1, blk_2, blk_3, e]

theorem step_at (c : Dev nD) (t : Fin cfg0.N) (h3 : t.val % 4 = 3) (p : Fin 8) (q : Fin 1024) : (outsAt0 (F := Ideal) m c t.val t.isLt).2.2.2 (ix2 p q)
    = (outsAt0 (F := Ideal) m c (t.val - 1) (lt_pred t)).2.2.2 (ix2 p q) + ∑ g : Fin 128, (fun n => gainrow (fun d => a0 m c (ix2 (tok n) d)) (dh m c (tok n)) q) (t.val / 4 * (128 * 8) + (g.val * 8 + p.val)) := by
  have e (p : Fin 1024) (q : Fin 1024) := acc_eq m c p q t h3
  rw [racc_step m c t h3, ← acc_next m c t (by omega)]
  generalize (outsAt0 (F := Ideal) m c t.val t.isLt).2.2.1 = s at e ⊢
  unfold gainrow rs vs
  pointwise [k0_pay7, k0_pay5, k0_pay4]
  simp only [blk_2, e]

/-- The gain's gradient is its sum over the tokens, -/
theorem racc_eq (c : Dev nD) (p : Fin 8) (q : Fin 1024) (n : ℕ) (h : n < cfg0.N) : raccAfter m c n h (ix2 p q)
    = ∑ k ∈ Finset.range ((n + 1) / 4), ∑ g : Fin 128, (fun n => gainrow (fun d => a0 m c (ix2 (tok n) d)) (dh m c (tok n)) q) (k * (128 * 8) + (g.val * 8 + p.val)) :=
  sweep_sum (N := cfg0.N) (fun n h => raccAfter m c n h (ix2 p q)) (fun k => ∑ g : Fin 128, (fun n => gainrow (fun d => a0 m c (ix2 (tok n) d)) (dh m c (tok n)) q) (k * (128 * 8) + (g.val * 8 + p.val)))
    (fun h => by
      refine (congrFun (racc_first m c ⟨0, h⟩ rfl) _).trans ?_
      pointwise [k0_pay1])
    (fun n h h0 h3 => congrFun (racc_keep m c ⟨n, h⟩ (by have hn : n < 32 := lt32 ⟨n, h⟩; show ¬ n % 32 = 0; omega) h3) _)
    (fun n h h3 => step_at m c ⟨n, h⟩ h3 p q) n h

theorem red_at (c : Dev nD) (q : Fin 1024) (t : Fin cfg0.N) (h : t.val + 1 = 32) :
    (outsAt0 (F := Ideal) m c t.val t.isLt).2.1 (ix2 0 q) = ∑ r, gainrow (fun d => a0 m c (ix2 r d)) (dh m c r) q := by
  rw [red_last m c t (by omega)]
  have a (p : Fin 8) : (outsAt0 (F := Ideal) m c t.val t.isLt).2.2.2 (ix2 p q) = _ := racc_eq m c p q t.val t.isLt
  rw [h] at a
  generalize (outsAt0 (F := Ideal) m c t.val t.isLt).2.2.2 = s at a ⊢
  pointwise [k0_pay8]
  rw [← sum_tok, ← sum_tiles (fun n => gainrow (fun d => a0 m c (ix2 (tok n) d)) (dh m c (tok n)) q) 128 8]
  exact Finset.sum_congr rfl fun p _ => a p

theorem red_eq (c : Dev nD) (q : Fin 1024) : Value.G6 (F := Ideal) m c (ix2 0 q) = ∑ r, gainrow (fun d => a0 m c (ix2 r d)) (dh m c r) q := by
  have hn : 31 < cfg0.N := lt_of_lt_of_eq (by decide) N_0.symm
  rw [Value.G6_last m c, ← Value.outsAt0_sweep m c 31 hn]
  exact red_at m c q ⟨31, hn⟩ (by show 31 + 1 = 32; rfl)

/-- and the residual stream's the cotangent with the norm's row added. -/
theorem dx_eq (c : Dev nD) (r : Fin 8192) (d : Fin 1024) : Value.G5 (F := Ideal) m c (ix2 r d)
    = a3 m c (ix2 r d) + backrow (fun d => a0 m c (ix2 r d)) (fun d => a1 m c (ix1 d)) (dh m c r) d := by
  have hr := r.isLt
  have hd := d.isLt
  have hp : Value.pt5Of (ix2 r d) = r.val / 1024 * 4 + 3 := by show 4 * (1 * (r.val / 1024 - 0) + 1 * (d.val / 1024 - 0)) + 3 = _; omega
  have hn : Value.pt5Of (ix2 r d) < cfg0.N := by rw [hp]; exact lt_of_lt_of_eq (by omega : r.val / 1024 * 4 + 3 < 32) N_0.symm
  have hrow : row ⟨Value.pt5Of (ix2 r d), hn⟩ (⟨r.val % 1024, by omega⟩ : Fin 1024) = r := Fin.ext (by
    show (Value.pt5Of (ix2 r d) / 4 * (128 * 8) + r.val % 1024) % 8192 = r.val
    rw [hp]; omega)
  unfold Value.G5
  rw [dif_pos hn, ← Value.outsAt0_sweep (F := Ideal) m c _ hn]
  refine (congrArg _ (show Value.loc5Of (ix2 r d) = ix2 (⟨r.val % 1024, by omega⟩ : Fin 1024) d from funext fun a => ?_)).trans ((dx_at m c ⟨_, hn⟩ (by show Value.pt5Of (ix2 r d) % 4 = 3; rw [hp]; omega) _ _).trans ?_)
  · apply Fin.ext
    match a with
    | ⟨0, _⟩ => rfl
    | ⟨1, _⟩ => exact Nat.mod_eq_of_lt hd
  · rw [hrow]

instance : Cert.InBIdeal.Facts := Cert.InBIdeal.Gen.facts
instance : Cert.InBRIdeal.Facts := Cert.InBRIdeal.Gen.facts
instance : Cert.Pre_inb_finite.Facts := Cert.Pre_inb_finite.Gen.facts

theorem algebraic_inb : Cert.algebraic_InBIdeal_InBRIdeal_pre_inb_finite (hInBIdeal := Cert.InBIdeal.Gen.facts) (hInBRIdeal := Cert.InBRIdeal.Gen.facts) (hPre_inb_finite := Cert.Pre_inb_finite.Gen.facts) := by
  intro m g m' g' hpre hag
  refine ⟨Value.G5 m, Value.G6 m, ?_, ?_⟩
  · refine (θ_run Cert.InBIdeal.defs _ _).mono (fun r h c => ?_) (Value.run (F := Ideal) m g)
    exact h c
  · refine (θ_run Cert.InBRIdeal.defs _ _).mono (fun r h c => ?_) (Cert.InBRIdeal.Value.run (F := Ideal) m' g')
    obtain ⟨e0, e1, e2, e3, e4⟩ := hag c
    obtain ⟨h0, h1, h2, h3, h4⟩ := hpre c
    obtain ⟨x0, hx0⟩ := real_of_finite (a0 m c) _ h0 fun _ => rfl
    obtain ⟨x1, hx1⟩ := real_of_finite (a1 m c) _ h1 fun _ => rfl
    obtain ⟨x2, hx2⟩ := real_of_finite (a2 m c) _ h2 fun _ => rfl
    obtain ⟨x3, hx3⟩ := real_of_finite (a3 m c) _ h3 fun _ => rfl
    obtain ⟨x4, hx4⟩ := real_of_finite (a4 m c) _ h4 fun _ => rfl
    refine ⟨(h c).1.trans ?_, (h c).2.1.trans ?_, (h c).2.2⟩
    · unfold Cert.InBRIdeal.Value.res_main_v38
      rw [e0, e1, e2, e3, e4]
      funext i; rw [eq_ix2 i]
      generalize i 0 = p, i 1 = q
      change Fin 8192 at p
      change Fin 1024 at q
      rw [dx_eq]
      obtain ⟨r, v, hr, hv, hv0, hrr⟩ := rs_real fun d => x0 (ix2 p d)
      have hd (q : Fin 1024) : ∃ y : ℝ, dh m c p q = (y : EReal) := ⟨∑ n, x4 (ix2 p n) * x2 (ix2 q n), by
        unfold dh
        simp only [hx2, hx4, ← EReal.coe_mul, sum_coe]⟩
      choose y hy using hd
      unfold dh at hy ⊢
      pointwise
      unfold backrow rs
      unfold vs at hv ⊢
      simp only [hx0, hx1, hx3, hy] at hv ⊢
      simp only [hv, hr]
      simp only [word_1024, word_neg_half, div_real _ _ hv0, div_real _ _ (by norm_num : (1024 : ℝ) ≠ 0), ← EReal.coe_mul, ← EReal.coe_sub, ← EReal.coe_add, sum_coe, Finset.univ_unique, Finset.sum_singleton]
      have h := back_real r v (∑ k, x0 (ix2 p k) * (y k * x1 (ix1 k))) (∑ k, y k * x1 (ix1 k) * (x0 (ix2 p k) * r))
        (x0 (ix2 p q)) (y q * x1 (ix1 q)) _ hrr rfl (by
          rw [Finset.mul_sum]
          exact Finset.sum_congr rfl fun k _ => by ring)
      rw [← h]
      exact congrArg _ (by ring)
    · rw [e0, e2, e4]
      funext i; rw [eq_ix2 i]
      generalize i 0 = p, i 1 = q
      change Fin 1 at p
      change Fin 1024 at q
      rw [show p = 0 from Subsingleton.elim _ _, red_eq]
      pointwise
      rw [Finset.univ_unique, Finset.sum_singleton]
      refine Finset.sum_congr rfl fun t _ => ?_
      unfold gainrow dh rs vs
      rw [mul_comm]

end Cert.InBIdeal.Own
-- ==== Proof.LossP.Value.lean ====
module

public import proofs.«01_k».proof.Proof.Gen.LossIdeal.Value
public import proofs.«01_k».proof.Proof.Gen.LossRIdeal.Run
public import proofs.«01_k».proof.Proof.Gen.Loss.Frame
public import proofs.«01_k».proof.Proof.Gen.Pre_loss_finite
public import Idealize.ShloMosaic.Lib.Pointwise
public import Idealize.ShloMosaic.Lib.VecWindow
public import proofs.«01_k».proof.Defs
public import proofs.«01_k».proof.Proof.Real
public import proofs.«01_k».proof.Proof.Sums
public import proofs.«01_k».proof.Proof.Norm

@[expose] public section

set_option maxRecDepth 16384

noncomputable section

open Idealize.ShloMosaic Idealize.ShloMosaic.TcCoe Idealize.SL.Sem Idealize.ShloMosaic.Tactic
open Idealize.ShloMosaic.Pipeline (Dat)

namespace Cert.LossIdeal.Own

open Cert.LossIdeal Cert.LossIdeal.Gen Cert.Own

/-! Short names for the bounds used below. -/
abbrev m0 := inb_S512x1024_S512x1024_0_0
abbrev m1 := inb_S2x8x1024_S1x8x1024_1_0_0
abbrev m2 := inb_S2x8x1024_S1x8x1024_0_0_0
abbrev m3 := inb_S1x1024_S1x1024_0_0

section Cases

variable {F : FTy → Type} [FloatOps F] (c : Dev nD) (i : grid0.Coords) (v1 : Memref sig .tc .vmem S512x1024 .f32) (q1 : v1.IsWhole) (v2 : Memref sig .tc .vmem S1x1024 .f32) (q2 : v2.IsWhole) (v3 : Memref sig .tc .vmem S512x1024 .f32) (q3 : v3.IsWhole) (v4 : Memref sig .tc .vmem S512x1024 .f32) (q4 : v4.IsWhole) (v5 : Memref sig .tc .vmem S2x1024 .f32) (q5 : v5.IsWhole) (v6 : Memref sig .tc .vmem S2x8x1024 .f32) (q6 : v6.IsWhole)
  (x0 : Vec F S512x1024 .f32) (x1 : Vec F S1x1024 .f32) (x2 : Vec F S512x1024 .f32) (xs0 : Vec F S2x8x1024 .f32)

/-- A load of a whole matrix buffer reads its contents. -/
theorem load2 {s : Shape} {e : EltTy} {κ : Kind} {r : Space} (v : Memref sig κ r s e) (hv : v.IsWhole) (x : Vec F s e) {off : Fin s.rank → ℕ} (inb : ∀ a, off a + s.size a ≤ s.size a) :
    v.view.readAt (Elt F) (Rect.unit off s.size inb).toLoadRect (hv.unread x) = x :=
  (View.readAt_full _ _ _).trans (hv.read_unread _)

theorem out_A_3 (hc0) (hc1) : out0_A_3 c i v1 q1 v2 q2 v3 q3 v4 q4 v5 q5 v6 q6 hc0 hc1 x0 x1 x2 = k0_pay11 x0 x1 x2 := by
  unfold out0_A_3
  refine (View.read_writes_full _ _ _ _ _).trans ?_; sl_unfold_words
  exact congr (congr (congrArg k0_pay11 (load2 v1 q1 x0 m0)) (load2 v2 q2 x1 m3)) (load2 v3 q3 x2 m0)

theorem out_B_3 (hc0) (hc1) : out0_B_3 c i v1 q1 v2 q2 v3 q3 v4 q4 v5 q5 v6 q6 hc0 hc1 x0 x1 x2 xs0 = k0_pay11 x0 x1 x2 := by
  unfold out0_B_3
  refine (View.read_writes_full _ _ _ _ _).trans ?_; sl_unfold_words
  exact congr (congr (congrArg k0_pay11 (load2 v1 q1 x0 m0)) (load2 v2 q2 x1 m3)) (load2 v3 q3 x2 m0)

theorem out_C_3 (hc0) (hc1) : out0_C_3 c i v1 q1 v2 q2 v3 q3 v4 q4 v5 q5 v6 q6 hc0 hc1 x0 x1 x2 xs0 = k0_pay11 x0 x1 x2 := by
  unfold out0_C_3
  refine (View.read_writes_full _ _ _ _ _).trans ?_; sl_unfold_words
  exact congr (congr (congrArg k0_pay11 (load2 v1 q1 x0 m0)) (load2 v2 q2 x1 m3)) (load2 v3 q3 x2 m0)

/-- The accumulators after a point: each slab has the tile's eight partial sums added. -/
def step (x0 : Vec F S512x1024 .f32) (x1 : Vec F S1x1024 .f32) (x2 : Vec F S512x1024 .f32) (s : Vec F S2x8x1024 .f32) : Vec F S2x8x1024 .f32 :=
  VecWindow.put (s := S2x8x1024) (VecWindow.put (s := S2x8x1024) s ![0, 0, 0] ![1, 8, 1024] (k0_pay1 (k0_pay12 x0 x1 x2) (VecWindow.window (s := S2x8x1024) s ![0, 0, 0] ![1, 8, 1024] m2)))
    ![1, 0, 0] ![1, 8, 1024] (k0_pay2 (k0_pay13 x0 x1 x2) (VecWindow.window (s := S2x8x1024) s ![1, 0, 0] ![1, 8, 1024] m1))

/-- Two slabs put hide what was under them. -/
theorem put_put_all (a b : Vec F S2x8x1024 .f32) (w0 w1 : Vec F S1x8x1024 .f32) :
    VecWindow.put (s := S2x8x1024) (VecWindow.put (s := S2x8x1024) a ![0, 0, 0] ![1, 8, 1024] w0) ![1, 0, 0] ![1, 8, 1024] w1
      = VecWindow.put (s := S2x8x1024) (VecWindow.put (s := S2x8x1024) b ![0, 0, 0] ![1, 8, 1024] w0) ![1, 0, 0] ![1, 8, 1024] w1 := by
  funext y
  rw [eq_ix3 y]
  generalize y 0 = r
  revert r
  intro (r : Fin 2)
  have hr : r = ⟨0, by decide⟩ ∨ r = ⟨1, by decide⟩ := by fin_cases r <;> simp
  rcases hr with rfl | rfl
  · exact (put_slab_ne _ 1 0 _ (by decide) _ _ _).trans ((put_slab _ 0 _ _ _ _).trans ((put_slab_ne _ 1 0 _ (by decide) _ _ _).trans (put_slab _ 0 _ _ _ _)).symm)
  · exact (put_slab _ 1 _ _ _ _).trans (put_slab _ 1 _ _ _ _).symm

/-- What is read of the accumulators after a point's stores. -/
theorem read_step (L : List (View.Piece (Elt F) S2x8x1024 .f32)) (s : Vec F S2x8x1024 .f32) (w0 w1 : Vec F S1x8x1024 .f32)
    (h0 : w0 = k0_pay1 (k0_pay12 x0 x1 x2) (VecWindow.window (s := S2x8x1024) s ![0, 0, 0] ![1, 8, 1024] m2))
    (h1 : w1 = k0_pay2 (k0_pay13 x0 x1 x2) (VecWindow.window (s := S2x8x1024) s ![1, 0, 0] ![1, 8, 1024] m1)) (v : View sig .tc .vmem S2x8x1024 .f32) :
    v.read (Elt F) (v.writes (Elt F) v.junk (⟨Rect.unit ![1, 0, 0] ![1, 8, 1024] m1, w1⟩ :: ⟨Rect.unit ![0, 0, 0] ![1, 8, 1024] m2, w0⟩ :: L))
      = step x0 x1 x2 s := by
  subst h0 h1
  refine (View.read_writes_cons_put _ _ _ _ _ rfl).trans ?_
  rw [View.read_writes_cons_put _ _ _ _ _ rfl]
  exact put_put_all _ _ _ _

theorem sout_B (hc0) (hc1) : sout0_B_0 c i v1 q1 v2 q2 v3 q3 v4 q4 v5 q5 v6 q6 hc0 hc1 x0 x1 x2 xs0 = step x0 x1 x2 xs0 := by
  unfold sout0_B_0
  refine read_step x0 x1 x2 _ xs0 _ _ ?_ ?_ _ <;> sl_unfold_words <;>
  simp only [View.readAt_unit v6.view _ _ rfl m2, View.readAt_unit v6.view _ _ rfl m1, q6.read_unread, load2 v1 q1 x0 m0, load2 v2 q2 x1 m3, load2 v3 q3 x2 m0]

theorem sout_C (hc0) (hc1) : sout0_C_0 c i v1 q1 v2 q2 v3 q3 v4 q4 v5 q5 v6 q6 hc0 hc1 x0 x1 x2 xs0 = step x0 x1 x2 xs0 := by
  unfold sout0_C_0
  refine read_step x0 x1 x2 _ xs0 _ _ ?_ ?_ _ <;> sl_unfold_words <;>
  simp only [View.readAt_unit v6.view _ _ rfl m2, View.readAt_unit v6.view _ _ rfl m1, q6.read_unread, load2 v1 q1 x0 m0, load2 v2 q2 x1 m3, load2 v3 q3 x2 m0]

theorem sout_A (hc0) (hc1) : sout0_A_0 c i v1 q1 v2 q2 v3 q3 v4 q4 v5 q5 v6 q6 hc0 hc1 x0 x1 x2 = step x0 x1 x2 k0_pay5 := by
  have e (w : Vec F S1x8x1024 .f32) : VecWindow.window (s := S2x8x1024) (VecWindow.put (s := S2x8x1024) (k0_pay5 (F := F)) ![0, 0, 0] ![1, 8, 1024] w) ![1, 0, 0] ![1, 8, 1024] m1 = VecWindow.window (s := S2x8x1024) (k0_pay5 (F := F)) ![1, 0, 0] ![1, 8, 1024] m1 :=
    VecWindow.window_put_of_disjoint _ _ _ _ _ _ _ (0 : Fin 3) (.inr (by decide))
  unfold sout0_A_0
  refine read_step x0 x1 x2 _ k0_pay5 _ _ ?_ ?_ _ <;> sl_unfold_words
  · refine congr (congrArg k0_pay1 ?_) ?_
    · simp only [load2 v1 q1 x0 m0, load2 v2 q2 x1 m3, load2 v3 q3 x2 m0]
    · refine (View.readAt_unit v6.view _ _ rfl m2).trans ?_
      rw [View.read_writes_full]
  · refine congr (congrArg k0_pay2 ?_) ?_
    · simp only [load2 v1 q1 x0 m0, load2 v2 q2 x1 m3, load2 v3 q3 x2 m0]
    · refine (View.readAt_unit v6.view _ _ rfl m1).trans ?_
      rw [View.read_writes_cons_put _ _ _ _ _ rfl, View.read_writes_full, e]

theorem out_C_4 (hc0) (hc1) (q : Fin 1024) :
    out0_C_4 c i v1 q1 v2 q2 v3 q3 v4 q4 v5 q5 v6 q6 hc0 hc1 x0 x1 x2 xs0 (ix2 0 q) = k0_pay3 (VecWindow.window (s := S2x8x1024) (step x0 x1 x2 xs0) ![0, 0, 0] ![1, 8, 1024] m2) (ix2 0 q)
    ∧ out0_C_4 c i v1 q1 v2 q2 v3 q3 v4 q4 v5 q5 v6 q6 hc0 hc1 x0 x1 x2 xs0 (ix2 1 q) = k0_pay4 (VecWindow.window (s := S2x8x1024) (step x0 x1 x2 xs0) ![1, 0, 0] ![1, 8, 1024] m1) (ix2 0 q) := by
  have e : out0_C_4 c i v1 q1 v2 q2 v3 q3 v4 q4 v5 q5 v6 q6 hc0 hc1 x0 x1 x2 xs0
      = VecWindow.put (s := S2x1024) (VecWindow.put (s := S2x1024) (VO0_4.read (Elt F) VO0_4.junk) ![0, 0] ![1, 1024] (k0_pay3 (VecWindow.window (s := S2x8x1024) (step x0 x1 x2 xs0) ![0, 0, 0] ![1, 8, 1024] m2)))
          ![1, 0] ![1, 1024] (k0_pay4 (VecWindow.window (s := S2x8x1024) (step x0 x1 x2 xs0) ![1, 0, 0] ![1, 8, 1024] m1)) := by
    have key (w0 w1) h0 h1 := read_step (F := F) x0 x1 x2 [] xs0 w0 w1 h0 h1 v6.view
    unfold out0_C_4
    refine (View.read_writes_cons_put _ _ _ _ _ rfl).trans ?_
    sl_unfold_words
    rw [View.read_writes_cons_put _ _ _ _ _ rfl]
    refine congr (congrArg (fun z => VecWindow.put (s := S2x1024) z ![1, 0] ![1, 1024]) (congr (congrArg (fun z => VecWindow.put (s := S2x1024) z ![0, 0] ![1, 1024]) rfl) (congrArg k0_pay3 ?_))) (congrArg k0_pay4 ?_)
    · refine (View.readAt_unit v6.view _ _ rfl m2).trans (congrArg (fun z => VecWindow.window (s := S2x8x1024) z ![0, 0, 0] ![1, 8, 1024] m2) (key _ _ ?_ ?_)) <;>
      simp only [View.readAt_unit v6.view _ _ rfl m2, View.readAt_unit v6.view _ _ rfl m1, q6.read_unread, load2 v1 q1 x0 m0, load2 v2 q2 x1 m3, load2 v3 q3 x2 m0]
    · refine (View.readAt_unit v6.view _ _ rfl m1).trans (congrArg (fun z => VecWindow.window (s := S2x8x1024) z ![1, 0, 0] ![1, 8, 1024] m1) (key _ _ ?_ ?_)) <;>
      simp only [View.readAt_unit v6.view _ _ rfl m2, View.readAt_unit v6.view _ _ rfl m1, q6.read_unread, load2 v1 q1 x0 m0, load2 v2 q2 x1 m3, load2 v3 q3 x2 m0]
  rw [e]
  exact ⟨(put_row_ne _ 1 0 (by decide) (by decide) _ _).trans (put_row _ 0 (by decide) _ _), put_row _ 1 (by decide) _ _⟩

end Cases

/-! ## The blocks the launch reads, and what a point computes, by index of the arguments -/

variable (m : (ℓ : Loc nD τ sig) → Buf (Elt Ideal) ℓ) (ρ : Dev nD → PrngReg)

/-- The three arguments on a core. -/
abbrev a0 (c : Dev nD) : FVec Ideal S8192x1024 .f32 := m ((c : Thread nD τ).loc main_arg0)
abbrev a1 (c : Dev nD) : FVec Ideal S1024 .f32 := m ((c : Thread nD τ).loc main_arg1)
abbrev a2 (c : Dev nD) : FVec Ideal S8192x1024 .f32 := m ((c : Thread nD τ).loc main_arg2)

theorem idx_facts : ∀ t : Fin cfg0.N, win0_0.index t (0 : Fin 2) = t.val ∧ win0_0.index t (1 : Fin 2) = 0 ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem row_eq (c : Dev nD) : V m c main_v0 = broadcastInDim S1x1024 ![1] bcast_S1024_S1x1024_1 (a1 m c) := by
  unfold V hostOps0
  after_results_simp <;> rfl

theorem blk0 (c : Dev nD) (t : Fin cfg0.N) (p : Fin 512) (q : Fin 1024) : iblk m c 0 t (ix2 p q) = a0 m c (ix2 (tok (t.val * 512 + p.val)) q) := by
  obtain ⟨h0, h1, -⟩ := idx_facts t
  have ht : t.val < 16 := Nat.lt_of_lt_of_eq t.isLt N_0
  show (V m c main_arg0) ((win0_0.rect t).emb (ix2 p q)) = _
  rw [V_main_arg0]
  congr 1; funext a; apply Fin.ext
  match a with
  | ⟨0, _⟩ => show win0_0.index t 0 * 512 + 1 * p.val = (t.val * 512 + p.val) % 8192; rw [h0]; omega
  | ⟨1, _⟩ => show win0_0.index t 1 * 1024 + 1 * q.val = q.val; rw [h1]; omega

theorem blk2 (c : Dev nD) (t : Fin cfg0.N) (p : Fin 512) (q : Fin 1024) : iblk m c 2 t (ix2 p q) = a2 m c (ix2 (tok (t.val * 512 + p.val)) q) := by
  obtain ⟨-, -, -, -, h0, h1⟩ := idx_facts t
  have ht : t.val < 16 := Nat.lt_of_lt_of_eq t.isLt N_0
  show (V m c main_arg2) ((win0_2.rect t).emb (ix2 p q)) = _
  rw [V_main_arg2]
  congr 1; funext a; apply Fin.ext
  match a with
  | ⟨0, _⟩ => show win0_2.index t 0 * 512 + 1 * p.val = (t.val * 512 + p.val) % 8192; rw [h0]; omega
  | ⟨1, _⟩ => show win0_2.index t 1 * 1024 + 1 * q.val = q.val; rw [h1]; omega

theorem blk1 (c : Dev nD) (t : Fin cfg0.N) (q : Fin 1024) : iblk m c 1 t (ix2 0 q) = a1 m c (ix1 q) := by
  obtain ⟨-, -, h0, h1, -⟩ := idx_facts t
  show (V m c main_v0) ((win0_1.rect t).emb (ix2 0 q)) = _
  rw [row_eq, show (win0_1.rect t).emb (ix2 0 q) = ix2 0 q from ?_]
  · pointwise
  funext a; apply Fin.ext
  match a with
  | ⟨0, _⟩ => show win0_1.index t 0 * 1 + 1 * 0 = 0; rw [h0]
  | ⟨1, _⟩ => show win0_1.index t 1 * 1024 + 1 * q.val = q.val; rw [h1]; omega

/-- The error of a normalised row against the target, -/
def err (x g y : Fin 1024 → EReal) (d : Fin 1024) : EReal := x d * rs x * g d - y d
/-- and the row of the gradient. -/
def dxrow (x g y : Fin 1024 → EReal) (d : Fin 1024) : EReal :=
  rs x * (err x g y d * Ideal.ofBits .f32 981467136#32 * g d
    - x d * rs x * Ideal.div (∑ d, err x g y d * Ideal.ofBits .f32 981467136#32 * g d * (x d * rs x)) (Ideal.ofBits .f32 1149239296#32))

/-- The rows of the arguments. -/
abbrev r0 (c : Dev nD) (t : Fin 8192) (d : Fin 1024) : EReal := a0 m c (ix2 t d)
abbrev r1 (c : Dev nD) (d : Fin 1024) : EReal := a1 m c (ix1 d)
abbrev r2 (c : Dev nD) (t : Fin 8192) (d : Fin 1024) : EReal := a2 m c (ix2 t d)

theorem dx_at (c : Dev nD) (t : Fin cfg0.N) (p : Fin 512) (q : Fin 1024) :
    k0_pay11 (F := Ideal) (iblk m c 0 t) (iblk m c 1 t) (iblk m c 2 t) (ix2 p q)
      = dxrow (r0 m c (tok (t.val * 512 + p.val))) (r1 m c) (r2 m c (tok (t.val * 512 + p.val))) q := by
  pointwise [k0_pay11, k0_pay10, k0_pay9, k0_pay8, k0_pay7, k0_pay6]
  simp only [blk0, blk1, blk2]
  rfl

/-- A token's share of the loss, by feature, and of the gain's gradient. -/
def share0 (c : Dev nD) (q : Fin 1024) (t : Fin 8192) : EReal := err (r0 m c t) (r1 m c) (r2 m c t) q * err (r0 m c t) (r1 m c) (r2 m c t) q
def share1 (c : Dev nD) (q : Fin 1024) (t : Fin 8192) : EReal := err (r0 m c t) (r1 m c) (r2 m c t) q * Ideal.ofBits .f32 981467136#32 * (r0 m c t q * rs (r0 m c t))

theorem step0_at (c : Dev nD) (t : Fin cfg0.N) (s : FVec Ideal S2x8x1024 .f32) (p : Fin 8) (q : Fin 1024) :
    step (F := Ideal) (iblk m c 0 t) (iblk m c 1 t) (iblk m c 2 t) s (ix3 0 p q) = s (ix3 0 p q) + ∑ g : Fin 64, share0 m c q (tok (t.val * (64 * 8) + (g.val * 8 + p.val))) := by
  unfold step
  refine (put_slab_ne _ 1 0 (by decide) (by decide) _ _ _).trans ((put_slab _ 0 (by decide) _ _ _).trans ?_)
  have e := window_slab s 0 (by decide) m2 p q
  pointwise [k0_pay1, k0_pay12, k0_pay9, k0_pay8, k0_pay7, k0_pay6]
  simp only [blk0, blk1, blk2]
  exact congr (congrArg _ e) rfl

theorem step1_at (c : Dev nD) (t : Fin cfg0.N) (s : FVec Ideal S2x8x1024 .f32) (p : Fin 8) (q : Fin 1024) :
    step (F := Ideal) (iblk m c 0 t) (iblk m c 1 t) (iblk m c 2 t) s (ix3 1 p q) = s (ix3 1 p q) + ∑ g : Fin 64, share1 m c q (tok (t.val * (64 * 8) + (g.val * 8 + p.val))) := by
  unfold step
  refine (put_slab _ 1 (by decide) _ _ _).trans ?_
  have e := window_slab s 1 (by decide) m1 p q
  pointwise [k0_pay2, k0_pay13, k0_pay10, k0_pay9, k0_pay8, k0_pay7, k0_pay6]
  simp only [blk0, blk1, blk2]
  exact congr (congrArg _ e) rfl

/-! ## The arrays after the run -/

theorem first_out (c : Dev nD) (t : Fin cfg0.N) : (outsAt0 (F := Ideal) m c t.val t.isLt).1 = k0_pay11 (F := Ideal) (iblk m c 0 t) (iblk m c 1 t) (iblk m c 2 t) := by
  have ht : t.val < 16 := Nat.lt_of_lt_of_eq t.isLt N_0
  by_cases h0 : t.val % 16 = 0
  · rw [outsAt0_A m c t h0 (by omega)]; dsimp only; exact out_A_3 ..
  · by_cases h1 : t.val % 16 = 15
    · rw [outsAt0_C m c t h0 h1]; dsimp only; exact out_C_3 ..
    · rw [outsAt0_B m c t h0 h1]; dsimp only; exact out_B_3 ..

theorem acc_first (c : Dev nD) (t : Fin cfg0.N) (h0 : t.val % 16 = 0) :
    (outsAt0 (F := Ideal) m c t.val t.isLt).2.2 = step (F := Ideal) (iblk m c 0 t) (iblk m c 1 t) (iblk m c 2 t) (k0_pay5 (F := Ideal)) := by
  rw [outsAt0_A m c t h0 (by omega)]; dsimp only; exact sout_A ..

theorem acc_next (c : Dev nD) (t : Fin cfg0.N) (h0 : ¬ t.val % 16 = 0) :
    (outsAt0 (F := Ideal) m c t.val t.isLt).2.2 = step (F := Ideal) (iblk m c 0 t) (iblk m c 1 t) (iblk m c 2 t) (outsAt0 (F := Ideal) m c (t.val - 1) (Nat.lt_of_le_of_lt (Nat.sub_le _ _) t.isLt)).2.2 := by
  by_cases h1 : t.val % 16 = 15
  · rw [outsAt0_C m c t h0 h1]; dsimp only; exact sout_C ..
  · rw [outsAt0_B m c t h0 h1]; dsimp only; exact sout_B ..

theorem red_last (c : Dev nD) (t : Fin cfg0.N) (h1 : t.val % 16 = 15) (q : Fin 1024) :
    (outsAt0 (F := Ideal) m c t.val t.isLt).2.1 (ix2 0 q) = k0_pay3 (F := Ideal) (VecWindow.window (s := S2x8x1024) (outsAt0 (F := Ideal) m c t.val t.isLt).2.2 ![0, 0, 0] ![1, 8, 1024] m2) (ix2 0 q)
    ∧ (outsAt0 (F := Ideal) m c t.val t.isLt).2.1 (ix2 1 q) = k0_pay4 (F := Ideal) (VecWindow.window (s := S2x8x1024) (outsAt0 (F := Ideal) m c t.val t.isLt).2.2 ![1, 0, 0] ![1, 8, 1024] m1) (ix2 0 q) := by
  have h0 : ¬ t.val % 16 = 0 := by omega
  rw [acc_next m c t h0, outsAt0_C m c t h0 h1]
  dsimp only
  exact out_C_4 ..

theorem acc_eq (c : Dev nD) (p : Fin 8) (q : Fin 1024) : ∀ (n : ℕ) (hn : n < cfg0.N),
    (outsAt0 (F := Ideal) m c n hn).2.2 (ix3 0 p q) = ∑ k ∈ Finset.range (n + 1), ∑ g : Fin 64, share0 m c q (tok (k * (64 * 8) + (g.val * 8 + p.val)))
    ∧ (outsAt0 (F := Ideal) m c n hn).2.2 (ix3 1 p q) = ∑ k ∈ Finset.range (n + 1), ∑ g : Fin 64, share1 m c q (tok (k * (64 * 8) + (g.val * 8 + p.val))) := by
  intro n
  induction n with
  | zero =>
    intro hn
    have e := acc_first m c ⟨0, hn⟩ (Nat.zero_mod _)
    dsimp only at e
    rw [e, step0_at, step1_at, Finset.sum_range_one, Finset.sum_range_one]
    constructor <;>
    · pointwise [k0_pay5]
  | succ n ih =>
    intro hn
    have hN : n + 1 < 16 := Nat.lt_of_lt_of_eq hn N_0
    have e := acc_next m c ⟨n + 1, hn⟩ (by show ¬ (n + 1) % 16 = 0; omega)
    simp only [Nat.add_sub_cancel] at e
    obtain ⟨i0, i1⟩ := ih (Nat.lt_of_succ_lt hn)
    rw [e, step0_at, step1_at, i0, i1, Finset.sum_range_succ _ (n + 1), Finset.sum_range_succ _ (n + 1)]
    exact ⟨rfl, rfl⟩

theorem red_at (c : Dev nD) (q : Fin 1024) (t : Fin cfg0.N) (h1 : t.val % 16 = 15) (h : t.val + 1 = 16) :
    (outsAt0 (F := Ideal) m c t.val t.isLt).2.1 (ix2 0 q) = (∑ t, share0 m c q t) * Ideal.ofBits .f32 0x3A000000#32
    ∧ (outsAt0 (F := Ideal) m c t.val t.isLt).2.1 (ix2 1 q) = ∑ t, share1 m c q t := by
  have e := red_last m c t h1 q
  rw [e.1, e.2]
  have a (p : Fin 8) := acc_eq m c p q t.val t.isLt
  simp only [h] at a
  clear e
  generalize (outsAt0 (F := Ideal) m c t.val t.isLt).2.2 = s at a ⊢
  have s0 (p : Fin 8) := (window_slab s 0 (by decide) m2 p q).trans (a p).1
  have s1 (p : Fin 8) := (window_slab s 1 (by decide) m1 p q).trans (a p).2
  constructor
  · pointwise [k0_pay3]
    congr 1
    rw [← sum_tok, ← sum_tiles (fun n => share0 m c q (tok n)) 64 16]
    exact Finset.sum_congr rfl fun p _ => s0 p
  · pointwise [k0_pay4]
    rw [← sum_tok, ← sum_tiles (fun n => share1 m c q (tok n)) 64 16]
    exact Finset.sum_congr rfl fun p _ => s1 p

theorem red_eq (c : Dev nD) (q : Fin 1024) :
    Value.G4 (F := Ideal) m c (ix2 0 q) = (∑ t, share0 m c q t) * Ideal.ofBits .f32 0x3A000000#32 ∧ Value.G4 (F := Ideal) m c (ix2 1 q) = ∑ t, share1 m c q t := by
  have hn : 15 < cfg0.N := lt_of_lt_of_eq (by decide) N_0.symm
  rw [Value.G4_last m c, ← Value.outsAt0_sweep m c 15 hn]
  exact red_at m c q ⟨15, hn⟩ (by show 15 % 16 = 15; rfl) (by show 15 + 1 = 16; rfl)

theorem dx_eq (c : Dev nD) (t : Fin 8192) (d : Fin 1024) : Value.G3 (F := Ideal) m c (ix2 t d) = dxrow (r0 m c t) (r1 m c) (r2 m c t) d := by
  have ht := t.isLt
  have hd := d.isLt
  have hp : Value.pt3Of (ix2 t d) = t.val / 512 := by show 1 * (t.val / 512 - 0) + 1 * (d.val / 1024 - 0) = _; omega
  have hn : Value.pt3Of (ix2 t d) < cfg0.N := by rw [hp]; exact lt_of_lt_of_eq (by omega : t.val / 512 < 16) N_0.symm
  unfold Value.G3
  rw [dif_pos hn]
  have e := (congrArg (fun z => z.1) (Value.outsAt0_sweep (F := Ideal) m c _ hn)).symm.trans (first_out m c ⟨_, hn⟩)
  refine (congrFun e _).trans ?_
  refine (congrArg _ (show Value.loc3Of (ix2 t d) = ix2 (⟨t.val % 512, by omega⟩ : Fin 512) d from funext fun a => ?_)).trans ((dx_at m c ⟨_, hn⟩ _ _).trans ?_)
  · apply Fin.ext
    match a with
    | ⟨0, _⟩ => rfl
    | ⟨1, _⟩ => exact Nat.mod_eq_of_lt hd
  · have : tok (Value.pt3Of (ix2 t d) * 512 + t.val % 512) = t := Fin.ext (by rw [hp]; show (t.val / 512 * 512 + t.val % 512) % 8192 = t.val; omega)
    show dxrow (r0 m c (tok (Value.pt3Of (ix2 t d) * 512 + t.val % 512))) _ (r2 m c (tok (Value.pt3Of (ix2 t d) * 512 + t.val % 512))) d = _
    rw [this]

theorem word_half : Ideal.ofBits .f32 1056964608#32 = ((1 / 2 : ℝ) : EReal) := by
  simp [Ideal.ofBits, Ideal.ieee, -EReal.coe_mul]; norm_num
theorem word_two : Ideal.ofBits .f32 1073741824#32 = ((2 : ℝ) : EReal) := by
  simp [Ideal.ofBits, Ideal.ieee, -EReal.coe_mul]; norm_num
theorem word_milli : Ideal.ofBits .f32 981467136#32 = ((1 / 1024 : ℝ) : EReal) := by
  simp [Ideal.ofBits, Ideal.ieee, -EReal.coe_mul]; norm_num
theorem word_slice : Ideal.ofBits .f32 973078528#32 = ((1 / 2048 : ℝ) : EReal) := by
  simp [Ideal.ofBits, Ideal.ieee, -EReal.coe_mul]; norm_num
theorem n1024 : (1024 : ℝ) ≠ 0 := by norm_num

instance : Cert.LossIdeal.Facts := Cert.LossIdeal.Gen.facts
instance : Cert.LossRIdeal.Facts := Cert.LossRIdeal.Gen.facts
instance : Cert.Pre_loss_finite.Facts := Cert.Pre_loss_finite.Gen.facts

theorem algebraic_loss : Cert.algebraic_LossIdeal_LossRIdeal_pre_loss_finite (hLossIdeal := Cert.LossIdeal.Gen.facts) (hLossRIdeal := Cert.LossRIdeal.Gen.facts) (hPre_loss_finite := Cert.Pre_loss_finite.Gen.facts) := by
  intro m g m' g' hpre hag
  refine ⟨Value.G3 m, Value.G4 m, ?_, ?_⟩
  · refine (θ_run Cert.LossIdeal.defs _ _).mono (fun r h c => ?_) (Value.run (F := Ideal) m g)
    exact h c
  · refine (θ_run Cert.LossRIdeal.defs _ _).mono (fun r h c => ?_) (Cert.LossRIdeal.Value.run (F := Ideal) m' g')
    obtain ⟨e0, e1, e2⟩ := hag c
    obtain ⟨h0, h1, h2⟩ := hpre c
    obtain ⟨x0, hx0⟩ := real_of_finite (a0 m c) _ h0 fun _ => rfl
    obtain ⟨x1, hx1⟩ := real_of_finite (a1 m c) _ h1 fun _ => rfl
    obtain ⟨x2, hx2⟩ := real_of_finite (a2 m c) _ h2 fun _ => rfl
    refine ⟨(h c).1.trans ?_, (h c).2.1.trans ?_, (h c).2.2⟩
    · unfold Cert.LossRIdeal.Value.res_main_v50
      rw [e0, e1, e2]
      funext i; rw [eq_ix2 i]
      generalize i 0 = p, i 1 = q
      change Fin 8192 at p
      change Fin 1024 at q
      rw [dx_eq]
      obtain ⟨r, v, hr, hv, hv0, hrr⟩ := rs_real fun d => x0 (ix2 p d)
      pointwise
      unfold dxrow err rs
      unfold vs at hv ⊢
      simp only [hx0, hx1, hx2] at hv ⊢
      simp only [hv, hr]
      simp only [word_1024, word_half, word_two, word_milli, word_neg_half, div_real _ _ hv0, div_real _ _ n1024, ← EReal.coe_mul, ← EReal.coe_sub, ← EReal.coe_add, sum_coe, Finset.univ_unique, Finset.sum_singleton]
      refine congrArg _ (back_real r v _ _ _ _ _ hrr (by ring) ?_)
      rw [Finset.mul_sum]
      exact Finset.sum_congr rfl fun k _ => by ring
    · rw [e0, e1, e2]
      funext i; rw [eq_ix2 i]
      obtain ⟨e0, e1⟩ := red_eq m c (i 1)
      match h : i 0 with
      | ⟨0, _⟩ =>
        refine Eq.trans ?_ e0.symm
        have key : ∃ s : ℝ, (∑ t, share0 m c (i 1) t) = (s : EReal) := by
          choose r v hr hv hv0 hrr using fun t => rs_real fun d => x0 (ix2 t d)
          refine ⟨_, (Finset.sum_congr rfl fun t _ => ?_).trans (sum_coe fun t => (x0 (ix2 t (i 1)) * r t * x1 (ix1 (i 1)) - x2 (ix2 t (i 1))) * (x0 (ix2 t (i 1)) * r t * x1 (ix1 (i 1)) - x2 (ix2 t (i 1))))⟩
          unfold share0 err rs
          have hv := hv t
          unfold vs at hv ⊢
          simp only [hx0, hx1, hx2] at hv ⊢
          simp only [hv, hr t]
          simp only [← EReal.coe_mul, ← EReal.coe_sub, ← EReal.coe_add]
        obtain ⟨s, hs⟩ := key
        have e : Ideal.div (Ideal.ofBits .f32 1056964608#32 * (∑ t, share0 m c (i 1) t)) (Ideal.ofBits .f32 1149239296#32) = (∑ t, share0 m c (i 1) t) * Ideal.ofBits .f32 973078528#32 := by
          rw [hs, word_1024, word_half, word_slice, ← EReal.coe_mul, div_real _ _ n1024, ← EReal.coe_mul]
          congr 1; ring
        refine Eq.trans ?_ e
        pointwise
        rfl
      | ⟨1, _⟩ =>
        refine Eq.trans ?_ e1.symm
        pointwise
        rw [Finset.univ_unique, Finset.sum_singleton]
        refine Finset.sum_congr rfl fun t _ => ?_
        obtain ⟨r, v, hr, hv, hv0, hrr⟩ := rs_real fun d => x0 (ix2 t d)
        unfold share1 err rs
        unfold vs at hv ⊢
        simp only [hx0, hx1, hx2] at hv ⊢
        simp only [hv, hr]
        simp only [word_1024, word_half, word_two, word_milli, div_real _ _ n1024, ← EReal.coe_mul, ← EReal.coe_sub, ← EReal.coe_add]
        congr 1; ring

end Cert.LossIdeal.Own
-- ==== Proof.MergeFP.Value.lean ====
module

public import proofs.«01_k».proof.Proof.Gen.MergeFIdeal.Value
public import proofs.«01_k».proof.Proof.Gen.MergeFRIdeal.Run
public import proofs.«01_k».proof.Proof.Gen.MergeF.Frame
public import Idealize.ShloMosaic.Lib.Pointwise
public import Idealize.ShloMosaic.Lib.VecWindow
public import proofs.«01_k».proof.Defs
public import proofs.«01_k».proof.Proof.Real
public import proofs.«01_k».proof.Proof.Sums

@[expose] public section

set_option maxRecDepth 16384

noncomputable section

open Idealize.ShloMosaic Idealize.ShloMosaic.TcCoe Idealize.SL.Sem Idealize.ShloMosaic.Tactic
open Idealize.ShloMosaic.Pipeline (Dat)

namespace Cert.MergeFIdeal.Own

open Cert.MergeFIdeal Cert.MergeFIdeal.Gen Cert.Own

variable (m : (ℓ : Loc nD τ sig) → Buf (Elt Ideal) ℓ)

/-- The arguments on a core: the stream, the projections, the two mixers' outputs, the three matrices and the gates' bias. -/
abbrev a0 (c : Dev nD) : FVec Ideal S8192x1024 .f32 := m ((c : Thread nD τ).loc main_arg0)
abbrev a1 (c : Dev nD) : FVec Ideal S8192x7168 .f32 := m ((c : Thread nD τ).loc main_arg1)
abbrev a2 (c : Dev nD) : FVec Ideal S8192x1024 .f32 := m ((c : Thread nD τ).loc main_arg2)
abbrev a3 (c : Dev nD) : FVec Ideal S8192x1024 .f32 := m ((c : Thread nD τ).loc main_arg3)
abbrev a4 (c : Dev nD) : FVec Ideal S1024x1024 .f32 := m ((c : Thread nD τ).loc main_arg4)
abbrev a5 (c : Dev nD) : FVec Ideal S1024x1024 .f32 := m ((c : Thread nD τ).loc main_arg5)
abbrev a6 (c : Dev nD) : FVec Ideal S1024x1024 .f32 := m ((c : Thread nD τ).loc main_arg6)
abbrev a7 (c : Dev nD) : FVec Ideal S2x1024 .f32 := m ((c : Thread nD τ).loc main_arg7)

theorem V_0 (c : Dev nD) : V m c main_v0 = (truncf .bf16 (a4 m c) bitsLt_bf16_f32 : FVec Ideal S1024x1024 .bf16) := by
  unfold V hostOps0; after_results_simp <;> rfl
theorem V_1 (c : Dev nD) : V m c main_v1 = (truncf .bf16 (a5 m c) bitsLt_bf16_f32 : FVec Ideal S1024x1024 .bf16) := by
  unfold V hostOps0; after_results_simp <;> rfl
theorem V_2 (c : Dev nD) : V m c main_v2 = (truncf .bf16 (a6 m c) bitsLt_bf16_f32 : FVec Ideal S1024x1024 .bf16) := by
  unfold V hostOps0; after_results_simp <;> rfl
theorem V_3 (c : Dev nD) : V m c main_v3 = (truncf .bf16 (a1 m c) bitsLt_bf16_f32 : FVec Ideal S8192x7168 .bf16) := by
  unfold V hostOps0; after_results_simp <;> rfl
theorem V_4 (c : Dev nD) : V m c main_v4 = (truncf .bf16 (a2 m c) bitsLt_bf16_f32 : FVec Ideal S8192x1024 .bf16) := by
  unfold V hostOps0; after_results_simp <;> rfl
theorem V_5 (c : Dev nD) : V m c main_v5 = (truncf .bf16 (a3 m c) bitsLt_bf16_f32 : FVec Ideal S8192x1024 .bf16) := by
  unfold V hostOps0; after_results_simp <;> rfl
theorem V_a0 (c : Dev nD) : V m c main_arg0 = a0 m c := by
  unfold V hostOps0; after_results_simp <;> rfl
theorem V_a7 (c : Dev nD) : V m c main_arg7 = a7 m c := by
  unfold V hostOps0; after_results_simp <;> rfl

/-- A point's row `p` among all rows, -/
abbrev row (t : Fin cfg0.N) (p : Fin 512) : Fin 8192 := ⟨t.val * 512 + p.val, by have := Nat.lt_of_lt_of_eq t.isLt N_0; omega⟩
/-- and a column of the gates' part of the projections. -/
abbrev gcol (j : Fin 2) (q : Fin 1024) : Fin 7168 := ⟨(5 + j.val) * 1024 + q.val, by omega⟩

theorem idx_0 : ∀ t : Fin cfg0.N, win0_0.index t 0 = t.val ∧ win0_0.index t 1 = 0 :=
  (by decide +kernel : ∀ t : Fin grid0.N, _)
theorem idx_1 : ∀ t : Fin cfg0.N, win0_1.index t 0 = t.val ∧ win0_1.index t 1 = 5 :=
  (by decide +kernel : ∀ t : Fin grid0.N, _)
theorem idx_2 : ∀ t : Fin cfg0.N, win0_2.index t 0 = t.val ∧ win0_2.index t 1 = 6 :=
  (by decide +kernel : ∀ t : Fin grid0.N, _)
theorem idx_3 : ∀ t : Fin cfg0.N, win0_3.index t 0 = t.val ∧ win0_3.index t 1 = 0 :=
  (by decide +kernel : ∀ t : Fin grid0.N, _)
theorem idx_4 : ∀ t : Fin cfg0.N, win0_4.index t 0 = t.val ∧ win0_4.index t 1 = 0 :=
  (by decide +kernel : ∀ t : Fin grid0.N, _)
theorem idx_5 : ∀ t : Fin cfg0.N, win0_5.index t 0 = 0 ∧ win0_5.index t 1 = 0 :=
  (by decide +kernel : ∀ t : Fin grid0.N, _)
theorem idx_6 : ∀ t : Fin cfg0.N, win0_6.index t 0 = 0 ∧ win0_6.index t 1 = 0 :=
  (by decide +kernel : ∀ t : Fin grid0.N, _)
theorem idx_7 : ∀ t : Fin cfg0.N, win0_7.index t 0 = 0 ∧ win0_7.index t 1 = 0 :=
  (by decide +kernel : ∀ t : Fin grid0.N, _)
theorem idx_8 : ∀ t : Fin cfg0.N, win0_8.index t 0 = 0 ∧ win0_8.index t 1 = 0 :=
  (by decide +kernel : ∀ t : Fin grid0.N, _)
theorem idx_9 : ∀ t : Fin cfg0.N, win0_9.index t 0 = t.val ∧ win0_9.index t 1 = 0 :=
  (by decide +kernel : ∀ t : Fin grid0.N, _)
theorem idx_10 : ∀ t : Fin cfg0.N, win0_10.index t 0 = t.val ∧ win0_10.index t 1 = 0 :=
  (by decide +kernel : ∀ t : Fin grid0.N, _)
theorem idx_11 : ∀ t : Fin cfg0.N, win0_11.index t 0 = t.val ∧ win0_11.index t 1 = 0 :=
  (by decide +kernel : ∀ t : Fin grid0.N, _)
theorem idx_12 : ∀ t : Fin cfg0.N, win0_12.index t 0 = t.val ∧ win0_12.index t 1 = 0 :=
  (by decide +kernel : ∀ t : Fin grid0.N, _)

theorem blk_0 (c : Dev nD) (t : Fin cfg0.N) (p : Fin 512) (q : Fin 1024) :
    (iblk m c 0 t : S512x1024.Idx → EReal) (ix2 p q) = a0 m c (ix2 (row t p) q) := by
  obtain ⟨h0, h1⟩ := idx_0 t
  show (V m c main_arg0 : FVec Ideal S8192x1024 .f32) ((win0_0.rect t).emb (ix2 p q)) = _
  rw [V_a0]
  refine congrArg (a0 m c) (funext fun a => Fin.ext ?_)
  match a with
  | ⟨0, _⟩ => show win0_0.index t 0 * 512 + 1 * p.val = _; rw [h0]; simp
  | ⟨1, _⟩ => show win0_0.index t 1 * 1024 + 1 * q.val = _; rw [h1]; simp

theorem blk_1 (c : Dev nD) (t : Fin cfg0.N) (p : Fin 512) (q : Fin 1024) :
    (iblk m c 1 t : S512x1024.Idx → EReal) (ix2 p q) = a1 m c (ix2 (row t p) (gcol 0 q)) := by
  obtain ⟨h0, h1⟩ := idx_1 t
  show (V m c main_v3 : FVec Ideal S8192x7168 .bf16) ((win0_1.rect t).emb (ix2 p q)) = _
  rw [V_3]
  refine congrArg (a1 m c) (funext fun a => Fin.ext ?_)
  match a with
  | ⟨0, _⟩ => show win0_1.index t 0 * 512 + 1 * p.val = _; rw [h0]; simp
  | ⟨1, _⟩ => show win0_1.index t 1 * 1024 + 1 * q.val = _; rw [h1]; simp

theorem blk_2 (c : Dev nD) (t : Fin cfg0.N) (p : Fin 512) (q : Fin 1024) :
    (iblk m c 2 t : S512x1024.Idx → EReal) (ix2 p q) = a1 m c (ix2 (row t p) (gcol 1 q)) := by
  obtain ⟨h0, h1⟩ := idx_2 t
  show (V m c main_v3 : FVec Ideal S8192x7168 .bf16) ((win0_2.rect t).emb (ix2 p q)) = _
  rw [V_3]
  refine congrArg (a1 m c) (funext fun a => Fin.ext ?_)
  match a with
  | ⟨0, _⟩ => show win0_2.index t 0 * 512 + 1 * p.val = _; rw [h0]; simp
  | ⟨1, _⟩ => show win0_2.index t 1 * 1024 + 1 * q.val = _; rw [h1]; simp

theorem blk_3 (c : Dev nD) (t : Fin cfg0.N) (p : Fin 512) (q : Fin 1024) :
    (iblk m c 3 t : S512x1024.Idx → EReal) (ix2 p q) = a2 m c (ix2 (row t p) q) := by
  obtain ⟨h0, h1⟩ := idx_3 t
  show (V m c main_v4 : FVec Ideal S8192x1024 .bf16) ((win0_3.rect t).emb (ix2 p q)) = _
  rw [V_4]
  refine congrArg (a2 m c) (funext fun a => Fin.ext ?_)
  match a with
  | ⟨0, _⟩ => show win0_3.index t 0 * 512 + 1 * p.val = _; rw [h0]; simp
  | ⟨1, _⟩ => show win0_3.index t 1 * 1024 + 1 * q.val = _; rw [h1]; simp

theorem blk_4 (c : Dev nD) (t : Fin cfg0.N) (p : Fin 512) (q : Fin 1024) :
    (iblk m c 4 t : S512x1024.Idx → EReal) (ix2 p q) = a3 m c (ix2 (row t p) q) := by
  obtain ⟨h0, h1⟩ := idx_4 t
  show (V m c main_v5 : FVec Ideal S8192x1024 .bf16) ((win0_4.rect t).emb (ix2 p q)) = _
  rw [V_5]
  refine congrArg (a3 m c) (funext fun a => Fin.ext ?_)
  match a with
  | ⟨0, _⟩ => show win0_4.index t 0 * 512 + 1 * p.val = _; rw [h0]; simp
  | ⟨1, _⟩ => show win0_4.index t 1 * 1024 + 1 * q.val = _; rw [h1]; simp

theorem blk_5 (c : Dev nD) (t : Fin cfg0.N) (p : Fin 1024) (q : Fin 1024) :
    (iblk m c 5 t : S1024x1024.Idx → EReal) (ix2 p q) = a4 m c (ix2 p q) := by
  obtain ⟨h0, h1⟩ := idx_5 t
  show (V m c main_v0 : FVec Ideal S1024x1024 .bf16) ((win0_5.rect t).emb (ix2 p q)) = _
  rw [V_0]
  refine congrArg (a4 m c) (funext fun a => Fin.ext ?_)
  match a with
  | ⟨0, _⟩ => show win0_5.index t 0 * 1024 + 1 * p.val = _; rw [h0]; simp
  | ⟨1, _⟩ => show win0_5.index t 1 * 1024 + 1 * q.val = _; rw [h1]; simp

theorem blk_6 (c : Dev nD) (t : Fin cfg0.N) (p : Fin 1024) (q : Fin 1024) :
    (iblk m c 6 t : S1024x1024.Idx → EReal) (ix2 p q) = a5 m c (ix2 p q) := by
  obtain ⟨h0, h1⟩ := idx_6 t
  show (V m c main_v1 : FVec Ideal S1024x1024 .bf16) ((win0_6.rect t).emb (ix2 p q)) = _
  rw [V_1]
  refine congrArg (a5 m c) (funext fun a => Fin.ext ?_)
  match a with
  | ⟨0, _⟩ => show win0_6.index t 0 * 1024 + 1 * p.val = _; rw [h0]; simp
  | ⟨1, _⟩ => show win0_6.index t 1 * 1024 + 1 * q.val = _; rw [h1]; simp

theorem blk_7 (c : Dev nD) (t : Fin cfg0.N) (p : Fin 1024) (q : Fin 1024) :
    (iblk m c 7 t : S1024x1024.Idx → EReal) (ix2 p q) = a6 m c (ix2 p q) := by
  obtain ⟨h0, h1⟩ := idx_7 t
  show (V m c main_v2 : FVec Ideal S1024x1024 .bf16) ((win0_7.rect t).emb (ix2 p q)) = _
  rw [V_2]
  refine congrArg (a6 m c) (funext fun a => Fin.ext ?_)
  match a with
  | ⟨0, _⟩ => show win0_7.index t 0 * 1024 + 1 * p.val = _; rw [h0]; simp
  | ⟨1, _⟩ => show win0_7.index t 1 * 1024 + 1 * q.val = _; rw [h1]; simp

theorem blk_8 (c : Dev nD) (t : Fin cfg0.N) (p : Fin 2) (q : Fin 1024) :
    (iblk m c 8 t : S2x1024.Idx → EReal) (ix2 p q) = a7 m c (ix2 p q) := by
  obtain ⟨h0, h1⟩ := idx_8 t
  show (V m c main_arg7 : FVec Ideal S2x1024 .f32) ((win0_8.rect t).emb (ix2 p q)) = _
  rw [V_a7]
  refine congrArg (a7 m c) (funext fun a => Fin.ext ?_)
  match a with
  | ⟨0, _⟩ => show win0_8.index t 0 * 2 + 1 * p.val = _; rw [h0]; simp
  | ⟨1, _⟩ => show win0_8.index t 1 * 1024 + 1 * q.val = _; rw [h1]; simp

/-! ## One tile -/

/-- A mixer's output times its matrix, -/
def oa (c : Dev nD) (i : Fin 8192) (q : Fin 1024) : EReal := ∑ k : Fin 1024, a2 m c (ix2 i k) * a4 m c (ix2 k q)
def ob (c : Dev nD) (i : Fin 8192) (q : Fin 1024) : EReal := ∑ k : Fin 1024, a3 m c (ix2 i k) * a5 m c (ix2 k q)
/-- its gate, -/
def sg (c : Dev nD) (j : Fin 2) (i : Fin 8192) (q : Fin 1024) : EReal := Ideal.div 1 (1 + Ideal.exp (-(a1 m c (ix2 i (gcol j q)) + a7 m c (ix2 j q))))
/-- the gated sum, -/
def mg (c : Dev nD) (i : Fin 8192) (q : Fin 1024) : EReal := sg m c 0 i q * oa m c i q + sg m c 1 i q * ob m c i q
/-- and the new stream. -/
def xo (c : Dev nD) (i : Fin 8192) (q : Fin 1024) : EReal := a0 m c (ix2 i q) + ∑ k : Fin 1024, mg m c i k * a6 m c (ix2 k q)

section Tile

variable (x0 : FVec Ideal S512x1024 .f32) (x1 x2 x3 x4 : FVec Ideal S512x1024 .bf16) (x5 x6 x7 : FVec Ideal S1024x1024 .bf16) (x8 : FVec Ideal S2x1024 .f32)

theorem ld_512 (x : Vec Ideal S512x1024 .f32) (p : Fin 512) (q : Fin 1024) : View.ld x r0_0 (ix2 p q) = x (ix2 p q) :=
  congrArg x (funext fun a => Fin.ext (by match a with | ⟨0, _⟩ => (show 0 + 1 * p.val = p.val; omega) | ⟨1, _⟩ => (show 0 + 1 * q.val = q.val; omega)))
theorem ld_512b (x : Vec Ideal S512x1024 .bf16) (p : Fin 512) (q : Fin 1024) : View.ld x r0_0 (ix2 p q) = x (ix2 p q) :=
  congrArg x (funext fun a => Fin.ext (by match a with | ⟨0, _⟩ => (show 0 + 1 * p.val = p.val; omega) | ⟨1, _⟩ => (show 0 + 1 * q.val = q.val; omega)))
theorem ld_1024 (x : Vec Ideal S1024x1024 .bf16) (p : Fin 1024) (q : Fin 1024) : View.ld x r0_1 (ix2 p q) = x (ix2 p q) :=
  congrArg x (funext fun a => Fin.ext (by match a with | ⟨0, _⟩ => (show 0 + 1 * p.val = p.val; omega) | ⟨1, _⟩ => (show 0 + 1 * q.val = q.val; omega)))
theorem ld_r2 (x : Vec Ideal S2x1024 .f32) (q : Fin 1024) : View.ld x r0_2 (ix2 0 q) = x (ix2 0 q) :=
  congrArg x (funext fun a => Fin.ext (by match a with | ⟨0, _⟩ => rfl | ⟨1, _⟩ => (show 0 + 1 * q.val = q.val; omega)))
theorem ld_r3 (x : Vec Ideal S2x1024 .f32) (q : Fin 1024) : View.ld x r0_3 (ix2 0 q) = x (ix2 1 q) :=
  congrArg x (funext fun a => Fin.ext (by match a with | ⟨0, _⟩ => rfl | ⟨1, _⟩ => (show 0 + 1 * q.val = q.val; omega)))

theorem canon_f (w : Vec Ideal S512x1024 .f32) (p : Fin 512) (q : Fin 1024) : View.canon (Val := Elt Ideal) (e := .f32) [⟨r0_0, w⟩] (ix2 p q : S512x1024.Idx) = w (ix2 p q) := by
  refine Eq.trans (congrArg _ ?_) (View.canon_cons_emb (Val := Elt Ideal) (e := .f32) r0_0 w [] (ix2 p q))
  exact (funext fun a => Fin.ext (by match a with | ⟨0, _⟩ => (show p.val = 0 + 1 * p.val; omega) | ⟨1, _⟩ => (show q.val = 0 + 1 * q.val; omega)))
theorem canon_b (w : Vec Ideal S512x1024 .bf16) (p : Fin 512) (q : Fin 1024) : View.canon (Val := Elt Ideal) (e := .bf16) [⟨r0_0, w⟩] (ix2 p q : S512x1024.Idx) = w (ix2 p q) := by
  refine Eq.trans (congrArg _ ?_) (View.canon_cons_emb (Val := Elt Ideal) (e := .bf16) r0_0 w [] (ix2 p q))
  exact (funext fun a => Fin.ext (by match a with | ⟨0, _⟩ => (show p.val = 0 + 1 * p.val; omega) | ⟨1, _⟩ => (show q.val = 0 + 1 * q.val; omega)))

theorem p5 (u : FVec Ideal S512x1024 .bf16) (v : FVec Ideal S1024x1024 .bf16) (p : Fin 512) (q : Fin 1024) :
    k0_pay5 (F := Ideal) u v (ix2 p q) = ∑ k : Fin 1024, (u (ix2 p k) * v (ix2 k q) : EReal) := by
  pointwise [k0_pay5]
theorem p6 (u : FVec Ideal S512x1024 .bf16) (v : FVec Ideal S1024x1024 .bf16) (p : Fin 512) (q : Fin 1024) :
    k0_pay6 (F := Ideal) u v (ix2 p q) = ∑ k : Fin 1024, (u (ix2 p k) * v (ix2 k q) : EReal) := by
  pointwise [k0_pay6]
theorem p7 (u : FVec Ideal S512x1024 .bf16) (v : FVec Ideal S1x1024 .f32) (p : Fin 512) (q : Fin 1024) :
    k0_pay7 (F := Ideal) u v (ix2 p q) = (Ideal.div 1 (1 + Ideal.exp (-(u (ix2 p q) + v (ix2 0 q)))) : EReal) := by
  pointwise [k0_pay7]; simp only [zero_sub]
theorem p8 (u : FVec Ideal S512x1024 .bf16) (v : FVec Ideal S1x1024 .f32) (p : Fin 512) (q : Fin 1024) :
    k0_pay8 (F := Ideal) u v (ix2 p q) = (1 + Ideal.exp (-(u (ix2 p q) + v (ix2 0 q))) : EReal) := by
  pointwise [k0_pay8]; simp only [zero_sub]
theorem p1 (v4 v9 v22 v33 : FVec Ideal S512x1024 .f32) (p : Fin 512) (q : Fin 1024) :
    k0_pay1 (F := Ideal) v4 v9 v22 v33 k0_pay9 (ix2 p q) = (v22 (ix2 p q) * v4 (ix2 p q) + Ideal.div 1 (v33 (ix2 p q)) * v9 (ix2 p q) : EReal) := by
  pointwise [k0_pay1, k0_pay9]
theorem p4 (v4 v9 v22 v33 v45 : FVec Ideal S512x1024 .f32) (v46 : FVec Ideal S1024x1024 .bf16) (p : Fin 512) (q : Fin 1024) :
    k0_pay4 (F := Ideal) v4 v9 v22 v33 k0_pay9 v45 v46 (ix2 p q) = (v45 (ix2 p q) + ∑ k : Fin 1024, k0_pay1 (F := Ideal) v4 v9 v22 v33 k0_pay9 (ix2 p k) * v46 (ix2 k q) : EReal) := by
  generalize hk : k0_pay1 (F := Ideal) v4 v9 v22 v33 k0_pay9 = z
  unfold k0_pay4
  rw [hk]
  pointwise

end Tile

variable (c : Dev nD) (t : Fin cfg0.N) (p : Fin 512) (q : Fin 1024)

/-- Point `t`'s blocks of the four results. -/
theorem tile_9 : (out0_9 (F := Ideal) (iblk m c 0 t) (iblk m c 1 t) (iblk m c 2 t) (iblk m c 3 t) (iblk m c 4 t) (iblk m c 5 t) (iblk m c 6 t) (iblk m c 7 t) (iblk m c 8 t) : S512x1024.Idx → EReal) (ix2 p q) = oa m c (row t p) q := by
  unfold out0_9 k0_pay10
  refine (canon_b _ p q).trans ?_
  refine (p5 _ _ p q).trans (Finset.sum_congr rfl fun k _ => ?_)
  rw [ld_512b, ld_1024, blk_3, blk_5]
theorem tile_10 : (out0_10 (F := Ideal) (iblk m c 0 t) (iblk m c 1 t) (iblk m c 2 t) (iblk m c 3 t) (iblk m c 4 t) (iblk m c 5 t) (iblk m c 6 t) (iblk m c 7 t) (iblk m c 8 t) : S512x1024.Idx → EReal) (ix2 p q) = ob m c (row t p) q := by
  unfold out0_10 k0_pay11
  refine (canon_b _ p q).trans ?_
  refine (p6 _ _ p q).trans (Finset.sum_congr rfl fun k _ => ?_)
  rw [ld_512b, ld_1024, blk_4, blk_6]

theorem mg_eq (q : Fin 1024) : k0_pay1 (F := Ideal) (k0_pay5 (View.ld (iblk m c 3 t) r0_0) (View.ld (iblk m c 5 t) r0_1)) (k0_pay6 (View.ld (iblk m c 4 t) r0_0) (View.ld (iblk m c 6 t) r0_1)) (k0_pay7 (View.ld (iblk m c 1 t) r0_0) (View.ld (iblk m c 8 t) r0_2)) (k0_pay8 (View.ld (iblk m c 2 t) r0_0) (View.ld (iblk m c 8 t) r0_3)) k0_pay9 (ix2 p q) = mg m c (row t p) q := by
  rw [p1, p5, p6, p7, p8, ld_512b, ld_512b, ld_r2, ld_r3, blk_1, blk_2, blk_8, blk_8]
  have h5 : ∀ k : Fin 1024, _ := fun k => (congrArg₂ (fun x y : EReal => x * y) ((ld_512b (iblk m c 3 t) p k).trans (blk_3 m c t p k)) ((ld_1024 (iblk m c 5 t) k q).trans (blk_5 m c t k q)))
  have h6 : ∀ k : Fin 1024, _ := fun k => (congrArg₂ (fun x y : EReal => x * y) ((ld_512b (iblk m c 4 t) p k).trans (blk_4 m c t p k)) ((ld_1024 (iblk m c 6 t) k q).trans (blk_6 m c t k q)))
  unfold mg sg oa ob
  exact congrArg₂ (fun x y : EReal => x + y) (congrArg (fun y : EReal => _ * y) (Finset.sum_congr rfl fun k _ => h5 k)) (congrArg (fun y : EReal => _ * y) (Finset.sum_congr rfl fun k _ => h6 k))

theorem tile_11 : (out0_11 (F := Ideal) (iblk m c 0 t) (iblk m c 1 t) (iblk m c 2 t) (iblk m c 3 t) (iblk m c 4 t) (iblk m c 5 t) (iblk m c 6 t) (iblk m c 7 t) (iblk m c 8 t) : S512x1024.Idx → EReal) (ix2 p q) = mg m c (row t p) q := by
  unfold out0_11 k0_pay10 k0_pay11 k0_pay12 k0_pay13 k0_pay14
  exact (canon_b _ p q).trans (mg_eq m c t p q)

theorem tile_12 : (out0_12 (F := Ideal) (iblk m c 0 t) (iblk m c 1 t) (iblk m c 2 t) (iblk m c 3 t) (iblk m c 4 t) (iblk m c 5 t) (iblk m c 6 t) (iblk m c 7 t) (iblk m c 8 t) : S512x1024.Idx → EReal) (ix2 p q) = xo m c (row t p) q := by
  unfold out0_12 k0_pay10 k0_pay11 k0_pay12 k0_pay13 k0_pay14
  refine (canon_f _ p q).trans ((p4 _ _ _ _ _ _ p q).trans ?_)
  unfold xo
  rw [ld_512, blk_0]
  exact congrArg (fun y : EReal => _ + y) (Finset.sum_congr rfl fun k _ => congrArg₂ (fun x y : EReal => x * y) (mg_eq m c t p k) ((ld_1024 (iblk m c 7 t) k q).trans (blk_7 m c t k q)))

/-! ## The arrays after the run -/

/-- The index inside a window's array of a block's index, -/

theorem emb_9 (t : Fin cfg0.N) (p : Fin 512) (q : Fin 1024) : (win0_9.rect t).emb (ix2 p q) = (ix2 (row t p) q : S8192x1024.Idx) := by
  obtain ⟨h0, h1⟩ := idx_9 t
  funext a; apply Fin.ext
  match a with
  | ⟨0, _⟩ => show win0_9.index t 0 * 512 + 1 * p.val = _; rw [h0]; simp
  | ⟨1, _⟩ => show win0_9.index t 1 * 1024 + 1 * q.val = _; rw [h1]; simp

def g9 (c : Dev nD) : FVec Ideal S8192x1024 .bf16 := fun i => oa m c (i 0) (i 1)

theorem cover_9 (i : S8192x1024.Idx) : ∃ t : Fin cfg0.N, i ∈ ((win0_9.rect t)).set := by
  have h0 : (i 0).val < 8192 := (i 0).isLt
  have hN : cfg0.N = 16 := N_0
  let t : Fin cfg0.N := ⟨(i 0).val / 512, by omega⟩
  have e : i = (win0_9.rect t).emb (ix2 ⟨(i 0).val % 512, by omega⟩ (i 1)) := by
    refine Eq.trans ?_ (emb_9 t ⟨(i 0).val % 512, by omega⟩ (i 1)).symm; funext a; apply Fin.ext
    match a with
    | ⟨0, _⟩ => show (i 0).val = (i 0).val / 512 * 512 + (i 0).val % 512; omega
    | ⟨1, _⟩ => rfl
  exact ⟨t, e ▸ (win0_9.rect t).idx_mem _⟩

theorem flushed_9 (c : Dev nD) (t : Fin cfg0.N) : (dats m 0 c).flushed 9 t = (win0_9.blk t).view.read (Elt Ideal) (g9 m c) := by
  rw [Value.flushed9]
  funext i
  show (out0_9 (F := Ideal) (iblk m c 0 t) (iblk m c 1 t) (iblk m c 2 t) (iblk m c 3 t) (iblk m c 4 t) (iblk m c 5 t) (iblk m c 6 t) (iblk m c 7 t) (iblk m c 8 t) : S512x1024.Idx → EReal) i = g9 m c ((win0_9.rect t).emb i)
  obtain ⟨p, q, rfl⟩ : ∃ (p : Fin 512) (q : Fin 1024), i = (ix2 p q : S512x1024.Idx) := ⟨i 0, i 1, eq_ix2 i⟩
  rw [show (win0_9.rect t).emb (ix2 p q) = _ from emb_9 t p q, tile_9]; rfl

theorem final_9 (c : Dev nD) : (dats m 0 c).arrAt 9 cfg0.N = g9 m c :=
  (dats m 0 c).arrAt_eq_of_cover 9 (g9 m c) (fun t _ => flushed_9 m c t) fun i => (cover_9 i).imp fun t h => ⟨flush0_9 t, by
    show i ∈ ((View.whole main_v6_0).slice (win0_9.rect t)).set; rw [View.set_slice_whole]; exact h⟩

theorem emb_10 (t : Fin cfg0.N) (p : Fin 512) (q : Fin 1024) : (win0_10.rect t).emb (ix2 p q) = (ix2 (row t p) q : S8192x1024.Idx) := by
  obtain ⟨h0, h1⟩ := idx_10 t
  funext a; apply Fin.ext
  match a with
  | ⟨0, _⟩ => show win0_10.index t 0 * 512 + 1 * p.val = _; rw [h0]; simp
  | ⟨1, _⟩ => show win0_10.index t 1 * 1024 + 1 * q.val = _; rw [h1]; simp

def g10 (c : Dev nD) : FVec Ideal S8192x1024 .bf16 := fun i => ob m c (i 0) (i 1)

theorem cover_10 (i : S8192x1024.Idx) : ∃ t : Fin cfg0.N, i ∈ ((win0_10.rect t)).set := by
  have h0 : (i 0).val < 8192 := (i 0).isLt
  have hN : cfg0.N = 16 := N_0
  let t : Fin cfg0.N := ⟨(i 0).val / 512, by omega⟩
  have e : i = (win0_10.rect t).emb (ix2 ⟨(i 0).val % 512, by omega⟩ (i 1)) := by
    refine Eq.trans ?_ (emb_10 t ⟨(i 0).val % 512, by omega⟩ (i 1)).symm; funext a; apply Fin.ext
    match a with
    | ⟨0, _⟩ => show (i 0).val = (i 0).val / 512 * 512 + (i 0).val % 512; omega
    | ⟨1, _⟩ => rfl
  exact ⟨t, e ▸ (win0_10.rect t).idx_mem _⟩

theorem flushed_10 (c : Dev nD) (t : Fin cfg0.N) : (dats m 0 c).flushed 10 t = (win0_10.blk t).view.read (Elt Ideal) (g10 m c) := by
  rw [Value.flushed10]
  funext i
  show (out0_10 (F := Ideal) (iblk m c 0 t) (iblk m c 1 t) (iblk m c 2 t) (iblk m c 3 t) (iblk m c 4 t) (iblk m c 5 t) (iblk m c 6 t) (iblk m c 7 t) (iblk m c 8 t) : S512x1024.Idx → EReal) i = g10 m c ((win0_10.rect t).emb i)
  obtain ⟨p, q, rfl⟩ : ∃ (p : Fin 512) (q : Fin 1024), i = (ix2 p q : S512x1024.Idx) := ⟨i 0, i 1, eq_ix2 i⟩
  rw [show (win0_10.rect t).emb (ix2 p q) = _ from emb_10 t p q, tile_10]; rfl

theorem final_10 (c : Dev nD) : (dats m 0 c).arrAt 10 cfg0.N = g10 m c :=
  (dats m 0 c).arrAt_eq_of_cover 10 (g10 m c) (fun t _ => flushed_10 m c t) fun i => (cover_10 i).imp fun t h => ⟨flush0_10 t, by
    show i ∈ ((View.whole main_v6_1).slice (win0_10.rect t)).set; rw [View.set_slice_whole]; exact h⟩

theorem emb_11 (t : Fin cfg0.N) (p : Fin 512) (q : Fin 1024) : (win0_11.rect t).emb (ix2 p q) = (ix2 (row t p) q : S8192x1024.Idx) := by
  obtain ⟨h0, h1⟩ := idx_11 t
  funext a; apply Fin.ext
  match a with
  | ⟨0, _⟩ => show win0_11.index t 0 * 512 + 1 * p.val = _; rw [h0]; simp
  | ⟨1, _⟩ => show win0_11.index t 1 * 1024 + 1 * q.val = _; rw [h1]; simp

def g11 (c : Dev nD) : FVec Ideal S8192x1024 .bf16 := fun i => mg m c (i 0) (i 1)

theorem cover_11 (i : S8192x1024.Idx) : ∃ t : Fin cfg0.N, i ∈ ((win0_11.rect t)).set := by
  have h0 : (i 0).val < 8192 := (i 0).isLt
  have hN : cfg0.N = 16 := N_0
  let t : Fin cfg0.N := ⟨(i 0).val / 512, by omega⟩
  have e : i = (win0_11.rect t).emb (ix2 ⟨(i 0).val % 512, by omega⟩ (i 1)) := by
    refine Eq.trans ?_ (emb_11 t ⟨(i 0).val % 512, by omega⟩ (i 1)).symm; funext a; apply Fin.ext
    match a with
    | ⟨0, _⟩ => show (i 0).val = (i 0).val / 512 * 512 + (i 0).val % 512; omega
    | ⟨1, _⟩ => rfl
  exact ⟨t, e ▸ (win0_11.rect t).idx_mem _⟩

theorem flushed_11 (c : Dev nD) (t : Fin cfg0.N) : (dats m 0 c).flushed 11 t = (win0_11.blk t).view.read (Elt Ideal) (g11 m c) := by
  rw [Value.flushed11]
  funext i
  show (out0_11 (F := Ideal) (iblk m c 0 t) (iblk m c 1 t) (iblk m c 2 t) (iblk m c 3 t) (iblk m c 4 t) (iblk m c 5 t) (iblk m c 6 t) (iblk m c 7 t) (iblk m c 8 t) : S512x1024.Idx → EReal) i = g11 m c ((win0_11.rect t).emb i)
  obtain ⟨p, q, rfl⟩ : ∃ (p : Fin 512) (q : Fin 1024), i = (ix2 p q : S512x1024.Idx) := ⟨i 0, i 1, eq_ix2 i⟩
  rw [show (win0_11.rect t).emb (ix2 p q) = _ from emb_11 t p q, tile_11]; rfl

theorem final_11 (c : Dev nD) : (dats m 0 c).arrAt 11 cfg0.N = g11 m c :=
  (dats m 0 c).arrAt_eq_of_cover 11 (g11 m c) (fun t _ => flushed_11 m c t) fun i => (cover_11 i).imp fun t h => ⟨flush0_11 t, by
    show i ∈ ((View.whole main_v6_2).slice (win0_11.rect t)).set; rw [View.set_slice_whole]; exact h⟩

theorem emb_12 (t : Fin cfg0.N) (p : Fin 512) (q : Fin 1024) : (win0_12.rect t).emb (ix2 p q) = (ix2 (row t p) q : S8192x1024.Idx) := by
  obtain ⟨h0, h1⟩ := idx_12 t
  funext a; apply Fin.ext
  match a with
  | ⟨0, _⟩ => show win0_12.index t 0 * 512 + 1 * p.val = _; rw [h0]; simp
  | ⟨1, _⟩ => show win0_12.index t 1 * 1024 + 1 * q.val = _; rw [h1]; simp

def g12 (c : Dev nD) : FVec Ideal S8192x1024 .f32 := fun i => xo m c (i 0) (i 1)

theorem cover_12 (i : S8192x1024.Idx) : ∃ t : Fin cfg0.N, i ∈ ((win0_12.rect t)).set := by
  have h0 : (i 0).val < 8192 := (i 0).isLt
  have hN : cfg0.N = 16 := N_0
  let t : Fin cfg0.N := ⟨(i 0).val / 512, by omega⟩
  have e : i = (win0_12.rect t).emb (ix2 ⟨(i 0).val % 512, by omega⟩ (i 1)) := by
    refine Eq.trans ?_ (emb_12 t ⟨(i 0).val % 512, by omega⟩ (i 1)).symm; funext a; apply Fin.ext
    match a with
    | ⟨0, _⟩ => show (i 0).val = (i 0).val / 512 * 512 + (i 0).val % 512; omega
    | ⟨1, _⟩ => rfl
  exact ⟨t, e ▸ (win0_12.rect t).idx_mem _⟩

theorem flushed_12 (c : Dev nD) (t : Fin cfg0.N) : (dats m 0 c).flushed 12 t = (win0_12.blk t).view.read (Elt Ideal) (g12 m c) := by
  rw [Value.flushed12]
  funext i
  show (out0_12 (F := Ideal) (iblk m c 0 t) (iblk m c 1 t) (iblk m c 2 t) (iblk m c 3 t) (iblk m c 4 t) (iblk m c 5 t) (iblk m c 6 t) (iblk m c 7 t) (iblk m c 8 t) : S512x1024.Idx → EReal) i = g12 m c ((win0_12.rect t).emb i)
  obtain ⟨p, q, rfl⟩ : ∃ (p : Fin 512) (q : Fin 1024), i = (ix2 p q : S512x1024.Idx) := ⟨i 0, i 1, eq_ix2 i⟩
  rw [show (win0_12.rect t).emb (ix2 p q) = _ from emb_12 t p q, tile_12]; rfl

theorem final_12 (c : Dev nD) : (dats m 0 c).arrAt 12 cfg0.N = g12 m c :=
  (dats m 0 c).arrAt_eq_of_cover 12 (g12 m c) (fun t _ => flushed_12 m c t) fun i => (cover_12 i).imp fun t h => ⟨flush0_12 t, by
    show i ∈ ((View.whole main_v6_3).slice (win0_12.rect t)).set; rw [View.set_slice_whole]; exact h⟩

/-- The merge's forward call computes reference.py's lines, at every argument. -/
theorem algebraic_mergef : Cert.algebraic_MergeFIdeal_MergeFRIdeal (hMergeFIdeal := Cert.MergeFIdeal.Gen.facts) (hMergeFRIdeal := Cert.MergeFRIdeal.Gen.facts) := by
  intro m g m' g' hpre hag
  refine ⟨g9 m, g10 m, g11 m, g12 m, ?_, ?_⟩
  · refine (θ_run Cert.MergeFIdeal.defs _ _).mono (fun r h c => ?_) (Value.run_blocks (F := Ideal) m g)
    exact ⟨(h c).1.trans (final_9 m c), (h c).2.1.trans (final_10 m c), (h c).2.2.1.trans (final_11 m c), (h c).2.2.2.1.trans (final_12 m c), (h c).2.2.2.2⟩
  · refine (θ_run Cert.MergeFRIdeal.defs _ _).mono (fun r h c => ?_) (Cert.MergeFRIdeal.Value.run (F := Ideal) m' g')
    obtain ⟨e0, e1, e2, e3, e4, e5, e6, e7⟩ := hag c
    obtain ⟨h0, h1, h2, h3, h4⟩ := h c
    refine ⟨h0.trans ?_, h1.trans ?_, h2.trans ?_, h3.trans ?_, h4⟩
    all_goals clear h0 h1 h2 h3 h4 h hag hpre
    · rw [e2, e4]
      funext i; rw [eq_ix2 i]
      generalize i 0 = p, i 1 = q
      change Fin 8192 at p
      change Fin 1024 at q
      show _ = oa m c p q
      unfold oa
      pointwise
    · rw [e3, e5]
      funext i; rw [eq_ix2 i]
      generalize i 0 = p, i 1 = q
      change Fin 8192 at p
      change Fin 1024 at q
      show _ = ob m c p q
      unfold ob
      pointwise
    · rw [e1, e2, e3, e4, e5, e7]
      funext i; rw [eq_ix2 i]
      generalize i 0 = p, i 1 = q
      change Fin 8192 at p
      change Fin 1024 at q
      show _ = mg m c p q
      unfold mg sg oa ob
      pointwise
      rfl
    · rw [e0, e1, e2, e3, e4, e5, e6, e7]
      funext i; rw [eq_ix2 i]
      generalize i 0 = p, i 1 = q
      change Fin 8192 at p
      change Fin 1024 at q
      show _ = xo m c p q
      unfold xo mg sg oa ob
      pointwise
      rfl

end Cert.MergeFIdeal.Own
-- ==== Proof.MergeBP.Value.lean ====
module

public import proofs.«01_k».proof.Proof.Gen.MergeBIdeal.Value
public import proofs.«01_k».proof.Proof.Gen.MergeBRIdeal.Run
public import proofs.«01_k».proof.Proof.Gen.MergeB.Frame
public import Idealize.ShloMosaic.Lib.Pointwise
public import Idealize.ShloMosaic.Lib.VecWindow
public import proofs.«01_k».proof.Defs
public import proofs.«01_k».proof.Proof.Real
public import proofs.«01_k».proof.Proof.Sums
public import proofs.«01_k».proof.Proof.Load

@[expose] public section

set_option maxRecDepth 16384

noncomputable section

open Idealize.ShloMosaic Idealize.ShloMosaic.TcCoe Idealize.SL.Sem Idealize.ShloMosaic.Tactic
open Idealize.ShloMosaic.Pipeline (Dat)

namespace Cert.MergeBIdeal.Own

open Cert.MergeBIdeal Cert.MergeBIdeal.Gen Cert.Own

/-! Short names for the bounds used below. -/
abbrev m0 := inb_S512x1024_S512x1024_0_0
abbrev m1 := inb_S1024x1024_S1024x1024_0_0
abbrev m2 := inb_S2x8x1024_S1x8x1024_1_0_0
abbrev m3 := inb_S2x8x1024_S1x8x1024_0_0_0
abbrev m4 := inb_S2x1024_S1x1024_1_0
abbrev m5 := inb_S512x2048_S512x1024_0_1024

/-- A load of a part of a buffer reads that part of its contents. -/
theorem load_part {F : FTy → Type} [FloatOps F] {s : Shape} {e : EltTy} {κ : Kind} {r : Space} (v : Memref sig κ r s e) (hv : v.IsWhole) (x : Vec F s e) (b : Rect s) :
    v.view.readAt (Elt F) b.toLoadRect (hv.unread x) = View.ld x b :=
  funext fun j => congrFun (hv.read_unread x) (b.idx j)

theorem covld {F : FTy → Type} [FloatOps F] {s : Shape} {e : EltTy} {κ : Kind} {r : Space} (v : Memref sig κ r s e) (L : List (View.Piece (Elt F) s e)) (b : Rect s) : v.view.readCov L b.toLoadRect = View.ld (View.canon L) b :=
  View.readCov_eq_canon' _ _ _

theorem ld_id {F : FTy → Type} [FloatOps F] {s : Shape} {e : EltTy} (w : Vec F s e) {off : Fin s.rank → ℕ} (inb : ∀ a, off a + s.size a ≤ s.size a) :
    View.canon (Val := Elt F) (e := e) [⟨Rect.unit (s := s) off s.size inb, w⟩] = w := by
  have ho : ∀ a, off a = 0 := fun a => by have := inb a; omega
  funext y
  have e1 := View.canon_cons_emb (Val := Elt F) (e := e) (Rect.unit (s := s) off s.size inb) w [] y
  refine Eq.trans (congrArg _ (funext fun a => Fin.ext ?_)) e1
  show (y a).val = off a + 1 * (y a).val
  rw [ho a]; omega

section Cases

variable {F : FTy → Type} [FloatOps F] (i : grid0.Coords) (c : Dev nD) (q1 : Memref sig .tc .vmem S512x1024 .f32) (z1 : q1.IsWhole) (q2 : Memref sig .tc .vmem S512x1024 .bf16) (z2 : q2.IsWhole) (q3 : Memref sig .tc .vmem S512x1024 .bf16) (z3 : q3.IsWhole) (q4 : Memref sig .tc .vmem S512x1024 .bf16) (z4 : q4.IsWhole) (q5 : Memref sig .tc .vmem S512x1024 .bf16) (z5 : q5.IsWhole) (q6 : Memref sig .tc .vmem S1024x1024 .bf16) (z6 : q6.IsWhole) (q7 : Memref sig .tc .vmem S1024x1024 .bf16) (z7 : q7.IsWhole) (q8 : Memref sig .tc .vmem S1024x1024 .bf16) (z8 : q8.IsWhole) (q9 : Memref sig .tc .vmem S2x1024 .f32) (z9 : q9.IsWhole) (q10 : Memref sig .tc .vmem S512x1024 .bf16) (z10 : q10.IsWhole) (q11 : Memref sig .tc .vmem S512x1024 .bf16) (z11 : q11.IsWhole) (q12 : Memref sig .tc .vmem S512x1024 .bf16) (z12 : q12.IsWhole) (q13 : Memref sig .tc .vmem S512x1024 .bf16) (z13 : q13.IsWhole) (q14 : Memref sig .tc .vmem S512x2048 .bf16) (z14 : q14.IsWhole) (q15 : Memref sig .tc .vmem S512x1024 .bf16) (z15 : q15.IsWhole) (q16 : Memref sig .tc .vmem S2x1024 .f32) (z16 : q16.IsWhole) (q17 : Memref sig .tc .vmem S2x8x1024 .f32) (z17 : q17.IsWhole)
  (x0 : Vec F S512x1024 .f32) (x1 : Vec F S512x1024 .bf16) (x2 : Vec F S512x1024 .bf16) (x3 : Vec F S512x1024 .bf16) (x4 : Vec F S512x1024 .bf16) (x5 : Vec F S1024x1024 .bf16) (x6 : Vec F S1024x1024 .bf16) (x7 : Vec F S1024x1024 .bf16) (x8 : Vec F S2x1024 .f32) (xs0 : Vec F S2x8x1024 .f32)

/-- The cotangent of the gated sum, -/
abbrev dm (x0 : Vec F S512x1024 .f32) (x7 : Vec F S1024x1024 .bf16) : FVec F S512x1024 .f32 := k0_pay8 x0 x7
/-- the first gate, -/
abbrev ga (x1 : Vec F S512x1024 .bf16) (x8 : Vec F S2x1024 .f32) : FVec F S512x1024 .f32 := k0_pay9 x1 (View.ld x8 (Rect.unit (s := S2x1024) ![0, 0] S1x1024.size inb_S2x1024_S1x1024_0_0))
/-- and the second one's denominator. -/
abbrev gb (x2 : Vec F S512x1024 .bf16) (x8 : Vec F S2x1024 .f32) : FVec F S512x1024 .f32 := k0_pay10 x2 (View.ld x8 (Rect.unit (s := S2x1024) ![1, 0] S1x1024.size m4))

/-- The two halves of the gates' cotangents, side by side. -/
abbrev dgl (x0 : Vec F S512x1024 .f32) (x1 x2 x3 x4 : Vec F S512x1024 .bf16) (x7 : Vec F S1024x1024 .bf16) (x8 : Vec F S2x1024 .f32) : Vec F S512x2048 .bf16 :=
  View.canon [⟨Rect.unit (s := S512x2048) ![0, 1024] S512x1024.size m5, k0_pay18 (dm x0 x7) (gb x2 x8) k0_pay11 x4⟩, ⟨Rect.unit (s := S512x2048) ![0, 0] S512x1024.size inb_S512x2048_S512x1024_0_0, k0_pay17 (dm x0 x7) (ga x1 x8) x3⟩]

/-- A slab of the sums, -/
abbrev s0 (s : Vec F S2x8x1024 .f32) : Vec F S1x8x1024 .f32 := View.ld s (Rect.unit (s := S2x8x1024) ![0, 0, 0] S1x8x1024.size m3)
abbrev s1 (s : Vec F S2x8x1024 .f32) : Vec F S1x8x1024 .f32 := View.ld s (Rect.unit (s := S2x8x1024) ![1, 0, 0] S1x8x1024.size m2)
/-- and the sums after a tile is added. -/
abbrev addt (s : Vec F S2x8x1024 .f32) (x0 : Vec F S512x1024 .f32) (x1 x2 x3 x4 : Vec F S512x1024 .bf16) (x7 : Vec F S1024x1024 .bf16) (x8 : Vec F S2x1024 .f32) : Vec F S2x8x1024 .f32 :=
  View.canon [⟨Rect.unit (s := S2x8x1024) ![1, 0, 0] S1x8x1024.size m2, k0_pay1 (k0_pay16 (dm x0 x7) (gb x2 x8) k0_pay11 x4) (s1 s)⟩, ⟨Rect.unit (s := S2x8x1024) ![0, 0, 0] S1x8x1024.size m3, k0_pay19 (dm x0 x7) (ga x1 x8) x3 (s0 s)⟩]

/-- The bias' gradient from the sums. -/
abbrev rows (s : Vec F S2x8x1024 .f32) : Vec F S2x1024 .f32 :=
  View.canon [⟨Rect.unit (s := S2x1024) ![1, 0] S1x1024.size m4, k0_pay5 (s1 s)⟩, ⟨Rect.unit (s := S2x1024) ![0, 0] S1x1024.size inb_S2x1024_S1x1024_0_0, k0_pay4 (s0 s)⟩]

theorem out_A_9 (hc0) (hc1) : out0_A_9 c i q1 z1 q2 z2 q3 z3 q4 z4 q5 z5 q6 z6 q7 z7 q8 z8 q9 z9 q10 z10 q11 z11 q12 z12 q13 z13 q14 z14 q15 z15 q16 z16 q17 z17 hc0 hc1 x0 x1 x2 x3 x4 x5 x6 x7 x8 = k0_pay2 (k0_pay13 (dm x0 x7) (ga x1 x8)) x5 := by
  unfold out0_A_9
  refine (View.read_writes_junk_eq_canon _ _).trans ?_
  change View.canon [⟨_, _⟩] = _
  sl_unfold_words; simp only [load q1 z1 x0 m0, load q2 z2 x1 m0, load q6 z6 x5 m1, load q8 z8 x7 m1, load_part q9 z9]
  exact ld_id _ _

theorem out_A_10 (hc0) (hc1) : out0_A_10 c i q1 z1 q2 z2 q3 z3 q4 z4 q5 z5 q6 z6 q7 z7 q8 z8 q9 z9 q10 z10 q11 z11 q12 z12 q13 z13 q14 z14 q15 z15 q16 z16 q17 z17 hc0 hc1 x0 x1 x2 x3 x4 x5 x6 x7 x8 = k0_pay3 (k0_pay14 (dm x0 x7) (gb x2 x8) k0_pay11) x6 := by
  unfold out0_A_10
  refine (View.read_writes_junk_eq_canon _ _).trans ?_
  change View.canon [⟨_, _⟩] = _
  sl_unfold_words; simp only [load q1 z1 x0 m0, load q3 z3 x2 m0, load q7 z7 x6 m1, load q8 z8 x7 m1, load_part q9 z9]
  exact ld_id _ _

theorem out_A_11 (hc0) (hc1) : out0_A_11 c i q1 z1 q2 z2 q3 z3 q4 z4 q5 z5 q6 z6 q7 z7 q8 z8 q9 z9 q10 z10 q11 z11 q12 z12 q13 z13 q14 z14 q15 z15 q16 z16 q17 z17 hc0 hc1 x0 x1 x2 x3 x4 x5 x6 x7 x8 = k0_pay13 (dm x0 x7) (ga x1 x8) := by
  unfold out0_A_11
  refine (View.read_writes_junk_eq_canon _ _).trans ?_
  change View.canon [⟨_, _⟩] = _
  sl_unfold_words; simp only [load q1 z1 x0 m0, load q2 z2 x1 m0, load q8 z8 x7 m1, load_part q9 z9]
  exact ld_id _ _

theorem out_A_12 (hc0) (hc1) : out0_A_12 c i q1 z1 q2 z2 q3 z3 q4 z4 q5 z5 q6 z6 q7 z7 q8 z8 q9 z9 q10 z10 q11 z11 q12 z12 q13 z13 q14 z14 q15 z15 q16 z16 q17 z17 hc0 hc1 x0 x1 x2 x3 x4 x5 x6 x7 x8 = k0_pay14 (dm x0 x7) (gb x2 x8) k0_pay11 := by
  unfold out0_A_12
  refine (View.read_writes_junk_eq_canon _ _).trans ?_
  change View.canon [⟨_, _⟩] = _
  sl_unfold_words; simp only [load q1 z1 x0 m0, load q3 z3 x2 m0, load q8 z8 x7 m1, load_part q9 z9]
  exact ld_id _ _

theorem out_A_13 (hc0) (hc1) : out0_A_13 c i q1 z1 q2 z2 q3 z3 q4 z4 q5 z5 q6 z6 q7 z7 q8 z8 q9 z9 q10 z10 q11 z11 q12 z12 q13 z13 q14 z14 q15 z15 q16 z16 q17 z17 hc0 hc1 x0 x1 x2 x3 x4 x5 x6 x7 x8 = dgl x0 x1 x2 x3 x4 x7 x8 := by
  unfold out0_A_13
  refine (View.read_writes_junk_eq_canon _ _).trans ?_
  change View.canon [⟨_, _⟩, ⟨_, _⟩] = _
  sl_unfold_words; simp only [load q1 z1 x0 m0, load q2 z2 x1 m0, load q3 z3 x2 m0, load q4 z4 x3 m0, load q5 z5 x4 m0, load q8 z8 x7 m1, load_part q9 z9]

theorem out_A_14 (hc0) (hc1) : out0_A_14 c i q1 z1 q2 z2 q3 z3 q4 z4 q5 z5 q6 z6 q7 z7 q8 z8 q9 z9 q10 z10 q11 z11 q12 z12 q13 z13 q14 z14 q15 z15 q16 z16 q17 z17 hc0 hc1 x0 x1 x2 x3 x4 x5 x6 x7 x8 = k0_pay7 x0 := by
  unfold out0_A_14
  refine (View.read_writes_junk_eq_canon _ _).trans ?_
  change View.canon [⟨_, _⟩] = _
  sl_unfold_words; simp only [load q1 z1 x0 m0]
  exact ld_id _ _

theorem out_B_9 (hc0) (hc1) : out0_B_9 c i q1 z1 q2 z2 q3 z3 q4 z4 q5 z5 q6 z6 q7 z7 q8 z8 q9 z9 q10 z10 q11 z11 q12 z12 q13 z13 q14 z14 q15 z15 q16 z16 q17 z17 hc0 hc1 x0 x1 x2 x3 x4 x5 x6 x7 x8 xs0 = k0_pay2 (k0_pay13 (dm x0 x7) (ga x1 x8)) x5 := by
  unfold out0_B_9
  refine (View.read_writes_junk_eq_canon _ _).trans ?_
  change View.canon [⟨_, _⟩] = _
  sl_unfold_words; simp only [load q1 z1 x0 m0, load q2 z2 x1 m0, load q6 z6 x5 m1, load q8 z8 x7 m1, load_part q9 z9]
  exact ld_id _ _

theorem out_B_10 (hc0) (hc1) : out0_B_10 c i q1 z1 q2 z2 q3 z3 q4 z4 q5 z5 q6 z6 q7 z7 q8 z8 q9 z9 q10 z10 q11 z11 q12 z12 q13 z13 q14 z14 q15 z15 q16 z16 q17 z17 hc0 hc1 x0 x1 x2 x3 x4 x5 x6 x7 x8 xs0 = k0_pay3 (k0_pay14 (dm x0 x7) (gb x2 x8) k0_pay11) x6 := by
  unfold out0_B_10
  refine (View.read_writes_junk_eq_canon _ _).trans ?_
  change View.canon [⟨_, _⟩] = _
  sl_unfold_words; simp only [load q1 z1 x0 m0, load q3 z3 x2 m0, load q7 z7 x6 m1, load q8 z8 x7 m1, load_part q9 z9]
  exact ld_id _ _

theorem out_B_11 (hc0) (hc1) : out0_B_11 c i q1 z1 q2 z2 q3 z3 q4 z4 q5 z5 q6 z6 q7 z7 q8 z8 q9 z9 q10 z10 q11 z11 q12 z12 q13 z13 q14 z14 q15 z15 q16 z16 q17 z17 hc0 hc1 x0 x1 x2 x3 x4 x5 x6 x7 x8 xs0 = k0_pay13 (dm x0 x7) (ga x1 x8) := by
  unfold out0_B_11
  refine (View.read_writes_junk_eq_canon _ _).trans ?_
  change View.canon [⟨_, _⟩] = _
  sl_unfold_words; simp only [load q1 z1 x0 m0, load q2 z2 x1 m0, load q8 z8 x7 m1, load_part q9 z9]
  exact ld_id _ _

theorem out_B_12 (hc0) (hc1) : out0_B_12 c i q1 z1 q2 z2 q3 z3 q4 z4 q5 z5 q6 z6 q7 z7 q8 z8 q9 z9 q10 z10 q11 z11 q12 z12 q13 z13 q14 z14 q15 z15 q16 z16 q17 z17 hc0 hc1 x0 x1 x2 x3 x4 x5 x6 x7 x8 xs0 = k0_pay14 (dm x0 x7) (gb x2 x8) k0_pay11 := by
  unfold out0_B_12
  refine (View.read_writes_junk_eq_canon _ _).trans ?_
  change View.canon [⟨_, _⟩] = _
  sl_unfold_words; simp only [load q1 z1 x0 m0, load q3 z3 x2 m0, load q8 z8 x7 m1, load_part q9 z9]
  exact ld_id _ _

theorem out_B_13 (hc0) (hc1) : out0_B_13 c i q1 z1 q2 z2 q3 z3 q4 z4 q5 z5 q6 z6 q7 z7 q8 z8 q9 z9 q10 z10 q11 z11 q12 z12 q13 z13 q14 z14 q15 z15 q16 z16 q17 z17 hc0 hc1 x0 x1 x2 x3 x4 x5 x6 x7 x8 xs0 = dgl x0 x1 x2 x3 x4 x7 x8 := by
  unfold out0_B_13
  refine (View.read_writes_junk_eq_canon _ _).trans ?_
  change View.canon [⟨_, _⟩, ⟨_, _⟩] = _
  sl_unfold_words; simp only [load q1 z1 x0 m0, load q2 z2 x1 m0, load q3 z3 x2 m0, load q4 z4 x3 m0, load q5 z5 x4 m0, load q8 z8 x7 m1, load_part q9 z9]

theorem out_B_14 (hc0) (hc1) : out0_B_14 c i q1 z1 q2 z2 q3 z3 q4 z4 q5 z5 q6 z6 q7 z7 q8 z8 q9 z9 q10 z10 q11 z11 q12 z12 q13 z13 q14 z14 q15 z15 q16 z16 q17 z17 hc0 hc1 x0 x1 x2 x3 x4 x5 x6 x7 x8 xs0 = k0_pay7 x0 := by
  unfold out0_B_14
  refine (View.read_writes_junk_eq_canon _ _).trans ?_
  change View.canon [⟨_, _⟩] = _
  sl_unfold_words; simp only [load q1 z1 x0 m0]
  exact ld_id _ _

theorem out_C_9 (hc0) (hc1) : out0_C_9 c i q1 z1 q2 z2 q3 z3 q4 z4 q5 z5 q6 z6 q7 z7 q8 z8 q9 z9 q10 z10 q11 z11 q12 z12 q13 z13 q14 z14 q15 z15 q16 z16 q17 z17 hc0 hc1 x0 x1 x2 x3 x4 x5 x6 x7 x8 xs0 = k0_pay2 (k0_pay13 (dm x0 x7) (ga x1 x8)) x5 := by
  unfold out0_C_9
  refine (View.read_writes_junk_eq_canon _ _).trans ?_
  change View.canon [⟨_, _⟩] = _
  sl_unfold_words; simp only [load q1 z1 x0 m0, load q2 z2 x1 m0, load q6 z6 x5 m1, load q8 z8 x7 m1, load_part q9 z9]
  exact ld_id _ _

theorem out_C_10 (hc0) (hc1) : out0_C_10 c i q1 z1 q2 z2 q3 z3 q4 z4 q5 z5 q6 z6 q7 z7 q8 z8 q9 z9 q10 z10 q11 z11 q12 z12 q13 z13 q14 z14 q15 z15 q16 z16 q17 z17 hc0 hc1 x0 x1 x2 x3 x4 x5 x6 x7 x8 xs0 = k0_pay3 (k0_pay14 (dm x0 x7) (gb x2 x8) k0_pay11) x6 := by
  unfold out0_C_10
  refine (View.read_writes_junk_eq_canon _ _).trans ?_
  change View.canon [⟨_, _⟩] = _
  sl_unfold_words; simp only [load q1 z1 x0 m0, load q3 z3 x2 m0, load q7 z7 x6 m1, load q8 z8 x7 m1, load_part q9 z9]
  exact ld_id _ _

theorem out_C_11 (hc0) (hc1) : out0_C_11 c i q1 z1 q2 z2 q3 z3 q4 z4 q5 z5 q6 z6 q7 z7 q8 z8 q9 z9 q10 z10 q11 z11 q12 z12 q13 z13 q14 z14 q15 z15 q16 z16 q17 z17 hc0 hc1 x0 x1 x2 x3 x4 x5 x6 x7 x8 xs0 = k0_pay13 (dm x0 x7) (ga x1 x8) := by
  unfold out0_C_11
  refine (View.read_writes_junk_eq_canon _ _).trans ?_
  change View.canon [⟨_, _⟩] = _
  sl_unfold_words; simp only [load q1 z1 x0 m0, load q2 z2 x1 m0, load q8 z8 x7 m1, load_part q9 z9]
  exact ld_id _ _

theorem out_C_12 (hc0) (hc1) : out0_C_12 c i q1 z1 q2 z2 q3 z3 q4 z4 q5 z5 q6 z6 q7 z7 q8 z8 q9 z9 q10 z10 q11 z11 q12 z12 q13 z13 q14 z14 q15 z15 q16 z16 q17 z17 hc0 hc1 x0 x1 x2 x3 x4 x5 x6 x7 x8 xs0 = k0_pay14 (dm x0 x7) (gb x2 x8) k0_pay11 := by
  unfold out0_C_12
  refine (View.read_writes_junk_eq_canon _ _).trans ?_
  change View.canon [⟨_, _⟩] = _
  sl_unfold_words; simp only [load q1 z1 x0 m0, load q3 z3 x2 m0, load q8 z8 x7 m1, load_part q9 z9]
  exact ld_id _ _

theorem out_C_13 (hc0) (hc1) : out0_C_13 c i q1 z1 q2 z2 q3 z3 q4 z4 q5 z5 q6 z6 q7 z7 q8 z8 q9 z9 q10 z10 q11 z11 q12 z12 q13 z13 q14 z14 q15 z15 q16 z16 q17 z17 hc0 hc1 x0 x1 x2 x3 x4 x5 x6 x7 x8 xs0 = dgl x0 x1 x2 x3 x4 x7 x8 := by
  unfold out0_C_13
  refine (View.read_writes_junk_eq_canon _ _).trans ?_
  change View.canon [⟨_, _⟩, ⟨_, _⟩] = _
  sl_unfold_words; simp only [load q1 z1 x0 m0, load q2 z2 x1 m0, load q3 z3 x2 m0, load q4 z4 x3 m0, load q5 z5 x4 m0, load q8 z8 x7 m1, load_part q9 z9]

theorem out_C_14 (hc0) (hc1) : out0_C_14 c i q1 z1 q2 z2 q3 z3 q4 z4 q5 z5 q6 z6 q7 z7 q8 z8 q9 z9 q10 z10 q11 z11 q12 z12 q13 z13 q14 z14 q15 z15 q16 z16 q17 z17 hc0 hc1 x0 x1 x2 x3 x4 x5 x6 x7 x8 xs0 = k0_pay7 x0 := by
  unfold out0_C_14
  refine (View.read_writes_junk_eq_canon _ _).trans ?_
  change View.canon [⟨_, _⟩] = _
  sl_unfold_words; simp only [load q1 z1 x0 m0]
  exact ld_id _ _

theorem sums_A (hc0) (hc1) : sout0_A_0 c i q1 z1 q2 z2 q3 z3 q4 z4 q5 z5 q6 z6 q7 z7 q8 z8 q9 z9 q10 z10 q11 z11 q12 z12 q13 z13 q14 z14 q15 z15 q16 z16 q17 z17 hc0 hc1 x0 x1 x2 x3 x4 x5 x6 x7 x8 = View.canon [⟨Rect.unit (s := S2x8x1024) ![1, 0, 0] S1x8x1024.size m2, k0_pay1 (k0_pay16 (dm x0 x7) (gb x2 x8) k0_pay11 x4) (View.ld (View.canon [⟨Rect.unit (s := S2x8x1024) ![0, 0, 0] S1x8x1024.size m3, k0_pay19 (dm x0 x7) (ga x1 x8) x3 (s0 k0_pay6)⟩, ⟨Rect.unit (s := S2x8x1024) ![0, 0, 0] S2x8x1024.size inb_S2x8x1024_S2x8x1024_0_0_0, k0_pay6⟩]) (Rect.unit (s := S2x8x1024) ![1, 0, 0] S1x8x1024.size m2))⟩, ⟨Rect.unit (s := S2x8x1024) ![0, 0, 0] S1x8x1024.size m3, k0_pay19 (dm x0 x7) (ga x1 x8) x3 (s0 k0_pay6)⟩, ⟨Rect.unit (s := S2x8x1024) ![0, 0, 0] S2x8x1024.size inb_S2x8x1024_S2x8x1024_0_0_0, k0_pay6⟩] := by
  unfold sout0_A_0
  refine (View.read_writes_junk_eq_canon _ _).trans ?_
  change View.canon [⟨_, _⟩, ⟨_, _⟩, ⟨_, _⟩] = _
  sl_unfold_words
  have e : View.canon (Val := Elt F) (e := .f32) [⟨Rect.unit (s := S2x8x1024) ![0, 0, 0] ![2, 8, 1024] inb_S2x8x1024_S2x8x1024_0_0_0, k0_pay6⟩] = k0_pay6 := ld_id _ _
  simp only [covld q17, e, load q1 z1 x0 m0, load q2 z2 x1 m0, load q3 z3 x2 m0, load q4 z4 x3 m0, load q5 z5 x4 m0, load q8 z8 x7 m1, load_part q9 z9]

theorem sums_B (hc0) (hc1) : sout0_B_0 c i q1 z1 q2 z2 q3 z3 q4 z4 q5 z5 q6 z6 q7 z7 q8 z8 q9 z9 q10 z10 q11 z11 q12 z12 q13 z13 q14 z14 q15 z15 q16 z16 q17 z17 hc0 hc1 x0 x1 x2 x3 x4 x5 x6 x7 x8 xs0 = addt xs0 x0 x1 x2 x3 x4 x7 x8 := by
  unfold sout0_B_0
  refine (View.read_writes_junk_eq_canon _ _).trans ?_
  change View.canon [⟨_, _⟩, ⟨_, _⟩] = _
  sl_unfold_words; simp only [load_part q17 z17, load q1 z1 x0 m0, load q2 z2 x1 m0, load q3 z3 x2 m0, load q4 z4 x3 m0, load q5 z5 x4 m0, load q8 z8 x7 m1, load_part q9 z9]

theorem sums_C (hc0) (hc1) : sout0_C_0 c i q1 z1 q2 z2 q3 z3 q4 z4 q5 z5 q6 z6 q7 z7 q8 z8 q9 z9 q10 z10 q11 z11 q12 z12 q13 z13 q14 z14 q15 z15 q16 z16 q17 z17 hc0 hc1 x0 x1 x2 x3 x4 x5 x6 x7 x8 xs0 = addt xs0 x0 x1 x2 x3 x4 x7 x8 := by
  unfold sout0_C_0
  refine (View.read_writes_junk_eq_canon _ _).trans ?_
  change View.canon [⟨_, _⟩, ⟨_, _⟩] = _
  sl_unfold_words; simp only [load_part q17 z17, load q1 z1 x0 m0, load q2 z2 x1 m0, load q3 z3 x2 m0, load q4 z4 x3 m0, load q5 z5 x4 m0, load q8 z8 x7 m1, load_part q9 z9]

theorem rows_C (hc0) (hc1) : out0_C_15 c i q1 z1 q2 z2 q3 z3 q4 z4 q5 z5 q6 z6 q7 z7 q8 z8 q9 z9 q10 z10 q11 z11 q12 z12 q13 z13 q14 z14 q15 z15 q16 z16 q17 z17 hc0 hc1 x0 x1 x2 x3 x4 x5 x6 x7 x8 xs0 = rows (addt xs0 x0 x1 x2 x3 x4 x7 x8) := by
  unfold out0_C_15
  refine (View.read_writes_junk_eq_canon _ _).trans ?_
  change View.canon [⟨_, _⟩, ⟨_, _⟩] = _
  sl_unfold_words; simp only [covld q17, load_part q17 z17, load q1 z1 x0 m0, load q2 z2 x1 m0, load q3 z3 x2 m0, load q4 z4 x3 m0, load q5 z5 x4 m0, load q8 z8 x7 m1, load_part q9 z9]

end Cases

/-! ## The parts of a buffer at an index -/

section Parts

theorem emb_s1 (k : Fin 8) (q : Fin 1024) : (Rect.unit (s := S2x8x1024) ![1, 0, 0] S1x8x1024.size m2).emb (ix3 0 k q) = (ix3 1 k q : S2x8x1024.Idx) :=
  funext fun a => Fin.ext (by match a with | ⟨0, _⟩ => rfl | ⟨1, _⟩ => (show 0 + 1 * k.val = k.val; omega) | ⟨2, _⟩ => (show 0 + 1 * q.val = q.val; omega))
theorem emb_s0 (k : Fin 8) (q : Fin 1024) : (Rect.unit (s := S2x8x1024) ![0, 0, 0] S1x8x1024.size m3).emb (ix3 0 k q) = (ix3 0 k q : S2x8x1024.Idx) :=
  funext fun a => Fin.ext (by match a with | ⟨0, _⟩ => rfl | ⟨1, _⟩ => (show 0 + 1 * k.val = k.val; omega) | ⟨2, _⟩ => (show 0 + 1 * q.val = q.val; omega))
theorem emb_b1 (q : Fin 1024) : (Rect.unit (s := S2x1024) ![1, 0] S1x1024.size m4).emb (ix2 0 q) = (ix2 1 q : S2x1024.Idx) :=
  funext fun a => Fin.ext (by match a with | ⟨0, _⟩ => rfl | ⟨1, _⟩ => (show 0 + 1 * q.val = q.val; omega))
theorem emb_b0 (q : Fin 1024) : (Rect.unit (s := S2x1024) ![0, 0] S1x1024.size inb_S2x1024_S1x1024_0_0).emb (ix2 0 q) = (ix2 0 q : S2x1024.Idx) :=
  funext fun a => Fin.ext (by match a with | ⟨0, _⟩ => rfl | ⟨1, _⟩ => (show 0 + 1 * q.val = q.val; omega))
/-- A column of the first half, and of the second. -/
abbrev half (j : Fin 2) (q : Fin 1024) : Fin 2048 := ⟨j.val * 1024 + q.val, by omega⟩
theorem emb_h1 (p : Fin 512) (q : Fin 1024) : (Rect.unit (s := S512x2048) ![0, 1024] S512x1024.size m5).emb (ix2 p q) = (ix2 p (half 1 q) : S512x2048.Idx) :=
  funext fun a => Fin.ext (by match a with | ⟨0, _⟩ => (show 0 + 1 * p.val = p.val; omega) | ⟨1, _⟩ => (show 1024 + 1 * q.val = 1 * 1024 + q.val; omega))
theorem emb_h0 (p : Fin 512) (q : Fin 1024) : (Rect.unit (s := S512x2048) ![0, 0] S512x1024.size inb_S512x2048_S512x1024_0_0).emb (ix2 p q) = (ix2 p (half 0 q) : S512x2048.Idx) :=
  funext fun a => Fin.ext (by match a with | ⟨0, _⟩ => (show 0 + 1 * p.val = p.val; omega) | ⟨1, _⟩ => (show 0 + 1 * q.val = 0 * 1024 + q.val; omega))

theorem not_s1 (k : Fin 8) (q : Fin 1024) : (ix3 0 k q : S2x8x1024.Idx) ∉ (Rect.unit (s := S2x8x1024) ![1, 0, 0] S1x8x1024.size m2).set := fun h => by
  obtain ⟨x, hx⟩ := (Rect.unit (s := S2x8x1024) ![1, 0, 0] S1x8x1024.size m2).exists_idx_of_mem h
  have h0 : 1 + 1 * (x 0).val = 0 := congrArg (fun i : S2x8x1024.Idx => (i 0).val) hx
  omega
theorem not_s0 (k : Fin 8) (q : Fin 1024) : (ix3 1 k q : S2x8x1024.Idx) ∉ (Rect.unit (s := S2x8x1024) ![0, 0, 0] S1x8x1024.size m3).set := fun h => by
  obtain ⟨x, hx⟩ := (Rect.unit (s := S2x8x1024) ![0, 0, 0] S1x8x1024.size m3).exists_idx_of_mem h
  have h0 : 0 + 1 * (x 0).val = 1 := congrArg (fun i : S2x8x1024.Idx => (i 0).val) hx
  have h1 : (x 0).val < 1 := (x 0).isLt
  omega
theorem not_b1 (q : Fin 1024) : (ix2 0 q : S2x1024.Idx) ∉ (Rect.unit (s := S2x1024) ![1, 0] S1x1024.size m4).set := fun h => by
  obtain ⟨x, hx⟩ := (Rect.unit (s := S2x1024) ![1, 0] S1x1024.size m4).exists_idx_of_mem h
  have h0 : 1 + 1 * (x 0).val = 0 := congrArg (fun i : S2x1024.Idx => (i 0).val) hx
  omega
theorem not_h1 (p : Fin 512) (q : Fin 1024) : (ix2 p (half 0 q) : S512x2048.Idx) ∉ (Rect.unit (s := S512x2048) ![0, 1024] S512x1024.size m5).set := fun h => by
  obtain ⟨x, hx⟩ := (Rect.unit (s := S512x2048) ![0, 1024] S512x1024.size m5).exists_idx_of_mem h
  have h0 : 1024 + 1 * (x 1).val = 0 * 1024 + q.val := congrArg (fun i : S512x2048.Idx => (i 1).val) hx
  omega

variable (s : Vec Ideal S2x8x1024 .f32) (u1 u0 : Vec Ideal S1x8x1024 .f32) (v1 v0 : Vec Ideal S1x1024 .f32) (L : List (View.Piece (Elt Ideal) S2x8x1024 .f32)) (k : Fin 8) (q : Fin 1024)

theorem s1_at : s1 (F := Ideal) s (ix3 0 k q) = s (ix3 1 k q) := congrArg s (emb_s1 k q)
theorem s0_at : s0 (F := Ideal) s (ix3 0 k q) = s (ix3 0 k q) := congrArg s (emb_s0 k q)
theorem put_s1 : View.canon (Val := Elt Ideal) (e := .f32) (⟨(Rect.unit (s := S2x8x1024) ![1, 0, 0] S1x8x1024.size m2), u1⟩ :: L) (ix3 1 k q) = u1 (ix3 0 k q) :=
  (congrArg _ (emb_s1 k q).symm).trans (View.canon_cons_emb (Val := Elt Ideal) (e := .f32) (Rect.unit (s := S2x8x1024) ![1, 0, 0] S1x8x1024.size m2) u1 L (ix3 0 k q))
theorem put_s0 : View.canon (Val := Elt Ideal) (e := .f32) (⟨(Rect.unit (s := S2x8x1024) ![1, 0, 0] S1x8x1024.size m2), u1⟩ :: ⟨(Rect.unit (s := S2x8x1024) ![0, 0, 0] S1x8x1024.size m3), u0⟩ :: L) (ix3 0 k q) = u0 (ix3 0 k q) :=
  (View.canon_cons_of_not_mem (Val := Elt Ideal) (e := .f32) ⟨(Rect.unit (s := S2x8x1024) ![1, 0, 0] S1x8x1024.size m2), u1⟩ _ (not_s1 k q)).trans
    ((congrArg _ (emb_s0 k q).symm).trans (View.canon_cons_emb (Val := Elt Ideal) (e := .f32) (Rect.unit (s := S2x8x1024) ![0, 0, 0] S1x8x1024.size m3) u0 L (ix3 0 k q)))
theorem skip_s0 : View.canon (Val := Elt Ideal) (e := .f32) (⟨(Rect.unit (s := S2x8x1024) ![0, 0, 0] S1x8x1024.size m3), u0⟩ :: L) (ix3 1 k q) = View.canon (Val := Elt Ideal) (e := .f32) L (ix3 1 k q) :=
  View.canon_cons_of_not_mem (Val := Elt Ideal) (e := .f32) ⟨(Rect.unit (s := S2x8x1024) ![0, 0, 0] S1x8x1024.size m3), u0⟩ _ (not_s0 k q)
theorem put_b1 : View.canon (Val := Elt Ideal) (e := .f32) [⟨(Rect.unit (s := S2x1024) ![1, 0] S1x1024.size m4), v1⟩, ⟨(Rect.unit (s := S2x1024) ![0, 0] S1x1024.size inb_S2x1024_S1x1024_0_0), v0⟩] (ix2 1 q) = v1 (ix2 0 q) :=
  (congrArg _ (emb_b1 q).symm).trans (View.canon_cons_emb (Val := Elt Ideal) (e := .f32) (Rect.unit (s := S2x1024) ![1, 0] S1x1024.size m4) v1 _ (ix2 0 q))
theorem put_b0 : View.canon (Val := Elt Ideal) (e := .f32) [⟨(Rect.unit (s := S2x1024) ![1, 0] S1x1024.size m4), v1⟩, ⟨(Rect.unit (s := S2x1024) ![0, 0] S1x1024.size inb_S2x1024_S1x1024_0_0), v0⟩] (ix2 0 q) = v0 (ix2 0 q) :=
  (View.canon_cons_of_not_mem (Val := Elt Ideal) (e := .f32) ⟨(Rect.unit (s := S2x1024) ![1, 0] S1x1024.size m4), v1⟩ _ (not_b1 q)).trans
    ((congrArg _ (emb_b0 q).symm).trans (View.canon_cons_emb (Val := Elt Ideal) (e := .f32) (Rect.unit (s := S2x1024) ![0, 0] S1x1024.size inb_S2x1024_S1x1024_0_0) v0 _ (ix2 0 q)))
theorem put_h1 (w1 w0 : Vec Ideal S512x1024 .bf16) (p : Fin 512) : View.canon (Val := Elt Ideal) (e := .bf16) [⟨(Rect.unit (s := S512x2048) ![0, 1024] S512x1024.size m5), w1⟩, ⟨(Rect.unit (s := S512x2048) ![0, 0] S512x1024.size inb_S512x2048_S512x1024_0_0), w0⟩] (ix2 p (half 1 q)) = w1 (ix2 p q) :=
  (congrArg _ (emb_h1 p q).symm).trans (View.canon_cons_emb (Val := Elt Ideal) (e := .bf16) (Rect.unit (s := S512x2048) ![0, 1024] S512x1024.size m5) w1 _ (ix2 p q))
theorem put_h0 (w1 w0 : Vec Ideal S512x1024 .bf16) (p : Fin 512) : View.canon (Val := Elt Ideal) (e := .bf16) [⟨(Rect.unit (s := S512x2048) ![0, 1024] S512x1024.size m5), w1⟩, ⟨(Rect.unit (s := S512x2048) ![0, 0] S512x1024.size inb_S512x2048_S512x1024_0_0), w0⟩] (ix2 p (half 0 q)) = w0 (ix2 p q) :=
  (View.canon_cons_of_not_mem (Val := Elt Ideal) (e := .bf16) ⟨(Rect.unit (s := S512x2048) ![0, 1024] S512x1024.size m5), w1⟩ _ (not_h1 p q)).trans
    ((congrArg _ (emb_h0 p q).symm).trans (View.canon_cons_emb (Val := Elt Ideal) (e := .bf16) (Rect.unit (s := S512x2048) ![0, 0] S512x1024.size inb_S512x2048_S512x1024_0_0) w0 _ (ix2 p q)))

end Parts

/-! ## The arguments and the blocks -/

variable (m : (ℓ : Loc nD τ sig) → Buf (Elt Ideal) ℓ)

/-- The arguments on a core: the projections, the two mixers' outputs, the three matrices, the gates' bias and the cotangent. -/
abbrev a0 (c : Dev nD) : FVec Ideal S8192x7168 .f32 := m ((c : Thread nD τ).loc main_arg0)
abbrev a1 (c : Dev nD) : FVec Ideal S8192x1024 .f32 := m ((c : Thread nD τ).loc main_arg1)
abbrev a2 (c : Dev nD) : FVec Ideal S8192x1024 .f32 := m ((c : Thread nD τ).loc main_arg2)
abbrev a7 (c : Dev nD) : FVec Ideal S8192x1024 .f32 := m ((c : Thread nD τ).loc main_arg7)
abbrev a3 (c : Dev nD) : FVec Ideal S1024x1024 .f32 := m ((c : Thread nD τ).loc main_arg3)
abbrev a4 (c : Dev nD) : FVec Ideal S1024x1024 .f32 := m ((c : Thread nD τ).loc main_arg4)
abbrev a5 (c : Dev nD) : FVec Ideal S1024x1024 .f32 := m ((c : Thread nD τ).loc main_arg5)
abbrev a6 (c : Dev nD) : FVec Ideal S2x1024 .f32 := m ((c : Thread nD τ).loc main_arg6)

/-- What the forward saved: a mixer's output times its matrix. -/
def oa (c : Dev nD) (i : Fin 8192) (q : Fin 1024) : EReal := ∑ k : Fin 1024, a1 m c (ix2 i k) * a3 m c (ix2 k q)
def ob (c : Dev nD) (i : Fin 8192) (q : Fin 1024) : EReal := ∑ k : Fin 1024, a2 m c (ix2 i k) * a4 m c (ix2 k q)

theorem V_0 (c : Dev nD) : V m c main_v0 = (truncf .bf16 (a3 m c) bitsLt_bf16_f32 : FVec Ideal S1024x1024 .bf16) := by
  unfold V hostOps0; after_results_simp <;> rfl
theorem V_1 (c : Dev nD) : V m c main_v1 = (truncf .bf16 (a4 m c) bitsLt_bf16_f32 : FVec Ideal S1024x1024 .bf16) := by
  unfold V hostOps0; after_results_simp <;> rfl
theorem V_2 (c : Dev nD) : V m c main_v2 = (truncf .bf16 (a5 m c) bitsLt_bf16_f32 : FVec Ideal S1024x1024 .bf16) := by
  unfold V hostOps0; after_results_simp <;> rfl
theorem V_9 (c : Dev nD) : V m c main_v9 = (truncf .bf16 (a0 m c) bitsLt_bf16_f32 : FVec Ideal S8192x7168 .bf16) := by
  unfold V hostOps0; after_results_simp <;> rfl
theorem V_a6 (c : Dev nD) : V m c main_arg6 = a6 m c := by
  unfold V hostOps0; after_results_simp <;> rfl
theorem V_a7 (c : Dev nD) : V m c main_arg7 = a7 m c := by
  unfold V hostOps0; after_results_simp <;> rfl
theorem V_5 (c : Dev nD) : V m c main_v5 = (truncf .bf16 (Host.dotGeneral dot_S8192x1024_S1024x1024_S8192x1024_1_0_0_1_n_n none (truncf .bf16 (a1 m c) bitsLt_bf16_f32) (truncf .bf16 (a3 m c) bitsLt_bf16_f32)) bitsLt_bf16_f32 : FVec Ideal S8192x1024 .bf16) := by
  unfold V hostOps0; after_results_simp <;> rfl
theorem saved_oa (c : Dev nD) (i : Fin 8192) (q : Fin 1024) : (V m c main_v5 : FVec Ideal S8192x1024 .bf16) (ix2 i q) = oa m c i q := by
  rw [V_5]
  unfold oa
  pointwise
theorem V_8 (c : Dev nD) : V m c main_v8 = (truncf .bf16 (Host.dotGeneral dot_S8192x1024_S1024x1024_S8192x1024_1_0_0_1_n_n none (truncf .bf16 (a2 m c) bitsLt_bf16_f32) (truncf .bf16 (a4 m c) bitsLt_bf16_f32)) bitsLt_bf16_f32 : FVec Ideal S8192x1024 .bf16) := by
  unfold V hostOps0; after_results_simp <;> rfl
theorem saved_ob (c : Dev nD) (i : Fin 8192) (q : Fin 1024) : (V m c main_v8 : FVec Ideal S8192x1024 .bf16) (ix2 i q) = ob m c i q := by
  rw [V_8]
  unfold ob
  pointwise

/-- A point's row `p` among all rows, -/
abbrev row (t : Fin cfg0.N) (p : Fin 512) : Fin 8192 := tok (t.val * (64 * 8) + p.val)
/-- and a column of the gates' part of the projections. -/
abbrev gcol (j : Fin 2) (q : Fin 1024) : Fin 7168 := ⟨(5 + j.val) * 1024 + q.val, by omega⟩

theorem lt16 (t : Fin cfg0.N) : t.val < 16 := Nat.lt_of_lt_of_eq t.isLt N_0

theorem idx_0 : ∀ t : Fin cfg0.N, win0_0.index t 0 = t.val ∧ win0_0.index t 1 = 0 :=
  (by decide +kernel : ∀ t : Fin grid0.N, _)
theorem idx_1 : ∀ t : Fin cfg0.N, win0_1.index t 0 = t.val ∧ win0_1.index t 1 = 5 :=
  (by decide +kernel : ∀ t : Fin grid0.N, _)
theorem idx_2 : ∀ t : Fin cfg0.N, win0_2.index t 0 = t.val ∧ win0_2.index t 1 = 6 :=
  (by decide +kernel : ∀ t : Fin grid0.N, _)
theorem idx_3 : ∀ t : Fin cfg0.N, win0_3.index t 0 = t.val ∧ win0_3.index t 1 = 0 :=
  (by decide +kernel : ∀ t : Fin grid0.N, _)
theorem idx_4 : ∀ t : Fin cfg0.N, win0_4.index t 0 = t.val ∧ win0_4.index t 1 = 0 :=
  (by decide +kernel : ∀ t : Fin grid0.N, _)
theorem idx_5 : ∀ t : Fin cfg0.N, win0_5.index t 0 = 0 ∧ win0_5.index t 1 = 0 :=
  (by decide +kernel : ∀ t : Fin grid0.N, _)
theorem idx_6 : ∀ t : Fin cfg0.N, win0_6.index t 0 = 0 ∧ win0_6.index t 1 = 0 :=
  (by decide +kernel : ∀ t : Fin grid0.N, _)
theorem idx_7 : ∀ t : Fin cfg0.N, win0_7.index t 0 = 0 ∧ win0_7.index t 1 = 0 :=
  (by decide +kernel : ∀ t : Fin grid0.N, _)
theorem idx_8 : ∀ t : Fin cfg0.N, win0_8.index t 0 = 0 ∧ win0_8.index t 1 = 0 :=
  (by decide +kernel : ∀ t : Fin grid0.N, _)

theorem blk_0 (c : Dev nD) (t : Fin cfg0.N) (p : Fin 512) (q : Fin 1024) :
    (iblk m c 0 t : S512x1024.Idx → EReal) (ix2 p q) = a7 m c (ix2 (row t p) q) := by
  obtain ⟨h0, h1⟩ := idx_0 t
  have ht := lt16 t
  show (V m c main_arg7 : FVec Ideal S8192x1024 .f32) ((win0_0.rect t).emb (ix2 p q)) = _
  rw [V_a7]
  refine congrArg (a7 m c) (funext fun a => Fin.ext ?_)
  match a with
  | ⟨0, _⟩ => show win0_0.index t 0 * 512 + 1 * p.val = _; rw [h0]; show _ = (t.val * (64 * 8) + p.val) % 8192; omega
  | ⟨1, _⟩ => show win0_0.index t 1 * 1024 + 1 * q.val = _; rw [h1]; simp

theorem blk_1 (c : Dev nD) (t : Fin cfg0.N) (p : Fin 512) (q : Fin 1024) :
    (iblk m c 1 t : S512x1024.Idx → EReal) (ix2 p q) = a0 m c (ix2 (row t p) (gcol 0 q)) := by
  obtain ⟨h0, h1⟩ := idx_1 t
  have ht := lt16 t
  show (V m c main_v9 : FVec Ideal S8192x7168 .bf16) ((win0_1.rect t).emb (ix2 p q)) = _
  rw [V_9]
  refine congrArg (a0 m c) (funext fun a => Fin.ext ?_)
  match a with
  | ⟨0, _⟩ => show win0_1.index t 0 * 512 + 1 * p.val = _; rw [h0]; show _ = (t.val * (64 * 8) + p.val) % 8192; omega
  | ⟨1, _⟩ => show win0_1.index t 1 * 1024 + 1 * q.val = _; rw [h1]; simp

theorem blk_2 (c : Dev nD) (t : Fin cfg0.N) (p : Fin 512) (q : Fin 1024) :
    (iblk m c 2 t : S512x1024.Idx → EReal) (ix2 p q) = a0 m c (ix2 (row t p) (gcol 1 q)) := by
  obtain ⟨h0, h1⟩ := idx_2 t
  have ht := lt16 t
  show (V m c main_v9 : FVec Ideal S8192x7168 .bf16) ((win0_2.rect t).emb (ix2 p q)) = _
  rw [V_9]
  refine congrArg (a0 m c) (funext fun a => Fin.ext ?_)
  match a with
  | ⟨0, _⟩ => show win0_2.index t 0 * 512 + 1 * p.val = _; rw [h0]; show _ = (t.val * (64 * 8) + p.val) % 8192; omega
  | ⟨1, _⟩ => show win0_2.index t 1 * 1024 + 1 * q.val = _; rw [h1]; simp

theorem blk_3 (c : Dev nD) (t : Fin cfg0.N) (p : Fin 512) (q : Fin 1024) :
    (iblk m c 3 t : S512x1024.Idx → EReal) (ix2 p q) = oa m c (row t p) q := by
  obtain ⟨h0, h1⟩ := idx_3 t
  have ht := lt16 t
  show (V m c main_v5 : FVec Ideal S8192x1024 .bf16) ((win0_3.rect t).emb (ix2 p q)) = _
  refine (congrArg (V m c main_v5 : FVec Ideal S8192x1024 .bf16) (?_ : _ = (ix2 (row t p) q : S8192x1024.Idx))).trans (saved_oa m c (row t p) q)
  refine funext fun a => Fin.ext ?_
  match a with
  | ⟨0, _⟩ => show win0_3.index t 0 * 512 + 1 * p.val = _; rw [h0]; show _ = (t.val * (64 * 8) + p.val) % 8192; omega
  | ⟨1, _⟩ => show win0_3.index t 1 * 1024 + 1 * q.val = _; rw [h1]; simp

theorem blk_4 (c : Dev nD) (t : Fin cfg0.N) (p : Fin 512) (q : Fin 1024) :
    (iblk m c 4 t : S512x1024.Idx → EReal) (ix2 p q) = ob m c (row t p) q := by
  obtain ⟨h0, h1⟩ := idx_4 t
  have ht := lt16 t
  show (V m c main_v8 : FVec Ideal S8192x1024 .bf16) ((win0_4.rect t).emb (ix2 p q)) = _
  refine (congrArg (V m c main_v8 : FVec Ideal S8192x1024 .bf16) (?_ : _ = (ix2 (row t p) q : S8192x1024.Idx))).trans (saved_ob m c (row t p) q)
  refine funext fun a => Fin.ext ?_
  match a with
  | ⟨0, _⟩ => show win0_4.index t 0 * 512 + 1 * p.val = _; rw [h0]; show _ = (t.val * (64 * 8) + p.val) % 8192; omega
  | ⟨1, _⟩ => show win0_4.index t 1 * 1024 + 1 * q.val = _; rw [h1]; simp

theorem blk_5 (c : Dev nD) (t : Fin cfg0.N) (p : Fin 1024) (q : Fin 1024) :
    (iblk m c 5 t : S1024x1024.Idx → EReal) (ix2 p q) = a3 m c (ix2 p q) := by
  obtain ⟨h0, h1⟩ := idx_5 t
  have ht := lt16 t
  show (V m c main_v0 : FVec Ideal S1024x1024 .bf16) ((win0_5.rect t).emb (ix2 p q)) = _
  rw [V_0]
  refine congrArg (a3 m c) (funext fun a => Fin.ext ?_)
  match a with
  | ⟨0, _⟩ => show win0_5.index t 0 * 1024 + 1 * p.val = _; rw [h0]; simp
  | ⟨1, _⟩ => show win0_5.index t 1 * 1024 + 1 * q.val = _; rw [h1]; simp

theorem blk_6 (c : Dev nD) (t : Fin cfg0.N) (p : Fin 1024) (q : Fin 1024) :
    (iblk m c 6 t : S1024x1024.Idx → EReal) (ix2 p q) = a4 m c (ix2 p q) := by
  obtain ⟨h0, h1⟩ := idx_6 t
  have ht := lt16 t
  show (V m c main_v1 : FVec Ideal S1024x1024 .bf16) ((win0_6.rect t).emb (ix2 p q)) = _
  rw [V_1]
  refine congrArg (a4 m c) (funext fun a => Fin.ext ?_)
  match a with
  | ⟨0, _⟩ => show win0_6.index t 0 * 1024 + 1 * p.val = _; rw [h0]; simp
  | ⟨1, _⟩ => show win0_6.index t 1 * 1024 + 1 * q.val = _; rw [h1]; simp

theorem blk_7 (c : Dev nD) (t : Fin cfg0.N) (p : Fin 1024) (q : Fin 1024) :
    (iblk m c 7 t : S1024x1024.Idx → EReal) (ix2 p q) = a5 m c (ix2 p q) := by
  obtain ⟨h0, h1⟩ := idx_7 t
  have ht := lt16 t
  show (V m c main_v2 : FVec Ideal S1024x1024 .bf16) ((win0_7.rect t).emb (ix2 p q)) = _
  rw [V_2]
  refine congrArg (a5 m c) (funext fun a => Fin.ext ?_)
  match a with
  | ⟨0, _⟩ => show win0_7.index t 0 * 1024 + 1 * p.val = _; rw [h0]; simp
  | ⟨1, _⟩ => show win0_7.index t 1 * 1024 + 1 * q.val = _; rw [h1]; simp

theorem blk_8 (c : Dev nD) (t : Fin cfg0.N) (p : Fin 2) (q : Fin 1024) :
    (iblk m c 8 t : S2x1024.Idx → EReal) (ix2 p q) = a6 m c (ix2 p q) := by
  obtain ⟨h0, h1⟩ := idx_8 t
  have ht := lt16 t
  show (V m c main_arg6 : FVec Ideal S2x1024 .f32) ((win0_8.rect t).emb (ix2 p q)) = _
  rw [V_a6]
  refine congrArg (a6 m c) (funext fun a => Fin.ext ?_)
  match a with
  | ⟨0, _⟩ => show win0_8.index t 0 * 2 + 1 * p.val = _; rw [h0]; simp
  | ⟨1, _⟩ => show win0_8.index t 1 * 1024 + 1 * q.val = _; rw [h1]; simp

/-! ## One tile -/

/-- The gated sum's cotangent, -/
def dmv (c : Dev nD) (i : Fin 8192) (k : Fin 1024) : EReal := ∑ n : Fin 1024, a7 m c (ix2 i n) * a5 m c (ix2 k n)
/-- a gate, -/
def sg (c : Dev nD) (j : Fin 2) (i : Fin 8192) (q : Fin 1024) : EReal := Ideal.div 1 (1 + Ideal.exp (-(a0 m c (ix2 i (gcol j q)) + a6 m c (ix2 j q))))
/-- what it gates, -/
def ov (c : Dev nD) (j : Fin 2) (i : Fin 8192) (q : Fin 1024) : EReal := match j with | 0 => oa m c i q | 1 => ob m c i q
/-- and the gate's cotangent before the sigmoid. -/
def dg (c : Dev nD) (j : Fin 2) (i : Fin 8192) (q : Fin 1024) : EReal := dmv m c i q * ov m c j i q * (sg m c j i q * (1 - sg m c j i q))

section Tile

variable (d g : FVec Ideal S512x1024 .f32) (x : FVec Ideal S512x1024 .bf16) (u : FVec Ideal S1x8x1024 .f32) (p : Fin 512) (k : Fin 8) (q : Fin 1024)

theorem p8 (u : FVec Ideal S512x1024 .f32) (v : FVec Ideal S1024x1024 .bf16) :
    k0_pay8 (F := Ideal) u v (ix2 p q) = ∑ k : Fin 1024, (u (ix2 p k) * v (ix2 q k) : EReal) := by
  pointwise [k0_pay8, k0_pay7]
theorem p9 (u : FVec Ideal S512x1024 .bf16) (v : FVec Ideal S1x1024 .f32) :
    k0_pay9 (F := Ideal) u v (ix2 p q) = (Ideal.div 1 (1 + Ideal.exp (-(u (ix2 p q) + v (ix2 0 q)))) : EReal) := by
  pointwise [k0_pay9]; simp only [zero_sub]
theorem p12 (u : FVec Ideal S512x1024 .bf16) (v : FVec Ideal S1x1024 .f32) :
    k0_pay12 (F := Ideal) (k0_pay10 u v) k0_pay11 (ix2 p q) = (Ideal.div 1 (1 + Ideal.exp (-(u (ix2 p q) + v (ix2 0 q)))) : EReal) := by
  pointwise [k0_pay12, k0_pay11, k0_pay10]; simp only [zero_sub]
theorem p13 : k0_pay13 (F := Ideal) d g (ix2 p q) = (d (ix2 p q) * g (ix2 p q) : EReal) := by
  pointwise [k0_pay13]
theorem p14 (b a : FVec Ideal S512x1024 .f32) : k0_pay14 (F := Ideal) d b a (ix2 p q) = (d (ix2 p q) * k0_pay12 (F := Ideal) b a (ix2 p q) : EReal) := by
  pointwise [k0_pay14]
theorem p15 : k0_pay15 (F := Ideal) d g x (ix2 p q) = (d (ix2 p q) * x (ix2 p q) * (g (ix2 p q) * (1 - g (ix2 p q))) : EReal) := by
  pointwise [k0_pay15]
theorem p16 (b a : FVec Ideal S512x1024 .f32) : k0_pay16 (F := Ideal) d b a x (ix2 p q) = (d (ix2 p q) * x (ix2 p q) * (k0_pay12 (F := Ideal) b a (ix2 p q) * (1 - k0_pay12 (F := Ideal) b a (ix2 p q))) : EReal) := by
  pointwise [k0_pay16]
theorem p17 : k0_pay17 (F := Ideal) d g x (ix2 p q) = k0_pay15 (F := Ideal) d g x (ix2 p q) := by
  unfold k0_pay17
  generalize k0_pay15 (F := Ideal) d g x = z
  pointwise
theorem p18 (b a : FVec Ideal S512x1024 .f32) : k0_pay18 (F := Ideal) d b a x (ix2 p q) = k0_pay16 (F := Ideal) d b a x (ix2 p q) := by
  unfold k0_pay18
  generalize k0_pay16 (F := Ideal) d b a x = z
  pointwise
theorem p19 : k0_pay19 (F := Ideal) d g x u (ix3 0 k q) = (u (ix3 0 k q) + ∑ e : Fin 64, k0_pay15 (F := Ideal) d g x (ix2 ⟨e.val * 8 + k.val, by omega⟩ q) : EReal) := by
  unfold k0_pay19
  generalize k0_pay15 (F := Ideal) d g x = z
  pointwise
theorem p1 (z : FVec Ideal S512x1024 .f32) : k0_pay1 (F := Ideal) z u (ix3 0 k q) = (u (ix3 0 k q) + ∑ e : Fin 64, z (ix2 ⟨e.val * 8 + k.val, by omega⟩ q) : EReal) := by
  pointwise [k0_pay1]
theorem p2 (z : FVec Ideal S512x1024 .bf16) (v : FVec Ideal S1024x1024 .bf16) : k0_pay2 (F := Ideal) z v (ix2 p q) = ∑ k : Fin 1024, (z (ix2 p k) * v (ix2 q k) : EReal) := by
  pointwise [k0_pay2]
theorem p3 (z : FVec Ideal S512x1024 .bf16) (v : FVec Ideal S1024x1024 .bf16) : k0_pay3 (F := Ideal) z v (ix2 p q) = ∑ k : Fin 1024, (z (ix2 p k) * v (ix2 q k) : EReal) := by
  pointwise [k0_pay3]
theorem p4 : k0_pay4 (F := Ideal) u (ix2 0 q) = ∑ k : Fin 8, (u (ix3 0 k q) : EReal) := by
  pointwise [k0_pay4]
theorem p5 : k0_pay5 (F := Ideal) u (ix2 0 q) = ∑ k : Fin 8, (u (ix3 0 k q) : EReal) := by
  pointwise [k0_pay5]
theorem p6 (j : Fin 2) : k0_pay6 (F := Ideal) (ix3 j k q) = (0 : EReal) := by
  pointwise [k0_pay6]

end Tile

section Points

variable (c : Dev nD) (t : Fin cfg0.N) (p : Fin 512) (q : Fin 1024)

theorem dm_at : dm (F := Ideal) (iblk m c 0 t) (iblk m c 7 t) (ix2 p q) = dmv m c (row t p) q :=
  (p8 p q _ _).trans (Finset.sum_congr rfl fun k _ => congrArg₂ (fun x y : EReal => x * y) (blk_0 m c t p k) (blk_7 m c t q k))

theorem ga_at : ga (F := Ideal) (iblk m c 1 t) (iblk m c 8 t) (ix2 p q) = sg m c 0 (row t p) q := by
  refine (p9 p q _ _).trans ?_
  rw [blk_1]
  exact congrArg (fun y : EReal => Ideal.div 1 (1 + Ideal.exp (-(_ + y)))) ((congrArg (iblk m c 8 t : S2x1024.Idx → EReal) (emb_b0 q)).trans (blk_8 m c t 0 q))

theorem gb_at : k0_pay12 (F := Ideal) (gb (iblk m c 2 t) (iblk m c 8 t)) k0_pay11 (ix2 p q) = sg m c 1 (row t p) q := by
  refine (p12 p q _ _).trans ?_
  rw [blk_2]
  exact congrArg (fun y : EReal => Ideal.div 1 (1 + Ideal.exp (-(_ + y)))) ((congrArg (iblk m c 8 t : S2x1024.Idx → EReal) (emb_b1 q)).trans (blk_8 m c t 1 q))

theorem dga_at : k0_pay15 (F := Ideal) (dm (iblk m c 0 t) (iblk m c 7 t)) (ga (iblk m c 1 t) (iblk m c 8 t)) (iblk m c 3 t) (ix2 p q) = dg m c 0 (row t p) q := by
  rw [p15, dm_at, ga_at, blk_3]; rfl

theorem dgb_at : k0_pay16 (F := Ideal) (dm (iblk m c 0 t) (iblk m c 7 t)) (gb (iblk m c 2 t) (iblk m c 8 t)) k0_pay11 (iblk m c 4 t) (ix2 p q) = dg m c 1 (row t p) q := by
  rw [p16, dm_at, gb_at, blk_4]; rfl

theorem at_9 : (outsAt0 (F := Ideal) m c t.val t.isLt).1 = k0_pay2 (k0_pay13 (dm (iblk m c 0 t) (iblk m c 7 t)) (ga (iblk m c 1 t) (iblk m c 8 t))) (iblk m c 5 t) := by
  have ht := lt16 t
  by_cases h0 : t.val % 16 = 0
  · rw [outsAt0_A m c t h0 (by omega)]; dsimp only; exact out_A_9 ..
  · by_cases h1 : t.val % 16 = 15
    · rw [outsAt0_C m c t h0 h1]; dsimp only; exact out_C_9 ..
    · rw [outsAt0_B m c t h0 h1]; dsimp only; exact out_B_9 ..

theorem at_10 : (outsAt0 (F := Ideal) m c t.val t.isLt).2.1 = k0_pay3 (k0_pay14 (dm (iblk m c 0 t) (iblk m c 7 t)) (gb (iblk m c 2 t) (iblk m c 8 t)) k0_pay11) (iblk m c 6 t) := by
  have ht := lt16 t
  by_cases h0 : t.val % 16 = 0
  · rw [outsAt0_A m c t h0 (by omega)]; dsimp only; exact out_A_10 ..
  · by_cases h1 : t.val % 16 = 15
    · rw [outsAt0_C m c t h0 h1]; dsimp only; exact out_C_10 ..
    · rw [outsAt0_B m c t h0 h1]; dsimp only; exact out_B_10 ..

theorem at_11 : (outsAt0 (F := Ideal) m c t.val t.isLt).2.2.1 = k0_pay13 (dm (iblk m c 0 t) (iblk m c 7 t)) (ga (iblk m c 1 t) (iblk m c 8 t)) := by
  have ht := lt16 t
  by_cases h0 : t.val % 16 = 0
  · rw [outsAt0_A m c t h0 (by omega)]; dsimp only; exact out_A_11 ..
  · by_cases h1 : t.val % 16 = 15
    · rw [outsAt0_C m c t h0 h1]; dsimp only; exact out_C_11 ..
    · rw [outsAt0_B m c t h0 h1]; dsimp only; exact out_B_11 ..

theorem at_12 : (outsAt0 (F := Ideal) m c t.val t.isLt).2.2.2.1 = k0_pay14 (dm (iblk m c 0 t) (iblk m c 7 t)) (gb (iblk m c 2 t) (iblk m c 8 t)) k0_pay11 := by
  have ht := lt16 t
  by_cases h0 : t.val % 16 = 0
  · rw [outsAt0_A m c t h0 (by omega)]; dsimp only; exact out_A_12 ..
  · by_cases h1 : t.val % 16 = 15
    · rw [outsAt0_C m c t h0 h1]; dsimp only; exact out_C_12 ..
    · rw [outsAt0_B m c t h0 h1]; dsimp only; exact out_B_12 ..

theorem at_13 : (outsAt0 (F := Ideal) m c t.val t.isLt).2.2.2.2.1 = dgl (iblk m c 0 t) (iblk m c 1 t) (iblk m c 2 t) (iblk m c 3 t) (iblk m c 4 t) (iblk m c 7 t) (iblk m c 8 t) := by
  have ht := lt16 t
  by_cases h0 : t.val % 16 = 0
  · rw [outsAt0_A m c t h0 (by omega)]; dsimp only; exact out_A_13 ..
  · by_cases h1 : t.val % 16 = 15
    · rw [outsAt0_C m c t h0 h1]; dsimp only; exact out_C_13 ..
    · rw [outsAt0_B m c t h0 h1]; dsimp only; exact out_B_13 ..

theorem at_14 : (outsAt0 (F := Ideal) m c t.val t.isLt).2.2.2.2.2.1 = k0_pay7 (iblk m c 0 t) := by
  have ht := lt16 t
  by_cases h0 : t.val % 16 = 0
  · rw [outsAt0_A m c t h0 (by omega)]; dsimp only; exact out_A_14 ..
  · by_cases h1 : t.val % 16 = 15
    · rw [outsAt0_C m c t h0 h1]; dsimp only; exact out_C_14 ..
    · rw [outsAt0_B m c t h0 h1]; dsimp only; exact out_B_14 ..

/-- Point `t`'s blocks of the results. -/
theorem tile_9 : (outsAt0 (F := Ideal) m c t.val t.isLt).1 (ix2 p q) = ∑ k, dmv m c (row t p) k * sg m c 0 (row t p) k * a3 m c (ix2 q k) := by
  rw [at_9]
  refine (p2 p q _ _).trans (Finset.sum_congr rfl fun k _ => congrArg₂ (fun x y : EReal => x * y) ?_ (blk_5 m c t q k))
  rw [p13, dm_at, ga_at]
theorem tile_10 : (outsAt0 (F := Ideal) m c t.val t.isLt).2.1 (ix2 p q) = ∑ k, dmv m c (row t p) k * sg m c 1 (row t p) k * a4 m c (ix2 q k) := by
  rw [at_10]
  refine (p3 p q _ _).trans (Finset.sum_congr rfl fun k _ => congrArg₂ (fun x y : EReal => x * y) ?_ (blk_6 m c t q k))
  rw [p14, dm_at, gb_at]
theorem tile_11 : (outsAt0 (F := Ideal) m c t.val t.isLt).2.2.1 (ix2 p q) = dmv m c (row t p) q * sg m c 0 (row t p) q := by
  rw [at_11, p13, dm_at, ga_at]
theorem tile_12 : (outsAt0 (F := Ideal) m c t.val t.isLt).2.2.2.1 (ix2 p q) = dmv m c (row t p) q * sg m c 1 (row t p) q := by
  rw [at_12, p14, dm_at, gb_at]
theorem tile_13 (j : Fin 2) : (outsAt0 (F := Ideal) m c t.val t.isLt).2.2.2.2.1 (ix2 p (half j q)) = dg m c j (row t p) q := by
  rw [at_13]
  match j with
  | 0 => exact (put_h0 q _ _ p).trans ((p17 _ _ _ p q).trans (dga_at m c t p q))
  | 1 => exact (put_h1 q _ _ p).trans ((p18 _ _ p q _ _).trans (dgb_at m c t p q))
theorem tile_14 : (outsAt0 (F := Ideal) m c t.val t.isLt).2.2.2.2.2.1 (ix2 p q) = a7 m c (ix2 (row t p) q) := by
  rw [at_14]
  refine Eq.trans ?_ (blk_0 m c t p q)
  generalize (iblk m c 0 t : FVec Ideal S512x1024 .f32) = z
  pointwise [k0_pay7]

/-! ## The bias' sums -/

abbrev sums (n : ℕ) (h : n < cfg0.N) : Vec Ideal S2x8x1024 .f32 := (outsAt0 (F := Ideal) m c n h).2.2.2.2.2.2.2

/-- What a tile adds. -/
def part (j : Fin 2) (k : Fin 8) (q : Fin 1024) (n : ℕ) : EReal := ∑ e : Fin 64, dg m c j (tok (n * (64 * 8) + (e.val * 8 + k.val))) q

theorem add_at (s : Vec Ideal S2x8x1024 .f32) (j : Fin 2) (k : Fin 8) :
    addt (F := Ideal) s (iblk m c 0 t) (iblk m c 1 t) (iblk m c 2 t) (iblk m c 3 t) (iblk m c 4 t) (iblk m c 7 t) (iblk m c 8 t) (ix3 j k q) = s (ix3 j k q) + part m c j k q t.val := by
  match j with
  | 0 => exact (put_s0 _ _ _ k q).trans ((p19 _ _ _ _ k q).trans (congrArg₂ (fun x y : EReal => x + y) (s0_at s k q) (Finset.sum_congr rfl fun e _ => dga_at m c t _ q)))
  | 1 => exact (put_s1 _ _ k q).trans ((p1 _ k q _).trans (congrArg₂ (fun x y : EReal => x + y) (s1_at s k q) (Finset.sum_congr rfl fun e _ => dgb_at m c t _ q)))

theorem sums_first (h : t.val = 0) (j : Fin 2) (k : Fin 8) : sums m c t.val t.isLt (ix3 j k q) = part m c j k q t.val := by
  unfold sums
  rw [outsAt0_A m c t (by omega) (by omega)]; dsimp only
  rw [sums_A]
  match j with
  | 0 =>
    refine (put_s0 _ _ _ k q).trans ((p19 _ _ _ _ k q).trans ?_)
    rw [s0_at, p6, zero_add]
    exact Finset.sum_congr rfl fun e _ => dga_at m c t _ q
  | 1 =>
    refine (put_s1 _ _ k q).trans ((p1 _ k q _).trans ?_)
    rw [show View.ld _ (Rect.unit (s := S2x8x1024) ![1, 0, 0] S1x8x1024.size m2) (ix3 0 k q) = _ from s1_at _ k q, skip_s0]
    have e : View.canon (Val := Elt Ideal) (e := .f32) [⟨Rect.unit (s := S2x8x1024) ![0, 0, 0] S2x8x1024.size inb_S2x8x1024_S2x8x1024_0_0_0, k0_pay6 (F := Ideal)⟩] = k0_pay6 (F := Ideal) := ld_id _ _
    rw [e, p6, zero_add]
    exact Finset.sum_congr rfl fun e _ => dgb_at m c t _ q

theorem sums_next (h : t.val ≠ 0) : sums m c t.val t.isLt = addt (sums m c (t.val - 1) (by omega)) (iblk m c 0 t) (iblk m c 1 t) (iblk m c 2 t) (iblk m c 3 t) (iblk m c 4 t) (iblk m c 7 t) (iblk m c 8 t) := by
  have ht := lt16 t
  unfold sums
  by_cases h1 : t.val % 16 = 15
  · rw [outsAt0_C m c t (by omega) h1]; dsimp only; exact sums_C ..
  · rw [outsAt0_B m c t (by omega) h1]; dsimp only; exact sums_B ..

theorem sums_eq (j : Fin 2) (k : Fin 8) (n : ℕ) (h : n < cfg0.N) : sums m c n h (ix3 j k q) = ∑ i ∈ Finset.range (n + 1), part m c j k q i := by
  induction n with
  | zero => rw [Finset.sum_range_one]; exact sums_first m c ⟨0, h⟩ q rfl j k
  | succ n ih =>
    rw [Finset.sum_range_succ, ← ih (by omega)]
    exact (congrFun (sums_next m c ⟨n + 1, h⟩ (by simp)) _).trans (add_at m c ⟨n + 1, h⟩ q _ j k)

theorem rows_at (h : t.val = 15) (j : Fin 2) : (outsAt0 (F := Ideal) m c t.val t.isLt).2.2.2.2.2.2.1 (ix2 j q) = ∑ i, dg m c j i q := by
  have e : (outsAt0 (F := Ideal) m c t.val t.isLt).2.2.2.2.2.2.1 = rows (sums m c t.val t.isLt) := by
    rw [sums_next m c t (by omega), outsAt0_C m c t (by omega) (by omega)]; dsimp only; exact rows_C ..
  have s (k : Fin 8) : sums m c t.val t.isLt (ix3 j k q) = ∑ i ∈ Finset.range 16, part m c j k q i :=
    (sums_eq m c q j k t.val t.isLt).trans (by rw [h])
  have u : ∑ k : Fin 8, sums m c t.val t.isLt (ix3 j k q) = ∑ i, dg m c j i q := by
    rw [Finset.sum_congr rfl fun k _ => s k, ← sum_tok]
    exact sum_tiles (fun n => dg m c j (tok n) q) 64 16
  rw [e, ← u]
  match j with
  | 0 => exact (put_b0 _ _ q).trans ((p4 _ q).trans (Finset.sum_congr rfl fun k _ => s0_at _ k q))
  | 1 => exact (put_b1 _ _ q).trans ((p5 _ q).trans (Finset.sum_congr rfl fun k _ => s1_at _ k q))

end Points

/-! ## The arrays after the run -/

theorem G9_eq (c : Dev nD) (i : Fin 8192) (q : Fin 1024) : Value.G9 (F := Ideal) m c (ix2 i q) = ∑ k, dmv m c i k * sg m c 0 i k * a3 m c (ix2 q k) := by
  have hi := i.isLt
  have hq := q.isLt
  have hp : Value.pt9Of (ix2 i q) = i.val / 512 := by show 1 * (i.val / 512 - 0) + 1 * (q.val / 1024 - 0) = _; omega
  have hn : Value.pt9Of (ix2 i q) < cfg0.N := by rw [hp]; exact lt_of_lt_of_eq (by omega : i.val / 512 < 16) N_0.symm
  have hrow : row ⟨Value.pt9Of (ix2 i q), hn⟩ (⟨i.val % 512, by omega⟩ : Fin 512) = i := Fin.ext (by
    show (Value.pt9Of (ix2 i q) * (64 * 8) + i.val % 512) % 8192 = i.val
    rw [hp]; omega)
  unfold Value.G9
  rw [dif_pos hn, ← Value.outsAt0_sweep (F := Ideal) m c _ hn]
  refine (congrArg _ (show Value.loc9Of (ix2 i q) = ix2 (⟨i.val % 512, by omega⟩ : Fin 512) q from funext fun a => ?_)).trans ((tile_9 m c ⟨_, hn⟩ _ q).trans ?_)
  · apply Fin.ext
    match a with
    | ⟨0, _⟩ => rfl
    | ⟨1, _⟩ => exact Nat.mod_eq_of_lt (by exact hq)
  · rw [hrow]

theorem G10_eq (c : Dev nD) (i : Fin 8192) (q : Fin 1024) : Value.G10 (F := Ideal) m c (ix2 i q) = ∑ k, dmv m c i k * sg m c 1 i k * a4 m c (ix2 q k) := by
  have hi := i.isLt
  have hq := q.isLt
  have hp : Value.pt10Of (ix2 i q) = i.val / 512 := by show 1 * (i.val / 512 - 0) + 1 * (q.val / 1024 - 0) = _; omega
  have hn : Value.pt10Of (ix2 i q) < cfg0.N := by rw [hp]; exact lt_of_lt_of_eq (by omega : i.val / 512 < 16) N_0.symm
  have hrow : row ⟨Value.pt10Of (ix2 i q), hn⟩ (⟨i.val % 512, by omega⟩ : Fin 512) = i := Fin.ext (by
    show (Value.pt10Of (ix2 i q) * (64 * 8) + i.val % 512) % 8192 = i.val
    rw [hp]; omega)
  unfold Value.G10
  rw [dif_pos hn, ← Value.outsAt0_sweep (F := Ideal) m c _ hn]
  refine (congrArg _ (show Value.loc10Of (ix2 i q) = ix2 (⟨i.val % 512, by omega⟩ : Fin 512) q from funext fun a => ?_)).trans ((tile_10 m c ⟨_, hn⟩ _ q).trans ?_)
  · apply Fin.ext
    match a with
    | ⟨0, _⟩ => rfl
    | ⟨1, _⟩ => exact Nat.mod_eq_of_lt (by exact hq)
  · rw [hrow]

theorem G11_eq (c : Dev nD) (i : Fin 8192) (q : Fin 1024) : Value.G11 (F := Ideal) m c (ix2 i q) = dmv m c i q * sg m c 0 i q := by
  have hi := i.isLt
  have hq := q.isLt
  have hp : Value.pt11Of (ix2 i q) = i.val / 512 := by show 1 * (i.val / 512 - 0) + 1 * (q.val / 1024 - 0) = _; omega
  have hn : Value.pt11Of (ix2 i q) < cfg0.N := by rw [hp]; exact lt_of_lt_of_eq (by omega : i.val / 512 < 16) N_0.symm
  have hrow : row ⟨Value.pt11Of (ix2 i q), hn⟩ (⟨i.val % 512, by omega⟩ : Fin 512) = i := Fin.ext (by
    show (Value.pt11Of (ix2 i q) * (64 * 8) + i.val % 512) % 8192 = i.val
    rw [hp]; omega)
  unfold Value.G11
  rw [dif_pos hn, ← Value.outsAt0_sweep (F := Ideal) m c _ hn]
  refine (congrArg _ (show Value.loc11Of (ix2 i q) = ix2 (⟨i.val % 512, by omega⟩ : Fin 512) q from funext fun a => ?_)).trans ((tile_11 m c ⟨_, hn⟩ _ q).trans ?_)
  · apply Fin.ext
    match a with
    | ⟨0, _⟩ => rfl
    | ⟨1, _⟩ => exact Nat.mod_eq_of_lt (by exact hq)
  · rw [hrow]

theorem G12_eq (c : Dev nD) (i : Fin 8192) (q : Fin 1024) : Value.G12 (F := Ideal) m c (ix2 i q) = dmv m c i q * sg m c 1 i q := by
  have hi := i.isLt
  have hq := q.isLt
  have hp : Value.pt12Of (ix2 i q) = i.val / 512 := by show 1 * (i.val / 512 - 0) + 1 * (q.val / 1024 - 0) = _; omega
  have hn : Value.pt12Of (ix2 i q) < cfg0.N := by rw [hp]; exact lt_of_lt_of_eq (by omega : i.val / 512 < 16) N_0.symm
  have hrow : row ⟨Value.pt12Of (ix2 i q), hn⟩ (⟨i.val % 512, by omega⟩ : Fin 512) = i := Fin.ext (by
    show (Value.pt12Of (ix2 i q) * (64 * 8) + i.val % 512) % 8192 = i.val
    rw [hp]; omega)
  unfold Value.G12
  rw [dif_pos hn, ← Value.outsAt0_sweep (F := Ideal) m c _ hn]
  refine (congrArg _ (show Value.loc12Of (ix2 i q) = ix2 (⟨i.val % 512, by omega⟩ : Fin 512) q from funext fun a => ?_)).trans ((tile_12 m c ⟨_, hn⟩ _ q).trans ?_)
  · apply Fin.ext
    match a with
    | ⟨0, _⟩ => rfl
    | ⟨1, _⟩ => exact Nat.mod_eq_of_lt (by exact hq)
  · rw [hrow]

theorem G14_eq (c : Dev nD) (i : Fin 8192) (q : Fin 1024) : Value.G14 (F := Ideal) m c (ix2 i q) = a7 m c (ix2 i q) := by
  have hi := i.isLt
  have hq := q.isLt
  have hp : Value.pt14Of (ix2 i q) = i.val / 512 := by show 1 * (i.val / 512 - 0) + 1 * (q.val / 1024 - 0) = _; omega
  have hn : Value.pt14Of (ix2 i q) < cfg0.N := by rw [hp]; exact lt_of_lt_of_eq (by omega : i.val / 512 < 16) N_0.symm
  have hrow : row ⟨Value.pt14Of (ix2 i q), hn⟩ (⟨i.val % 512, by omega⟩ : Fin 512) = i := Fin.ext (by
    show (Value.pt14Of (ix2 i q) * (64 * 8) + i.val % 512) % 8192 = i.val
    rw [hp]; omega)
  unfold Value.G14
  rw [dif_pos hn, ← Value.outsAt0_sweep (F := Ideal) m c _ hn]
  refine (congrArg _ (show Value.loc14Of (ix2 i q) = ix2 (⟨i.val % 512, by omega⟩ : Fin 512) q from funext fun a => ?_)).trans ((tile_14 m c ⟨_, hn⟩ _ q).trans ?_)
  · apply Fin.ext
    match a with
    | ⟨0, _⟩ => rfl
    | ⟨1, _⟩ => exact Nat.mod_eq_of_lt (by exact hq)
  · rw [hrow]

theorem G13_eq (c : Dev nD) (i : Fin 8192) (q : Fin 1024) (j : Fin 2) : Value.G13 (F := Ideal) m c (ix2 i (half j q)) = dg m c j i q := by
  have hi := i.isLt
  have hq := q.isLt
  have hp : Value.pt13Of (ix2 i (half j q)) = i.val / 512 := by show 1 * (i.val / 512 - 0) + 1 * ((j.val * 1024 + q.val) / 2048 - 0) = _; omega
  have hn : Value.pt13Of (ix2 i (half j q)) < cfg0.N := by rw [hp]; exact lt_of_lt_of_eq (by omega : i.val / 512 < 16) N_0.symm
  have hrow : row ⟨Value.pt13Of (ix2 i (half j q)), hn⟩ (⟨i.val % 512, by omega⟩ : Fin 512) = i := Fin.ext (by
    show (Value.pt13Of (ix2 i (half j q)) * (64 * 8) + i.val % 512) % 8192 = i.val
    rw [hp]; omega)
  unfold Value.G13
  rw [dif_pos hn, ← Value.outsAt0_sweep (F := Ideal) m c _ hn]
  refine (congrArg _ (show Value.loc13Of (ix2 i (half j q)) = ix2 (⟨i.val % 512, by omega⟩ : Fin 512) (half j q) from funext fun a => ?_)).trans ((tile_13 m c ⟨_, hn⟩ _ q j).trans ?_)
  · apply Fin.ext
    match a with
    | ⟨0, _⟩ => rfl
    | ⟨1, _⟩ => exact Nat.mod_eq_of_lt (by show j.val * 1024 + q.val < 2048; omega)
  · rw [hrow]

theorem G15_eq (c : Dev nD) (j : Fin 2) (q : Fin 1024) : Value.G15 (F := Ideal) m c (ix2 j q) = ∑ i, dg m c j i q := by
  have hn : 15 < cfg0.N := lt_of_lt_of_eq (by decide) N_0.symm
  rw [Value.G15_last m c, ← Value.outsAt0_sweep m c 15 hn]
  exact rows_at m c ⟨15, hn⟩ q rfl j

theorem halves (i : S8192x2048.Idx) : ∃ (p : Fin 8192) (j : Fin 2) (q : Fin 1024), i = (ix2 p (half j q) : S8192x2048.Idx) := by
  have h : (i 1).val < 2048 := (i 1).isLt
  exact ⟨i 0, ⟨(i 1).val / 1024, by omega⟩, ⟨(i 1).val % 1024, by omega⟩, funext fun a => Fin.ext (by
    match a with
    | ⟨0, _⟩ => rfl
    | ⟨1, _⟩ => show (i 1).val = (i 1).val / 1024 * 1024 + (i 1).val % 1024; omega)⟩

/-- The reference adds its two rows of sums as two padded arrays. -/
theorem bias_rows (X Y : FVec Ideal S8192x1024 .f32) (j : Fin 2) (q : Fin 1024) :
    addf (F := Ideal) (pad Cert.MergeBRIdeal.S2x1024 ![1, 0] ![0, 0] ![0, 0] (broadcastInDim Cert.MergeBRIdeal.S1x1024 ![1] Cert.MergeBRIdeal.Gen.bcast_S1024_S1x1024_1 (Host.reduceAdd (shapeCast Cert.MergeBRIdeal.S1x1024 (Host.reduceAdd Y (constant Cert.MergeBRIdeal.S_ .f32 0#32) Cert.MergeBRIdeal.Gen.reducesTo_S8192x1024_S1024_d0 Cert.MergeBRIdeal.Gen.h_S_) Cert.MergeBRIdeal.Gen.shapeCasts_S1024_S1x1024) (constant Cert.MergeBRIdeal.S_ .f32 0#32) Cert.MergeBRIdeal.Gen.reducesTo_S1x1024_S1024_d0 Cert.MergeBRIdeal.Gen.h_S_)) (constant Cert.MergeBRIdeal.S_ .f32 0#32) Cert.MergeBRIdeal.Gen.pads_S1x1024_S2x1024_100_000 Cert.MergeBRIdeal.Gen.h_S_)
      (pad Cert.MergeBRIdeal.S2x1024 ![0, 0] ![1, 0] ![0, 0] (broadcastInDim Cert.MergeBRIdeal.S1x1024 ![1] Cert.MergeBRIdeal.Gen.bcast_S1024_S1x1024_1 (Host.reduceAdd (shapeCast Cert.MergeBRIdeal.S1x1024 (Host.reduceAdd X (constant Cert.MergeBRIdeal.S_ .f32 0#32) Cert.MergeBRIdeal.Gen.reducesTo_S8192x1024_S1024_d0 Cert.MergeBRIdeal.Gen.h_S_) Cert.MergeBRIdeal.Gen.shapeCasts_S1024_S1x1024) (constant Cert.MergeBRIdeal.S_ .f32 0#32) Cert.MergeBRIdeal.Gen.reducesTo_S1x1024_S1024_d0 Cert.MergeBRIdeal.Gen.h_S_)) (constant Cert.MergeBRIdeal.S_ .f32 0#32) Cert.MergeBRIdeal.Gen.pads_S1x1024_S2x1024_010_000 Cert.MergeBRIdeal.Gen.h_S_) (ix2 j q)
      = ∑ i : Fin 8192, (match j with | 0 => X (ix2 i q) | 1 => Y (ix2 i q) : EReal) := by
  match j with
  | 0 => pointwise; exact Fin.sum_univ_one _
  | 1 => pointwise; exact Fin.sum_univ_one _

set_option maxHeartbeats 1600000 in
/-- The merge's backward call computes the gradients of reference.py's lines, at every argument. -/
theorem algebraic_mergeb : Cert.algebraic_MergeBIdeal_MergeBRIdeal (hMergeBIdeal := Cert.MergeBIdeal.Gen.facts) (hMergeBRIdeal := Cert.MergeBRIdeal.Gen.facts) := by
  intro m g m' g' hpre hag
  refine ⟨fun c => Value.G9 m c, fun c => Value.G10 m c, fun c => Value.G11 m c, fun c => Value.G12 m c, fun c => Value.G13 m c, fun c => Value.G14 m c, fun c => Value.G15 m c, ?_, ?_⟩
  · refine (θ_run Cert.MergeBIdeal.defs _ _).mono (fun r h c => ?_) (Value.run (F := Ideal) m g)
    exact h c
  · refine (θ_run Cert.MergeBRIdeal.defs _ _).mono (fun r h c => ?_) (Cert.MergeBRIdeal.Value.run (F := Ideal) m' g')
    obtain ⟨e0, e1, e2, e3, e4, e5, e6, e7⟩ := hag c
    obtain ⟨h0, h1, h2, h3, h4, h5, h6, h7⟩ := h c
    refine ⟨h0.trans ?_, h1.trans ?_, h2.trans ?_, h3.trans ?_, h4.trans ?_, h5.trans ?_, h6.trans ?_, h7⟩
    all_goals clear h0 h1 h2 h3 h4 h5 h6 h7 h hag hpre
    · rw [e0, e3, e5, e6, e7]
      funext i; rw [eq_ix2 i]
      generalize i 0 = p, i 1 = q
      change Fin 8192 at p
      change Fin 1024 at q
      refine Eq.trans ?_ (G9_eq m c p q).symm
      unfold dmv sg
      pointwise
      refine Finset.sum_congr rfl fun k _ => ?_
      rw [mul_comm (Ideal.div _ _)]
      rfl
    · rw [e0, e4, e5, e6, e7]
      funext i; rw [eq_ix2 i]
      generalize i 0 = p, i 1 = q
      change Fin 8192 at p
      change Fin 1024 at q
      refine Eq.trans ?_ (G10_eq m c p q).symm
      unfold dmv sg
      pointwise
      refine Finset.sum_congr rfl fun k _ => ?_
      rw [mul_comm (Ideal.div _ _)]
      rfl
    · rw [e0, e5, e6, e7]
      funext i; rw [eq_ix2 i]
      generalize i 0 = p, i 1 = q
      change Fin 8192 at p
      change Fin 1024 at q
      refine Eq.trans ?_ (G11_eq m c p q).symm
      unfold dmv sg
      pointwise
      rw [mul_comm (Ideal.div _ _)]
      rfl
    · rw [e0, e5, e6, e7]
      funext i; rw [eq_ix2 i]
      generalize i 0 = p, i 1 = q
      change Fin 8192 at p
      change Fin 1024 at q
      refine Eq.trans ?_ (G12_eq m c p q).symm
      unfold dmv sg
      pointwise
      rw [mul_comm (Ideal.div _ _)]
      rfl
    · rw [e0, e1, e2, e3, e4, e5, e6, e7]
      funext i
      obtain ⟨p, j, q, rfl⟩ : ∃ (p : Fin 8192) (j : Fin 2) (q : Fin 1024), i = (ix2 p (half j q) : S8192x2048.Idx) := halves i
      refine Eq.trans ?_ (G13_eq m c p q j).symm
      match j with
      | 0 =>
        unfold dg dmv sg ov oa
        pointwise
        rfl
      | 1 =>
        unfold dg dmv sg ov ob
        pointwise
        rfl
    · rw [e7]
      funext i; rw [eq_ix2 i]
      generalize i 0 = p, i 1 = q
      change Fin 8192 at p
      change Fin 1024 at q
      refine Eq.trans ?_ (G14_eq m c p q).symm
      pointwise
    · funext i
      obtain ⟨j, q, rfl⟩ : ∃ (j : Fin 2) (q : Fin 1024), i = (ix2 j q : S2x1024.Idx) := ⟨i 0, i 1, eq_ix2 i⟩
      refine Eq.trans ?_ (G15_eq m c j q).symm
      refine (bias_rows _ _ j q).trans (Finset.sum_congr rfl fun i _ => ?_)
      match j with
      | 0 =>
        dsimp only
        rw [e0, e1, e3, e5, e6, e7]
        unfold dg dmv sg ov oa
        pointwise
        rfl
      | 1 =>
        dsimp only
        rw [e0, e2, e4, e5, e6, e7]
        unfold dg dmv sg ov ob
        pointwise
        rfl

end Cert.MergeBIdeal.Own
-- ==== Proof.FfnFP.Run.lean ====
/- The idealized `_ffn_fwd` run point by point: what each of its four result windows and the accumulator hold after the body,
   and the run of the whole launch from it. The normalised block (window 5) is stored only at a row block's first column block
   and read back at the other three; the accumulator is set there, grows at every point, and is stored at the last (window 8). -/
module

public import proofs.«01_k».proof.Proof.Gen.FfnFIdeal.Frame
public import proofs.«01_k».proof.Proof.Gen.FfnFIdeal.Skeleton
public import Idealize.ShloMosaic.Lib.VecWindow
public import Idealize.ShloMosaic.Lib.Claim
public import Idealize.ShloMosaic.Lib.WordCmp
public import Idealize.ShloMosaic.Lib.Pipeline.TableIdle

@[expose] public section

set_option maxRecDepth 16384

noncomputable section

namespace Cert.FfnFIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnFIdeal.Gen

/-! Short names for the bounds used below. -/
abbrev m0 := inb_S1x704x1024_S1x704x1024_0_0_0
abbrev m1 := inb_S1024x1024_S1024x1024_0_0

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body leaves of a point's blocks: the normalised block, -/
abbrev outH (x0 : Vec F S1024x1024 .f32) (x1 : Vec F S1x1024 .f32) : Vec F S1024x1024 .bf16 := k0_pay2 x0 x1
/-- the gate's product, -/
abbrev outG (hb : Vec F S1024x1024 .bf16) (x2 : Vec F S1x704x1024 .bf16) : Vec F S1x1024x704 .bf16 := k0_pay7 hb x2
/-- the up product, -/
abbrev outU (hb : Vec F S1024x1024 .bf16) (x3 : Vec F S1x704x1024 .bf16) : Vec F S1x1024x704 .bf16 := k0_pay8 hb x3
/-- and the accumulator, from what it held. -/
abbrev accN (hb : Vec F S1024x1024 .bf16) (x2 x3 x4 : Vec F S1x704x1024 .bf16) (a : Vec F S1024x1024 .f32) : Vec F S1024x1024 .f32 :=
  k0_pay1 (k0_pay9 hb x2 x3) a x4

/-- A load of a whole matrix buffer reads its contents. -/
theorem load2 {s : Shape} {e : EltTy} {κ : Kind} {r : Space} (v : Memref sig κ r s e) (hv : v.IsWhole) (x : Vec F s e) {off : Fin s.rank → ℕ} (inb : ∀ a, off a + s.size a ≤ s.size a) :
    v.view.readAt (Elt F) (Rect.unit off s.size inb).toLoadRect (hv.unread x) = x :=
  (View.readAt_full _ _ _).trans (hv.read_unread _)

set_option maxHeartbeats 1600000 in
/-- The body at a row block's first column block. -/
theorem run_first (c : Dev nD) (i : grid0.Coords) (v2 : Memref sig .tc .vmem S1024x1024 .f32) (w2 : v2.IsWhole) (v3 : Memref sig .tc .vmem S1x1024 .f32) (w3 : v3.IsWhole) (v4 : Memref sig .tc .vmem S1x704x1024 .bf16) (w4 : v4.IsWhole) (v5 : Memref sig .tc .vmem S1x704x1024 .bf16) (w5 : v5.IsWhole) (v6 : Memref sig .tc .vmem S1x704x1024 .bf16) (w6 : v6.IsWhole) (v7 : Memref sig .tc .vmem S1024x1024 .bf16) (w7 : v7.IsWhole) (v8 : Memref sig .tc .vmem S1x1024x704 .bf16) (w8 : v8.IsWhole) (v9 : Memref sig .tc .vmem S1x1024x704 .bf16) (w9 : v9.IsWhole) (v10 : Memref sig .tc .vmem S1024x1024 .f32) (w10 : v10.IsWhole) (v11 : Memref sig .tc .vmem S1024x1024 .f32) (w11 : v11.IsWhole)
    (hc0 : k0_cond1 i = 1#1) (hc1 : ¬ k0_cond2 i = 1#1) (x0 : Vec F S1024x1024 .f32) (x1 : Vec F S1x1024 .f32) (x2 x3 x4 : Vec F S1x704x1024 .bf16) (y : Vec F S1024x1024 .f32) (E : Set ℕ) (K : PUnit → sProp 𝕄) :
    iprop(owns c.tc v2 fullShare x0 ∗ owns c.tc v3 fullShare x1 ∗ owns c.tc v4 fullShare x2 ∗ owns c.tc v5 fullShare x3 ∗ owns c.tc v6 fullShare x4 ∗ (∃ d, owns c.tc v7 fullShare d) ∗ (∃ d, owns c.tc v8 fullShare d) ∗ (∃ d, owns c.tc v9 fullShare d) ∗ owns c.tc v10 fullShare y ∗ (∃ d, owns c.tc v11 fullShare d)
        ∗ (iprop(owns c.tc v2 fullShare x0 ∗ owns c.tc v3 fullShare x1 ∗ owns c.tc v4 fullShare x2 ∗ owns c.tc v5 fullShare x3 ∗ owns c.tc v6 fullShare x4 ∗ owns c.tc v7 fullShare (outH x0 x1) ∗ owns c.tc v8 fullShare (outG (outH x0 x1) x2) ∗ owns c.tc v9 fullShare (outU (outH x0 x1) x3) ∗ owns c.tc v10 fullShare y ∗ owns c.tc v11 fullShare (accN (outH x0 x1) x2 x3 x4 (k0_pay3 x0))) -∗ K ⟨⟩))
      ⊢ wp frame (wpE (defs₀ (F := F)) Variants.none c none) E (cc0_ffn_fwd_0 i v2 w2 v3 w3 v4 w4 v5 w5 v6 w6 v7 w7 v8 w8 v9 w9 v10 w10 v11 w11) K := by
  simp only [cc0_ffn_fwd_0_eq_skeleton]; unfold cc0_ffn_fwd_0_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%d11, %f11, -, H11⟩, Hk⟩
  obtain rfl := w2.eq_unread hf2; obtain rfl := w3.eq_unread hf3; obtain rfl := w4.eq_unread hf4; obtain rfl := w5.eq_unread hf5; obtain rfl := w6.eq_unread hf6; obtain rfl := w10.eq_unread hf10
  sl_exec (disch := first | sl_exact hc0 | sl_exact hc1)
  sl_step
  iapply Hk
  isplitl [H2]
  · iexists _; isplitr; · ipureintro; exact w2.read_unread _
    iexact H2
  isplitl [H3]
  · iexists _; isplitr; · ipureintro; exact w3.read_unread _
    iexact H3
  isplitl [H4]
  · iexists _; isplitr; · ipureintro; exact w4.read_unread _
    iexact H4
  isplitl [H5]
  · iexists _; isplitr; · ipureintro; exact w5.read_unread _
    iexact H5
  isplitl [H6]
  · iexists _; isplitr; · ipureintro; exact w6.read_unread _
    iexact H6
  isplitl [H7]
  · iexists _; isplitr; swap; · iexact H7
    ipureintro; refine (View.read_writes_full _ _ _ _ _).trans ?_; sl_unfold_words
    exact congr (congrArg k0_pay2 (load2 v2 w2 x0 m1)) (load2 v3 w3 x1 inb_S1x1024_S1x1024_0_0)
  isplitl [H8]
  · iexists _; isplitr; swap; · iexact H8
    ipureintro; refine (View.read_writes_full _ _ _ _ _).trans ?_; sl_unfold_words
    exact congr (congrArg k0_pay7 ((View.readCov_full _ _ _ _ _).trans (congr (congrArg k0_pay2 (load2 v2 w2 x0 m1)) (load2 v3 w3 x1 inb_S1x1024_S1x1024_0_0)))) (load2 v4 w4 x2 m0)
  isplitl [H9]
  · iexists _; isplitr; swap; · iexact H9
    ipureintro; refine (View.read_writes_full _ _ _ _ _).trans ?_; sl_unfold_words
    exact congr (congrArg k0_pay8 ((View.readCov_full _ _ _ _ _).trans (congr (congrArg k0_pay2 (load2 v2 w2 x0 m1)) (load2 v3 w3 x1 inb_S1x1024_S1x1024_0_0)))) (load2 v5 w5 x3 m0)
  isplitl [H10]
  · iexists _; isplitr; · ipureintro; exact w10.read_unread _
    iexact H10
  iexists _; isplitr; swap; · iexact H11
  ipureintro; refine (View.read_writes_full _ _ _ _ _).trans ?_; sl_unfold_words
  exact congr (congr (congrArg k0_pay1 (congr (congr (congrArg k0_pay9 ((View.readCov_full _ _ _ _ _).trans (congr (congrArg k0_pay2 (load2 v2 w2 x0 m1)) (load2 v3 w3 x1 inb_S1x1024_S1x1024_0_0)))) (load2 v4 w4 x2 m0)) (load2 v5 w5 x3 m0))) ((View.readCov_full _ _ _ _ _).trans (congrArg k0_pay3 (load2 v2 w2 x0 m1)))) (load2 v6 w6 x4 m0)

set_option maxHeartbeats 1600000 in
/-- The body between a row block's first and last. -/
theorem run_mid (c : Dev nD) (i : grid0.Coords) (v2 : Memref sig .tc .vmem S1024x1024 .f32) (w2 : v2.IsWhole) (v3 : Memref sig .tc .vmem S1x1024 .f32) (w3 : v3.IsWhole) (v4 : Memref sig .tc .vmem S1x704x1024 .bf16) (w4 : v4.IsWhole) (v5 : Memref sig .tc .vmem S1x704x1024 .bf16) (w5 : v5.IsWhole) (v6 : Memref sig .tc .vmem S1x704x1024 .bf16) (w6 : v6.IsWhole) (v7 : Memref sig .tc .vmem S1024x1024 .bf16) (w7 : v7.IsWhole) (v8 : Memref sig .tc .vmem S1x1024x704 .bf16) (w8 : v8.IsWhole) (v9 : Memref sig .tc .vmem S1x1024x704 .bf16) (w9 : v9.IsWhole) (v10 : Memref sig .tc .vmem S1024x1024 .f32) (w10 : v10.IsWhole) (v11 : Memref sig .tc .vmem S1024x1024 .f32) (w11 : v11.IsWhole)
    (hc0 : ¬ k0_cond1 i = 1#1) (hc1 : ¬ k0_cond2 i = 1#1) (x0 : Vec F S1024x1024 .f32) (x1 : Vec F S1x1024 .f32) (x2 x3 x4 : Vec F S1x704x1024 .bf16) (hb : Vec F S1024x1024 .bf16) (a : Vec F S1024x1024 .f32) (y : Vec F S1024x1024 .f32) (E : Set ℕ) (K : PUnit → sProp 𝕄) :
    iprop(owns c.tc v2 fullShare x0 ∗ owns c.tc v3 fullShare x1 ∗ owns c.tc v4 fullShare x2 ∗ owns c.tc v5 fullShare x3 ∗ owns c.tc v6 fullShare x4 ∗ owns c.tc v7 fullShare hb ∗ (∃ d, owns c.tc v8 fullShare d) ∗ (∃ d, owns c.tc v9 fullShare d) ∗ owns c.tc v10 fullShare y ∗ owns c.tc v11 fullShare a
        ∗ (iprop(owns c.tc v2 fullShare x0 ∗ owns c.tc v3 fullShare x1 ∗ owns c.tc v4 fullShare x2 ∗ owns c.tc v5 fullShare x3 ∗ owns c.tc v6 fullShare x4 ∗ owns c.tc v7 fullShare hb ∗ owns c.tc v8 fullShare (outG hb x2) ∗ owns c.tc v9 fullShare (outU hb x3) ∗ owns c.tc v10 fullShare y ∗ owns c.tc v11 fullShare (accN hb x2 x3 x4 a)) -∗ K ⟨⟩))
      ⊢ wp frame (wpE (defs₀ (F := F)) Variants.none c none) E (cc0_ffn_fwd_0 i v2 w2 v3 w3 v4 w4 v5 w5 v6 w6 v7 w7 v8 w8 v9 w9 v10 w10 v11 w11) K := by
  simp only [cc0_ffn_fwd_0_eq_skeleton]; unfold cc0_ffn_fwd_0_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, Hk⟩
  obtain rfl := w2.eq_unread hf2; obtain rfl := w3.eq_unread hf3; obtain rfl := w4.eq_unread hf4; obtain rfl := w5.eq_unread hf5; obtain rfl := w6.eq_unread hf6; obtain rfl := w7.eq_unread hf7; obtain rfl := w10.eq_unread hf10; obtain rfl := w11.eq_unread hf11
  sl_exec (disch := first | sl_exact hc0 | sl_exact hc1)
  sl_step
  iapply Hk
  isplitl [H2]
  · iexists _; isplitr; · ipureintro; exact w2.read_unread _
    iexact H2
  isplitl [H3]
  · iexists _; isplitr; · ipureintro; exact w3.read_unread _
    iexact H3
  isplitl [H4]
  · iexists _; isplitr; · ipureintro; exact w4.read_unread _
    iexact H4
  isplitl [H5]
  · iexists _; isplitr; · ipureintro; exact w5.read_unread _
    iexact H5
  isplitl [H6]
  · iexists _; isplitr; · ipureintro; exact w6.read_unread _
    iexact H6
  isplitl [H7]
  · iexists _; isplitr; · ipureintro; exact w7.read_unread _
    iexact H7
  isplitl [H8]
  · iexists _; isplitr; swap; · iexact H8
    ipureintro; refine (View.read_writes_full _ _ _ _ _).trans ?_; sl_unfold_words
    exact congr (congrArg k0_pay7 (load2 v7 w7 hb m1)) (load2 v4 w4 x2 m0)
  isplitl [H9]
  · iexists _; isplitr; swap; · iexact H9
    ipureintro; refine (View.read_writes_full _ _ _ _ _).trans ?_; sl_unfold_words
    exact congr (congrArg k0_pay8 (load2 v7 w7 hb m1)) (load2 v5 w5 x3 m0)
  isplitl [H10]
  · iexists _; isplitr; · ipureintro; exact w10.read_unread _
    iexact H10
  iexists _; isplitr; swap; · iexact H11
  ipureintro; refine (View.read_writes_full _ _ _ _ _).trans ?_; sl_unfold_words
  exact congr (congr (congrArg k0_pay1 (congr (congr (congrArg k0_pay9 (load2 v7 w7 hb m1)) (load2 v4 w4 x2 m0)) (load2 v5 w5 x3 m0))) (load2 v11 w11 a m1)) (load2 v6 w6 x4 m0)

set_option maxHeartbeats 1600000 in
/-- The body at a row block's last column block. -/
theorem run_last (c : Dev nD) (i : grid0.Coords) (v2 : Memref sig .tc .vmem S1024x1024 .f32) (w2 : v2.IsWhole) (v3 : Memref sig .tc .vmem S1x1024 .f32) (w3 : v3.IsWhole) (v4 : Memref sig .tc .vmem S1x704x1024 .bf16) (w4 : v4.IsWhole) (v5 : Memref sig .tc .vmem S1x704x1024 .bf16) (w5 : v5.IsWhole) (v6 : Memref sig .tc .vmem S1x704x1024 .bf16) (w6 : v6.IsWhole) (v7 : Memref sig .tc .vmem S1024x1024 .bf16) (w7 : v7.IsWhole) (v8 : Memref sig .tc .vmem S1x1024x704 .bf16) (w8 : v8.IsWhole) (v9 : Memref sig .tc .vmem S1x1024x704 .bf16) (w9 : v9.IsWhole) (v10 : Memref sig .tc .vmem S1024x1024 .f32) (w10 : v10.IsWhole) (v11 : Memref sig .tc .vmem S1024x1024 .f32) (w11 : v11.IsWhole)
    (hc0 : ¬ k0_cond1 i = 1#1) (hc1 : k0_cond2 i = 1#1) (x0 : Vec F S1024x1024 .f32) (x1 : Vec F S1x1024 .f32) (x2 x3 x4 : Vec F S1x704x1024 .bf16) (hb : Vec F S1024x1024 .bf16) (a : Vec F S1024x1024 .f32) (E : Set ℕ) (K : PUnit → sProp 𝕄) :
    iprop(owns c.tc v2 fullShare x0 ∗ owns c.tc v3 fullShare x1 ∗ owns c.tc v4 fullShare x2 ∗ owns c.tc v5 fullShare x3 ∗ owns c.tc v6 fullShare x4 ∗ owns c.tc v7 fullShare hb ∗ (∃ d, owns c.tc v8 fullShare d) ∗ (∃ d, owns c.tc v9 fullShare d) ∗ (∃ d, owns c.tc v10 fullShare d) ∗ owns c.tc v11 fullShare a
        ∗ (iprop(owns c.tc v2 fullShare x0 ∗ owns c.tc v3 fullShare x1 ∗ owns c.tc v4 fullShare x2 ∗ owns c.tc v5 fullShare x3 ∗ owns c.tc v6 fullShare x4 ∗ owns c.tc v7 fullShare hb ∗ owns c.tc v8 fullShare (outG hb x2) ∗ owns c.tc v9 fullShare (outU hb x3) ∗ owns c.tc v10 fullShare (accN hb x2 x3 x4 a) ∗ owns c.tc v11 fullShare (accN hb x2 x3 x4 a)) -∗ K ⟨⟩))
      ⊢ wp frame (wpE (defs₀ (F := F)) Variants.none c none) E (cc0_ffn_fwd_0 i v2 w2 v3 w3 v4 w4 v5 w5 v6 w6 v7 w7 v8 w8 v9 w9 v10 w10 v11 w11) K := by
  simp only [cc0_ffn_fwd_0_eq_skeleton]; unfold cc0_ffn_fwd_0_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, Hk⟩
  obtain rfl := w2.eq_unread hf2; obtain rfl := w3.eq_unread hf3; obtain rfl := w4.eq_unread hf4; obtain rfl := w5.eq_unread hf5; obtain rfl := w6.eq_unread hf6; obtain rfl := w7.eq_unread hf7; obtain rfl := w11.eq_unread hf11
  sl_exec (disch := first | sl_exact hc0 | sl_exact hc1)
  sl_step
  iapply Hk
  isplitl [H2]
  · iexists _; isplitr; · ipureintro; exact w2.read_unread _
    iexact H2
  isplitl [H3]
  · iexists _; isplitr; · ipureintro; exact w3.read_unread _
    iexact H3
  isplitl [H4]
  · iexists _; isplitr; · ipureintro; exact w4.read_unread _
    iexact H4
  isplitl [H5]
  · iexists _; isplitr; · ipureintro; exact w5.read_unread _
    iexact H5
  isplitl [H6]
  · iexists _; isplitr; · ipureintro; exact w6.read_unread _
    iexact H6
  isplitl [H7]
  · iexists _; isplitr; · ipureintro; exact w7.read_unread _
    iexact H7
  isplitl [H8]
  · iexists _; isplitr; swap; · iexact H8
    ipureintro; refine (View.read_writes_full _ _ _ _ _).trans ?_; sl_unfold_words
    exact congr (congrArg k0_pay7 (load2 v7 w7 hb m1)) (load2 v4 w4 x2 m0)
  isplitl [H9]
  · iexists _; isplitr; swap; · iexact H9
    ipureintro; refine (View.read_writes_full _ _ _ _ _).trans ?_; sl_unfold_words
    exact congr (congrArg k0_pay8 (load2 v7 w7 hb m1)) (load2 v5 w5 x3 m0)
  isplitl [H10]
  · iexists _; isplitr; swap; · iexact H10
    ipureintro; refine (View.read_writes_full _ _ _ _ _).trans ?_; sl_unfold_words
    exact (View.readCov_full _ _ _ _ _).trans (congr (congr (congrArg k0_pay1 (congr (congr (congrArg k0_pay9 (load2 v7 w7 hb m1)) (load2 v4 w4 x2 m0)) (load2 v5 w5 x3 m0))) (load2 v11 w11 a m1)) (load2 v6 w6 x4 m0))
  iexists _; isplitr; swap; · iexact H11
  ipureintro; refine (View.read_writes_full _ _ _ _ _).trans ?_; sl_unfold_words
  exact congr (congr (congrArg k0_pay1 (congr (congr (congrArg k0_pay9 (load2 v7 w7 hb m1)) (load2 v4 w4 x2 m0)) (load2 v5 w5 x3 m0))) (load2 v11 w11 a m1)) (load2 v6 w6 x4 m0)

/-! ## Which case a point is in -/

/-- The block is normalised at the points that are multiples of 4, -/
theorem hcond1 : ∀ t : Fin cfg0.N, k0_cond1 (grid0.coords t) = 1#1 ↔ t.val % 4 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [k0_cond1, e0, e1]
    word_cmp
   : ∀ t : Fin grid0.N, k0_cond1 (grid0.coords t) = 1#1 ↔ t.val % 4 = 0)

/-- and the accumulator is stored at those just before one. -/
theorem hcond2 : ∀ t : Fin cfg0.N, k0_cond2 (grid0.coords t) = 1#1 ↔ t.val % 4 = 3 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [k0_cond2, e0, e1]
    word_cmp
   : ∀ t : Fin grid0.N, k0_cond2 (grid0.coords t) = 1#1 ↔ t.val % 4 = 3)

/-- The first point of a point's row block. -/
def first (t : Fin cfg0.N) : Fin cfg0.N := ⟨t.val / 4 * 4, lt_of_le_of_lt (Nat.div_mul_le_self _ _) t.isLt⟩

theorem first_of {t : Fin cfg0.N} (h : t.val % 4 = 0) : first t = t := Fin.ext (by show t.val / 4 * 4 = t.val; omega)

/-- The normalised block a point computes from. -/
def hbk (c : Dev nD) (t : Fin cfg0.N) : Vec F S1024x1024 .bf16 := outH (iblk m c 0 (first t)) (iblk m c 1 (first t))

/-- What a point's body adds to the accumulator. -/
def grow (c : Dev nD) (t : Fin cfg0.N) (a : Vec F S1024x1024 .f32) : Vec F S1024x1024 .f32 :=
  accN (hbk m c t) (iblk m c 2 t) (iblk m c 3 t) (iblk m c 4 t) a

/-- The accumulator after a point's body. -/
def acc (c : Dev nD) : (n : ℕ) → n < cfg0.N → Vec F S1024x1024 .f32
  | 0, hn => grow m c ⟨0, hn⟩ (k0_pay3 (iblk m c 0 ⟨0, hn⟩))
  | n + 1, hn => grow m c ⟨n + 1, hn⟩ (if (n + 1) % 4 = 0 then k0_pay3 (iblk m c 0 ⟨n + 1, hn⟩) else acc c n (Nat.lt_of_succ_lt hn))

theorem acc_first (c : Dev nD) (n : ℕ) (hn : n < cfg0.N) (h : n % 4 = 0) : acc m c n hn = grow m c ⟨n, hn⟩ (k0_pay3 (iblk m c 0 ⟨n, hn⟩)) := by
  cases n with
  | zero => rfl
  | succ n => rw [acc, if_pos h]

theorem acc_rest (c : Dev nD) (n : ℕ) (hn : n < cfg0.N) (h : n % 4 ≠ 0) : acc m c n hn = grow m c ⟨n, hn⟩ (acc m c (n - 1) (by omega)) := by
  cases n with
  | zero => exact absurd rfl h
  | succ n => rw [acc, if_neg h]; rfl

/-- The accumulator's buffer. -/
abbrev scM : Memref sig .tc .vmem S1024x1024 .f32 := Memref.whole cc0_scratch0

/-- What holds between points: the accumulator at what the point before left. -/
def between (c : Dev nD) : (n : ℕ) → n ≤ cfg0.N → sProp 𝕄
  | 0, _ => Pipeline.ΦA spec0 c
  | n + 1, hn => iprop(iprop(owns c.tc scM fullShare (acc m c n hn)) ∗ (∃ r, prngReg c r))

theorem between_zero (c : Dev nD) (n : ℕ) (h : n ≤ cfg0.N) (hz : n = 0) : between m c n h = Pipeline.ΦA spec0 c := by
  subst hz; rfl

theorem between_succ (c : Dev nD) (n : ℕ) (hn : n < cfg0.N) :
    between m c (n + 1) hn = iprop(iprop(owns c.tc scM fullShare (acc m c n hn)) ∗ (∃ r, prngReg c r)) := rfl

theorem between_pos (c : Dev nD) (n : ℕ) (h : n ≤ cfg0.N) (hz : n ≠ 0) :
    between m c n h = iprop(iprop(owns c.tc scM fullShare (acc m c (n - 1) (by omega))) ∗ (∃ r, prngReg c r)) := by
  cases n with
  | zero => exact absurd rfl hz
  | succ n => rfl

theorem rest_eq (c : Dev nD) : (Pipeline.ΦA spec0 c : sProp 𝕄) = iprop(iprop((∃ d, owns c.tc scM fullShare d)) ∗ (∃ r, prngReg c r)) := by
  unfold Pipeline.ΦA; rw [scopedRest0_eq]; simp only [scM, owns_whole]; try rfl

/-- The proof data: each window's contents after a point's body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => hbk m c t
    | ⟨6, _⟩ => outG (hbk m c t) (iblk m c 2 t)
    | ⟨7, _⟩ => outU (hbk m c t) (iblk m c 3 t)
    | ⟨8, _⟩ => acc m c t.val t.isLt
  Φ t := between m c t.val (Nat.le_of_lt_succ t.isLt)
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = hbk m c t := by dsimp only [dats]
theorem after_6 (c : Dev nD) (t : Fin cfg0.N) : (dats m 0 c).after 6 t = outG (hbk m c t) (iblk m c 2 t) := by dsimp only [dats]
theorem after_7 (c : Dev nD) (t : Fin cfg0.N) : (dats m 0 c).after 7 t = outU (hbk m c t) (iblk m c 3 t) := by dsimp only [dats]
theorem after_8 (c : Dev nD) (t : Fin cfg0.N) : (dats m 0 c).after 8 t = acc m c t.val t.isLt := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d

theorem Phi_at (c : Dev nD) (t : Fin cfg0.N) : (dats m 0 c).Φ t.castSucc = between m c t.val (Nat.le_of_lt t.isLt) := by
  dsimp only [dats]; exact Pipeline.Dat.Φ_castSucc (between m c) t

/-- Between points the accumulator's buffer is there, at something. -/
theorem between_any (c : Dev nD) (n : ℕ) (h : n ≤ cfg0.N) :
    between m c n h ⊢ iprop(iprop((∃ d, owns c.tc scM fullShare d)) ∗ (∃ r, prngReg c r)) := by
  by_cases hz : n = 0
  · rw [between_zero m c n h hz, rest_eq]
  · rw [between_pos m c n h hz]
    iintro ⟨HS, Hg⟩
    isplitl [HS]
    · iexists _; iexact HS
    iexact Hg

theorem start (c : Dev nD) : Pipeline.ΦA spec0 c ⊢ (dats m 0 c).Φ 0 := by
  rw [show (dats m 0 c).Φ 0 = between m c 0 (Nat.zero_le _) from rfl, between_zero m c 0 _ rfl]

theorem finish (c : Dev nD) : (dats m 0 c).Φ (Fin.last cfg0.N) ⊢ Pipeline.ΦA spec0 c := by
  rw [show (dats m 0 c).Φ (Fin.last cfg0.N) = between m c (Fin.last cfg0.N).val (Nat.le_of_lt_succ (Fin.last cfg0.N).isLt) from rfl, rest_eq]
  exact between_any m c _ _

/-- Between a row block's points window 5 is not written back. -/
theorem fresh_5 : ∀ t : Fin cfg0.N, t.val % 4 ≠ 0 → cfg0.fresh 5 t.val = false := by
  decide +kernel

/-- So away from a row block's first point window 5's buffer holds the normalised block. -/
theorem before_5 (c : Dev nD) (t : Fin cfg0.N) (h : t.val % 4 ≠ 0) (d) : (dats m 0 c).before 5 t d = hbk m c t := by
  have key : ∀ s : Fin cfg0.N, s.val % 4 ≠ 0 → hbk m c s = hbk m c ⟨s.val - 1, by omega⟩ := fun s hs => by
    have e : first s = first ⟨s.val - 1, by omega⟩ := Fin.ext (by show s.val / 4 * 4 = (s.val - 1) / 4 * 4; omega)
    unfold hbk; rw [e]
  rw [(dats m 0 c).before_out_traj 5 rfl (fun _ _ => rfl) (fun s hs0 hidle _ => by
      rw [after_5, after_5]
      refine key s fun h4 => ?_
      have : cfg0.idle 5 (cfg0.grid.coords s) = !(k0_cond1 (grid0.coords s) == 1#1) := rfl
      rw [this, (hcond1 s).mpr h4] at hidle
      exact absurd hidle (by decide)) t.val t rfl d, fresh_5 t h, after_5]
  exact (key t h).symm

/-! ## The body at a point -/

/-- What the library hands the body at point `t`, -/
def bodyPre (c : Dev nD) (t : Fin cfg0.N) : sProp 𝕄 :=
  iprop((dats m 0 c).Φ t.castSucc ∗ (dats m 0 c).owesAt () t.castSucc
    ∗ (∃ d, owns c.tc (st0_0 t) fullShare ((dats m 0 c).before 0 t d))
    ∗ (∃ d, owns c.tc (st0_1 t) fullShare ((dats m 0 c).before 1 t d))
    ∗ (∃ d, owns c.tc (st0_2 t) fullShare ((dats m 0 c).before 2 t d))
    ∗ (∃ d, owns c.tc (st0_3 t) fullShare ((dats m 0 c).before 3 t d))
    ∗ (∃ d, owns c.tc (st0_4 t) fullShare ((dats m 0 c).before 4 t d))
    ∗ (∃ d, owns c.tc (st0_5 t) fullShare ((dats m 0 c).before 5 t d))
    ∗ (∃ d, owns c.tc (st0_6 t) fullShare ((dats m 0 c).before 6 t d))
    ∗ (∃ d, owns c.tc (st0_7 t) fullShare ((dats m 0 c).before 7 t d))
    ∗ (∃ d, owns c.tc (st0_8 t) fullShare ((dats m 0 c).before 8 t d)))

/-- and what it takes back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl,
    show (dats m 0 c).Φ t.succ = between m c (t.val + 1) t.isLt from rfl, between_succ, Phi_at]
  rw [show (dats m 0 c).leavesExact 0 t = owns c.tc (st0_0 t) fullShare ((dats m 0 c).after 0 t) from by
    unfold Dat.leavesExact; rw [show cfg0.idle 0 (cfg0.grid.coords t) = false from rfl], after_0]
  rw [show (dats m 0 c).leavesExact 1 t = owns c.tc (st0_1 t) fullShare ((dats m 0 c).after 1 t) from by
    unfold Dat.leavesExact; rw [show cfg0.idle 1 (cfg0.grid.coords t) = false from rfl], after_1]
  rw [show (dats m 0 c).leavesExact 2 t = owns c.tc (st0_2 t) fullShare ((dats m 0 c).after 2 t) from by
    unfold Dat.leavesExact; rw [show cfg0.idle 2 (cfg0.grid.coords t) = false from rfl], after_2]
  rw [show (dats m 0 c).leavesExact 3 t = owns c.tc (st0_3 t) fullShare ((dats m 0 c).after 3 t) from by
    unfold Dat.leavesExact; rw [show cfg0.idle 3 (cfg0.grid.coords t) = false from rfl], after_3]
  rw [show (dats m 0 c).leavesExact 4 t = owns c.tc (st0_4 t) fullShare ((dats m 0 c).after 4 t) from by
    unfold Dat.leavesExact; rw [show cfg0.idle 4 (cfg0.grid.coords t) = false from rfl], after_4]
  rw [show (dats m 0 c).leavesExact 6 t = owns c.tc (st0_6 t) fullShare ((dats m 0 c).after 6 t) from by
    unfold Dat.leavesExact; rw [show cfg0.idle 6 (cfg0.grid.coords t) = false from rfl], after_6]
  rw [show (dats m 0 c).leavesExact 7 t = owns c.tc (st0_7 t) fullShare ((dats m 0 c).after 7 t) from by
    unfold Dat.leavesExact; rw [show cfg0.idle 7 (cfg0.grid.coords t) = false from rfl], after_7]
  have hidle5 : cfg0.idle 5 (cfg0.grid.coords t) = !(k0_cond1 (grid0.coords t) == 1#1) := rfl
  have hidle8 : cfg0.idle 8 (cfg0.grid.coords t) = !(k0_cond2 (grid0.coords t) == 1#1) := rfl
  have hnot2 : t.val % 4 ≠ 3 → (dats m 0 c).leavesExact 8 t = iprop(∃ d, owns c.tc (st0_8 t) fullShare ((dats m 0 c).before 8 t d)) := fun h =>
    Dat.leavesExact_idle (dats m 0 c) 8 t (by
        have hc : (k0_cond2 (grid0.coords t) == 1#1) = false := beq_eq_false_iff_ne.mpr fun e => h ((hcond2 t).mp e)
        rw [hidle8, hc]; rfl)
      (Bool.eq_false_iff.mpr fun e => h ((flush0_8 t).mp e))
  by_cases h0 : t.val % 4 = 0
  · have hx : hbk m c t = outH (iblk m c 0 t) (iblk m c 1 t) := by unfold hbk; rw [first_of h0]
    rw [hnot2 (by omega), acc_first m c t.val t.isLt h0]
    unfold grow
    rw [show (dats m 0 c).leavesExact 5 t = owns c.tc (st0_5 t) fullShare ((dats m 0 c).after 5 t) from by
      unfold Dat.leavesExact; rw [hidle5, (hcond1 t).mpr h0]; rfl, after_5, hx]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HΦ := (between_any m c t.val (Nat.le_of_lt t.isLt)) $$ HΦ
    icases HΦ with ⟨⟨%ds, HS⟩, Hg⟩
    iapply (run_first c (grid0.coords t) _ _ _ _ _ _ _ _ _ _ _ _ _ _ _ _ _ _ scM (Memref.isWhole_whole _) ((hcond1 t).mpr h0) (fun h => absurd ((hcond2 t).mp h) (by omega)) (iblk m c 0 t) (iblk m c 1 t) (iblk m c 2 t) (iblk m c 3 t) (iblk m c 4 t) _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexact H8
    isplitl [HS]; · iexists _; iexact HS
    iintro ⟨H0, H1, H2, H3, H4, H5, H6, H7, H8, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · simp only [before_5 m c t h0]
    have hpost : owns c.tc (st0_5 t) fullShare (hbk m c t) ⊢ (dats m 0 c).leavesExact 5 t := by
      have hc : (k0_cond1 (grid0.coords t) == 1#1) = false := beq_eq_false_iff_ne.mpr fun h => h0 ((hcond1 t).mp h)
      unfold Dat.leavesExact; rw [hidle5, hc]
      cases hfl : (cfg0.win 5).flush t
      · simp only [Bool.not_false, before_5 m c t h0]
        iintro H; iexists (hbk m c t); iexact H
      · simp only [Bool.not_false, after_5]
        exact .rfl
    have hz : t.val ≠ 0 := fun e => h0 (by rw [e])
    rw [between_pos m c t.val _ hz]
    by_cases h3 : t.val % 4 = 3
    · rw [show (dats m 0 c).leavesExact 8 t = owns c.tc (st0_8 t) fullShare ((dats m 0 c).after 8 t) from by
        unfold Dat.leavesExact; rw [hidle8, (hcond2 t).mpr h3]; rfl, after_8, acc_rest m c t.val t.isLt h0]
      unfold grow
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      icases HΦ with ⟨HS, Hg⟩
      iapply (run_last c (grid0.coords t) _ _ _ _ _ _ _ _ _ _ _ _ _ _ _ _ _ _ scM (Memref.isWhole_whole _) (fun h => h0 ((hcond1 t).mp h)) ((hcond2 t).mpr h3) (iblk m c 0 t) (iblk m c 1 t) (iblk m c 2 t) (iblk m c 3 t) (iblk m c 4 t) (hbk m c t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS]; · iexact HS
      iintro ⟨H0, H1, H2, H3, H4, H5, H6, H7, H8, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iapply hpost; iexact H5
      isplitl [H6]; · iexact H6
      isplitl [H7]; · iexact H7
      iexact H8
    · rw [hnot2 h3, acc_rest m c t.val t.isLt h0]
      unfold grow
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      icases HΦ with ⟨HS, Hg⟩
      iapply (run_mid c (grid0.coords t) _ _ _ _ _ _ _ _ _ _ _ _ _ _ _ _ _ _ scM (Memref.isWhole_whole _) (fun h => h0 ((hcond1 t).mp h)) (fun h => h3 ((hcond2 t).mp h)) (iblk m c 0 t) (iblk m c 1 t) (iblk m c 2 t) (iblk m c 3 t) (iblk m c 4 t) (hbk m c t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexact H8
      isplitl [HS]; · iexact HS
      iintro ⟨H0, H1, H2, H3, H4, H5, H6, H7, H8, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iapply hpost; iexact H5
      isplitl [H6]; · iexact H6
      isplitl [H7]; · iexact H7
      iexists _; iexact H8
theorem defs₀_row (t : Fin cfg0.N) : defs₀ (F := F) .tc cfg0.body (cfg0.bodyArgs t (cfg0.slots t)) = bodyAt0 t := by
  unfold defs₀; rw [Defs.onTc_tc]

theorem body_obligation (c : Dev nD) : Pipeline.BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every execution ends with the launch's arrays as the proof data has them and every semaphore counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := start m) (hout := finish m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.FfnFIdeal.Own
-- ==== Proof.FfnFP.Value.lean ====
module

public import proofs.«01_k».proof.Proof.FfnFP.Run
public import proofs.«01_k».proof.Proof.Gen.FfnFRIdeal.Run
public import Idealize.ShloMosaic.Lib.Pointwise
public import proofs.«01_k».proof.Defs
public import proofs.«01_k».proof.Proof.Norm
public import proofs.«01_k».proof.Proof.Sums

@[expose] public section

set_option maxRecDepth 16384

noncomputable section

open Idealize.ShloMosaic Idealize.ShloMosaic.TcCoe Idealize.SL.Sem Idealize.ShloMosaic.Tactic
open Idealize.ShloMosaic.Pipeline (Dat)

namespace Cert.FfnFIdeal.Own

open Cert.FfnFIdeal Cert.FfnFIdeal.Gen Cert.Own

variable (m : (ℓ : Loc nD τ sig) → Buf (Elt Ideal) ℓ)

/-- The arguments on a core: the stream, the norm's gain, the gate's, the up and the down projection. -/
abbrev a0 (c : Dev nD) : FVec Ideal S8192x1024 .f32 := m ((c : Thread nD τ).loc main_arg0)
abbrev a1 (c : Dev nD) : FVec Ideal S1024 .f32 := m ((c : Thread nD τ).loc main_arg1)
abbrev a2 (c : Dev nD) : FVec Ideal S1024x2816 .f32 := m ((c : Thread nD τ).loc main_arg2)
abbrev a3 (c : Dev nD) : FVec Ideal S1024x2816 .f32 := m ((c : Thread nD τ).loc main_arg3)
abbrev a4 (c : Dev nD) : FVec Ideal S2816x1024 .f32 := m ((c : Thread nD τ).loc main_arg4)

theorem V_a0 (c : Dev nD) : V m c main_arg0 = a0 m c := by
  unfold V hostOps0; after_results_simp <;> rfl
theorem V_0 (c : Dev nD) : V m c main_v0 = (broadcastInDim S1x1024 ![1] bcast_S1024_S1x1024_1 (a1 m c) : FVec Ideal S1x1024 .f32) := by
  unfold V hostOps0; after_results_simp <;> rfl
theorem V_3 (c : Dev nD) : V m c main_v3 = (truncf .bf16 (shapeCast S4x704x1024 (transpose S2816x1024 [1, 0] (a2 m c) transposes_S1024x2816_S2816x1024_1_0) shapeCasts_S2816x1024_S4x704x1024) bitsLt_bf16_f32 : FVec Ideal S4x704x1024 .bf16) := by
  unfold V hostOps0; after_results_simp <;> rfl
theorem V_6 (c : Dev nD) : V m c main_v6 = (truncf .bf16 (shapeCast S4x704x1024 (transpose S2816x1024 [1, 0] (a3 m c) transposes_S1024x2816_S2816x1024_1_0) shapeCasts_S2816x1024_S4x704x1024) bitsLt_bf16_f32 : FVec Ideal S4x704x1024 .bf16) := by
  unfold V hostOps0; after_results_simp <;> rfl
theorem V_8 (c : Dev nD) : V m c main_v8 = (truncf .bf16 (shapeCast S4x704x1024 (a4 m c) shapeCasts_S2816x1024_S4x704x1024) bitsLt_bf16_f32 : FVec Ideal S4x704x1024 .bf16) := by
  unfold V hostOps0; after_results_simp <;> rfl

/-- A point's row `p` among all rows, -/
abbrev row (t : Fin cfg0.N) (p : Fin 1024) : Fin 8192 := ⟨t.val / 4 * 1024 + p.val, by have := t.isLt; have : cfg0.N = 32 := N_0; omega⟩
/-- and its column `q` among all columns. -/
abbrev col (t : Fin cfg0.N) (q : Fin 704) : Fin 2816 := ⟨t.val % 4 * 704 + q.val, by omega⟩

/-- The slabs of a matrix hold one chip's columns each, -/
theorem wslab (x : FVec Ideal S1024x2816 .f32) (j : Fin 4) (q : Fin 704) (d : Fin 1024) :
    (truncf .bf16 (shapeCast S4x704x1024 (transpose S2816x1024 [1, 0] x transposes_S1024x2816_S2816x1024_1_0) shapeCasts_S2816x1024_S4x704x1024) bitsLt_bf16_f32 : FVec Ideal S4x704x1024 .bf16) (ix3 j q d)
      = x (ix2 d ⟨j.val * 704 + q.val, by omega⟩) := by
  pointwise
/-- or its rows. -/
theorem dslab (x : FVec Ideal S2816x1024 .f32) (j : Fin 4) (q : Fin 704) (d : Fin 1024) :
    (truncf .bf16 (shapeCast S4x704x1024 x shapeCasts_S2816x1024_S4x704x1024) bitsLt_bf16_f32 : FVec Ideal S4x704x1024 .bf16) (ix3 j q d)
      = x (ix2 ⟨j.val * 704 + q.val, by omega⟩ d) := by
  pointwise

theorem idx_0 : ∀ t : Fin cfg0.N, win0_0.index t 0 = t.val / 4 ∧ win0_0.index t 1 = 0 :=
  (by decide +kernel : ∀ t : Fin grid0.N, _)
theorem idx_1 : ∀ t : Fin cfg0.N, win0_1.index t 0 = 0 ∧ win0_1.index t 1 = 0 :=
  (by decide +kernel : ∀ t : Fin grid0.N, _)
theorem idx_2 : ∀ t : Fin cfg0.N, win0_2.index t 0 = t.val % 4 ∧ win0_2.index t 1 = 0 ∧ win0_2.index t 2 = 0 :=
  (by decide +kernel : ∀ t : Fin grid0.N, _)
theorem idx_3 : ∀ t : Fin cfg0.N, win0_3.index t 0 = t.val % 4 ∧ win0_3.index t 1 = 0 ∧ win0_3.index t 2 = 0 :=
  (by decide +kernel : ∀ t : Fin grid0.N, _)
theorem idx_4 : ∀ t : Fin cfg0.N, win0_4.index t 0 = t.val % 4 ∧ win0_4.index t 1 = 0 ∧ win0_4.index t 2 = 0 :=
  (by decide +kernel : ∀ t : Fin grid0.N, _)
theorem idx_5 : ∀ t : Fin cfg0.N, win0_5.index t 0 = t.val / 4 ∧ win0_5.index t 1 = 0 :=
  (by decide +kernel : ∀ t : Fin grid0.N, _)
theorem idx_6 : ∀ t : Fin cfg0.N, win0_6.index t 0 = t.val % 4 ∧ win0_6.index t 1 = t.val / 4 ∧ win0_6.index t 2 = 0 :=
  (by decide +kernel : ∀ t : Fin grid0.N, _)
theorem idx_7 : ∀ t : Fin cfg0.N, win0_7.index t 0 = t.val % 4 ∧ win0_7.index t 1 = t.val / 4 ∧ win0_7.index t 2 = 0 :=
  (by decide +kernel : ∀ t : Fin grid0.N, _)
theorem idx_8 : ∀ t : Fin cfg0.N, win0_8.index t 0 = t.val / 4 ∧ win0_8.index t 1 = 0 :=
  (by decide +kernel : ∀ t : Fin grid0.N, _)

theorem blk_0 (c : Dev nD) (t : Fin cfg0.N) (p q : Fin 1024) : (iblk m c 0 t : S1024x1024.Idx → EReal) (ix2 p q) = a0 m c (ix2 (row t p) q) := by
  obtain ⟨h0, h1⟩ := idx_0 t
  show (V m c main_arg0 : FVec Ideal S8192x1024 .f32) ((win0_0.rect t).emb (ix2 p q)) = _
  rw [V_a0]
  refine congrArg (a0 m c) (funext fun a => Fin.ext ?_)
  match a with
  | ⟨0, _⟩ => show win0_0.index t 0 * 1024 + 1 * p.val = _; rw [h0]; simp
  | ⟨1, _⟩ => show win0_0.index t 1 * 1024 + 1 * q.val = _; rw [h1]; simp

theorem blk_1 (c : Dev nD) (t : Fin cfg0.N) (q : Fin 1024) : (iblk m c 1 t : S1x1024.Idx → EReal) (ix2 0 q) = a1 m c (ix1 q) := by
  obtain ⟨h0, h1⟩ := idx_1 t
  show (V m c main_v0 : FVec Ideal S1x1024 .f32) ((win0_1.rect t).emb (ix2 0 q)) = _
  rw [V_0, show (win0_1.rect t).emb (ix2 0 q) = (ix2 0 q : S1x1024.Idx) from funext fun a => Fin.ext (by
    match a with
    | ⟨0, _⟩ => show win0_1.index t 0 * 1 + 1 * 0 = _; rw [h0]; simp
    | ⟨1, _⟩ => show win0_1.index t 1 * 1024 + 1 * q.val = _; rw [h1]; simp)]
  pointwise

theorem blk_2 (c : Dev nD) (t : Fin cfg0.N) (q : Fin 704) (k : Fin 1024) : (iblk m c 2 t : S1x704x1024.Idx → EReal) (ix3 0 q k) = a2 m c (ix2 k (col t q)) := by
  obtain ⟨h0, h1, h2⟩ := idx_2 t
  show (V m c main_v3 : FVec Ideal S4x704x1024 .bf16) ((win0_2.rect t).emb (ix3 0 q k)) = _
  rw [V_3, ← wslab (a2 m c) ⟨t.val % 4, by omega⟩ q k]
  congr 1; funext a; apply Fin.ext
  match a with
  | ⟨0, _⟩ => show win0_2.index t 0 * 1 + 1 * 0 = _; rw [h0]; simp
  | ⟨1, _⟩ => show win0_2.index t 1 * 704 + 1 * q.val = _; rw [h1]; simp
  | ⟨2, _⟩ => show win0_2.index t 2 * 1024 + 1 * k.val = _; rw [h2]; simp

theorem blk_3 (c : Dev nD) (t : Fin cfg0.N) (q : Fin 704) (k : Fin 1024) : (iblk m c 3 t : S1x704x1024.Idx → EReal) (ix3 0 q k) = a3 m c (ix2 k (col t q)) := by
  obtain ⟨h0, h1, h2⟩ := idx_3 t
  show (V m c main_v6 : FVec Ideal S4x704x1024 .bf16) ((win0_3.rect t).emb (ix3 0 q k)) = _
  rw [V_6, ← wslab (a3 m c) ⟨t.val % 4, by omega⟩ q k]
  congr 1; funext a; apply Fin.ext
  match a with
  | ⟨0, _⟩ => show win0_3.index t 0 * 1 + 1 * 0 = _; rw [h0]; simp
  | ⟨1, _⟩ => show win0_3.index t 1 * 704 + 1 * q.val = _; rw [h1]; simp
  | ⟨2, _⟩ => show win0_3.index t 2 * 1024 + 1 * k.val = _; rw [h2]; simp

theorem blk_4 (c : Dev nD) (t : Fin cfg0.N) (q : Fin 704) (k : Fin 1024) : (iblk m c 4 t : S1x704x1024.Idx → EReal) (ix3 0 q k) = a4 m c (ix2 (col t q) k) := by
  obtain ⟨h0, h1, h2⟩ := idx_4 t
  show (V m c main_v8 : FVec Ideal S4x704x1024 .bf16) ((win0_4.rect t).emb (ix3 0 q k)) = _
  rw [V_8, ← dslab (a4 m c) ⟨t.val % 4, by omega⟩ q k]
  congr 1; funext a; apply Fin.ext
  match a with
  | ⟨0, _⟩ => show win0_4.index t 0 * 1 + 1 * 0 = _; rw [h0]; simp
  | ⟨1, _⟩ => show win0_4.index t 1 * 704 + 1 * q.val = _; rw [h1]; simp
  | ⟨2, _⟩ => show win0_4.index t 2 * 1024 + 1 * k.val = _; rw [h2]; simp

/-! ## The four results, by index -/

/-- The normalised row, -/
def hn (c : Dev nD) (r : Fin 8192) (q : Fin 1024) : EReal := a0 m c (ix2 r q) * rs (fun d => a0 m c (ix2 r d)) * a1 m c (ix1 q)
/-- the gate's and the up product, -/
def gg (c : Dev nD) (r : Fin 8192) (n : Fin 2816) : EReal := ∑ k : Fin 1024, hn m c r k * a2 m c (ix2 k n)
def uu (c : Dev nD) (r : Fin 8192) (n : Fin 2816) : EReal := ∑ k : Fin 1024, hn m c r k * a3 m c (ix2 k n)
/-- the gated product, -/
def act (c : Dev nD) (r : Fin 8192) (n : Fin 2816) : EReal := gg m c r n * Ideal.div 1 (1 + Ideal.exp (-gg m c r n)) * uu m c r n
/-- and the new stream. -/
def x2 (c : Dev nD) (r : Fin 8192) (q : Fin 1024) : EReal := a0 m c (ix2 r q) + ∑ n, act m c r n * a4 m c (ix2 n q)

section Words

variable (x0 : FVec Ideal S1024x1024 .f32) (x1 : FVec Ideal S1x1024 .f32) (hb : FVec Ideal S1024x1024 .bf16) (w2 w3 w4 : FVec Ideal S1x704x1024 .bf16) (a : FVec Ideal S1024x1024 .f32)

theorem outH_at (p q : Fin 1024) : outH (F := Ideal) x0 x1 (ix2 p q) = (x0 (ix2 p q) * rs (fun d => x0 (ix2 p d)) * x1 (ix2 0 q) : EReal) := by
  unfold outH rs vs
  pointwise [k0_pay2]
theorem set_at (p q : Fin 1024) : k0_pay3 (F := Ideal) x0 (ix2 p q) = (x0 (ix2 p q) : EReal) := by
  pointwise [k0_pay3]
theorem outG_at (p : Fin 1024) (q : Fin 704) : outG (F := Ideal) hb w2 (ix3 0 p q) = (∑ k : Fin 1024, hb (ix2 p k) * w2 (ix3 0 q k) : EReal) := by
  unfold outG
  pointwise [k0_pay7, k0_pay5, k0_pay4]
theorem outU_at (p : Fin 1024) (q : Fin 704) : outU (F := Ideal) hb w3 (ix3 0 p q) = (∑ k : Fin 1024, hb (ix2 p k) * w3 (ix3 0 q k) : EReal) := by
  unfold outU
  pointwise [k0_pay8, k0_pay6, k0_pay4]
theorem act_at (p : Fin 1024) (q : Fin 704) : k0_pay9 (F := Ideal) hb w2 w3 (ix2 p q)
    = ((∑ k : Fin 1024, hb (ix2 p k) * w2 (ix3 0 q k)) * Ideal.div 1 (1 + Ideal.exp (-(∑ k : Fin 1024, hb (ix2 p k) * w2 (ix3 0 q k)))) * ∑ k : Fin 1024, hb (ix2 p k) * w3 (ix3 0 q k) : EReal) := by
  pointwise [k0_pay9, k0_pay5, k0_pay6, k0_pay4]
  simp only [zero_sub]
theorem accN_at (p q : Fin 1024) : accN (F := Ideal) hb w2 w3 w4 a (ix2 p q) = (a (ix2 p q) + ∑ n : Fin 704, k0_pay9 (F := Ideal) hb w2 w3 (ix2 p n) * w4 (ix3 0 n q) : EReal) := by
  unfold accN
  generalize k0_pay9 (F := Ideal) hb w2 w3 = z
  pointwise [k0_pay1]

end Words

variable (c : Dev nD) (t : Fin cfg0.N)

theorem first_row (p : Fin 1024) : row (first t) p = row t p := Fin.ext (by show t.val / 4 * 4 / 4 * 1024 + p.val = t.val / 4 * 1024 + p.val; omega)

theorem hbk_at (p q : Fin 1024) : hbk (F := Ideal) m c t (ix2 p q) = hn m c (row t p) q := by
  unfold hbk hn
  rw [outH_at, blk_0, blk_1, first_row]
  simp only [blk_0, first_row]

theorem gg_at (p : Fin 1024) (q : Fin 704) : outG (F := Ideal) (hbk m c t) (iblk m c 2 t) (ix3 0 p q) = gg m c (row t p) (col t q) := by
  refine (outG_at _ _ p q).trans (Finset.sum_congr rfl fun k _ => ?_)
  rw [hbk_at, blk_2]
theorem uu_at (p : Fin 1024) (q : Fin 704) : outU (F := Ideal) (hbk m c t) (iblk m c 3 t) (ix3 0 p q) = uu m c (row t p) (col t q) := by
  refine (outU_at _ _ p q).trans (Finset.sum_congr rfl fun k _ => ?_)
  rw [hbk_at, blk_3]

/-- What a point adds to an entry of the accumulator. -/
def part (p q : Fin 1024) : EReal := ∑ n : Fin 704, act m c (row t p) (col t n) * a4 m c (ix2 (col t n) q)

theorem grow_at (a : FVec Ideal S1024x1024 .f32) (p q : Fin 1024) : grow (F := Ideal) m c t a (ix2 p q) = a (ix2 p q) + part m c t p q := by
  unfold grow part
  refine (accN_at _ _ _ _ _ p q).trans (congrArg (a (ix2 p q) + ·) (Finset.sum_congr rfl fun n _ => ?_))
  rw [blk_4]
  refine congrArg (· * a4 m c (ix2 (col t n) q)) ((act_at _ _ _ p n).trans ?_)
  rw [← outG_at, ← outU_at, gg_at, uu_at]; rfl

theorem acc_at (h3 : t.val % 4 = 3) (p q : Fin 1024) : acc (F := Ideal) m c t.val t.isLt (ix2 p q) = x2 m c (row t p) q := by
  have h : t.val < cfg0.N := t.isLt
  have e0 := acc_first (F := Ideal) m c (t.val - 1 - 1 - 1) (by omega) (by omega)
  have e1 := acc_rest (F := Ideal) m c (t.val - 1 - 1) (by omega) (by omega)
  have e2 := acc_rest (F := Ideal) m c (t.val - 1) (by omega) (by omega)
  have e3 := acc_rest (F := Ideal) m c t.val t.isLt (by omega)
  rw [e3, grow_at, e2, grow_at, e1, grow_at, e0, grow_at, set_at, blk_0]
  unfold x2
  rw [← four (fun n => act m c (row t p) n * a4 m c (ix2 n q)), Finset.sum_range_succ, Finset.sum_range_succ, Finset.sum_range_succ, Finset.sum_range_one, ← add_assoc, ← add_assoc, ← add_assoc]
  have r (u : Fin cfg0.N) (k : ℕ) (hk : k ≤ 3) (h : u.val = t.val - k) : part m c u p q = ∑ n : Fin 704, act m c (row t p) ⟨(3 - k) % 4 * 704 + n.val, by omega⟩ * a4 m c (ix2 ⟨(3 - k) % 4 * 704 + n.val, by omega⟩ q) := by
    unfold part
    refine Finset.sum_congr rfl fun n _ => ?_
    have er : row u p = row t p := Fin.ext (by show u.val / 4 * 1024 + p.val = t.val / 4 * 1024 + p.val; rw [show u.val / 4 = t.val / 4 by omega])
    have ec : col u n = ⟨(3 - k) % 4 * 704 + n.val, by omega⟩ := Fin.ext (by show u.val % 4 * 704 + n.val = (3 - k) % 4 * 704 + n.val; rw [show u.val % 4 = (3 - k) % 4 by omega])
    rw [er, ec]
  rw [r ⟨t.val - 1 - 1 - 1, by omega⟩ 3 (by decide) (by show t.val - 1 - 1 - 1 = _; omega), r ⟨t.val - 1 - 1, by omega⟩ 2 (by decide) (by show t.val - 1 - 1 = _; omega), r ⟨t.val - 1, by omega⟩ 1 (by decide) rfl, r ⟨t.val, t.isLt⟩ 0 (by decide) rfl,
    show row ⟨t.val - 1 - 1 - 1, by omega⟩ p = row t p from Fin.ext (by show (t.val - 1 - 1 - 1) / 4 * 1024 + p.val = t.val / 4 * 1024 + p.val; rw [show (t.val - 1 - 1 - 1) / 4 = t.val / 4 by omega])]

/-! ## The arrays after the run -/

def g5 (c : Dev nD) : FVec Ideal S8192x1024 .bf16 := fun i => hn m c (i 0) (i 1)
def g6 (c : Dev nD) : FVec Ideal S4x8192x704 .bf16 := fun i => gg m c (i 1) ⟨(i 0).val * 704 + (i 2).val, by have h0 : (i 0).val < 4 := (i 0).isLt; have h2 : (i 2).val < 704 := (i 2).isLt; omega⟩
def g7 (c : Dev nD) : FVec Ideal S4x8192x704 .bf16 := fun i => uu m c (i 1) ⟨(i 0).val * 704 + (i 2).val, by have h0 : (i 0).val < 4 := (i 0).isLt; have h2 : (i 2).val < 704 := (i 2).isLt; omega⟩
def g8 (c : Dev nD) : FVec Ideal S8192x1024 .f32 := fun i => x2 m c (i 0) (i 1)

theorem emb_5 (t : Fin cfg0.N) (p q : Fin 1024) : (win0_5.rect t).emb (ix2 p q) = (ix2 (row t p) q : S8192x1024.Idx) := by
  obtain ⟨h0, h1⟩ := idx_5 t
  funext a; apply Fin.ext
  match a with
  | ⟨0, _⟩ => show win0_5.index t 0 * 1024 + 1 * p.val = _; rw [h0]; simp
  | ⟨1, _⟩ => show win0_5.index t 1 * 1024 + 1 * q.val = _; rw [h1]; simp

theorem emb_6 (t : Fin cfg0.N) (p : Fin 1024) (q : Fin 704) : (win0_6.rect t).emb (ix3 0 p q) = (ix3 ⟨t.val % 4, by omega⟩ (row t p) q : S4x8192x704.Idx) := by
  obtain ⟨h0, h1, h2⟩ := idx_6 t
  funext a; apply Fin.ext
  match a with
  | ⟨0, _⟩ => show win0_6.index t 0 * 1 + 1 * 0 = _; rw [h0]; simp
  | ⟨1, _⟩ => show win0_6.index t 1 * 1024 + 1 * p.val = _; rw [h1]; simp
  | ⟨2, _⟩ => show win0_6.index t 2 * 704 + 1 * q.val = _; rw [h2]; simp

theorem emb_7 (t : Fin cfg0.N) (p : Fin 1024) (q : Fin 704) : (win0_7.rect t).emb (ix3 0 p q) = (ix3 ⟨t.val % 4, by omega⟩ (row t p) q : S4x8192x704.Idx) := by
  obtain ⟨h0, h1, h2⟩ := idx_7 t
  funext a; apply Fin.ext
  match a with
  | ⟨0, _⟩ => show win0_7.index t 0 * 1 + 1 * 0 = _; rw [h0]; simp
  | ⟨1, _⟩ => show win0_7.index t 1 * 1024 + 1 * p.val = _; rw [h1]; simp
  | ⟨2, _⟩ => show win0_7.index t 2 * 704 + 1 * q.val = _; rw [h2]; simp

theorem emb_8 (t : Fin cfg0.N) (p q : Fin 1024) : (win0_8.rect t).emb (ix2 p q) = (ix2 (row t p) q : S8192x1024.Idx) := by
  obtain ⟨h0, h1⟩ := idx_8 t
  funext a; apply Fin.ext
  match a with
  | ⟨0, _⟩ => show win0_8.index t 0 * 1024 + 1 * p.val = _; rw [h0]; simp
  | ⟨1, _⟩ => show win0_8.index t 1 * 1024 + 1 * q.val = _; rw [h1]; simp

theorem cover_5 (i : S8192x1024.Idx) : ∃ t : Fin cfg0.N, (cfg0.win 5).flush t = true ∧ i ∈ ((win0_5.rect t)).set := by
  have h0 : (i 0).val < 8192 := (i 0).isLt
  have hN : cfg0.N = 32 := N_0
  let t : Fin cfg0.N := ⟨(i 0).val / 1024 * 4 + 3, by omega⟩
  have e : i = (win0_5.rect t).emb (ix2 ⟨(i 0).val % 1024, by omega⟩ (i 1)) := by
    refine Eq.trans ?_ (emb_5 t ⟨(i 0).val % 1024, by omega⟩ (i 1)).symm; funext a; apply Fin.ext
    match a with
    | ⟨0, _⟩ => show (i 0).val = ((i 0).val / 1024 * 4 + 3) / 4 * 1024 + (i 0).val % 1024; omega
    | ⟨1, _⟩ => rfl
  exact ⟨t, (flush0_5 t).mpr (by show ((i 0).val / 1024 * 4 + 3) % 4 = 3; omega), e ▸ (win0_5.rect t).idx_mem _⟩

theorem cover_6 (i : S4x8192x704.Idx) : ∃ t : Fin cfg0.N, (cfg0.win 6).flush t = true ∧ i ∈ ((win0_6.rect t)).set := by
  have h0 : (i 0).val < 4 := (i 0).isLt
  have h1 : (i 1).val < 8192 := (i 1).isLt
  have hN : cfg0.N = 32 := N_0
  let t : Fin cfg0.N := ⟨(i 1).val / 1024 * 4 + (i 0).val, by omega⟩
  have e : i = (win0_6.rect t).emb (ix3 0 ⟨(i 1).val % 1024, by omega⟩ (i 2)) := by
    refine Eq.trans ?_ (emb_6 t ⟨(i 1).val % 1024, by omega⟩ (i 2)).symm; funext a; apply Fin.ext
    match a with
    | ⟨0, _⟩ => show (i 0).val = ((i 1).val / 1024 * 4 + (i 0).val) % 4; omega
    | ⟨1, _⟩ => show (i 1).val = ((i 1).val / 1024 * 4 + (i 0).val) / 4 * 1024 + (i 1).val % 1024; omega
    | ⟨2, _⟩ => rfl
  exact ⟨t, flush0_6 t, e ▸ (win0_6.rect t).idx_mem _⟩

theorem cover_7 (i : S4x8192x704.Idx) : ∃ t : Fin cfg0.N, (cfg0.win 7).flush t = true ∧ i ∈ ((win0_7.rect t)).set := by
  have h0 : (i 0).val < 4 := (i 0).isLt
  have h1 : (i 1).val < 8192 := (i 1).isLt
  have hN : cfg0.N = 32 := N_0
  let t : Fin cfg0.N := ⟨(i 1).val / 1024 * 4 + (i 0).val, by omega⟩
  have e : i = (win0_7.rect t).emb (ix3 0 ⟨(i 1).val % 1024, by omega⟩ (i 2)) := by
    refine Eq.trans ?_ (emb_7 t ⟨(i 1).val % 1024, by omega⟩ (i 2)).symm; funext a; apply Fin.ext
    match a with
    | ⟨0, _⟩ => show (i 0).val = ((i 1).val / 1024 * 4 + (i 0).val) % 4; omega
    | ⟨1, _⟩ => show (i 1).val = ((i 1).val / 1024 * 4 + (i 0).val) / 4 * 1024 + (i 1).val % 1024; omega
    | ⟨2, _⟩ => rfl
  exact ⟨t, flush0_7 t, e ▸ (win0_7.rect t).idx_mem _⟩

theorem cover_8 (i : S8192x1024.Idx) : ∃ t : Fin cfg0.N, (cfg0.win 8).flush t = true ∧ i ∈ ((win0_8.rect t)).set := by
  have h0 : (i 0).val < 8192 := (i 0).isLt
  have hN : cfg0.N = 32 := N_0
  let t : Fin cfg0.N := ⟨(i 0).val / 1024 * 4 + 3, by omega⟩
  have e : i = (win0_8.rect t).emb (ix2 ⟨(i 0).val % 1024, by omega⟩ (i 1)) := by
    refine Eq.trans ?_ (emb_8 t ⟨(i 0).val % 1024, by omega⟩ (i 1)).symm; funext a; apply Fin.ext
    match a with
    | ⟨0, _⟩ => show (i 0).val = ((i 0).val / 1024 * 4 + 3) / 4 * 1024 + (i 0).val % 1024; omega
    | ⟨1, _⟩ => rfl
  exact ⟨t, (flush0_8 t).mpr (by show ((i 0).val / 1024 * 4 + 3) % 4 = 3; omega), e ▸ (win0_8.rect t).idx_mem _⟩

theorem flushed_5 (c : Dev nD) (t : Fin cfg0.N) : (dats m 0 c).flushed 5 t = (win0_5.blk t).view.read (Elt Ideal) (g5 m c) := by
  show (cfg0.win 5).cut (grid0.coords t) ((dats m 0 c).after 5 t) = _
  rw [after_5]
  funext i
  show (hbk (F := Ideal) m c t : S1024x1024.Idx → EReal) i = g5 m c ((win0_5.rect t).emb i)
  obtain ⟨p, q, rfl⟩ : ∃ (p q : Fin 1024), i = (ix2 p q : S1024x1024.Idx) := ⟨i 0, i 1, eq_ix2 i⟩
  rw [show (win0_5.rect t).emb (ix2 p q) = _ from emb_5 t p q]
  exact hbk_at m c t p q

theorem flushed_8 (c : Dev nD) (t : Fin cfg0.N) (h : t.val % 4 = 3) : (dats m 0 c).flushed 8 t = (win0_8.blk t).view.read (Elt Ideal) (g8 m c) := by
  show (cfg0.win 8).cut (grid0.coords t) ((dats m 0 c).after 8 t) = _
  rw [after_8]
  funext i
  show (acc (F := Ideal) m c t.val t.isLt : S1024x1024.Idx → EReal) i = g8 m c ((win0_8.rect t).emb i)
  obtain ⟨p, q, rfl⟩ : ∃ (p q : Fin 1024), i = (ix2 p q : S1024x1024.Idx) := ⟨i 0, i 1, eq_ix2 i⟩
  rw [show (win0_8.rect t).emb (ix2 p q) = _ from emb_8 t p q]
  exact acc_at m c t h p q

theorem flushed_6 (c : Dev nD) (t : Fin cfg0.N) : (dats m 0 c).flushed 6 t = (win0_6.blk t).view.read (Elt Ideal) (g6 m c) := by
  show (cfg0.win 6).cut (grid0.coords t) ((dats m 0 c).after 6 t) = _
  rw [after_6]
  funext i
  show (outG (F := Ideal) (hbk m c t) (iblk m c 2 t) : S1x1024x704.Idx → EReal) i = g6 m c ((win0_6.rect t).emb i)
  obtain ⟨p, q, rfl⟩ : ∃ (p : Fin 1024) (q : Fin 704), i = (ix3 0 p q : S1x1024x704.Idx) := ⟨i 1, i 2, by
    rw [eq_ix3 i]; congr 1; exact Subsingleton.elim (α := Fin 1) _ _⟩
  rw [show (win0_6.rect t).emb (ix3 0 p q) = _ from emb_6 t p q]
  exact gg_at m c t p q

theorem flushed_7 (c : Dev nD) (t : Fin cfg0.N) : (dats m 0 c).flushed 7 t = (win0_7.blk t).view.read (Elt Ideal) (g7 m c) := by
  show (cfg0.win 7).cut (grid0.coords t) ((dats m 0 c).after 7 t) = _
  rw [after_7]
  funext i
  show (outU (F := Ideal) (hbk m c t) (iblk m c 3 t) : S1x1024x704.Idx → EReal) i = g7 m c ((win0_7.rect t).emb i)
  obtain ⟨p, q, rfl⟩ : ∃ (p : Fin 1024) (q : Fin 704), i = (ix3 0 p q : S1x1024x704.Idx) := ⟨i 1, i 2, by
    rw [eq_ix3 i]; congr 1; exact Subsingleton.elim (α := Fin 1) _ _⟩
  rw [show (win0_7.rect t).emb (ix3 0 p q) = _ from emb_7 t p q]
  exact uu_at m c t p q

theorem final_5 (c : Dev nD) : (dats m 0 c).arrAt 5 cfg0.N = g5 m c :=
  (dats m 0 c).arrAt_eq_of_cover 5 (g5 m c) (fun t h => flushed_5 m c t) fun i => (cover_5 i).imp fun t h => ⟨h.1, by
    show i ∈ ((View.whole main_v9_0).slice (win0_5.rect t)).set; rw [View.set_slice_whole]; exact h.2⟩

theorem final_6 (c : Dev nD) : (dats m 0 c).arrAt 6 cfg0.N = g6 m c :=
  (dats m 0 c).arrAt_eq_of_cover 6 (g6 m c) (fun t h => flushed_6 m c t) fun i => (cover_6 i).imp fun t h => ⟨h.1, by
    show i ∈ ((View.whole main_v9_1).slice (win0_6.rect t)).set; rw [View.set_slice_whole]; exact h.2⟩

theorem final_7 (c : Dev nD) : (dats m 0 c).arrAt 7 cfg0.N = g7 m c :=
  (dats m 0 c).arrAt_eq_of_cover 7 (g7 m c) (fun t h => flushed_7 m c t) fun i => (cover_7 i).imp fun t h => ⟨h.1, by
    show i ∈ ((View.whole main_v9_2).slice (win0_7.rect t)).set; rw [View.set_slice_whole]; exact h.2⟩

theorem final_8 (c : Dev nD) : (dats m 0 c).arrAt 8 cfg0.N = g8 m c :=
  (dats m 0 c).arrAt_eq_of_cover 8 (g8 m c) (fun t h => flushed_8 m c t ((flush0_8 t).mp h)) fun i => (cover_8 i).imp fun t h => ⟨h.1, by
    show i ∈ ((View.whole main_v9_3).slice (win0_8.rect t)).set; rw [View.set_slice_whole]; exact h.2⟩

/-- The gated layer's forward call computes reference.py's lines, at every argument. -/
theorem algebraic_ffnf : Cert.algebraic_FfnFIdeal_FfnFRIdeal (hFfnFIdeal := Cert.FfnFIdeal.Gen.facts) (hFfnFRIdeal := Cert.FfnFRIdeal.Gen.facts) := by
  intro m g m' g' hpre hag
  refine ⟨g5 m, g6 m, g7 m, g8 m, ?_, ?_⟩
  · refine (θ_run Cert.FfnFIdeal.defs _ _).mono (fun r h c => ?_) (θ_run_and (run_main m g) (frame m g))
    exact ⟨((h.1 c).1 5).trans (final_5 m c), ((h.1 c).1 6).trans (final_6 m c), ((h.1 c).1 7).trans (final_7 m c), ((h.1 c).1 8).trans (final_8 m c), h.2.1 c⟩
  · refine (θ_run Cert.FfnFRIdeal.defs _ _).mono (fun r h c => ?_) (Cert.FfnFRIdeal.Value.run (F := Ideal) m' g')
    obtain ⟨e0, e1, e2, e3, e4⟩ := hag c
    obtain ⟨h0, h1, h2, h3, h4⟩ := h c
    refine ⟨h0.trans ?_, h1.trans ?_, h2.trans ?_, h3.trans ?_, h4⟩
    all_goals clear h0 h1 h2 h3 h4 h hag hpre
    · rw [e0, e1]
      funext i; rw [eq_ix2 i]
      generalize i 0 = p, i 1 = q
      change Fin 8192 at p
      change Fin 1024 at q
      show _ = hn m c p q
      unfold hn rs vs
      pointwise
    · rw [e0, e1, e2]
      funext i; rw [eq_ix3 i]
      generalize i 0 = j, i 1 = p, i 2 = q
      change Fin 4 at j
      change Fin 8192 at p
      change Fin 704 at q
      show _ = gg m c p ⟨j.val * 704 + q.val, _⟩
      unfold gg hn rs vs
      pointwise
    · rw [e0, e1, e3]
      funext i; rw [eq_ix3 i]
      generalize i 0 = j, i 1 = p, i 2 = q
      change Fin 4 at j
      change Fin 8192 at p
      change Fin 704 at q
      show _ = uu m c p ⟨j.val * 704 + q.val, _⟩
      unfold uu hn rs vs
      pointwise
    · rw [e0, e1, e2, e3, e4]
      funext i; rw [eq_ix2 i]
      generalize i 0 = p, i 1 = q
      change Fin 8192 at p
      change Fin 1024 at q
      show _ = x2 m c p q
      unfold x2 act gg uu hn rs vs
      pointwise

end Cert.FfnFIdeal.Own
-- ==== Proof.MixFP.Body.lean ====
/- The idealized `_mixer_fwd` at one tile of 256 rows: what its body leaves in the three results, in the rows it carries to
   the next tile (the last eight of each convolution's operand and the state) and in its scratch. -/
module

public import proofs.«01_k».proof.Proof.Gen.MixFIdeal.Frame
public import proofs.«01_k».proof.Proof.Gen.MixFIdeal.Skeleton
public import proofs.«01_k».proof.Proof.Gen.MixFIdeal.Loops
public import Idealize.ShloMosaic.Lib.VecWindow
public import Idealize.ShloMosaic.Lib.Claim
public import Idealize.ShloMosaic.Lib.WordCmp
public import Idealize.ShloMosaic.Lib.ValueIdxCore

@[expose] public section

set_option maxRecDepth 16384

noncomputable section

namespace Cert.MixFIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2)
open Cert.MixFIdeal.Gen

/-! Short names for the bounds used below. -/
abbrev n0 := inb_S8x1024_S8x512_0_0
abbrev n1 := inb_S8x1024_S8x512_0_512
abbrev n2 := inb_S256x1024_S256x512_0_512
abbrev n3 := inb_S256x1024_S256x512_0_0

variable {F : FTy → Type} [FloatOps F]

local notation "𝕄" => MT nD τ sig Unit (Elt F) ℕ (UR sig nD τ) ℕ

/-! ## Windows and halves -/

/-- The left half of a block's columns, -/
abbrev wl {n : ℕ} {e : EltTy} (x : Vec F ⟨2, ![n, 1024]⟩ e) (inb : ∀ a, (![0, 0] : Fin 2 → ℕ) a + (![n, 512] : Fin 2 → ℕ) a ≤ (⟨2, ![n, 1024]⟩ : Shape).size a) : Vec F ⟨2, ![n, 512]⟩ e :=
  VecWindow.window (s := ⟨2, ![n, 1024]⟩) x ![0, 0] ![n, 512] inb
/-- the right half, -/
abbrev wr {n : ℕ} {e : EltTy} (x : Vec F ⟨2, ![n, 1024]⟩ e) (inb : ∀ a, (![0, 512] : Fin 2 → ℕ) a + (![n, 512] : Fin 2 → ℕ) a ≤ (⟨2, ![n, 1024]⟩ : Shape).size a) : Vec F ⟨2, ![n, 512]⟩ e :=
  VecWindow.window (s := ⟨2, ![n, 1024]⟩) x ![0, 512] ![n, 512] inb
/-- and a block from its halves. -/
def two {n : ℕ} {e : EltTy} (x y : Vec F ⟨2, ![n, 512]⟩ e) : Vec F ⟨2, ![n, 1024]⟩ e := fun i =>
  if h : (i 1).val < 512 then x (ix2 (i 0) ⟨(i 1).val, h⟩) else y (ix2 (i 0) ⟨(i 1).val - 512, by have := (i 1).isLt; simp at this; omega⟩)

/-- Two stores of halves leave the block of the two, whatever was there. -/
theorem read_two {n : ℕ} {e : EltTy} {κ : Kind} {sp : Space} (v : Memref sig κ sp ⟨2, ![n, 1024]⟩ e) (f : v.view.ty.Contents (Elt F))
    (inb : ∀ a, (![0, 512] : Fin 2 → ℕ) a + (![n, 512] : Fin 2 → ℕ) a ≤ (⟨2, ![n, 1024]⟩ : Shape).size a) (inb' : ∀ a, (![0, 0] : Fin 2 → ℕ) a + (![n, 512] : Fin 2 → ℕ) a ≤ (⟨2, ![n, 1024]⟩ : Shape).size a)
    (x y : Vec F ⟨2, ![n, 512]⟩ e) (L : List (View.Piece (Elt F) ⟨2, ![n, 1024]⟩ e)) :
    v.view.read (Elt F) (v.view.writes (Elt F) f (⟨Rect.unit ![0, 512] ![n, 512] inb, y⟩ :: ⟨Rect.unit ![0, 0] ![n, 512] inb', x⟩ :: L)) = two x y := by
  funext i
  rw [View.read_writes_cons_put _ _ _ _ _ rfl, View.read_writes_cons_put _ _ _ _ _ rfl]
  unfold VecWindow.put two
  have h0 := (i 0).isLt
  have h1 := (i 1).isLt
  simp only [Matrix.cons_val_zero, Matrix.cons_val_one] at h0 h1
  by_cases h : (i 1).val < 512
  · rw [dif_neg (fun hh => by have := (hh 1).1; simp at this; omega), dif_pos (fun a => by match a with | 0 => simp; omega | 1 => simp; omega), dif_pos h]
    exact congrArg x (funext fun a => Fin.ext (by match a with | 0 => rfl | 1 => rfl))
  · rw [dif_pos (fun a => by match a with | 0 => simp; omega | 1 => simp; omega), dif_neg h]
    exact congrArg y (funext fun a => Fin.ext (by match a with | 0 => rfl | 1 => rfl))

/-- A load at a window of a buffer's contents. -/
theorem load_win {s : Shape} {e : EltTy} {κ : Kind} {r : Space} (v : Memref sig κ r s e) (hv : v.IsWhole) (x : Vec F s e) (off size : Fin s.rank → ℕ) (inb : ∀ a, off a + size a ≤ s.size a) :
    v.view.readAt (Elt F) (Rect.unit off size inb).toLoadRect (hv.unread x) = VecWindow.window x off size inb :=
  (View.readAt_unit _ _ inb rfl inb).trans (by rw [hv.read_unread])

/-- The whole as a window. -/
theorem window_all {n m : ℕ} {e : EltTy} (x : Vec F ⟨2, ![n, m]⟩ e) (inb : ∀ a, (![0, 0] : Fin 2 → ℕ) a + (![n, m] : Fin 2 → ℕ) a ≤ (⟨2, ![n, m]⟩ : Shape).size a) :
    VecWindow.window (s := ⟨2, ![n, m]⟩) x ![0, 0] ![n, m] inb = x := by
  funext i
  unfold VecWindow.window
  exact congrArg x (funext fun a => Fin.ext (by match a with | 0 => simp | 1 => simp))

theorem window_g (x : Vec F S8x1024 .f32) (inb : ∀ a, (![0, 0] : Fin 2 → ℕ) a + S8x1024.size a ≤ S8x1024.size a) :
    VecWindow.window x ![0, 0] S8x1024.size inb = x := window_all x inb

/-- A store of the whole leaves what it stores. -/
theorem read_all {n m : ℕ} {e : EltTy} {κ : Kind} {sp : Space} (v : Memref sig κ sp ⟨2, ![n, m]⟩ e) (f : v.view.ty.Contents (Elt F))
    (inb : ∀ a, (![0, 0] : Fin 2 → ℕ) a + (![n, m] : Fin 2 → ℕ) a ≤ (⟨2, ![n, m]⟩ : Shape).size a) (x : Vec F ⟨2, ![n, m]⟩ e) (L : List (View.Piece (Elt F) ⟨2, ![n, m]⟩ e)) :
    v.view.read (Elt F) (v.view.writes (Elt F) f (⟨Rect.unit ![0, 0] ![n, m] inb, x⟩ :: L)) = x := by
  funext i
  rw [View.read_writes_cons_put _ _ _ _ _ rfl]
  unfold VecWindow.put
  rw [dif_pos (fun a => by have h := (i a).isLt; match a with | 0 => simpa using h | 1 => simpa using h)]
  exact congrArg x (funext fun a => Fin.ext (by match a with | 0 => rfl | 1 => rfl))

/-- A load over a store of the whole. -/
theorem load_over {n m : ℕ} {e : EltTy} {κ : Kind} {sp : Space} (v : Memref sig κ sp ⟨2, ![n, m]⟩ e) (f : v.view.ty.Contents (Elt F))
    (inb : ∀ a, (![0, 0] : Fin 2 → ℕ) a + (![n, m] : Fin 2 → ℕ) a ≤ (⟨2, ![n, m]⟩ : Shape).size a) (x : Vec F ⟨2, ![n, m]⟩ e) (L : List (View.Piece (Elt F) ⟨2, ![n, m]⟩ e))
    (off size : Fin 2 → ℕ) (inb' : ∀ a, off a + size a ≤ (⟨2, ![n, m]⟩ : Shape).size a) :
    v.view.readAt (Elt F) (Rect.unit (s := ⟨2, ![n, m]⟩) off size inb').toLoadRect (v.view.writes (Elt F) f (⟨Rect.unit ![0, 0] ![n, m] inb, x⟩ :: L)) = VecWindow.window (s := ⟨2, ![n, m]⟩) x off size inb' :=
  (View.readAt_unit _ _ inb' rfl inb').trans (by rw [read_all])

theorem cov_over {n m : ℕ} {e : EltTy} {κ : Kind} {sp : Space} (v : Memref sig κ sp ⟨2, ![n, m]⟩ e)
    (inb : ∀ a, (![0, 0] : Fin 2 → ℕ) a + (![n, m] : Fin 2 → ℕ) a ≤ (⟨2, ![n, m]⟩ : Shape).size a) (x : Vec F ⟨2, ![n, m]⟩ e) (L : List (View.Piece (Elt F) ⟨2, ![n, m]⟩ e))
    (off size : Fin 2 → ℕ) (inb' : ∀ a, off a + size a ≤ (⟨2, ![n, m]⟩ : Shape).size a) :
    v.view.readCov (⟨Rect.unit ![0, 0] ![n, m] inb, x⟩ :: L) (Rect.unit (s := ⟨2, ![n, m]⟩) off size inb').toLoadRect = VecWindow.window (s := ⟨2, ![n, m]⟩) x off size inb' :=
  load_over v _ inb x L off size inb'

/-- A load of the right half past a store of the left. -/
theorem cov_past {n : ℕ} {e : EltTy} {κ : Kind} {sp : Space} (v : Memref sig κ sp ⟨2, ![n, 1024]⟩ e)
    (inb : ∀ a, (![0, 0] : Fin 2 → ℕ) a + (![n, 1024] : Fin 2 → ℕ) a ≤ (⟨2, ![n, 1024]⟩ : Shape).size a) (inb₀ : ∀ a, (![0, 0] : Fin 2 → ℕ) a + (![n, 512] : Fin 2 → ℕ) a ≤ (⟨2, ![n, 1024]⟩ : Shape).size a)
    (x : Vec F ⟨2, ![n, 1024]⟩ e) (y : Vec F ⟨2, ![n, 512]⟩ e) (L : List (View.Piece (Elt F) ⟨2, ![n, 1024]⟩ e))
    (inb' : ∀ a, (![0, 512] : Fin 2 → ℕ) a + (![n, 512] : Fin 2 → ℕ) a ≤ (⟨2, ![n, 1024]⟩ : Shape).size a) :
    v.view.readCov (⟨Rect.unit ![0, 0] ![n, 512] inb₀, y⟩ :: ⟨Rect.unit ![0, 0] ![n, 1024] inb, x⟩ :: L) (Rect.unit (s := ⟨2, ![n, 1024]⟩) ![0, 512] ![n, 512] inb').toLoadRect = wr x inb' := by
  refine (View.readAt_unit _ _ inb' rfl inb').trans ?_
  rw [View.read_writes_cons_put _ _ _ _ _ rfl, read_all]
  exact VecWindow.window_put_of_disjoint _ _ _ _ _ inb' _ 1 (.inr (by simp))

/-- A load of a whole buffer. -/
theorem load_all {s : Shape} {e : EltTy} {κ : Kind} {r : Space} (v : Memref sig κ r s e) (hv : v.IsWhole) (x : Vec F s e) {off : Fin s.rank → ℕ} (inb : ∀ a, off a + s.size a ≤ s.size a) :
    v.view.readAt (Elt F) (Rect.unit off s.size inb).toLoadRect (hv.unread x) = x :=
  (View.readAt_full _ _ _).trans (hv.read_unread _)

/-! ## The loop over the tile's groups of eight rows -/

/-- The carried row, and the block of states, before trip `k`: from the decays `a`, the groups' own scans `h` and the carry `g`. -/
def st (a h : Vec F S256x1024 .f32) (g : Vec F S8x1024 .f32) : ℕ → Vec F S8x1024 .f32 × Vec F S256x1024 .f32
  | 0 => (g, h)
  | k + 1 =>
    if hk : k < k0_t1_loop.trips then
      (k0_pay78 (st a h g k).1 (VecWindow.window (st a h g k).2 (k0_off1 ⟨k, hk⟩) S8x1024.size (k0_off1_inb ⟨k, hk⟩)) (VecWindow.window a (k0_off1 ⟨k, hk⟩) S8x1024.size (k0_off1_inb ⟨k, hk⟩)),
       VecWindow.put (st a h g k).2 (k0_off1 ⟨k, hk⟩) S8x1024.size
        (k0_pay77 (st a h g k).1 (VecWindow.window (st a h g k).2 (k0_off1 ⟨k, hk⟩) S8x1024.size (k0_off1_inb ⟨k, hk⟩)) (VecWindow.window a (k0_off1 ⟨k, hk⟩) S8x1024.size (k0_off1_inb ⟨k, hk⟩))))
    else st a h g k

theorem st_eq1 {a a' h h' : Vec F S256x1024 .f32} {g g' : Vec F S8x1024 .f32} (ea : a = a') (eh : h = h') (eg : g = g') :
    (st a h g k0_t1_loop.trips).1 = (st a' h' g' k0_t1_loop.trips).1 := by rw [ea, eh, eg]

theorem st_eq2 {a a' h h' : Vec F S256x1024 .f32} {g g' : Vec F S8x1024 .f32} (ea : a = a') (eh : h = h') (eg : g = g') :
    (st a h g k0_t1_loop.trips).2 = (st a' h' g' k0_t1_loop.trips).2 := by rw [ea, eh, eg]

theorem st_succ (a h : Vec F S256x1024 .f32) (g : Vec F S8x1024 .f32) (k : Fin k0_t1_loop.trips) :
    st a h g (k.val + 1) =
      (k0_pay78 (st a h g k).1 (VecWindow.window (st a h g k).2 (k0_off1 k) S8x1024.size (k0_off1_inb k)) (VecWindow.window a (k0_off1 k) S8x1024.size (k0_off1_inb k)),
       VecWindow.put (st a h g k).2 (k0_off1 k) S8x1024.size
        (k0_pay77 (st a h g k).1 (VecWindow.window (st a h g k).2 (k0_off1 k) S8x1024.size (k0_off1_inb k)) (VecWindow.window a (k0_off1 k) S8x1024.size (k0_off1_inb k)))) := by
  rw [st, dif_pos k.isLt]

section
variable (𝒱 : Variants) (c : Dev nD) (bd : Option 𝒱.V) (i : grid0.Coords) (w1 : Memref sig .tc .vmem S256x1024 .bf16) (q1 : w1.IsWhole) (w2 : Memref sig .tc .vmem S256x1024 .bf16) (q2 : w2.IsWhole) (w3 : Memref sig .tc .vmem S256x1024 .bf16) (q3 : w3.IsWhole) (w4 : Memref sig .tc .vmem S256x1024 .bf16) (q4 : w4.IsWhole) (w5 : Memref sig .tc .vmem S256x1024 .bf16) (q5 : w5.IsWhole) (w6 : Memref sig .tc .vmem S10x1024 .f32) (q6 : w6.IsWhole) (w7 : Memref sig .tc .vmem S4x256x512 .bf16) (q7 : w7.IsWhole) (w8 : Memref sig .tc .vmem S1x1024 .f32) (q8 : w8.IsWhole) (w9 : Memref sig .tc .vmem S256x1024 .bf16) (q9 : w9.IsWhole) (w10 : Memref sig .tc .vmem S256x1024 .bf16) (q10 : w10.IsWhole) (w11 : Memref sig .tc .vmem S256x1024 .f32) (q11 : w11.IsWhole) (w12 : Memref sig .tc .vmem S8x1024 .f32) (q12 : w12.IsWhole) (w13 : Memref sig .tc .vmem S8x1024 .f32) (q13 : w13.IsWhole) (w14 : Memref sig .tc .vmem S8x1024 .f32) (q14 : w14.IsWhole) (w15 : Memref sig .tc .vmem S256x1024 .f32) (q15 : w15.IsWhole) (w16 : Memref sig .tc .vmem S256x1024 .f32) (q16 : w16.IsWhole) (v411 : FVec F S32x8x512 .f32) (v415 : FVec F S256x512 .f32)
  (X : BufTy.Contents (Elt F) w15.view.ty) (G : BufTy.Contents (Elt F) w16.view.ty) (init : Vec F S8x1024 .f32)

theorem trip_carry (k : Fin k0_t1_loop.trips) (acc : Vec F S8x1024 .f32) (f : BufTy.Contents (Elt F) w16.view.ty) :
    tripR_k0_t1 (F := F) 𝒱 c bd i w1 q1 w2 q2 w3 q3 w4 q4 w5 q5 w6 q6 w7 q7 w8 q8 w9 q9 w10 q10 w11 q11 w12 q12 w13 q13 w14 q14 w15 q15 w16 q16 v411 v415 X k acc f
      = k0_pay78 acc (w16.view.readAt (Elt F) (Rect.unit (s := S256x1024) (k0_off1 k) S8x1024.size (k0_off1_inb k)).toLoadRect f) (w15.view.readAt (Elt F) (Rect.unit (s := S256x1024) (k0_off1 k) S8x1024.size (k0_off1_inb k)).toLoadRect X) := by
  unfold tripR_k0_t1 trip_k0_t1; rfl

theorem trip_store (k : Fin k0_t1_loop.trips) (acc : Vec F S8x1024 .f32) (f : BufTy.Contents (Elt F) w16.view.ty) :
    tripL_k0_t1 (F := F) 𝒱 c bd i w1 q1 w2 q2 w3 q3 w4 q4 w5 q5 w6 q6 w7 q7 w8 q8 w9 q9 w10 q10 w11 q11 w12 q12 w13 q13 w14 q14 w15 q15 w16 q16 v411 v415 X k acc f
      = [⟨Rect.unit (s := S256x1024) (k0_off1 k) S8x1024.size (k0_off1_inb k), k0_pay77 acc (w16.view.readAt (Elt F) (Rect.unit (s := S256x1024) (k0_off1 k) S8x1024.size (k0_off1_inb k)).toLoadRect f) (w15.view.readAt (Elt F) (Rect.unit (s := S256x1024) (k0_off1 k) S8x1024.size (k0_off1_inb k)).toLoadRect X)⟩] := by
  unfold tripL_k0_t1 trip_k0_t1; rfl

/-- What the run's own record of the loop says, by values. -/
theorem st_read (k : ℕ) (hk : k ≤ k0_t1_loop.trips) :
    (st_k0_t1 (F := F) 𝒱 c bd i w1 q1 w2 q2 w3 q3 w4 q4 w5 q5 w6 q6 w7 q7 w8 q8 w9 q9 w10 q10 w11 q11 w12 q12 w13 q13 w14 q14 w15 q15 w16 q16 v411 v415 X G init k).1 = (st (w15.view.read (Elt F) X) (w16.view.read (Elt F) G) init k).1
    ∧ w16.view.read (Elt F) (w16.view.writes (Elt F) G (st_k0_t1 (F := F) 𝒱 c bd i w1 q1 w2 q2 w3 q3 w4 q4 w5 q5 w6 q6 w7 q7 w8 q8 w9 q9 w10 q10 w11 q11 w12 q12 w13 q13 w14 q14 w15 q15 w16 q16 v411 v415 X G init k).2) = (st (w15.view.read (Elt F) X) (w16.view.read (Elt F) G) init k).2 := by
  induction k with
  | zero => exact ⟨rfl, rfl⟩
  | succ k ih =>
    obtain ⟨h1, h2⟩ := ih (by omega)
    have e := st_k0_t1_succ (F := F) 𝒱 c bd i w1 q1 w2 q2 w3 q3 w4 q4 w5 q5 w6 q6 w7 q7 w8 q8 w9 q9 w10 q10 w11 q11 w12 q12 w13 q13 w14 q14 w15 q15 w16 q16 v411 v415 X G init ⟨k, hk⟩
    have e' := st_succ (w15.view.read (Elt F) X) (w16.view.read (Elt F) G) init ⟨k, hk⟩
    dsimp only at e e'
    rw [e, e', trip_carry, trip_store]
    rw [View.readAt_unit _ _ _ rfl (k0_off1_inb ⟨k, hk⟩), View.readAt_unit _ _ _ rfl (k0_off1_inb ⟨k, hk⟩), h1, h2]
    refine ⟨rfl, ?_⟩
    dsimp only
    rw [List.singleton_append, View.read_writes_cons_put _ _ _ _ _ rfl, h2]
/-- What the loop leaves, over two halves stored before it. -/
theorem fin_read (f15 : BufTy.Contents (Elt F) w15.view.ty) (f16 : BufTy.Contents (Elt F) w16.view.ty) (init : Vec F S8x1024 .f32)
    (a0 a1 h0 h1 : Vec F S256x512 .f32) :
    (st_k0_t1 (F := F) 𝒱 c bd i w1 q1 w2 q2 w3 q3 w4 q4 w5 q5 w6 q6 w7 q7 w8 q8 w9 q9 w10 q10 w11 q11 w12 q12 w13 q13 w14 q14 w15 q15 w16 q16 v411 v415 (w15.view.writes (Elt F) f15 [⟨Rect.unit ![0, 512] S256x512.size n2, a1⟩, ⟨Rect.unit ![0, 0] S256x512.size n3, a0⟩]) (w16.view.writes (Elt F) f16 [⟨Rect.unit ![0, 512] S256x512.size n2, h1⟩, ⟨Rect.unit ![0, 0] S256x512.size n3, h0⟩]) init k0_t1_loop.trips).1 = (st (two a0 a1) (two h0 h1) init k0_t1_loop.trips).1
    ∧ w16.view.read (Elt F) (w16.view.writes (Elt F) f16 ((st_k0_t1 (F := F) 𝒱 c bd i w1 q1 w2 q2 w3 q3 w4 q4 w5 q5 w6 q6 w7 q7 w8 q8 w9 q9 w10 q10 w11 q11 w12 q12 w13 q13 w14 q14 w15 q15 w16 q16 v411 v415 (w15.view.writes (Elt F) f15 [⟨Rect.unit ![0, 512] S256x512.size n2, a1⟩, ⟨Rect.unit ![0, 0] S256x512.size n3, a0⟩]) (w16.view.writes (Elt F) f16 [⟨Rect.unit ![0, 512] S256x512.size n2, h1⟩, ⟨Rect.unit ![0, 0] S256x512.size n3, h0⟩]) init k0_t1_loop.trips).2 ++ [⟨Rect.unit ![0, 512] S256x512.size n2, h1⟩, ⟨Rect.unit ![0, 0] S256x512.size n3, h0⟩])) = (st (two a0 a1) (two h0 h1) init k0_t1_loop.trips).2 := by
  have h := st_read 𝒱 c bd i w1 q1 w2 q2 w3 q3 w4 q4 w5 q5 w6 q6 w7 q7 w8 q8 w9 q9 w10 q10 w11 q11 w12 q12 w13 q13 w14 q14 w15 q15 w16 q16 v411 v415 (w15.view.writes (Elt F) f15 [⟨Rect.unit ![0, 512] S256x512.size n2, a1⟩, ⟨Rect.unit ![0, 0] S256x512.size n3, a0⟩]) (w16.view.writes (Elt F) f16 [⟨Rect.unit ![0, 512] S256x512.size n2, h1⟩, ⟨Rect.unit ![0, 0] S256x512.size n3, h0⟩]) init k0_t1_loop.trips le_rfl
  rw [← View.writes_append] at h
  rwa [read_two, read_two] at h
end
/-- Left half: the first convolution's operand. -/
abbrev u0 (x2 : Vec F S256x1024 .bf16) (x3 : Vec F S256x1024 .bf16) : Vec F S256x512 .f32 :=
  k0_pay7 (wl x2 n3) (wl x3 n3)
/-- The first convolution. -/
abbrev e0 (x2 : Vec F S256x1024 .bf16) (x3 : Vec F S256x1024 .bf16) (x6 : Vec F S10x1024 .f32) (z : Vec F S8x1024 .f32) : Vec F S256x512 .f32 :=
  k0_pay10 (wl z n0) (u0 x2 x3) (k0_pay8 (wl x2 n3) (wl x3 n3) (wl z n0)) (k0_pay9 (wl x2 n3) (wl x3 n3)) (VecWindow.window x6 ![2, 0] S1x512.size inb_S10x1024_S1x512_2_0) (VecWindow.window x6 ![1, 0] S1x512.size inb_S10x1024_S1x512_1_0) (VecWindow.window x6 ![0, 0] S1x512.size inb_S10x1024_S1x512_0_0)
/-- The second convolution's operand. -/
abbrev xb0 (x4 : Vec F S256x1024 .bf16) : Vec F S256x512 .f32 :=
  k0_pay5 (wl x4 n3)
/-- The second convolution. -/
abbrev c0 (x4 : Vec F S256x1024 .bf16) (x6 : Vec F S10x1024 .f32) (b : Vec F S8x1024 .f32) : Vec F S256x512 .f32 :=
  k0_pay15 (xb0 x4) (wl b n0) (k0_pay11 (xb0 x4) (wl b n0)) (k0_pay12 (xb0 x4) (wl b n0)) (k0_pay13 (xb0 x4)) k0_pay14 (VecWindow.window x6 ![6, 0] S1x512.size inb_S10x1024_S1x512_6_0) (VecWindow.window x6 ![5, 0] S1x512.size inb_S10x1024_S1x512_5_0) (VecWindow.window x6 ![4, 0] S1x512.size inb_S10x1024_S1x512_4_0) (VecWindow.window x6 ![3, 0] S1x512.size inb_S10x1024_S1x512_3_0) (VecWindow.window x6 ![7, 0] S1x512.size inb_S10x1024_S1x512_7_0)
/-- The input gate. -/
abbrev i0 (x4 : Vec F S256x1024 .bf16) (x6 : Vec F S10x1024 .f32) (x7 : Vec F S4x256x512 .bf16) (b : Vec F S8x1024 .f32) : Vec F S256x512 .f32 :=
  k0_pay23 (k0_pay19 (xb0 x4) (wl b n0) (k0_pay11 (xb0 x4) (wl b n0)) (k0_pay12 (xb0 x4) (wl b n0)) (k0_pay13 (xb0 x4)) k0_pay14 (VecWindow.window x6 ![6, 0] S1x512.size inb_S10x1024_S1x512_6_0) (VecWindow.window x6 ![5, 0] S1x512.size inb_S10x1024_S1x512_5_0) (VecWindow.window x6 ![4, 0] S1x512.size inb_S10x1024_S1x512_4_0) (VecWindow.window x6 ![3, 0] S1x512.size inb_S10x1024_S1x512_3_0) (VecWindow.window x6 ![7, 0] S1x512.size inb_S10x1024_S1x512_7_0) (VecWindow.window x7 ![0, 0, 0] S1x256x512.size inb_S4x256x512_S1x256x512_0_0_0)) (k0_pay22 (xb0 x4) (wl b n0) (k0_pay11 (xb0 x4) (wl b n0)) (k0_pay12 (xb0 x4) (wl b n0)) (k0_pay13 (xb0 x4)) k0_pay14 (VecWindow.window x6 ![6, 0] S1x512.size inb_S10x1024_S1x512_6_0) (VecWindow.window x6 ![5, 0] S1x512.size inb_S10x1024_S1x512_5_0) (VecWindow.window x6 ![4, 0] S1x512.size inb_S10x1024_S1x512_4_0) (VecWindow.window x6 ![3, 0] S1x512.size inb_S10x1024_S1x512_3_0) (VecWindow.window x6 ![7, 0] S1x512.size inb_S10x1024_S1x512_7_0) (VecWindow.window x7 ![1, 0, 0] S1x256x512.size inb_S4x256x512_S1x256x512_1_0_0)) (VecWindow.window x6 ![9, 0] S1x512.size inb_S10x1024_S1x512_9_0)
/-- The decay. -/
abbrev a0 (x4 : Vec F S256x1024 .bf16) (x6 : Vec F S10x1024 .f32) (x7 : Vec F S4x256x512 .bf16) (x8 : Vec F S1x1024 .f32) (b : Vec F S8x1024 .f32) : Vec F S256x512 .f32 :=
  k0_pay25 (k0_pay6 (VecWindow.window x8 ![0, 0] S1x512.size inb_S1x1024_S1x512_0_0)) (k0_pay18 (xb0 x4) (wl b n0) (k0_pay11 (xb0 x4) (wl b n0)) (k0_pay12 (xb0 x4) (wl b n0)) (k0_pay13 (xb0 x4)) k0_pay14 (VecWindow.window x6 ![6, 0] S1x512.size inb_S10x1024_S1x512_6_0) (VecWindow.window x6 ![5, 0] S1x512.size inb_S10x1024_S1x512_5_0) (VecWindow.window x6 ![4, 0] S1x512.size inb_S10x1024_S1x512_4_0) (VecWindow.window x6 ![3, 0] S1x512.size inb_S10x1024_S1x512_3_0) (VecWindow.window x6 ![7, 0] S1x512.size inb_S10x1024_S1x512_7_0) (VecWindow.window x7 ![0, 0, 0] S1x256x512.size inb_S4x256x512_S1x256x512_0_0_0)) (k0_pay21 (xb0 x4) (wl b n0) (k0_pay11 (xb0 x4) (wl b n0)) (k0_pay12 (xb0 x4) (wl b n0)) (k0_pay13 (xb0 x4)) k0_pay14 (VecWindow.window x6 ![6, 0] S1x512.size inb_S10x1024_S1x512_6_0) (VecWindow.window x6 ![5, 0] S1x512.size inb_S10x1024_S1x512_5_0) (VecWindow.window x6 ![4, 0] S1x512.size inb_S10x1024_S1x512_4_0) (VecWindow.window x6 ![3, 0] S1x512.size inb_S10x1024_S1x512_3_0) (VecWindow.window x6 ![7, 0] S1x512.size inb_S10x1024_S1x512_7_0) (VecWindow.window x7 ![1, 0, 0] S1x256x512.size inb_S4x256x512_S1x256x512_1_0_0)) (VecWindow.window x6 ![8, 0] S1x512.size inb_S10x1024_S1x512_8_0)
/-- The input's factor. -/
abbrev m0 (x4 : Vec F S256x1024 .bf16) (x6 : Vec F S10x1024 .f32) (x7 : Vec F S4x256x512 .bf16) (x8 : Vec F S1x1024 .f32) (b : Vec F S8x1024 .f32) : Vec F S256x512 .f32 :=
  k0_pay26 (k0_pay6 (VecWindow.window x8 ![0, 0] S1x512.size inb_S1x1024_S1x512_0_0)) (k0_pay18 (xb0 x4) (wl b n0) (k0_pay11 (xb0 x4) (wl b n0)) (k0_pay12 (xb0 x4) (wl b n0)) (k0_pay13 (xb0 x4)) k0_pay14 (VecWindow.window x6 ![6, 0] S1x512.size inb_S10x1024_S1x512_6_0) (VecWindow.window x6 ![5, 0] S1x512.size inb_S10x1024_S1x512_5_0) (VecWindow.window x6 ![4, 0] S1x512.size inb_S10x1024_S1x512_4_0) (VecWindow.window x6 ![3, 0] S1x512.size inb_S10x1024_S1x512_3_0) (VecWindow.window x6 ![7, 0] S1x512.size inb_S10x1024_S1x512_7_0) (VecWindow.window x7 ![0, 0, 0] S1x256x512.size inb_S4x256x512_S1x256x512_0_0_0)) (k0_pay21 (xb0 x4) (wl b n0) (k0_pay11 (xb0 x4) (wl b n0)) (k0_pay12 (xb0 x4) (wl b n0)) (k0_pay13 (xb0 x4)) k0_pay14 (VecWindow.window x6 ![6, 0] S1x512.size inb_S10x1024_S1x512_6_0) (VecWindow.window x6 ![5, 0] S1x512.size inb_S10x1024_S1x512_5_0) (VecWindow.window x6 ![4, 0] S1x512.size inb_S10x1024_S1x512_4_0) (VecWindow.window x6 ![3, 0] S1x512.size inb_S10x1024_S1x512_3_0) (VecWindow.window x6 ![7, 0] S1x512.size inb_S10x1024_S1x512_7_0) (VecWindow.window x7 ![1, 0, 0] S1x256x512.size inb_S4x256x512_S1x256x512_1_0_0)) (VecWindow.window x6 ![8, 0] S1x512.size inb_S10x1024_S1x512_8_0)
/-- The decays' products within groups of eight rows. -/
abbrev A0 (x4 : Vec F S256x1024 .bf16) (x6 : Vec F S10x1024 .f32) (x7 : Vec F S4x256x512 .bf16) (x8 : Vec F S1x1024 .f32) (b : Vec F S8x1024 .f32) : Vec F S256x512 .f32 :=
  k0_pay39 (k0_pay37 (a0 x4 x6 x7 x8 b))
/-- The scans within groups. -/
abbrev H0 (x4 : Vec F S256x1024 .bf16) (x6 : Vec F S10x1024 .f32) (x7 : Vec F S4x256x512 .bf16) (x8 : Vec F S1x1024 .f32) (b : Vec F S8x1024 .f32) : Vec F S256x512 .f32 :=
  k0_pay40 (k0_pay38 (c0 x4 x6 b) (i0 x4 x6 x7 b) (a0 x4 x6 x7 x8 b) (m0 x4 x6 x7 x8 b))
/-- Right half: the first convolution's operand. -/
abbrev u1 (x2 : Vec F S256x1024 .bf16) (x3 : Vec F S256x1024 .bf16) : Vec F S256x512 .f32 :=
  k0_pay43 (wr x2 n2) (wr x3 n2)
/-- The first convolution. -/
abbrev e1 (x2 : Vec F S256x1024 .bf16) (x3 : Vec F S256x1024 .bf16) (x6 : Vec F S10x1024 .f32) (z : Vec F S8x1024 .f32) : Vec F S256x512 .f32 :=
  k0_pay47 (wr z n1) (u1 x2 x3) (k0_pay45 (wr x2 n2) (wr x3 n2) (wr z n1)) (k0_pay46 (wr x2 n2) (wr x3 n2)) (VecWindow.window x6 ![2, 512] S1x512.size inb_S10x1024_S1x512_2_512) (VecWindow.window x6 ![1, 512] S1x512.size inb_S10x1024_S1x512_1_512) (VecWindow.window x6 ![0, 512] S1x512.size inb_S10x1024_S1x512_0_512)
/-- The second convolution's operand. -/
abbrev xb1 (x4 : Vec F S256x1024 .bf16) : Vec F S256x512 .f32 :=
  k0_pay41 (wr x4 n2)
/-- The second convolution. -/
abbrev c1 (x4 : Vec F S256x1024 .bf16) (x6 : Vec F S10x1024 .f32) (b : Vec F S8x1024 .f32) : Vec F S256x512 .f32 :=
  k0_pay51 (xb1 x4) (wr b n1) (k0_pay48 (xb1 x4) (wr b n1)) (k0_pay49 (xb1 x4) (wr b n1)) (k0_pay50 (xb1 x4)) (iota .tc S8x512 32 [0] iota_S8x512_d0_w32) (VecWindow.window x6 ![6, 512] S1x512.size inb_S10x1024_S1x512_6_512) (VecWindow.window x6 ![5, 512] S1x512.size inb_S10x1024_S1x512_5_512) (VecWindow.window x6 ![4, 512] S1x512.size inb_S10x1024_S1x512_4_512) (VecWindow.window x6 ![3, 512] S1x512.size inb_S10x1024_S1x512_3_512) (VecWindow.window x6 ![7, 512] S1x512.size inb_S10x1024_S1x512_7_512)
/-- The input gate. -/
abbrev i1 (x4 : Vec F S256x1024 .bf16) (x6 : Vec F S10x1024 .f32) (x7 : Vec F S4x256x512 .bf16) (b : Vec F S8x1024 .f32) : Vec F S256x512 .f32 :=
  k0_pay59 (k0_pay55 (xb1 x4) (wr b n1) (k0_pay48 (xb1 x4) (wr b n1)) (k0_pay49 (xb1 x4) (wr b n1)) (k0_pay50 (xb1 x4)) (iota .tc S8x512 32 [0] iota_S8x512_d0_w32) (VecWindow.window x6 ![6, 512] S1x512.size inb_S10x1024_S1x512_6_512) (VecWindow.window x6 ![5, 512] S1x512.size inb_S10x1024_S1x512_5_512) (VecWindow.window x6 ![4, 512] S1x512.size inb_S10x1024_S1x512_4_512) (VecWindow.window x6 ![3, 512] S1x512.size inb_S10x1024_S1x512_3_512) (VecWindow.window x6 ![7, 512] S1x512.size inb_S10x1024_S1x512_7_512) (VecWindow.window x7 ![2, 0, 0] S1x256x512.size inb_S4x256x512_S1x256x512_2_0_0)) (k0_pay56 (xb1 x4) (wr b n1) (k0_pay48 (xb1 x4) (wr b n1)) (k0_pay49 (xb1 x4) (wr b n1)) (k0_pay50 (xb1 x4)) (iota .tc S8x512 32 [0] iota_S8x512_d0_w32) (VecWindow.window x6 ![6, 512] S1x512.size inb_S10x1024_S1x512_6_512) (VecWindow.window x6 ![5, 512] S1x512.size inb_S10x1024_S1x512_5_512) (VecWindow.window x6 ![4, 512] S1x512.size inb_S10x1024_S1x512_4_512) (VecWindow.window x6 ![3, 512] S1x512.size inb_S10x1024_S1x512_3_512) (VecWindow.window x6 ![7, 512] S1x512.size inb_S10x1024_S1x512_7_512)) (k0_pay57 (VecWindow.window x7 ![3, 0, 0] S1x256x512.size inb_S4x256x512_S1x256x512_3_0_0)) (constant S256x512 .f32 0x00000000#32) (VecWindow.window x6 ![9, 512] S1x512.size inb_S10x1024_S1x512_9_512)
/-- The decay. -/
abbrev a1 (x4 : Vec F S256x1024 .bf16) (x6 : Vec F S10x1024 .f32) (x7 : Vec F S4x256x512 .bf16) (x8 : Vec F S1x1024 .f32) (b : Vec F S8x1024 .f32) : Vec F S256x512 .f32 :=
  k0_pay61 (k0_pay42 (VecWindow.window x8 ![0, 512] S1x512.size inb_S1x1024_S1x512_0_512)) (k0_pay54 (xb1 x4) (wr b n1) (k0_pay48 (xb1 x4) (wr b n1)) (k0_pay49 (xb1 x4) (wr b n1)) (k0_pay50 (xb1 x4)) (iota .tc S8x512 32 [0] iota_S8x512_d0_w32) (VecWindow.window x6 ![6, 512] S1x512.size inb_S10x1024_S1x512_6_512) (VecWindow.window x6 ![5, 512] S1x512.size inb_S10x1024_S1x512_5_512) (VecWindow.window x6 ![4, 512] S1x512.size inb_S10x1024_S1x512_4_512) (VecWindow.window x6 ![3, 512] S1x512.size inb_S10x1024_S1x512_3_512) (VecWindow.window x6 ![7, 512] S1x512.size inb_S10x1024_S1x512_7_512) (VecWindow.window x7 ![2, 0, 0] S1x256x512.size inb_S4x256x512_S1x256x512_2_0_0)) (k0_pay56 (xb1 x4) (wr b n1) (k0_pay48 (xb1 x4) (wr b n1)) (k0_pay49 (xb1 x4) (wr b n1)) (k0_pay50 (xb1 x4)) (iota .tc S8x512 32 [0] iota_S8x512_d0_w32) (VecWindow.window x6 ![6, 512] S1x512.size inb_S10x1024_S1x512_6_512) (VecWindow.window x6 ![5, 512] S1x512.size inb_S10x1024_S1x512_5_512) (VecWindow.window x6 ![4, 512] S1x512.size inb_S10x1024_S1x512_4_512) (VecWindow.window x6 ![3, 512] S1x512.size inb_S10x1024_S1x512_3_512) (VecWindow.window x6 ![7, 512] S1x512.size inb_S10x1024_S1x512_7_512)) (k0_pay57 (VecWindow.window x7 ![3, 0, 0] S1x256x512.size inb_S4x256x512_S1x256x512_3_0_0)) (constant S256x512 .f32 0x00000000#32) (VecWindow.window x6 ![8, 512] S1x512.size inb_S10x1024_S1x512_8_512)
/-- The input's factor. -/
abbrev m1 (x4 : Vec F S256x1024 .bf16) (x6 : Vec F S10x1024 .f32) (x7 : Vec F S4x256x512 .bf16) (x8 : Vec F S1x1024 .f32) (b : Vec F S8x1024 .f32) : Vec F S256x512 .f32 :=
  k0_pay62 (k0_pay42 (VecWindow.window x8 ![0, 512] S1x512.size inb_S1x1024_S1x512_0_512)) (k0_pay54 (xb1 x4) (wr b n1) (k0_pay48 (xb1 x4) (wr b n1)) (k0_pay49 (xb1 x4) (wr b n1)) (k0_pay50 (xb1 x4)) (iota .tc S8x512 32 [0] iota_S8x512_d0_w32) (VecWindow.window x6 ![6, 512] S1x512.size inb_S10x1024_S1x512_6_512) (VecWindow.window x6 ![5, 512] S1x512.size inb_S10x1024_S1x512_5_512) (VecWindow.window x6 ![4, 512] S1x512.size inb_S10x1024_S1x512_4_512) (VecWindow.window x6 ![3, 512] S1x512.size inb_S10x1024_S1x512_3_512) (VecWindow.window x6 ![7, 512] S1x512.size inb_S10x1024_S1x512_7_512) (VecWindow.window x7 ![2, 0, 0] S1x256x512.size inb_S4x256x512_S1x256x512_2_0_0)) (k0_pay56 (xb1 x4) (wr b n1) (k0_pay48 (xb1 x4) (wr b n1)) (k0_pay49 (xb1 x4) (wr b n1)) (k0_pay50 (xb1 x4)) (iota .tc S8x512 32 [0] iota_S8x512_d0_w32) (VecWindow.window x6 ![6, 512] S1x512.size inb_S10x1024_S1x512_6_512) (VecWindow.window x6 ![5, 512] S1x512.size inb_S10x1024_S1x512_5_512) (VecWindow.window x6 ![4, 512] S1x512.size inb_S10x1024_S1x512_4_512) (VecWindow.window x6 ![3, 512] S1x512.size inb_S10x1024_S1x512_3_512) (VecWindow.window x6 ![7, 512] S1x512.size inb_S10x1024_S1x512_7_512)) (k0_pay57 (VecWindow.window x7 ![3, 0, 0] S1x256x512.size inb_S4x256x512_S1x256x512_3_0_0)) (constant S256x512 .f32 0x00000000#32) (VecWindow.window x6 ![8, 512] S1x512.size inb_S10x1024_S1x512_8_512)
/-- The decays' products within groups of eight rows. -/
abbrev A1 (x4 : Vec F S256x1024 .bf16) (x6 : Vec F S10x1024 .f32) (x7 : Vec F S4x256x512 .bf16) (x8 : Vec F S1x1024 .f32) (b : Vec F S8x1024 .f32) : Vec F S256x512 .f32 :=
  k0_pay74 (k0_pay73 (a1 x4 x6 x7 x8 b))
/-- The scans within groups. -/
abbrev H1 (x4 : Vec F S256x1024 .bf16) (x6 : Vec F S10x1024 .f32) (x7 : Vec F S4x256x512 .bf16) (x8 : Vec F S1x1024 .f32) (b : Vec F S8x1024 .f32) : Vec F S256x512 .f32 :=
  k0_pay75 (k0_pay72 (c1 x4 x6 b) (i1 x4 x6 x7 b) (a1 x4 x6 x7 x8 b) (m1 x4 x6 x7 x8 b))

/-- The states' block and the carried row after the loop. -/
abbrev fin (x4 : Vec F S256x1024 .bf16) (x6 : Vec F S10x1024 .f32) (x7 : Vec F S4x256x512 .bf16) (x8 : Vec F S1x1024 .f32) (b g : Vec F S8x1024 .f32) : Vec F S8x1024 .f32 × Vec F S256x1024 .f32 :=
  st (two (A0 x4 x6 x7 x8 b) (A1 x4 x6 x7 x8 b)) (two (H0 x4 x6 x7 x8 b) (H1 x4 x6 x7 x8 b)) g k0_t1_loop.trips
/-- What the body leaves in the first branch's result, -/
def outA (x1 x2 x3 : Vec F S256x1024 .bf16) (x6 : Vec F S10x1024 .f32) (z : Vec F S8x1024 .f32) : Vec F S256x1024 .bf16 :=
  two (k0_pay30 (e0 x2 x3 x6 z) (wl x1 n3)) (k0_pay65 (e1 x2 x3 x6 z) (wr x1 n2))
/-- in the second branch's, -/
def outB (h : Vec F S256x1024 .f32) (x5 : Vec F S256x1024 .bf16) : Vec F S256x1024 .bf16 :=
  two (k0_pay80 (wl h n3) (wl x5 n3)) (k0_pay1 (wr h n2) (wr x5 n2))
/-- in the states', -/
def outH (h : Vec F S256x1024 .f32) : Vec F S256x1024 .f32 := two (wl h n3) (wr h n2)
/-- in the carried rows of the first convolution's operand, -/
def outZ (x2 x3 : Vec F S256x1024 .bf16) : Vec F S8x1024 .f32 := two (k0_pay27 (u0 x2 x3)) (k0_pay63 (u1 x2 x3))
/-- and of the second's. -/
def outX (x4 : Vec F S256x1024 .bf16) : Vec F S8x1024 .f32 := two (k0_pay29 (k0_pay28 (xb0 x4))) (k0_pay64 (xb1 x4))

/-- The word that says a point is the first. -/
abbrev cond1 (i : grid0.Coords) : BitVec 1 := Scalar.cmpi .ne (Scalar.extui (Scalar.cmpi .eq (BitVec.ofNat 32 (i 0).val) 0#32) : BitVec 32) 0#32

set_option maxHeartbeats 4000000 in
/-- The body at a later point. -/
theorem run_rest (c : Dev nD) (i : grid0.Coords) (w1 : Memref sig .tc .vmem S256x1024 .bf16) (q1 : w1.IsWhole) (w2 : Memref sig .tc .vmem S256x1024 .bf16) (q2 : w2.IsWhole) (w3 : Memref sig .tc .vmem S256x1024 .bf16) (q3 : w3.IsWhole) (w4 : Memref sig .tc .vmem S256x1024 .bf16) (q4 : w4.IsWhole) (w5 : Memref sig .tc .vmem S256x1024 .bf16) (q5 : w5.IsWhole) (w6 : Memref sig .tc .vmem S10x1024 .f32) (q6 : w6.IsWhole) (w7 : Memref sig .tc .vmem S4x256x512 .bf16) (q7 : w7.IsWhole) (w8 : Memref sig .tc .vmem S1x1024 .f32) (q8 : w8.IsWhole) (w9 : Memref sig .tc .vmem S256x1024 .bf16) (q9 : w9.IsWhole) (w10 : Memref sig .tc .vmem S256x1024 .bf16) (q10 : w10.IsWhole) (w11 : Memref sig .tc .vmem S256x1024 .f32) (q11 : w11.IsWhole) (w12 : Memref sig .tc .vmem S8x1024 .f32) (q12 : w12.IsWhole) (w13 : Memref sig .tc .vmem S8x1024 .f32) (q13 : w13.IsWhole) (w14 : Memref sig .tc .vmem S8x1024 .f32) (q14 : w14.IsWhole) (w15 : Memref sig .tc .vmem S256x1024 .f32) (q15 : w15.IsWhole) (w16 : Memref sig .tc .vmem S256x1024 .f32) (q16 : w16.IsWhole)
    (hc0 : ¬ cond1 i = 1#1) (x1 x2 x3 x4 x5 : Vec F S256x1024 .bf16) (x6 : Vec F S10x1024 .f32) (x7 : Vec F S4x256x512 .bf16) (x8 : Vec F S1x1024 .f32) (z b g : Vec F S8x1024 .f32) (E : Set ℕ) (K : PUnit → sProp 𝕄) :
    iprop(owns c.tc w1 fullShare x1 ∗ owns c.tc w2 fullShare x2 ∗ owns c.tc w3 fullShare x3 ∗ owns c.tc w4 fullShare x4 ∗ owns c.tc w5 fullShare x5 ∗ owns c.tc w6 fullShare x6 ∗ owns c.tc w7 fullShare x7 ∗ owns c.tc w8 fullShare x8 ∗ (∃ d, owns c.tc w9 fullShare d) ∗ (∃ d, owns c.tc w10 fullShare d) ∗ (∃ d, owns c.tc w11 fullShare d) ∗ owns c.tc w12 fullShare z ∗ owns c.tc w13 fullShare b ∗ owns c.tc w14 fullShare g ∗ (∃ d, owns c.tc w15 fullShare d) ∗ (∃ d, owns c.tc w16 fullShare d)
        ∗ (iprop(owns c.tc w1 fullShare x1 ∗ owns c.tc w2 fullShare x2 ∗ owns c.tc w3 fullShare x3 ∗ owns c.tc w4 fullShare x4 ∗ owns c.tc w5 fullShare x5 ∗ owns c.tc w6 fullShare x6 ∗ owns c.tc w7 fullShare x7 ∗ owns c.tc w8 fullShare x8 ∗ owns c.tc w9 fullShare (outA x1 x2 x3 x6 z) ∗ owns c.tc w10 fullShare (outB (fin x4 x6 x7 x8 b g).2 x5) ∗ owns c.tc w11 fullShare (outH (fin x4 x6 x7 x8 b g).2) ∗ owns c.tc w12 fullShare (outZ x2 x3) ∗ owns c.tc w13 fullShare (outX x4) ∗ owns c.tc w14 fullShare (k0_pay79 (fin x4 x6 x7 x8 b g).1) ∗ (∃ d, owns c.tc w15 fullShare d) ∗ (∃ d, owns c.tc w16 fullShare d)) -∗ K ⟨⟩))
      ⊢ wp frame (wpE (defs₀ (F := F)) Variants.none c none) E (cc0_mixer_fwd_0 i w1 q1 w2 q2 w3 q3 w4 q4 w5 q5 w6 q6 w7 q7 w8 q8 w9 q9 w10 q10 w11 q11 w12 q12 w13 q13 w14 q14 w15 q15 w16 q16) K := by
  simp only [cc0_mixer_fwd_0_eq_skeleton]; unfold cc0_mixer_fwd_0_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, ⟨%f13, %hf13, H13⟩, ⟨%f14, %hf14, H14⟩, ⟨%d15, %f15, -, H15⟩, ⟨%d16, %f16, -, H16⟩, Hk⟩
  obtain rfl := q1.eq_unread hf1
  obtain rfl := q2.eq_unread hf2
  obtain rfl := q3.eq_unread hf3
  obtain rfl := q4.eq_unread hf4
  obtain rfl := q5.eq_unread hf5
  obtain rfl := q6.eq_unread hf6
  obtain rfl := q7.eq_unread hf7
  obtain rfl := q8.eq_unread hf8
  obtain rfl := q12.eq_unread hf12
  obtain rfl := q13.eq_unread hf13
  obtain rfl := q14.eq_unread hf14
  sl_exec (disch := sl_exact hc0)
  sl_step
  iapply Hk
  isplitl [H1]
  · iexists _; isplitr; · ipureintro; exact q1.read_unread _
    iexact H1
  isplitl [H2]
  · iexists _; isplitr; · ipureintro; exact q2.read_unread _
    iexact H2
  isplitl [H3]
  · iexists _; isplitr; · ipureintro; exact q3.read_unread _
    iexact H3
  isplitl [H4]
  · iexists _; isplitr; · ipureintro; exact q4.read_unread _
    iexact H4
  isplitl [H5]
  · iexists _; isplitr; · ipureintro; exact q5.read_unread _
    iexact H5
  isplitl [H6]
  · iexists _; isplitr; · ipureintro; exact q6.read_unread _
    iexact H6
  isplitl [H7]
  · iexists _; isplitr; · ipureintro; exact q7.read_unread _
    iexact H7
  isplitl [H8]
  · iexists _; isplitr; · ipureintro; exact q8.read_unread _
    iexact H8
  isplitl [H9]
  · iexists _; isplitr; swap; · iexact H9
    ipureintro
    refine (read_two w9 _ _ _ _ _ _).trans ?_
    unfold outA
    sl_unfold_run_names
    simp only [load_win]
  isplitl [H10]
  · iexists _; isplitr; swap; · iexact H10
    ipureintro
    refine (read_two w10 _ _ _ _ _ _).trans ?_
    refine congrArg₂ two (congrArg₂ k0_pay80 ?_ (load_win _ _ _ _ _ _)) (congrArg₂ k0_pay1 ?_ (load_win _ _ _ _ _ _))
    · refine (View.readAt_unit _ _ _ rfl n3).trans (congrArg (fun x => VecWindow.window x _ _ _) ((fin_read Variants.none c none i w1 q1 w2 q2 w3 q3 w4 q4 w5 q5 w6 q6 w7 q7 w8 q8 w9 q9 w10 q10 w11 q11 w12 q12 w13 q13 w14 q14 w15 q15 w16 q16 _ _ _ _ _ _ _ _ _).2.trans ?_))
      sl_unfold_run_names
      simp only [load_win]
      exact st_eq2 (congrArg₂ two rfl rfl) (congrArg₂ two rfl rfl) (window_g _ _)
    · refine (View.readAt_unit _ _ _ rfl n2).trans (congrArg (fun x => VecWindow.window x _ _ _) ((fin_read Variants.none c none i w1 q1 w2 q2 w3 q3 w4 q4 w5 q5 w6 q6 w7 q7 w8 q8 w9 q9 w10 q10 w11 q11 w12 q12 w13 q13 w14 q14 w15 q15 w16 q16 _ _ _ _ _ _ _ _ _).2.trans ?_))
      sl_unfold_run_names
      simp only [load_win]
      exact st_eq2 (congrArg₂ two rfl rfl) (congrArg₂ two rfl rfl) (window_g _ _)
  isplitl [H11]
  · iexists _; isplitr; swap; · iexact H11
    ipureintro
    refine (read_two w11 _ _ _ _ _ _).trans ?_
    unfold outH
    refine congrArg₂ two ?_ ?_
    · refine (View.readAt_unit _ _ _ rfl n3).trans (congrArg (fun x => VecWindow.window x _ _ _) ((fin_read Variants.none c none i w1 q1 w2 q2 w3 q3 w4 q4 w5 q5 w6 q6 w7 q7 w8 q8 w9 q9 w10 q10 w11 q11 w12 q12 w13 q13 w14 q14 w15 q15 w16 q16 _ _ _ _ _ _ _ _ _).2.trans ?_))
      sl_unfold_run_names
      simp only [load_win]
      exact st_eq2 (congrArg₂ two rfl rfl) (congrArg₂ two rfl rfl) (window_g _ _)
    · refine (View.readAt_unit _ _ _ rfl n2).trans (congrArg (fun x => VecWindow.window x _ _ _) ((fin_read Variants.none c none i w1 q1 w2 q2 w3 q3 w4 q4 w5 q5 w6 q6 w7 q7 w8 q8 w9 q9 w10 q10 w11 q11 w12 q12 w13 q13 w14 q14 w15 q15 w16 q16 _ _ _ _ _ _ _ _ _).2.trans ?_))
      sl_unfold_run_names
      simp only [load_win]
      exact st_eq2 (congrArg₂ two rfl rfl) (congrArg₂ two rfl rfl) (window_g _ _)
  isplitl [H12]
  · iexists _; isplitr; swap; · iexact H12
    ipureintro
    refine (read_two w12 _ _ _ _ _ _).trans ?_
    unfold outZ
    sl_unfold_run_names
    simp only [load_win]
  isplitl [H13]
  · iexists _; isplitr; swap; · iexact H13
    ipureintro
    refine (read_two w13 _ _ _ _ _ _).trans ?_
    unfold outX
    sl_unfold_run_names
    simp only [load_win]
  isplitl [H14]
  · iexists _; isplitr; swap; · iexact H14
    ipureintro
    refine (read_all w14 _ _ _ _).trans (congrArg k0_pay79 ((fin_read Variants.none c none i w1 q1 w2 q2 w3 q3 w4 q4 w5 q5 w6 q6 w7 q7 w8 q8 w9 q9 w10 q10 w11 q11 w12 q12 w13 q13 w14 q14 w15 q15 w16 q16 _ _ _ _ _ _ _ _ _).1.trans ?_))
    sl_unfold_run_names
    simp only [load_win]
    exact st_eq1 (congrArg₂ two rfl rfl) (congrArg₂ two rfl rfl) (window_g _ _)
  isplitl [H15]
  · iexists _, _; isplitr; swap; · iexact H15
    ipureintro; rfl
  · iexists _, _; isplitr; swap; · iexact H16
    ipureintro; rfl

set_option maxHeartbeats 4000000 in
/-- The body at the first point, where it clears what it carries. -/
theorem run_first (c : Dev nD) (i : grid0.Coords) (w1 : Memref sig .tc .vmem S256x1024 .bf16) (q1 : w1.IsWhole) (w2 : Memref sig .tc .vmem S256x1024 .bf16) (q2 : w2.IsWhole) (w3 : Memref sig .tc .vmem S256x1024 .bf16) (q3 : w3.IsWhole) (w4 : Memref sig .tc .vmem S256x1024 .bf16) (q4 : w4.IsWhole) (w5 : Memref sig .tc .vmem S256x1024 .bf16) (q5 : w5.IsWhole) (w6 : Memref sig .tc .vmem S10x1024 .f32) (q6 : w6.IsWhole) (w7 : Memref sig .tc .vmem S4x256x512 .bf16) (q7 : w7.IsWhole) (w8 : Memref sig .tc .vmem S1x1024 .f32) (q8 : w8.IsWhole) (w9 : Memref sig .tc .vmem S256x1024 .bf16) (q9 : w9.IsWhole) (w10 : Memref sig .tc .vmem S256x1024 .bf16) (q10 : w10.IsWhole) (w11 : Memref sig .tc .vmem S256x1024 .f32) (q11 : w11.IsWhole) (w12 : Memref sig .tc .vmem S8x1024 .f32) (q12 : w12.IsWhole) (w13 : Memref sig .tc .vmem S8x1024 .f32) (q13 : w13.IsWhole) (w14 : Memref sig .tc .vmem S8x1024 .f32) (q14 : w14.IsWhole) (w15 : Memref sig .tc .vmem S256x1024 .f32) (q15 : w15.IsWhole) (w16 : Memref sig .tc .vmem S256x1024 .f32) (q16 : w16.IsWhole)
    (hc0 : cond1 i = 1#1) (x1 x2 x3 x4 x5 : Vec F S256x1024 .bf16) (x6 : Vec F S10x1024 .f32) (x7 : Vec F S4x256x512 .bf16) (x8 : Vec F S1x1024 .f32) (E : Set ℕ) (K : PUnit → sProp 𝕄) :
    iprop(owns c.tc w1 fullShare x1 ∗ owns c.tc w2 fullShare x2 ∗ owns c.tc w3 fullShare x3 ∗ owns c.tc w4 fullShare x4 ∗ owns c.tc w5 fullShare x5 ∗ owns c.tc w6 fullShare x6 ∗ owns c.tc w7 fullShare x7 ∗ owns c.tc w8 fullShare x8 ∗ (∃ d, owns c.tc w9 fullShare d) ∗ (∃ d, owns c.tc w10 fullShare d) ∗ (∃ d, owns c.tc w11 fullShare d) ∗ (∃ d, owns c.tc w12 fullShare d) ∗ (∃ d, owns c.tc w13 fullShare d) ∗ (∃ d, owns c.tc w14 fullShare d) ∗ (∃ d, owns c.tc w15 fullShare d) ∗ (∃ d, owns c.tc w16 fullShare d)
        ∗ (iprop(owns c.tc w1 fullShare x1 ∗ owns c.tc w2 fullShare x2 ∗ owns c.tc w3 fullShare x3 ∗ owns c.tc w4 fullShare x4 ∗ owns c.tc w5 fullShare x5 ∗ owns c.tc w6 fullShare x6 ∗ owns c.tc w7 fullShare x7 ∗ owns c.tc w8 fullShare x8 ∗ owns c.tc w9 fullShare (outA x1 x2 x3 x6 k0_pay2) ∗ owns c.tc w10 fullShare (outB (fin x4 x6 x7 x8 k0_pay3 k0_pay4).2 x5) ∗ owns c.tc w11 fullShare (outH (fin x4 x6 x7 x8 k0_pay3 k0_pay4).2) ∗ owns c.tc w12 fullShare (outZ x2 x3) ∗ owns c.tc w13 fullShare (outX x4) ∗ owns c.tc w14 fullShare (k0_pay79 (fin x4 x6 x7 x8 k0_pay3 k0_pay4).1) ∗ (∃ d, owns c.tc w15 fullShare d) ∗ (∃ d, owns c.tc w16 fullShare d)) -∗ K ⟨⟩))
      ⊢ wp frame (wpE (defs₀ (F := F)) Variants.none c none) E (cc0_mixer_fwd_0 i w1 q1 w2 q2 w3 q3 w4 q4 w5 q5 w6 q6 w7 q7 w8 q8 w9 q9 w10 q10 w11 q11 w12 q12 w13 q13 w14 q14 w15 q15 w16 q16) K := by
  simp only [cc0_mixer_fwd_0_eq_skeleton]; unfold cc0_mixer_fwd_0_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  obtain rfl := q1.eq_unread hf1
  obtain rfl := q2.eq_unread hf2
  obtain rfl := q3.eq_unread hf3
  obtain rfl := q4.eq_unread hf4
  obtain rfl := q5.eq_unread hf5
  obtain rfl := q6.eq_unread hf6
  obtain rfl := q7.eq_unread hf7
  obtain rfl := q8.eq_unread hf8
  sl_exec (disch := sl_exact hc0)
  sl_step
  iapply Hk
  isplitl [H1]
  · iexists _; isplitr; · ipureintro; exact q1.read_unread _
    iexact H1
  isplitl [H2]
  · iexists _; isplitr; · ipureintro; exact q2.read_unread _
    iexact H2
  isplitl [H3]
  · iexists _; isplitr; · ipureintro; exact q3.read_unread _
    iexact H3
  isplitl [H4]
  · iexists _; isplitr; · ipureintro; exact q4.read_unread _
    iexact H4
  isplitl [H5]
  · iexists _; isplitr; · ipureintro; exact q5.read_unread _
    iexact H5
  isplitl [H6]
  · iexists _; isplitr; · ipureintro; exact q6.read_unread _
    iexact H6
  isplitl [H7]
  · iexists _; isplitr; · ipureintro; exact q7.read_unread _
    iexact H7
  isplitl [H8]
  · iexists _; isplitr; · ipureintro; exact q8.read_unread _
    iexact H8
  isplitl [H9]
  · iexists _; isplitr; swap; · iexact H9
    ipureintro
    refine (read_two w9 _ _ _ _ _ _).trans ?_
    unfold outA
    sl_unfold_run_names
    simp only [load_win, cov_over, cov_past]
  isplitl [H10]
  · iexists _; isplitr; swap; · iexact H10
    ipureintro
    refine (read_two w10 _ _ _ _ _ _).trans ?_
    refine congrArg₂ two (congrArg₂ k0_pay80 ?_ (load_win _ _ _ _ _ _)) (congrArg₂ k0_pay1 ?_ (load_win _ _ _ _ _ _))
    · refine (View.readAt_unit _ _ _ rfl n3).trans (congrArg (fun x => VecWindow.window x _ _ _) ((fin_read Variants.none c none i w1 q1 w2 q2 w3 q3 w4 q4 w5 q5 w6 q6 w7 q7 w8 q8 w9 q9 w10 q10 w11 q11 w12 q12 w13 q13 w14 q14 w15 q15 w16 q16 _ _ _ _ _ _ _ _ _).2.trans ?_))
      sl_unfold_run_names
      simp only [load_win, cov_over, cov_past]
      exact st_eq2 (congrArg₂ two rfl rfl) (congrArg₂ two rfl rfl) (window_g _ _)
    · refine (View.readAt_unit _ _ _ rfl n2).trans (congrArg (fun x => VecWindow.window x _ _ _) ((fin_read Variants.none c none i w1 q1 w2 q2 w3 q3 w4 q4 w5 q5 w6 q6 w7 q7 w8 q8 w9 q9 w10 q10 w11 q11 w12 q12 w13 q13 w14 q14 w15 q15 w16 q16 _ _ _ _ _ _ _ _ _).2.trans ?_))
      sl_unfold_run_names
      simp only [load_win, cov_over, cov_past]
      exact st_eq2 (congrArg₂ two rfl rfl) (congrArg₂ two rfl rfl) (window_g _ _)
  isplitl [H11]
  · iexists _; isplitr; swap; · iexact H11
    ipureintro
    refine (read_two w11 _ _ _ _ _ _).trans ?_
    unfold outH
    refine congrArg₂ two ?_ ?_
    · refine (View.readAt_unit _ _ _ rfl n3).trans (congrArg (fun x => VecWindow.window x _ _ _) ((fin_read Variants.none c none i w1 q1 w2 q2 w3 q3 w4 q4 w5 q5 w6 q6 w7 q7 w8 q8 w9 q9 w10 q10 w11 q11 w12 q12 w13 q13 w14 q14 w15 q15 w16 q16 _ _ _ _ _ _ _ _ _).2.trans ?_))
      sl_unfold_run_names
      simp only [load_win, cov_over, cov_past]
      exact st_eq2 (congrArg₂ two rfl rfl) (congrArg₂ two rfl rfl) (window_g _ _)
    · refine (View.readAt_unit _ _ _ rfl n2).trans (congrArg (fun x => VecWindow.window x _ _ _) ((fin_read Variants.none c none i w1 q1 w2 q2 w3 q3 w4 q4 w5 q5 w6 q6 w7 q7 w8 q8 w9 q9 w10 q10 w11 q11 w12 q12 w13 q13 w14 q14 w15 q15 w16 q16 _ _ _ _ _ _ _ _ _).2.trans ?_))
      sl_unfold_run_names
      simp only [load_win, cov_over, cov_past]
      exact st_eq2 (congrArg₂ two rfl rfl) (congrArg₂ two rfl rfl) (window_g _ _)
  isplitl [H12]
  · iexists _; isplitr; swap; · iexact H12
    ipureintro
    refine (read_two w12 _ _ _ _ _ _).trans ?_
    unfold outZ
    sl_unfold_run_names
    simp only [load_win, cov_over, cov_past]
  isplitl [H13]
  · iexists _; isplitr; swap; · iexact H13
    ipureintro
    refine (read_two w13 _ _ _ _ _ _).trans ?_
    unfold outX
    sl_unfold_run_names
    simp only [load_win, cov_over, cov_past]
  isplitl [H14]
  · iexists _; isplitr; swap; · iexact H14
    ipureintro
    refine (read_all w14 _ _ _ _).trans (congrArg k0_pay79 ((fin_read Variants.none c none i w1 q1 w2 q2 w3 q3 w4 q4 w5 q5 w6 q6 w7 q7 w8 q8 w9 q9 w10 q10 w11 q11 w12 q12 w13 q13 w14 q14 w15 q15 w16 q16 _ _ _ _ _ _ _ _ _).1.trans ?_))
    sl_unfold_run_names
    simp only [load_win, cov_over, cov_past]
    exact st_eq1 (congrArg₂ two rfl rfl) (congrArg₂ two rfl rfl) (window_g _ _)
  isplitl [H15]
  · iexists _, _; isplitr; swap; · iexact H15
    ipureintro; rfl
  · iexists _, _; isplitr; swap; · iexact H16
    ipureintro; rfl

end Cert.MixFIdeal.Own
-- ==== Proof.MixFP.Run.lean ====
/- The idealized `_mixer_fwd` run point by point: what its three result windows hold after each point's body, the carried rows
   between points, and the run of the whole launch. -/
module

public import proofs.«01_k».proof.Proof.MixFP.Body

@[expose] public section

set_option maxRecDepth 16384

noncomputable section

namespace Cert.MixFIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixFIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Only the first point clears what is carried. -/
theorem hcond : ∀ t : Fin cfg0.N, cond1 (grid0.coords t) = 1#1 ↔ t.val = 0 :=
  (fun t => by
    have ht : t.val < 32 := Nat.lt_of_lt_of_eq t.isLt N_0
    have e0 : (grid0.coords t 0).val = t.val / 1 % 32 := Pipeline.Grid.coords_val t 0 (by decide) rfl
    simp only [cond1, e0]
    word_cmp
   : ∀ t : Fin grid0.N, cond1 (grid0.coords t) = 1#1 ↔ t.val = 0)

/-- The first convolution's carried rows before a point, -/
def zin (c : Dev nD) : (n : ℕ) → n ≤ cfg0.N → Vec F S8x1024 .f32
  | 0, _ => k0_pay2
  | n + 1, hn => outZ (iblk m c 1 ⟨n, hn⟩) (iblk m c 2 ⟨n, hn⟩)
/-- the second's, -/
def bin (c : Dev nD) : (n : ℕ) → n ≤ cfg0.N → Vec F S8x1024 .f32
  | 0, _ => k0_pay3
  | n + 1, hn => outX (iblk m c 3 ⟨n, hn⟩)
/-- and the recurrence's carried state. -/
def gin (c : Dev nD) : (n : ℕ) → n ≤ cfg0.N → Vec F S8x1024 .f32
  | 0, _ => k0_pay4
  | n + 1, hn => k0_pay79 (fin (iblk m c 3 ⟨n, hn⟩) (iblk m c 5 ⟨n, hn⟩) (iblk m c 6 ⟨n, hn⟩) (iblk m c 7 ⟨n, hn⟩) (bin m c n (Nat.le_of_lt hn)) (gin c n (Nat.le_of_lt hn))).1

/-- The carried state and the block of states a point's loop ends with. -/
def fs (c : Dev nD) (t : Fin cfg0.N) : Vec F S8x1024 .f32 × Vec F S256x1024 .f32 :=
  fin (iblk m c 3 t) (iblk m c 5 t) (iblk m c 6 t) (iblk m c 7 t) (bin m c t.val (Nat.le_of_lt t.isLt)) (gin m c t.val (Nat.le_of_lt t.isLt))
/-- A point's block of the first branch, -/
def rA (c : Dev nD) (t : Fin cfg0.N) : Vec F S256x1024 .bf16 := outA (iblk m c 0 t) (iblk m c 1 t) (iblk m c 2 t) (iblk m c 5 t) (zin m c t.val (Nat.le_of_lt t.isLt))
/-- of the second -/
def rB (c : Dev nD) (t : Fin cfg0.N) : Vec F S256x1024 .bf16 := outB (fs m c t).2 (iblk m c 4 t)
/-- and of the states. -/
def rH (c : Dev nD) (t : Fin cfg0.N) : Vec F S256x1024 .f32 := outH (fs m c t).2

/-- The buffer of the first convolution's carried rows. -/
abbrev sc0 : Memref sig .tc .vmem S8x1024 .f32 := Memref.whole cc0_scratch0
/-- The buffer of the second's. -/
abbrev sc1 : Memref sig .tc .vmem S8x1024 .f32 := Memref.whole cc0_scratch1
/-- The buffer of the recurrence's carried state. -/
abbrev sc2 : Memref sig .tc .vmem S8x1024 .f32 := Memref.whole cc0_scratch2
/-- The buffer of the decays' products. -/
abbrev sc3 : Memref sig .tc .vmem S256x1024 .f32 := Memref.whole cc0_scratch3
/-- The buffer of the states. -/
abbrev sc4 : Memref sig .tc .vmem S256x1024 .f32 := Memref.whole cc0_scratch4

/-- What holds between points: the carried rows and state at what the point before left. -/
def between (c : Dev nD) : (n : ℕ) → n ≤ cfg0.N → sProp 𝕄
  | 0, _ => Pipeline.ΦA spec0 c
  | n + 1, hn => iprop(iprop(owns c.tc sc0 fullShare (zin m c (n + 1) hn) ∗ owns c.tc sc1 fullShare (bin m c (n + 1) hn) ∗ owns c.tc sc2 fullShare (gin m c (n + 1) hn) ∗ (∃ d, owns c.tc sc3 fullShare d) ∗ (∃ d, owns c.tc sc4 fullShare d)) ∗ (∃ r, prngReg c r))

theorem between_zero (c : Dev nD) (n : ℕ) (h : n ≤ cfg0.N) (hz : n = 0) : between m c n h = Pipeline.ΦA spec0 c := by
  subst hz; rfl

theorem between_pos (c : Dev nD) (n : ℕ) (h : n ≤ cfg0.N) (hz : n ≠ 0) :
    between m c n h = iprop(iprop(owns c.tc sc0 fullShare (zin m c n h) ∗ owns c.tc sc1 fullShare (bin m c n h) ∗ owns c.tc sc2 fullShare (gin m c n h) ∗ (∃ d, owns c.tc sc3 fullShare d) ∗ (∃ d, owns c.tc sc4 fullShare d)) ∗ (∃ r, prngReg c r)) := by
  cases n with
  | zero => exact absurd rfl hz
  | succ n => rfl

theorem rest_eq (c : Dev nD) : (Pipeline.ΦA spec0 c : sProp 𝕄) = iprop(iprop((∃ d, owns c.tc sc0 fullShare d) ∗ (∃ d, owns c.tc sc1 fullShare d) ∗ (∃ d, owns c.tc sc2 fullShare d) ∗ (∃ d, owns c.tc sc3 fullShare d) ∗ (∃ d, owns c.tc sc4 fullShare d)) ∗ (∃ r, prngReg c r)) := by
  unfold Pipeline.ΦA; rw [scopedRest0_eq]; simp only [sc0, sc1, sc2, sc3, sc4, owns_whole]; try rfl

/-- The proof data: each window's contents after a point's body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => rA m c t
    | ⟨9, _⟩ => rB m c t
    | ⟨10, _⟩ => rH m c t
  Φ t := between m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = rA m c t := by dsimp only [dats]
theorem after_9 (c : Dev nD) (t : Fin cfg0.N) : (dats m 0 c).after 9 t = rB m c t := by dsimp only [dats]
theorem after_10 (c : Dev nD) (t : Fin cfg0.N) : (dats m 0 c).after 10 t = rH m c t := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d

theorem Phi_at (c : Dev nD) (t : Fin cfg0.N) : (dats m 0 c).Φ t.castSucc = between m c t.val (Nat.le_of_lt t.isLt) := by
  dsimp only [dats]; exact Pipeline.Dat.Φ_castSucc (between m c) t

/-- Between points the buffers are there, at something. -/
theorem between_any (c : Dev nD) (n : ℕ) (h : n ≤ cfg0.N) :
    between m c n h ⊢ iprop(iprop((∃ d, owns c.tc sc0 fullShare d) ∗ (∃ d, owns c.tc sc1 fullShare d) ∗ (∃ d, owns c.tc sc2 fullShare d) ∗ (∃ d, owns c.tc sc3 fullShare d) ∗ (∃ d, owns c.tc sc4 fullShare d)) ∗ (∃ r, prngReg c r)) := by
  by_cases hz : n = 0
  · rw [between_zero m c n h hz, rest_eq]
  · rw [between_pos m c n h hz]
    iintro ⟨⟨H0, H1, H2, H3, H4⟩, Hg⟩
    isplitl [H0 H1 H2 H3 H4]
    · isplitl [H0]; · iexists _; iexact H0
      isplitl [H1]; · iexists _; iexact H1
      isplitl [H2]; · iexists _; iexact H2
      isplitl [H3]; · iexact H3
      iexact H4
    iexact Hg

theorem start (c : Dev nD) : Pipeline.ΦA spec0 c ⊢ (dats m 0 c).Φ 0 := by
  rw [show (dats m 0 c).Φ 0 = between m c 0 (Nat.zero_le _) from rfl, between_zero m c 0 _ rfl]

theorem finish (c : Dev nD) : (dats m 0 c).Φ (Fin.last cfg0.N) ⊢ Pipeline.ΦA spec0 c := by
  rw [show (dats m 0 c).Φ (Fin.last cfg0.N) = between m c (Fin.last cfg0.N).val (Nat.le_of_lt_succ (Fin.last cfg0.N).isLt) from rfl, rest_eq]
  exact between_any m c _ _

/-! ## The body at a point -/

/-- What the library hands the body at point `t`, -/
def bodyPre (c : Dev nD) (t : Fin cfg0.N) : sProp 𝕄 :=
  iprop((dats m 0 c).Φ t.castSucc ∗ (dats m 0 c).owesAt () t.castSucc
    ∗ (∃ d, owns c.tc (st0_0 t) fullShare ((dats m 0 c).before 0 t d))
    ∗ (∃ d, owns c.tc (st0_1 t) fullShare ((dats m 0 c).before 1 t d))
    ∗ (∃ d, owns c.tc (st0_2 t) fullShare ((dats m 0 c).before 2 t d))
    ∗ (∃ d, owns c.tc (st0_3 t) fullShare ((dats m 0 c).before 3 t d))
    ∗ (∃ d, owns c.tc (st0_4 t) fullShare ((dats m 0 c).before 4 t d))
    ∗ (∃ d, owns c.tc (st0_5 t) fullShare ((dats m 0 c).before 5 t d))
    ∗ (∃ d, owns c.tc (st0_6 t) fullShare ((dats m 0 c).before 6 t d))
    ∗ (∃ d, owns c.tc (st0_7 t) fullShare ((dats m 0 c).before 7 t d))
    ∗ (∃ d, owns c.tc (st0_8 t) fullShare ((dats m 0 c).before 8 t d))
    ∗ (∃ d, owns c.tc (st0_9 t) fullShare ((dats m 0 c).before 9 t d))
    ∗ (∃ d, owns c.tc (st0_10 t) fullShare ((dats m 0 c).before 10 t d)))

/-- and what it takes back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

/-- What the body leaves between points, in the terms of the point it ran at. -/
theorem between_next (c : Dev nD) (t : Fin cfg0.N) : between m c (t.val + 1) t.isLt =
    iprop(iprop(owns c.tc sc0 fullShare (outZ (iblk m c 1 t) (iblk m c 2 t)) ∗ owns c.tc sc1 fullShare (outX (iblk m c 3 t)) ∗ owns c.tc sc2 fullShare (k0_pay79 (fs m c t).1) ∗ (∃ d, owns c.tc sc3 fullShare d) ∗ (∃ d, owns c.tc sc4 fullShare d)) ∗ (∃ r, prngReg c r)) := rfl

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl,
    show (dats m 0 c).Φ t.succ = between m c (t.val + 1) t.isLt from rfl, between_next, Phi_at]
  rw [show (dats m 0 c).leavesExact 0 t = owns c.tc (st0_0 t) fullShare ((dats m 0 c).after 0 t) from by
    unfold Dat.leavesExact; rw [show cfg0.idle 0 (cfg0.grid.coords t) = false from rfl], after_0]
  rw [show (dats m 0 c).leavesExact 1 t = owns c.tc (st0_1 t) fullShare ((dats m 0 c).after 1 t) from by
    unfold Dat.leavesExact; rw [show cfg0.idle 1 (cfg0.grid.coords t) = false from rfl], after_1]
  rw [show (dats m 0 c).leavesExact 2 t = owns c.tc (st0_2 t) fullShare ((dats m 0 c).after 2 t) from by
    unfold Dat.leavesExact; rw [show cfg0.idle 2 (cfg0.grid.coords t) = false from rfl], after_2]
  rw [show (dats m 0 c).leavesExact 3 t = owns c.tc (st0_3 t) fullShare ((dats m 0 c).after 3 t) from by
    unfold Dat.leavesExact; rw [show cfg0.idle 3 (cfg0.grid.coords t) = false from rfl], after_3]
  rw [show (dats m 0 c).leavesExact 4 t = owns c.tc (st0_4 t) fullShare ((dats m 0 c).after 4 t) from by
    unfold Dat.leavesExact; rw [show cfg0.idle 4 (cfg0.grid.coords t) = false from rfl], after_4]
  rw [show (dats m 0 c).leavesExact 5 t = owns c.tc (st0_5 t) fullShare ((dats m 0 c).after 5 t) from by
    unfold Dat.leavesExact; rw [show cfg0.idle 5 (cfg0.grid.coords t) = false from rfl], after_5]
  rw [show (dats m 0 c).leavesExact 6 t = owns c.tc (st0_6 t) fullShare ((dats m 0 c).after 6 t) from by
    unfold Dat.leavesExact; rw [show cfg0.idle 6 (cfg0.grid.coords t) = false from rfl], after_6]
  rw [show (dats m 0 c).leavesExact 7 t = owns c.tc (st0_7 t) fullShare ((dats m 0 c).after 7 t) from by
    unfold Dat.leavesExact; rw [show cfg0.idle 7 (cfg0.grid.coords t) = false from rfl], after_7]
  rw [show (dats m 0 c).leavesExact 8 t = owns c.tc (st0_8 t) fullShare ((dats m 0 c).after 8 t) from by
    unfold Dat.leavesExact; rw [show cfg0.idle 8 (cfg0.grid.coords t) = false from rfl], after_8]
  rw [show (dats m 0 c).leavesExact 9 t = owns c.tc (st0_9 t) fullShare ((dats m 0 c).after 9 t) from by
    unfold Dat.leavesExact; rw [show cfg0.idle 9 (cfg0.grid.coords t) = false from rfl], after_9]
  rw [show (dats m 0 c).leavesExact 10 t = owns c.tc (st0_10 t) fullShare ((dats m 0 c).after 10 t) from by
    unfold Dat.leavesExact; rw [show cfg0.idle 10 (cfg0.grid.coords t) = false from rfl], after_10]
  unfold rA rB rH fs
  by_cases h0 : t.val = 0
  · have ez : zin m c t.val (Nat.le_of_lt t.isLt) = k0_pay2 := by obtain ⟨n, hn⟩ := t; obtain rfl : n = 0 := h0; rfl
    have eb : bin m c t.val (Nat.le_of_lt t.isLt) = k0_pay3 := by obtain ⟨n, hn⟩ := t; obtain rfl : n = 0 := h0; rfl
    have eg : gin m c t.val (Nat.le_of_lt t.isLt) = k0_pay4 := by obtain ⟨n, hn⟩ := t; obtain rfl : n = 0 := h0; rfl
    rw [ez, eb, eg]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    ihave HΦ := (between_any m c t.val (Nat.le_of_lt t.isLt)) $$ HΦ
    icases HΦ with ⟨⟨S0, S1, S2, S3, S4⟩, Hg⟩
    iapply (run_first c (grid0.coords t) _ _ _ _ _ _ _ _ _ _ _ _ _ _ _ _ _ _ _ _ _ _ sc0 (Memref.isWhole_whole _) sc1 (Memref.isWhole_whole _) sc2 (Memref.isWhole_whole _) sc3 (Memref.isWhole_whole _) sc4 (Memref.isWhole_whole _) ((hcond t).mpr h0) (iblk m c 0 t) (iblk m c 1 t) (iblk m c 2 t) (iblk m c 3 t) (iblk m c 4 t) (iblk m c 5 t) (iblk m c 6 t) (iblk m c 7 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [S0]; · iexact S0
    isplitl [S1]; · iexact S1
    isplitl [S2]; · iexact S2
    isplitl [S3]; · iexact S3
    isplitl [S4]; · iexact S4
    iintro ⟨H0, H1, H2, H3, H4, H5, H6, H7, H8, H9, H10, S0, S1, S2, S3, S4⟩
    isplitl [S0 S1 S2 S3 S4 Hg]
    · isplitl [S0 S1 S2 S3 S4]
      · isplitl [S0]; · iexact S0
        isplitl [S1]; · iexact S1
        isplitl [S2]; · iexact S2
        isplitl [S3]; · iexact S3
        iexact S4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [between_pos m c t.val _ h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    icases HΦ with ⟨⟨S0, S1, S2, S3, S4⟩, Hg⟩
    iapply (run_rest c (grid0.coords t) _ _ _ _ _ _ _ _ _ _ _ _ _ _ _ _ _ _ _ _ _ _ sc0 (Memref.isWhole_whole _) sc1 (Memref.isWhole_whole _) sc2 (Memref.isWhole_whole _) sc3 (Memref.isWhole_whole _) sc4 (Memref.isWhole_whole _) (fun h => h0 ((hcond t).mp h)) (iblk m c 0 t) (iblk m c 1 t) (iblk m c 2 t) (iblk m c 3 t) (iblk m c 4 t) (iblk m c 5 t) (iblk m c 6 t) (iblk m c 7 t) _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [S0]; · iexact S0
    isplitl [S1]; · iexact S1
    isplitl [S2]; · iexact S2
    isplitl [S3]; · iexact S3
    isplitl [S4]; · iexact S4
    iintro ⟨H0, H1, H2, H3, H4, H5, H6, H7, H8, H9, H10, S0, S1, S2, S3, S4⟩
    isplitl [S0 S1 S2 S3 S4 Hg]
    · isplitl [S0 S1 S2 S3 S4]
      · isplitl [S0]; · iexact S0
        isplitl [S1]; · iexact S1
        isplitl [S2]; · iexact S2
        isplitl [S3]; · iexact S3
        iexact S4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem defs₀_row (t : Fin cfg0.N) : defs₀ (F := F) .tc cfg0.body (cfg0.bodyArgs t (cfg0.slots t)) = bodyAt0 t := by
  unfold defs₀; rw [Defs.onTc_tc]

theorem body_obligation (c : Dev nD) : Pipeline.BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every execution ends with the launch's arrays as the proof data has them and every semaphore counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := start m) (hout := finish m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_main_quiescent m ρ))

end Cert.MixFIdeal.Own
-- ==== Proof.MixFP.Math.lean ====
/- Facts about extended reals for the mixer: the gates' bounds, the input's factor, and affine steps composed. -/
module

public import proofs.«01_k».proof.Proof.Real

@[expose] public section

noncomputable section

namespace Cert.Own

open Idealize.ShloMosaic

theorem one_top : (1 : EReal) + ⊤ = ⊤ := by rw [← EReal.coe_one]; exact EReal.coe_add_top 1
theorem top_one : (⊤ : EReal) - 1 = ⊤ := by rw [← EReal.coe_one]; exact EReal.top_sub_coe 1

/-- The logistic function of an extended real. -/
def sgm (x : EReal) : EReal := Ideal.div 1 (1 + Ideal.exp (-x))

theorem sgm_nonneg (x : EReal) : 0 ≤ sgm x := by
  induction x with
  | bot => simp [sgm, Ideal.div, one_top]
  | top => simp [sgm, Ideal.div]
  | coe r => rw [sgm, sg_real]; exact EReal.coe_nonneg.mpr (by unfold sg; positivity)

/-- The softplus of an extended real's negative, as both sides spell it. -/
def spn (v : EReal) : EReal := max (-v) 0 + Ideal.log1p (Ideal.exp (-(max (-v) (- -v))))

theorem log1p_nonneg (x : EReal) : 0 ≤ Ideal.log1p (Ideal.exp x) := by
  induction x with
  | bot => rw [Ideal.exp_bot, Ideal.log1p, add_zero, ← EReal.coe_one, Ideal.log_coe, if_neg (by norm_num)]; simp
  | top => simp [Ideal.log1p, one_top]
  | coe r =>
    rw [Ideal.exp_coe, Ideal.log1p, ← EReal.coe_one, ← EReal.coe_add, Ideal.log_coe, if_neg (not_le.mpr (by positivity))]
    exact EReal.coe_nonneg.mpr (Real.log_nonneg (by have := Real.exp_pos r; linarith))

theorem spn_nonneg (v : EReal) : 0 ≤ spn v := add_nonneg (le_max_right _ _) (log1p_nonneg _)

/-- The decay's exponent. -/
def lam (r sp : EReal) : EReal := (((-8 : ℝ) : EReal) * r) * sp

theorem lam_nonpos (r sp : EReal) (hr : 0 ≤ r) (hs : 0 ≤ sp) : lam r sp ≤ 0 := by
  have h : ((-8 : ℝ) : EReal) * r ≤ 0 := by
    rw [show ((-8 : ℝ) : EReal) = -((8 : ℝ) : EReal) by rw [← EReal.coe_neg], neg_mul]
    have : 0 ≤ ((8 : ℝ) : EReal) * r := mul_nonneg (EReal.coe_nonneg.mpr (by norm_num)) hr
    exact EReal.neg_le_zero.mpr this
  unfold lam
  have e : (((-8 : ℝ) : EReal) * r) * sp = -((-(((-8 : ℝ) : EReal) * r)) * sp) := by rw [neg_mul, neg_neg]
  rw [e]
  have h' : 0 ≤ -(((-8 : ℝ) : EReal) * r) := by
    rw [← neg_zero]; exact EReal.neg_le_neg_iff.mpr h
  exact EReal.neg_le_zero.mpr (mul_nonneg h' hs)

/-- The decay is a nonnegative number. -/
theorem decay (x : EReal) (h : x ≤ 0) : 0 ≤ Ideal.exp x ∧ Ideal.exp x ≠ ⊤ := by
  induction x with
  | bot => simp
  | top => exact absurd h (by simp)
  | coe r => rw [Ideal.exp_coe]; exact ⟨EReal.coe_nonneg.mpr (Real.exp_pos r).le, EReal.coe_ne_top _⟩

theorem two_bot : ((2 : ℝ) : EReal) * ⊥ = ⊥ := EReal.coe_mul_bot_of_pos (by norm_num)
theorem two_top : ((2 : ℝ) : EReal) * ⊤ = ⊤ := EReal.coe_mul_top_of_pos (by norm_num)

/-- One less the decay's square, by the hyperbolic tangent. -/
theorem one_less (x : EReal) : Ideal.tanh (-x) * (1 + Ideal.exp x * Ideal.exp x) = -(Ideal.exp (((2 : ℝ) : EReal) * x) - 1) := by
  induction x with
  | bot => rw [two_bot]; simp
  | top => rw [two_top]; simp [one_top, top_one]
  | coe r =>
    rw [← EReal.coe_neg, Ideal.tanh_coe, Ideal.exp_coe, ← EReal.coe_mul, ← EReal.coe_mul, Ideal.exp_coe, ← EReal.coe_one, ← EReal.coe_add,
      ← EReal.coe_mul, ← EReal.coe_sub, ← EReal.coe_neg]
    congr 1
    rw [Real.tanh_eq_sinh_div_cosh, Real.sinh_eq, Real.cosh_eq]
    have h1 := Real.exp_pos r
    have h2 := Real.exp_pos (-r)
    have h3 : Real.exp (2 * r) = Real.exp r * Real.exp r := by rw [two_mul, Real.exp_add]
    have h4 : Real.exp (-r) = (Real.exp r)⁻¹ := Real.exp_neg r
    rw [neg_neg, h3, h4]
    field_simp
    ring

/-- A number that multiplies over sums. -/
def Nice (a : EReal) : Prop := 0 ≤ a ∧ a ≠ ⊤

theorem Nice.mul {a b : EReal} (ha : Nice a) (hb : Nice b) : Nice (a * b) :=
  ⟨mul_nonneg ha.1 hb.1, by
    obtain ⟨h1, h2⟩ := ha
    obtain ⟨h3, h4⟩ := hb
    induction a with
    | bot => exact absurd h1 (by simp)
    | top => exact absurd rfl h2
    | coe r =>
      induction b with
      | bot => exact absurd h3 (by simp)
      | top => exact absurd rfl h4
      | coe s => rw [← EReal.coe_mul]; exact EReal.coe_ne_top _⟩

theorem Nice.add {a : EReal} (ha : Nice a) (x y : EReal) : a * (x + y) = a * x + a * y :=
  EReal.left_distrib_of_nonneg_of_ne_top ha.1 ha.2 x y

/-- Two affine steps in a row are one. -/
theorem comp_step {A : EReal} (hA : Nice A) (A' H H' g : EReal) : (A * H' + H) + (A * A') * g = H + A * (H' + A' * g) := by
  rw [hA.add, mul_assoc, add_comm (A * H') H, add_assoc]

/-- A row's earlier value: of the row `k` before it, zero before the first. -/
def back (f : ℕ → EReal) (k s : ℕ) : EReal := if k ≤ s then f (s - k) else 0

theorem back_zero (f : ℕ → EReal) (s : ℕ) : back f 0 s = f s := by simp [back]

/-- The states of a recurrence from `g` on: after `n` of the steps that begin at `s`. -/
def ser (a b : ℕ → EReal) (s : ℕ) (g : EReal) : ℕ → EReal
  | 0 => g
  | n + 1 => b (s + n) + a (s + n) * ser a b s g n

theorem ser_add (a b : ℕ → EReal) (s : ℕ) (g : EReal) (n k : ℕ) : ser a b s g (n + k) = ser a b (s + n) (ser a b s g n) k := by
  induction k with
  | zero => rfl
  | succ k ih => show b (s + (n + k)) + a (s + (n + k)) * ser a b s g (n + k) = _; rw [ih, ← Nat.add_assoc]; rfl

/-- A doubling step of the products of affine steps -/
def stepA (k : ℕ) (A : ℕ → EReal) (p : ℕ) : EReal := if k ≤ p then A p * A (p - k) else A p
/-- and of their constant terms. -/
def stepH (k : ℕ) (A H : ℕ → EReal) (p : ℕ) : EReal := if k ≤ p then A p * H (p - k) + H p else H p

/-- Each row holds the last `k` of its affine steps (all of them where there are fewer). -/
def Holds (a b : ℕ → EReal) (s k : ℕ) (A H : ℕ → EReal) : Prop :=
  ∀ p, p < 8 → Nice (A p) ∧ ∀ g, H p + A p * g = ser a b (s + (p + 1 - k)) g (min k (p + 1))

theorem holds_one (a b : ℕ → EReal) (s : ℕ) (A H : ℕ → EReal) (hA : ∀ p, p < 8 → A p = a (s + p)) (hH : ∀ p, p < 8 → H p = b (s + p))
    (hn : ∀ p, p < 8 → Nice (a (s + p))) : Holds a b s 1 A H := fun p hp =>
  ⟨by rw [hA p hp]; exact hn p hp, fun g => by
    rw [hA p hp, hH p hp, show p + 1 - 1 = p by omega, show min 1 (p + 1) = 1 by omega]; rfl⟩

theorem holds_double (a b : ℕ → EReal) (s k : ℕ) (A H A' H' : ℕ → EReal) (h : Holds a b s k A H)
    (hA : ∀ p, p < 8 → A' p = stepA k A p) (hH : ∀ p, p < 8 → H' p = stepH k A H p) : Holds a b s (2 * k) A' H' := fun p hp => by
  rw [hA p hp, hH p hp]
  unfold stepA stepH
  obtain ⟨h1, h2⟩ := h p hp
  by_cases hk : k ≤ p
  · rw [if_pos hk, if_pos hk]
    obtain ⟨h3, h4⟩ := h (p - k) (by omega)
    refine ⟨h1.mul h3, fun g => ?_⟩
    rw [comp_step h1, h4, h2, show min k (p + 1) = k by omega]
    have e := ser_add a b (s + (p + 1 - 2 * k)) g (min k (p - k + 1)) k
    rw [show s + (p + 1 - 2 * k) + min k (p - k + 1) = s + (p + 1 - k) by omega, show min k (p - k + 1) + k = min (2 * k) (p + 1) by omega] at e
    rw [e, show p - k + 1 - k = p + 1 - 2 * k by omega]
  · rw [if_neg hk, if_neg hk]
    refine ⟨h1, fun g => ?_⟩
    rw [h2, show p + 1 - k = p + 1 - 2 * k by omega, show min k (p + 1) = min (2 * k) (p + 1) by omega]

end Cert.Own
-- ==== Proof.MixFP.Tile.lean ====
/- The mixer's tile over the reals, one half of the columns at a time: both halves are the same functions of their windows,
   and each function's value at a row and a column. -/
module

public import proofs.«01_k».proof.Proof.MixFP.Run
public import proofs.«01_k».proof.Proof.MixFP.Math
public import Idealize.ShloMosaic.Lib.Pointwise

@[expose] public section

set_option maxRecDepth 16384

noncomputable section

open Idealize.ShloMosaic Idealize.ShloMosaic.TcCoe Idealize.SL.Sem Idealize.ShloMosaic.Tactic

namespace Cert.MixFIdeal.Own

open Cert.MixFIdeal Cert.MixFIdeal.Gen Cert.Own

/-- A half block of rows, -/
abbrev Half := FVec Ideal S256x512 .f32
/-- the half of eight rows, -/
abbrev Eight := FVec Ideal S8x512 .f32
/-- the half of one row -/
abbrev Row := FVec Ideal S1x512 .f32
/-- and one slab of the head weights. -/
abbrev Slab := FVec Ideal S1x256x512 .bf16

/-- The width-three convolution. -/
def convA (u : Half) (e : Eight) (w2 w1 w0 : Row) : Half := k0_pay10 e u (k0_pay11 u e) (dynamicRotate 0 2#32 none u rotates_S256x512_d0) w2 w1 w0
/-- The width-four convolution with its bias. -/
def convB (u : Half) (e : Eight) (w6 w5 w4 w3 w7 : Row) : Half := k0_pay15 u e (k0_pay11 u e) (k0_pay12 u e) (k0_pay13 u) k0_pay14 w6 w5 w4 w3 w7
/-- The rows `u` after the eight rows `e`, three rows later. -/
def shift3 (u : Half) (e : Eight) : Half :=
  concatenate S256x512 0 [⟨S8x512, select k0_pay14 (dynamicRotate 0 3#32 none e rotates_S8x512_d0) (extractStridedSlice S8x512 ![0, 0] (k0_pay13 u) slices_S256x512_o0_0_S8x512)⟩,
    ⟨S248x512, extractStridedSlice S248x512 ![8, 0] (k0_pay13 u) slices_S256x512_o8_0_S248x512⟩] concatenates_S8x512_S248x512_S256x512_d0
/-- One row for every row. -/
def rows (w : Row) : Half := broadcastTo S256x512 (shapeCast S1x512 w shapeCasts_S1x512_S1x512) broadcasts_S1x512_S256x512

theorem convA_eq (u : Half) (e : Eight) (w2 w1 w0 : Row) : convA u e w2 w1 w0 = addf (addf (mulf (rows w2) u) (mulf (rows w1) (k0_pay11 u e))) (mulf (rows w0) (k0_pay12 u e)) := rfl
theorem convB_eq (u : Half) (e : Eight) (w6 w5 w4 w3 w7 : Row) : convB u e w6 w5 w4 w3 w7
    = addf (addf (addf (addf (mulf (rows w6) u) (mulf (rows w5) (k0_pay11 u e))) (mulf (rows w4) (k0_pay12 u e))) (mulf (rows w3) (shift3 u e))) (rows w7) := rfl
/-- The head product of the first 256 columns, -/
def heads0 (x : Half) (w : Slab) : Half :=
  matmul dot_S256x256_S256x512_S256x512_1_0_0_1_n_n none (extractStridedSlice S256x256 ![0, 0] (truncf .bf16 x bitsLt_bf16_f32 : FVec Ideal S256x512 .bf16) slices_S256x512_o0_0_S256x256)
    (shapeCast S256x512 w shapeCasts_S1x256x512_S256x512) (constant S256x512 .f32 0x00000000#32)
/-- and of the others. -/
def heads1 (x : Half) (w : Slab) : Half :=
  matmul dot_S256x256_S256x512_S256x512_1_0_0_1_n_n none (extractStridedSlice S256x256 ![0, 256] (truncf .bf16 x bitsLt_bf16_f32 : FVec Ideal S256x512 .bf16) slices_S256x512_o0_256_S256x256)
    (shapeCast S256x512 w shapeCasts_S1x256x512_S256x512) (constant S256x512 .f32 0x00000000#32)
/-- The input gate. -/
def gateI (x : Half) (s0 s1 : Slab) (w9 : Row) : Half :=
  k0_pay23 (extractStridedSlice S256x256 ![0, 256] (heads0 x s0) slices_S256x512_o0_256_S256x256) (extractStridedSlice S256x256 ![0, 256] (heads1 x s1) slices_S256x512_o0_256_S256x256) w9
/-- The decay's exponent. -/
def expo (sp : Row) (x : Half) (s0 s1 : Slab) (w8 : Row) : Half :=
  k0_pay24 sp (extractStridedSlice S256x256 ![0, 0] (heads0 x s0) slices_S256x512_o0_0_S256x256) (extractStridedSlice S256x256 ![0, 0] (heads1 x s1) slices_S256x512_o0_0_S256x256) w8
/-- The decay of an exponent -/
def dec (l : Half) : Half := exp l
/-- and the input's factor. -/
def fac (l : Half) : Half := sqrt (mulf (tanh (subf (broadcast S256x512 (Scalar.ofBits .f32 0x00000000#32)) l)) (addf (broadcast S256x512 (Scalar.ofBits .f32 0x3F800000#32)) (mulf (exp l) (exp l))))
/-- The decays' products within a group of eight rows, -/
def prods (a : Half) : Half := k0_pay39 (k0_pay37 a)
/-- and the states. -/
def states (x i a m : Half) : Half := k0_pay40 (k0_pay38 x i a m)

/-- A doubling step of the scan within groups: the decays' products -/
def lvlA (k : BitVec 32) (A : FVec Ideal S32x8x512 .f32) : FVec Ideal S32x8x512 .f32 :=
  select (cmpi .sge (iota .tc S32x8x512 32 [1] iota_S32x8x512_d1_w32) (broadcast S32x8x512 k)) (mulf A (dynamicRotate 1 k none A rotates_S32x8x512_d1)) A
/-- and the states. -/
def lvlH (k : BitVec 32) (A H : FVec Ideal S32x8x512 .f32) : FVec Ideal S32x8x512 .f32 :=
  select (cmpi .sge (iota .tc S32x8x512 32 [1] iota_S32x8x512_d1_w32) (broadcast S32x8x512 k)) (addf (mulf A (dynamicRotate 1 k none H rotates_S32x8x512_d1)) H) H
/-- The rows by groups of eight. -/
def grp (x : Half) : FVec Ideal S32x8x512 .f32 := shapeCast S32x8x512 x shapeCasts_S256x512_S32x8x512
/-- The groups' rows in order. -/
def ungrp (x : FVec Ideal S32x8x512 .f32) : Half := shapeCast S256x512 (shapeCast S256x512 x shapeCasts_S32x8x512_S256x512) shapeCasts_S256x512_S256x512

theorem prods_eq (a : Half) : prods a = ungrp (lvlA 4#32 (lvlA 2#32 (lvlA 1#32 (grp a)))) := rfl
theorem states_eq (x i a m : Half) : states x i a m =
    ungrp (lvlH 4#32 (lvlA 2#32 (lvlA 1#32 (grp a))) (lvlH 2#32 (lvlA 1#32 (grp a)) (lvlH 1#32 (grp a) (grp (mulf (mulf m i) x))))) := rfl

section
variable (x1 x2 x3 x4 x5 : FVec Ideal S256x1024 .bf16) (x6 : FVec Ideal S10x1024 .f32) (x7 : FVec Ideal S4x256x512 .bf16) (x8 : FVec Ideal S1x1024 .f32) (b z : FVec Ideal S8x1024 .f32)

/-- The left half's functions are these. -/
theorem e0_eq : e0 (F := Ideal) x2 x3 x6 z = convA (u0 (F := Ideal) x2 x3) (wl (F := Ideal) (e := .f32) z inb_S8x1024_S8x512_0_0) (VecWindow.window x6 ![2, 0] S1x512.size inb_S10x1024_S1x512_2_0) (VecWindow.window x6 ![1, 0] S1x512.size inb_S10x1024_S1x512_1_0) (VecWindow.window x6 ![0, 0] S1x512.size inb_S10x1024_S1x512_0_0) := rfl
theorem c0_eq : c0 (F := Ideal) x4 x6 b = convB (xb0 (F := Ideal) x4) (wl (F := Ideal) (e := .f32) b inb_S8x1024_S8x512_0_0) (VecWindow.window x6 ![6, 0] S1x512.size inb_S10x1024_S1x512_6_0) (VecWindow.window x6 ![5, 0] S1x512.size inb_S10x1024_S1x512_5_0) (VecWindow.window x6 ![4, 0] S1x512.size inb_S10x1024_S1x512_4_0) (VecWindow.window x6 ![3, 0] S1x512.size inb_S10x1024_S1x512_3_0) (VecWindow.window x6 ![7, 0] S1x512.size inb_S10x1024_S1x512_7_0) := rfl
theorem i0_eq : i0 (F := Ideal) x4 x6 x7 b = gateI (c0 (F := Ideal) x4 x6 b) (VecWindow.window x7 ![0, 0, 0] S1x256x512.size inb_S4x256x512_S1x256x512_0_0_0) (VecWindow.window x7 ![1, 0, 0] S1x256x512.size inb_S4x256x512_S1x256x512_1_0_0) (VecWindow.window x6 ![9, 0] S1x512.size inb_S10x1024_S1x512_9_0) := rfl
theorem a0_eq : a0 (F := Ideal) x4 x6 x7 x8 b = dec (expo (k0_pay6 (VecWindow.window x8 ![0, 0] S1x512.size inb_S1x1024_S1x512_0_0)) (c0 (F := Ideal) x4 x6 b) (VecWindow.window x7 ![0, 0, 0] S1x256x512.size inb_S4x256x512_S1x256x512_0_0_0) (VecWindow.window x7 ![1, 0, 0] S1x256x512.size inb_S4x256x512_S1x256x512_1_0_0) (VecWindow.window x6 ![8, 0] S1x512.size inb_S10x1024_S1x512_8_0)) := rfl
theorem m0_eq : m0 (F := Ideal) x4 x6 x7 x8 b = fac (expo (k0_pay6 (VecWindow.window x8 ![0, 0] S1x512.size inb_S1x1024_S1x512_0_0)) (c0 (F := Ideal) x4 x6 b) (VecWindow.window x7 ![0, 0, 0] S1x256x512.size inb_S4x256x512_S1x256x512_0_0_0) (VecWindow.window x7 ![1, 0, 0] S1x256x512.size inb_S4x256x512_S1x256x512_1_0_0) (VecWindow.window x6 ![8, 0] S1x512.size inb_S10x1024_S1x512_8_0)) := rfl
theorem A0_eq : A0 (F := Ideal) x4 x6 x7 x8 b = prods (a0 (F := Ideal) x4 x6 x7 x8 b) := rfl
theorem H0_eq : H0 (F := Ideal) x4 x6 x7 x8 b = states (c0 (F := Ideal) x4 x6 b) (i0 (F := Ideal) x4 x6 x7 b) (a0 (F := Ideal) x4 x6 x7 x8 b) (m0 (F := Ideal) x4 x6 x7 x8 b) := rfl

/-- The right half's functions are these. -/
theorem e1_eq : e1 (F := Ideal) x2 x3 x6 z = convA (u1 (F := Ideal) x2 x3) (wr (F := Ideal) (e := .f32) z inb_S8x1024_S8x512_0_512) (VecWindow.window x6 ![2, 512] S1x512.size inb_S10x1024_S1x512_2_512) (VecWindow.window x6 ![1, 512] S1x512.size inb_S10x1024_S1x512_1_512) (VecWindow.window x6 ![0, 512] S1x512.size inb_S10x1024_S1x512_0_512) := rfl
theorem c1_eq : c1 (F := Ideal) x4 x6 b = convB (xb1 (F := Ideal) x4) (wr (F := Ideal) (e := .f32) b inb_S8x1024_S8x512_0_512) (VecWindow.window x6 ![6, 512] S1x512.size inb_S10x1024_S1x512_6_512) (VecWindow.window x6 ![5, 512] S1x512.size inb_S10x1024_S1x512_5_512) (VecWindow.window x6 ![4, 512] S1x512.size inb_S10x1024_S1x512_4_512) (VecWindow.window x6 ![3, 512] S1x512.size inb_S10x1024_S1x512_3_512) (VecWindow.window x6 ![7, 512] S1x512.size inb_S10x1024_S1x512_7_512) := rfl
theorem i1_eq : i1 (F := Ideal) x4 x6 x7 b = gateI (c1 (F := Ideal) x4 x6 b) (VecWindow.window x7 ![2, 0, 0] S1x256x512.size inb_S4x256x512_S1x256x512_2_0_0) (VecWindow.window x7 ![3, 0, 0] S1x256x512.size inb_S4x256x512_S1x256x512_3_0_0) (VecWindow.window x6 ![9, 512] S1x512.size inb_S10x1024_S1x512_9_512) := rfl
theorem a1_eq : a1 (F := Ideal) x4 x6 x7 x8 b = dec (expo (k0_pay42 (VecWindow.window x8 ![0, 512] S1x512.size inb_S1x1024_S1x512_0_512)) (c1 (F := Ideal) x4 x6 b) (VecWindow.window x7 ![2, 0, 0] S1x256x512.size inb_S4x256x512_S1x256x512_2_0_0) (VecWindow.window x7 ![3, 0, 0] S1x256x512.size inb_S4x256x512_S1x256x512_3_0_0) (VecWindow.window x6 ![8, 512] S1x512.size inb_S10x1024_S1x512_8_512)) := rfl
theorem m1_eq : m1 (F := Ideal) x4 x6 x7 x8 b = fac (expo (k0_pay42 (VecWindow.window x8 ![0, 512] S1x512.size inb_S1x1024_S1x512_0_512)) (c1 (F := Ideal) x4 x6 b) (VecWindow.window x7 ![2, 0, 0] S1x256x512.size inb_S4x256x512_S1x256x512_2_0_0) (VecWindow.window x7 ![3, 0, 0] S1x256x512.size inb_S4x256x512_S1x256x512_3_0_0) (VecWindow.window x6 ![8, 512] S1x512.size inb_S10x1024_S1x512_8_512)) := rfl
theorem A1_eq : A1 (F := Ideal) x4 x6 x7 x8 b = prods (a1 (F := Ideal) x4 x6 x7 x8 b) := rfl
theorem H1_eq : H1 (F := Ideal) x4 x6 x7 x8 b = states (c1 (F := Ideal) x4 x6 b) (i1 (F := Ideal) x4 x6 x7 b) (a1 (F := Ideal) x4 x6 x7 x8 b) (m1 (F := Ideal) x4 x6 x7 x8 b) := rfl

end

/-- A row of `u` after the eight rows `e`, `k` rows later. -/
def sh (k : ℕ) (hk : k < 8) (u : Half) (e : Eight) (q : Fin 256) (j : Fin 512) : EReal :=
  if h : q.val < k then e (ix2 ⟨8 - k + q.val, by omega⟩ j) else u (ix2 ⟨q.val - k, by omega⟩ j)

/-- A mask of the first rows. -/
theorem sel_lt {α : Type} (q k : ℕ) (hq : q < 2 ^ 31) (hk : k < 2 ^ 31) (x y : α) :
    Scalar.select (IntOp.cmpi CmpIPredicate.slt (BitVec.ofNat 32 q) (BitVec.ofNat 32 k)) x y = if q < k then x else y := by
  rw [WordCmp.cmpi_slt_ofNat hq hk]
  by_cases h : q < k <;> simp [h, Scalar.select]
/-- A mask of the later rows. -/
theorem sel_ge {α : Type} (q k : ℕ) (hq : q < 2 ^ 31) (hk : k < 2 ^ 31) (x y : α) :
    Scalar.select (IntOp.cmpi CmpIPredicate.sge (BitVec.ofNat 32 q) (BitVec.ofNat 32 k)) x y = if k ≤ q then x else y := by
  rw [WordCmp.cmpi_sge_ofNat hq hk]
  by_cases h : k ≤ q <;> simp [h, Scalar.select]

theorem at_row {n : ℕ} (f : FVec Ideal ⟨2, ![n, 512]⟩ .f32) (i i' : Fin n) (j : Fin 512) (h : i.val = i'.val) : f (ix2 i j) = f (ix2 i' j) := by rw [Fin.ext h]

theorem shift_lt (k : ℕ) (hk : k < 8) (u : Half) (e : Eight) (q : Fin 256) (j : Fin 512) (i1 : Fin 8) (i2 : Fin 256) (h : q.val < 8) (h1 : i1.val = (q.val + 8 - k) % 8)
    (h2 : i2.val = (q.val + 256 - k) % 256) :
    Scalar.select (IntOp.cmpi CmpIPredicate.slt (BitVec.ofNat 32 q.val) (BitVec.ofNat 32 k)) (e (ix2 i1 j)) (u (ix2 i2 j)) = sh k hk u e q j := by
  have hq := q.isLt
  unfold sh
  rw [sel_lt _ _ (by omega) (by omega)]
  by_cases h' : q.val < k
  · rw [if_pos h', dif_pos h']; exact at_row e _ _ _ (by rw [h1]; show _ = 8 - k + q.val; omega)
  · rw [if_neg h', dif_neg h']; exact at_row u _ _ _ (by rw [h2]; show _ = q.val - k; omega)

theorem shift_ge (k : ℕ) (hk : k < 8) (u : Half) (e : Eight) (q : Fin 256) (j : Fin 512) (i3 : Fin 256) (h : ¬ q.val < 8) (h3 : i3.val = (8 + (q.val - 8) + 256 - k) % 256) :
    u (ix2 i3 j) = sh k hk u e q j := by
  have hq := q.isLt
  unfold sh
  rw [dif_neg (by omega)]; exact at_row u _ _ _ (by rw [h3]; show _ = q.val - k; omega)

theorem sh1 (u : Half) (e : Eight) (q : Fin 256) (j : Fin 512) : k0_pay11 u e (ix2 q j) = sh 1 (by omega) u e q j := by
  pointwise [k0_pay11]
  split_ifs with h
  all_goals first | exact shift_lt 1 _ u e q j _ _ h rfl rfl | exact shift_ge 1 _ u e q j _ h rfl
theorem sh2 (u : Half) (e : Eight) (q : Fin 256) (j : Fin 512) : k0_pay12 u e (ix2 q j) = sh 2 (by omega) u e q j := by
  pointwise [k0_pay12]
  split_ifs with h
  all_goals first | exact shift_lt 2 _ u e q j _ _ h rfl rfl | exact shift_ge 2 _ u e q j _ h rfl
theorem sh3 (u : Half) (e : Eight) (q : Fin 256) (j : Fin 512) : shift3 u e (ix2 q j) = sh 3 (by omega) u e q j := by
  unfold shift3
  pointwise [k0_pay13, k0_pay14]
  split_ifs with h
  all_goals first | exact shift_lt 3 _ u e q j _ _ h rfl rfl | exact shift_ge 3 _ u e q j _ h rfl

theorem convA_at (u : Half) (e : Eight) (w2 w1 w0 : Row) (q : Fin 256) (j : Fin 512) : convA u e w2 w1 w0 (ix2 q j)
    = (w2 (ix2 0 j) * u (ix2 q j) + w1 (ix2 0 j) * sh 1 (by omega) u e q j) + w0 (ix2 0 j) * sh 2 (by omega) u e q j := by
  rw [convA_eq, ← sh1, ← sh2]; unfold rows; pointwise
theorem convB_at (u : Half) (e : Eight) (w6 w5 w4 w3 w7 : Row) (q : Fin 256) (j : Fin 512) : convB u e w6 w5 w4 w3 w7 (ix2 q j)
    = (((w6 (ix2 0 j) * u (ix2 q j) + w5 (ix2 0 j) * sh 1 (by omega) u e q j) + w4 (ix2 0 j) * sh 2 (by omega) u e q j) + w3 (ix2 0 j) * sh 3 (by omega) u e q j) + w7 (ix2 0 j) := by
  rw [convB_eq, ← sh1, ← sh2, ← sh3]; unfold rows; pointwise

theorem heads0_at (x : Half) (w : Slab) (q : Fin 256) (j : Fin 512) : heads0 x w (ix2 q j) = ∑ k : Fin 256, x (ix2 q ⟨k.val, by omega⟩) * w (ix3 0 k j) := by
  unfold heads0; pointwise
theorem heads1_at (x : Half) (w : Slab) (q : Fin 256) (j : Fin 512) : heads1 x w (ix2 q j) = ∑ k : Fin 256, x (ix2 q ⟨256 + k.val, by omega⟩) * w (ix3 0 k j) := by
  unfold heads1; pointwise

/-- A head product's element, the first or the second 256 columns' slab, column `o` of the slab. -/
def mix (x : Half) (s0 s1 : Slab) (q : Fin 256) (j : Fin 512) (o : ℕ) (ho : o ≤ 256) : EReal :=
  if h : j.val < 256 then ∑ k : Fin 256, x (ix2 q ⟨k.val, by omega⟩) * s0 (ix3 0 k ⟨o + j.val, by omega⟩)
  else ∑ k : Fin 256, x (ix2 q ⟨256 + k.val, by omega⟩) * s1 (ix3 0 k ⟨o + (j.val - 256), by omega⟩)

theorem gateI_at (x : Half) (s0 s1 : Slab) (w9 : Row) (q : Fin 256) (j : Fin 512) : gateI x s0 s1 w9 (ix2 q j) =
   sgm (mix x s0 s1 q j 256 (by omega) + w9 (ix2 0 j)) := by
  unfold gateI sgm mix; pointwise [k0_pay23]
  simp only [heads0_at, heads1_at, zero_sub]

theorem eight : Ideal.ofBits .f32 0xC1000000#32 = ((-8 : ℝ) : EReal) := by
  simp [Ideal.ofBits, Ideal.ieee, -EReal.coe_mul]; norm_num

theorem expo_at (sp : Row) (x : Half) (s0 s1 : Slab) (w8 : Row) (q : Fin 256) (j : Fin 512) : expo sp x s0 s1 w8 (ix2 q j) =
   lam (sgm (mix x s0 s1 q j 0 (by omega) + w8 (ix2 0 j))) (sp (ix2 0 j)) := by
  unfold expo sgm mix lam; pointwise [k0_pay24]
  simp only [heads0_at, heads1_at, zero_sub, eight, zero_add]

theorem dec_at (l : Half) (q : Fin 256) (j : Fin 512) : dec l (ix2 q j) = Ideal.exp (l (ix2 q j)) := by
  unfold dec; pointwise
theorem fac_at (l : Half) (q : Fin 256) (j : Fin 512) : fac l (ix2 q j) = Ideal.sqrt (-(Ideal.exp (((2 : ℝ) : EReal) * l (ix2 q j)) - 1)) := by
  rw [← one_less]; unfold fac; pointwise; simp only [zero_sub]

theorem sp_at (v : Row) (j : Fin 512) : (k0_pay6 (F := Ideal) v : Row) (ix2 0 j) = spn (v (ix2 0 j)) := by
  unfold spn; pointwise [k0_pay6]
  simp only [zero_sub, Ideal.absf_def]

theorem lvlA_at (k : ℕ) (hk : k < 8) (A : FVec Ideal S32x8x512 .f32) (n : Fin 32) (p : Fin 8) (j : Fin 512) :
    lvlA (BitVec.ofNat 32 k) A (ix3 n p j) = if h : k ≤ p.val then A (ix3 n p j) * A (ix3 n ⟨p.val - k, by omega⟩ j) else A (ix3 n p j) := by
  have hp := p.isLt
  have e : (BitVec.ofNat 32 k).toNat = k := WordCmp.toNat_ofNat_of_lt (by omega)
  unfold lvlA; pointwise
  rw [sel_ge _ _ (by omega) (by omega)]
  by_cases h : k ≤ p.val
  · rw [if_pos h, dif_pos h]
    congr 2; congr 1; exact Fin.ext (by show (p.val + 8 - (BitVec.ofNat 32 k).toNat % 8) % 8 = p.val - k; rw [e]; omega)
  · rw [if_neg h, dif_neg h]
theorem lvlH_at (k : ℕ) (hk : k < 8) (A H : FVec Ideal S32x8x512 .f32) (n : Fin 32) (p : Fin 8) (j : Fin 512) :
    lvlH (BitVec.ofNat 32 k) A H (ix3 n p j) = if h : k ≤ p.val then A (ix3 n p j) * H (ix3 n ⟨p.val - k, by omega⟩ j) + H (ix3 n p j) else H (ix3 n p j) := by
  have hp := p.isLt
  have e : (BitVec.ofNat 32 k).toNat = k := WordCmp.toNat_ofNat_of_lt (by omega)
  unfold lvlH; pointwise
  rw [sel_ge _ _ (by omega) (by omega)]
  by_cases h : k ≤ p.val
  · rw [if_pos h, dif_pos h]
    congr 3; congr 1; exact Fin.ext (by show (p.val + 8 - (BitVec.ofNat 32 k).toNat % 8) % 8 = p.val - k; rw [e]; omega)
  · rw [if_neg h, dif_neg h]

/-- A group's rows, counted. -/
def rd (A : FVec Ideal S32x8x512 .f32) (n : Fin 32) (j : Fin 512) (p : ℕ) : EReal := if h : p < 8 then A (ix3 n ⟨p, h⟩ j) else 0

theorem rd_lt (A : FVec Ideal S32x8x512 .f32) (n : Fin 32) (j : Fin 512) (p : ℕ) (h : p < 8) : rd A n j p = A (ix3 n ⟨p, h⟩ j) := dif_pos h

theorem rd_lvlA (k : ℕ) (hk : k < 8) (A : FVec Ideal S32x8x512 .f32) (n : Fin 32) (j : Fin 512) (p : ℕ) (hp : p < 8) :
    rd (lvlA (BitVec.ofNat 32 k) A) n j p = stepA k (rd A n j) p := by
  unfold stepA
  rw [rd_lt _ _ _ _ hp, lvlA_at k hk]
  by_cases h : k ≤ p
  · rw [dif_pos h, if_pos h, rd_lt _ _ _ _ hp, rd_lt _ _ _ _ (by omega)]
  · rw [dif_neg h, if_neg h, rd_lt _ _ _ _ hp]
theorem rd_lvlH (k : ℕ) (hk : k < 8) (A H : FVec Ideal S32x8x512 .f32) (n : Fin 32) (j : Fin 512) (p : ℕ) (hp : p < 8) :
    rd (lvlH (BitVec.ofNat 32 k) A H) n j p = stepH k (rd A n j) (rd H n j) p := by
  unfold stepH
  rw [rd_lt _ _ _ _ hp, lvlH_at k hk]
  by_cases h : k ≤ p
  · rw [dif_pos h, if_pos h, rd_lt _ _ _ _ hp, rd_lt _ _ _ _ hp, rd_lt _ _ _ _ (by omega)]
  · rw [dif_neg h, if_neg h, rd_lt _ _ _ _ hp]

theorem ungrp_at (A : FVec Ideal S32x8x512 .f32) (n : Fin 32) (p : Fin 8) (j : Fin 512) : ungrp A (ix2 ⟨n.val * 8 + p.val, by omega⟩ j) = A (ix3 n p j) := by
  unfold ungrp; pointwise
theorem grp_at (x : Half) (n : Fin 32) (p : Fin 8) (j : Fin 512) : grp x (ix3 n p j) = x (ix2 ⟨n.val * 8 + p.val, by omega⟩ j) := by
  unfold grp; pointwise

/-- A row of the block: the group's state from the carry `g` on, by its two parts. -/
theorem scan_at (x i a m : Half) (n : Fin 32) (j : Fin 512) (α β : ℕ → EReal) (s : ℕ) (ha : ∀ p : Fin 8, a (ix2 ⟨n.val * 8 + p.val, by omega⟩ j) = α (s + p.val))
    (hb : ∀ p : Fin 8, (m (ix2 ⟨n.val * 8 + p.val, by omega⟩ j) * i (ix2 ⟨n.val * 8 + p.val, by omega⟩ j)) * x (ix2 ⟨n.val * 8 + p.val, by omega⟩ j) = β (s + p.val))
    (hn : ∀ p, Nice (α p)) (p : Fin 8) (g : EReal) :
    states x i a m (ix2 ⟨n.val * 8 + p.val, by omega⟩ j) + prods a (ix2 ⟨n.val * 8 + p.val, by omega⟩ j) * g = ser α β s g (p.val + 1) := by
  have h1 : Holds α β s 1 (rd (grp a) n j) (rd (grp (mulf (mulf m i) x)) n j) := holds_one _ _ _ _ _
    (fun p hp => by rw [rd_lt _ _ _ _ hp, grp_at]; exact ha ⟨p, hp⟩)
    (fun p hp => by rw [rd_lt _ _ _ _ hp, grp_at]; exact hb ⟨p, hp⟩) (fun p _ => hn _)
  have h2 := holds_double _ _ _ _ _ _ _ _ h1 (fun p hp => rd_lvlA 1 (by omega) (grp a) n j p hp) (fun p hp => rd_lvlH 1 (by omega) (grp a) (grp (mulf (mulf m i) x)) n j p hp)
  have h4 := holds_double _ _ _ _ _ _ _ _ h2 (fun p hp => rd_lvlA 2 (by omega) _ n j p hp) (fun p hp => rd_lvlH 2 (by omega) _ _ n j p hp)
  have h8 := holds_double _ _ _ _ _ _ _ _ h4 (fun p hp => rd_lvlA 4 (by omega) _ n j p hp) (fun p hp => rd_lvlH 4 (by omega) _ _ n j p hp)
  have h := (h8 p.val p.isLt).2 g
  rw [states_eq, prods_eq, ungrp_at, ungrp_at]
  simp only [rd_lt _ _ _ _ p.isLt] at h
  have hp := p.isLt
  rw [show s + (p.val + 1 - 2 * (2 * (2 * 1))) = s by omega, show min (2 * (2 * (2 * 1))) (p.val + 1) = p.val + 1 by omega] at h
  exact h

/-- What the loop's steps write: -/
theorem pay77_at (g h a : FVec Ideal S8x1024 .f32) (p : Fin 8) (d : Fin 1024) : k0_pay77 g h a (ix2 p d) = h (ix2 p d) + a (ix2 p d) * g (ix2 p d) := by
  pointwise [k0_pay77, k0_pay76]
theorem pay78_at (g h a : FVec Ideal S8x1024 .f32) (p : Fin 8) (d : Fin 1024) : k0_pay78 g h a (ix2 p d) = h (ix2 7 d) + a (ix2 7 d) * g (ix2 7 d) := by
  pointwise [k0_pay78, k0_pay76]
/-- The rows a tile carries, -/
theorem tail_at (u : Half) (i : Fin 8) (j : Fin 512) : (k0_pay27 (F := Ideal) u : Eight) (ix2 i j) = u (ix2 ⟨248 + i.val, by omega⟩ j) := by
  pointwise [k0_pay27]
theorem tail_at' (u : Half) (i : Fin 8) (j : Fin 512) : (k0_pay29 (F := Ideal) (k0_pay28 u) : Eight) (ix2 i j) = u (ix2 ⟨248 + i.val, by omega⟩ j) := by
  pointwise [k0_pay29, k0_pay28]
/-- the branches' products -/
theorem pay30_at (u : Half) (v : FVec Ideal S256x512 .bf16) (q : Fin 256) (j : Fin 512) : (k0_pay30 (F := Ideal) u v : FVec Ideal S256x512 .bf16) (ix2 q j) = v (ix2 q j) * u (ix2 q j) := by
  pointwise [k0_pay30]
/-- and the gated linear unit. -/
def gel (v : EReal) : EReal := ((Ideal.ofBits .f32 0x3F000000#32) * v) * (1 + Ideal.tanh (Ideal.ofBits .f32 0x3F4C422A#32 * (v + (Ideal.ofBits .f32 0x3D372713#32 * v) * (v * v))))
theorem pay80_at (u : Half) (v : FVec Ideal S256x512 .bf16) (q : Fin 256) (j : Fin 512) : (k0_pay80 (F := Ideal) u v : FVec Ideal S256x512 .bf16) (ix2 q j) = u (ix2 q j) * gel (v (ix2 q j)) := by
  unfold gel; pointwise [k0_pay80]
theorem u_at (x y : FVec Ideal S256x512 .bf16) (q : Fin 256) (j : Fin 512) : (k0_pay7 (F := Ideal) x y : Half) (ix2 q j) = x (ix2 q j) * y (ix2 q j) := by
  pointwise [k0_pay7]
theorem x_at (x : FVec Ideal S256x512 .bf16) (q : Fin 256) (j : Fin 512) : (k0_pay5 (F := Ideal) x : Half) (ix2 q j) = x (ix2 q j) := by
  pointwise [k0_pay5]
theorem zero_at (i : Fin 8) (d : Fin 1024) : (k0_pay2 (F := Ideal) : FVec Ideal S8x1024 .f32) (ix2 i d) = 0 := by
  pointwise [k0_pay2]
theorem pay79_at (g : FVec Ideal S8x1024 .f32) (i : Fin 8) (d : Fin 1024) : (k0_pay79 (F := Ideal) g : FVec Ideal S8x1024 .f32) (ix2 i d) = g (ix2 i d) := by
  pointwise [k0_pay79]
/-- A window of a table, by row and column. -/
theorem win_at {α : Type} {n w m v : ℕ} {r o : ℕ} (x : (⟨2, ![n, w]⟩ : Shape).Idx → α) (inb : ∀ a, (![r, o] : Fin 2 → ℕ) a + (![m, v] : Fin 2 → ℕ) a ≤ (⟨2, ![n, w]⟩ : Shape).size a) (q : Fin m) (j : Fin v)
    (h1 : r + q.val < n) (h2 : o + j.val < w) : VecWindow.window (s := ⟨2, ![n, w]⟩) x ![r, o] ![m, v] inb (ix2 q j) = x (ix2 ⟨r + q.val, h1⟩ ⟨o + j.val, h2⟩) := by
  unfold VecWindow.window
  congr 1; funext i; apply Fin.ext
  match i with
  | ⟨0, _⟩ => show r + 1 * q.val = r + q.val; omega
  | ⟨1, _⟩ => show o + 1 * j.val = o + j.val; omega

end Cert.MixFIdeal.Own
-- ==== Proof.MixFP.Scan.lean ====
/- The mixer's forward mathematics by row and column, and a tile of the kernel over the reals: the convolutions, the heads,
   and the recurrence's states from the carried row on. -/
module

public import proofs.«01_k».proof.Proof.MixFP.Tile
public import proofs.«01_k».proof.Proof.Sums

@[expose] public section

set_option maxRecDepth 16384

noncomputable section

open Idealize.ShloMosaic Idealize.ShloMosaic.TcCoe Idealize.SL.Sem Idealize.ShloMosaic.Tactic

namespace Cert.Own

/-- What the mixer reads: five column blocks of the projection, and the parameters. -/
structure Dat where
  ba : ℕ → Fin 1024 → EReal
  ca : ℕ → Fin 1024 → EReal
  xa : ℕ → Fin 1024 → EReal
  xb : ℕ → Fin 1024 → EReal
  gb : ℕ → Fin 1024 → EReal
  wc : Fin 3 → Fin 1024 → EReal
  wd : Fin 4 → Fin 1024 → EReal
  bd : Fin 1024 → EReal
  wa : Fin 16 → Fin 64 → Fin 64 → EReal
  wx : Fin 16 → Fin 64 → Fin 64 → EReal
  na : Fin 1024 → EReal
  nx : Fin 1024 → EReal
  lm : Fin 1024 → EReal

namespace Dat
variable (D : Dat)

/-- The first convolution's input, -/
def uu (s : ℕ) (d : Fin 1024) : EReal := D.ca s d * D.xa s d
/-- the first convolution, -/
def ea (s : ℕ) (d : Fin 1024) : EReal := (D.wc 2 d * D.uu s d + D.wc 1 d * back (fun t => D.uu t d) 1 s) + D.wc 0 d * back (fun t => D.uu t d) 2 s
/-- the second, -/
def cb (s : ℕ) (d : Fin 1024) : EReal :=
  (((D.wd 3 d * D.xb s d + D.wd 2 d * back (fun t => D.xb t d) 1 s) + D.wd 1 d * back (fun t => D.xb t d) 2 s) + D.wd 0 d * back (fun t => D.xb t d) 3 s) + D.bd d
/-- a head's product, -/
def hd (C : Fin 1024 → EReal) (W : Fin 16 → Fin 64 → Fin 64 → EReal) (d : Fin 1024) : EReal :=
  ∑ e : Fin 64, C ⟨d.val / 64 * 64 + e.val, by omega⟩ * W ⟨d.val / 64, by omega⟩ e ⟨d.val % 64, by omega⟩
/-- the decay's exponent, -/
def lg (s : ℕ) (d : Fin 1024) : EReal := lam (sgm (hd (D.cb s) D.wa d + D.na d)) (spn (D.lm d))
/-- the decay, -/
def al (s : ℕ) (d : Fin 1024) : EReal := Ideal.exp (D.lg s d)
/-- the recurrence's input, -/
def be (s : ℕ) (d : Fin 1024) : EReal := (Ideal.sqrt (-(Ideal.exp (((2 : ℝ) : EReal) * D.lg s d) - 1)) * sgm (hd (D.cb s) D.wx d + D.nx d)) * D.cb s d
/-- and the state after `n` rows. -/
def S (n : ℕ) (d : Fin 1024) : EReal := ser (fun s => D.al s d) (fun s => D.be s d) 0 0 n

theorem nice (s : ℕ) (d : Fin 1024) : Nice (D.al s d) := decay _ (lam_nonpos _ _ (sgm_nonneg _) (spn_nonneg _))

/-- A slab of four heads side by side. -/
def sl (W : Fin 16 → Fin 64 → Fin 64 → EReal) (n : Fin 4) (k j : Fin 256) : EReal :=
  if k.val / 64 = j.val / 64 then W ⟨4 * n.val + k.val / 64, by omega⟩ ⟨k.val % 64, by omega⟩ ⟨j.val % 64, by omega⟩ else 0

/-- Of a sum over a slab's rows only one head's remain. -/
theorem diag_sum (f : Fin 256 → EReal) (g : Fin 4) (h : ∀ k : Fin 256, k.val / 64 ≠ g.val → f k = 0) :
    ∑ k, f k = ∑ e : Fin 64, f ⟨g.val * 64 + e.val, by omega⟩ := by
  rw [← (finProdFinEquiv (m := 4) (n := 64)).sum_comp f, Fintype.sum_prod_type, Finset.sum_eq_single g]
  · exact Finset.sum_congr rfl fun e _ => congrArg f (Fin.ext (by show e.val + 64 * g.val = g.val * 64 + e.val; omega))
  · intro b _ hb
    refine Finset.sum_eq_zero fun e _ => h _ ?_
    show (e.val + 64 * b.val) / 64 ≠ g.val
    have := e.isLt
    have : b.val ≠ g.val := fun h => hb (Fin.ext h)
    omega
  · intro h; exact absurd (Finset.mem_univ g) h

end Dat
end Cert.Own

namespace Cert.MixFIdeal.Own

open Cert.MixFIdeal Cert.MixFIdeal.Gen Cert.Own Cert.Own.Dat

/-- Column `j` of the half `h`. -/
def cl (h : Fin 2) (j : Fin 512) : Fin 1024 := ⟨512 * h.val + j.val, by omega⟩

theorem cl_cases {P : Fin 1024 → Prop} (h0 : ∀ j, P (cl 0 j)) (h1 : ∀ j, P (cl 1 j)) (d : Fin 1024) : P d := by
  by_cases h : d.val < 512
  · have e : cl 0 ⟨d.val, h⟩ = d := Fin.ext (by show 512 * 0 + d.val = d.val; omega)
    rw [← e]; exact h0 _
  · have e : cl 1 ⟨d.val - 512, by omega⟩ = d := Fin.ext (by show 512 * 1 + (d.val - 512) = d.val; omega)
    rw [← e]; exact h1 _

theorem two_l {n : ℕ} {e : EltTy} (x y : Vec Ideal ⟨2, ![n, 512]⟩ e) (q : Fin n) (j : Fin 512) : two x y (ix2 q (cl 0 j)) = x (ix2 q j) := by
  have h : (512 * 0 + j.val) < 512 := by omega
  refine (dif_pos h).trans (congrArg x ?_)
  funext a; apply Fin.ext
  match a with
  | ⟨0, _⟩ => rfl
  | ⟨1, _⟩ => show 512 * 0 + j.val = j.val; omega
theorem two_r {n : ℕ} {e : EltTy} (x y : Vec Ideal ⟨2, ![n, 512]⟩ e) (q : Fin n) (j : Fin 512) : two x y (ix2 q (cl 1 j)) = y (ix2 q j) := by
  have h : ¬ (512 * 1 + j.val) < 512 := by omega
  refine (dif_neg h).trans (congrArg y ?_)
  funext a; apply Fin.ext
  match a with
  | ⟨0, _⟩ => rfl
  | ⟨1, _⟩ => show 512 * 1 + j.val - 512 = j.val; omega

/-- A shift is the row some rows before. -/
theorem sh_back (k : ℕ) (hk : k < 8) (u : Half) (e : Eight) (f : ℕ → EReal) (s : ℕ) (q : Fin 256) (j : Fin 512) (hu : ∀ q : Fin 256, u (ix2 q j) = f (s + q.val))
    (he : ∀ i : Fin 8, e (ix2 i j) = back f (8 - i.val) s) : sh k hk u e q j = back f k (s + q.val) := by
  unfold sh back
  split_ifs with h h' h'
  · rw [he]; unfold back; show (if 8 - (8 - k + q.val) ≤ s then _ else _) = _
    rw [if_pos (by omega)]; congr 1; show s - (8 - (8 - k + q.val)) = _; omega
  · rw [he]; unfold back; show (if 8 - (8 - k + q.val) ≤ s then _ else _) = _
    rw [if_neg (by omega)]
  · rw [hu]; congr 1; show s + (q.val - k) = _; omega
  · omega

/-- The rows a tile leaves are the rows before the next. -/
theorem tail_back (f : ℕ → EReal) (s : ℕ) (i : Fin 8) : f (s + (248 + i.val)) = back f (8 - i.val) (s + 256) := by
  have := i.isLt
  unfold back; rw [if_pos (by omega)]; congr 1; omega

section
variable (D : Dat)

theorem convA_dat (h : Fin 2) (s : ℕ) (u : Half) (e : Eight) (w2 w1 w0 : Row) (hu : ∀ q j, u (ix2 q j) = D.uu (s + q.val) (cl h j))
    (he : ∀ i j, e (ix2 i j) = back (fun t => D.uu t (cl h j)) (8 - i.val) s)
    (h2 : ∀ j, w2 (ix2 0 j) = D.wc 2 (cl h j)) (h1 : ∀ j, w1 (ix2 0 j) = D.wc 1 (cl h j)) (h0 : ∀ j, w0 (ix2 0 j) = D.wc 0 (cl h j)) (q : Fin 256) (j : Fin 512) :
    convA u e w2 w1 w0 (ix2 q j) = D.ea (s + q.val) (cl h j) := by
  rw [convA_at, sh_back 1 _ u e _ s q j (fun q => hu q j) (fun i => he i j), sh_back 2 _ u e _ s q j (fun q => hu q j) (fun i => he i j), hu, h2, h1, h0]
  rfl

theorem convB_dat (h : Fin 2) (s : ℕ) (x : Half) (e : Eight) (w6 w5 w4 w3 w7 : Row) (hx : ∀ q j, x (ix2 q j) = D.xb (s + q.val) (cl h j))
    (he : ∀ i j, e (ix2 i j) = back (fun t => D.xb t (cl h j)) (8 - i.val) s)
    (h6 : ∀ j, w6 (ix2 0 j) = D.wd 3 (cl h j)) (h5 : ∀ j, w5 (ix2 0 j) = D.wd 2 (cl h j)) (h4 : ∀ j, w4 (ix2 0 j) = D.wd 1 (cl h j)) (h3 : ∀ j, w3 (ix2 0 j) = D.wd 0 (cl h j))
    (h7 : ∀ j, w7 (ix2 0 j) = D.bd (cl h j)) (q : Fin 256) (j : Fin 512) :
    convB x e w6 w5 w4 w3 w7 (ix2 q j) = D.cb (s + q.val) (cl h j) := by
  rw [convB_at, sh_back 1 _ x e _ s q j (fun q => hx q j) (fun i => he i j), sh_back 2 _ x e _ s q j (fun q => hx q j) (fun i => he i j),
    sh_back 3 _ x e _ s q j (fun q => hx q j) (fun i => he i j), hx, h6, h5, h4, h3, h7]
  rfl

/-- A half's head products from two slabs. -/
theorem mix_dat (h : Fin 2) (x : Half) (s0 s1 : Slab) (o : ℕ) (ho : o ≤ 256) (C : Fin 1024 → EReal) (W : Fin 16 → Fin 64 → Fin 64 → EReal) (q : Fin 256)
    (hx : ∀ j, x (ix2 q j) = C (cl h j)) (h0 : ∀ k j : Fin 256, s0 (ix3 0 k ⟨o + j.val, by omega⟩) = sl W ⟨2 * h.val, by omega⟩ k j)
    (h1 : ∀ k j : Fin 256, s1 (ix3 0 k ⟨o + j.val, by omega⟩) = sl W ⟨2 * h.val + 1, by omega⟩ k j) (j : Fin 512) :
    mix x s0 s1 q j o ho = hd C W (cl h j) := by
  have hj := j.isLt
  have hh := h.isLt
  unfold mix hd
  by_cases hc : j.val < 256
  · rw [dif_pos hc, Finset.sum_congr rfl fun k _ => congrArg (x (ix2 q ⟨k.val, by omega⟩) * ·) (h0 k ⟨j.val, hc⟩), diag_sum _ ⟨j.val / 64, by omega⟩]
    · refine Finset.sum_congr rfl fun e _ => ?_
      have he := e.isLt
      rw [hx]
      have e1 : (⟨j.val / 64 * 64 + e.val, by omega⟩ : Fin 512).val = j.val / 64 * 64 + e.val := rfl
      refine congrArg₂ (· * ·) (congrArg C (Fin.ext ?_)) ?_
      · show 512 * h.val + (j.val / 64 * 64 + e.val) = (512 * h.val + j.val) / 64 * 64 + e.val; omega
      · unfold sl; rw [if_pos (by show (j.val / 64 * 64 + e.val) / 64 = j.val / 64; omega)]
        have a1 : (⟨4 * (2 * h.val) + (j.val / 64 * 64 + e.val) / 64, by omega⟩ : Fin 16) = ⟨(cl h j).val / 64, by have := (cl h j).isLt; omega⟩ := Fin.ext (by show _ = (512 * h.val + j.val) / 64; dsimp only; omega)
        have a2 : (⟨(j.val / 64 * 64 + e.val) % 64, by omega⟩ : Fin 64) = e := Fin.ext (by dsimp only; omega)
        have a3 : (⟨j.val % 64, by omega⟩ : Fin 64) = ⟨(cl h j).val % 64, by omega⟩ := Fin.ext (by show _ = (512 * h.val + j.val) % 64; dsimp only; omega)
        exact congr (congr (congrArg W a1) a2) a3
    · intro k hk; unfold sl; rw [if_neg hk, mul_zero]
  · rw [dif_neg hc, Finset.sum_congr rfl fun k _ => congrArg (x (ix2 q ⟨256 + k.val, by omega⟩) * ·) (h1 k ⟨j.val - 256, by omega⟩), diag_sum _ ⟨(j.val - 256) / 64, by omega⟩]
    · refine Finset.sum_congr rfl fun e _ => ?_
      have he := e.isLt
      rw [hx]
      refine congrArg₂ (· * ·) (congrArg C (Fin.ext ?_)) ?_
      · show 512 * h.val + (256 + ((j.val - 256) / 64 * 64 + e.val)) = (512 * h.val + j.val) / 64 * 64 + e.val; omega
      · unfold sl; rw [if_pos (by show ((j.val - 256) / 64 * 64 + e.val) / 64 = (j.val - 256) / 64; omega)]
        have a1 : (⟨4 * (2 * h.val + 1) + ((j.val - 256) / 64 * 64 + e.val) / 64, by omega⟩ : Fin 16) = ⟨(cl h j).val / 64, by have := (cl h j).isLt; omega⟩ := Fin.ext (by show _ = (512 * h.val + j.val) / 64; dsimp only; omega)
        have a2 : (⟨((j.val - 256) / 64 * 64 + e.val) % 64, by omega⟩ : Fin 64) = e := Fin.ext (by dsimp only; omega)
        have a3 : (⟨(j.val - 256) % 64, by omega⟩ : Fin 64) = ⟨(cl h j).val % 64, by omega⟩ := Fin.ext (by show _ = (512 * h.val + j.val) % 64; dsimp only; omega)
        exact congr (congr (congrArg W a1) a2) a3
    · intro k hk; unfold sl; rw [if_neg hk, mul_zero]

/-- A half's rows from the state before its group of eight. -/
theorem half_dat (h : Fin 2) (s : ℕ) (c : Half) (s0 s1 : Slab) (w9 w8 sp : Row) (hc : ∀ q j, c (ix2 q j) = D.cb (s + q.val) (cl h j))
    (hi0 : ∀ k j : Fin 256, s0 (ix3 0 k ⟨256 + j.val, by omega⟩) = sl D.wx ⟨2 * h.val, by omega⟩ k j)
    (hi1 : ∀ k j : Fin 256, s1 (ix3 0 k ⟨256 + j.val, by omega⟩) = sl D.wx ⟨2 * h.val + 1, by omega⟩ k j)
    (ha0 : ∀ k j : Fin 256, s0 (ix3 0 k ⟨0 + j.val, by omega⟩) = sl D.wa ⟨2 * h.val, by omega⟩ k j)
    (ha1 : ∀ k j : Fin 256, s1 (ix3 0 k ⟨0 + j.val, by omega⟩) = sl D.wa ⟨2 * h.val + 1, by omega⟩ k j)
    (h9 : ∀ j, w9 (ix2 0 j) = D.nx (cl h j)) (h8 : ∀ j, w8 (ix2 0 j) = D.na (cl h j)) (hs : ∀ j, sp (ix2 0 j) = spn (D.lm (cl h j)))
    (n : Fin 32) (p : Fin 8) (j : Fin 512) (γ : EReal) :
    states c (gateI c s0 s1 w9) (dec (expo sp c s0 s1 w8)) (fac (expo sp c s0 s1 w8)) (ix2 ⟨n.val * 8 + p.val, by omega⟩ j)
      + prods (dec (expo sp c s0 s1 w8)) (ix2 ⟨n.val * 8 + p.val, by omega⟩ j) * γ
      = ser (fun s => D.al s (cl h j)) (fun s => D.be s (cl h j)) (s + n.val * 8) γ (p.val + 1) := by
  have el : ∀ q j, expo sp c s0 s1 w8 (ix2 q j) = D.lg (s + q.val) (cl h j) := fun q j => by
    rw [expo_at, mix_dat h c s0 s1 0 _ (D.cb (s + q.val)) D.wa q (fun j => hc q j) ha0 ha1, h8, hs]; rfl
  have ei : ∀ q j, gateI c s0 s1 w9 (ix2 q j) = sgm (hd (D.cb (s + q.val)) D.wx (cl h j) + D.nx (cl h j)) := fun q j => by
    rw [gateI_at, mix_dat h c s0 s1 256 _ (D.cb (s + q.val)) D.wx q (fun j => hc q j) hi0 hi1, h9]
  refine scan_at _ _ _ _ n j _ _ _ (fun p => ?_) (fun p => ?_) (fun s => D.nice s _) p γ
  · rw [dec_at, el]; show Ideal.exp (D.lg (s + (n.val * 8 + p.val)) _) = Ideal.exp (D.lg (s + n.val * 8 + p.val) _); rw [add_assoc]
  · rw [fac_at, el, ei, hc]; show D.be (s + (n.val * 8 + p.val)) _ = D.be (s + n.val * 8 + p.val) _; rw [add_assoc]

end

end Cert.MixFIdeal.Own
-- ==== Proof.MixFP.Tiles.lean ====
/- The mixer's tile over the reals: the loop over the groups of eight rows, and what a tile hands to its outputs and to the next. -/
module

public import proofs.«01_k».proof.Proof.MixFP.Scan

@[expose] public section

set_option maxRecDepth 16384

noncomputable section

open Idealize.ShloMosaic Idealize.ShloMosaic.TcCoe Idealize.SL.Sem Idealize.ShloMosaic.Tactic

namespace Cert.MixFIdeal.Own

open Cert.MixFIdeal Cert.MixFIdeal.Gen Cert.Own Cert.Own.Dat

theorem trips_eq : k0_t1_loop.trips = 32 := by decide +kernel
theorem off_eq : ∀ k : Fin k0_t1_loop.trips, k0_off1 k = ![8 * k.val, 0] := by decide +kernel

/-- A group's rows of a block, -/
theorem win_rows (x : FVec Ideal S256x1024 .f32) (k : Fin k0_t1_loop.trips) (p : Fin 8) (d : Fin 1024) (hk : 8 * k.val + p.val < 256) :
    VecWindow.window x (k0_off1 k) S8x1024.size (k0_off1_inb k) (ix2 p d) = x (ix2 ⟨8 * k.val + p.val, hk⟩ d) := by
  have h : ∀ (o : Fin 2 → ℕ) (e : o = ![8 * k.val, 0]) (inb), VecWindow.window x o S8x1024.size inb (ix2 p d) = x (ix2 ⟨8 * k.val + p.val, hk⟩ d) := by
    rintro _ rfl inb
    refine (win_at x inb p d hk (by omega)).trans ?_
    rw [show (⟨0 + d.val, by omega⟩ : Fin 1024) = d from Fin.ext (by dsimp only; omega)]
  exact h _ (off_eq k) _

/-- and a block with a group's rows replaced. -/
theorem put_rows (x : FVec Ideal S256x1024 .f32) (w : FVec Ideal S8x1024 .f32) (k : Fin k0_t1_loop.trips) (q : Fin 256) (d : Fin 1024) :
    VecWindow.put x (k0_off1 k) S8x1024.size w (ix2 q d) = if h : 8 * k.val ≤ q.val ∧ q.val < 8 * k.val + 8 then w (ix2 ⟨q.val - 8 * k.val, by omega⟩ d) else x (ix2 q d) := by
  rw [off_eq k]
  unfold VecWindow.put
  by_cases h : 8 * k.val ≤ q.val ∧ q.val < 8 * k.val + 8
  · rw [dif_pos h, dif_pos (fun i => by match i with | ⟨0, _⟩ => exact h | ⟨1, _⟩ => exact ⟨Nat.zero_le _, by show d.val < 0 + 1024; omega⟩)]
    congr 1; funext i; apply Fin.ext
    match i with
    | ⟨0, _⟩ => rfl
    | ⟨1, _⟩ => show d.val - 0 = d.val; omega
  · rw [dif_neg h, dif_neg (fun h' => h (h' 0))]

/-- The loop over the groups: the carried row is the state, and the rows done hold the states. -/
theorem loop_dat (D : Dat) (s : ℕ) (a h : FVec Ideal S256x1024 .f32) (g : FVec Ideal S8x1024 .f32) (hg : ∀ i d, g (ix2 i d) = D.S s d)
    (hs : ∀ (n : Fin 32) (p : Fin 8) (d : Fin 1024) (γ : EReal), h (ix2 ⟨n.val * 8 + p.val, by omega⟩ d) + a (ix2 ⟨n.val * 8 + p.val, by omega⟩ d) * γ
      = ser (fun s => D.al s d) (fun s => D.be s d) (s + n.val * 8) γ (p.val + 1)) (k : ℕ) (hk : k ≤ 32) :
    (∀ i d, ((st (F := Ideal) a h g k).1 : FVec Ideal S8x1024 .f32) (ix2 i d) = D.S (s + 8 * k) d)
      ∧ ∀ (q : Fin 256) (d), ((st (F := Ideal) a h g k).2 : FVec Ideal S256x1024 .f32) (ix2 q d) = if q.val < 8 * k then D.S (s + q.val + 1) d else h (ix2 q d) := by
  induction k with
  | zero => exact ⟨hg, fun q d => (if_neg (by omega)).symm⟩
  | succ k ih =>
    obtain ⟨h1, h2⟩ := ih (by omega)
    have hS : ∀ (p : Fin 8) (d : Fin 1024), h (ix2 ⟨8 * k + p.val, by omega⟩ d) + a (ix2 ⟨8 * k + p.val, by omega⟩ d) * D.S (s + 8 * k) d = D.S (s + 8 * k + p.val + 1) d := fun p d => by
      have e := hs ⟨k, by omega⟩ p d (D.S (s + 8 * k) d)
      have e1 : (⟨k * 8 + p.val, by omega⟩ : Fin 256) = ⟨8 * k + p.val, by omega⟩ := Fin.ext (by dsimp only; omega)
      dsimp only at e
      rw [e1] at e
      rw [e, show s + k * 8 = s + 8 * k by omega]
      unfold S
      conv_rhs => rw [add_assoc, ser_add]
      rw [zero_add]
    have hst := st_succ (F := Ideal) a h g ⟨k, by rw [trips_eq]; omega⟩
    dsimp only at hst
    rw [hst]
    refine ⟨fun i d => ?_, fun q d => ?_⟩
    · refine (pay78_at _ _ _ i d).trans ?_
      rw [win_rows _ _ 7 d (by show 8 * k + 7 < 256; omega), win_rows _ _ 7 d (by show 8 * k + 7 < 256; omega), h1, h2, if_neg (by show ¬ 8 * k + 7 < 8 * k; omega)]
      exact hS 7 d
    · refine (put_rows _ _ _ q d).trans ?_
      by_cases hq : 8 * k ≤ q.val ∧ q.val < 8 * k + 8
      · rw [dif_pos hq, if_pos (by omega)]
        refine (pay77_at _ _ _ _ d).trans ?_
        rw [win_rows _ _ _ d (by show 8 * k + (q.val - 8 * k) < 256; omega), win_rows _ _ _ d (by show 8 * k + (q.val - 8 * k) < 256; omega), h1, h2, if_neg (by show ¬ 8 * k + (q.val - 8 * k) < 8 * k; omega)]
        refine (hS ⟨q.val - 8 * k, by omega⟩ d).trans ?_
        show D.S (s + 8 * k + (q.val - 8 * k) + 1) d = _
        congr 1; omega
      · rw [dif_neg hq, h2]
        by_cases hl : q.val < 8 * k
        · rw [if_pos hl, if_pos (by omega)]
        · rw [if_neg hl, if_neg (by omega)]

/-- What the tables that every tile reads hold. -/
structure Reads (D : Dat) (x6 : FVec Ideal S10x1024 .f32) (x7 : FVec Ideal S4x256x512 .bf16) (x8 : FVec Ideal S1x1024 .f32) : Prop where
  c0 : ∀ d, x6 (ix2 0 d) = D.wc 0 d
  c1 : ∀ d, x6 (ix2 1 d) = D.wc 1 d
  c2 : ∀ d, x6 (ix2 2 d) = D.wc 2 d
  c3 : ∀ d, x6 (ix2 3 d) = D.wd 0 d
  c4 : ∀ d, x6 (ix2 4 d) = D.wd 1 d
  c5 : ∀ d, x6 (ix2 5 d) = D.wd 2 d
  c6 : ∀ d, x6 (ix2 6 d) = D.wd 3 d
  c7 : ∀ d, x6 (ix2 7 d) = D.bd d
  c8 : ∀ d, x6 (ix2 8 d) = D.na d
  c9 : ∀ d, x6 (ix2 9 d) = D.nx d
  sa : ∀ (n : Fin 4) (k j : Fin 256), x7 (ix3 n k ⟨0 + j.val, by omega⟩) = sl D.wa n k j
  sx : ∀ (n : Fin 4) (k j : Fin 256), x7 (ix3 n k ⟨256 + j.val, by omega⟩) = sl D.wx n k j
  lm : ∀ d, x8 (ix2 0 d) = D.lm d

section
variable {D : Dat} {x1 x2 x3 x4 x5 : FVec Ideal S256x1024 .bf16} {x6 : FVec Ideal S10x1024 .f32} {x7 : FVec Ideal S4x256x512 .bf16} {x8 : FVec Ideal S1x1024 .f32} {b z g : FVec Ideal S8x1024 .f32}

/-- A table's row by halves, -/
theorem row_l {n : ℕ} (x : FVec Ideal ⟨2, ![n, 1024]⟩ .f32) (r : ℕ) (hr : r < n) (inb) (j : Fin 512) :
    VecWindow.window (s := ⟨2, ![n, 1024]⟩) x ![r, 0] ![1, 512] inb (ix2 0 j) = x (ix2 ⟨r, hr⟩ (cl 0 j)) := by
  refine (win_at x inb 0 j (by show r + 0 < n; omega) (by omega)).trans ?_
  exact congrArg₂ (fun a b => x (ix2 a b)) (Fin.ext (by show r + 0 = r; omega)) (Fin.ext (by show 0 + j.val = 512 * 0 + j.val; omega))
theorem row_r {n : ℕ} (x : FVec Ideal ⟨2, ![n, 1024]⟩ .f32) (r : ℕ) (hr : r < n) (inb) (j : Fin 512) :
    VecWindow.window (s := ⟨2, ![n, 1024]⟩) x ![r, 512] ![1, 512] inb (ix2 0 j) = x (ix2 ⟨r, hr⟩ (cl 1 j)) := by
  refine (win_at x inb 0 j (by show r + 0 < n; omega) (by show 512 + j.val < 1024; omega)).trans ?_
  exact congrArg₂ (fun a b => x (ix2 a b)) (Fin.ext (by show r + 0 = r; omega)) (Fin.ext (by show 512 + j.val = 512 * 1 + j.val; omega))
/-- and a block's halves. -/
theorem wl_at {n : ℕ} {e : EltTy} (x : Vec Ideal ⟨2, ![n, 1024]⟩ e) (inb) (q : Fin n) (j : Fin 512) : wl x inb (ix2 q j) = x (ix2 q (cl 0 j)) := by
  refine (win_at x inb q j (by omega) (by omega)).trans ?_
  exact congrArg₂ (fun a b => x (ix2 a b)) (Fin.ext (by show 0 + q.val = q.val; omega)) (Fin.ext (by show 0 + j.val = 512 * 0 + j.val; omega))
theorem wr_at {n : ℕ} {e : EltTy} (x : Vec Ideal ⟨2, ![n, 1024]⟩ e) (inb) (q : Fin n) (j : Fin 512) : wr x inb (ix2 q j) = x (ix2 q (cl 1 j)) := by
  refine (win_at x inb q j (by omega) (by show 512 + j.val < 1024; omega)).trans ?_
  exact congrArg₂ (fun a b => x (ix2 a b)) (Fin.ext (by show 0 + q.val = q.val; omega)) (Fin.ext (by show 512 + j.val = 512 * 1 + j.val; omega))

/-- The first branch's block. -/
theorem outA_dat (R : Reads D x6 x7 x8) (s : ℕ) (h1 : ∀ q d, x1 (ix2 q d) = D.ba (s + q.val) d) (h2 : ∀ q d, x2 (ix2 q d) = D.ca (s + q.val) d) (h3 : ∀ q d, x3 (ix2 q d) = D.xa (s + q.val) d)
    (hz : ∀ i d, z (ix2 i d) = back (fun t => D.uu t d) (8 - i.val) s) (q : Fin 256) (d : Fin 1024) :
    (outA (F := Ideal) x1 x2 x3 x6 z : FVec Ideal S256x1024 .bf16) (ix2 q d) = D.ba (s + q.val) d * D.ea (s + q.val) d := by
  revert d
  refine cl_cases (fun j => ?_) (fun j => ?_)
  · refine (two_l _ _ q j).trans ((pay30_at _ _ q j).trans ?_)
    rw [wl_at, h1, e0_eq]
    exact congrArg _ (convA_dat D 0 s _ _ _ _ _ (fun q j => (u_at _ _ q j).trans (by rw [wl_at, wl_at, h2, h3]; rfl)) (fun i j => (wl_at (n := 8) (e := .f32) z _ i j).trans (hz i _))
      (fun j => (row_l x6 2 (by omega) _ j).trans (R.c2 _)) (fun j => (row_l x6 1 (by omega) _ j).trans (R.c1 _)) (fun j => (row_l x6 0 (by omega) _ j).trans (R.c0 _)) q j)
  · refine (two_r _ _ q j).trans ((pay30_at _ _ q j).trans ?_)
    rw [wr_at, h1, e1_eq]
    exact congrArg _ (convA_dat D 1 s _ _ _ _ _ (fun q j => (u_at _ _ q j).trans (by rw [wr_at, wr_at, h2, h3]; rfl)) (fun i j => (wr_at (n := 8) (e := .f32) z _ i j).trans (hz i _))
      (fun j => (row_r x6 2 (by omega) _ j).trans (R.c2 _)) (fun j => (row_r x6 1 (by omega) _ j).trans (R.c1 _)) (fun j => (row_r x6 0 (by omega) _ j).trans (R.c0 _)) q j)

/-- The rows the first convolution hands on, -/
theorem outZ_dat (s : ℕ) (h2 : ∀ q d, x2 (ix2 q d) = D.ca (s + q.val) d) (h3 : ∀ q d, x3 (ix2 q d) = D.xa (s + q.val) d) (i : Fin 8) (d : Fin 1024) :
    (outZ (F := Ideal) x2 x3 : FVec Ideal S8x1024 .f32) (ix2 i d) = back (fun t => D.uu t d) (8 - i.val) (s + 256) := by
  rw [← tail_back]
  revert d
  refine cl_cases (fun j => ?_) (fun j => ?_)
  · refine (two_l _ _ i j).trans ((tail_at _ i j).trans ((u_at _ _ _ j).trans ?_))
    rw [wl_at, wl_at, h2, h3]; rfl
  · refine (two_r _ _ i j).trans ((tail_at _ i j).trans ((u_at _ _ _ j).trans ?_))
    rw [wr_at, wr_at, h2, h3]; rfl
/-- and the second. -/
theorem outX_dat (s : ℕ) (h4 : ∀ q d, x4 (ix2 q d) = D.xb (s + q.val) d) (i : Fin 8) (d : Fin 1024) :
    (outX (F := Ideal) x4 : FVec Ideal S8x1024 .f32) (ix2 i d) = back (fun t => D.xb t d) (8 - i.val) (s + 256) := by
  rw [← tail_back (fun t => D.xb t d)]
  revert d
  refine cl_cases (fun j => ?_) (fun j => ?_)
  · refine (two_l _ _ i j).trans ((tail_at' _ i j).trans ((x_at _ _ j).trans ?_))
    rw [wl_at, h4]
  · refine (two_r _ _ i j).trans ((tail_at' _ i j).trans ((x_at _ _ j).trans ?_))
    rw [wr_at, h4]

/-- The states and the carried row a tile's loop ends with. -/
theorem fin_dat (R : Reads D x6 x7 x8) (s : ℕ) (h4 : ∀ q d, x4 (ix2 q d) = D.xb (s + q.val) d) (hb : ∀ i d, b (ix2 i d) = back (fun t => D.xb t d) (8 - i.val) s)
    (hg : ∀ i d, g (ix2 i d) = D.S s d) :
    (∀ i d, ((fin (F := Ideal) x4 x6 x7 x8 b g).1 : FVec Ideal S8x1024 .f32) (ix2 i d) = D.S (s + 256) d)
      ∧ ∀ (q : Fin 256) (d), ((fin (F := Ideal) x4 x6 x7 x8 b g).2 : FVec Ideal S256x1024 .f32) (ix2 q d) = D.S (s + q.val + 1) d := by
  have hL := loop_dat D s (two (A0 (F := Ideal) x4 x6 x7 x8 b) (A1 (F := Ideal) x4 x6 x7 x8 b)) (two (H0 (F := Ideal) x4 x6 x7 x8 b) (H1 (F := Ideal) x4 x6 x7 x8 b)) g hg (fun n p d γ => by
    have c0h : ∀ q j, c0 (F := Ideal) x4 x6 b (ix2 q j) = D.cb (s + q.val) (cl 0 j) := fun q j => by
      rw [c0_eq]
      exact convB_dat D 0 s _ _ _ _ _ _ _ (fun q j => (x_at _ q j).trans ((wl_at (n := 256) (e := .bf16) x4 _ q j).trans (h4 q _))) (fun i j => (wl_at (n := 8) (e := .f32) b _ i j).trans (hb i _))
        (fun j => (row_l x6 6 (by omega) _ j).trans (R.c6 _)) (fun j => (row_l x6 5 (by omega) _ j).trans (R.c5 _)) (fun j => (row_l x6 4 (by omega) _ j).trans (R.c4 _))
        (fun j => (row_l x6 3 (by omega) _ j).trans (R.c3 _)) (fun j => (row_l x6 7 (by omega) _ j).trans (R.c7 _)) q j
    have c1h : ∀ q j, c1 (F := Ideal) x4 x6 b (ix2 q j) = D.cb (s + q.val) (cl 1 j) := fun q j => by
      rw [c1_eq]
      exact convB_dat D 1 s _ _ _ _ _ _ _ (fun q j => (x_at _ q j).trans ((wr_at (n := 256) (e := .bf16) x4 _ q j).trans (h4 q _))) (fun i j => (wr_at (n := 8) (e := .f32) b _ i j).trans (hb i _))
        (fun j => (row_r x6 6 (by omega) _ j).trans (R.c6 _)) (fun j => (row_r x6 5 (by omega) _ j).trans (R.c5 _)) (fun j => (row_r x6 4 (by omega) _ j).trans (R.c4 _))
        (fun j => (row_r x6 3 (by omega) _ j).trans (R.c3 _)) (fun j => (row_r x6 7 (by omega) _ j).trans (R.c7 _)) q j
    revert d
    refine cl_cases (fun j => ?_) (fun j => ?_)
    · rw [two_l, two_l, H0_eq, A0_eq, a0_eq, i0_eq, m0_eq]
      exact half_dat D 0 s _ _ _ _ _ _ c0h (fun k j => (window_slab x7 0 (by omega) _ k _).trans (R.sx 0 k j)) (fun k j => (window_slab x7 1 (by omega) _ k _).trans (R.sx 1 k j))
        (fun k j => (window_slab x7 0 (by omega) _ k _).trans (R.sa 0 k j)) (fun k j => (window_slab x7 1 (by omega) _ k _).trans (R.sa 1 k j))
        (fun j => (row_l x6 9 (by omega) _ j).trans (R.c9 _)) (fun j => (row_l x6 8 (by omega) _ j).trans (R.c8 _))
        (fun j => (sp_at _ j).trans (congrArg spn ((row_l x8 0 (by omega) _ j).trans (R.lm _)))) n p j γ
    · rw [two_r, two_r, H1_eq, A1_eq, a1_eq, i1_eq, m1_eq]
      exact half_dat D 1 s _ _ _ _ _ _ c1h (fun k j => (window_slab x7 2 (by omega) _ k _).trans (R.sx 2 k j)) (fun k j => (window_slab x7 3 (by omega) _ k _).trans (R.sx 3 k j))
        (fun k j => (window_slab x7 2 (by omega) _ k _).trans (R.sa 2 k j)) (fun k j => (window_slab x7 3 (by omega) _ k _).trans (R.sa 3 k j))
        (fun j => (row_r x6 9 (by omega) _ j).trans (R.c9 _)) (fun j => (row_r x6 8 (by omega) _ j).trans (R.c8 _))
        (fun j => (sp_at _ j).trans (congrArg spn ((row_r x8 0 (by omega) _ j).trans (R.lm _)))) n p j γ) 32 (le_refl _)
  unfold fin
  rw [trips_eq]
  exact ⟨hL.1, fun q d => (hL.2 q d).trans (if_pos q.isLt)⟩

/-- The second branch's block -/
theorem outB_dat (h : FVec Ideal S256x1024 .f32) (q : Fin 256) (d : Fin 1024) :
    (outB (F := Ideal) h x5 : FVec Ideal S256x1024 .bf16) (ix2 q d) = h (ix2 q d) * gel (x5 (ix2 q d)) := by
  revert d
  refine cl_cases (fun j => ?_) (fun j => ?_)
  · refine (two_l _ _ q j).trans ((pay80_at _ _ q j).trans ?_)
    rw [wl_at, wl_at]
  · refine (two_r _ _ q j).trans ((pay80_at _ _ q j).trans ?_)
    rw [wr_at, wr_at]
/-- and the states' block. -/
theorem outH_dat (h : FVec Ideal S256x1024 .f32) (q : Fin 256) (d : Fin 1024) : (outH (F := Ideal) h : FVec Ideal S256x1024 .f32) (ix2 q d) = h (ix2 q d) := by
  revert d
  refine cl_cases (fun j => ?_) (fun j => ?_)
  · exact (two_l _ _ q j).trans (wl_at _ _ q j)
  · exact (two_r _ _ q j).trans (wr_at _ _ q j)

end

end Cert.MixFIdeal.Own
-- ==== Proof.MixFP.Out.lean ====
/- What the mixers' forward call computes over the reals. -/
module

public import proofs.«01_k».proof.Proof.MixFP.Tiles

@[expose] public section

set_option maxRecDepth 16384

noncomputable section

open Idealize.ShloMosaic Idealize.ShloMosaic.TcCoe Idealize.SL.Sem Idealize.ShloMosaic.Tactic
open Idealize.ShloMosaic.Pipeline (Dat)

namespace Cert.Own

/-- A column block of the projection, by row; 0 past the rows. -/
def pcol (a : (⟨2, ![8192, 7168]⟩ : Shape).Idx → EReal) (k : ℕ) (hk : k < 7) (s : ℕ) (d : Fin 1024) : EReal :=
  if h : s < 8192 then a (ix2 ⟨s, h⟩ ⟨k * 1024 + d.val, by omega⟩) else 0

/-- What the mixer reads, from its arguments. -/
def dat (a0 : (⟨2, ![8192, 7168]⟩ : Shape).Idx → EReal) (a1 : (⟨2, ![3, 1024]⟩ : Shape).Idx → EReal) (a2 : (⟨2, ![4, 1024]⟩ : Shape).Idx → EReal)
    (a3 : (⟨1, ![1024]⟩ : Shape).Idx → EReal) (a4 : (⟨3, ![16, 64, 64]⟩ : Shape).Idx → EReal) (a5 : (⟨1, ![1024]⟩ : Shape).Idx → EReal)
    (a6 : (⟨3, ![16, 64, 64]⟩ : Shape).Idx → EReal) (a7 a8 : (⟨1, ![1024]⟩ : Shape).Idx → EReal) : Dat where
  ba := pcol a0 0 (by omega)
  ca := pcol a0 1 (by omega)
  xa := pcol a0 2 (by omega)
  xb := pcol a0 3 (by omega)
  gb := pcol a0 4 (by omega)
  wc k d := a1 (ix2 k d)
  wd k d := a2 (ix2 k d)
  bd d := a3 (ix1 d)
  wa g e j := a4 (ix3 g e j)
  wx g e j := a6 (ix3 g e j)
  na d := a5 (ix1 d)
  nx d := a7 (ix1 d)
  lm d := a8 (ix1 d)

end Cert.Own

namespace Cert.MixFIdeal.Own

open Cert.MixFIdeal Cert.MixFIdeal.Gen Cert.Own Cert.Own.Dat

/-- The heads' weights, four heads to a slab. -/
def bdiag (w : FVec Ideal S16x64x64 .f32) : FVec Ideal S4x256x256 .f32 :=
  shapeCast S4x256x256 (mulf (broadcastInDim S4x4x64x4x64 ![0, 1, 2, 3, 4] bcast_S4x4x64x1x64_S4x4x64x4x64_0_1_2_3_4 (broadcastInDim S4x4x64x1x64 ![0, 1, 2, 4] bcast_S4x4x64x64_S4x4x64x1x64_0_1_2_4 (shapeCast S4x4x64x64 w shapeCasts_S16x64x64_S4x4x64x64)))
    (broadcastInDim S4x4x64x4x64 ![0, 1, 2, 3, 4] bcast_S1x4x1x4x1_S4x4x64x4x64_0_1_2_3_4 (broadcastInDim S1x4x1x4x1 ![1, 3] bcast_S4x4_S1x4x1x4x1_1_3
      (uitofp .f32 (cmpi .eq (addi (iotaInDim S4x4 32 0) (broadcastInDim S4x4 ![] bcast_S_S4x4 (constantI S_ 32 0#32))) (iotaInDim S4x4 32 1)) : FVec Ideal S4x4 .f32)))
    : FVec Ideal S4x4x64x4x64 .f32) shapeCasts_S4x4x64x4x64_S4x256x256

theorem eye_at : ∀ a b : Fin 4, IntOp.cmpi CmpIPredicate.eq (IntOp.addi (BitVec.ofNat 32 a.val) 0#32) (BitVec.ofNat 32 b.val) = if a = b then 1#1 else 0#1 := by decide

theorem one_bit : FloatOps.uitofp (F := Ideal) FTy.f32 (1#1 : BitVec 1) = (1 : EReal) := by
  show (((1#1 : BitVec 1).toNat : ℝ) : EReal) = 1; simp
theorem zero_bit : FloatOps.uitofp (F := Ideal) FTy.f32 (0#1 : BitVec 1) = (0 : EReal) := by
  show (((0#1 : BitVec 1).toNat : ℝ) : EReal) = 0; simp
theorem bdiag_at (w : FVec Ideal S16x64x64 .f32) (n : Fin 4) (k j : Fin 256) : bdiag w (ix3 n k j) = sl (fun g e j => w (ix3 g e j)) n k j := by
  unfold bdiag sl
  pointwise
  have e := eye_at ⟨k.val / 64, by omega⟩ ⟨j.val / 64, by omega⟩
  dsimp only at e
  rw [e]
  by_cases h : k.val / 64 = j.val / 64
  · rw [if_pos (Fin.ext h), if_pos h]
    refine Eq.trans (congrArg₂ (· * ·) (congrArg w (congrArg (fun a : Fin 16 => ix3 a (⟨k.val % 64, by omega⟩ : Fin 64) (⟨j.val % 64, by omega⟩ : Fin 64)) (Fin.ext ?_))) one_bit) (mul_one _)
    show n.val * 4 + k.val / 64 = 4 * n.val + k.val / 64; omega
  · rw [if_neg (fun h' => h (congrArg Fin.val h')), if_neg h]
    exact Eq.trans (congrArg _ zero_bit) (mul_zero _)

variable (m : (ℓ : Loc nD τ sig) → Buf (Elt Ideal) ℓ)

/-- The arguments on a core. -/
abbrev p0 (c : Dev nD) : FVec Ideal S8192x7168 .f32 := m ((c : Thread nD τ).loc main_arg0)
abbrev p1 (c : Dev nD) : FVec Ideal S3x1024 .f32 := m ((c : Thread nD τ).loc main_arg1)
abbrev p2 (c : Dev nD) : FVec Ideal S4x1024 .f32 := m ((c : Thread nD τ).loc main_arg2)
abbrev p3 (c : Dev nD) : FVec Ideal S1024 .f32 := m ((c : Thread nD τ).loc main_arg3)
abbrev p4 (c : Dev nD) : FVec Ideal S16x64x64 .f32 := m ((c : Thread nD τ).loc main_arg4)
abbrev p5 (c : Dev nD) : FVec Ideal S1024 .f32 := m ((c : Thread nD τ).loc main_arg5)
abbrev p6 (c : Dev nD) : FVec Ideal S16x64x64 .f32 := m ((c : Thread nD τ).loc main_arg6)
abbrev p7 (c : Dev nD) : FVec Ideal S1024 .f32 := m ((c : Thread nD τ).loc main_arg7)
abbrev p8 (c : Dev nD) : FVec Ideal S1024 .f32 := m ((c : Thread nD τ).loc main_arg8)
/-- What the mixer reads on a core. -/
abbrev dt (c : Dev nD) : Dat := dat (p0 m c) (p1 m c) (p2 m c) (p3 m c) (p4 m c) (p5 m c) (p6 m c) (p7 m c) (p8 m c)

theorem V_3 (c : Dev nD) : V m c main_v3 = (concatenate S10x1024 0 [⟨S3x1024, p1 m c⟩, ⟨S4x1024, p2 m c⟩, ⟨S1x1024, (broadcastInDim S1x1024 ![1] bcast_S1024_S1x1024_1 (p3 m c) : FVec Ideal S1x1024 .f32)⟩, ⟨S1x1024, (broadcastInDim S1x1024 ![1] bcast_S1024_S1x1024_1 (p5 m c) : FVec Ideal S1x1024 .f32)⟩, ⟨S1x1024, (broadcastInDim S1x1024 ![1] bcast_S1024_S1x1024_1 (p7 m c) : FVec Ideal S1x1024 .f32)⟩] concatenates_S3x1024_S4x1024_S1x1024_S1x1024_S1x1024_S10x1024_d0 : FVec Ideal S10x1024 .f32) := by
  unfold V hostOps0; after_results_simp <;> rfl
theorem V_31 (c : Dev nD) : V m c main_v31 = (truncf .bf16 (concatenate S4x256x512 2 [⟨S4x256x256, bdiag (p4 m c)⟩, ⟨S4x256x256, bdiag (p6 m c)⟩] concatenates_S4x256x256_S4x256x256_S4x256x512_d2 : FVec Ideal S4x256x512 .f32) bitsLt_bf16_f32 : FVec Ideal S4x256x512 .bf16) := by
  unfold V hostOps0; after_results_simp <;> rfl
theorem V_32 (c : Dev nD) : V m c main_v32 = (truncf .bf16 (p0 m c) bitsLt_bf16_f32 : FVec Ideal S8192x7168 .bf16) := by
  unfold V hostOps0; after_results_simp <;> rfl
theorem V_33 (c : Dev nD) : V m c main_v33 = (broadcastInDim S1x1024 ![1] bcast_S1024_S1x1024_1 (p8 m c) : FVec Ideal S1x1024 .f32) := by
  unfold V hostOps0; after_results_simp <;> rfl

theorem idx_0 : ∀ t : Fin cfg0.N, win0_0.index t 0 = t.val ∧ win0_0.index t 1 = 0 :=
  (by decide +kernel : ∀ t : Fin grid0.N, _)
theorem idx_1 : ∀ t : Fin cfg0.N, win0_1.index t 0 = t.val ∧ win0_1.index t 1 = 1 :=
  (by decide +kernel : ∀ t : Fin grid0.N, _)
theorem idx_2 : ∀ t : Fin cfg0.N, win0_2.index t 0 = t.val ∧ win0_2.index t 1 = 2 :=
  (by decide +kernel : ∀ t : Fin grid0.N, _)
theorem idx_3 : ∀ t : Fin cfg0.N, win0_3.index t 0 = t.val ∧ win0_3.index t 1 = 3 :=
  (by decide +kernel : ∀ t : Fin grid0.N, _)
theorem idx_4 : ∀ t : Fin cfg0.N, win0_4.index t 0 = t.val ∧ win0_4.index t 1 = 4 :=
  (by decide +kernel : ∀ t : Fin grid0.N, _)
theorem idx_5 : ∀ t : Fin cfg0.N, win0_5.index t 0 = 0 ∧ win0_5.index t 1 = 0 :=
  (by decide +kernel : ∀ t : Fin grid0.N, _)
theorem idx_6 : ∀ t : Fin cfg0.N, win0_6.index t 0 = 0 ∧ win0_6.index t 1 = 0 ∧ win0_6.index t 2 = 0 :=
  (by decide +kernel : ∀ t : Fin grid0.N, _)
theorem idx_7 : ∀ t : Fin cfg0.N, win0_7.index t 0 = 0 ∧ win0_7.index t 1 = 0 :=
  (by decide +kernel : ∀ t : Fin grid0.N, _)
theorem idx_8 : ∀ t : Fin cfg0.N, win0_8.index t 0 = t.val ∧ win0_8.index t 1 = 0 :=
  (by decide +kernel : ∀ t : Fin grid0.N, _)
theorem idx_9 : ∀ t : Fin cfg0.N, win0_9.index t 0 = t.val ∧ win0_9.index t 1 = 0 :=
  (by decide +kernel : ∀ t : Fin grid0.N, _)
theorem idx_10 : ∀ t : Fin cfg0.N, win0_10.index t 0 = t.val ∧ win0_10.index t 1 = 0 :=
  (by decide +kernel : ∀ t : Fin grid0.N, _)
theorem lt_N (t : Fin cfg0.N) : t.val < 32 := by have := t.isLt; have : cfg0.N = 32 := N_0; omega

theorem blk_0 (c : Dev nD) (t : Fin cfg0.N) (q : Fin 256) (d : Fin 1024) : (iblk m c 0 t : S256x1024.Idx → EReal) (ix2 q d) = (dt m c).ba (256 * t.val + q.val) d := by
  obtain ⟨h0, h1⟩ := idx_0 t
  have := lt_N t
  show (V m c main_v32 : FVec Ideal S8192x7168 .bf16) ((win0_0.rect t).emb (ix2 q d)) = _
  rw [V_32]
  refine Eq.trans ?_ (dif_pos (show 256 * t.val + q.val < 8192 by omega)).symm
  refine congrArg (p0 m c) (funext fun a => Fin.ext ?_)
  match a with
  | ⟨0, _⟩ => show win0_0.index t 0 * 256 + 1 * q.val = 256 * t.val + q.val; rw [h0]; omega
  | ⟨1, _⟩ => show win0_0.index t 1 * 1024 + 1 * d.val = 0 * 1024 + d.val; rw [h1]; omega

theorem blk_1 (c : Dev nD) (t : Fin cfg0.N) (q : Fin 256) (d : Fin 1024) : (iblk m c 1 t : S256x1024.Idx → EReal) (ix2 q d) = (dt m c).ca (256 * t.val + q.val) d := by
  obtain ⟨h0, h1⟩ := idx_1 t
  have := lt_N t
  show (V m c main_v32 : FVec Ideal S8192x7168 .bf16) ((win0_1.rect t).emb (ix2 q d)) = _
  rw [V_32]
  refine Eq.trans ?_ (dif_pos (show 256 * t.val + q.val < 8192 by omega)).symm
  refine congrArg (p0 m c) (funext fun a => Fin.ext ?_)
  match a with
  | ⟨0, _⟩ => show win0_1.index t 0 * 256 + 1 * q.val = 256 * t.val + q.val; rw [h0]; omega
  | ⟨1, _⟩ => show win0_1.index t 1 * 1024 + 1 * d.val = 1 * 1024 + d.val; rw [h1]; omega

theorem blk_2 (c : Dev nD) (t : Fin cfg0.N) (q : Fin 256) (d : Fin 1024) : (iblk m c 2 t : S256x1024.Idx → EReal) (ix2 q d) = (dt m c).xa (256 * t.val + q.val) d := by
  obtain ⟨h0, h1⟩ := idx_2 t
  have := lt_N t
  show (V m c main_v32 : FVec Ideal S8192x7168 .bf16) ((win0_2.rect t).emb (ix2 q d)) = _
  rw [V_32]
  refine Eq.trans ?_ (dif_pos (show 256 * t.val + q.val < 8192 by omega)).symm
  refine congrArg (p0 m c) (funext fun a => Fin.ext ?_)
  match a with
  | ⟨0, _⟩ => show win0_2.index t 0 * 256 + 1 * q.val = 256 * t.val + q.val; rw [h0]; omega
  | ⟨1, _⟩ => show win0_2.index t 1 * 1024 + 1 * d.val = 2 * 1024 + d.val; rw [h1]; omega

theorem blk_3 (c : Dev nD) (t : Fin cfg0.N) (q : Fin 256) (d : Fin 1024) : (iblk m c 3 t : S256x1024.Idx → EReal) (ix2 q d) = (dt m c).xb (256 * t.val + q.val) d := by
  obtain ⟨h0, h1⟩ := idx_3 t
  have := lt_N t
  show (V m c main_v32 : FVec Ideal S8192x7168 .bf16) ((win0_3.rect t).emb (ix2 q d)) = _
  rw [V_32]
  refine Eq.trans ?_ (dif_pos (show 256 * t.val + q.val < 8192 by omega)).symm
  refine congrArg (p0 m c) (funext fun a => Fin.ext ?_)
  match a with
  | ⟨0, _⟩ => show win0_3.index t 0 * 256 + 1 * q.val = 256 * t.val + q.val; rw [h0]; omega
  | ⟨1, _⟩ => show win0_3.index t 1 * 1024 + 1 * d.val = 3 * 1024 + d.val; rw [h1]; omega

theorem blk_4 (c : Dev nD) (t : Fin cfg0.N) (q : Fin 256) (d : Fin 1024) : (iblk m c 4 t : S256x1024.Idx → EReal) (ix2 q d) = (dt m c).gb (256 * t.val + q.val) d := by
  obtain ⟨h0, h1⟩ := idx_4 t
  have := lt_N t
  show (V m c main_v32 : FVec Ideal S8192x7168 .bf16) ((win0_4.rect t).emb (ix2 q d)) = _
  rw [V_32]
  refine Eq.trans ?_ (dif_pos (show 256 * t.val + q.val < 8192 by omega)).symm
  refine congrArg (p0 m c) (funext fun a => Fin.ext ?_)
  match a with
  | ⟨0, _⟩ => show win0_4.index t 0 * 256 + 1 * q.val = 256 * t.val + q.val; rw [h0]; omega
  | ⟨1, _⟩ => show win0_4.index t 1 * 1024 + 1 * d.val = 4 * 1024 + d.val; rw [h1]; omega

theorem blk_5 (c : Dev nD) (t : Fin cfg0.N) : (iblk m c 5 t : FVec Ideal S10x1024 .f32) = V m c main_v3 := by
  obtain ⟨h0, h1⟩ := idx_5 t
  funext i
  show (V m c main_v3 : FVec Ideal S10x1024 .f32) ((win0_5.rect t).emb i) = _
  refine congrArg (V m c main_v3 : FVec Ideal S10x1024 .f32) (funext fun a => Fin.ext ?_)
  match a with
  | ⟨0, _⟩ => show win0_5.index t 0 * 10 + 1 * (i 0).val = (i 0).val; rw [h0]; omega
  | ⟨1, _⟩ => show win0_5.index t 1 * 1024 + 1 * (i 1).val = (i 1).val; rw [h1]; omega

theorem blk_7 (c : Dev nD) (t : Fin cfg0.N) : (iblk m c 7 t : FVec Ideal S1x1024 .f32) = V m c main_v33 := by
  obtain ⟨h0, h1⟩ := idx_7 t
  funext i
  show (V m c main_v33 : FVec Ideal S1x1024 .f32) ((win0_7.rect t).emb i) = _
  refine congrArg (V m c main_v33 : FVec Ideal S1x1024 .f32) (funext fun a => Fin.ext ?_)
  match a with
  | ⟨0, _⟩ => show win0_7.index t 0 * 1 + 1 * (i 0).val = (i 0).val; rw [h0]; omega
  | ⟨1, _⟩ => show win0_7.index t 1 * 1024 + 1 * (i 1).val = (i 1).val; rw [h1]; omega

theorem blk_6 (c : Dev nD) (t : Fin cfg0.N) : (iblk m c 6 t : FVec Ideal S4x256x512 .bf16) = V m c main_v31 := by
  obtain ⟨h0, h1, h2⟩ := idx_6 t
  funext i
  show (V m c main_v31 : FVec Ideal S4x256x512 .bf16) ((win0_6.rect t).emb i) = _
  refine congrArg (V m c main_v31 : FVec Ideal S4x256x512 .bf16) (funext fun a => Fin.ext ?_)
  match a with
  | ⟨0, _⟩ => show win0_6.index t 0 * 4 + 1 * (i 0).val = (i 0).val; rw [h0]; omega
  | ⟨1, _⟩ => show win0_6.index t 1 * 256 + 1 * (i 1).val = (i 1).val; rw [h1]; omega
  | ⟨2, _⟩ => show win0_6.index t 2 * 512 + 1 * (i 2).val = (i 2).val; rw [h2]; omega

/-- The tables hold the parameters. -/
theorem reads (c : Dev nD) (t : Fin cfg0.N) : Reads (dt m c) (iblk m c 5 t) (iblk m c 6 t) (iblk m c 7 t) := by
  rw [blk_5, blk_6, blk_7, V_3, V_31, V_33]
  constructor
  · intro d; show _ = p1 m c (ix2 0 d); pointwise
  · intro d; show _ = p1 m c (ix2 1 d); pointwise
  · intro d; show _ = p1 m c (ix2 2 d); pointwise
  · intro d; show _ = p2 m c (ix2 0 d); pointwise
  · intro d; show _ = p2 m c (ix2 1 d); pointwise
  · intro d; show _ = p2 m c (ix2 2 d); pointwise
  · intro d; show _ = p2 m c (ix2 3 d); pointwise
  · intro d; show _ = p3 m c (ix1 d); pointwise
  · intro d; show _ = p5 m c (ix1 d); pointwise
  · intro d; show _ = p7 m c (ix1 d); pointwise
  · intro n k j; refine Eq.trans ?_ (bdiag_at (p4 m c) n k j); generalize bdiag (p4 m c) = y; generalize bdiag (p6 m c) = z; pointwise
  · intro n k j; refine Eq.trans ?_ (bdiag_at (p6 m c) n k j); generalize bdiag (p4 m c) = y; generalize bdiag (p6 m c) = z; pointwise
  · intro d; show _ = p8 m c (ix1 d); pointwise

/-- What a tile finds in the carried buffers. -/
theorem zin_at (c : Dev nD) (n : ℕ) (hn : n ≤ cfg0.N) (i : Fin 8) (d : Fin 1024) : (zin m c n hn : FVec Ideal S8x1024 .f32) (ix2 i d) = back (fun t => (dt m c).uu t d) (8 - i.val) (256 * n) := by
  cases n with
  | zero => refine (zero_at i d).trans ?_; unfold back; rw [if_neg (by omega)]
  | succ n => exact (outZ_dat (D := dt m c) (256 * n) (fun q d => blk_1 m c ⟨n, hn⟩ q d) (fun q d => blk_2 m c ⟨n, hn⟩ q d) i d).trans (by rw [show 256 * n + 256 = 256 * (n + 1) by omega])
theorem bin_at (c : Dev nD) (n : ℕ) (hn : n ≤ cfg0.N) (i : Fin 8) (d : Fin 1024) : (bin m c n hn : FVec Ideal S8x1024 .f32) (ix2 i d) = back (fun t => (dt m c).xb t d) (8 - i.val) (256 * n) := by
  cases n with
  | zero => refine (zero_at i d).trans ?_; unfold back; rw [if_neg (by omega)]
  | succ n => exact (outX_dat (D := dt m c) (256 * n) (fun q d => blk_3 m c ⟨n, hn⟩ q d) i d).trans (by rw [show 256 * n + 256 = 256 * (n + 1) by omega])
theorem gin_at (c : Dev nD) (n : ℕ) (hn : n ≤ cfg0.N) (i : Fin 8) (d : Fin 1024) : (gin m c n hn : FVec Ideal S8x1024 .f32) (ix2 i d) = (dt m c).S (256 * n) d := by
  induction n generalizing i d with
  | zero => exact zero_at i d
  | succ n ih =>
    refine (pay79_at _ i d).trans (((fin_dat (reads m c ⟨n, hn⟩) (256 * n) (fun q d => blk_3 m c ⟨n, hn⟩ q d) (fun i d => bin_at m c n _ i d) (fun i d => ih _ i d)).1 i d).trans ?_)
    rw [show 256 * n + 256 = 256 * (n + 1) by omega]

/-- A tile's states, -/
theorem fs_at (c : Dev nD) (t : Fin cfg0.N) (q : Fin 256) (d : Fin 1024) : ((fs m c t).2 : FVec Ideal S256x1024 .f32) (ix2 q d) = (dt m c).S (256 * t.val + q.val + 1) d :=
  (fin_dat (reads m c t) (256 * t.val) (fun q d => blk_3 m c t q d) (fun i d => bin_at m c t.val _ i d) (fun i d => gin_at m c t.val _ i d)).2 q d
theorem rH_at (c : Dev nD) (t : Fin cfg0.N) (q : Fin 256) (d : Fin 1024) : (rH m c t : FVec Ideal S256x1024 .f32) (ix2 q d) = (dt m c).S (256 * t.val + q.val + 1) d :=
  (outH_dat _ q d).trans (fs_at m c t q d)
/-- second branch -/
theorem rB_at (c : Dev nD) (t : Fin cfg0.N) (q : Fin 256) (d : Fin 1024) :
    (rB m c t : FVec Ideal S256x1024 .bf16) (ix2 q d) = (dt m c).S (256 * t.val + q.val + 1) d * gel ((dt m c).gb (256 * t.val + q.val) d) := by
  refine (outB_dat _ q d).trans ?_
  rw [fs_at, blk_4]
/-- and first. -/
theorem rA_at (c : Dev nD) (t : Fin cfg0.N) (q : Fin 256) (d : Fin 1024) :
    (rA m c t : FVec Ideal S256x1024 .bf16) (ix2 q d) = (dt m c).ba (256 * t.val + q.val) d * (dt m c).ea (256 * t.val + q.val) d :=
  outA_dat (reads m c t) (256 * t.val) (fun q d => blk_0 m c t q d) (fun q d => blk_1 m c t q d) (fun q d => blk_2 m c t q d) (fun i d => zin_at m c t.val _ i d) q d

/-! ## The arrays after the run -/

/-- The first branch, -/
def g8 (c : Dev nD) : FVec Ideal S8192x1024 .bf16 := fun i => (dt m c).ba (i 0).val (i 1) * (dt m c).ea (i 0).val (i 1)
/-- the second -/
def g9 (c : Dev nD) : FVec Ideal S8192x1024 .bf16 := fun i => (dt m c).S ((i 0).val + 1) (i 1) * gel ((dt m c).gb (i 0).val (i 1))
/-- and the states. -/
def g10 (c : Dev nD) : FVec Ideal S8192x1024 .f32 := fun i => (dt m c).S ((i 0).val + 1) (i 1)

/-- A tile's row `q` among all rows. -/
abbrev row (t : Fin cfg0.N) (q : Fin 256) : Fin 8192 := ⟨256 * t.val + q.val, by have := lt_N t; omega⟩

theorem emb_8 (t : Fin cfg0.N) (q : Fin 256) (d : Fin 1024) : (win0_8.rect t).emb (ix2 q d) = (ix2 (row t q) d : S8192x1024.Idx) := by
  obtain ⟨h0, h1⟩ := idx_8 t
  funext a; apply Fin.ext
  match a with
  | ⟨0, _⟩ => show win0_8.index t 0 * 256 + 1 * q.val = 256 * t.val + q.val; rw [h0]; omega
  | ⟨1, _⟩ => show win0_8.index t 1 * 1024 + 1 * d.val = d.val; rw [h1]; omega
theorem cover_8 (i : S8192x1024.Idx) : ∃ t : Fin cfg0.N, (cfg0.win 8).flush t = true ∧ i ∈ ((win0_8.rect t)).set := by
  have h0 : (i 0).val < 8192 := (i 0).isLt
  have hN : cfg0.N = 32 := N_0
  let t : Fin cfg0.N := ⟨(i 0).val / 256, by omega⟩
  have e : i = (win0_8.rect t).emb (ix2 ⟨(i 0).val % 256, by omega⟩ (i 1)) := by
    refine Eq.trans ?_ (emb_8 t ⟨(i 0).val % 256, by omega⟩ (i 1)).symm; funext a; apply Fin.ext
    match a with
    | ⟨0, _⟩ => show (i 0).val = 256 * ((i 0).val / 256) + (i 0).val % 256; omega
    | ⟨1, _⟩ => rfl
  exact ⟨t, flush0_8 t, e ▸ (win0_8.rect t).idx_mem _⟩
theorem flushed_8 (c : Dev nD) (t : Fin cfg0.N) : (dats m 0 c).flushed 8 t = (win0_8.blk t).view.read (Elt Ideal) (g8 m c) := by
  show (cfg0.win 8).cut (grid0.coords t) ((dats m 0 c).after 8 t) = _
  rw [after_8]
  funext i
  show (rA m c t : S256x1024.Idx → EReal) i = g8 m c ((win0_8.rect t).emb i)
  obtain ⟨p, q, rfl⟩ : ∃ (p : Fin 256) (q : Fin 1024), i = (ix2 p q : S256x1024.Idx) := ⟨i 0, i 1, eq_ix2 i⟩
  rw [show (win0_8.rect t).emb (ix2 p q) = _ from emb_8 t p q]
  exact rA_at m c t p q
theorem final_8 (c : Dev nD) : (dats m 0 c).arrAt 8 cfg0.N = g8 m c :=
  (dats m 0 c).arrAt_eq_of_cover 8 (g8 m c) (fun t h => flushed_8 m c t) fun i => (cover_8 i).imp fun t h => ⟨h.1, by
    show i ∈ ((View.whole main_v34_0).slice (win0_8.rect t)).set; rw [View.set_slice_whole]; exact h.2⟩

theorem emb_9 (t : Fin cfg0.N) (q : Fin 256) (d : Fin 1024) : (win0_9.rect t).emb (ix2 q d) = (ix2 (row t q) d : S8192x1024.Idx) := by
  obtain ⟨h0, h1⟩ := idx_9 t
  funext a; apply Fin.ext
  match a with
  | ⟨0, _⟩ => show win0_9.index t 0 * 256 + 1 * q.val = 256 * t.val + q.val; rw [h0]; omega
  | ⟨1, _⟩ => show win0_9.index t 1 * 1024 + 1 * d.val = d.val; rw [h1]; omega
theorem cover_9 (i : S8192x1024.Idx) : ∃ t : Fin cfg0.N, (cfg0.win 9).flush t = true ∧ i ∈ ((win0_9.rect t)).set := by
  have h0 : (i 0).val < 8192 := (i 0).isLt
  have hN : cfg0.N = 32 := N_0
  let t : Fin cfg0.N := ⟨(i 0).val / 256, by omega⟩
  have e : i = (win0_9.rect t).emb (ix2 ⟨(i 0).val % 256, by omega⟩ (i 1)) := by
    refine Eq.trans ?_ (emb_9 t ⟨(i 0).val % 256, by omega⟩ (i 1)).symm; funext a; apply Fin.ext
    match a with
    | ⟨0, _⟩ => show (i 0).val = 256 * ((i 0).val / 256) + (i 0).val % 256; omega
    | ⟨1, _⟩ => rfl
  exact ⟨t, flush0_9 t, e ▸ (win0_9.rect t).idx_mem _⟩
theorem flushed_9 (c : Dev nD) (t : Fin cfg0.N) : (dats m 0 c).flushed 9 t = (win0_9.blk t).view.read (Elt Ideal) (g9 m c) := by
  show (cfg0.win 9).cut (grid0.coords t) ((dats m 0 c).after 9 t) = _
  rw [after_9]
  funext i
  show (rB m c t : S256x1024.Idx → EReal) i = g9 m c ((win0_9.rect t).emb i)
  obtain ⟨p, q, rfl⟩ : ∃ (p : Fin 256) (q : Fin 1024), i = (ix2 p q : S256x1024.Idx) := ⟨i 0, i 1, eq_ix2 i⟩
  rw [show (win0_9.rect t).emb (ix2 p q) = _ from emb_9 t p q]
  exact rB_at m c t p q
theorem final_9 (c : Dev nD) : (dats m 0 c).arrAt 9 cfg0.N = g9 m c :=
  (dats m 0 c).arrAt_eq_of_cover 9 (g9 m c) (fun t h => flushed_9 m c t) fun i => (cover_9 i).imp fun t h => ⟨h.1, by
    show i ∈ ((View.whole main_v34_1).slice (win0_9.rect t)).set; rw [View.set_slice_whole]; exact h.2⟩

theorem emb_10 (t : Fin cfg0.N) (q : Fin 256) (d : Fin 1024) : (win0_10.rect t).emb (ix2 q d) = (ix2 (row t q) d : S8192x1024.Idx) := by
  obtain ⟨h0, h1⟩ := idx_10 t
  funext a; apply Fin.ext
  match a with
  | ⟨0, _⟩ => show win0_10.index t 0 * 256 + 1 * q.val = 256 * t.val + q.val; rw [h0]; omega
  | ⟨1, _⟩ => show win0_10.index t 1 * 1024 + 1 * d.val = d.val; rw [h1]; omega
theorem cover_10 (i : S8192x1024.Idx) : ∃ t : Fin cfg0.N, (cfg0.win 10).flush t = true ∧ i ∈ ((win0_10.rect t)).set := by
  have h0 : (i 0).val < 8192 := (i 0).isLt
  have hN : cfg0.N = 32 := N_0
  let t : Fin cfg0.N := ⟨(i 0).val / 256, by omega⟩
  have e : i = (win0_10.rect t).emb (ix2 ⟨(i 0).val % 256, by omega⟩ (i 1)) := by
    refine Eq.trans ?_ (emb_10 t ⟨(i 0).val % 256, by omega⟩ (i 1)).symm; funext a; apply Fin.ext
    match a with
    | ⟨0, _⟩ => show (i 0).val = 256 * ((i 0).val / 256) + (i 0).val % 256; omega
    | ⟨1, _⟩ => rfl
  exact ⟨t, flush0_10 t, e ▸ (win0_10.rect t).idx_mem _⟩
theorem flushed_10 (c : Dev nD) (t : Fin cfg0.N) : (dats m 0 c).flushed 10 t = (win0_10.blk t).view.read (Elt Ideal) (g10 m c) := by
  show (cfg0.win 10).cut (grid0.coords t) ((dats m 0 c).after 10 t) = _
  rw [after_10]
  funext i
  show (rH m c t : S256x1024.Idx → EReal) i = g10 m c ((win0_10.rect t).emb i)
  obtain ⟨p, q, rfl⟩ : ∃ (p : Fin 256) (q : Fin 1024), i = (ix2 p q : S256x1024.Idx) := ⟨i 0, i 1, eq_ix2 i⟩
  rw [show (win0_10.rect t).emb (ix2 p q) = _ from emb_10 t p q]
  exact rH_at m c t p q
theorem final_10 (c : Dev nD) : (dats m 0 c).arrAt 10 cfg0.N = g10 m c :=
  (dats m 0 c).arrAt_eq_of_cover 10 (g10 m c) (fun t h => flushed_10 m c t) fun i => (cover_10 i).imp fun t h => ⟨h.1, by
    show i ∈ ((View.whole main_v34_2).slice (win0_10.rect t)).set; rw [View.set_slice_whole]; exact h.2⟩

end Cert.MixFIdeal.Own
-- ==== Proof.MixFP.Ref.lean ====
module

public import proofs.«01_k».proof.Proof.MixFP.Out
public import proofs.«01_k».proof.Proof.Gen.MixFRIdeal.Run
public import Idealize.ShloMosaic.Lib.Pointwise

@[expose] public section

set_option maxRecDepth 16384

noncomputable section

open Idealize.ShloMosaic Idealize.ShloMosaic.TcCoe Idealize.SL.Sem Idealize.ShloMosaic.Tactic

namespace Cert.MixFRIdeal.Own

open Cert.MixFRIdeal Cert.MixFRIdeal.Gen Cert.MixFRIdeal.Value Cert.Own Cert.Own.Dat
open Idealize.ShloMosaic.StableHlo

/-- One row of a matrix at a counter. -/
theorem slice_at (x : FVec Ideal S8192x1024 .f32) (start : Fin 2 → Int) (n : ℕ) (hn : n < 8192) (h0 : start 0 = n) (h1 : start 1 = 0) (fits) (d : Fin 1024) :
    Host.dynamicSlice S1x1024 x start fits (ix2 0 d) = x (ix2 ⟨n, hn⟩ d) := by
  unfold Host.dynamicSlice
  refine congrArg x (funext fun a => Fin.ext ?_)
  match a with
  | ⟨0, _⟩ => show (min (max (start 0) 0) ((8192 - 1 : ℕ) : Int)).toNat + 0 = n; rw [h0]; omega
  | ⟨1, _⟩ => show (min (max (start 1) 0) ((1024 - 1024 : ℕ) : Int)).toNat + d.val = d.val; rw [h1]; simp

/-- A matrix with the row at a counter replaced. -/
theorem update_at (x : FVec Ideal S8192x1024 .f32) (u : FVec Ideal S1x1024 .f32) (start : Fin 2 → Int) (n : ℕ) (hn : n < 8192) (h0 : start 0 = n) (h1 : start 1 = 0) (fits) (q : Fin 8192) (d : Fin 1024) :
    Host.dynamicUpdateSlice x u start fits (ix2 q d) = if q.val = n then u (ix2 0 d) else x (ix2 q d) := by
  unfold Host.dynamicUpdateSlice updateSlice
  have e0 : (min (max (start 0) 0) ((8192 - 1 : ℕ) : Int)).toNat = n := by rw [h0]; omega
  have e1 : (min (max (start 1) 0) ((1024 - 1024 : ℕ) : Int)).toNat = 0 := by rw [h1]; simp
  by_cases h : q.val = n
  · rw [if_pos h]
    refine (dif_pos (fun a => ?_)).trans (congrArg u (funext fun a => Fin.ext ?_))
    · match a with
      | ⟨0, _⟩ => show (min (max (start 0) 0) ((8192 - 1 : ℕ) : Int)).toNat ≤ q.val ∧ q.val < (min (max (start 0) 0) ((8192 - 1 : ℕ) : Int)).toNat + 1; omega
      | ⟨1, _⟩ => show (min (max (start 1) 0) ((1024 - 1024 : ℕ) : Int)).toNat ≤ d.val ∧ d.val < (min (max (start 1) 0) ((1024 - 1024 : ℕ) : Int)).toNat + 1024; omega
    · match a with
      | ⟨0, _⟩ => show q.val - (min (max (start 0) 0) ((8192 - 1 : ℕ) : Int)).toNat = 0; omega
      | ⟨1, _⟩ => show d.val - (min (max (start 1) 0) ((1024 - 1024 : ℕ) : Int)).toNat = d.val; omega
  · rw [if_neg h]
    refine dif_neg fun h' => h ?_
    have h2 : (min (max (start 0) 0) ((8192 - 1 : ℕ) : Int)).toNat ≤ q.val ∧ q.val < (min (max (start 0) 0) ((8192 - 1 : ℕ) : Int)).toNat + 1 := h' 0
    omega

section Loop
variable (E : Valuation τ sig (Elt Ideal)) (α β : ℕ → Fin 1024 → EReal)
  (h0 : ∀ (s : Fin 8192) (d : Fin 1024), (E (Proc.devRef .tc main_v75_0) : FVec Ideal S8192x1024 .f32) (ix2 s d) = α s.val d)
  (h1 : ∀ (s : Fin 8192) (d : Fin 1024), (E (Proc.devRef .tc main_v75_1) : FVec Ideal S8192x1024 .f32) (ix2 s d) = β s.val d)
  (h2 : E (Proc.devRef .tc main_v75_2) = fun _ => (0#32 : BitVec 32))
  (h3 : ∀ d : Fin 1024, (E (Proc.devRef .tc main_v75_3) : FVec Ideal S1024 .f32) (ix1 d) = (0 : EReal))
include h0 h1 h2 h3

/-- After `n` trips: the tables as they were, the counter `n`, the carried row the state, and the first `n` rows written. -/
theorem trips_at (n : ℕ) (hn : n ≤ 8192) :
    (STEP^[n] E) (Proc.devRef .tc main_v75_0) = E (Proc.devRef .tc main_v75_0) ∧ (STEP^[n] E) (Proc.devRef .tc main_v75_1) = E (Proc.devRef .tc main_v75_1)
      ∧ ((STEP^[n] E) (Proc.devRef .tc main_v75_2) = fun _ => BitVec.ofNat 32 n)
      ∧ (∀ d : Fin 1024, ((STEP^[n] E) (Proc.devRef .tc main_v75_3) : FVec Ideal S1024 .f32) (ix1 d) = ser (fun s => α s d) (fun s => β s d) 0 0 n)
      ∧ ∀ (s : Fin 8192) (d : Fin 1024), s.val < n → ((STEP^[n] E) (Proc.devRef .tc main_v75_4) : FVec Ideal S8192x1024 .f32) (ix2 s d) = ser (fun s => α s d) (fun s => β s d) 0 0 (s.val + 1) := by
  induction n with
  | zero => exact ⟨rfl, rfl, h2, h3, fun s d h => absurd h (by omega)⟩
  | succ n ih =>
    obtain ⟨i0, i1, i2, i3, i4⟩ := ih (by omega)
    rw [Function.iterate_succ_apply']
    have hlt : n < 8192 := by omega
    have c0 : (BitVec.ofNat 32 n).toInt = (n : Int) := by rw [BitVec.toInt_eq_toNat_of_lt (by rw [BitVec.toNat_ofNat]; omega), BitVec.toNat_ofNat, Nat.mod_eq_of_lt (by omega)]
    have row : ∀ d : Fin 1024, (res_main_while0b_v123 (STEP^[n] E) : FVec Ideal S1024 .f32) (ix1 d) = ser (fun s => α s d) (fun s => β s d) 0 0 (n + 1) := fun d => by
      show _ = β (0 + n) d + α (0 + n) d * ser (fun s => α s d) (fun s => β s d) 0 0 n
      rw [Nat.zero_add, ← i3 d, ← h0 ⟨n, hlt⟩ d, ← h1 ⟨n, hlt⟩ d, ← i0, ← i1]
      unfold res_main_while0b_v123
      generalize STEP^[n] E = V at i2 ⊢
      rw [i2]
      rw [← slice_at (V (Proc.devRef .tc main_v75_0)) (fun k => (((![fun _ => BitVec.ofNat 32 n, constantI S_ 32 0#32] : Fin 2 → (⟨S_, .i32⟩ : BufTy).Contents (Elt Ideal))) k (Shape.Idx.first h_S_)).toInt) n hlt c0 rfl sliceFits_S8192x1024_S1x1024 d,
        ← slice_at (V (Proc.devRef .tc main_v75_1)) (fun k => (((![fun _ => BitVec.ofNat 32 n, constantI S_ 32 0#32] : Fin 2 → (⟨S_, .i32⟩ : BufTy).Contents (Elt Ideal))) k (Shape.Idx.first h_S_)).toInt) n hlt c0 rfl sliceFits_S8192x1024_S1x1024 d]
      generalize Host.dynamicSlice S1x1024 (V (Proc.devRef .tc main_v75_0)) (fun k => (((![fun _ => BitVec.ofNat 32 n, constantI S_ 32 0#32] : Fin 2 → (⟨S_, .i32⟩ : BufTy).Contents (Elt Ideal))) k (Shape.Idx.first h_S_)).toInt) sliceFits_S8192x1024_S1x1024 = A
      generalize Host.dynamicSlice S1x1024 (V (Proc.devRef .tc main_v75_1)) (fun k => (((![fun _ => BitVec.ofNat 32 n, constantI S_ 32 0#32] : Fin 2 → (⟨S_, .i32⟩ : BufTy).Contents (Elt Ideal))) k (Shape.Idx.first h_S_)).toInt) sliceFits_S8192x1024_S1x1024 = B
      generalize V (Proc.devRef .tc main_v75_3) = C
      change FVec Ideal S1x1024 .f32 at A
      change FVec Ideal S1x1024 .f32 at B
      change FVec Ideal S1024 .f32 at C
      rw [add_comm]
      pointwise
    refine ⟨(STEP_main_v75_0 _).trans i0, (STEP_main_v75_1 _).trans i1, ?_, fun d => ?_, fun s d hs => ?_⟩
    · rw [STEP_main_v75_2]; unfold step_main_v75_2; rw [i2]
      funext i; show BitVec.ofNat 32 n + 1#32 = BitVec.ofNat 32 (n + 1); rw [BitVec.ofNat_add]
    · rw [STEP_main_v75_3]; exact row d
    · rw [STEP_main_v75_4]; unfold step_main_v75_4
      refine (update_at _ _ _ n hlt ?_ rfl _ s d).trans ?_
      · show (((STEP^[n] E) (Proc.devRef .tc main_v75_2) : (⟨S_, .i32⟩ : BufTy).Contents (Elt Ideal)) (Shape.Idx.first h_S_)).toInt = _; rw [i2]; exact c0
      · by_cases h : s.val = n
        · rw [if_pos h]
          refine Eq.trans ?_ ((row d).trans (by rw [h]))
          generalize res_main_while0b_v123 (STEP^[n] E) = R
          change FVec Ideal S1024 .f32 at R
          pointwise
        · rw [if_neg h]; exact i4 s d (by omega)

end Loop

section Host

variable (a0 : FVec Ideal S8192x7168 .f32) (a1 : FVec Ideal S3x1024 .f32) (a2 : FVec Ideal S4x1024 .f32) (a3 : FVec Ideal S1024 .f32) (a4 : FVec Ideal S16x64x64 .f32) (a5 : FVec Ideal S1024 .f32)
  (a6 : FVec Ideal S16x64x64 .f32) (a7 a8 : FVec Ideal S1024 .f32)

/-- One row for every row. -/
def wide (w : FVec Ideal S1024 .f32) : FVec Ideal S8192x1024 .f32 := broadcastInDim S8192x1024 ![0, 1] bcast_S1x1024_S8192x1024_0_1 (broadcastInDim S1x1024 ![1] bcast_S1024_S1x1024_1 w)
/-- The second branch's rows after three rows of zeros, -/
def xp : FVec Ideal S8195x1024 .f32 := concatenate S8195x1024 0 [⟨S3x1024, broadcastInDim S3x1024 ![] bcast_S_S3x1024 (constant S_ .f32 0x00000000#32 : FVec Ideal S_ .f32)⟩, ⟨S8192x1024, extractStridedSlice S8192x1024 ![0, 3072] a0 slices_S8192x7168_S8192x1024_0_3072⟩] concatenates_S3x1024_S8192x1024_S8195x1024_d0
/-- and their convolution. -/
def conv (x : FVec Ideal S8195x1024 .f32) : FVec Ideal S8192x1024 .f32 :=
  addf (addf (addf (addf (mulf (extractStridedSlice S8192x1024 ![0, 0] x slices_S8195x1024_S8192x1024_0_0) (wide (shapeCast S1024 (extractStridedSlice S1x1024 ![0, 0] a2 slices_S4x1024_S1x1024_0_0) shapeCasts_S1x1024_S1024)))
    (mulf (extractStridedSlice S8192x1024 ![1, 0] x slices_S8195x1024_S8192x1024_1_0) (wide (shapeCast S1024 (extractStridedSlice S1x1024 ![1, 0] a2 slices_S4x1024_S1x1024_1_0) shapeCasts_S1x1024_S1024))))
    (mulf (extractStridedSlice S8192x1024 ![2, 0] x slices_S8195x1024_S8192x1024_2_0) (wide (shapeCast S1024 (extractStridedSlice S1x1024 ![2, 0] a2 slices_S4x1024_S1x1024_2_0) shapeCasts_S1x1024_S1024))))
    (mulf (extractStridedSlice S8192x1024 ![3, 0] x slices_S8195x1024_S8192x1024_3_0) (wide (shapeCast S1024 (extractStridedSlice S1x1024 ![3, 0] a2 slices_S4x1024_S1x1024_3_0) shapeCasts_S1x1024_S1024)))) (wide a3)
/-- A gate of the convolution. -/
def gate (x : FVec Ideal S8192x1024 .f32) (w : FVec Ideal S16x64x64 .f32) (b : FVec Ideal S1024 .f32) : FVec Ideal S8192x1024 .f32 :=
  Host.divf (broadcastInDim S8192x1024 ![] bcast_S_S8192x1024 (constant S_ .f32 0x3F800000#32)) (addf (broadcastInDim S8192x1024 ![] bcast_S_S8192x1024 (constant S_ .f32 0x3F800000#32)) (Host.exp (Host.negf (addf
    (shapeCast S8192x1024 (transpose S8192x16x64 [2, 0, 1] (Host.dotGeneral dot_S16x64x64_S8192x16x64_S16x64x8192_1_2_2_0_0_1 none w (shapeCast S8192x16x64 x shapeCasts_S8192x1024_S8192x16x64)) transposes_S16x64x8192_S8192x16x64_2_0_1) shapeCasts_S8192x16x64_S8192x1024) (wide b)))))
/-- The softplus of minus a row. -/
def soft (w : FVec Ideal S1024 .f32) : FVec Ideal S1024 .f32 :=
  select (cmpf .une (subf (Host.negf w) (broadcastInDim S1024 ![] bcast_S_S1024 (constant S_ .f32 0x00000000#32))) (subf (Host.negf w) (broadcastInDim S1024 ![] bcast_S_S1024 (constant S_ .f32 0x00000000#32))))
    (addf (Host.negf w) (broadcastInDim S1024 ![] bcast_S_S1024 (constant S_ .f32 0x00000000#32)))
    (addf (maximumf (Host.negf w) (broadcastInDim S1024 ![] bcast_S_S1024 (constant S_ .f32 0x00000000#32))) (Host.log1p (Host.exp (Host.negf (Host.absf (subf (Host.negf w) (broadcastInDim S1024 ![] bcast_S_S1024 (constant S_ .f32 0x00000000#32))))))))
/-- The decay's exponent. -/
def expn (r : FVec Ideal S8192x1024 .f32) : FVec Ideal S8192x1024 .f32 := mulf (mulf (broadcastInDim S8192x1024 ![] bcast_S_S8192x1024 (constant S_ .f32 0xC1000000#32)) r) (wide (soft a8))
/-- The recurrence's input. -/
def inp (l i x : FVec Ideal S8192x1024 .f32) : FVec Ideal S8192x1024 .f32 :=
  mulf (Host.sqrt (Host.negf (Host.expm1 (mulf (broadcastInDim S8192x1024 ![] bcast_S_S8192x1024 (constant S_ .f32 0x40000000#32)) l)))) (mulf i x)

theorem xp_at (s : ℕ) (hs : s < 8192) (k : ℕ) (hk : k ≤ 3) (r : Fin 8195) (h : r.val + k = s + 3) (d : Fin 1024) : xp a0 (ix2 r d) = back (fun t => pcol a0 3 (by omega) t d) k s := by
  unfold xp back pcol
  pointwise
  split_ifs with h1 h2 h3
  all_goals first | rfl | (exfalso; omega) | skip
  refine Eq.trans ?_ (if_pos (by omega : k ≤ s)).symm
  refine Eq.trans ?_ (dif_pos (by omega : s - k < 8192)).symm
  exact congrArg (fun q : Fin 8192 => a0 (ix2 q (⟨3072 + d.val, by omega⟩ : Fin 7168))) (Fin.ext (show (r.val - 3) = s - k by omega) : (⟨r.val - 3, by omega⟩ : Fin 8192) = ⟨s - k, by omega⟩)

theorem taps (b3 b2 b1 b0 w0 w1 w2 w3 c : EReal) : (((b3 * w0 + b2 * w1) + b1 * w2) + b0 * w3) + c = (((w3 * b0 + w2 * b1) + w1 * b2) + w0 * b3) + c := by
  ac_rfl

theorem conv_at (s : Fin 8192) (d : Fin 1024) : conv a2 a3 (xp a0) (ix2 s d) = (dat a0 a1 a2 a3 a4 a5 a6 a7 a8).cb s.val d := by
  have e (k : ℕ) (hk : k ≤ 3) (r : Fin 8195) (h : r.val + k = s.val + 3) := xp_at a0 s.val s.isLt k hk r h d
  unfold conv wide
  pointwise
  rw [e 3 (by omega) _ (by dsimp only), e 2 (by omega) _ (by dsimp only; omega), e 1 (by omega) _ (by dsimp only; omega), e 0 (by omega) _ (by dsimp only; omega)]
  have e0 : back (fun t => pcol a0 3 (by omega) t d) 0 s.val = pcol a0 3 (by omega) s.val d := by unfold back; rw [if_pos (Nat.zero_le _), Nat.sub_zero]
  rw [e0]
  exact taps _ _ _ _ _ _ _ _ _

theorem gate_at (x : FVec Ideal S8192x1024 .f32) (w : FVec Ideal S16x64x64 .f32) (b : FVec Ideal S1024 .f32) (s : Fin 8192) (d : Fin 1024) :
    gate x w b (ix2 s d) = sgm (hd (fun d => x (ix2 s d)) (fun g e j => w (ix3 g e j)) d + b (ix1 d)) := by
  unfold gate wide sgm hd
  pointwise
  rw [Finset.sum_congr rfl fun e _ => mul_comm _ _]

theorem soft_at (w : FVec Ideal S1024 .f32) (d : Fin 1024) : soft w (ix1 d) = spn (w (ix1 d)) := by
  unfold soft spn
  pointwise
  rw [if_neg (fun h => h rfl), Ideal.absf_def]

theorem expn_at (r : FVec Ideal S8192x1024 .f32) (s : Fin 8192) (d : Fin 1024) : expn a8 r (ix2 s d) = lam (r (ix2 s d)) (spn (a8 (ix1 d))) := by
  rw [← soft_at]; unfold expn wide lam
  pointwise
  rw [Cert.MixFIdeal.Own.eight]

theorem two : Ideal.ofBits .f32 0x40000000#32 = ((2 : ℝ) : EReal) := by
  simp [Ideal.ofBits, Ideal.ieee, -EReal.coe_mul]; norm_num

theorem inp_at (l i x : FVec Ideal S8192x1024 .f32) (s : Fin 8192) (d : Fin 1024) : inp l i x (ix2 s d) = (Ideal.sqrt (-(Ideal.exp (((2 : ℝ) : EReal) * l (ix2 s d)) - 1)) * i (ix2 s d)) * x (ix2 s d) := by
  unfold inp
  pointwise
  rw [two, mul_assoc]

end Host

section Entry
variable (m : (ℓ : Loc nD τ sig) → Buf (Elt Ideal) ℓ)

abbrev p0 (c : Dev nD) : FVec Ideal S8192x7168 .f32 := m ((c.tc : Thread nD τ).loc main_arg0)
abbrev p1 (c : Dev nD) : FVec Ideal S3x1024 .f32 := m ((c.tc : Thread nD τ).loc main_arg1)
abbrev p2 (c : Dev nD) : FVec Ideal S4x1024 .f32 := m ((c.tc : Thread nD τ).loc main_arg2)
abbrev p3 (c : Dev nD) : FVec Ideal S1024 .f32 := m ((c.tc : Thread nD τ).loc main_arg3)
abbrev p4 (c : Dev nD) : FVec Ideal S16x64x64 .f32 := m ((c.tc : Thread nD τ).loc main_arg4)
abbrev p5 (c : Dev nD) : FVec Ideal S1024 .f32 := m ((c.tc : Thread nD τ).loc main_arg5)
abbrev p6 (c : Dev nD) : FVec Ideal S16x64x64 .f32 := m ((c.tc : Thread nD τ).loc main_arg6)
abbrev p7 (c : Dev nD) : FVec Ideal S1024 .f32 := m ((c.tc : Thread nD τ).loc main_arg7)
abbrev p8 (c : Dev nD) : FVec Ideal S1024 .f32 := m ((c.tc : Thread nD τ).loc main_arg8)

theorem entry_0 (c : Dev nD) : entryContents preI m c (Proc.devRef .tc main_v75_0) = (Host.exp (expn (p8 m c) (gate (conv (p2 m c) (p3 m c) (xp (p0 m c))) (p4 m c) (p5 m c))) : FVec Ideal S8192x1024 .f32) := by
  simp only [entryContents, afterL_cons, afterL_nil]
  after_reads_simp
  simp only [TRef.ofBuf_toBuf]
  simp only [TRef.ofBuf, TRef.toBuf, cast_eq, dropContentsCast]
  unfold expn gate conv soft wide xp
  rfl
theorem entry_1 (c : Dev nD) : entryContents preI m c (Proc.devRef .tc main_v75_1) = (inp (expn (p8 m c) (gate (conv (p2 m c) (p3 m c) (xp (p0 m c))) (p4 m c) (p5 m c))) (gate (conv (p2 m c) (p3 m c) (xp (p0 m c))) (p6 m c) (p7 m c)) (conv (p2 m c) (p3 m c) (xp (p0 m c))) : FVec Ideal S8192x1024 .f32) := by
  simp only [entryContents, afterL_cons, afterL_nil]
  after_reads_simp
  simp only [TRef.ofBuf_toBuf]
  simp only [TRef.ofBuf, TRef.toBuf, cast_eq, dropContentsCast]
  unfold inp expn gate conv soft wide xp
  rfl
theorem entry_3 (c : Dev nD) : entryContents preI m c (Proc.devRef .tc main_v75_3) = (broadcastInDim S1024 ![] bcast_S_S1024 (constant S_ .f32 0x00000000#32) : FVec Ideal S1024 .f32) := by
  simp only [entryContents, afterL_cons, afterL_nil]
  after_reads_simp
  rfl

/-- What the mixer reads on a core. -/
abbrev dt (c : Dev nD) : Dat := dat (p0 m c) (p1 m c) (p2 m c) (p3 m c) (p4 m c) (p5 m c) (p6 m c) (p7 m c) (p8 m c)

theorem lg_at (c : Dev nD) (s : Fin 8192) (d : Fin 1024) : expn (p8 m c) (gate (conv (p2 m c) (p3 m c) (xp (p0 m c))) (p4 m c) (p5 m c)) (ix2 s d) = (dt m c).lg s.val d := by
  rw [expn_at, gate_at]
  refine congrArg (fun r => lam (sgm (r + p5 m c (ix1 d))) (spn (p8 m c (ix1 d)))) (congrArg (fun C => hd C _ d) (funext fun d => ?_))
  exact conv_at (p0 m c) (p1 m c) (p2 m c) (p3 m c) (p4 m c) (p5 m c) (p6 m c) (p7 m c) (p8 m c) s d
theorem al_at (c : Dev nD) (s : Fin 8192) (d : Fin 1024) : (entryContents preI m c (Proc.devRef .tc main_v75_0) : FVec Ideal S8192x1024 .f32) (ix2 s d) = (dt m c).al s.val d := by
  rw [entry_0]; show Ideal.exp _ = Ideal.exp _; rw [lg_at]
theorem be_at (c : Dev nD) (s : Fin 8192) (d : Fin 1024) : (entryContents preI m c (Proc.devRef .tc main_v75_1) : FVec Ideal S8192x1024 .f32) (ix2 s d) = (dt m c).be s.val d := by
  rw [entry_1, inp_at, lg_at, gate_at, funext fun d => conv_at (p0 m c) (p1 m c) (p2 m c) (p3 m c) (p4 m c) (p5 m c) (p6 m c) (p7 m c) (p8 m c) s d, conv_at (p0 m c) (p1 m c) (p2 m c) (p3 m c) (p4 m c) (p5 m c) (p6 m c) (p7 m c) (p8 m c) s d]
  rfl

/-- The states the recurrence of reference.py leaves. -/
theorem S_at (c : Dev nD) (n : ℕ) (hn : n ≤ 8192) (s : Fin 8192) (d : Fin 1024) (h : s.val < n) : ((STEP^[n] (entryContents preI m c)) (Proc.devRef .tc main_v75_4) : FVec Ideal S8192x1024 .f32) (ix2 s d) = (dt m c).S (s.val + 1) d := by
  have h0 : ∀ d : Fin 1024, (entryContents preI m c (Proc.devRef .tc main_v75_3) : FVec Ideal S1024 .f32) (ix1 d) = (0 : EReal) := fun d => by rw [entry_3]; pointwise
  have t := trips_at (entryContents preI m c) (fun s d => (dt m c).al s d) (fun s d => (dt m c).be s d) (al_at m c) (be_at m c) (ctr_entry m c) h0 n hn
  exact t.2.2.2.2 s d h

end Entry

end Cert.MixFRIdeal.Own
-- ==== Proof.MixFP.Value.lean ====
module

public import proofs.«01_k».proof.Proof.MixFP.Ref
public import proofs.«01_k».proof.Defs

@[expose] public section

set_option maxRecDepth 16384

noncomputable section

open Idealize.ShloMosaic Idealize.ShloMosaic.StableHlo Idealize.ShloMosaic.TcCoe Idealize.SL.Sem Idealize.ShloMosaic.Tactic

namespace Cert.MixFRIdeal.Own

open Cert.MixFRIdeal Cert.MixFRIdeal.Gen Cert.MixFRIdeal.Value Cert.Own Cert.Own.Dat

/-- The first branch's convolution and its gate. -/
def branchA (a0 : FVec Ideal S8192x7168 .f32) (a1 : FVec Ideal S3x1024 .f32) (x : FVec Ideal S8194x1024 .f32) : FVec Ideal S8192x1024 .bf16 :=
  truncf .bf16 (mulf (extractStridedSlice S8192x1024 ![0, 0] a0 slices_S8192x7168_S8192x1024_0_0) (addf (addf
    (mulf (extractStridedSlice S8192x1024 ![0, 0] x slices_S8194x1024_S8192x1024_0_0) (wide (shapeCast S1024 (extractStridedSlice S1x1024 ![0, 0] a1 slices_S3x1024_S1x1024_0_0) shapeCasts_S1x1024_S1024)))
    (mulf (extractStridedSlice S8192x1024 ![1, 0] x slices_S8194x1024_S8192x1024_1_0) (wide (shapeCast S1024 (extractStridedSlice S1x1024 ![1, 0] a1 slices_S3x1024_S1x1024_1_0) shapeCasts_S1x1024_S1024))))
    (mulf (extractStridedSlice S8192x1024 ![2, 0] x slices_S8194x1024_S8192x1024_2_0) (wide (shapeCast S1024 (extractStridedSlice S1x1024 ![2, 0] a1 slices_S3x1024_S1x1024_2_0) shapeCasts_S1x1024_S1024))) : FVec Ideal S8192x1024 .f32)) bitsLt_bf16_f32

/-- The first branch's rows after two rows of zeros. -/
def up (a0 : FVec Ideal S8192x7168 .f32) : FVec Ideal S8194x1024 .f32 :=
  concatenate S8194x1024 0 [⟨S2x1024, broadcastInDim S2x1024 ![] bcast_S_S2x1024 (constant S_ .f32 0x00000000#32 : FVec Ideal S_ .f32)⟩,
    ⟨S8192x1024, mulf (extractStridedSlice S8192x1024 ![0, 1024] a0 slices_S8192x7168_S8192x1024_0_1024) (extractStridedSlice S8192x1024 ![0, 2048] a0 slices_S8192x7168_S8192x1024_0_2048)⟩] concatenates_S2x1024_S8192x1024_S8194x1024_d0

theorem up_at (a0 : FVec Ideal S8192x7168 .f32) (s : ℕ) (hs : s < 8192) (k : ℕ) (hk : k ≤ 2) (r : Fin 8194) (h : r.val + k = s + 2) (d : Fin 1024) :
    up a0 (ix2 r d) = back (fun t => pcol a0 1 (by omega) t d * pcol a0 2 (by omega) t d) k s := by
  unfold up back pcol
  pointwise
  split_ifs with h1 h2 h3
  all_goals first | rfl | (exfalso; omega) | skip
  refine Eq.trans ?_ (if_pos (by omega : k ≤ s)).symm
  refine Eq.trans ?_ (congrArg₂ (· * ·) (dif_pos (by omega : s - k < 8192)) (dif_pos (by omega : s - k < 8192))).symm
  exact congrArg (fun q : Fin 8192 => a0 (ix2 q (⟨1024 + d.val, by omega⟩ : Fin 7168)) * a0 (ix2 q (⟨2048 + d.val, by omega⟩ : Fin 7168))) (Fin.ext (show (r.val - 2) = s - k by omega) : (⟨r.val - 2, by omega⟩ : Fin 8192) = ⟨s - k, by omega⟩)

theorem taps3 (b2 b1 b0 w0 w1 w2 : EReal) : ((b2 * w0) + b1 * w1) + b0 * w2 = ((w2 * b0) + w1 * b1) + w0 * b2 := by
  ac_rfl

theorem branchA_at (a0 : FVec Ideal S8192x7168 .f32) (a1 : FVec Ideal S3x1024 .f32) (a2 : FVec Ideal S4x1024 .f32) (a3 : FVec Ideal S1024 .f32) (a4 : FVec Ideal S16x64x64 .f32) (a5 : FVec Ideal S1024 .f32)
    (a6 : FVec Ideal S16x64x64 .f32) (a7 a8 : FVec Ideal S1024 .f32) (s : Fin 8192) (d : Fin 1024) :
    branchA a0 a1 (up a0) (ix2 s d) = (dat a0 a1 a2 a3 a4 a5 a6 a7 a8).ba s.val d * (dat a0 a1 a2 a3 a4 a5 a6 a7 a8).ea s.val d := by
  have e (k : ℕ) (hk : k ≤ 2) (r : Fin 8194) (h : r.val + k = s.val + 2) := up_at a0 s.val s.isLt k hk r h d
  unfold branchA wide
  pointwise
  rw [e 2 (by omega) _ (by dsimp only), e 1 (by omega) _ (by dsimp only; omega), e 0 (by omega) _ (by dsimp only; omega)]
  have e0 : back (fun t => pcol a0 1 (by omega) t d * pcol a0 2 (by omega) t d) 0 s.val = pcol a0 1 (by omega) s.val d * pcol a0 2 (by omega) s.val d := by unfold back; rw [if_pos (Nat.zero_le _), Nat.sub_zero]
  have eb : a0 (ix2 s ⟨d.val, by omega⟩) = pcol a0 0 (by omega) s.val d := by
    unfold pcol; rw [dif_pos s.isLt]; exact congrArg (fun q : Fin 7168 => a0 (ix2 s q)) (Fin.ext (by show d.val = 0 * 1024 + d.val; omega))
  rw [e0]
  refine Eq.trans (congrArg (· * _) eb) (congrArg (pcol a0 0 (by omega) s.val d * ·) ?_)
  exact taps3 _ _ _ _ _ _

/-- The second branch's gated states. -/
def branchB (a0 : FVec Ideal S8192x7168 .f32) (h : FVec Ideal S8192x1024 .f32) : FVec Ideal S8192x1024 .bf16 :=
  truncf .bf16 (mulf h (mulf (extractStridedSlice S8192x1024 ![0, 4096] a0 slices_S8192x7168_S8192x1024_0_4096) (mulf (broadcastInDim S8192x1024 ![] bcast_S_S8192x1024 (constant S_ .f32 0x3F000000#32)) (addf (broadcastInDim S8192x1024 ![] bcast_S_S8192x1024 (constant S_ .f32 0x3F800000#32)) (Host.tanh (mulf (broadcastInDim S8192x1024 ![] bcast_S_S8192x1024 (constant S_ .f32 0x3F4C422A#32)) (addf (extractStridedSlice S8192x1024 ![0, 4096] a0 slices_S8192x7168_S8192x1024_0_4096) (mulf (broadcastInDim S8192x1024 ![] bcast_S_S8192x1024 (constant S_ .f32 0x3D372713#32)) (mulf (mulf (extractStridedSlice S8192x1024 ![0, 4096] a0 slices_S8192x7168_S8192x1024_0_4096) (extractStridedSlice S8192x1024 ![0, 4096] a0 slices_S8192x7168_S8192x1024_0_4096)) (extractStridedSlice S8192x1024 ![0, 4096] a0 slices_S8192x7168_S8192x1024_0_4096))))))))) : FVec Ideal S8192x1024 .f32) bitsLt_bf16_f32

theorem branchB_at (a0 : FVec Ideal S8192x7168 .f32) (h : FVec Ideal S8192x1024 .f32) (s : Fin 8192) (d : Fin 1024) :
    branchB a0 h (ix2 s d) = h (ix2 s d) * Cert.MixFIdeal.Own.gel (pcol a0 4 (by omega) s.val d) := by
  have eb : pcol a0 4 (by omega) s.val d = a0 (ix2 s ⟨4096 + d.val, by omega⟩) := by
    unfold pcol; rw [dif_pos s.isLt]
  rw [eb]
  unfold branchB Cert.MixFIdeal.Own.gel
  pointwise
  generalize a0 (ix2 s ⟨4096 + d.val, _⟩) = v
  rw [show Ideal.ofBits .f32 0x3D372713#32 * (v * v * v) = Ideal.ofBits .f32 0x3D372713#32 * v * (v * v) by ac_rfl]
  generalize 1 + Ideal.tanh _ = u
  ac_rfl

theorem dat_congr {a0 b0 : FVec Ideal S8192x7168 .f32} {a1 b1 : FVec Ideal S3x1024 .f32} {a2 b2 : FVec Ideal S4x1024 .f32} {a3 b3 : FVec Ideal S1024 .f32} {a4 b4 : FVec Ideal S16x64x64 .f32} {a5 b5 : FVec Ideal S1024 .f32}
    {a6 b6 : FVec Ideal S16x64x64 .f32} {a7 b7 a8 b8 : FVec Ideal S1024 .f32} (e0 : a0 = b0) (e1 : a1 = b1) (e2 : a2 = b2) (e3 : a3 = b3) (e4 : a4 = b4) (e5 : a5 = b5) (e6 : a6 = b6) (e7 : a7 = b7) (e8 : a8 = b8) :
    dat a0 a1 a2 a3 a4 a5 a6 a7 a8 = dat b0 b1 b2 b3 b4 b5 b6 b7 b8 := by
  rw [e0, e1, e2, e3, e4, e5, e6, e7, e8]

/-- The mixers' forward call computes reference.py's lines, at every argument. -/
theorem algebraic_mixf : Cert.algebraic_MixFIdeal_MixFRIdeal (hMixFIdeal := Cert.MixFIdeal.Gen.facts) (hMixFRIdeal := Cert.MixFRIdeal.Gen.facts) := by
  intro m g m' g' hpre hag
  refine ⟨Cert.MixFIdeal.Own.g8 m, Cert.MixFIdeal.Own.g9 m, Cert.MixFIdeal.Own.g10 m, ?_, ?_⟩
  · refine (θ_run Cert.MixFIdeal.defs _ _).mono (fun r h c => ?_) (θ_run_and (Cert.MixFIdeal.Own.run_main m g) (Cert.MixFIdeal.Own.frame m g))
    exact ⟨((h.1 c).1 8).trans (Cert.MixFIdeal.Own.final_8 m c), ((h.1 c).1 9).trans (Cert.MixFIdeal.Own.final_9 m c), ((h.1 c).1 10).trans (Cert.MixFIdeal.Own.final_10 m c), h.2.1 c⟩
  · refine (θ_run Cert.MixFRIdeal.defs _ _).mono (fun r h c => ?_) (Cert.MixFRIdeal.Value.run (F := Ideal) m' g')
    have ed : Cert.MixFIdeal.Own.dt m c = dt m' c := by
      obtain ⟨e0, e1, e2, e3, e4, e5, e6, e7, e8⟩ := hag c
      exact dat_congr e0.symm e1.symm e2.symm e3.symm e4.symm e5.symm e6.symm e7.symm e8.symm
    obtain ⟨h0, h1, h2, h3⟩ := h c
    have eS : ∀ (s : Fin 8192) (d : Fin 1024), ((STEP^[8192] (entryContents preI m' c)) (Proc.devRef .tc main_v75_4) : FVec Ideal S8192x1024 .f32) (ix2 s d) = (Cert.MixFIdeal.Own.dt m c).S (s.val + 1) d := fun s d => by
      rw [ed]; exact S_at m' c 8192 (Nat.le_refl _) s d s.isLt
    refine ⟨h0.trans ?_, h1.trans ?_, h2.trans ?_, h3⟩
    all_goals clear h0 h1 h2 h3 h
    · funext i; rw [eq_ix2 i]
      generalize i 0 = s, i 1 = d
      change Fin 8192 at s
      change Fin 1024 at d
      have e : out_main_v103 (STEP^[8192] (entryContents preI m' c)) = branchA (p0 m' c) (p1 m' c) (up (p0 m' c)) := by
        unfold out_main_v103; rw [iter_main_arg0, iter_main_arg1]; rfl
      show (out_main_v103 (STEP^[8192] (entryContents preI m' c)) : FVec Ideal S8192x1024 .bf16) (ix2 s d) = (Cert.MixFIdeal.Own.dt m c).ba s.val d * (Cert.MixFIdeal.Own.dt m c).ea s.val d
      rw [e, ed]
      exact branchA_at _ _ _ _ _ _ _ _ _ s d
    · funext i; rw [eq_ix2 i]
      generalize i 0 = s, i 1 = d
      change Fin 8192 at s
      change Fin 1024 at d
      have e : out_main_v119 (STEP^[8192] (entryContents preI m' c)) = branchB (p0 m' c) ((STEP^[8192] (entryContents preI m' c)) (Proc.devRef .tc main_v75_4)) := by
        unfold out_main_v119; rw [iter_main_arg0]; rfl
      show (out_main_v119 (STEP^[8192] (entryContents preI m' c)) : FVec Ideal S8192x1024 .bf16) (ix2 s d) = (Cert.MixFIdeal.Own.dt m c).S (s.val + 1) d * Cert.MixFIdeal.Own.gel ((Cert.MixFIdeal.Own.dt m c).gb s.val d)
      rw [e, branchB_at, eS, ed]
      rfl
    · funext i; rw [eq_ix2 i]
      exact eS (i 0) (i 1)

end Cert.MixFRIdeal.Own
-- ==== Proof.InFP.Value.lean ====
module

public import proofs.«01_k».proof.Proof.Gen.InFIdeal.Frame
public import proofs.«01_k».proof.Proof.Gen.InFRIdeal.Run
public import proofs.«01_k».proof.Proof.Gen.InF.Frame
public import Idealize.ShloMosaic.Lib.Pipeline.ValueKit
public import Idealize.ShloMosaic.Lib.Pointwise
public import Idealize.ShloMosaic.Lib.VecWindow
public import proofs.«01_k».proof.Defs
public import proofs.«01_k».proof.Proof.Load
public import proofs.«01_k».proof.Proof.Real
public import proofs.«01_k».proof.Proof.Sums
public import proofs.«01_k».proof.Proof.Norm

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.InFIdeal.Own

open Cert.InFIdeal Cert.InFIdeal.Gen Cert.Own

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- After the run every unscoped buffer holds what the fold through the two launches says. -/
theorem ends : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c => h c)

theorem ends_args : θ_run defs (onTc (τ := τ) (main (F := F))) ⟨m, fun _ => 0, ρ⟩ (fun r => ∀ c : Dev nD,
      r.2.mem ((c.tc : Thread nD τ).loc main_v5) = (dat1 (V3 m ρ) c).arrAt 2 cfg1.N
      ∧ r.2.mem ((c.tc : Thread nD τ).loc main_v4_1) = (dat0 (V1 m ρ) c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c _ (mem_uc main_v5 (by decide))).trans (W4_arr m ρ c 2),
    (h c _ (mem_uc main_v4_1 (by decide))).trans ((W4_of m ρ c main_v4_1 (by decide +kernel)).trans ((W3_of m ρ c main_v4_1 (by decide +kernel)).trans (W2_arr m ρ c 4))),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c)⟩) (ends m ρ)

end Run

variable (m : (ℓ : Loc nD τ sig) → Buf (Elt Ideal) ℓ) (ρ : Dev nD → PrngReg)

/-- The arguments on a core: the stream, the norm's gain and the projection's weight. -/
abbrev a0 (c : Dev nD) : FVec Ideal S8192x1024 .f32 := m ((c : Thread nD τ).loc main_arg0)
abbrev a1 (c : Dev nD) : FVec Ideal S1024 .f32 := m ((c : Thread nD τ).loc main_arg1)
abbrev a2 (c : Dev nD) : FVec Ideal S1024x7168 .f32 := m ((c : Thread nD τ).loc main_arg2)

/-- The normalised stream, and the projections. -/
def hval (c : Dev nD) (t : Fin 8192) (d : Fin 1024) : EReal := a0 m c (ix2 t d) * rs (fun d => a0 m c (ix2 t d)) * a1 m c (ix1 d)
def pval (c : Dev nD) (t : Fin 8192) (n : Fin 7168) : EReal := ∑ d, hval m c t d * a2 m c (ix2 d n)

/-- A column of the projections. -/
def col (n : ℕ) : Fin 7168 := ⟨n % 7168, Nat.mod_lt _ (by decide)⟩

theorem idx0 : ∀ t : Fin cfg0.N, win0_0.index t (0 : Fin 2) = t.val ∧ win0_0.index t (1 : Fin 2) = 0 ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 2) = t.val ∧ win0_3.index t (1 : Fin 2) = 0 ∧ win0_4.index t (0 : Fin 2) = t.val ∧ win0_4.index t (1 : Fin 2) = 0 :=
  (by decide +kernel : ∀ t : Fin grid0.N, _)

theorem idx1 : ∀ t : Fin cfg1.N, win1_0.index t (0 : Fin 2) = t.val / 3 ∧ win1_0.index t (1 : Fin 2) = 0
    ∧ win1_1.index t (0 : Fin 3) = win1_2.index t (1 : Fin 2) ∧ win1_1.index t (1 : Fin 3) = 0 ∧ win1_1.index t (2 : Fin 3) = 0
    ∧ win1_2.index t (0 : Fin 2) = t.val / 3 ∧ 0 < win1_2.index t (1 : Fin 2) ∧ win1_2.index t (1 : Fin 2) < 4 :=
  (by decide +kernel : ∀ t : Fin grid1.N, _)

theorem slab_eq (c : Dev nD) : (W1 m ρ c (Proc.devRef .tc main_v2) : FVec Ideal S4x1024x1792 .bf16)
    = truncf .bf16 (transpose S4x1024x1792 [1, 0, 2] (shapeCast S1024x4x1792 (a2 m c) shapeCasts_S1024x7168_S1024x4x1792) transposes_S1024x4x1792_S4x1024x1792_1_0_2) bitsLt_bf16_f32 := by
  unfold W1
  after_results_simp <;> rfl

theorem slab_at (c : Dev nD) (k : Fin 4) (d : Fin 1024) (n : Fin 1792) :
    (W1 m ρ c (Proc.devRef .tc main_v2) : FVec Ideal S4x1024x1792 .bf16) (ix3 k d n) = a2 m c (ix2 d (col (k.val * 1792 + n.val))) := by
  rw [slab_eq]
  pointwise
  congr 2; apply Fin.ext
  have hk := k.isLt; have hn := n.isLt
  show k.val * 1792 + n.val = (k.val * 1792 + n.val) % 7168; omega

theorem gain_eq (c : Dev nD) : (W1 m ρ c (Proc.devRef .tc main_v3) : FVec Ideal S1x1024 .f32) = broadcastInDim S1x1024 ![1] bcast_S1024_S1x1024_1 (a1 m c) := by
  unfold W1
  after_results_simp <;> rfl

theorem b00 (c : Dev nD) (t : Fin cfg0.N) (p : Fin 1024) (q : Fin 1024) : iblk0 (V1 m ρ) c 0 t (ix2 p q) = a0 m c (ix2 (tok (t.val * 1024 + p.val)) q) := by
  obtain ⟨h0, h1, -⟩ := idx0 t
  have ht : t.val < 8 := Nat.lt_of_lt_of_eq t.isLt N_0
  show (W1 m ρ c (Proc.devRef .tc main_arg0)) ((win0_0.rect t).emb (ix2 p q)) = _
  rw [W1_of m ρ c main_arg0 (by decide +kernel)]
  show a0 m c _ = _
  congr 1; funext a; apply Fin.ext
  match a with
  | ⟨0, _⟩ => show win0_0.index t 0 * 1024 + 1 * p.val = (t.val * 1024 + p.val) % 8192; rw [h0]; omega
  | ⟨1, _⟩ => show win0_0.index t 1 * 1024 + 1 * q.val = q.val; rw [h1]; omega

theorem b01 (c : Dev nD) (t : Fin cfg0.N) (q : Fin 1024) : iblk0 (V1 m ρ) c 1 t (ix2 0 q) = a1 m c (ix1 q) := by
  obtain ⟨-, -, h0, h1, -⟩ := idx0 t
  show (W1 m ρ c (Proc.devRef .tc main_v3) : FVec Ideal S1x1024 .f32) ((win0_1.rect t).emb (ix2 0 q)) = _
  rw [gain_eq, show (win0_1.rect t).emb (ix2 0 q) = ix2 0 q from ?_]
  · pointwise
  funext a; apply Fin.ext
  match a with
  | ⟨0, _⟩ => show win0_1.index t 0 * 1 + 1 * 0 = 0; rw [h0]
  | ⟨1, _⟩ => show win0_1.index t 1 * 1024 + 1 * q.val = q.val; rw [h1]; omega

theorem b02 (c : Dev nD) (t : Fin cfg0.N) (p : Fin 1024) (q : Fin 1792) : iblk0 (V1 m ρ) c 2 t (ix3 0 p q) = a2 m c (ix2 p (col q.val)) := by
  obtain ⟨-, -, -, -, h0, h1, h2, -⟩ := idx0 t
  show (W1 m ρ c (Proc.devRef .tc main_v2) : FVec Ideal S4x1024x1792 .bf16) ((win0_2.rect t).emb (ix3 0 p q)) = _
  rw [show (win0_2.rect t).emb (ix3 0 p q) = ix3 0 p q from ?_, slab_at]
  · congr 2; show col (0 * 1792 + q.val) = _; rw [Nat.zero_mul, Nat.zero_add]
  funext a; apply Fin.ext
  match a with
  | ⟨0, _⟩ => show win0_2.index t 0 * 1 + 1 * 0 = 0; rw [h0]
  | ⟨1, _⟩ => show win0_2.index t 1 * 1024 + 1 * p.val = p.val; rw [h1]; omega
  | ⟨2, _⟩ => show win0_2.index t 2 * 1792 + 1 * q.val = q.val; rw [h2]; omega

theorem h_at (c : Dev nD) (t : Fin cfg0.N) (p q : Fin 1024) :
    k0_pay1 (F := Ideal) (iblk0 (V1 m ρ) c 0 t) (iblk0 (V1 m ρ) c 1 t) (ix2 p q) = hval m c (tok (t.val * 1024 + p.val)) q := by
  pointwise [k0_pay1]
  simp only [b00, b01]
  rfl

theorem p_at (c : Dev nD) (t : Fin cfg0.N) (p : Fin 1024) (q : Fin 1792) :
    k0_pay2 (F := Ideal) (iblk0 (V1 m ρ) c 0 t) (iblk0 (V1 m ρ) c 1 t) (iblk0 (V1 m ρ) c 2 t) (ix2 p q) = pval m c (tok (t.val * 1024 + p.val)) (col q.val) := by
  pointwise [k0_pay2]
  simp only [h_at, b02]
  rfl

/-! ## The arrays after the first launch -/

theorem left_3 (x0 : Vec Ideal S1024x1024 .f32) (x1 : Vec Ideal S1x1024 .f32) (x2 : Vec Ideal S1x1024x1792 .bf16) : out0_3 (F := Ideal) x0 x1 x2 = k0_pay2 (F := Ideal) x0 x1 x2 := by
  unfold out0_3
  refine (View.canon_cons_unit_lit _ _ _ (by decide)).trans ?_
  exact congr (congr (congrArg k0_pay2 (View.ld_unit_lit _ x0 (by decide))) (View.ld_unit_lit _ x1 (by decide))) (View.ld_unit_lit _ x2 (by decide))

theorem left_4 (x0 : Vec Ideal S1024x1024 .f32) (x1 : Vec Ideal S1x1024 .f32) (x2 : Vec Ideal S1x1024x1792 .bf16) : out0_4 (F := Ideal) x0 x1 x2 = k0_pay1 (F := Ideal) x0 x1 := by
  unfold out0_4
  refine (View.canon_cons_unit_lit _ _ _ (by decide)).trans ?_
  exact congr (congrArg k0_pay1 (View.ld_unit_lit _ x0 (by decide))) (View.ld_unit_lit _ x1 (by decide))

/-- The two results, as arrays. -/
def gh (c : Dev nD) : S8192x1024.Idx → EReal := fun i => hval m c (i 0) (i 1)
def gp (c : Dev nD) : S8192x7168.Idx → EReal := fun i => pval m c (i 0) (i 1)

theorem emb_4 (t : Fin cfg0.N) (p q : Fin 1024) : (win0_4.rect t).emb (ix2 p q) = (ix2 (tok (t.val * 1024 + p.val)) q : S8192x1024.Idx) := by
  obtain ⟨-, -, -, -, -, -, -, -, -, h0, h1⟩ := idx0 t
  have ht : t.val < 8 := Nat.lt_of_lt_of_eq t.isLt N_0
  funext a; apply Fin.ext
  match a with
  | ⟨0, _⟩ => show win0_4.index t 0 * 1024 + 1 * p.val = (t.val * 1024 + p.val) % 8192; rw [h0]; omega
  | ⟨1, _⟩ => show win0_4.index t 1 * 1024 + 1 * q.val = q.val; rw [h1]; omega

theorem emb_3 (t : Fin cfg0.N) (p : Fin 1024) (q : Fin 1792) : (win0_3.rect t).emb (ix2 p q) = (ix2 (tok (t.val * 1024 + p.val)) (col q.val) : S8192x7168.Idx) := by
  obtain ⟨-, -, -, -, -, -, -, h0, h1, -⟩ := idx0 t
  have ht : t.val < 8 := Nat.lt_of_lt_of_eq t.isLt N_0
  funext a; apply Fin.ext
  match a with
  | ⟨0, _⟩ => show win0_3.index t 0 * 1024 + 1 * p.val = (t.val * 1024 + p.val) % 8192; rw [h0]; omega
  | ⟨1, _⟩ => show win0_3.index t 1 * 1792 + 1 * q.val = q.val % 7168; rw [h1]; omega

theorem flushed_4 (c : Dev nD) (t : Fin cfg0.N) : (dat0 (V1 m ρ) c).flushed 4 t = (win0_4.blk t).view.read (Elt Ideal) (gh m c) := by
  show (cfg0.win 4).cut (grid0.coords t) ((dat0 (V1 m ρ) c).after 4 t) = _
  rw [after0_4, left_4]
  funext i
  show k0_pay1 (F := Ideal) (iblk0 (V1 m ρ) c 0 t) (iblk0 (V1 m ρ) c 1 t) i = gh m c ((win0_4.rect t).emb i)
  obtain ⟨p, q, rfl⟩ : ∃ (p q : Fin 1024), i = (ix2 p q : S1024x1024.Idx) := ⟨i 0, i 1, eq_ix2 i⟩
  rw [show (win0_4.rect t).emb (ix2 p q) = _ from emb_4 t p q, h_at]; rfl

theorem flushed_3 (c : Dev nD) (t : Fin cfg0.N) : (dat0 (V1 m ρ) c).flushed 3 t = (win0_3.blk t).view.read (Elt Ideal) (gp m c) := by
  show (cfg0.win 3).cut (grid0.coords t) ((dat0 (V1 m ρ) c).after 3 t) = _
  rw [after0_3, left_3]
  funext i
  show k0_pay2 (F := Ideal) (iblk0 (V1 m ρ) c 0 t) (iblk0 (V1 m ρ) c 1 t) (iblk0 (V1 m ρ) c 2 t) i = gp m c ((win0_3.rect t).emb i)
  obtain ⟨p, q, rfl⟩ : ∃ (p : Fin 1024) (q : Fin 1792), i = (ix2 p q : S1024x1792.Idx) := ⟨i 0, i 1, eq_ix2 i⟩
  rw [show (win0_3.rect t).emb (ix2 p q) = _ from emb_3 t p q, p_at]; rfl

theorem final_h (c : Dev nD) : (dat0 (V1 m ρ) c).arrAt 4 cfg0.N = gh m c :=
  (dat0 (V1 m ρ) c).arrAt_eq_of_cover 4 (gh m c) (fun t _ => flushed_4 m ρ c t) fun (i : S8192x1024.Idx) => by
    have h0 : (i 0).val < 8192 := (i 0).isLt
    have hN : cfg0.N = 8 := N_0
    let t : Fin cfg0.N := ⟨(i 0).val / 1024, by omega⟩
    have e : i = (win0_4.rect t).emb (ix2 ⟨(i 0).val % 1024, by omega⟩ (i 1)) := by
      refine Eq.trans ?_ (emb_4 t ⟨(i 0).val % 1024, by omega⟩ (i 1)).symm; funext a; apply Fin.ext
      match a with
      | ⟨0, _⟩ => show (i 0).val = ((i 0).val / 1024 * 1024 + (i 0).val % 1024) % 8192; omega
      | ⟨1, _⟩ => rfl
    refine ⟨t, flush0_4 t, ?_⟩
    show i ∈ ((View.whole main_v4_1).slice (win0_4.rect t)).set; rw [View.set_slice_whole]; exact e ▸ (win0_4.rect t).idx_mem _

/-- The first launch writes the first block of columns. -/
theorem first_p (c : Dev nD) (i : S8192x7168.Idx) (h : (i 1).val < 1792) : (dat0 (V1 m ρ) c).arrAt 3 cfg0.N i = gp m c i := by
  refine ((dat0 (V1 m ρ) c).arrAt_eq_piecewise 3 (gp m c) (fun t _ => flushed_3 m ρ c t) i).trans (if_pos ?_)
  have h0 : (i 0).val < 8192 := (i 0).isLt
  have hN : cfg0.N = 8 := N_0
  let t : Fin cfg0.N := ⟨(i 0).val / 1024, by omega⟩
  have e : i = (win0_3.rect t).emb (ix2 ⟨(i 0).val % 1024, by omega⟩ ⟨(i 1).val, h⟩) := by
    refine Eq.trans ?_ (emb_3 t ⟨(i 0).val % 1024, by omega⟩ ⟨(i 1).val, h⟩).symm; funext a; apply Fin.ext
    match a with
    | ⟨0, _⟩ => show (i 0).val = ((i 0).val / 1024 * 1024 + (i 0).val % 1024) % 8192; omega
    | ⟨1, _⟩ => show (i 1).val = (i 1).val % 7168; omega
  refine ⟨t, flush0_3 t, ?_⟩
  show i ∈ ((View.whole main_v4_0).slice (win0_3.rect t)).set; rw [View.set_slice_whole]; exact e ▸ (win0_3.rect t).idx_mem _

/-! ## The second launch -/

theorem b10 (c : Dev nD) (t : Fin cfg1.N) (p q : Fin 1024) : iblk1 (V3 m ρ) c 0 t (ix2 p q) = hval m c (tok (t.val / 3 * 1024 + p.val)) q := by
  obtain ⟨h0, h1, -⟩ := idx1 t
  have ht : t.val < 24 := Nat.lt_of_lt_of_eq t.isLt N_1
  show (W3 m ρ c (Proc.devRef .tc main_v4_1)) ((win1_0.rect t).emb (ix2 p q)) = _
  rw [W3_of m ρ c main_v4_1 (by decide +kernel), show W2 m ρ c (Proc.devRef .tc main_v4_1) = gh m c from (W2_arr m ρ c 4).trans (final_h m ρ c)]
  refine (congrArg (gh m c) (show (win1_0.rect t).emb (ix2 p q) = (ix2 (tok (t.val / 3 * 1024 + p.val)) q : S8192x1024.Idx) from ?_)).trans rfl
  funext a; apply Fin.ext
  match a with
  | ⟨0, _⟩ => show win1_0.index t 0 * 1024 + 1 * p.val = (t.val / 3 * 1024 + p.val) % 8192; rw [h0]; omega
  | ⟨1, _⟩ => show win1_0.index t 1 * 1024 + 1 * q.val = q.val; rw [h1]; omega

theorem b11 (c : Dev nD) (t : Fin cfg1.N) (p : Fin 1024) (q : Fin 1792) : iblk1 (V3 m ρ) c 1 t (ix3 0 p q) = a2 m c (ix2 p (col (win1_2.index t (1 : Fin 2) * 1792 + q.val))) := by
  obtain ⟨-, -, h0, h1, h2, -, -, hk⟩ := idx1 t
  show (W3 m ρ c (Proc.devRef .tc main_v2) : FVec Ideal S4x1024x1792 .bf16) ((win1_1.rect t).emb (ix3 0 p q)) = _
  rw [W3_of m ρ c main_v2 (by decide +kernel), W2_of m ρ c main_v2 (by decide +kernel)]
  refine (congrArg (W1 m ρ c (Proc.devRef .tc main_v2) : FVec Ideal S4x1024x1792 .bf16) (show (win1_1.rect t).emb (ix3 0 p q) = (ix3 ⟨win1_2.index t (1 : Fin 2), hk⟩ p q : S4x1024x1792.Idx) from ?_)).trans (slab_at m ρ c ⟨_, hk⟩ p q)
  funext a; apply Fin.ext
  match a with
  | ⟨0, _⟩ => show win1_1.index t 0 * 1 + 1 * 0 = win1_2.index t (1 : Fin 2); rw [h0]; omega
  | ⟨1, _⟩ => show win1_1.index t 1 * 1024 + 1 * p.val = p.val; rw [h1]; omega
  | ⟨2, _⟩ => show win1_1.index t 2 * 1792 + 1 * q.val = q.val; rw [h2]; omega

theorem left_out (c : Dev nD) (t : Fin cfg1.N) : outsAt1 (F := Ideal) (V3 m ρ) c t = k1_pay1 (F := Ideal) (iblk1 (V3 m ρ) c 0 t) (iblk1 (V3 m ρ) c 1 t) := by
  unfold outsAt1 out1_A_2
  refine (View.read_writes_full _ _ _ _ _).trans ?_; sl_unfold_words
  refine congr (congrArg k1_pay1 ?_) ?_
  · exact load _ (hs1_0 t) _ inb_S1024x1024_S1024x1024_0_0
  · exact load _ (hs1_1 t) _ inb_S1x1024x1792_S1x1024x1792_0_0_0

theorem q_at (c : Dev nD) (t : Fin cfg1.N) (p : Fin 1024) (q : Fin 1792) :
    k1_pay1 (F := Ideal) (iblk1 (V3 m ρ) c 0 t) (iblk1 (V3 m ρ) c 1 t) (ix2 p q) = pval m c (tok (t.val / 3 * 1024 + p.val)) (col (win1_2.index t (1 : Fin 2) * 1792 + q.val)) := by
  pointwise [k1_pay1]
  simp only [b10, b11]
  rfl

theorem emb_2 (t : Fin cfg1.N) (p : Fin 1024) (q : Fin 1792) : (win1_2.rect t).emb (ix2 p q) = (ix2 (tok (t.val / 3 * 1024 + p.val)) (col (win1_2.index t (1 : Fin 2) * 1792 + q.val)) : S8192x7168.Idx) := by
  obtain ⟨-, -, -, -, -, h0, -, hk⟩ := idx1 t
  have ht : t.val < 24 := Nat.lt_of_lt_of_eq t.isLt N_1
  funext a; apply Fin.ext
  match a with
  | ⟨0, _⟩ => show win1_2.index t 0 * 1024 + 1 * p.val = (t.val / 3 * 1024 + p.val) % 8192; rw [h0]; omega
  | ⟨1, _⟩ => show win1_2.index t (1 : Fin 2) * 1792 + 1 * q.val = (win1_2.index t (1 : Fin 2) * 1792 + q.val) % 7168; omega

theorem flushed_2 (c : Dev nD) (t : Fin cfg1.N) : (dat1 (V3 m ρ) c).flushed 2 t = (win1_2.blk t).view.read (Elt Ideal) (gp m c) := by
  show (cfg1.win 2).cut (grid1.coords t) ((dat1 (V3 m ρ) c).after 2 t) = _
  rw [after1_2, left_out]
  funext i
  show k1_pay1 (F := Ideal) (iblk1 (V3 m ρ) c 0 t) (iblk1 (V3 m ρ) c 1 t) i = gp m c ((win1_2.rect t).emb i)
  obtain ⟨p, q, rfl⟩ : ∃ (p : Fin 1024) (q : Fin 1792), i = (ix2 p q : S1024x1792.Idx) := ⟨i 0, i 1, eq_ix2 i⟩
  rw [show (win1_2.rect t).emb (ix2 p q) = _ from emb_2 t p q, q_at]; rfl

theorem points : ∀ (a : Fin 8) (k : Fin 4), k.val ≠ 0 → ∃ t : Fin cfg1.N, t.val / 3 = a.val ∧ win1_2.index t (1 : Fin 2) = k.val :=
  (by decide +kernel : ∀ (a : Fin 8) (k : Fin 4), k.val ≠ 0 → ∃ t : Fin grid1.N, t.val / 3 = a.val ∧ win1_2.index t (1 : Fin 2) = k.val)

theorem enters (c : Dev nD) : (dat1 (V3 m ρ) c).A 2 = (dat0 (V1 m ρ) c).arrAt 3 cfg0.N := by
  refine (A_eq1 (V3 m ρ) c 2).trans (Eq.trans ?_ (W2_arr m ρ c 3))
  show W3 m ρ c (Proc.devRef .tc main_v5) = W2 m ρ c (Proc.devRef .tc main_v4_0)
  unfold W3
  after_results_simp <;> rfl

theorem final_p (c : Dev nD) : (dat1 (V3 m ρ) c).arrAt 2 cfg1.N = gp m c := by
  funext i
  change S8192x7168.Idx at i
  have h0 : (i 0).val < 8192 := (i 0).isLt
  have h1 : (i 1).val < 7168 := (i 1).isLt
  have hp := (dat1 (V3 m ρ) c).arrAt_eq_piecewise 2 (gp m c) (fun t _ => flushed_2 m ρ c t) i
  by_cases hk : (i 1).val / 1792 = 0
  · refine hp.trans ?_
    split
    · rfl
    · exact (congrFun (enters m ρ c) i).trans (first_p m ρ c i (by omega))
  · refine hp.trans (if_pos ?_)
    obtain ⟨t, e0, e1⟩ := points ⟨(i 0).val / 1024, by omega⟩ ⟨(i 1).val / 1792, by omega⟩ hk
    dsimp only at e0 e1
    have e : i = (win1_2.rect t).emb (ix2 ⟨(i 0).val % 1024, by omega⟩ ⟨(i 1).val % 1792, by omega⟩) := by
      refine Eq.trans ?_ (emb_2 t ⟨(i 0).val % 1024, by omega⟩ ⟨(i 1).val % 1792, by omega⟩).symm; funext a; apply Fin.ext
      match a with
      | ⟨0, _⟩ => show (i 0).val = (t.val / 3 * 1024 + (i 0).val % 1024) % 8192; rw [e0]; omega
      | ⟨1, _⟩ => show (i 1).val = (win1_2.index t (1 : Fin 2) * 1792 + (i 1).val % 1792) % 7168; rw [e1]; omega
    refine ⟨t, flush1_2 t, ?_⟩
    show i ∈ ((View.whole main_v5).slice (win1_2.rect t)).set; rw [View.set_slice_whole]; exact e ▸ (win1_2.rect t).idx_mem _

/-- The claim: the two launches leave what reference.py's lines say. -/
theorem algebraic : Cert.algebraic_InFIdeal_InFRIdeal (hInFIdeal := Cert.InFIdeal.Gen.facts) (hInFRIdeal := Cert.InFRIdeal.Gen.facts) := by
  intro m g m' g' _ hag
  refine ⟨gp m, gh m, ?_, ?_⟩
  · refine (θ_run Cert.InFIdeal.defs _ _).mono (fun r h c => ?_) (ends_args m g)
    exact ⟨(h c).1.trans (final_p m g c), (h c).2.1.trans (final_h m g c), (h c).2.2⟩
  · refine (θ_run Cert.InFRIdeal.defs _ _).mono (fun r h c => ?_) (Cert.InFRIdeal.Value.run (F := Ideal) m' g')
    obtain ⟨e0, e1, e2⟩ := hag c
    refine ⟨(h c).1.trans ?_, (h c).2.1.trans ?_, (h c).2.2⟩
    · rw [e0, e1, e2]
      funext i; rw [eq_ix2 i]
      generalize i 0 = p, i 1 = q
      change Fin 8192 at p
      change Fin 7168 at q
      pointwise
      rfl
    · rw [e0, e1]
      funext i; rw [eq_ix2 i]
      generalize i 0 = p, i 1 = q
      change Fin 8192 at p
      change Fin 1024 at q
      pointwise
      rfl

end Cert.InFIdeal.Own
-- ==== Proof.WInP.Value.lean ====
module

public import proofs.«01_k».proof.Proof.Gen.WInIdeal.Value
public import proofs.«01_k».proof.Proof.Gen.WInRIdeal.Run
public import proofs.«01_k».proof.Proof.Gen.WIn.Frame
public import Idealize.ShloMosaic.Lib.Pointwise
public import Idealize.ShloMosaic.Lib.VecWindow
public import proofs.«01_k».proof.Defs
public import proofs.«01_k».proof.Proof.Sums
public import proofs.«01_k».proof.Proof.Norm
public import proofs.«01_k».proof.Proof.Load

@[expose] public section

set_option maxRecDepth 16384

noncomputable section

open Idealize.ShloMosaic Idealize.ShloMosaic.TcCoe Idealize.SL.Sem Idealize.ShloMosaic.Tactic
open Idealize.ShloMosaic.Pipeline (Dat)

namespace Cert.WInIdeal.Own

open Cert.WInIdeal Cert.WInIdeal.Gen Cert.Own

/-! Short names for the bounds used below. -/
abbrev m0 := inb_S1x1024x1792_S1x1024x1792_0_0_0

section Cases

variable {F : FTy → Type} [FloatOps F] (i : grid0.Coords) (c : Dev nD) (v2 : Memref sig .tc .vmem S2048x1024 .bf16) (w2 : v2.IsWhole) (v3 : Memref sig .tc .vmem S2048x1792 .bf16) (w3 : v3.IsWhole)
  (v4 : Memref sig .tc .vmem S1x1024x1792 .f32) (w4 : v4.IsWhole) (v5 : Memref sig .tc .vmem S1x1024x1792 .bf16) (w5 : v5.IsWhole)
  (x0 : Vec F S2048x1024 .bf16) (x1 : Vec F S2048x1792 .bf16) (xo2 : Vec F S1x1024x1792 .f32)

theorem acc_A (hc0) (hc1) : out0_A_2 c i v2 w2 v3 w3 v4 w4 v5 w5 hc0 hc1 x0 x1 = k0_pay2 k0_pay1 x0 x1 := by
  unfold out0_A_2
  refine (View.read_writes_full _ _ _ _ _).trans ?_; sl_unfold_words
  simp only [View.readCov_full v4.view m0 m0, load v2 w2 x0 inb_S2048x1024_S2048x1024_0_0, load v3 w3 x1 inb_S2048x1792_S2048x1792_0_0]

theorem acc_B (hc0) (hc1) : out0_B_2 c i v2 w2 v3 w3 v4 w4 v5 w5 hc0 hc1 x0 x1 xo2 = k0_pay2 xo2 x0 x1 := by
  unfold out0_B_2
  refine (View.read_writes_full _ _ _ _ _).trans ?_; sl_unfold_words
  simp only [load v4 w4 xo2 m0, load v2 w2 x0 inb_S2048x1024_S2048x1024_0_0, load v3 w3 x1 inb_S2048x1792_S2048x1792_0_0]

theorem acc_C (hc0) (hc1) : out0_C_2 c i v2 w2 v3 w3 v4 w4 v5 w5 hc0 hc1 x0 x1 xo2 = k0_pay2 xo2 x0 x1 := by
  unfold out0_C_2
  refine (View.read_writes_full _ _ _ _ _).trans ?_; sl_unfold_words
  simp only [load v4 w4 xo2 m0, load v2 w2 x0 inb_S2048x1024_S2048x1024_0_0, load v3 w3 x1 inb_S2048x1792_S2048x1792_0_0]

theorem cast_C (hc0) (hc1) : out0_C_3 c i v2 w2 v3 w3 v4 w4 v5 w5 hc0 hc1 x0 x1 xo2 = k0_pay3 (k0_pay2 xo2 x0 x1) := by
  unfold out0_C_3
  refine (View.read_writes_full _ _ _ _ _).trans ?_; sl_unfold_words
  simp only [View.readCov_full v4.view m0 m0, load v4 w4 xo2 m0, load v2 w2 x0 inb_S2048x1024_S2048x1024_0_0, load v3 w3 x1 inb_S2048x1792_S2048x1792_0_0]

end Cases

variable (m : (ℓ : Loc nD τ sig) → Buf (Elt Ideal) ℓ)

/-- The arguments on a core: the normalised rows and the projection's cotangent. -/
abbrev a0 (c : Dev nD) : FVec Ideal S8192x1024 .f32 := m ((c : Thread nD τ).loc main_arg0)
abbrev a1 (c : Dev nD) : FVec Ideal S8192x7168 .f32 := m ((c : Thread nD τ).loc main_arg1)

theorem V_0 (c : Dev nD) : V m c main_v0 = (truncf .bf16 (a0 m c) bitsLt_bf16_f32 : FVec Ideal S8192x1024 .bf16) := by
  unfold V hostOps0; after_results_simp <;> rfl
theorem V_1 (c : Dev nD) : V m c main_v1 = (truncf .bf16 (a1 m c) bitsLt_bf16_f32 : FVec Ideal S8192x7168 .bf16) := by
  unfold V hostOps0; after_results_simp <;> rfl

theorem idx_facts : ∀ t : Fin cfg0.N, (win0_0.index t 0 = t.val % 4 ∧ win0_0.index t 1 = 0)
    ∧ (win0_1.index t 0 = t.val % 4 ∧ win0_1.index t 1 = t.val / 4)
    ∧ (win0_2.index t 0 = t.val / 4 ∧ win0_2.index t 1 = 0 ∧ win0_2.index t 2 = 0)
    ∧ (win0_3.index t 0 = t.val / 4 ∧ win0_3.index t 1 = 0 ∧ win0_3.index t 2 = 0) :=
  (by decide +kernel : ∀ t : Fin grid0.N, _)

theorem lt16 (t : Fin cfg0.N) : t.val < 16 := Nat.lt_of_lt_of_eq t.isLt N_0

/-- A point's tokens and its slab of columns. -/
abbrev row (t : Fin cfg0.N) (p : Fin 2048) : Fin 8192 := ⟨t.val % 4 * 2048 + p.val, by omega⟩
abbrev slab (t : Fin cfg0.N) : Fin 4 := ⟨t.val / 4, by have := lt16 t; omega⟩
abbrev col (j : Fin 4) (q : Fin 1792) : Fin 7168 := ⟨j.val * 1792 + q.val, by omega⟩

theorem blk_0 (c : Dev nD) (t : Fin cfg0.N) (p : Fin 2048) (d : Fin 1024) : (iblk m c 0 t : S2048x1024.Idx → EReal) (ix2 p d) = a0 m c (ix2 (row t p) d) := by
  obtain ⟨⟨h0, h1⟩, -⟩ := idx_facts t
  show (V m c main_v0 : FVec Ideal S8192x1024 .bf16) ((win0_0.rect t).emb (ix2 p d)) = _
  rw [V_0]
  refine congrArg (a0 m c) (funext fun a => Fin.ext ?_)
  match a with
  | ⟨0, _⟩ => show win0_0.index t 0 * 2048 + 1 * p.val = _; rw [h0]; simp
  | ⟨1, _⟩ => show win0_0.index t 1 * 1024 + 1 * d.val = _; rw [h1]; simp

theorem blk_1 (c : Dev nD) (t : Fin cfg0.N) (p : Fin 2048) (q : Fin 1792) : (iblk m c 1 t : S2048x1792.Idx → EReal) (ix2 p q) = a1 m c (ix2 (row t p) (col (slab t) q)) := by
  obtain ⟨-, ⟨h0, h1⟩, -⟩ := idx_facts t
  show (V m c main_v1 : FVec Ideal S8192x7168 .bf16) ((win0_1.rect t).emb (ix2 p q)) = _
  rw [V_1]
  refine congrArg (a1 m c) (funext fun a => Fin.ext ?_)
  match a with
  | ⟨0, _⟩ => show win0_1.index t 0 * 2048 + 1 * p.val = _; rw [h0]; simp
  | ⟨1, _⟩ => show win0_1.index t 1 * 1792 + 1 * q.val = _; rw [h1]; simp

/-- What a point adds to its slab. -/
def part (c : Dev nD) (t : Fin cfg0.N) (d : Fin 1024) (q : Fin 1792) : EReal := ∑ p, a0 m c (ix2 (row t p) d) * a1 m c (ix2 (row t p) (col (slab t) q))

theorem pay2_at (c : Dev nD) (t : Fin cfg0.N) (s : Vec Ideal S1x1024x1792 .f32) (d : Fin 1024) (q : Fin 1792) :
    (k0_pay2 (F := Ideal) s (iblk m c 0 t) (iblk m c 1 t) : S1x1024x1792.Idx → EReal) (ix3 0 d q) = (s : S1x1024x1792.Idx → EReal) (ix3 0 d q) + part m c t d q := by
  have b0 := blk_0 m c t; have b1 := blk_1 m c t
  unfold part
  generalize iblk m c 0 t = x0, iblk m c 1 t = x1 at *
  pointwise [k0_pay2]
  simp only [b0, b1]

/-! ## The arrays after the run -/

section After

variable (c : Dev nD) (t : Fin cfg0.N)

theorem lt_pred : t.val - 1 < cfg0.N := Nat.lt_of_le_of_lt (Nat.sub_le _ _) t.isLt
/-- The slab's sum after a point. -/
abbrev accAfter (n : ℕ) (h : n < cfg0.N) : Vec Ideal S1x1024x1792 .f32 := (outsAt0 (F := Ideal) m c n h).1

theorem acc_first (h0 : t.val % 4 = 0) : accAfter m c t.val t.isLt = k0_pay2 (F := Ideal) (k0_pay1 (F := Ideal)) (iblk m c 0 t) (iblk m c 1 t) := by
  show (outsAt0 (F := Ideal) m c t.val t.isLt).1 = _
  rw [outsAt0_A m c t h0 (by omega)]; dsimp only; exact acc_A ..

theorem acc_next (h0 : ¬ t.val % 4 = 0) : accAfter m c t.val t.isLt = k0_pay2 (F := Ideal) (accAfter m c (t.val - 1) (lt_pred t)) (iblk m c 0 t) (iblk m c 1 t) := by
  show (outsAt0 (F := Ideal) m c t.val t.isLt).1 = _
  by_cases h1 : t.val % 4 = 3
  · rw [outsAt0_C m c t h0 h1]; dsimp only; exact acc_C ..
  · rw [outsAt0_B m c t h0 h1]; dsimp only; exact acc_B ..

theorem cast_last (h1 : t.val % 4 = 3) : (outsAt0 (F := Ideal) m c t.val t.isLt).2 = k0_pay3 (F := Ideal) (accAfter m c t.val t.isLt) := by
  rw [acc_next m c t (by omega), outsAt0_C m c t (by omega) h1]; dsimp only; exact cast_C ..

end After

/-- The gradient: the product over all tokens. -/
def dw (c : Dev nD) (d : Fin 1024) (n : Fin 7168) : EReal := ∑ r, a0 m c (ix2 r d) * a1 m c (ix2 r n)

/-- Four token tiles are all tokens. -/
theorem four_tiles (G : Fin 8192 → EReal) (t3 t2 t1 t : Fin cfg0.N) (h3 : t3.val % 4 = 0) (h2 : t2.val % 4 = 1) (h1 : t1.val % 4 = 2) (h0 : t.val % 4 = 3) :
    (((∑ p, G (row t3 p)) + ∑ p, G (row t2 p)) + ∑ p, G (row t1 p)) + ∑ p, G (row t p) = ∑ r, G r := by
  have e := sum_runs (fun j => G (tok j)) 2048 4
  rw [sum_tok G] at e
  rw [← e, Finset.sum_range_succ, Finset.sum_range_succ, Finset.sum_range_succ, Finset.sum_range_one]
  have r (u : Fin cfg0.N) (k : ℕ) (hk : k < 4) (h : u.val % 4 = k) (p : Fin 2048) : G (row u p) = G (tok (k * 2048 + p.val)) :=
    congrArg G (Fin.ext (by show u.val % 4 * 2048 + p.val = (k * 2048 + p.val) % 8192; omega))
  rw [Finset.sum_congr rfl fun p _ => r t3 0 (by decide) h3 p, Finset.sum_congr rfl fun p _ => r t2 1 (by decide) h2 p, Finset.sum_congr rfl fun p _ => r t1 2 (by decide) h1 p, Finset.sum_congr rfl fun p _ => r t 3 (by decide) h0 p]

theorem acc_parts (c : Dev nD) (d : Fin 1024) (q : Fin 1792) (n : ℕ) (h : n < cfg0.N) (h3 : n % 4 = 3) : (accAfter m c n h : S1x1024x1792.Idx → EReal) (ix3 0 d q)
    = ((part m c ⟨n - 3, by omega⟩ d q + part m c ⟨n - 2, by omega⟩ d q) + part m c ⟨n - 1, by omega⟩ d q) + part m c ⟨n, h⟩ d q :=
  run_sum (N := cfg0.N) (fun n h => (accAfter m c n h : S1x1024x1792.Idx → EReal) (ix3 0 d q)) (fun n h => part m c ⟨n, h⟩ d q)
    (fun n h h0 => by
      refine (congrFun (acc_first m c ⟨n, h⟩ h0) _).trans ((pay2_at ..).trans (congrArg (· + part m c ⟨n, h⟩ d q) ?_))
      pointwise [k0_pay1])
    (fun n h h0 => (congrFun (acc_next m c ⟨n, h⟩ h0) _).trans (pay2_at ..)) n h h3

/-- After a slab's last point the buffer holds its gradient. -/
theorem acc_eq (c : Dev nD) (d : Fin 1024) (q : Fin 1792) (t : Fin cfg0.N) (h3 : t.val % 4 = 3) : (accAfter m c t.val t.isLt : S1x1024x1792.Idx → EReal) (ix3 0 d q) = dw m c d (col (slab t) q) := by
  refine (acc_parts m c d q t.val t.isLt h3).trans ?_
  have e (k : ℕ) (hk : k ≤ 3) : slab ⟨t.val - k, Nat.lt_of_le_of_lt (Nat.sub_le _ _) t.isLt⟩ = slab t := Fin.ext (by show (t.val - k) / 4 = t.val / 4; omega)
  unfold part
  rw [e 3 (by decide), e 2 (by decide), e 1 (by decide)]
  exact four_tiles (fun r => a0 m c (ix2 r d) * a1 m c (ix2 r (col (slab t) q))) ⟨t.val - 3, by omega⟩ ⟨t.val - 2, by omega⟩ ⟨t.val - 1, by omega⟩ t
    (by show (t.val - 3) % 4 = 0; omega) (by show (t.val - 2) % 4 = 1; omega) (by show (t.val - 1) % 4 = 2; omega) h3

/-- The results, as arrays: one slab per chip. -/
def g (c : Dev nD) : S4x1024x1792.Idx → EReal := fun i => dw m c (i 1) (col (i 0) (i 2))

theorem emb_2 (t : Fin cfg0.N) (d : Fin 1024) (q : Fin 1792) : ((win0_2.rect t).emb (ix3 0 d q) : S4x1024x1792.Idx) = ix3 (slab t) d q := by
  obtain ⟨-, -, ⟨h0, h1, h2⟩, -⟩ := idx_facts t
  funext a; apply Fin.ext
  match a with
  | ⟨0, _⟩ => show win0_2.index t 0 * 1 + 1 * 0 = t.val / 4; rw [h0]; omega
  | ⟨1, _⟩ => show win0_2.index t 1 * 1024 + 1 * d.val = d.val; rw [h1]; omega
  | ⟨2, _⟩ => show win0_2.index t 2 * 1792 + 1 * q.val = q.val; rw [h2]; omega

theorem emb_3 (t : Fin cfg0.N) (i : S1x1024x1792.Idx) : ((win0_3.rect t).emb i : S4x1024x1792.Idx) = (win0_2.rect t).emb i := by
  obtain ⟨-, -, ⟨h0, h1, h2⟩, h3, h4, h5⟩ := idx_facts t
  funext a; apply Fin.ext
  refine (Pipeline.Window.rect_emb_val win0_3 t i a).trans (Eq.trans ?_ (Pipeline.Window.rect_emb_val win0_2 t i a).symm)
  have e : win0_3.index t = win0_2.index t := funext fun a => match a with
    | ⟨0, _⟩ => h3.trans h0.symm
    | ⟨1, _⟩ => h4.trans h1.symm
    | ⟨2, _⟩ => h5.trans h2.symm
  rw [e]

theorem flushed_2 (c : Dev nD) (t : Fin cfg0.N) (h3 : t.val % 4 = 3) : (dats m 0 c).flushed 2 t = (win0_2.blk t).view.read (Elt Ideal) (g m c) := by
  show (cfg0.win 2).cut (grid0.coords t) ((dats m 0 c).after 2 t) = _
  rw [after0_2]
  funext i
  show (accAfter m c t.val t.isLt : S1x1024x1792.Idx → EReal) i = g m c ((win0_2.rect t).emb i)
  obtain ⟨d, q, rfl⟩ : ∃ (d : Fin 1024) (q : Fin 1792), i = (ix3 0 d q : S1x1024x1792.Idx) := ⟨i 1, i 2, by
    rw [eq_ix3 i]; congr 1; exact Subsingleton.elim (α := Fin 1) _ _⟩
  rw [acc_eq m c d q t h3, emb_2]
  rfl

theorem flushed_3 (c : Dev nD) (t : Fin cfg0.N) (h3 : t.val % 4 = 3) : (dats m 0 c).flushed 3 t = (win0_3.blk t).view.read (Elt Ideal) (g m c) := by
  show (cfg0.win 3).cut (grid0.coords t) ((dats m 0 c).after 3 t) = _
  rw [after0_3, cast_last m c t h3]
  funext i
  refine Eq.trans ?_ (congrArg (g m c) (emb_3 t i)).symm
  show (k0_pay3 (F := Ideal) (accAfter m c t.val t.isLt) : S1x1024x1792.Idx → EReal) i = g m c ((win0_2.rect t).emb i)
  obtain ⟨d, q, rfl⟩ : ∃ (d : Fin 1024) (q : Fin 1792), i = (ix3 0 d q : S1x1024x1792.Idx) := ⟨i 1, i 2, by
    rw [eq_ix3 i]; congr 1; exact Subsingleton.elim (α := Fin 1) _ _⟩
  have e := acc_eq m c d q t h3
  generalize accAfter m c t.val t.isLt = s at e ⊢
  rw [emb_2]
  pointwise [k0_pay3]
  exact e

/-- Every index is in the slab one point writes back. -/
theorem cover (i : S4x1024x1792.Idx) : ∃ t : Fin cfg0.N, t.val % 4 = 3 ∧ ∃ y, i = (win0_2.rect t).emb y := by
  have h0 : (i 0).val < 4 := (i 0).isLt
  refine ⟨⟨(i 0).val * 4 + 3, lt_of_lt_of_eq (by omega : (i 0).val * 4 + 3 < 16) N_0.symm⟩, by show ((i 0).val * 4 + 3) % 4 = 3; omega, ix3 0 (i 1) (i 2), ?_⟩
  refine Eq.trans ?_ (emb_2 _ (i 1) (i 2)).symm
  refine (eq_ix3 i).trans ?_
  congr 1
  exact Fin.ext (by show (i 0).val = ((i 0).val * 4 + 3) / 4; omega)

theorem final_2 (c : Dev nD) : (dats m 0 c).arrAt 2 cfg0.N = g m c :=
  (dats m 0 c).arrAt_eq_of_cover 2 (g m c) (fun t h => flushed_2 m c t ((flush0_2 t).mp h)) fun i => (cover i).imp fun t h => ⟨(flush0_2 t).mpr h.1, by
    obtain ⟨-, y, hy⟩ := h
    show i ∈ ((View.whole main_v2_0).slice (win0_2.rect t)).set; rw [View.set_slice_whole]
    exact hy ▸ (win0_2.rect t).idx_mem _⟩

theorem final_3 (c : Dev nD) : (dats m 0 c).arrAt 3 cfg0.N = g m c :=
  (dats m 0 c).arrAt_eq_of_cover 3 (g m c) (fun t h => flushed_3 m c t ((flush0_3 t).mp h)) fun i => (cover i).imp fun t h => ⟨(flush0_3 t).mpr h.1, by
    obtain ⟨-, y, hy⟩ := h
    show i ∈ ((View.whole main_v2_1).slice (win0_3.rect t)).set; rw [View.set_slice_whole]
    exact (hy.trans (emb_3 t y).symm) ▸ (win0_3.rect t).idx_mem _⟩

instance : Cert.WInIdeal.Facts := Cert.WInIdeal.Gen.facts
instance : Cert.WInRIdeal.Facts := Cert.WInRIdeal.Gen.facts

theorem algebraic : Cert.algebraic_WInIdeal_WInRIdeal (hWInIdeal := Cert.WInIdeal.Gen.facts) (hWInRIdeal := Cert.WInRIdeal.Gen.facts) := by
  intro m g0 m' g' _ hag
  refine ⟨g m, g m, ?_, ?_⟩
  · refine (θ_run Cert.WInIdeal.defs _ _).mono (fun r h c => ?_) (Value.run_blocks (F := Ideal) m g0)
    obtain ⟨h2, h3, h⟩ := h c
    exact ⟨h2.trans (final_2 m c), h3.trans (final_3 m c), h⟩
  · refine (θ_run Cert.WInRIdeal.defs _ _).mono (fun r h c => ?_) (Cert.WInRIdeal.Value.run (F := Ideal) m' g')
    obtain ⟨e0, e1⟩ := hag c
    refine ⟨(h c).1.trans ?_, (h c).2.1.trans ?_, (h c).2.2⟩
    · rw [e0, e1]
      funext i; rw [eq_ix3 i]
      unfold g dw
      pointwise
      exact Finset.sum_congr rfl fun r _ => mul_comm _ _
    · rw [e0, e1]
      funext i; rw [eq_ix3 i]
      unfold g dw
      pointwise
      exact Finset.sum_congr rfl fun r _ => mul_comm _ _

end Cert.WInIdeal.Own
-- ==== Proof.WGUP.Value.lean ====
module

public import proofs.«01_k».proof.Proof.Gen.WGUIdeal.Value
public import proofs.«01_k».proof.Proof.Gen.WGURIdeal.Run
public import proofs.«01_k».proof.Proof.Gen.WGU.Frame
public import Idealize.ShloMosaic.Lib.Pointwise
public import Idealize.ShloMosaic.Lib.VecWindow
public import proofs.«01_k».proof.Defs
public import proofs.«01_k».proof.Proof.Sums
public import proofs.«01_k».proof.Proof.Norm
public import proofs.«01_k».proof.Proof.Load

@[expose] public section

set_option maxRecDepth 16384

noncomputable section

open Idealize.ShloMosaic Idealize.ShloMosaic.TcCoe Idealize.SL.Sem Idealize.ShloMosaic.Tactic
open Idealize.ShloMosaic.Pipeline (Dat)

namespace Cert.WGUIdeal.Own

open Cert.WGUIdeal Cert.WGUIdeal.Gen Cert.Own

/-! Short names for the bounds used below. -/
abbrev m0 := inb_S1x2048x704_S1x2048x704_0_0_0
abbrev m1 := inb_S1x704x1024_S1x704x1024_0_0_0
abbrev m2 := inb_S2048x1024_S2048x1024_0_0

section Cases

variable {F : FTy → Type} [FloatOps F] (i : grid0.Coords) (c : Dev nD) (v2 : Memref sig .tc .vmem S2048x1024 .bf16) (w2 : v2.IsWhole) (v3 : Memref sig .tc .vmem S1x2048x704 .bf16) (w3 : v3.IsWhole) (v4 : Memref sig .tc .vmem S1x2048x704 .bf16) (w4 : v4.IsWhole)
  (v5 : Memref sig .tc .vmem S1x704x1024 .f32) (w5 : v5.IsWhole) (v6 : Memref sig .tc .vmem S1x704x1024 .bf16) (w6 : v6.IsWhole) (v7 : Memref sig .tc .vmem S1x704x1024 .f32) (w7 : v7.IsWhole) (v8 : Memref sig .tc .vmem S1x704x1024 .bf16) (w8 : v8.IsWhole)
  (x0 : Vec F S2048x1024 .bf16) (x1 x2 : Vec F S1x2048x704 .bf16) (xo3 xo5 : Vec F S1x704x1024 .f32)

theorem gacc_A (hc0) (hc1) : out0_A_3 c i v2 w2 v3 w3 v4 w4 v5 w5 v6 w6 v7 w7 v8 w8 hc0 hc1 x0 x1 x2 = k0_pay4 x0 k0_pay1 x1 := by
  unfold out0_A_3
  refine (View.read_writes_full _ _ _ _ _).trans ?_; sl_unfold_words
  simp only [View.readCov_full v5.view m1 m1, load v2 w2 x0 m2, load v3 w3 x1 m0, load v4 w4 x2 m0]

theorem gacc_B (hc0) (hc1) : out0_B_3 c i v2 w2 v3 w3 v4 w4 v5 w5 v6 w6 v7 w7 v8 w8 hc0 hc1 x0 x1 x2 xo3 xo5 = k0_pay4 x0 xo3 x1 := by
  unfold out0_B_3
  refine (View.read_writes_full _ _ _ _ _).trans ?_; sl_unfold_words
  simp only [load v5 w5 xo3 m1, load v2 w2 x0 m2, load v3 w3 x1 m0, load v4 w4 x2 m0]

theorem gacc_C (hc0) (hc1) : out0_C_3 c i v2 w2 v3 w3 v4 w4 v5 w5 v6 w6 v7 w7 v8 w8 hc0 hc1 x0 x1 x2 xo3 xo5 = k0_pay4 x0 xo3 x1 := by
  unfold out0_C_3
  refine (View.read_writes_full _ _ _ _ _).trans ?_; sl_unfold_words
  simp only [load v5 w5 xo3 m1, load v2 w2 x0 m2, load v3 w3 x1 m0, load v4 w4 x2 m0]

theorem gcast_C (hc0) (hc1) : out0_C_4 c i v2 w2 v3 w3 v4 w4 v5 w5 v6 w6 v7 w7 v8 w8 hc0 hc1 x0 x1 x2 xo3 xo5 = k0_pay6 (k0_pay4 x0 xo3 x1) := by
  unfold out0_C_4
  refine (View.read_writes_full _ _ _ _ _).trans ?_; sl_unfold_words
  simp only [View.readCov_full v5.view m1 m1, load v5 w5 xo3 m1, load v2 w2 x0 m2, load v3 w3 x1 m0, load v4 w4 x2 m0]

theorem uacc_A (hc0) (hc1) : out0_A_5 c i v2 w2 v3 w3 v4 w4 v5 w5 v6 w6 v7 w7 v8 w8 hc0 hc1 x0 x1 x2 = k0_pay5 x0 k0_pay2 x2 := by
  unfold out0_A_5
  refine (View.read_writes_full _ _ _ _ _).trans ?_; sl_unfold_words
  simp only [View.readCov_full v7.view m1 m1, load v2 w2 x0 m2, load v3 w3 x1 m0, load v4 w4 x2 m0]

theorem uacc_B (hc0) (hc1) : out0_B_5 c i v2 w2 v3 w3 v4 w4 v5 w5 v6 w6 v7 w7 v8 w8 hc0 hc1 x0 x1 x2 xo3 xo5 = k0_pay5 x0 xo5 x2 := by
  unfold out0_B_5
  refine (View.read_writes_full _ _ _ _ _).trans ?_; sl_unfold_words
  simp only [load v7 w7 xo5 m1, load v2 w2 x0 m2, load v3 w3 x1 m0, load v4 w4 x2 m0]

theorem uacc_C (hc0) (hc1) : out0_C_5 c i v2 w2 v3 w3 v4 w4 v5 w5 v6 w6 v7 w7 v8 w8 hc0 hc1 x0 x1 x2 xo3 xo5 = k0_pay5 x0 xo5 x2 := by
  unfold out0_C_5
  refine (View.read_writes_full _ _ _ _ _).trans ?_; sl_unfold_words
  simp only [load v7 w7 xo5 m1, load v2 w2 x0 m2, load v3 w3 x1 m0, load v4 w4 x2 m0]

theorem ucast_C (hc0) (hc1) : out0_C_6 c i v2 w2 v3 w3 v4 w4 v5 w5 v6 w6 v7 w7 v8 w8 hc0 hc1 x0 x1 x2 xo3 xo5 = k0_pay7 (k0_pay5 x0 xo5 x2) := by
  unfold out0_C_6
  refine (View.read_writes_full _ _ _ _ _).trans ?_; sl_unfold_words
  simp only [View.readCov_full v7.view m1 m1, load v7 w7 xo5 m1, load v2 w2 x0 m2, load v3 w3 x1 m0, load v4 w4 x2 m0]

end Cases

variable (m : (ℓ : Loc nD τ sig) → Buf (Elt Ideal) ℓ)

/-- The arguments on a core: the normalised rows and the cotangents of the gate and of the up projection. -/
abbrev a0 (c : Dev nD) : FVec Ideal S8192x1024 .f32 := m ((c : Thread nD τ).loc main_arg0)
abbrev a1 (c : Dev nD) : FVec Ideal S8192x2816 .f32 := m ((c : Thread nD τ).loc main_arg1)
abbrev a2 (c : Dev nD) : FVec Ideal S8192x2816 .f32 := m ((c : Thread nD τ).loc main_arg2)

/-- A cotangent's columns as one slab per chip. -/
abbrev slabs (y : FVec Ideal S8192x2816 .f32) : FVec Ideal S4x8192x704 .bf16 :=
  truncf .bf16 (transpose S4x8192x704 [1, 0, 2] (shapeCast S8192x4x704 y shapeCasts_S8192x2816_S8192x4x704) transposes_S8192x4x704_S4x8192x704_1_0_2) bitsLt_bf16_f32

theorem V_0 (c : Dev nD) : V m c main_v0 = (truncf .bf16 (a0 m c) bitsLt_bf16_f32 : FVec Ideal S8192x1024 .bf16) := by
  unfold V hostOps0; after_results_simp <;> rfl
theorem V_3 (c : Dev nD) : V m c main_v3 = slabs (a1 m c) := by
  unfold V hostOps0; after_results_simp <;> rfl
theorem V_6 (c : Dev nD) : V m c main_v6 = slabs (a2 m c) := by
  unfold V hostOps0; after_results_simp <;> rfl

theorem slabs_at (y : FVec Ideal S8192x2816 .f32) (j : Fin 4) (r : Fin 8192) (k : Fin 704) : slabs y (ix3 j r k) = y (ix2 r ⟨j.val * 704 + k.val, by omega⟩) := by
  unfold slabs
  pointwise

theorem idx_facts : ∀ t : Fin cfg0.N, (win0_0.index t 0 = t.val % 4 ∧ win0_0.index t 1 = 0)
    ∧ (win0_1.index t 0 = t.val / 4 ∧ win0_1.index t 1 = t.val % 4 ∧ win0_1.index t 2 = 0)
    ∧ (win0_3.index t 0 = t.val / 4 ∧ win0_3.index t 1 = 0 ∧ win0_3.index t 2 = 0) :=
  (by decide +kernel : ∀ t : Fin grid0.N, _)

/-- The two cotangents' windows move alike, and so do the four results'. -/
theorem same : ∀ t : Fin cfg0.N, win0_2.index t = win0_1.index t ∧ win0_4.index t = win0_3.index t ∧ win0_5.index t = win0_3.index t ∧ win0_6.index t = win0_3.index t :=
  (by decide +kernel : ∀ t : Fin grid0.N, _)

theorem lt16 (t : Fin cfg0.N) : t.val < 16 := Nat.lt_of_lt_of_eq t.isLt N_0

/-- A point's tokens and its slab of columns. -/
abbrev row (t : Fin cfg0.N) (p : Fin 2048) : Fin 8192 := ⟨t.val % 4 * 2048 + p.val, by omega⟩
abbrev slab (t : Fin cfg0.N) : Fin 4 := ⟨t.val / 4, by have := lt16 t; omega⟩
abbrev col (j : Fin 4) (k : Fin 704) : Fin 2816 := ⟨j.val * 704 + k.val, by omega⟩

theorem blk_0 (c : Dev nD) (t : Fin cfg0.N) (p : Fin 2048) (d : Fin 1024) : (iblk m c 0 t : S2048x1024.Idx → EReal) (ix2 p d) = a0 m c (ix2 (row t p) d) := by
  obtain ⟨⟨h0, h1⟩, -⟩ := idx_facts t
  show (V m c main_v0 : FVec Ideal S8192x1024 .bf16) ((win0_0.rect t).emb (ix2 p d)) = _
  rw [V_0]
  refine congrArg (a0 m c) (funext fun a => Fin.ext ?_)
  match a with
  | ⟨0, _⟩ => show win0_0.index t 0 * 2048 + 1 * p.val = _; rw [h0]; simp
  | ⟨1, _⟩ => show win0_0.index t 1 * 1024 + 1 * d.val = _; rw [h1]; simp

theorem emb_1 (t : Fin cfg0.N) (p : Fin 2048) (k : Fin 704) : ((win0_1.rect t).emb (ix3 0 p k) : S4x8192x704.Idx) = ix3 (slab t) (row t p) k := by
  obtain ⟨-, ⟨h0, h1, h2⟩, -⟩ := idx_facts t
  funext a; apply Fin.ext
  match a with
  | ⟨0, _⟩ => show win0_1.index t 0 * 1 + 1 * 0 = t.val / 4; rw [h0]; omega
  | ⟨1, _⟩ => show win0_1.index t 1 * 2048 + 1 * p.val = t.val % 4 * 2048 + p.val; rw [h1]; omega
  | ⟨2, _⟩ => show win0_1.index t 2 * 704 + 1 * k.val = k.val; rw [h2]; omega

theorem emb_2 (t : Fin cfg0.N) (i : S1x2048x704.Idx) : ((win0_2.rect t).emb i : S4x8192x704.Idx) = (win0_1.rect t).emb i := by
  funext a; apply Fin.ext
  refine (Pipeline.Window.rect_emb_val win0_2 t i a).trans (Eq.trans ?_ (Pipeline.Window.rect_emb_val win0_1 t i a).symm)
  rw [(same t).1]

theorem blk_1 (c : Dev nD) (t : Fin cfg0.N) (p : Fin 2048) (k : Fin 704) : (iblk m c 1 t : S1x2048x704.Idx → EReal) (ix3 0 p k) = a1 m c (ix2 (row t p) (col (slab t) k)) := by
  show (V m c main_v3 : FVec Ideal S4x8192x704 .bf16) ((win0_1.rect t).emb (ix3 0 p k)) = _
  rw [V_3, emb_1, slabs_at]

theorem blk_2 (c : Dev nD) (t : Fin cfg0.N) (p : Fin 2048) (k : Fin 704) : (iblk m c 2 t : S1x2048x704.Idx → EReal) (ix3 0 p k) = a2 m c (ix2 (row t p) (col (slab t) k)) := by
  show (V m c main_v6 : FVec Ideal S4x8192x704 .bf16) ((win0_2.rect t).emb (ix3 0 p k)) = _
  rw [V_6, emb_2, emb_1, slabs_at]

/-- What a point adds to its slab of the gradient with cotangent `y`, -/
def part (x : FVec Ideal S8192x1024 .f32) (y : FVec Ideal S8192x2816 .f32) (t : Fin cfg0.N) (k : Fin 704) (d : Fin 1024) : EReal := ∑ p, y (ix2 (row t p) (col (slab t) k)) * x (ix2 (row t p) d)
/-- and the gradient: the product over all tokens. -/
def dw (x : FVec Ideal S8192x1024 .f32) (y : FVec Ideal S8192x2816 .f32) (n : Fin 2816) (d : Fin 1024) : EReal := ∑ r, y (ix2 r n) * x (ix2 r d)

theorem pay4_at (x : FVec Ideal S8192x1024 .f32) (y : FVec Ideal S8192x2816 .f32) (t : Fin cfg0.N) (xb : Vec Ideal S2048x1024 .bf16) (yb : Vec Ideal S1x2048x704 .bf16)
    (hx : ∀ p d, (xb : S2048x1024.Idx → EReal) (ix2 p d) = x (ix2 (row t p) d)) (hy : ∀ p k, (yb : S1x2048x704.Idx → EReal) (ix3 0 p k) = y (ix2 (row t p) (col (slab t) k)))
    (s : Vec Ideal S1x704x1024 .f32) (k : Fin 704) (d : Fin 1024) :
    (k0_pay4 (F := Ideal) xb s yb : S1x704x1024.Idx → EReal) (ix3 0 k d) = (s : S1x704x1024.Idx → EReal) (ix3 0 k d) + part x y t k d := by
  unfold part
  pointwise [k0_pay4, k0_pay3]
  simp only [hx, hy]

/-! ## The arrays after the run -/

section After

variable (c : Dev nD) (t : Fin cfg0.N)

theorem lt_pred : t.val - 1 < cfg0.N := Nat.lt_of_le_of_lt (Nat.sub_le _ _) t.isLt
/-- The gate's and the up projection's sums after a point. -/
abbrev gacc (n : ℕ) (h : n < cfg0.N) : Vec Ideal S1x704x1024 .f32 := (outsAt0 (F := Ideal) m c n h).1
abbrev uacc (n : ℕ) (h : n < cfg0.N) : Vec Ideal S1x704x1024 .f32 := (outsAt0 (F := Ideal) m c n h).2.2.1

theorem gacc_first (h0 : t.val % 4 = 0) : gacc m c t.val t.isLt = k0_pay4 (F := Ideal) (iblk m c 0 t) (k0_pay1 (F := Ideal)) (iblk m c 1 t) := by
  show (outsAt0 (F := Ideal) m c t.val t.isLt).1 = _
  rw [outsAt0_A m c t h0 (by omega)]; dsimp only; exact gacc_A ..

theorem uacc_first (h0 : t.val % 4 = 0) : uacc m c t.val t.isLt = k0_pay4 (F := Ideal) (iblk m c 0 t) (k0_pay1 (F := Ideal)) (iblk m c 2 t) := by
  show (outsAt0 (F := Ideal) m c t.val t.isLt).2.2.1 = _
  rw [outsAt0_A m c t h0 (by omega)]; dsimp only; exact uacc_A ..

theorem gacc_next (h0 : ¬ t.val % 4 = 0) : gacc m c t.val t.isLt = k0_pay4 (F := Ideal) (iblk m c 0 t) (gacc m c (t.val - 1) (lt_pred t)) (iblk m c 1 t) := by
  show (outsAt0 (F := Ideal) m c t.val t.isLt).1 = _
  by_cases h1 : t.val % 4 = 3
  · rw [outsAt0_C m c t h0 h1]; dsimp only; exact gacc_C ..
  · rw [outsAt0_B m c t h0 h1]; dsimp only; exact gacc_B ..

theorem uacc_next (h0 : ¬ t.val % 4 = 0) : uacc m c t.val t.isLt = k0_pay4 (F := Ideal) (iblk m c 0 t) (uacc m c (t.val - 1) (lt_pred t)) (iblk m c 2 t) := by
  show (outsAt0 (F := Ideal) m c t.val t.isLt).2.2.1 = _
  by_cases h1 : t.val % 4 = 3
  · rw [outsAt0_C m c t h0 h1]; dsimp only; exact uacc_C ..
  · rw [outsAt0_B m c t h0 h1]; dsimp only; exact uacc_B ..

theorem gcast_last (h1 : t.val % 4 = 3) : (outsAt0 (F := Ideal) m c t.val t.isLt).2.1 = k0_pay6 (F := Ideal) (gacc m c t.val t.isLt) := by
  rw [gacc_next m c t (by omega), outsAt0_C m c t (by omega) h1]; dsimp only; exact gcast_C ..

theorem ucast_last (h1 : t.val % 4 = 3) : (outsAt0 (F := Ideal) m c t.val t.isLt).2.2.2 = k0_pay6 (F := Ideal) (uacc m c t.val t.isLt) := by
  rw [uacc_next m c t (by omega), outsAt0_C m c t (by omega) h1]; dsimp only; exact ucast_C ..

end After

/-- Four token tiles are all tokens. -/
theorem four_tiles (G : Fin 8192 → EReal) (t3 t2 t1 t : Fin cfg0.N) (h3 : t3.val % 4 = 0) (h2 : t2.val % 4 = 1) (h1 : t1.val % 4 = 2) (h0 : t.val % 4 = 3) :
    (((∑ p, G (row t3 p)) + ∑ p, G (row t2 p)) + ∑ p, G (row t1 p)) + ∑ p, G (row t p) = ∑ r, G r := by
  have e := sum_runs (fun j => G (tok j)) 2048 4
  rw [sum_tok G] at e
  rw [← e, Finset.sum_range_succ, Finset.sum_range_succ, Finset.sum_range_succ, Finset.sum_range_one]
  have r (u : Fin cfg0.N) (k : ℕ) (hk : k < 4) (h : u.val % 4 = k) (p : Fin 2048) : G (row u p) = G (tok (k * 2048 + p.val)) :=
    congrArg G (Fin.ext (by show u.val % 4 * 2048 + p.val = (k * 2048 + p.val) % 8192; omega))
  rw [Finset.sum_congr rfl fun p _ => r t3 0 (by decide) h3 p, Finset.sum_congr rfl fun p _ => r t2 1 (by decide) h2 p, Finset.sum_congr rfl fun p _ => r t1 2 (by decide) h1 p, Finset.sum_congr rfl fun p _ => r t 3 (by decide) h0 p]

/-- A buffer that starts at nothing and takes each point's part holds the slab's gradient after its last point. -/
theorem runs_eq (x : FVec Ideal S8192x1024 .f32) (y : FVec Ideal S8192x2816 .f32) (A : (n : ℕ) → n < cfg0.N → Vec Ideal S1x704x1024 .f32) (xb : Fin cfg0.N → Vec Ideal S2048x1024 .bf16) (yb : Fin cfg0.N → Vec Ideal S1x2048x704 .bf16)
    (hx : ∀ t p d, (xb t : S2048x1024.Idx → EReal) (ix2 p d) = x (ix2 (row t p) d)) (hy : ∀ t p k, (yb t : S1x2048x704.Idx → EReal) (ix3 0 p k) = y (ix2 (row t p) (col (slab t) k)))
    (h0 : ∀ t : Fin cfg0.N, t.val % 4 = 0 → A t.val t.isLt = k0_pay4 (F := Ideal) (xb t) (k0_pay1 (F := Ideal)) (yb t))
    (h1 : ∀ t : Fin cfg0.N, ¬ t.val % 4 = 0 → A t.val t.isLt = k0_pay4 (F := Ideal) (xb t) (A (t.val - 1) (lt_pred t)) (yb t))
    (k : Fin 704) (d : Fin 1024) (t : Fin cfg0.N) (h3 : t.val % 4 = 3) : (A t.val t.isLt : S1x704x1024.Idx → EReal) (ix3 0 k d) = dw x y (col (slab t) k) d := by
  refine (run_sum (N := cfg0.N) (fun n h => (A n h : S1x704x1024.Idx → EReal) (ix3 0 k d)) (fun n h => part x y ⟨n, h⟩ k d)
    (fun n h e => by
      refine (congrFun (h0 ⟨n, h⟩ e) _).trans ((pay4_at x y ⟨n, h⟩ _ _ (hx _) (hy _) ..).trans (congrArg (· + part x y ⟨n, h⟩ k d) ?_))
      pointwise [k0_pay1])
    (fun n h e => (congrFun (h1 ⟨n, h⟩ e) _).trans (pay4_at x y ⟨n, h⟩ _ _ (hx _) (hy _) ..)) t.val t.isLt h3).trans ?_
  have e (k : ℕ) (hk : k ≤ 3) : slab ⟨t.val - k, Nat.lt_of_le_of_lt (Nat.sub_le _ _) t.isLt⟩ = slab t := Fin.ext (by show (t.val - k) / 4 = t.val / 4; omega)
  unfold part
  rw [e 3 (by decide), e 2 (by decide), e 1 (by decide)]
  exact four_tiles (fun r => y (ix2 r (col (slab t) k)) * x (ix2 r d)) ⟨t.val - 3, by omega⟩ ⟨t.val - 2, by omega⟩ ⟨t.val - 1, by omega⟩ t
    (by show (t.val - 3) % 4 = 0; omega) (by show (t.val - 2) % 4 = 1; omega) (by show (t.val - 1) % 4 = 2; omega) h3

theorem gacc_eq (c : Dev nD) (k : Fin 704) (d : Fin 1024) (t : Fin cfg0.N) (h3 : t.val % 4 = 3) : (gacc m c t.val t.isLt : S1x704x1024.Idx → EReal) (ix3 0 k d) = dw (a0 m c) (a1 m c) (col (slab t) k) d :=
  runs_eq (a0 m c) (a1 m c) (gacc m c) (fun t => iblk m c 0 t) (fun t => iblk m c 1 t) (blk_0 m c) (blk_1 m c) (gacc_first m c) (gacc_next m c) k d t h3

theorem uacc_eq (c : Dev nD) (k : Fin 704) (d : Fin 1024) (t : Fin cfg0.N) (h3 : t.val % 4 = 3) : (uacc m c t.val t.isLt : S1x704x1024.Idx → EReal) (ix3 0 k d) = dw (a0 m c) (a2 m c) (col (slab t) k) d :=
  runs_eq (a0 m c) (a2 m c) (uacc m c) (fun t => iblk m c 0 t) (fun t => iblk m c 2 t) (blk_0 m c) (blk_2 m c) (uacc_first m c) (uacc_next m c) k d t h3

/-- The results, as arrays: one slab per chip. -/
def g (x : FVec Ideal S8192x1024 .f32) (y : FVec Ideal S8192x2816 .f32) : S4x704x1024.Idx → EReal := fun i => dw x y (col (i 0) (i 1)) (i 2)

/-- Where a block's element sits in the array. -/
abbrev at_ (t : Fin cfg0.N) (i : S1x704x1024.Idx) : S4x704x1024.Idx := (win0_3.rect t).emb i

theorem at_eq (t : Fin cfg0.N) (k : Fin 704) (d : Fin 1024) : at_ t (ix3 0 k d) = ix3 (slab t) k d := by
  obtain ⟨-, -, h0, h1, h2⟩ := idx_facts t
  funext a; apply Fin.ext
  match a with
  | ⟨0, _⟩ => show win0_3.index t 0 * 1 + 1 * 0 = t.val / 4; rw [h0]; omega
  | ⟨1, _⟩ => show win0_3.index t 1 * 704 + 1 * k.val = k.val; rw [h1]; omega
  | ⟨2, _⟩ => show win0_3.index t 2 * 1024 + 1 * d.val = d.val; rw [h2]; omega

theorem emb_4 (t : Fin cfg0.N) (i : S1x704x1024.Idx) : ((win0_4.rect t).emb i : S4x704x1024.Idx) = at_ t i := by
  funext a; apply Fin.ext
  refine (Pipeline.Window.rect_emb_val win0_4 t i a).trans (Eq.trans ?_ (Pipeline.Window.rect_emb_val win0_3 t i a).symm)
  rw [(same t).2.1]

theorem emb_5 (t : Fin cfg0.N) (i : S1x704x1024.Idx) : ((win0_5.rect t).emb i : S4x704x1024.Idx) = at_ t i := by
  funext a; apply Fin.ext
  refine (Pipeline.Window.rect_emb_val win0_5 t i a).trans (Eq.trans ?_ (Pipeline.Window.rect_emb_val win0_3 t i a).symm)
  rw [(same t).2.2.1]

theorem emb_6 (t : Fin cfg0.N) (i : S1x704x1024.Idx) : ((win0_6.rect t).emb i : S4x704x1024.Idx) = at_ t i := by
  funext a; apply Fin.ext
  refine (Pipeline.Window.rect_emb_val win0_6 t i a).trans (Eq.trans ?_ (Pipeline.Window.rect_emb_val win0_3 t i a).symm)
  rw [(same t).2.2.2]

/-- A block that agrees with the gradient's slab is what the array holds there, -/
theorem block_eq (x : FVec Ideal S8192x1024 .f32) (y : FVec Ideal S8192x2816 .f32) (t : Fin cfg0.N) (s : Vec Ideal S1x704x1024 .f32) (h : ∀ k d, (s : S1x704x1024.Idx → EReal) (ix3 0 k d) = dw x y (col (slab t) k) d) (i : S1x704x1024.Idx) :
    (s : S1x704x1024.Idx → EReal) i = g x y (at_ t i) := by
  obtain ⟨k, d, rfl⟩ : ∃ (k : Fin 704) (d : Fin 1024), i = (ix3 0 k d : S1x704x1024.Idx) := ⟨i 1, i 2, by
    rw [eq_ix3 i]; congr 1; exact Subsingleton.elim (α := Fin 1) _ _⟩
  rw [h, at_eq]
  rfl

/-- and its cast is the same block. -/
theorem cast_eq (s : Vec Ideal S1x704x1024 .f32) (i : S1x704x1024.Idx) : (k0_pay6 (F := Ideal) s : S1x704x1024.Idx → EReal) i = (s : S1x704x1024.Idx → EReal) i := by
  obtain ⟨k, d, rfl⟩ : ∃ (k : Fin 704) (d : Fin 1024), i = (ix3 0 k d : S1x704x1024.Idx) := ⟨i 1, i 2, by
    rw [eq_ix3 i]; congr 1; exact Subsingleton.elim (α := Fin 1) _ _⟩
  pointwise [k0_pay6]

theorem flushed_3 (c : Dev nD) (t : Fin cfg0.N) (h3 : t.val % 4 = 3) : (dats m 0 c).flushed 3 t = (win0_3.blk t).view.read (Elt Ideal) (g (a0 m c) (a1 m c)) := by
  show (cfg0.win 3).cut (grid0.coords t) ((dats m 0 c).after 3 t) = _
  rw [after0_3]
  funext i
  refine Eq.trans ?_ rfl
  exact block_eq _ _ t _ (fun k d => gacc_eq m c k d t h3) i

theorem flushed_4 (c : Dev nD) (t : Fin cfg0.N) (h3 : t.val % 4 = 3) : (dats m 0 c).flushed 4 t = (win0_4.blk t).view.read (Elt Ideal) (g (a0 m c) (a1 m c)) := by
  show (cfg0.win 4).cut (grid0.coords t) ((dats m 0 c).after 4 t) = _
  rw [after0_4, gcast_last m c t h3]
  funext i
  refine Eq.trans ?_ (congrArg (g (a0 m c) (a1 m c)) (emb_4 t i)).symm
  exact (cast_eq _ i).trans (block_eq _ _ t _ (fun k d => gacc_eq m c k d t h3) i)

theorem flushed_5 (c : Dev nD) (t : Fin cfg0.N) (h3 : t.val % 4 = 3) : (dats m 0 c).flushed 5 t = (win0_5.blk t).view.read (Elt Ideal) (g (a0 m c) (a2 m c)) := by
  show (cfg0.win 5).cut (grid0.coords t) ((dats m 0 c).after 5 t) = _
  rw [after0_5]
  funext i
  refine Eq.trans ?_ (congrArg (g (a0 m c) (a2 m c)) (emb_5 t i)).symm
  exact block_eq _ _ t _ (fun k d => uacc_eq m c k d t h3) i

theorem flushed_6 (c : Dev nD) (t : Fin cfg0.N) (h3 : t.val % 4 = 3) : (dats m 0 c).flushed 6 t = (win0_6.blk t).view.read (Elt Ideal) (g (a0 m c) (a2 m c)) := by
  show (cfg0.win 6).cut (grid0.coords t) ((dats m 0 c).after 6 t) = _
  rw [after0_6, ucast_last m c t h3]
  funext i
  refine Eq.trans ?_ (congrArg (g (a0 m c) (a2 m c)) (emb_6 t i)).symm
  exact (cast_eq _ i).trans (block_eq _ _ t _ (fun k d => uacc_eq m c k d t h3) i)

/-- Every index is in the slab one point writes back. -/
theorem cover (i : S4x704x1024.Idx) : ∃ t : Fin cfg0.N, t.val % 4 = 3 ∧ ∃ y, i = at_ t y := by
  have h0 : (i 0).val < 4 := (i 0).isLt
  refine ⟨⟨(i 0).val * 4 + 3, lt_of_lt_of_eq (by omega : (i 0).val * 4 + 3 < 16) N_0.symm⟩, by show ((i 0).val * 4 + 3) % 4 = 3; omega, ix3 0 (i 1) (i 2), ?_⟩
  refine Eq.trans ?_ (at_eq _ (i 1) (i 2)).symm
  refine (eq_ix3 i).trans ?_
  congr 1
  exact Fin.ext (by show (i 0).val = ((i 0).val * 4 + 3) / 4; omega)

theorem final_3 (c : Dev nD) : (dats m 0 c).arrAt 3 cfg0.N = g (a0 m c) (a1 m c) :=
  (dats m 0 c).arrAt_eq_of_cover 3 _ (fun t h => flushed_3 m c t ((flush0_3 t).mp h)) fun i => (cover i).imp fun t h => ⟨(flush0_3 t).mpr h.1, by
    obtain ⟨-, y, hy⟩ := h
    show i ∈ ((View.whole main_v7_0).slice (win0_3.rect t)).set; rw [View.set_slice_whole]
    exact hy ▸ (win0_3.rect t).idx_mem _⟩

theorem final_4 (c : Dev nD) : (dats m 0 c).arrAt 4 cfg0.N = g (a0 m c) (a1 m c) :=
  (dats m 0 c).arrAt_eq_of_cover 4 _ (fun t h => flushed_4 m c t ((flush0_4 t).mp h)) fun i => (cover i).imp fun t h => ⟨(flush0_4 t).mpr h.1, by
    obtain ⟨-, y, hy⟩ := h
    show i ∈ ((View.whole main_v7_1).slice (win0_4.rect t)).set; rw [View.set_slice_whole]
    exact (hy.trans (emb_4 t y).symm) ▸ (win0_4.rect t).idx_mem _⟩

theorem final_5 (c : Dev nD) : (dats m 0 c).arrAt 5 cfg0.N = g (a0 m c) (a2 m c) :=
  (dats m 0 c).arrAt_eq_of_cover 5 _ (fun t h => flushed_5 m c t ((flush0_5 t).mp h)) fun i => (cover i).imp fun t h => ⟨(flush0_5 t).mpr h.1, by
    obtain ⟨-, y, hy⟩ := h
    show i ∈ ((View.whole main_v7_2).slice (win0_5.rect t)).set; rw [View.set_slice_whole]
    exact (hy.trans (emb_5 t y).symm) ▸ (win0_5.rect t).idx_mem _⟩

theorem final_6 (c : Dev nD) : (dats m 0 c).arrAt 6 cfg0.N = g (a0 m c) (a2 m c) :=
  (dats m 0 c).arrAt_eq_of_cover 6 _ (fun t h => flushed_6 m c t ((flush0_6 t).mp h)) fun i => (cover i).imp fun t h => ⟨(flush0_6 t).mpr h.1, by
    obtain ⟨-, y, hy⟩ := h
    show i ∈ ((View.whole main_v7_3).slice (win0_6.rect t)).set; rw [View.set_slice_whole]
    exact (hy.trans (emb_6 t y).symm) ▸ (win0_6.rect t).idx_mem _⟩

instance : Cert.WGUIdeal.Facts := Cert.WGUIdeal.Gen.facts
instance : Cert.WGURIdeal.Facts := Cert.WGURIdeal.Gen.facts

theorem algebraic : Cert.algebraic_WGUIdeal_WGURIdeal (hWGUIdeal := Cert.WGUIdeal.Gen.facts) (hWGURIdeal := Cert.WGURIdeal.Gen.facts) := by
  intro m g0 m' g' _ hag
  refine ⟨fun c => g (a0 m c) (a1 m c), fun c => g (a0 m c) (a1 m c), fun c => g (a0 m c) (a2 m c), fun c => g (a0 m c) (a2 m c), ?_, ?_⟩
  · refine (θ_run Cert.WGUIdeal.defs _ _).mono (fun r h c => ?_) (Value.run_blocks (F := Ideal) m g0)
    obtain ⟨h3, h4, h5, h6, h⟩ := h c
    exact ⟨h3.trans (final_3 m c), h4.trans (final_4 m c), h5.trans (final_5 m c), h6.trans (final_6 m c), h⟩
  · refine (θ_run Cert.WGURIdeal.defs _ _).mono (fun r h c => ?_) (Cert.WGURIdeal.Value.run (F := Ideal) m' g')
    obtain ⟨e0, e1, e2⟩ := hag c
    refine ⟨(h c).1.trans ?_, (h c).2.1.trans ?_, (h c).2.2.1.trans ?_, (h c).2.2.2.1.trans ?_, (h c).2.2.2.2⟩
    · rw [e0, e1]
      funext i; rw [eq_ix3 i]
      unfold g dw
      pointwise
    · rw [e0, e1]
      funext i; rw [eq_ix3 i]
      unfold g dw
      pointwise
    · rw [e0, e2]
      funext i; rw [eq_ix3 i]
      unfold g dw
      pointwise
    · rw [e0, e2]
      funext i; rw [eq_ix3 i]
      unfold g dw
      pointwise

end Cert.WGUIdeal.Own
-- ==== Proof.OptP.Value.lean ====
module

public import proofs.«01_k».proof.Proof.Gen.OptIdeal.Value
public import proofs.«01_k».proof.Proof.Gen.OptRIdeal.Run
public import proofs.«01_k».proof.Proof.Gen.Opt.Frame
public import Idealize.ShloMosaic.Lib.Pipeline.ValueKit
public import Idealize.ShloMosaic.Lib.Pointwise
public import Idealize.ShloMosaic.Lib.VecWindow
public import proofs.«01_k».proof.Defs

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.OptIdeal.Own

open Cert.OptIdeal Cert.OptIdeal.Gen

variable (m : (ℓ : Loc nD τ sig) → Buf (Elt Ideal) ℓ)

/-- The moments and the step of one element, from its weight, gradient and old moments. -/
def mom (g m : EReal) : EReal := Ideal.ofBits .f32 0x3F666666#32 * m + Ideal.ofBits .f32 0x3DCCCCCD#32 * g
def var (g v : EReal) : EReal := Ideal.ofBits .f32 0x3F7FBE77#32 * v + Ideal.ofBits .f32 0x3A83126F#32 * (g * g)
def delta (w g m v : EReal) : EReal :=
  Ideal.ofBits .f32 0xBA83126F#32 * (Ideal.div (Ideal.div (mom g m) (Ideal.ofBits .f32 0x3F26BD02#32))
    (Ideal.sqrt (Ideal.div (var g v) (Ideal.ofBits .f32 0x3C231ACC#32)) + Ideal.ofBits .f32 0x322BCC77#32) + Ideal.ofBits .f32 0x3C23D70A#32 * w)

/-- The arguments on a core: the weight, its gradient and the two moments. -/
abbrev a0 (c : Dev nD) : FVec Ideal S2x1024x1792 .f32 := m ((c : Thread nD τ).loc main_arg0)
abbrev a1 (c : Dev nD) : FVec Ideal S2x1024x1792 .f32 := m ((c : Thread nD τ).loc main_arg1)
abbrev a2 (c : Dev nD) : FVec Ideal S2x1024x1792 .f32 := m ((c : Thread nD τ).loc main_arg2)
abbrev a3 (c : Dev nD) : FVec Ideal S2x1024x1792 .f32 := m ((c : Thread nD τ).loc main_arg3)

/-- The results, as arrays. -/
def g4 (c : Dev nD) : S2x1024x1792.Idx → EReal := fun i => delta (a0 m c i) (a1 m c i) (a2 m c i) (a3 m c i)
def g5 (c : Dev nD) : S2x1024x1792.Idx → EReal := fun i => mom (a1 m c i) (a2 m c i)
def g6 (c : Dev nD) : S2x1024x1792.Idx → EReal := fun i => var (a1 m c i) (a3 m c i)
def g7 (c : Dev nD) : S2x1024x1792.Idx → EReal := fun i => a1 m c i

/-- All eight windows move alike. -/
theorem same : ∀ t : Fin cfg0.N, win0_1.index t = win0_0.index t ∧ win0_2.index t = win0_0.index t ∧ win0_3.index t = win0_0.index t
    ∧ win0_4.index t = win0_0.index t ∧ win0_5.index t = win0_0.index t ∧ win0_6.index t = win0_0.index t ∧ win0_7.index t = win0_0.index t :=
  (by decide +kernel : ∀ t : Fin grid0.N, _)

theorem points : ∀ (a : Fin 2) (b : Fin 4), ∃ t : Fin cfg0.N, win0_0.index t (0 : Fin 3) = a.val ∧ win0_0.index t (1 : Fin 3) = b.val ∧ win0_0.index t (2 : Fin 3) = 0 :=
  (by decide +kernel : ∀ (a : Fin 2) (b : Fin 4), ∃ t : Fin grid0.N, win0_0.index t (0 : Fin 3) = a.val ∧ win0_0.index t (1 : Fin 3) = b.val ∧ win0_0.index t (2 : Fin 3) = 0)

/-- Where a block's element sits in the array. -/
abbrev at_ (t : Fin cfg0.N) (i : S1x256x1792.Idx) : S2x1024x1792.Idx := (win0_0.rect t).emb i

theorem emb_1 (t : Fin cfg0.N) (i : S1x256x1792.Idx) : ((win0_1.rect t).emb i : S2x1024x1792.Idx) = at_ t i := by
  obtain ⟨h, -⟩ := same t
  funext a; apply Fin.ext
  refine (Pipeline.Window.rect_emb_val win0_1 t i a).trans (Eq.trans ?_ (Pipeline.Window.rect_emb_val win0_0 t i a).symm)
  rw [h]

theorem emb_2 (t : Fin cfg0.N) (i : S1x256x1792.Idx) : ((win0_2.rect t).emb i : S2x1024x1792.Idx) = at_ t i := by
  obtain ⟨-, h, -⟩ := same t
  funext a; apply Fin.ext
  refine (Pipeline.Window.rect_emb_val win0_2 t i a).trans (Eq.trans ?_ (Pipeline.Window.rect_emb_val win0_0 t i a).symm)
  rw [h]

theorem emb_3 (t : Fin cfg0.N) (i : S1x256x1792.Idx) : ((win0_3.rect t).emb i : S2x1024x1792.Idx) = at_ t i := by
  obtain ⟨-, -, h, -⟩ := same t
  funext a; apply Fin.ext
  refine (Pipeline.Window.rect_emb_val win0_3 t i a).trans (Eq.trans ?_ (Pipeline.Window.rect_emb_val win0_0 t i a).symm)
  rw [h]

theorem emb_4 (t : Fin cfg0.N) (i : S1x256x1792.Idx) : ((win0_4.rect t).emb i : S2x1024x1792.Idx) = at_ t i := by
  obtain ⟨-, -, -, h, -⟩ := same t
  funext a; apply Fin.ext
  refine (Pipeline.Window.rect_emb_val win0_4 t i a).trans (Eq.trans ?_ (Pipeline.Window.rect_emb_val win0_0 t i a).symm)
  rw [h]

theorem emb_5 (t : Fin cfg0.N) (i : S1x256x1792.Idx) : ((win0_5.rect t).emb i : S2x1024x1792.Idx) = at_ t i := by
  obtain ⟨-, -, -, -, h, -⟩ := same t
  funext a; apply Fin.ext
  refine (Pipeline.Window.rect_emb_val win0_5 t i a).trans (Eq.trans ?_ (Pipeline.Window.rect_emb_val win0_0 t i a).symm)
  rw [h]

theorem emb_6 (t : Fin cfg0.N) (i : S1x256x1792.Idx) : ((win0_6.rect t).emb i : S2x1024x1792.Idx) = at_ t i := by
  obtain ⟨-, -, -, -, -, h, -⟩ := same t
  funext a; apply Fin.ext
  refine (Pipeline.Window.rect_emb_val win0_6 t i a).trans (Eq.trans ?_ (Pipeline.Window.rect_emb_val win0_0 t i a).symm)
  rw [h]

theorem emb_7 (t : Fin cfg0.N) (i : S1x256x1792.Idx) : ((win0_7.rect t).emb i : S2x1024x1792.Idx) = at_ t i := by
  obtain ⟨-, -, -, -, -, -, h⟩ := same t
  funext a; apply Fin.ext
  refine (Pipeline.Window.rect_emb_val win0_7 t i a).trans (Eq.trans ?_ (Pipeline.Window.rect_emb_val win0_0 t i a).symm)
  rw [h]

theorem blk_0 (c : Dev nD) (t : Fin cfg0.N) (i : S1x256x1792.Idx) : iblk m c 0 t i = a0 m c (at_ t i) := rfl

theorem blk_1 (c : Dev nD) (t : Fin cfg0.N) (i : S1x256x1792.Idx) : iblk m c 1 t i = a1 m c (at_ t i) := congrArg (a1 m c) (emb_1 t i)

theorem blk_2 (c : Dev nD) (t : Fin cfg0.N) (i : S1x256x1792.Idx) : iblk m c 2 t i = a2 m c (at_ t i) := congrArg (a2 m c) (emb_2 t i)

theorem blk_3 (c : Dev nD) (t : Fin cfg0.N) (i : S1x256x1792.Idx) : iblk m c 3 t i = a3 m c (at_ t i) := congrArg (a3 m c) (emb_3 t i)

/-- Every index is in the block of one point. -/
theorem cover (i : S2x1024x1792.Idx) : ∃ t : Fin cfg0.N, ∃ y, i = at_ t y := by
  have h0 : (i 0).val < 2 := (i 0).isLt
  have h1 : (i 1).val < 1024 := (i 1).isLt
  obtain ⟨t, e0, e1, e2⟩ := points ⟨(i 0).val, h0⟩ ⟨(i 1).val / 256, by omega⟩
  dsimp only at e0 e1 e2
  refine ⟨t, ix3 0 ⟨(i 1).val % 256, by omega⟩ (i 2), ?_⟩
  funext a; apply Fin.ext
  match a with
  | ⟨0, _⟩ => show (i 0).val = win0_0.index t 0 * 1 + 1 * 0; rw [e0]; omega
  | ⟨1, _⟩ => show (i 1).val = win0_0.index t 1 * 256 + 1 * ((i 1).val % 256); rw [e1]; omega
  | ⟨2, _⟩ => show (i 2).val = win0_0.index t 2 * 1792 + 1 * (i 2).val; rw [e2]; omega

theorem left_4 (x0 x1 x2 x3 : Vec Ideal S1x256x1792 .f32) : out0_4 (F := Ideal) x0 x1 x2 x3 = k0_pay1 (F := Ideal) (k0_pay8 x1 x0 x2 x3) := by
  unfold out0_4
  refine (View.canon_cons_unit_lit _ _ _ (by decide)).trans ?_
  rw [View.ld_unit_lit _ x1 (by decide), View.ld_unit_lit _ x0 (by decide), View.ld_unit_lit _ x2 (by decide), View.ld_unit_lit _ x3 (by decide)]

theorem flushed_4 (c : Dev nD) (t : Fin cfg0.N) : (dats m 0 c).flushed 4 t = (win0_4.blk t).view.read (Elt Ideal) (g4 m c) := by
  show (cfg0.win 4).cut (grid0.coords t) ((dats m 0 c).after 4 t) = _
  rw [after0_4, left_4]
  funext i
  change S1x256x1792.Idx at i
  refine Eq.trans ?_ (congrArg (g4 m c) (emb_4 t i)).symm
  have b0 := blk_0 m c t i; have b1 := blk_1 m c t i; have b2 := blk_2 m c t i; have b3 := blk_3 m c t i
  generalize at_ t i = j at *
  generalize iblk m c 0 t = x0, iblk m c 1 t = x1, iblk m c 2 t = x2, iblk m c 3 t = x3 at *
  change FVec Ideal S1x256x1792 .f32 at x0 x1 x2 x3
  show k0_pay1 (F := Ideal) (k0_pay8 x1 x0 x2 x3) i = _
  rw [eq_ix3 i]
  pointwise [k0_pay1, k0_pay8, k0_pay7, k0_pay6, k0_pay5]
  simp only [b0, b1, b2, b3]
  rfl

theorem final_4 (c : Dev nD) : (dats m 0 c).arrAt 4 cfg0.N = g4 m c :=
  (dats m 0 c).arrAt_eq_of_cover 4 (g4 m c) (fun t _ => flushed_4 m c t) fun i => (cover i).imp fun t h => ⟨flush0_4 t, by
    show i ∈ ((View.whole main_v0_0).slice (win0_4.rect t)).set
    rw [View.set_slice_whole]
    obtain ⟨y, hy⟩ := h
    exact (hy.trans (emb_4 t y).symm) ▸ (win0_4.rect t).idx_mem _⟩

theorem left_5 (x0 x1 x2 x3 : Vec Ideal S1x256x1792 .f32) : out0_5 (F := Ideal) x0 x1 x2 x3 = k0_pay2 (F := Ideal) (k0_pay6 x1 x2) := by
  unfold out0_5
  refine (View.canon_cons_unit_lit _ _ _ (by decide)).trans ?_
  rw [View.ld_unit_lit _ x1 (by decide), View.ld_unit_lit _ x2 (by decide)]

theorem flushed_5 (c : Dev nD) (t : Fin cfg0.N) : (dats m 0 c).flushed 5 t = (win0_5.blk t).view.read (Elt Ideal) (g5 m c) := by
  show (cfg0.win 5).cut (grid0.coords t) ((dats m 0 c).after 5 t) = _
  rw [after0_5, left_5]
  funext i
  change S1x256x1792.Idx at i
  refine Eq.trans ?_ (congrArg (g5 m c) (emb_5 t i)).symm
  have b0 := blk_0 m c t i; have b1 := blk_1 m c t i; have b2 := blk_2 m c t i; have b3 := blk_3 m c t i
  generalize at_ t i = j at *
  generalize iblk m c 0 t = x0, iblk m c 1 t = x1, iblk m c 2 t = x2, iblk m c 3 t = x3 at *
  change FVec Ideal S1x256x1792 .f32 at x0 x1 x2 x3
  show k0_pay2 (F := Ideal) (k0_pay6 x1 x2) i = _
  rw [eq_ix3 i]
  pointwise [k0_pay2, k0_pay6, k0_pay5]
  simp only [b0, b1, b2, b3]
  rfl

theorem final_5 (c : Dev nD) : (dats m 0 c).arrAt 5 cfg0.N = g5 m c :=
  (dats m 0 c).arrAt_eq_of_cover 5 (g5 m c) (fun t _ => flushed_5 m c t) fun i => (cover i).imp fun t h => ⟨flush0_5 t, by
    show i ∈ ((View.whole main_v0_1).slice (win0_5.rect t)).set
    rw [View.set_slice_whole]
    obtain ⟨y, hy⟩ := h
    exact (hy.trans (emb_5 t y).symm) ▸ (win0_5.rect t).idx_mem _⟩

theorem left_6 (x0 x1 x2 x3 : Vec Ideal S1x256x1792 .f32) : out0_6 (F := Ideal) x0 x1 x2 x3 = k0_pay3 (F := Ideal) (k0_pay7 x1 x3) := by
  unfold out0_6
  refine (View.canon_cons_unit_lit _ _ _ (by decide)).trans ?_
  rw [View.ld_unit_lit _ x1 (by decide), View.ld_unit_lit _ x3 (by decide)]

theorem flushed_6 (c : Dev nD) (t : Fin cfg0.N) : (dats m 0 c).flushed 6 t = (win0_6.blk t).view.read (Elt Ideal) (g6 m c) := by
  show (cfg0.win 6).cut (grid0.coords t) ((dats m 0 c).after 6 t) = _
  rw [after0_6, left_6]
  funext i
  change S1x256x1792.Idx at i
  refine Eq.trans ?_ (congrArg (g6 m c) (emb_6 t i)).symm
  have b0 := blk_0 m c t i; have b1 := blk_1 m c t i; have b2 := blk_2 m c t i; have b3 := blk_3 m c t i
  generalize at_ t i = j at *
  generalize iblk m c 0 t = x0, iblk m c 1 t = x1, iblk m c 2 t = x2, iblk m c 3 t = x3 at *
  change FVec Ideal S1x256x1792 .f32 at x0 x1 x2 x3
  show k0_pay3 (F := Ideal) (k0_pay7 x1 x3) i = _
  rw [eq_ix3 i]
  pointwise [k0_pay3, k0_pay7, k0_pay5]
  simp only [b0, b1, b2, b3]
  rfl

theorem final_6 (c : Dev nD) : (dats m 0 c).arrAt 6 cfg0.N = g6 m c :=
  (dats m 0 c).arrAt_eq_of_cover 6 (g6 m c) (fun t _ => flushed_6 m c t) fun i => (cover i).imp fun t h => ⟨flush0_6 t, by
    show i ∈ ((View.whole main_v0_2).slice (win0_6.rect t)).set
    rw [View.set_slice_whole]
    obtain ⟨y, hy⟩ := h
    exact (hy.trans (emb_6 t y).symm) ▸ (win0_6.rect t).idx_mem _⟩

theorem left_7 (x0 x1 x2 x3 : Vec Ideal S1x256x1792 .f32) : out0_7 (F := Ideal) x0 x1 x2 x3 = k0_pay4 (F := Ideal) (k0_pay5 x1) := by
  unfold out0_7
  refine (View.canon_cons_unit_lit _ _ _ (by decide)).trans ?_
  rw [View.ld_unit_lit _ x1 (by decide)]

theorem flushed_7 (c : Dev nD) (t : Fin cfg0.N) : (dats m 0 c).flushed 7 t = (win0_7.blk t).view.read (Elt Ideal) (g7 m c) := by
  show (cfg0.win 7).cut (grid0.coords t) ((dats m 0 c).after 7 t) = _
  rw [after0_7, left_7]
  funext i
  change S1x256x1792.Idx at i
  refine Eq.trans ?_ (congrArg (g7 m c) (emb_7 t i)).symm
  have b0 := blk_0 m c t i; have b1 := blk_1 m c t i; have b2 := blk_2 m c t i; have b3 := blk_3 m c t i
  generalize at_ t i = j at *
  generalize iblk m c 0 t = x0, iblk m c 1 t = x1, iblk m c 2 t = x2, iblk m c 3 t = x3 at *
  change FVec Ideal S1x256x1792 .f32 at x0 x1 x2 x3
  show k0_pay4 (F := Ideal) (k0_pay5 x1) i = _
  rw [eq_ix3 i]
  pointwise [k0_pay4, k0_pay5]
  simp only [b0, b1, b2, b3]
  rfl

theorem final_7 (c : Dev nD) : (dats m 0 c).arrAt 7 cfg0.N = g7 m c :=
  (dats m 0 c).arrAt_eq_of_cover 7 (g7 m c) (fun t _ => flushed_7 m c t) fun i => (cover i).imp fun t h => ⟨flush0_7 t, by
    show i ∈ ((View.whole main_v0_3).slice (win0_7.rect t)).set
    rw [View.set_slice_whole]
    obtain ⟨y, hy⟩ := h
    exact (hy.trans (emb_7 t y).symm) ▸ (win0_7.rect t).idx_mem _⟩

theorem algebraic : Cert.algebraic_OptIdeal_OptRIdeal (hOptIdeal := Cert.OptIdeal.Gen.facts) (hOptRIdeal := Cert.OptRIdeal.Gen.facts) := by
  intro m g m' g' _ hag
  refine ⟨g4 m, g5 m, g6 m, g7 m, ?_, ?_⟩
  · refine (θ_run Cert.OptIdeal.defs _ _).mono (fun r h c => ?_) (Value.run_blocks m g)
    exact ⟨(h c).1.trans (final_4 m c), (h c).2.1.trans (final_5 m c), (h c).2.2.1.trans (final_6 m c), (h c).2.2.2.1.trans (final_7 m c), (h c).2.2.2.2⟩
  · refine (θ_run Cert.OptRIdeal.defs _ _).mono (fun r h c => ?_) (Cert.OptRIdeal.Value.run (F := Ideal) m' g')
    obtain ⟨e0, e1, e2, e3⟩ := hag c
    obtain ⟨f0, f1, f2, f3, f4⟩ := h c
    rw [e0, e1, e2, e3] at f0
    rw [e1, e2] at f1
    rw [e1, e3] at f2
    exact ⟨f0.trans rfl, f1.trans rfl, f2.trans rfl, f3.trans e1, f4⟩

end Cert.OptIdeal.Own
-- ==== Proof.MixerP.Point.lean ====
/- The idealized `_mixer_bwd` at one tile of 256 rows: from the inputs' blocks and what is carried between tiles its body leaves
   contents that depend on nothing else. -/
module

public import proofs.«01_k».proof.Proof.Gen.MixerIdeal.Frame
public import proofs.«01_k».proof.Proof.Gen.MixerIdeal.Skeleton
public import proofs.«01_k».proof.Proof.Gen.MixerIdeal.Loops
public import Idealize.ShloMosaic.Lib.VecWindow
public import Idealize.ShloMosaic.Lib.Claim
public import Idealize.ShloMosaic.Lib.WordCmp

@[expose] public section

set_option maxRecDepth 16384

noncomputable section

namespace Cert.MixerIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MixerIdeal.Gen

variable {F : FTy → Type} [FloatOps F]

local notation "𝕄" => MT nD τ sig Unit (Elt F) ℕ (UR sig nD τ) ℕ

/-- A store of a whole loop buffer leaves what it stores and nothing else. -/
theorem whole_store {v : Memref sig .tc .vmem S256x1024 .f32} (hv : v.IsWhole) (f : v.view.ty.Contents (Elt F)) (inb : ∀ a, (![0, 0] : Fin 2 → ℕ) a + S256x1024.size a ≤ S256x1024.size a) (x : Vec F S256x1024 .f32) :
    v.view.writes (Elt F) f [⟨Rect.unit (s := S256x1024) ![0, 0] S256x1024.size inb, x⟩] = hv.unread x :=
  hv.eq_unread (View.read_writes_full v.view f inb x [])

/-- What a point leaves: its block of the projected gradient and what is carried on. -/
structure Left (F : FTy → Type) where
  dp : Vec F S256x7168 .bf16
  s23 : Vec F S16x8x1024 .f32
  s24 : Vec F S4x256x512 .f32
  s25 : Vec F S8x1024 .f32
  s26 : Vec F S8x1024 .f32
  s27 : Vec F S8x1024 .f32
  s28 : Vec F S256x1024 .f32
  s29 : Vec F S256x1024 .f32

/-- The first point's branch, the one that clears what is carried. -/
abbrev cond1 (i : grid0.Coords) : BitVec 1 := Scalar.cmpi .ne (Scalar.extui (Scalar.cmpi .eq (BitVec.ofNat 32 (i 0).val : BitVec 32) (0#32))) 0#32

variable (c : Dev nD)

/-- The inputs' blocks, -/
abbrev ins (v1 : Memref sig .tc .vmem S256x1024 .bf16) (x1 : Vec F S256x1024 .bf16) (v2 : Memref sig .tc .vmem S256x1024 .bf16) (x2 : Vec F S256x1024 .bf16) (v3 : Memref sig .tc .vmem S256x1024 .bf16) (x3 : Vec F S256x1024 .bf16) (v4 : Memref sig .tc .vmem S256x1024 .bf16) (x4 : Vec F S256x1024 .bf16) (v5 : Memref sig .tc .vmem S256x1024 .bf16) (x5 : Vec F S256x1024 .bf16) (v6 : Memref sig .tc .vmem S256x1024 .f32) (x6 : Vec F S256x1024 .f32) (v7 : Memref sig .tc .vmem S256x1024 .bf16) (x7 : Vec F S256x1024 .bf16) (v8 : Memref sig .tc .vmem S256x1024 .bf16) (x8 : Vec F S256x1024 .bf16) (v9 : Memref sig .tc .vmem S256x2048 .bf16) (x9 : Vec F S256x2048 .bf16) (v10 : Memref sig .tc .vmem S16x1024 .bf16) (x10 : Vec F S16x1024 .bf16) (v11 : Memref sig .tc .vmem S16x1024 .bf16) (x11 : Vec F S16x1024 .bf16) (v12 : Memref sig .tc .vmem S16x1024 .bf16) (x12 : Vec F S16x1024 .bf16) (v13 : Memref sig .tc .vmem S8x1024 .f32) (x13 : Vec F S8x1024 .f32) (v14 : Memref sig .tc .vmem S16x1024 .bf16) (x14 : Vec F S16x1024 .bf16) (v15 : Memref sig .tc .vmem S16x1024 .bf16) (x15 : Vec F S16x1024 .bf16) (v16 : Memref sig .tc .vmem S10x1024 .f32) (x16 : Vec F S10x1024 .f32) (v17 : Memref sig .tc .vmem S4x256x512 .bf16) (x17 : Vec F S4x256x512 .bf16) (v18 : Memref sig .tc .vmem S4x512x256 .bf16) (x18 : Vec F S4x512x256 .bf16) (v19 : Memref sig .tc .vmem S1x1024 .f32) (x19 : Vec F S1x1024 .f32) : sProp 𝕄 :=
  iprop(owns c.tc v1 fullShare x1 ∗ owns c.tc v2 fullShare x2 ∗ owns c.tc v3 fullShare x3 ∗ owns c.tc v4 fullShare x4 ∗ owns c.tc v5 fullShare x5 ∗ owns c.tc v6 fullShare x6 ∗ owns c.tc v7 fullShare x7 ∗ owns c.tc v8 fullShare x8 ∗ owns c.tc v9 fullShare x9 ∗ owns c.tc v10 fullShare x10 ∗ owns c.tc v11 fullShare x11 ∗ owns c.tc v12 fullShare x12 ∗ owns c.tc v13 fullShare x13 ∗ owns c.tc v14 fullShare x14 ∗ owns c.tc v15 fullShare x15 ∗ owns c.tc v16 fullShare x16 ∗ owns c.tc v17 fullShare x17 ∗ owns c.tc v18 fullShare x18 ∗ owns c.tc v19 fullShare x19)
/-- what is carried between points, with the loop's two buffers, -/
abbrev held (v23 : Memref sig .tc .vmem S16x8x1024 .f32) (s23 : Vec F S16x8x1024 .f32) (v24 : Memref sig .tc .vmem S4x256x512 .f32) (s24 : Vec F S4x256x512 .f32) (v25 : Memref sig .tc .vmem S8x1024 .f32) (s25 : Vec F S8x1024 .f32) (v26 : Memref sig .tc .vmem S8x1024 .f32) (s26 : Vec F S8x1024 .f32) (v27 : Memref sig .tc .vmem S8x1024 .f32) (s27 : Vec F S8x1024 .f32) (v28 : Memref sig .tc .vmem S256x1024 .f32) (s28 : Vec F S256x1024 .f32) (v29 : Memref sig .tc .vmem S256x1024 .f32) (s29 : Vec F S256x1024 .f32) : sProp 𝕄 :=
  iprop(owns c.tc v23 fullShare s23 ∗ owns c.tc v24 fullShare s24 ∗ owns c.tc v25 fullShare s25 ∗ owns c.tc v26 fullShare s26 ∗ owns c.tc v27 fullShare s27 ∗ owns c.tc v28 fullShare s28 ∗ owns c.tc v29 fullShare s29)
/-- and the same at anything. -/
abbrev some (v23 : Memref sig .tc .vmem S16x8x1024 .f32) (v24 : Memref sig .tc .vmem S4x256x512 .f32) (v25 v26 v27 : Memref sig .tc .vmem S8x1024 .f32) (v28 v29 : Memref sig .tc .vmem S256x1024 .f32) : sProp 𝕄 :=
  iprop((∃ d, owns c.tc v23 fullShare d) ∗ (∃ d, owns c.tc v24 fullShare d) ∗ (∃ d, owns c.tc v25 fullShare d) ∗ (∃ d, owns c.tc v26 fullShare d) ∗ (∃ d, owns c.tc v27 fullShare d) ∗ (∃ d, owns c.tc v28 fullShare d) ∗ (∃ d, owns c.tc v29 fullShare d))

variable (i : grid0.Coords) {v1 v2 v3 v4 v5 : Memref sig .tc .vmem S256x1024 .bf16} {v6 : Memref sig .tc .vmem S256x1024 .f32} {v7 v8 : Memref sig .tc .vmem S256x1024 .bf16} {v9 : Memref sig .tc .vmem S256x2048 .bf16} {v10 v11 v12 : Memref sig .tc .vmem S16x1024 .bf16} {v13 : Memref sig .tc .vmem S8x1024 .f32} {v14 v15 : Memref sig .tc .vmem S16x1024 .bf16} {v16 : Memref sig .tc .vmem S10x1024 .f32} {v17 : Memref sig .tc .vmem S4x256x512 .bf16} {v18 : Memref sig .tc .vmem S4x512x256 .bf16} {v19 : Memref sig .tc .vmem S1x1024 .f32} {v20 : Memref sig .tc .vmem S256x7168 .bf16} {v21 : Memref sig .tc .vmem S16x1024 .f32} {v22 : Memref sig .tc .vmem S4x256x512 .f32} {v23 : Memref sig .tc .vmem S16x8x1024 .f32} {v24 : Memref sig .tc .vmem S4x256x512 .f32} {v25 v26 v27 : Memref sig .tc .vmem S8x1024 .f32} {v28 v29 : Memref sig .tc .vmem S256x1024 .f32} {h1 : v1.IsWhole} {h2 : v2.IsWhole} {h3 : v3.IsWhole} {h4 : v4.IsWhole} {h5 : v5.IsWhole} {h6 : v6.IsWhole} {h7 : v7.IsWhole} {h8 : v8.IsWhole} {h9 : v9.IsWhole} {h10 : v10.IsWhole} {h11 : v11.IsWhole} {h12 : v12.IsWhole} {h13 : v13.IsWhole} {h14 : v14.IsWhole} {h15 : v15.IsWhole} {h16 : v16.IsWhole} {h17 : v17.IsWhole} {h18 : v18.IsWhole} {h19 : v19.IsWhole} {h20 : v20.IsWhole} {h21 : v21.IsWhole} {h22 : v22.IsWhole} {h23 : v23.IsWhole} {h24 : v24.IsWhole} {h25 : v25.IsWhole} {h26 : v26.IsWhole} {h27 : v27.IsWhole} {h28 : v28.IsWhole} {h29 : v29.IsWhole}

set_option maxHeartbeats 8000000 in
/-- The body at the first point, which clears what is carried. -/
theorem run_first (hc0 : cond1 i = 1#1) (hc1 : ¬ k0_cond2 i = 1#1) {x1 x2 x3 x4 x5 : Vec F S256x1024 .bf16} {x6 : Vec F S256x1024 .f32} {x7 x8 : Vec F S256x1024 .bf16} {x9 : Vec F S256x2048 .bf16} {x10 x11 x12 : Vec F S16x1024 .bf16} {x13 : Vec F S8x1024 .f32} {x14 x15 : Vec F S16x1024 .bf16} {x16 : Vec F S10x1024 .f32} {x17 : Vec F S4x256x512 .bf16} {x18 : Vec F S4x512x256 .bf16} {x19 : Vec F S1x1024 .f32} :
    ∃ (l : Left F), ∀ (E : Set ℕ) (K : PUnit → sProp 𝕄),
      iprop((ins c v1 x1 v2 x2 v3 x3 v4 x4 v5 x5 v6 x6 v7 x7 v8 x8 v9 x9 v10 x10 v11 x11 v12 x12 v13 x13 v14 x14 v15 x15 v16 x16 v17 x17 v18 x18 v19 x19) ∗ (∃ d, owns c.tc v20 fullShare d) ∗ (some c v23 v24 v25 v26 v27 v28 v29) ∗ (((ins c v1 x1 v2 x2 v3 x3 v4 x4 v5 x5 v6 x6 v7 x7 v8 x8 v9 x9 v10 x10 v11 x11 v12 x12 v13 x13 v14 x14 v15 x15 v16 x16 v17 x17 v18 x18 v19 x19) ∗ owns c.tc v20 fullShare l.dp ∗ (held c v23 l.s23 v24 l.s24 v25 l.s25 v26 l.s26 v27 l.s27 v28 l.s28 v29 l.s29)) -∗ K ⟨⟩))
      ⊢ wp frame (wpE (defs₀ (F := F)) Variants.none c none) E (cc0_mixer_bwd_0 i v1 h1 v2 h2 v3 h3 v4 h4 v5 h5 v6 h6 v7 h7 v8 h8 v9 h9 v10 h10 v11 h11 v12 h12 v13 h13 v14 h14 v15 h15 v16 h16 v17 h17 v18 h18 v19 h19 v20 h20 v21 h21 v22 h22 v23 h23 v24 h24 v25 h25 v26 h26 v27 h27 v28 h28 v29 h29) K := by
  refine ⟨⟨?_, ?_, ?_, ?_, ?_, ?_, ?_, ?_⟩, fun E K => ?run⟩
  case run =>
    simp only [cc0_mixer_bwd_0_eq_skeleton]; unfold cc0_mixer_bwd_0_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold ins held some owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩⟩, ⟨%d20, %f20, -, H20⟩, ⟨⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩⟩, Hk⟩
    obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13; obtain rfl := h14.eq_unread hf14; obtain rfl := h15.eq_unread hf15; obtain rfl := h16.eq_unread hf16; obtain rfl := h17.eq_unread hf17; obtain rfl := h18.eq_unread hf18; obtain rfl := h19.eq_unread hf19
    sl_exec (disch := first | sl_exact hc0 | sl_exact hc1)
    sl_step
    iapply Hk
    isplitl [H1 H2 H3 H4 H5 H6 H7 H8 H9 H10 H11 H12 H13 H14 H15 H16 H17 H18 H19]
    · isplitl [H1]
      · iexists _; isplitr; · ipureintro; exact h1.read_unread _
        iexact H1
      isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; · ipureintro; exact h6.read_unread _
        iexact H6
      isplitl [H7]
      · iexists _; isplitr; · ipureintro; exact h7.read_unread _
        iexact H7
      isplitl [H8]
      · iexists _; isplitr; · ipureintro; exact h8.read_unread _
        iexact H8
      isplitl [H9]
      · iexists _; isplitr; · ipureintro; exact h9.read_unread _
        iexact H9
      isplitl [H10]
      · iexists _; isplitr; · ipureintro; exact h10.read_unread _
        iexact H10
      isplitl [H11]
      · iexists _; isplitr; · ipureintro; exact h11.read_unread _
        iexact H11
      isplitl [H12]
      · iexists _; isplitr; · ipureintro; exact h12.read_unread _
        iexact H12
      isplitl [H13]
      · iexists _; isplitr; · ipureintro; exact h13.read_unread _
        iexact H13
      isplitl [H14]
      · iexists _; isplitr; · ipureintro; exact h14.read_unread _
        iexact H14
      isplitl [H15]
      · iexists _; isplitr; · ipureintro; exact h15.read_unread _
        iexact H15
      isplitl [H16]
      · iexists _; isplitr; · ipureintro; exact h16.read_unread _
        iexact H16
      isplitl [H17]
      · iexists _; isplitr; · ipureintro; exact h17.read_unread _
        iexact H17
      isplitl [H18]
      · iexists _; isplitr; · ipureintro; exact h18.read_unread _
        iexact H18
      iexists _; isplitr; · ipureintro; exact h19.read_unread _
      iexact H19
    isplitl [H20]
    · iexists _; isplitr; swap; · iexact H20
      ipureintro
      refine (View.read_writes_eq_canon _ _ _ ?cov).trans ?e
      case cov => exact View.cover_of_tiledBy _ S256x1024.size (by sl_kernel_rfl)
      case e =>
        sl_unfold_run_names
        simp only [whole_store h28, whole_store h29]
        rfl
    isplitl [H23]
    · iexists _; isplitr; swap; · iexact H23
      ipureintro
      refine (View.read_writes_eq_canon _ _ _ ?cov).trans ?e
      case cov => exact View.cover_of_wholeMem _ (by sl_whole_mem)
      case e =>
        sl_unfold_run_names
        try simp only [whole_store h28, whole_store h29]
        rfl
    isplitl [H24]
    · iexists _; isplitr; swap; · iexact H24
      ipureintro
      refine (View.read_writes_eq_canon _ _ _ ?cov).trans ?e
      case cov => exact View.cover_of_wholeMem _ (by sl_whole_mem)
      case e =>
        sl_unfold_run_names
        try simp only [whole_store h28, whole_store h29]
        rfl
    isplitl [H25]
    · iexists _; isplitr; swap; · iexact H25
      ipureintro
      refine (View.read_writes_eq_canon _ _ _ ?cov).trans ?e
      case cov => exact View.cover_of_wholeMem _ (by sl_whole_mem)
      case e =>
        sl_unfold_run_names
        try simp only [whole_store h28, whole_store h29]
        rfl
    isplitl [H26]
    · iexists _; isplitr; swap; · iexact H26
      ipureintro
      refine (View.read_writes_eq_canon _ _ _ ?cov).trans ?e
      case cov => exact View.cover_of_wholeMem _ (by sl_whole_mem)
      case e =>
        sl_unfold_run_names
        try simp only [whole_store h28, whole_store h29]
        rfl
    isplitl [H27]
    · iexists _; isplitr; swap; · iexact H27
      ipureintro
      refine (View.read_writes_eq_canon _ _ _ ?cov).trans ?e
      case cov => exact View.cover_of_wholeMem _ (by sl_whole_mem)
      case e =>
        sl_unfold_run_names
        try simp only [whole_store h28, whole_store h29]
        rfl
    isplitl [H28]
    · iexists _; isplitr; swap; · iexact H28
      ipureintro
      refine (View.read_writes_eq_canon _ _ _ ?cov).trans ?e
      case cov => exact View.cover_of_wholeMem _ (by sl_whole_mem)
      case e =>
        sl_unfold_run_names
        try simp only [whole_store h28, whole_store h29]
        rfl
    iexists _; isplitr; swap; · iexact H29
    ipureintro
    sl_unfold_run_names
    simp only [whole_store h28, whole_store h29]
    rfl

set_option maxHeartbeats 8000000 in
/-- The body at a point that is neither the first nor the last. -/
theorem run_mid (hc0 : ¬ cond1 i = 1#1) (hc1 : ¬ k0_cond2 i = 1#1) {x1 x2 x3 x4 x5 : Vec F S256x1024 .bf16} {x6 : Vec F S256x1024 .f32} {x7 x8 : Vec F S256x1024 .bf16} {x9 : Vec F S256x2048 .bf16} {x10 x11 x12 : Vec F S16x1024 .bf16} {x13 : Vec F S8x1024 .f32} {x14 x15 : Vec F S16x1024 .bf16} {x16 : Vec F S10x1024 .f32} {x17 : Vec F S4x256x512 .bf16} {x18 : Vec F S4x512x256 .bf16} {x19 : Vec F S1x1024 .f32} {s23 : Vec F S16x8x1024 .f32} {s24 : Vec F S4x256x512 .f32} {s25 s26 s27 : Vec F S8x1024 .f32} {s28 s29 : Vec F S256x1024 .f32} :
    ∃ (l : Left F), ∀ (E : Set ℕ) (K : PUnit → sProp 𝕄),
      iprop((ins c v1 x1 v2 x2 v3 x3 v4 x4 v5 x5 v6 x6 v7 x7 v8 x8 v9 x9 v10 x10 v11 x11 v12 x12 v13 x13 v14 x14 v15 x15 v16 x16 v17 x17 v18 x18 v19 x19) ∗ (∃ d, owns c.tc v20 fullShare d) ∗ (held c v23 s23 v24 s24 v25 s25 v26 s26 v27 s27 v28 s28 v29 s29) ∗ (((ins c v1 x1 v2 x2 v3 x3 v4 x4 v5 x5 v6 x6 v7 x7 v8 x8 v9 x9 v10 x10 v11 x11 v12 x12 v13 x13 v14 x14 v15 x15 v16 x16 v17 x17 v18 x18 v19 x19) ∗ owns c.tc v20 fullShare l.dp ∗ (held c v23 l.s23 v24 l.s24 v25 l.s25 v26 l.s26 v27 l.s27 v28 l.s28 v29 l.s29)) -∗ K ⟨⟩))
      ⊢ wp frame (wpE (defs₀ (F := F)) Variants.none c none) E (cc0_mixer_bwd_0 i v1 h1 v2 h2 v3 h3 v4 h4 v5 h5 v6 h6 v7 h7 v8 h8 v9 h9 v10 h10 v11 h11 v12 h12 v13 h13 v14 h14 v15 h15 v16 h16 v17 h17 v18 h18 v19 h19 v20 h20 v21 h21 v22 h22 v23 h23 v24 h24 v25 h25 v26 h26 v27 h27 v28 h28 v29 h29) K := by
  refine ⟨⟨?_, ?_, ?_, ?_, ?_, ?_, ?_, ?_⟩, fun E K => ?run⟩
  case run =>
    simp only [cc0_mixer_bwd_0_eq_skeleton]; unfold cc0_mixer_bwd_0_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold ins held owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩⟩, ⟨%d20, %f20, -, H20⟩, ⟨⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩⟩, Hk⟩
    obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13; obtain rfl := h14.eq_unread hf14; obtain rfl := h15.eq_unread hf15; obtain rfl := h16.eq_unread hf16; obtain rfl := h17.eq_unread hf17; obtain rfl := h18.eq_unread hf18; obtain rfl := h19.eq_unread hf19; obtain rfl := h23.eq_unread hf23; obtain rfl := h24.eq_unread hf24; obtain rfl := h25.eq_unread hf25; obtain rfl := h26.eq_unread hf26; obtain rfl := h27.eq_unread hf27; obtain rfl := h28.eq_unread hf28; obtain rfl := h29.eq_unread hf29
    sl_exec (disch := first | sl_exact hc0 | sl_exact hc1)
    sl_step
    iapply Hk
    isplitl [H1 H2 H3 H4 H5 H6 H7 H8 H9 H10 H11 H12 H13 H14 H15 H16 H17 H18 H19]
    · isplitl [H1]
      · iexists _; isplitr; · ipureintro; exact h1.read_unread _
        iexact H1
      isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; · ipureintro; exact h6.read_unread _
        iexact H6
      isplitl [H7]
      · iexists _; isplitr; · ipureintro; exact h7.read_unread _
        iexact H7
      isplitl [H8]
      · iexists _; isplitr; · ipureintro; exact h8.read_unread _
        iexact H8
      isplitl [H9]
      · iexists _; isplitr; · ipureintro; exact h9.read_unread _
        iexact H9
      isplitl [H10]
      · iexists _; isplitr; · ipureintro; exact h10.read_unread _
        iexact H10
      isplitl [H11]
      · iexists _; isplitr; · ipureintro; exact h11.read_unread _
        iexact H11
      isplitl [H12]
      · iexists _; isplitr; · ipureintro; exact h12.read_unread _
        iexact H12
      isplitl [H13]
      · iexists _; isplitr; · ipureintro; exact h13.read_unread _
        iexact H13
      isplitl [H14]
      · iexists _; isplitr; · ipureintro; exact h14.read_unread _
        iexact H14
      isplitl [H15]
      · iexists _; isplitr; · ipureintro; exact h15.read_unread _
        iexact H15
      isplitl [H16]
      · iexists _; isplitr; · ipureintro; exact h16.read_unread _
        iexact H16
      isplitl [H17]
      · iexists _; isplitr; · ipureintro; exact h17.read_unread _
        iexact H17
      isplitl [H18]
      · iexists _; isplitr; · ipureintro; exact h18.read_unread _
        iexact H18
      iexists _; isplitr; · ipureintro; exact h19.read_unread _
      iexact H19
    isplitl [H20]
    · iexists _; isplitr; swap; · iexact H20
      ipureintro
      refine (View.read_writes_eq_canon _ _ _ ?cov).trans ?e
      case e => rfl
      case cov => exact View.cover_of_tiledBy _ S256x1024.size (by sl_kernel_rfl)
    isplitl [H23]
    · iexists _; isplitr; swap; · iexact H23
      ipureintro
      rfl
    isplitl [H24]
    · iexists _; isplitr; swap; · iexact H24
      ipureintro
      rfl
    isplitl [H25]
    · iexists _; isplitr; swap; · iexact H25
      ipureintro
      rfl
    isplitl [H26]
    · iexists _; isplitr; swap; · iexact H26
      ipureintro
      rfl
    isplitl [H27]
    · iexists _; isplitr; swap; · iexact H27
      ipureintro
      rfl
    isplitl [H28]
    · iexists _; isplitr; swap; · iexact H28
      ipureintro
      rfl
    iexists _; isplitr; swap; · iexact H29
    ipureintro
    rfl

set_option maxHeartbeats 8000000 in
/-- The body at the last point, where the sums leave. -/
theorem run_last (hc0 : ¬ cond1 i = 1#1) (hc1 : k0_cond2 i = 1#1) {x1 x2 x3 x4 x5 : Vec F S256x1024 .bf16} {x6 : Vec F S256x1024 .f32} {x7 x8 : Vec F S256x1024 .bf16} {x9 : Vec F S256x2048 .bf16} {x10 x11 x12 : Vec F S16x1024 .bf16} {x13 : Vec F S8x1024 .f32} {x14 x15 : Vec F S16x1024 .bf16} {x16 : Vec F S10x1024 .f32} {x17 : Vec F S4x256x512 .bf16} {x18 : Vec F S4x512x256 .bf16} {x19 : Vec F S1x1024 .f32} {s23 : Vec F S16x8x1024 .f32} {s24 : Vec F S4x256x512 .f32} {s25 s26 s27 : Vec F S8x1024 .f32} {s28 s29 : Vec F S256x1024 .f32} :
    ∃ (l : Left F) (o1 : Vec F S16x1024 .f32) (o2 : Vec F S4x256x512 .f32), ∀ (E : Set ℕ) (K : PUnit → sProp 𝕄),
      iprop((ins c v1 x1 v2 x2 v3 x3 v4 x4 v5 x5 v6 x6 v7 x7 v8 x8 v9 x9 v10 x10 v11 x11 v12 x12 v13 x13 v14 x14 v15 x15 v16 x16 v17 x17 v18 x18 v19 x19) ∗ (∃ d, owns c.tc v20 fullShare d) ∗ (∃ d, owns c.tc v21 fullShare d) ∗ (∃ d, owns c.tc v22 fullShare d) ∗ (held c v23 s23 v24 s24 v25 s25 v26 s26 v27 s27 v28 s28 v29 s29) ∗ (((ins c v1 x1 v2 x2 v3 x3 v4 x4 v5 x5 v6 x6 v7 x7 v8 x8 v9 x9 v10 x10 v11 x11 v12 x12 v13 x13 v14 x14 v15 x15 v16 x16 v17 x17 v18 x18 v19 x19) ∗ owns c.tc v20 fullShare l.dp ∗ owns c.tc v21 fullShare o1 ∗ owns c.tc v22 fullShare o2 ∗ (held c v23 l.s23 v24 l.s24 v25 l.s25 v26 l.s26 v27 l.s27 v28 l.s28 v29 l.s29)) -∗ K ⟨⟩))
      ⊢ wp frame (wpE (defs₀ (F := F)) Variants.none c none) E (cc0_mixer_bwd_0 i v1 h1 v2 h2 v3 h3 v4 h4 v5 h5 v6 h6 v7 h7 v8 h8 v9 h9 v10 h10 v11 h11 v12 h12 v13 h13 v14 h14 v15 h15 v16 h16 v17 h17 v18 h18 v19 h19 v20 h20 v21 h21 v22 h22 v23 h23 v24 h24 v25 h25 v26 h26 v27 h27 v28 h28 v29 h29) K := by
  refine ⟨⟨?_, ?_, ?_, ?_, ?_, ?_, ?_, ?_⟩, ?_, ?_, fun E K => ?run⟩
  case run =>
    simp only [cc0_mixer_bwd_0_eq_skeleton]; unfold cc0_mixer_bwd_0_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold ins held owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩⟩, ⟨%d20, %f20, -, H20⟩, ⟨%d21, %f21, -, H21⟩, ⟨%d22, %f22, -, H22⟩, ⟨⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩⟩, Hk⟩
    obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13; obtain rfl := h14.eq_unread hf14; obtain rfl := h15.eq_unread hf15; obtain rfl := h16.eq_unread hf16; obtain rfl := h17.eq_unread hf17; obtain rfl := h18.eq_unread hf18; obtain rfl := h19.eq_unread hf19; obtain rfl := h23.eq_unread hf23; obtain rfl := h24.eq_unread hf24; obtain rfl := h25.eq_unread hf25; obtain rfl := h26.eq_unread hf26; obtain rfl := h27.eq_unread hf27; obtain rfl := h28.eq_unread hf28; obtain rfl := h29.eq_unread hf29
    sl_exec (disch := first | sl_exact hc0 | sl_exact hc1)
    sl_step
    iapply Hk
    isplitl [H1 H2 H3 H4 H5 H6 H7 H8 H9 H10 H11 H12 H13 H14 H15 H16 H17 H18 H19]
    · isplitl [H1]
      · iexists _; isplitr; · ipureintro; exact h1.read_unread _
        iexact H1
      isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; · ipureintro; exact h6.read_unread _
        iexact H6
      isplitl [H7]
      · iexists _; isplitr; · ipureintro; exact h7.read_unread _
        iexact H7
      isplitl [H8]
      · iexists _; isplitr; · ipureintro; exact h8.read_unread _
        iexact H8
      isplitl [H9]
      · iexists _; isplitr; · ipureintro; exact h9.read_unread _
        iexact H9
      isplitl [H10]
      · iexists _; isplitr; · ipureintro; exact h10.read_unread _
        iexact H10
      isplitl [H11]
      · iexists _; isplitr; · ipureintro; exact h11.read_unread _
        iexact H11
      isplitl [H12]
      · iexists _; isplitr; · ipureintro; exact h12.read_unread _
        iexact H12
      isplitl [H13]
      · iexists _; isplitr; · ipureintro; exact h13.read_unread _
        iexact H13
      isplitl [H14]
      · iexists _; isplitr; · ipureintro; exact h14.read_unread _
        iexact H14
      isplitl [H15]
      · iexists _; isplitr; · ipureintro; exact h15.read_unread _
        iexact H15
      isplitl [H16]
      · iexists _; isplitr; · ipureintro; exact h16.read_unread _
        iexact H16
      isplitl [H17]
      · iexists _; isplitr; · ipureintro; exact h17.read_unread _
        iexact H17
      isplitl [H18]
      · iexists _; isplitr; · ipureintro; exact h18.read_unread _
        iexact H18
      iexists _; isplitr; · ipureintro; exact h19.read_unread _
      iexact H19
    isplitl [H20]
    · iexists _; isplitr; swap; · iexact H20
      ipureintro
      refine (View.read_writes_eq_canon _ _ _ ?cov).trans ?e
      case e => rfl
      case cov => exact View.cover_of_tiledBy _ S256x1024.size (by sl_kernel_rfl)
    isplitl [H21]
    · iexists _; isplitr; swap; · iexact H21
      ipureintro
      refine (View.read_writes_eq_canon _ _ _ ?cov).trans ?e
      case e => rfl
      case cov => exact View.cover_of_tiledL _ S1x1024.size (by sl_kernel_rfl)
    isplitl [H22]
    · iexists _; isplitr; swap; · iexact H22
      ipureintro
      refine (View.read_writes_eq_canon _ _ _ ?cov).trans ?e
      case e => rfl
      case cov => exact View.cover_of_wholeMem _ (by sl_whole_mem)
    isplitl [H23]
    · iexists _; isplitr; swap; · iexact H23
      ipureintro
      rfl
    isplitl [H24]
    · iexists _; isplitr; swap; · iexact H24
      ipureintro
      rfl
    isplitl [H25]
    · iexists _; isplitr; swap; · iexact H25
      ipureintro
      rfl
    isplitl [H26]
    · iexists _; isplitr; swap; · iexact H26
      ipureintro
      rfl
    isplitl [H27]
    · iexists _; isplitr; swap; · iexact H27
      ipureintro
      rfl
    isplitl [H28]
    · iexists _; isplitr; swap; · iexact H28
      ipureintro
      rfl
    iexists _; isplitr; swap; · iexact H29
    ipureintro
    rfl

end Cert.MixerIdeal.Own

end
-- ==== Proof.MixerP.Run.lean ====
/- The idealized `_mixer_bwd` run point by point: what its three result windows hold after each point's body, what is carried
   between points, and the run of the whole launch. -/
module

public import proofs.«01_k».proof.Proof.MixerP.Point

@[expose] public section

set_option maxRecDepth 16384

noncomputable section

namespace Cert.MixerIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixerIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Only the first point clears what is carried, -/
theorem hcond : ∀ t : Fin cfg0.N, cond1 (grid0.coords t) = 1#1 ↔ t.val = 0 :=
  (fun t => by
    have ht : t.val < 32 := Nat.lt_of_lt_of_eq t.isLt N_0
    have e0 : (grid0.coords t 0).val = t.val / 1 % 32 := Pipeline.Grid.coords_val t 0 (by decide) rfl
    simp only [cond1, e0]
    word_cmp
   : ∀ t : Fin grid0.N, cond1 (grid0.coords t) = 1#1 ↔ t.val = 0)
/-- and only the last hands the sums over. -/
theorem hcond2 : ∀ t : Fin cfg0.N, k0_cond2 (grid0.coords t) = 1#1 ↔ t.val = 31 :=
  (fun t => by
    have ht : t.val < 32 := Nat.lt_of_lt_of_eq t.isLt N_0
    have e0 : (grid0.coords t 0).val = t.val / 1 % 32 := Pipeline.Grid.coords_val t 0 (by decide) rfl
    simp only [k0_cond2, e0]
    word_cmp
   : ∀ t : Fin grid0.N, k0_cond2 (grid0.coords t) = 1#1 ↔ t.val = 31)

/-- A buffer kept between points. -/
abbrev sc0 : Memref sig .tc .vmem S16x8x1024 .f32 := Memref.whole cc0_scratch0
/-- A buffer kept between points. -/
abbrev sc1 : Memref sig .tc .vmem S4x256x512 .f32 := Memref.whole cc0_scratch1
/-- A buffer kept between points. -/
abbrev sc2 : Memref sig .tc .vmem S8x1024 .f32 := Memref.whole cc0_scratch2
/-- A buffer kept between points. -/
abbrev sc3 : Memref sig .tc .vmem S8x1024 .f32 := Memref.whole cc0_scratch3
/-- A buffer kept between points. -/
abbrev sc4 : Memref sig .tc .vmem S8x1024 .f32 := Memref.whole cc0_scratch4
/-- A buffer kept between points. -/
abbrev sc5 : Memref sig .tc .vmem S256x1024 .f32 := Memref.whole cc0_scratch5
/-- A buffer kept between points. -/
abbrev sc6 : Memref sig .tc .vmem S256x1024 .f32 := Memref.whole cc0_scratch6

/-- The blocks the body reads at a point. -/
abbrev insAt (c : Dev nD) (t : Fin cfg0.N) : sProp 𝕄 := ins c (st0_0 t) (iblk m c 0 t) (st0_1 t) (iblk m c 1 t) (st0_2 t) (iblk m c 2 t) (st0_3 t) (iblk m c 3 t) (st0_4 t) (iblk m c 4 t) (st0_5 t) (iblk m c 5 t) (st0_6 t) (iblk m c 6 t) (st0_7 t) (iblk m c 7 t) (st0_8 t) (iblk m c 8 t) (st0_9 t) (iblk m c 9 t) (st0_10 t) (iblk m c 10 t) (st0_11 t) (iblk m c 11 t) (st0_12 t) (iblk m c 12 t) (st0_13 t) (iblk m c 13 t) (st0_14 t) (iblk m c 14 t) (st0_15 t) (iblk m c 15 t) (st0_16 t) (iblk m c 16 t) (st0_17 t) (iblk m c 17 t) (st0_18 t) (iblk m c 18 t)

theorem first_at (c : Dev nD) (t : Fin cfg0.N) (h : t.val = 0) : ∃ l : Left F, ∀ (E : Set ℕ) (K : PUnit → sProp 𝕄),
    iprop(insAt m c t ∗ (∃ d, owns c.tc (st0_19 t) fullShare d) ∗ (some c sc0 sc1 sc2 sc3 sc4 sc5 sc6) ∗ ((insAt m c t ∗ owns c.tc (st0_19 t) fullShare l.dp ∗ (held c sc0 l.s23 sc1 l.s24 sc2 l.s25 sc3 l.s26 sc4 l.s27 sc5 l.s28 sc6 l.s29)) -∗ K ⟨⟩)) ⊢ wp frame (wpE (defs₀ (F := F)) Variants.none c none) E (bodyAt0 t) K :=
  run_first c (grid0.coords t) ((hcond t).mpr h) (fun e => by have := (hcond2 t).mp e; omega)
theorem mid_at (c : Dev nD) (t : Fin cfg0.N) (s : Left F) (h : t.val ≠ 0) (h' : t.val ≠ 31) : ∃ l : Left F, ∀ (E : Set ℕ) (K : PUnit → sProp 𝕄),
    iprop(insAt m c t ∗ (∃ d, owns c.tc (st0_19 t) fullShare d) ∗ (held c sc0 s.s23 sc1 s.s24 sc2 s.s25 sc3 s.s26 sc4 s.s27 sc5 s.s28 sc6 s.s29) ∗ ((insAt m c t ∗ owns c.tc (st0_19 t) fullShare l.dp ∗ (held c sc0 l.s23 sc1 l.s24 sc2 l.s25 sc3 l.s26 sc4 l.s27 sc5 l.s28 sc6 l.s29)) -∗ K ⟨⟩)) ⊢ wp frame (wpE (defs₀ (F := F)) Variants.none c none) E (bodyAt0 t) K :=
  run_mid c (grid0.coords t) (fun e => h ((hcond t).mp e)) (fun e => h' ((hcond2 t).mp e))
theorem last_at (c : Dev nD) (t : Fin cfg0.N) (s : Left F) (h : t.val = 31) : ∃ (l : Left F) (o1 : Vec F S16x1024 .f32) (o2 : Vec F S4x256x512 .f32), ∀ (E : Set ℕ) (K : PUnit → sProp 𝕄),
    iprop(insAt m c t ∗ (∃ d, owns c.tc (st0_19 t) fullShare d) ∗ (∃ d, owns c.tc (st0_20 t) fullShare d) ∗ (∃ d, owns c.tc (st0_21 t) fullShare d) ∗ (held c sc0 s.s23 sc1 s.s24 sc2 s.s25 sc3 s.s26 sc4 s.s27 sc5 s.s28 sc6 s.s29) ∗ ((insAt m c t ∗ owns c.tc (st0_19 t) fullShare l.dp ∗ owns c.tc (st0_20 t) fullShare o1 ∗ owns c.tc (st0_21 t) fullShare o2 ∗ (held c sc0 l.s23 sc1 l.s24 sc2 l.s25 sc3 l.s26 sc4 l.s27 sc5 l.s28 sc6 l.s29)) -∗ K ⟨⟩)) ⊢ wp frame (wpE (defs₀ (F := F)) Variants.none c none) E (bodyAt0 t) K :=
  run_last c (grid0.coords t) (fun e => by have := (hcond t).mp e; omega) ((hcond2 t).mpr h)

/-- What a point leaves, given what the point before left. -/
def left (c : Dev nD) (t : Fin cfg0.N) (s : Left F) : Left F :=
  if h : t.val = 0 then (first_at m c t h).choose else if h' : t.val = 31 then (last_at m c t s h').choose else (mid_at m c t s h h').choose
/-- The sums of the last point, -/
def sums (c : Dev nD) (t : Fin cfg0.N) (s : Left F) : Vec F S16x1024 .f32 :=
  if h : t.val = 31 then (last_at m c t s h).choose_spec.choose else View.canon []
/-- of the rows' and of the gates' gradients. -/
def gates (c : Dev nD) (t : Fin cfg0.N) (s : Left F) : Vec F S4x256x512 .f32 :=
  if h : t.val = 31 then (last_at m c t s h).choose_spec.choose_spec.choose else View.canon []

/-- What is carried before a point. -/
def carry (c : Dev nD) : (n : ℕ) → n ≤ cfg0.N → Left F
  | 0, _ => ⟨View.canon [], View.canon [], View.canon [], View.canon [], View.canon [], View.canon [], View.canon [], View.canon []⟩
  | n + 1, hn => left m c ⟨n, hn⟩ (carry c n (Nat.le_of_lt hn))
/-- What is carried before point `t`. -/
abbrev pre (c : Dev nD) (t : Fin cfg0.N) : Left F := carry m c t.val (Nat.le_of_lt t.isLt)

/-- What holds between points. -/
def between (c : Dev nD) : (n : ℕ) → n ≤ cfg0.N → sProp 𝕄
  | 0, _ => Pipeline.ΦA spec0 c
  | n + 1, hn => iprop((held c sc0 (carry m c (n + 1) hn).s23 sc1 (carry m c (n + 1) hn).s24 sc2 (carry m c (n + 1) hn).s25 sc3 (carry m c (n + 1) hn).s26 sc4 (carry m c (n + 1) hn).s27 sc5 (carry m c (n + 1) hn).s28 sc6 (carry m c (n + 1) hn).s29) ∗ (∃ r, prngReg c r))

theorem between_zero (c : Dev nD) (n : ℕ) (h : n ≤ cfg0.N) (hz : n = 0) : between m c n h = Pipeline.ΦA spec0 c := by
  subst hz; rfl

theorem between_pos (c : Dev nD) (n : ℕ) (h : n ≤ cfg0.N) (hz : n ≠ 0) :
    between m c n h = iprop((held c sc0 (carry m c n h).s23 sc1 (carry m c n h).s24 sc2 (carry m c n h).s25 sc3 (carry m c n h).s26 sc4 (carry m c n h).s27 sc5 (carry m c n h).s28 sc6 (carry m c n h).s29) ∗ (∃ r, prngReg c r)) := by
  cases n with
  | zero => exact absurd rfl hz
  | succ n => rfl

theorem rest_eq (c : Dev nD) : (Pipeline.ΦA spec0 c : sProp 𝕄) = iprop((some c sc0 sc1 sc2 sc3 sc4 sc5 sc6) ∗ (∃ r, prngReg c r)) := by
  unfold Pipeline.ΦA; rw [scopedRest0_eq]; simp only [some, sc0, sc1, sc2, sc3, sc4, sc5, sc6, owns_whole]; try rfl

/-- The proof data: each window's contents after a point's body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => (left m c t (pre m c t)).dp
    | ⟨20, _⟩ => sums m c t (pre m c t)
    | ⟨21, _⟩ => gates m c t (pre m c t)
    | ⟨_ + 22, h⟩ => absurd h (by show ¬ _ + 22 < 22; omega)
  Φ t := between m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]
section
variable (c : Dev nD) (t : Fin cfg0.N)
theorem after_0 : (dats m 0 c).after 0 t = (iblk m c 0 t) := by dsimp only [dats]
theorem after_1 : (dats m 0 c).after 1 t = (iblk m c 1 t) := by dsimp only [dats]
theorem after_2 : (dats m 0 c).after 2 t = (iblk m c 2 t) := by dsimp only [dats]
theorem after_3 : (dats m 0 c).after 3 t = (iblk m c 3 t) := by dsimp only [dats]
theorem after_4 : (dats m 0 c).after 4 t = (iblk m c 4 t) := by dsimp only [dats]
theorem after_5 : (dats m 0 c).after 5 t = (iblk m c 5 t) := by dsimp only [dats]
theorem after_6 : (dats m 0 c).after 6 t = (iblk m c 6 t) := by dsimp only [dats]
theorem after_7 : (dats m 0 c).after 7 t = (iblk m c 7 t) := by dsimp only [dats]
theorem after_8 : (dats m 0 c).after 8 t = (iblk m c 8 t) := by dsimp only [dats]
theorem after_9 : (dats m 0 c).after 9 t = (iblk m c 9 t) := by dsimp only [dats]
theorem after_10 : (dats m 0 c).after 10 t = (iblk m c 10 t) := by dsimp only [dats]
theorem after_11 : (dats m 0 c).after 11 t = (iblk m c 11 t) := by dsimp only [dats]
theorem after_12 : (dats m 0 c).after 12 t = (iblk m c 12 t) := by dsimp only [dats]
theorem after_13 : (dats m 0 c).after 13 t = (iblk m c 13 t) := by dsimp only [dats]
theorem after_14 : (dats m 0 c).after 14 t = (iblk m c 14 t) := by dsimp only [dats]
theorem after_15 : (dats m 0 c).after 15 t = (iblk m c 15 t) := by dsimp only [dats]
theorem after_16 : (dats m 0 c).after 16 t = (iblk m c 16 t) := by dsimp only [dats]
theorem after_17 : (dats m 0 c).after 17 t = (iblk m c 17 t) := by dsimp only [dats]
theorem after_18 : (dats m 0 c).after 18 t = (iblk m c 18 t) := by dsimp only [dats]
theorem after_19 : (dats m 0 c).after 19 t = (left m c t (pre m c t)).dp := by dsimp only [dats]
theorem lv_0 : (dats m 0 c).leavesExact 0 t = owns c.tc (st0_0 t) fullShare (iblk m c 0 t) := by
  unfold Dat.leavesExact; rw [show cfg0.idle 0 (cfg0.grid.coords t) = false from rfl, after_0]
theorem lv_1 : (dats m 0 c).leavesExact 1 t = owns c.tc (st0_1 t) fullShare (iblk m c 1 t) := by
  unfold Dat.leavesExact; rw [show cfg0.idle 1 (cfg0.grid.coords t) = false from rfl, after_1]
theorem lv_2 : (dats m 0 c).leavesExact 2 t = owns c.tc (st0_2 t) fullShare (iblk m c 2 t) := by
  unfold Dat.leavesExact; rw [show cfg0.idle 2 (cfg0.grid.coords t) = false from rfl, after_2]
theorem lv_3 : (dats m 0 c).leavesExact 3 t = owns c.tc (st0_3 t) fullShare (iblk m c 3 t) := by
  unfold Dat.leavesExact; rw [show cfg0.idle 3 (cfg0.grid.coords t) = false from rfl, after_3]
theorem lv_4 : (dats m 0 c).leavesExact 4 t = owns c.tc (st0_4 t) fullShare (iblk m c 4 t) := by
  unfold Dat.leavesExact; rw [show cfg0.idle 4 (cfg0.grid.coords t) = false from rfl, after_4]
theorem lv_5 : (dats m 0 c).leavesExact 5 t = owns c.tc (st0_5 t) fullShare (iblk m c 5 t) := by
  unfold Dat.leavesExact; rw [show cfg0.idle 5 (cfg0.grid.coords t) = false from rfl, after_5]
theorem lv_6 : (dats m 0 c).leavesExact 6 t = owns c.tc (st0_6 t) fullShare (iblk m c 6 t) := by
  unfold Dat.leavesExact; rw [show cfg0.idle 6 (cfg0.grid.coords t) = false from rfl, after_6]
theorem lv_7 : (dats m 0 c).leavesExact 7 t = owns c.tc (st0_7 t) fullShare (iblk m c 7 t) := by
  unfold Dat.leavesExact; rw [show cfg0.idle 7 (cfg0.grid.coords t) = false from rfl, after_7]
theorem lv_8 : (dats m 0 c).leavesExact 8 t = owns c.tc (st0_8 t) fullShare (iblk m c 8 t) := by
  unfold Dat.leavesExact; rw [show cfg0.idle 8 (cfg0.grid.coords t) = false from rfl, after_8]
theorem lv_9 : (dats m 0 c).leavesExact 9 t = owns c.tc (st0_9 t) fullShare (iblk m c 9 t) := by
  unfold Dat.leavesExact; rw [show cfg0.idle 9 (cfg0.grid.coords t) = false from rfl, after_9]
theorem lv_10 : (dats m 0 c).leavesExact 10 t = owns c.tc (st0_10 t) fullShare (iblk m c 10 t) := by
  unfold Dat.leavesExact; rw [show cfg0.idle 10 (cfg0.grid.coords t) = false from rfl, after_10]
theorem lv_11 : (dats m 0 c).leavesExact 11 t = owns c.tc (st0_11 t) fullShare (iblk m c 11 t) := by
  unfold Dat.leavesExact; rw [show cfg0.idle 11 (cfg0.grid.coords t) = false from rfl, after_11]
theorem lv_12 : (dats m 0 c).leavesExact 12 t = owns c.tc (st0_12 t) fullShare (iblk m c 12 t) := by
  unfold Dat.leavesExact; rw [show cfg0.idle 12 (cfg0.grid.coords t) = false from rfl, after_12]
theorem lv_13 : (dats m 0 c).leavesExact 13 t = owns c.tc (st0_13 t) fullShare (iblk m c 13 t) := by
  unfold Dat.leavesExact; rw [show cfg0.idle 13 (cfg0.grid.coords t) = false from rfl, after_13]
theorem lv_14 : (dats m 0 c).leavesExact 14 t = owns c.tc (st0_14 t) fullShare (iblk m c 14 t) := by
  unfold Dat.leavesExact; rw [show cfg0.idle 14 (cfg0.grid.coords t) = false from rfl, after_14]
theorem lv_15 : (dats m 0 c).leavesExact 15 t = owns c.tc (st0_15 t) fullShare (iblk m c 15 t) := by
  unfold Dat.leavesExact; rw [show cfg0.idle 15 (cfg0.grid.coords t) = false from rfl, after_15]
theorem lv_16 : (dats m 0 c).leavesExact 16 t = owns c.tc (st0_16 t) fullShare (iblk m c 16 t) := by
  unfold Dat.leavesExact; rw [show cfg0.idle 16 (cfg0.grid.coords t) = false from rfl, after_16]
theorem lv_17 : (dats m 0 c).leavesExact 17 t = owns c.tc (st0_17 t) fullShare (iblk m c 17 t) := by
  unfold Dat.leavesExact; rw [show cfg0.idle 17 (cfg0.grid.coords t) = false from rfl, after_17]
theorem lv_18 : (dats m 0 c).leavesExact 18 t = owns c.tc (st0_18 t) fullShare (iblk m c 18 t) := by
  unfold Dat.leavesExact; rw [show cfg0.idle 18 (cfg0.grid.coords t) = false from rfl, after_18]
theorem lv_19 : (dats m 0 c).leavesExact 19 t = owns c.tc (st0_19 t) fullShare (left m c t (pre m c t)).dp := by
  unfold Dat.leavesExact; rw [show cfg0.idle 19 (cfg0.grid.coords t) = false from rfl, after_19]
theorem before_0 (d) : (dats m 0 c).before 0 t d = iblk m c 0 t := before0_0_of m (dats m 0 c) (A_eq m c 0) (after_0 m c) t d
theorem before_1 (d) : (dats m 0 c).before 1 t d = iblk m c 1 t := before0_1_of m (dats m 0 c) (A_eq m c 1) (after_1 m c) t d
theorem before_2 (d) : (dats m 0 c).before 2 t d = iblk m c 2 t := before0_2_of m (dats m 0 c) (A_eq m c 2) (after_2 m c) t d
theorem before_3 (d) : (dats m 0 c).before 3 t d = iblk m c 3 t := before0_3_of m (dats m 0 c) (A_eq m c 3) (after_3 m c) t d
theorem before_4 (d) : (dats m 0 c).before 4 t d = iblk m c 4 t := before0_4_of m (dats m 0 c) (A_eq m c 4) (after_4 m c) t d
theorem before_5 (d) : (dats m 0 c).before 5 t d = iblk m c 5 t := before0_5_of m (dats m 0 c) (A_eq m c 5) (after_5 m c) t d
theorem before_6 (d) : (dats m 0 c).before 6 t d = iblk m c 6 t := before0_6_of m (dats m 0 c) (A_eq m c 6) (after_6 m c) t d
theorem before_7 (d) : (dats m 0 c).before 7 t d = iblk m c 7 t := before0_7_of m (dats m 0 c) (A_eq m c 7) (after_7 m c) t d
theorem before_8 (d) : (dats m 0 c).before 8 t d = iblk m c 8 t := before0_8_of m (dats m 0 c) (A_eq m c 8) (after_8 m c) t d
theorem before_9 (d) : (dats m 0 c).before 9 t d = iblk m c 9 t := before0_9_of m (dats m 0 c) (A_eq m c 9) (after_9 m c) t d
theorem before_10 (d) : (dats m 0 c).before 10 t d = iblk m c 10 t := before0_10_of m (dats m 0 c) (A_eq m c 10) (after_10 m c) t d
theorem before_11 (d) : (dats m 0 c).before 11 t d = iblk m c 11 t := before0_11_of m (dats m 0 c) (A_eq m c 11) (after_11 m c) t d
theorem before_12 (d) : (dats m 0 c).before 12 t d = iblk m c 12 t := before0_12_of m (dats m 0 c) (A_eq m c 12) (after_12 m c) t d
theorem before_13 (d) : (dats m 0 c).before 13 t d = iblk m c 13 t := before0_13_of m (dats m 0 c) (A_eq m c 13) (after_13 m c) t d
theorem before_14 (d) : (dats m 0 c).before 14 t d = iblk m c 14 t := before0_14_of m (dats m 0 c) (A_eq m c 14) (after_14 m c) t d
theorem before_15 (d) : (dats m 0 c).before 15 t d = iblk m c 15 t := before0_15_of m (dats m 0 c) (A_eq m c 15) (after_15 m c) t d
theorem before_16 (d) : (dats m 0 c).before 16 t d = iblk m c 16 t := before0_16_of m (dats m 0 c) (A_eq m c 16) (after_16 m c) t d
theorem before_17 (d) : (dats m 0 c).before 17 t d = iblk m c 17 t := before0_17_of m (dats m 0 c) (A_eq m c 17) (after_17 m c) t d
theorem before_18 (d) : (dats m 0 c).before 18 t d = iblk m c 18 t := before0_18_of m (dats m 0 c) (A_eq m c 18) (after_18 m c) t d
end

theorem Phi_at (c : Dev nD) (t : Fin cfg0.N) : (dats m 0 c).Φ t.castSucc = between m c t.val (Nat.le_of_lt t.isLt) := by
  dsimp only [dats]; exact Pipeline.Dat.Φ_castSucc (between m c) t

/-- Between points the buffers are there, at something. -/
theorem between_any (c : Dev nD) (n : ℕ) (h : n ≤ cfg0.N) :
    between m c n h ⊢ iprop((some c sc0 sc1 sc2 sc3 sc4 sc5 sc6) ∗ (∃ r, prngReg c r)) := by
  by_cases hz : n = 0
  · rw [between_zero m c n h hz, rest_eq]
  · rw [between_pos m c n h hz]
    unfold held some
    iintro ⟨⟨H0, H1, H2, H3, H4, H5, H6⟩, Hg⟩
    isplitr [Hg]
    · isplitl [H0]; · iexists _; iexact H0
      isplitl [H1]; · iexists _; iexact H1
      isplitl [H2]; · iexists _; iexact H2
      isplitl [H3]; · iexists _; iexact H3
      isplitl [H4]; · iexists _; iexact H4
      isplitl [H5]; · iexists _; iexact H5
      iexists _; iexact H6
    iexact Hg

theorem start (c : Dev nD) : Pipeline.ΦA spec0 c ⊢ (dats m 0 c).Φ 0 := by
  rw [show (dats m 0 c).Φ 0 = between m c 0 (Nat.zero_le _) from rfl, between_zero m c 0 _ rfl]

theorem finish (c : Dev nD) : (dats m 0 c).Φ (Fin.last cfg0.N) ⊢ Pipeline.ΦA spec0 c := by
  rw [show (dats m 0 c).Φ (Fin.last cfg0.N) = between m c (Fin.last cfg0.N).val (Nat.le_of_lt_succ (Fin.last cfg0.N).isLt) from rfl, rest_eq]
  exact between_any m c _ _

/-! ## The body at a point -/

/-- What the library hands the body at point `t`, -/
def bodyPre (c : Dev nD) (t : Fin cfg0.N) : sProp 𝕄 :=
  iprop((dats m 0 c).Φ t.castSucc ∗ (dats m 0 c).owesAt () t.castSucc
    ∗ (∃ d, owns c.tc (st0_0 t) fullShare ((dats m 0 c).before 0 t d))
    ∗ (∃ d, owns c.tc (st0_1 t) fullShare ((dats m 0 c).before 1 t d))
    ∗ (∃ d, owns c.tc (st0_2 t) fullShare ((dats m 0 c).before 2 t d))
    ∗ (∃ d, owns c.tc (st0_3 t) fullShare ((dats m 0 c).before 3 t d))
    ∗ (∃ d, owns c.tc (st0_4 t) fullShare ((dats m 0 c).before 4 t d))
    ∗ (∃ d, owns c.tc (st0_5 t) fullShare ((dats m 0 c).before 5 t d))
    ∗ (∃ d, owns c.tc (st0_6 t) fullShare ((dats m 0 c).before 6 t d))
    ∗ (∃ d, owns c.tc (st0_7 t) fullShare ((dats m 0 c).before 7 t d))
    ∗ (∃ d, owns c.tc (st0_8 t) fullShare ((dats m 0 c).before 8 t d))
    ∗ (∃ d, owns c.tc (st0_9 t) fullShare ((dats m 0 c).before 9 t d))
    ∗ (∃ d, owns c.tc (st0_10 t) fullShare ((dats m 0 c).before 10 t d))
    ∗ (∃ d, owns c.tc (st0_11 t) fullShare ((dats m 0 c).before 11 t d))
    ∗ (∃ d, owns c.tc (st0_12 t) fullShare ((dats m 0 c).before 12 t d))
    ∗ (∃ d, owns c.tc (st0_13 t) fullShare ((dats m 0 c).before 13 t d))
    ∗ (∃ d, owns c.tc (st0_14 t) fullShare ((dats m 0 c).before 14 t d))
    ∗ (∃ d, owns c.tc (st0_15 t) fullShare ((dats m 0 c).before 15 t d))
    ∗ (∃ d, owns c.tc (st0_16 t) fullShare ((dats m 0 c).before 16 t d))
    ∗ (∃ d, owns c.tc (st0_17 t) fullShare ((dats m 0 c).before 17 t d))
    ∗ (∃ d, owns c.tc (st0_18 t) fullShare ((dats m 0 c).before 18 t d))
    ∗ (∃ d, owns c.tc (st0_19 t) fullShare ((dats m 0 c).before 19 t d))
    ∗ (∃ d, owns c.tc (st0_20 t) fullShare ((dats m 0 c).before 20 t d))
    ∗ (∃ d, owns c.tc (st0_21 t) fullShare ((dats m 0 c).before 21 t d)))

/-- and what it takes back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t)

/-- The inputs' windows hold their blocks, -/
theorem pre_ins (c : Dev nD) (t : Fin cfg0.N) : bodyPre m c t ⊢ iprop(between m c t.val (Nat.le_of_lt t.isLt) ∗ (dats m 0 c).owesAt () t.castSucc ∗ insAt m c t
    ∗ (∃ d, owns c.tc (st0_19 t) fullShare ((dats m 0 c).before 19 t d)) ∗ (∃ d, owns c.tc (st0_20 t) fullShare ((dats m 0 c).before 20 t d)) ∗ (∃ d, owns c.tc (st0_21 t) fullShare ((dats m 0 c).before 21 t d))) := by
  unfold bodyPre insAt ins
  simp only [before_0, before_1, before_2, before_3, before_4, before_5, before_6, before_7, before_8, before_9, before_10, before_11, before_12, before_13, before_14, before_15, before_16, before_17, before_18]
  rw [Phi_at]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, Hr⟩
  isplitl [HΦ]; · iexact HΦ
  isplitl [Ho]; · iexact Ho
  isplitr [Hr]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  iexact Hr
/-- and are handed back as they were. -/
theorem post_ins (c : Dev nD) (t : Fin cfg0.N) : iprop(((held c sc0 (left m c t (pre m c t)).s23 sc1 (left m c t (pre m c t)).s24 sc2 (left m c t (pre m c t)).s25 sc3 (left m c t (pre m c t)).s26 sc4 (left m c t (pre m c t)).s27 sc5 (left m c t (pre m c t)).s28 sc6 (left m c t (pre m c t)).s29) ∗ (∃ r, prngReg c r)) ∗ (dats m 0 c).owesAt () t.castSucc ∗ insAt m c t
    ∗ owns c.tc (st0_19 t) fullShare (left m c t (pre m c t)).dp ∗ (dats m 0 c).leavesExact 20 t ∗ (dats m 0 c).leavesExact 21 t) ⊢ bodyPost m c t := by
  unfold bodyPost insAt ins
  rw [show (dats m 0 c).owesAt () t.succ = (dats m 0 c).owesAt () t.castSucc from rfl,
    show (dats m 0 c).Φ t.succ = iprop((held c sc0 (left m c t (pre m c t)).s23 sc1 (left m c t (pre m c t)).s24 sc2 (left m c t (pre m c t)).s25 sc3 (left m c t (pre m c t)).s26 sc4 (left m c t (pre m c t)).s27 sc5 (left m c t (pre m c t)).s28 sc6 (left m c t (pre m c t)).s29) ∗ (∃ r, prngReg c r)) from rfl]
  simp only [lv_0, lv_1, lv_2, lv_3, lv_4, lv_5, lv_6, lv_7, lv_8, lv_9, lv_10, lv_11, lv_12, lv_13, lv_14, lv_15, lv_16, lv_17, lv_18, lv_19]
  iintro ⟨HΦ, Ho, ⟨H0, H1, H2, H3, H4, H5, H6, H7, H8, H9, H10, H11, H12, H13, H14, H15, H16, H17, H18⟩, H19, Hr⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact Hr

/-- The sums' windows before the last point are handed back as they were found. -/
theorem idle20 (c : Dev nD) (t : Fin cfg0.N) (h : t.val ≠ 31) : (dats m 0 c).leavesExact 20 t = iprop(∃ d, owns c.tc (st0_20 t) fullShare ((dats m 0 c).before 20 t d)) :=
  Dat.leavesExact_idle (dats m 0 c) 20 t (by show (!(k0_cond2 (grid0.coords t) == 1#1)) = true; simp only [Bool.not_eq_true', beq_eq_false_iff_ne]; exact fun e => h ((hcond2 t).mp e))
    (Bool.eq_false_iff.mpr fun e => h (by have := (flush0_20 t).mp e; have ht : t.val < 32 := Nat.lt_of_lt_of_eq t.isLt N_0; omega))
theorem idle21 (c : Dev nD) (t : Fin cfg0.N) (h : t.val ≠ 31) : (dats m 0 c).leavesExact 21 t = iprop(∃ d, owns c.tc (st0_21 t) fullShare ((dats m 0 c).before 21 t d)) :=
  Dat.leavesExact_idle (dats m 0 c) 21 t (by show (!(k0_cond2 (grid0.coords t) == 1#1)) = true; simp only [Bool.not_eq_true', beq_eq_false_iff_ne]; exact fun e => h ((hcond2 t).mp e))
    (Bool.eq_false_iff.mpr fun e => h (by have := (flush0_21 t).mp e; have ht : t.val < 32 := Nat.lt_of_lt_of_eq t.isLt N_0; omega))
theorem full20 (c : Dev nD) (t : Fin cfg0.N) (h : t.val = 31) : (dats m 0 c).leavesExact 20 t = owns c.tc (st0_20 t) fullShare (sums m c t (pre m c t)) := by
  unfold Dat.leavesExact
  rw [show cfg0.idle 20 (cfg0.grid.coords t) = false from by show (!(k0_cond2 (grid0.coords t) == 1#1)) = false; rw [(hcond2 t).mpr h]; rfl]
  rfl
theorem full21 (c : Dev nD) (t : Fin cfg0.N) (h : t.val = 31) : (dats m 0 c).leavesExact 21 t = owns c.tc (st0_21 t) fullShare (gates m c t (pre m c t)) := by
  unfold Dat.leavesExact
  rw [show cfg0.idle 21 (cfg0.grid.coords t) = false from by show (!(k0_cond2 (grid0.coords t) == 1#1)) = false; rw [(hcond2 t).mpr h]; rfl]
  rfl

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  refine (pre_ins m c t).trans ?_
  by_cases h0 : t.val = 0
  · have e : left m c t (pre m c t) = (first_at m c t h0).choose := by unfold left; rw [dif_pos h0]
    have hs := (first_at m c t h0).choose_spec
    rw [← e] at hs
    iintro ⟨HΦ, Ho, Hi, ⟨%d, H19⟩, Hr⟩
    ihave HΦ := (between_any m c t.val (Nat.le_of_lt t.isLt)) $$ HΦ
    icases HΦ with ⟨S, Hg⟩
    iapply (hs Set.univ _)
    isplitl [Hi]; · iexact Hi
    isplitl [H19]; · iexists _; iexact H19
    isplitl [S]; · iexact S
    iintro ⟨Hi, H19, S⟩
    iapply (post_ins m c t)
    rw [idle20 m c t (by omega), idle21 m c t (by omega)]
    isplitl [S Hg]; · isplitl [S]; · iexact S
                      iexact Hg
    isplitl [Ho]; · iexact Ho
    isplitl [Hi]; · iexact Hi
    isplitl [H19]; · iexact H19
    iexact Hr
  rw [between_pos m c t.val _ h0]
  by_cases h1 : t.val = 31
  · have e : left m c t (pre m c t) = (last_at m c t (pre m c t) h1).choose := by unfold left; rw [dif_neg h0, dif_pos h1]
    have e1 : sums m c t (pre m c t) = (last_at m c t (pre m c t) h1).choose_spec.choose := by unfold sums; rw [dif_pos h1]
    have e2 : gates m c t (pre m c t) = (last_at m c t (pre m c t) h1).choose_spec.choose_spec.choose := by unfold gates; rw [dif_pos h1]
    have hs := (last_at m c t (pre m c t) h1).choose_spec.choose_spec.choose_spec
    iintro ⟨⟨S, Hg⟩, Ho, Hi, ⟨%d, H19⟩, ⟨%d', H20⟩, ⟨%d'', H21⟩⟩
    iapply (hs Set.univ _)
    isplitl [Hi]; · iexact Hi
    isplitl [H19]; · iexists _; iexact H19
    isplitl [H20]; · iexists _; iexact H20
    isplitl [H21]; · iexists _; iexact H21
    isplitl [S]; · iexact S
    iintro ⟨Hi, H19, H20, H21, S⟩
    iapply (post_ins m c t)
    rw [full20 m c t h1, full21 m c t h1, e, e1, e2]
    isplitl [S Hg]; · isplitl [S]; · iexact S
                      iexact Hg
    isplitl [Ho]; · iexact Ho
    isplitl [Hi]; · iexact Hi
    isplitl [H19]; · iexact H19
    isplitl [H20]; · iexact H20
    iexact H21
  · have e : left m c t (pre m c t) = (mid_at m c t (pre m c t) h0 h1).choose := by unfold left; rw [dif_neg h0, dif_neg h1]
    have hs := (mid_at m c t (pre m c t) h0 h1).choose_spec
    rw [← e] at hs
    iintro ⟨⟨S, Hg⟩, Ho, Hi, ⟨%d, H19⟩, Hr⟩
    iapply (hs Set.univ _)
    isplitl [Hi]; · iexact Hi
    isplitl [H19]; · iexists _; iexact H19
    isplitl [S]; · iexact S
    iintro ⟨Hi, H19, S⟩
    iapply (post_ins m c t)
    rw [idle20 m c t h1, idle21 m c t h1]
    isplitl [S Hg]; · isplitl [S]; · iexact S
                      iexact Hg
    isplitl [Ho]; · iexact Ho
    isplitl [Hi]; · iexact Hi
    isplitl [H19]; · iexact H19
    iexact Hr

theorem defs₀_row (t : Fin cfg0.N) : defs₀ (F := F) .tc cfg0.body (cfg0.bodyArgs t (cfg0.slots t)) = bodyAt0 t := by
  unfold defs₀; rw [Defs.onTc_tc]

theorem body_obligation (c : Dev nD) : Pipeline.BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every execution ends with the launch's arrays as the proof data and the later host lines have them and every semaphore counter at zero. -/
theorem run_main_quiescent : θ_run defs (onTc (τ := τ) (main (F := F))) (s₀ m ρ) (fun r => Pipeline.FramePost cfgs (dats m) 0 (Pipeline.afterTail₀ cfgs (dats m) 0 (V0 m) [hostOps1]) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl) (howed := fun _ _ => rfl) (V₀ := V0 m) (opss := [hostOps1])
    (hsub := sfx_sub) (hfresh := sfx_fresh) (hkeep := sfx_keeps) (hmain := hmain m Variants.none) (hA := A_eq m) (hin := start m) (hout := finish m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (frame_of m ρ (dats m) (A_eq m) (run_main m ρ)) ((θ_run defs _ _).mono (fun _ h => h.2) (run_main_quiescent m ρ))

end Cert.MixerIdeal.Own

end
-- ==== Proof.lean ====
module

public import proofs.«01_k».proof.Defs
public import proofs.«01_k».proof.Proof.Gen.Gates
public import proofs.«01_k».proof.Proof.GatesP.Value
public import proofs.«01_k».proof.Proof.Gen.GatesRIdeal
public import proofs.«01_k».proof.Proof.Gen.Pre_gates_finite
public import proofs.«01_k».proof.Proof.Gen.FfnB
public import proofs.«01_k».proof.Proof.FfnBP.Value
public import proofs.«01_k».proof.Proof.Gen.FfnBRIdeal
public import proofs.«01_k».proof.Proof.Gen.Pre_ffnb_finite
public import proofs.«01_k».proof.Proof.Gen.InB
public import proofs.«01_k».proof.Proof.InBP.Value
public import proofs.«01_k».proof.Proof.Gen.InBRIdeal
public import proofs.«01_k».proof.Proof.Gen.Pre_inb_finite
public import proofs.«01_k».proof.Proof.Gen.Loss
public import proofs.«01_k».proof.Proof.LossP.Value
public import proofs.«01_k».proof.Proof.Gen.LossRIdeal
public import proofs.«01_k».proof.Proof.Gen.Pre_loss_finite
public import proofs.«01_k».proof.Proof.Gen.MergeF
public import proofs.«01_k».proof.Proof.MergeFP.Value
public import proofs.«01_k».proof.Proof.Gen.MergeFRIdeal
public import proofs.«01_k».proof.Proof.Gen.MergeB
public import proofs.«01_k».proof.Proof.MergeBP.Value
public import proofs.«01_k».proof.Proof.Gen.MergeBRIdeal
public import proofs.«01_k».proof.Proof.Gen.FfnF
public import proofs.«01_k».proof.Proof.FfnFP.Value
public import proofs.«01_k».proof.Proof.Gen.FfnFRIdeal
public import proofs.«01_k».proof.Proof.Gen.MixF
public import proofs.«01_k».proof.Proof.MixFP.Value
public import proofs.«01_k».proof.Proof.Gen.MixFRIdeal
public import proofs.«01_k».proof.Proof.Gen.InF
public import proofs.«01_k».proof.Proof.InFP.Value
public import proofs.«01_k».proof.Proof.Gen.InFRIdeal
public import proofs.«01_k».proof.Proof.Gen.WIn
public import proofs.«01_k».proof.Proof.WInP.Value
public import proofs.«01_k».proof.Proof.Gen.WInRIdeal
public import proofs.«01_k».proof.Proof.Gen.WGU
public import proofs.«01_k».proof.Proof.WGUP.Value
public import proofs.«01_k».proof.Proof.Gen.WGURIdeal
public import proofs.«01_k».proof.Proof.Gen.Opt
public import proofs.«01_k».proof.Proof.OptP.Value
public import proofs.«01_k».proof.Proof.Gen.OptRIdeal
public import proofs.«01_k».proof.Proof.Gen.Mixer
public import proofs.«01_k».proof.Proof.MixerP.Run
public import Idealize.ShloMosaic.Lib.Quiescent

@[expose] public section

noncomputable section

namespace Cert.Proof

open Idealize.ShloMosaic Idealize.SL.Sem

/-! A call's printed program and its idealization are one text, so one run gives both frames; a reference's frame is part of its run. -/

theorem frame_gates : Cert.quiescent_Gates (hGates := Cert.Gates.Gen.facts) := by
  intro m ρ _
  have e : θ_run (Cert.Gates.defs (F := Bits)) (onTc (τ := Cert.Gates.τ) (Cert.Gates.main (F := Bits))) ⟨m, fun _ => 0, ρ⟩
      = θ_run (Cert.GatesIdeal.defs (F := Bits)) (onTc (τ := Cert.GatesIdeal.τ) (Cert.GatesIdeal.main (F := Bits))) ⟨m, fun _ => 0, ρ⟩ := by sl_kernel_rfl
  rw [e]
  exact Cert.GatesIdeal.Own.frame (F := Bits) m ρ
theorem frame_gatesI : Cert.quiescent_GatesIdeal (hGatesIdeal := Cert.GatesIdeal.Gen.facts) := fun m ρ _ => Cert.GatesIdeal.Own.frame m ρ
theorem frame_gatesR : Cert.quiescent_GatesRIdeal (hGatesRIdeal := Cert.GatesRIdeal.Gen.facts) := fun m ρ _ =>
  (θ_run Cert.GatesRIdeal.defs _ _).mono (fun r h => ⟨fun c => (h c).2.2.2.2, sem_eq_zero_of_no_sems (by decide) r.2⟩)
    (Cert.GatesRIdeal.Value.run (F := Ideal) m ρ)

theorem frame_ffnb : Cert.quiescent_FfnB (hFfnB := Cert.FfnB.Gen.facts) := by
  intro m ρ _
  have e : θ_run (Cert.FfnB.defs (F := Bits)) (onTc (τ := Cert.FfnB.τ) (Cert.FfnB.main (F := Bits))) ⟨m, fun _ => 0, ρ⟩
      = θ_run (Cert.FfnBIdeal.defs (F := Bits)) (onTc (τ := Cert.FfnBIdeal.τ) (Cert.FfnBIdeal.main (F := Bits))) ⟨m, fun _ => 0, ρ⟩ := by sl_kernel_rfl
  rw [e]
  exact Cert.FfnBIdeal.Gen.frame (F := Bits) m ρ
theorem frame_ffnbI : Cert.quiescent_FfnBIdeal (hFfnBIdeal := Cert.FfnBIdeal.Gen.facts) := fun m ρ _ => Cert.FfnBIdeal.Gen.frame m ρ
theorem frame_ffnbR : Cert.quiescent_FfnBRIdeal (hFfnBRIdeal := Cert.FfnBRIdeal.Gen.facts) := fun m ρ _ =>
  (θ_run Cert.FfnBRIdeal.defs _ _).mono (fun r h => ⟨fun c => (h c).2.2, sem_eq_zero_of_no_sems (by decide) r.2⟩)
    (Cert.FfnBRIdeal.Value.run (F := Ideal) m ρ)

theorem frame_inb : Cert.quiescent_InB (hInB := Cert.InB.Gen.facts) := by
  intro m ρ _
  have e : θ_run (Cert.InB.defs (F := Bits)) (onTc (τ := Cert.InB.τ) (Cert.InB.main (F := Bits))) ⟨m, fun _ => 0, ρ⟩
      = θ_run (Cert.InBIdeal.defs (F := Bits)) (onTc (τ := Cert.InBIdeal.τ) (Cert.InBIdeal.main (F := Bits))) ⟨m, fun _ => 0, ρ⟩ := by sl_kernel_rfl
  rw [e]
  exact Cert.InBIdeal.Gen.frame (F := Bits) m ρ
theorem frame_inbI : Cert.quiescent_InBIdeal (hInBIdeal := Cert.InBIdeal.Gen.facts) := fun m ρ _ => Cert.InBIdeal.Gen.frame m ρ
theorem frame_inbR : Cert.quiescent_InBRIdeal (hInBRIdeal := Cert.InBRIdeal.Gen.facts) := fun m ρ _ =>
  (θ_run Cert.InBRIdeal.defs _ _).mono (fun r h => ⟨fun c => (h c).2.2, sem_eq_zero_of_no_sems (by decide) r.2⟩)
    (Cert.InBRIdeal.Value.run (F := Ideal) m ρ)

theorem frame_loss : Cert.quiescent_Loss (hLoss := Cert.Loss.Gen.facts) := by
  intro m ρ _
  have e : θ_run (Cert.Loss.defs (F := Bits)) (onTc (τ := Cert.Loss.τ) (Cert.Loss.main (F := Bits))) ⟨m, fun _ => 0, ρ⟩
      = θ_run (Cert.LossIdeal.defs (F := Bits)) (onTc (τ := Cert.LossIdeal.τ) (Cert.LossIdeal.main (F := Bits))) ⟨m, fun _ => 0, ρ⟩ := by sl_kernel_rfl
  rw [e]
  exact Cert.LossIdeal.Gen.frame (F := Bits) m ρ
theorem frame_lossI : Cert.quiescent_LossIdeal (hLossIdeal := Cert.LossIdeal.Gen.facts) := fun m ρ _ => Cert.LossIdeal.Gen.frame m ρ
theorem frame_lossR : Cert.quiescent_LossRIdeal (hLossRIdeal := Cert.LossRIdeal.Gen.facts) := fun m ρ _ =>
  (θ_run Cert.LossRIdeal.defs _ _).mono (fun r h => ⟨fun c => (h c).2.2, sem_eq_zero_of_no_sems (by decide) r.2⟩)
    (Cert.LossRIdeal.Value.run (F := Ideal) m ρ)

theorem frame_mergef : Cert.quiescent_MergeF (hMergeF := Cert.MergeF.Gen.facts) := by
  intro m ρ _
  have e : θ_run (Cert.MergeF.defs (F := Bits)) (onTc (τ := Cert.MergeF.τ) (Cert.MergeF.main (F := Bits))) ⟨m, fun _ => 0, ρ⟩
      = θ_run (Cert.MergeFIdeal.defs (F := Bits)) (onTc (τ := Cert.MergeFIdeal.τ) (Cert.MergeFIdeal.main (F := Bits))) ⟨m, fun _ => 0, ρ⟩ := by sl_kernel_rfl
  rw [e]
  exact Cert.MergeFIdeal.Gen.frame (F := Bits) m ρ
theorem frame_mergefI : Cert.quiescent_MergeFIdeal (hMergeFIdeal := Cert.MergeFIdeal.Gen.facts) := fun m ρ _ => Cert.MergeFIdeal.Gen.frame m ρ
theorem frame_mergefR : Cert.quiescent_MergeFRIdeal (hMergeFRIdeal := Cert.MergeFRIdeal.Gen.facts) := fun m ρ _ =>
  (θ_run Cert.MergeFRIdeal.defs _ _).mono (fun r h => ⟨fun c => (h c).2.2.2.2, sem_eq_zero_of_no_sems (by decide) r.2⟩)
    (Cert.MergeFRIdeal.Value.run (F := Ideal) m ρ)

theorem frame_mergeb : Cert.quiescent_MergeB (hMergeB := Cert.MergeB.Gen.facts) := by
  intro m ρ _
  have e : θ_run (Cert.MergeB.defs (F := Bits)) (onTc (τ := Cert.MergeB.τ) (Cert.MergeB.main (F := Bits))) ⟨m, fun _ => 0, ρ⟩
      = θ_run (Cert.MergeBIdeal.defs (F := Bits)) (onTc (τ := Cert.MergeBIdeal.τ) (Cert.MergeBIdeal.main (F := Bits))) ⟨m, fun _ => 0, ρ⟩ := by sl_kernel_rfl
  rw [e]
  exact Cert.MergeBIdeal.Gen.frame (F := Bits) m ρ
theorem frame_mergebI : Cert.quiescent_MergeBIdeal (hMergeBIdeal := Cert.MergeBIdeal.Gen.facts) := fun m ρ _ => Cert.MergeBIdeal.Gen.frame m ρ
theorem frame_mergebR : Cert.quiescent_MergeBRIdeal (hMergeBRIdeal := Cert.MergeBRIdeal.Gen.facts) := fun m ρ _ =>
  (θ_run Cert.MergeBRIdeal.defs _ _).mono (fun r h => ⟨fun c => (h c).2.2.2.2.2.2.2, sem_eq_zero_of_no_sems (by decide) r.2⟩)
    (Cert.MergeBRIdeal.Value.run (F := Ideal) m ρ)

theorem frame_ffnf : Cert.quiescent_FfnF (hFfnF := Cert.FfnF.Gen.facts) := by
  intro m ρ _
  have e : θ_run (Cert.FfnF.defs (F := Bits)) (onTc (τ := Cert.FfnF.τ) (Cert.FfnF.main (F := Bits))) ⟨m, fun _ => 0, ρ⟩
      = θ_run (Cert.FfnFIdeal.defs (F := Bits)) (onTc (τ := Cert.FfnFIdeal.τ) (Cert.FfnFIdeal.main (F := Bits))) ⟨m, fun _ => 0, ρ⟩ := by sl_kernel_rfl
  rw [e]
  exact Cert.FfnFIdeal.Own.frame (F := Bits) m ρ
theorem frame_ffnfI : Cert.quiescent_FfnFIdeal (hFfnFIdeal := Cert.FfnFIdeal.Gen.facts) := fun m ρ _ => Cert.FfnFIdeal.Own.frame m ρ
theorem frame_ffnfR : Cert.quiescent_FfnFRIdeal (hFfnFRIdeal := Cert.FfnFRIdeal.Gen.facts) := fun m ρ _ =>
  (θ_run Cert.FfnFRIdeal.defs _ _).mono (fun r h => ⟨fun c => (h c).2.2.2.2, sem_eq_zero_of_no_sems (by decide) r.2⟩)
    (Cert.FfnFRIdeal.Value.run (F := Ideal) m ρ)

theorem frame_mixf : Cert.quiescent_MixF (hMixF := Cert.MixF.Gen.facts) := by
  intro m ρ _
  have e : θ_run (Cert.MixF.defs (F := Bits)) (onTc (τ := Cert.MixF.τ) (Cert.MixF.main (F := Bits))) ⟨m, fun _ => 0, ρ⟩
      = θ_run (Cert.MixFIdeal.defs (F := Bits)) (onTc (τ := Cert.MixFIdeal.τ) (Cert.MixFIdeal.main (F := Bits))) ⟨m, fun _ => 0, ρ⟩ := by sl_kernel_rfl
  rw [e]
  exact Cert.MixFIdeal.Own.frame (F := Bits) m ρ
theorem frame_mixfI : Cert.quiescent_MixFIdeal (hMixFIdeal := Cert.MixFIdeal.Gen.facts) := fun m ρ _ => Cert.MixFIdeal.Own.frame m ρ
theorem frame_mixfR : Cert.quiescent_MixFRIdeal (hMixFRIdeal := Cert.MixFRIdeal.Gen.facts) := fun m ρ _ =>
  (θ_run Cert.MixFRIdeal.defs _ _).mono (fun r h => ⟨fun c => (h c).2.2.2, sem_eq_zero_of_no_sems (by decide) r.2⟩)
    (Cert.MixFRIdeal.Value.run (F := Ideal) m ρ)

theorem frame_inf : Cert.quiescent_InF (hInF := Cert.InF.Gen.facts) := by
  intro m ρ _
  have e : θ_run (Cert.InF.defs (F := Bits)) (onTc (τ := Cert.InF.τ) (Cert.InF.main (F := Bits))) ⟨m, fun _ => 0, ρ⟩
      = θ_run (Cert.InFIdeal.defs (F := Bits)) (onTc (τ := Cert.InFIdeal.τ) (Cert.InFIdeal.main (F := Bits))) ⟨m, fun _ => 0, ρ⟩ := by sl_kernel_rfl
  rw [e]
  exact Cert.InFIdeal.Gen.frame (F := Bits) m ρ
theorem frame_infI : Cert.quiescent_InFIdeal (hInFIdeal := Cert.InFIdeal.Gen.facts) := fun m ρ _ => Cert.InFIdeal.Gen.frame m ρ
theorem frame_infR : Cert.quiescent_InFRIdeal (hInFRIdeal := Cert.InFRIdeal.Gen.facts) := fun m ρ _ =>
  (θ_run Cert.InFRIdeal.defs _ _).mono (fun r h => ⟨fun c => (h c).2.2, sem_eq_zero_of_no_sems (by decide) r.2⟩)
    (Cert.InFRIdeal.Value.run (F := Ideal) m ρ)

theorem frame_win : Cert.quiescent_WIn (hWIn := Cert.WIn.Gen.facts) := by
  intro m ρ _
  have e : θ_run (Cert.WIn.defs (F := Bits)) (onTc (τ := Cert.WIn.τ) (Cert.WIn.main (F := Bits))) ⟨m, fun _ => 0, ρ⟩
      = θ_run (Cert.WInIdeal.defs (F := Bits)) (onTc (τ := Cert.WInIdeal.τ) (Cert.WInIdeal.main (F := Bits))) ⟨m, fun _ => 0, ρ⟩ := by sl_kernel_rfl
  rw [e]
  exact Cert.WInIdeal.Gen.frame (F := Bits) m ρ
theorem frame_winI : Cert.quiescent_WInIdeal (hWInIdeal := Cert.WInIdeal.Gen.facts) := fun m ρ _ => Cert.WInIdeal.Gen.frame m ρ
theorem frame_winR : Cert.quiescent_WInRIdeal (hWInRIdeal := Cert.WInRIdeal.Gen.facts) := fun m ρ _ =>
  (θ_run Cert.WInRIdeal.defs _ _).mono (fun r h => ⟨fun c => (h c).2.2, sem_eq_zero_of_no_sems (by decide) r.2⟩)
    (Cert.WInRIdeal.Value.run (F := Ideal) m ρ)

theorem frame_wgu : Cert.quiescent_WGU (hWGU := Cert.WGU.Gen.facts) := by
  intro m ρ _
  have e : θ_run (Cert.WGU.defs (F := Bits)) (onTc (τ := Cert.WGU.τ) (Cert.WGU.main (F := Bits))) ⟨m, fun _ => 0, ρ⟩
      = θ_run (Cert.WGUIdeal.defs (F := Bits)) (onTc (τ := Cert.WGUIdeal.τ) (Cert.WGUIdeal.main (F := Bits))) ⟨m, fun _ => 0, ρ⟩ := by sl_kernel_rfl
  rw [e]
  exact Cert.WGUIdeal.Gen.frame (F := Bits) m ρ
theorem frame_wguI : Cert.quiescent_WGUIdeal (hWGUIdeal := Cert.WGUIdeal.Gen.facts) := fun m ρ _ => Cert.WGUIdeal.Gen.frame m ρ
theorem frame_wguR : Cert.quiescent_WGURIdeal (hWGURIdeal := Cert.WGURIdeal.Gen.facts) := fun m ρ _ =>
  (θ_run Cert.WGURIdeal.defs _ _).mono (fun r h => ⟨fun c => (h c).2.2.2.2, sem_eq_zero_of_no_sems (by decide) r.2⟩)
    (Cert.WGURIdeal.Value.run (F := Ideal) m ρ)

theorem frame_opt : Cert.quiescent_Opt (hOpt := Cert.Opt.Gen.facts) := by
  intro m ρ _
  have e : θ_run (Cert.Opt.defs (F := Bits)) (onTc (τ := Cert.Opt.τ) (Cert.Opt.main (F := Bits))) ⟨m, fun _ => 0, ρ⟩
      = θ_run (Cert.OptIdeal.defs (F := Bits)) (onTc (τ := Cert.OptIdeal.τ) (Cert.OptIdeal.main (F := Bits))) ⟨m, fun _ => 0, ρ⟩ := by sl_kernel_rfl
  rw [e]
  exact Cert.OptIdeal.Gen.frame (F := Bits) m ρ
theorem frame_optI : Cert.quiescent_OptIdeal (hOptIdeal := Cert.OptIdeal.Gen.facts) := fun m ρ _ => Cert.OptIdeal.Gen.frame m ρ
theorem frame_optR : Cert.quiescent_OptRIdeal (hOptRIdeal := Cert.OptRIdeal.Gen.facts) := fun m ρ _ =>
  (θ_run Cert.OptRIdeal.defs _ _).mono (fun r h => ⟨fun c => (h c).2.2.2.2, sem_eq_zero_of_no_sems (by decide) r.2⟩)
    (Cert.OptRIdeal.Value.run (F := Ideal) m ρ)

theorem frame_mixer : Cert.quiescent_Mixer (hMixer := Cert.Mixer.Gen.facts) := by
  intro m ρ _
  have e : θ_run (Cert.Mixer.defs (F := Bits)) (onTc (τ := Cert.Mixer.τ) (Cert.Mixer.main (F := Bits))) ⟨m, fun _ => 0, ρ⟩
      = θ_run (Cert.MixerIdeal.defs (F := Bits)) (onTc (τ := Cert.MixerIdeal.τ) (Cert.MixerIdeal.main (F := Bits))) ⟨m, fun _ => 0, ρ⟩ := by sl_kernel_rfl
  rw [e]
  exact Cert.MixerIdeal.Own.frame (F := Bits) m ρ
theorem frame_mixerI : Cert.quiescent_MixerIdeal (hMixerIdeal := Cert.MixerIdeal.Gen.facts) := fun m ρ _ => Cert.MixerIdeal.Own.frame m ρ

theorem claim : Cert.Claim :=
  ⟨Cert.Gates.Gen.facts, Cert.GatesIdeal.Gen.facts, Cert.GatesRIdeal.Gen.facts, Cert.FfnB.Gen.facts, Cert.FfnBIdeal.Gen.facts, Cert.FfnBRIdeal.Gen.facts, Cert.InB.Gen.facts, Cert.InBIdeal.Gen.facts, Cert.InBRIdeal.Gen.facts, Cert.Loss.Gen.facts, Cert.LossIdeal.Gen.facts, Cert.LossRIdeal.Gen.facts, Cert.MergeF.Gen.facts, Cert.MergeFIdeal.Gen.facts, Cert.MergeFRIdeal.Gen.facts, Cert.MergeB.Gen.facts, Cert.MergeBIdeal.Gen.facts, Cert.MergeBRIdeal.Gen.facts, Cert.FfnF.Gen.facts, Cert.FfnFIdeal.Gen.facts, Cert.FfnFRIdeal.Gen.facts, Cert.MixF.Gen.facts, Cert.MixFIdeal.Gen.facts, Cert.MixFRIdeal.Gen.facts, Cert.InF.Gen.facts, Cert.InFIdeal.Gen.facts, Cert.InFRIdeal.Gen.facts, Cert.WIn.Gen.facts, Cert.WInIdeal.Gen.facts, Cert.WInRIdeal.Gen.facts, Cert.WGU.Gen.facts, Cert.WGUIdeal.Gen.facts, Cert.WGURIdeal.Gen.facts, Cert.Opt.Gen.facts, Cert.OptIdeal.Gen.facts, Cert.OptRIdeal.Gen.facts, Cert.Mixer.Gen.facts, Cert.MixerIdeal.Gen.facts, Cert.Pre_gates_finite.Gen.facts, Cert.Pre_ffnb_finite.Gen.facts, Cert.Pre_inb_finite.Gen.facts, Cert.Pre_loss_finite.Gen.facts,
    frame_gates, frame_gatesI, fun m ρ _ => frame_gatesI m ρ trivial, frame_gatesR, fun m ρ _ => frame_gatesR m ρ trivial,
    frame_ffnb, frame_ffnbI, fun m ρ _ => frame_ffnbI m ρ trivial, frame_ffnbR, fun m ρ _ => frame_ffnbR m ρ trivial,
    frame_inb, frame_inbI, fun m ρ _ => frame_inbI m ρ trivial, frame_inbR, fun m ρ _ => frame_inbR m ρ trivial,
    frame_loss, frame_lossI, fun m ρ _ => frame_lossI m ρ trivial, frame_lossR, fun m ρ _ => frame_lossR m ρ trivial,
    frame_mergef, frame_mergefI, frame_mergefR,
    frame_mergeb, frame_mergebI, frame_mergebR,
    frame_ffnf, frame_ffnfI, frame_ffnfR,
    frame_mixf, frame_mixfI, frame_mixfR,
    frame_inf, frame_infI, frame_infR,
    frame_win, frame_winI, frame_winR,
    frame_wgu, frame_wguI, frame_wguR,
    frame_opt, frame_optI, frame_optR,
    frame_mixer, frame_mixerI,
    trivial, algebraic_gates,
    trivial, Cert.FfnBIdeal.Own.algebraic_ffnb,
    trivial, Cert.InBIdeal.Own.algebraic_inb,
    trivial, Cert.LossIdeal.Own.algebraic_loss,
    trivial, Cert.MergeFIdeal.Own.algebraic_mergef,
    trivial, Cert.MergeBIdeal.Own.algebraic_mergeb,
    trivial, Cert.FfnFIdeal.Own.algebraic_ffnf,
    trivial, Cert.MixFRIdeal.Own.algebraic_mixf,
    trivial, Cert.InFIdeal.Own.algebraic,
    trivial, Cert.WInIdeal.Own.algebraic,
    trivial, Cert.WGUIdeal.Own.algebraic,
    trivial, Cert.OptIdeal.Own.algebraic,
    trivial⟩

end Cert.Proof

end
